-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite3 [hPre_finite3 : Cert.Pre_finite3.Facts] (m : (ℓ : Loc Cert.KernelIdeal.nD Cert.KernelIdeal.τ Cert.KernelIdeal.sig) → Buf (Elt Ideal) ℓ) : Prop :=
  ∀ c : Dev Cert.KernelIdeal.nD,
    (Cert.Pre_finite3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite3 [hPre_finite3 : Cert.Pre_finite3.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite3.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite10 [hPre_finite10 : Cert.Pre_finite10.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite10.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite10 [hPre_finite10 : Cert.Pre_finite10.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite10.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite5 [hPre_finite5 : Cert.Pre_finite5.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite5.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite5 [hPre_finite5 : Cert.Pre_finite5.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite5.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite5 [hPre_finite5 : Cert.Pre_finite5.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite5.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite5 [hPre_finite5 : Cert.Pre_finite5.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite5.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite16 [hPre_finite16 : Cert.Pre_finite16.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite16.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite16 [hPre_finite16 : Cert.Pre_finite16.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite16.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite3 [hKernelIdeal : Cert.KernelIdeal.Facts] [hPre_finite3 : Cert.Pre_finite3.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite3 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite3 [hReferenceIdeal : Cert.ReferenceIdeal.Facts] [hPre_finite3 : Cert.Pre_finite3.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite3 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite10 [hKernel2Ideal : Cert.Kernel2Ideal.Facts] [hPre_finite10 : Cert.Pre_finite10.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite10 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite10 [hReference2Ideal : Cert.Reference2Ideal.Facts] [hPre_finite10 : Cert.Pre_finite10.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite10 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite5 [hKernel3Ideal : Cert.Kernel3Ideal.Facts] [hPre_finite5 : Cert.Pre_finite5.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite5 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite5 [hReference3Ideal : Cert.Reference3Ideal.Facts] [hPre_finite5 : Cert.Pre_finite5.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite5 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite5 [hKernel4Ideal : Cert.Kernel4Ideal.Facts] [hPre_finite5 : Cert.Pre_finite5.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite5 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite5 [hReference4Ideal : Cert.Reference4Ideal.Facts] [hPre_finite5 : Cert.Pre_finite5.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite5 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Kernel5Ideal_pre_finite16 [hKernel5Ideal : Cert.Kernel5Ideal.Facts] [hPre_finite16 : Cert.Pre_finite16.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite16 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def quiescent_Reference5Ideal_pre_finite16 [hReference5Ideal : Cert.Reference5Ideal.Facts] [hPre_finite16 : Cert.Pre_finite16.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite16 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite3 [hKernelIdeal : Cert.KernelIdeal.Facts] [hReferenceIdeal : Cert.ReferenceIdeal.Facts] [hPre_finite3 : Cert.Pre_finite3.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite3 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite10 [hKernel2Ideal : Cert.Kernel2Ideal.Facts] [hReference2Ideal : Cert.Reference2Ideal.Facts] [hPre_finite10 : Cert.Pre_finite10.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite10 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)) (v3 : (c : Dev Cert.Kernel2Ideal.nD) → Buf (Elt Ideal) ((c.tc : Thread Cert.Kernel2Ideal.nD Cert.Kernel2Ideal.τ).loc Cert.Kernel2Ideal.main_v45_3)) (v4 : (c : Dev Cert.Kernel2Ideal.nD) → Buf (Elt Ideal) ((c.tc : Thread Cert.Kernel2Ideal.nD Cert.Kernel2Ideal.τ).loc Cert.Kernel2Ideal.main_v45_4)) (v5 : (c : Dev Cert.Kernel2Ideal.nD) → Buf (Elt Ideal) ((c.tc : Thread Cert.Kernel2Ideal.nD Cert.Kernel2Ideal.τ).loc Cert.Kernel2Ideal.main_v45_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_v45_3) = v3 c
          ∧ r.2.mem ((c.tc : Thread Cert.Kernel2Ideal.nD Cert.Kernel2Ideal.τ).loc Cert.Kernel2Ideal.main_v45_4) = v4 c
          ∧ r.2.mem ((c.tc : Thread Cert.Kernel2Ideal.nD Cert.Kernel2Ideal.τ).loc Cert.Kernel2Ideal.main_v45_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v196) = v0 c
          ∧ r.2.mem ((c.tc : Thread Cert.Reference2Ideal.nD Cert.Reference2Ideal.τ).loc Cert.Reference2Ideal.main_v197) = v1 c
          ∧ r.2.mem ((c.tc : Thread Cert.Reference2Ideal.nD Cert.Reference2Ideal.τ).loc Cert.Reference2Ideal.main_v198) = v2 c
          ∧ r.2.mem ((c.tc : Thread Cert.Reference2Ideal.nD Cert.Reference2Ideal.τ).loc Cert.Reference2Ideal.main_v200) = v3 c
          ∧ r.2.mem ((c.tc : Thread Cert.Reference2Ideal.nD Cert.Reference2Ideal.τ).loc Cert.Reference2Ideal.main_v201) = v4 c
          ∧ r.2.mem ((c.tc : Thread Cert.Reference2Ideal.nD Cert.Reference2Ideal.τ).loc Cert.Reference2Ideal.main_v202) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite5 [hKernel3Ideal : Cert.Kernel3Ideal.Facts] [hReference3Ideal : Cert.Reference3Ideal.Facts] [hPre_finite5 : Cert.Pre_finite5.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite5 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v101_0)) (v1 : (c : Dev Cert.Kernel3Ideal.nD) → Buf (Elt Ideal) ((c.tc : Thread Cert.Kernel3Ideal.nD Cert.Kernel3Ideal.τ).loc Cert.Kernel3Ideal.main_v101_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v101_0) = v0 c
          ∧ r.2.mem ((c.tc : Thread Cert.Kernel3Ideal.nD Cert.Kernel3Ideal.τ).loc Cert.Kernel3Ideal.main_v101_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v193) = v0 c
          ∧ r.2.mem ((c.tc : Thread Cert.Reference3Ideal.nD Cert.Reference3Ideal.τ).loc Cert.Reference3Ideal.main_v203) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite5 [hKernel4Ideal : Cert.Kernel4Ideal.Facts] [hReference4Ideal : Cert.Reference4Ideal.Facts] [hPre_finite5 : Cert.Pre_finite5.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite5 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v102_0)) (v1 : (c : Dev Cert.Kernel4Ideal.nD) → Buf (Elt Ideal) ((c.tc : Thread Cert.Kernel4Ideal.nD Cert.Kernel4Ideal.τ).loc Cert.Kernel4Ideal.main_v102_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v102_0) = v0 c
          ∧ r.2.mem ((c.tc : Thread Cert.Kernel4Ideal.nD Cert.Kernel4Ideal.τ).loc Cert.Kernel4Ideal.main_v102_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v193) = v0 c
          ∧ r.2.mem ((c.tc : Thread Cert.Reference4Ideal.nD Cert.Reference4Ideal.τ).loc Cert.Reference4Ideal.main_v203) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite16 [hKernel5Ideal : Cert.Kernel5Ideal.Facts] [hReference5Ideal : Cert.Reference5Ideal.Facts] [hPre_finite16 : Cert.Pre_finite16.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite16 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)) (v5 : (c : Dev Cert.Kernel6Ideal.nD) → Buf (Elt Ideal) ((c.tc : Thread Cert.Kernel6Ideal.nD Cert.Kernel6Ideal.τ).loc Cert.Kernel6Ideal.main_v2_5)) (v6 : (c : Dev Cert.Kernel6Ideal.nD) → Buf (Elt Ideal) ((c.tc : Thread Cert.Kernel6Ideal.nD Cert.Kernel6Ideal.τ).loc Cert.Kernel6Ideal.main_v2_6)) (v7 : (c : Dev Cert.Kernel6Ideal.nD) → Buf (Elt Ideal) ((c.tc : Thread Cert.Kernel6Ideal.nD Cert.Kernel6Ideal.τ).loc Cert.Kernel6Ideal.main_v2_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_v2_5) = v5 c
          ∧ r.2.mem ((c.tc : Thread Cert.Kernel6Ideal.nD Cert.Kernel6Ideal.τ).loc Cert.Kernel6Ideal.main_v2_6) = v6 c
          ∧ r.2.mem ((c.tc : Thread Cert.Kernel6Ideal.nD Cert.Kernel6Ideal.τ).loc Cert.Kernel6Ideal.main_v2_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_v32) = v4 c
          ∧ r.2.mem ((c.tc : Thread Cert.Reference6Ideal.nD Cert.Reference6Ideal.τ).loc Cert.Reference6Ideal.main_v33) = v5 c
          ∧ r.2.mem ((c.tc : Thread Cert.Reference6Ideal.nD Cert.Reference6Ideal.τ).loc Cert.Reference6Ideal.main_v34) = v6 c
          ∧ r.2.mem ((c.tc : Thread Cert.Reference6Ideal.nD Cert.Reference6Ideal.τ).loc Cert.Reference6Ideal.main_v35) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite3 : Cert.Pre_finite3.Facts) (hPre_finite10 : Cert.Pre_finite10.Facts) (hPre_finite5 : Cert.Pre_finite5.Facts) (hPre_finite16 : Cert.Pre_finite16.Facts),
    quiescent_Kernel (hKernel := hKernel)
    ∧ quiescent_KernelIdeal (hKernelIdeal := hKernelIdeal)
    ∧ quiescent_KernelIdeal_pre_finite3 (hKernelIdeal := hKernelIdeal) (hPre_finite3 := hPre_finite3)
    ∧ quiescent_ReferenceIdeal (hReferenceIdeal := hReferenceIdeal)
    ∧ quiescent_ReferenceIdeal_pre_finite3 (hReferenceIdeal := hReferenceIdeal) (hPre_finite3 := hPre_finite3)
    ∧ quiescent_Kernel2 (hKernel2 := hKernel2)
    ∧ quiescent_Kernel2Ideal (hKernel2Ideal := hKernel2Ideal)
    ∧ quiescent_Kernel2Ideal_pre_finite10 (hKernel2Ideal := hKernel2Ideal) (hPre_finite10 := hPre_finite10)
    ∧ quiescent_Reference2Ideal (hReference2Ideal := hReference2Ideal)
    ∧ quiescent_Reference2Ideal_pre_finite10 (hReference2Ideal := hReference2Ideal) (hPre_finite10 := hPre_finite10)
    ∧ quiescent_Kernel3 (hKernel3 := hKernel3)
    ∧ quiescent_Kernel3Ideal (hKernel3Ideal := hKernel3Ideal)
    ∧ quiescent_Kernel3Ideal_pre_finite5 (hKernel3Ideal := hKernel3Ideal) (hPre_finite5 := hPre_finite5)
    ∧ quiescent_Reference3Ideal (hReference3Ideal := hReference3Ideal)
    ∧ quiescent_Reference3Ideal_pre_finite5 (hReference3Ideal := hReference3Ideal) (hPre_finite5 := hPre_finite5)
    ∧ quiescent_Kernel4 (hKernel4 := hKernel4)
    ∧ quiescent_Kernel4Ideal (hKernel4Ideal := hKernel4Ideal)
    ∧ quiescent_Kernel4Ideal_pre_finite5 (hKernel4Ideal := hKernel4Ideal) (hPre_finite5 := hPre_finite5)
    ∧ quiescent_Reference4Ideal (hReference4Ideal := hReference4Ideal)
    ∧ quiescent_Reference4Ideal_pre_finite5 (hReference4Ideal := hReference4Ideal) (hPre_finite5 := hPre_finite5)
    ∧ quiescent_Kernel5 (hKernel5 := hKernel5)
    ∧ quiescent_Kernel5Ideal (hKernel5Ideal := hKernel5Ideal)
    ∧ quiescent_Kernel5Ideal_pre_finite16 (hKernel5Ideal := hKernel5Ideal) (hPre_finite16 := hPre_finite16)
    ∧ quiescent_Reference5Ideal (hReference5Ideal := hReference5Ideal)
    ∧ quiescent_Reference5Ideal_pre_finite16 (hReference5Ideal := hReference5Ideal) (hPre_finite16 := hPre_finite16)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite3 (hKernelIdeal := hKernelIdeal) (hReferenceIdeal := hReferenceIdeal) (hPre_finite3 := hPre_finite3)
    ∧ preserves_Kernel2_Kernel2Ideal
    ∧ algebraic_Kernel2Ideal_Reference2Ideal_pre_finite10 (hKernel2Ideal := hKernel2Ideal) (hReference2Ideal := hReference2Ideal) (hPre_finite10 := hPre_finite10)
    ∧ preserves_Kernel3_Kernel3Ideal
    ∧ algebraic_Kernel3Ideal_Reference3Ideal_pre_finite5 (hKernel3Ideal := hKernel3Ideal) (hReference3Ideal := hReference3Ideal) (hPre_finite5 := hPre_finite5)
    ∧ preserves_Kernel4_Kernel4Ideal
    ∧ algebraic_Kernel4Ideal_Reference4Ideal_pre_finite5 (hKernel4Ideal := hKernel4Ideal) (hReference4Ideal := hReference4Ideal) (hPre_finite5 := hPre_finite5)
    ∧ preserves_Kernel5_Kernel5Ideal
    ∧ algebraic_Kernel5Ideal_Reference5Ideal_pre_finite16 (hKernel5Ideal := hKernel5Ideal) (hReference5Ideal := hReference5Ideal) (hPre_finite16 := hPre_finite16)
    ∧ preserves_Kernel6_Kernel6Ideal
    ∧ algebraic_Kernel6Ideal_Reference6Ideal (hKernel6Ideal := hKernel6Ideal) (hReference6Ideal := hReference6Ideal)
-- ==== Pre_finite10.lean ====
abbrev S1x4096x1024 : Shape := ⟨3, ![1, 4096, 1024]⟩
abbrev S1024 : Shape := ⟨1, ![1024]⟩
abbrev S2048x1024 : Shape := ⟨2, ![2048, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg8 : FVec F S1024 .f32) (main_arg9 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024 .f32 := Host.absf main_arg8
  let main_cst_14 : FVec F S_ .f32 := constant S_ .f32 0x7F800000#32
  let main_v33 : FVec F S1024 .f32 := broadcastInDim S1024 ![] bcast_S_S1024 main_cst_14
  let main_v34 : IVec S1024 1 := cmpf .olt main_v32 main_v33
  let main_c_15 : IVec S_ 1 := constantI S_ 1 1#1
  let main_v35 : IVec S_ 1 := (fun x v => Host.reduce IntOp.andi x v reducesTo_S1024_S_d0 h_S_) main_v34 main_c_15
  let main_v36 : FVec F S1x4096x1024 .f32 := Host.absf main_arg9
  let main_cst_16 : FVec F S_ .f32 := constant S_ .f32 0x7F800000#32
  let main_v37 : FVec F S1x4096x1024 .f32 := broadcastInDim S1x4096x1024 ![] bcast_S_S1x4096x1024 main_cst_16
  let main_v38 : IVec S1x4096x1024 1 := cmpf .olt main_v36 main_v37
  let main_c_17 : IVec S_ 1 := constantI S_ 1 1#1
  let main_v39 : IVec S_ 1 := (fun x v => Host.reduce IntOp.andi x v reducesTo_S1x4096x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1024 .f32) (main_arg5 : FVec F S1024 .f32) (main_arg6 : FVec F S1024 .f32) (main_arg7 : FVec F S2048x1024 .f32) (main_arg8 : FVec F S1024 .f32) (main_arg9 : FVec F S1x4096x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S2048x1024 .f32 := Host.absf main_arg7
  let main_cst_12 : FVec F S_ .f32 := constant S_ .f32 0x7F800000#32
  let main_v29 : FVec F S2048x1024 .f32 := broadcastInDim S2048x1024 ![] bcast_S_S2048x1024 main_cst_12
  let main_v30 : IVec S2048x1024 1 := cmpf .olt main_v28 main_v29
  let main_c_13 : IVec S_ 1 := constantI S_ 1 1#1
  let main_v31 : IVec S_ 1 := (fun x v => Host.reduce IntOp.andi x v reducesTo_S2048x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S1x4096x1024 .f32) (main_arg1 : FVec F S1x4096x1024 .f32) (main_arg2 : FVec F S1x4096x1024 .f32) (main_arg3 : FVec F S1x4096x1024 .f32) (main_arg4 : FVec F S1024 .f32) (main_arg5 : FVec F S1024 .f32) (main_arg6 : FVec F S1024 .f32) (main_arg7 : FVec F S2048x1024 .f32) (main_arg8 : FVec F S1024 .f32) (main_arg9 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : FVec F S1x4096x1024 .f32 := Host.absf main_arg2
  let main_cst_2 : FVec F S_ .f32 := constant S_ .f32 0x7F800000#32
  let main_v9 : FVec F S1x4096x1024 .f32 := broadcastInDim S1x4096x1024 ![] bcast_S_S1x4096x1024 main_cst_2
  let main_v10 : IVec S1x4096x1024 1 := cmpf .olt main_v8 main_v9
  let main_c_3 : IVec S_ 1 := constantI S_ 1 1#1
  let main_v11 : IVec S_ 1 := (fun x v => Host.reduce IntOp.andi x v reducesTo_S1x4096x1024_S_d0_1_2 h_S_) main_v10 main_c_3
  let main_v12 : FVec F S1x4096x1024 .f32 := Host.absf main_arg3
  let main_cst_4 : FVec F S_ .f32 := constant S_ .f32 0x7F800000#32
  let main_v13 : FVec F S1x4096x1024 .f32 := broadcastInDim S1x4096x1024 ![] bcast_S_S1x4096x1024 main_cst_4
  let main_v14 : IVec S1x4096x1024 1 := cmpf .olt main_v12 main_v13
  let main_c_5 : IVec S_ 1 := constantI S_ 1 1#1
  let main_v15 : IVec S_ 1 := (fun x v => Host.reduce IntOp.andi x v reducesTo_S1x4096x1024_S_d0_1_2 h_S_) main_v14 main_c_5
  fn_part1 (F := F) main_arg4 main_arg5 main_arg6 main_arg7 main_arg8 main_arg9 main_v3 main_v7 main_v11 main_v15
-- ==== Pre_finite16.lean ====
abbrev S1024x5632 : Shape := ⟨2, ![1024, 5632]⟩
abbrev S1x4096x1024 : Shape := ⟨3, ![1, 4096, 1024]⟩
abbrev S1x1024 : Shape := ⟨2, ![1, 1024]⟩
abbrev S1x4096x256 : Shape := ⟨3, ![1, 4096, 256]⟩
abbrev S_ : Shape := ⟨0, ![]⟩

class Facts : Prop where
  bcast_S_S1024x5632 : S_.BroadcastsInDim S1024x5632 (![] : Fin 0 → Fin S1024x5632.rank)
  reducesTo_S1024x5632_S_d0_1 : S1024x5632.ReducesTo [0, 1] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x4096x256 : S_.BroadcastsInDim S1x4096x256 (![] : Fin 0 → Fin S1x4096x256.rank)
  reducesTo_S1x4096x256_S_d0_1_2 : S1x4096x256.ReducesTo [0, 1, 2] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg12 : FVec F S1x4096x1024 .f32) (main_arg13 : FVec F S1x4096x1024 .f32) (main_arg14 : FVec F S1x4096x1024 .f32) (main_arg15 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1x4096x1024 .f32 := Host.absf main_arg12
  let main_cst_22 : FVec F S_ .f32 := constant S_ .f32 0x7F800000#32
  let main_v49 : FVec F S1x4096x1024 .f32 := broadcastInDim S1x4096x1024 ![] bcast_S_S1x4096x1024 main_cst_22
  let main_v50 : IVec S1x4096x1024 1 := cmpf .olt main_v48 main_v49
  let main_c_23 : IVec S_ 1 := constantI S_ 1 1#1
  let main_v51 : IVec S_ 1 := (fun x v => Host.reduce IntOp.andi x v reducesTo_S1x4096x1024_S_d0_1_2 h_S_) main_v50 main_c_23
  let main_v52 : FVec F S1x4096x1024 .f32 := Host.absf main_arg13
  let main_cst_24 : FVec F S_ .f32 := constant S_ .f32 0x7F800000#32
  let main_v53 : FVec F S1x4096x1024 .f32 := broadcastInDim S1x4096x1024 ![] bcast_S_S1x4096x1024 main_cst_24
  let main_v54 : IVec S1x4096x1024 1 := cmpf .olt main_v52 main_v53
  let main_c_25 : IVec S_ 1 := constantI S_ 1 1#1
  let main_v55 : IVec S_ 1 := (fun x v => Host.reduce IntOp.andi x v reducesTo_S1x4096x1024_S_d0_1_2 h_S_) main_v54 main_c_25
  let main_v56 : FVec F S1x4096x1024 .f32 := Host.absf main_arg14
  let main_cst_26 : FVec F S_ .f32 := constant S_ .f32 0x7F800000#32
  let main_v57 : FVec F S1x4096x1024 .f32 := broadcastInDim S1x4096x1024 ![] bcast_S_S1x4096x1024 main_cst_26
  let main_v58 : IVec S1x4096x1024 1 := cmpf .olt main_v56 main_v57
  let main_c_27 : IVec S_ 1 := constantI S_ 1 1#1
  let main_v59 : IVec S_ 1 := (fun x v => Host.reduce IntOp.andi x v reducesTo_S1x4096x1024_S_d0_1_2 h_S_) main_v58 main_c_27
  let main_v60 : FVec F S1x4096x1024 .f32 := Host.absf main_arg15
  let main_cst_28 : FVec F S_ .f32 := constant S_ .f32 0x7F800000#32
  let main_v61 : FVec F S1x4096x1024 .f32 := broadcastInDim S1x4096x1024 ![] bcast_S_S1x4096x1024 main_cst_28
  let main_v62 : IVec S1x4096x1024 1 := cmpf .olt main_v60 main_v61
  let main_c_29 : IVec S_ 1 := constantI S_ 1 1#1
  let main_v63 : IVec S_ 1 := (fun x v => Host.reduce IntOp.andi x v reducesTo_S1x4096x1024_S_d0_1_2 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg8 : FVec F S1x4096x256 .f32) (main_arg9 : FVec F S1x4096x256 .f32) (main_arg10 : FVec F S1x4096x256 .f32) (main_arg11 : FVec F S1x4096x256 .f32) (main_arg12 : FVec F S1x4096x1024 .f32) (main_arg13 : FVec F S1x4096x1024 .f32) (main_arg14 : FVec F S1x4096x1024 .f32) (main_arg15 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x4096x256 .f32 := Host.absf main_arg8
  let main_cst_14 : FVec F S_ .f32 := constant S_ .f32 0x7F800000#32
  let main_v33 : FVec F S1x4096x256 .f32 := broadcastInDim S1x4096x256 ![] bcast_S_S1x4096x256 main_cst_14
  let main_v34 : IVec S1x4096x256 1 := cmpf .olt main_v32 main_v33
  let main_c_15 : IVec S_ 1 := constantI S_ 1 1#1
  let main_v35 : IVec S_ 1 := (fun x v => Host.reduce IntOp.andi x v reducesTo_S1x4096x256_S_d0_1_2 h_S_) main_v34 main_c_15
  let main_v36 : FVec F S1x4096x256 .f32 := Host.absf main_arg9
  let main_cst_16 : FVec F S_ .f32 := constant S_ .f32 0x7F800000#32
  let main_v37 : FVec F S1x4096x256 .f32 := broadcastInDim S1x4096x256 ![] bcast_S_S1x4096x256 main_cst_16
  let main_v38 : IVec S1x4096x256 1 := cmpf .olt main_v36 main_v37
  let main_c_17 : IVec S_ 1 := constantI S_ 1 1#1
  let main_v39 : IVec S_ 1 := (fun x v => Host.reduce IntOp.andi x v reducesTo_S1x4096x256_S_d0_1_2 h_S_) main_v38 main_c_17
  let main_v40 : FVec F S1x4096x256 .f32 := Host.absf main_arg10
  let main_cst_18 : FVec F S_ .f32 := constant S_ .f32 0x7F800000#32
  let main_v41 : FVec F S1x4096x256 .f32 := broadcastInDim S1x4096x256 ![] bcast_S_S1x4096x256 main_cst_18
  let main_v42 : IVec S1x4096x256 1 := cmpf .olt main_v40 main_v41
  let main_c_19 : IVec S_ 1 := constantI S_ 1 1#1
  let main_v43 : IVec S_ 1 := (fun x v => Host.reduce IntOp.andi x v reducesTo_S1x4096x256_S_d0_1_2 h_S_) main_v42 main_c_19
  let main_v44 : FVec F S1x4096x256 .f32 := Host.absf main_arg11
  let main_cst_20 : FVec F S_ .f32 := constant S_ .f32 0x7F800000#32
  let main_v45 : FVec F S1x4096x256 .f32 := broadcastInDim S1x4096x256 ![] bcast_S_S1x4096x256 main_cst_20
  let main_v46 : IVec S1x4096x256 1 := cmpf .olt main_v44 main_v45
  let main_c_21 : IVec S_ 1 := constantI S_ 1 1#1
  let main_v47 : IVec S_ 1 := (fun x v => Host.reduce IntOp.andi x v reducesTo_S1x4096x256_S_d0_1_2 h_S_) main_v46 main_c_21
  fn_part3 (F := F) main_arg12 main_arg13 main_arg14 main_arg15 main_v3 main_v7 main_v11 main_v15 main_v19 main_v23 main_v27 main_v31 main_v35 main_v39 main_v43 main_v47

def fn_part1 {F : FTy → Type} [FloatOps F] (main_arg4 : FVec F S1x4096x1024 .f32) (main_arg5 : FVec F S1x4096x1024 .f32) (main_arg6 : FVec F S1x4096x256 .f32) (main_arg7 : FVec F S1x4096x256 .f32) (main_arg8 : FVec F S1x4096x256 .f32) (main_arg9 : FVec F S1x4096x256 .f32) (main_arg10 : FVec F S1x4096x256 .f32) (main_arg11 : FVec F S1x4096x256 .f32) (main_arg12 : FVec F S1x4096x1024 .f32) (main_arg13 : FVec F S1x4096x1024 .f32) (main_arg14 : FVec F S1x4096x1024 .f32) (main_arg15 : FVec F S1x4096x1024 .f32) (main_v3 : IVec S_ 1) (main_v7 : IVec S_ 1) (main_v11 : IVec S_ 1) (main_v15 : IVec S_ 1) : IVec S_ 1 :=
  let main_v16 : FVec F S1x4096x1024 .f32 := Host.absf main_arg4
  let main_cst_6 : FVec F S_ .f32 := constant S_ .f32 0x7F800000#32
  let main_v17 : FVec F S1x4096x1024 .f32 := broadcastInDim S1x4096x1024 ![] bcast_S_S1x4096x1024 main_cst_6
  let main_v18 : IVec S1x4096x1024 1 := cmpf .olt main_v16 main_v17
  let main_c_7 : IVec S_ 1 := constantI S_ 1 1#1
  let main_v19 : IVec S_ 1 := (fun x v => Host.reduce IntOp.andi x v reducesTo_S1x4096x1024_S_d0_1_2 h_S_) main_v18 main_c_7
  let main_v20 : FVec F S1x4096x1024 .f32 := Host.absf main_arg5
  let main_cst_8 : FVec F S_ .f32 := constant S_ .f32 0x7F800000#32
  let main_v21 : FVec F S1x4096x1024 .f32 := broadcastInDim S1x4096x1024 ![] bcast_S_S1x4096x1024 main_cst_8
  let main_v22 : IVec S1x4096x1024 1 := cmpf .olt main_v20 main_v21
  let main_c_9 : IVec S_ 1 := constantI S_ 1 1#1
  let main_v23 : IVec S_ 1 := (fun x v => Host.reduce IntOp.andi x v reducesTo_S1x4096x1024_S_d0_1_2 h_S_) main_v22 main_c_9
  let main_v24 : FVec F S1x4096x256 .f32 := Host.absf main_arg6
  let main_cst_10 : FVec F S_ .f32 := constant S_ .f32 0x7F800000#32
  let main_v25 : FVec F S1x4096x256 .f32 := broadcastInDim S1x4096x256 ![] bcast_S_S1x4096x256 main_cst_10
  let main_v26 : IVec S1x4096x256 1 := cmpf .olt main_v24 main_v25
  let main_c_11 : IVec S_ 1 := constantI S_ 1 1#1
  let main_v27 : IVec S_ 1 := (fun x v => Host.reduce IntOp.andi x v reducesTo_S1x4096x256_S_d0_1_2 h_S_) main_v26 main_c_11
  let main_v28 : FVec F S1x4096x256 .f32 := Host.absf main_arg7
  let main_cst_12 : FVec F S_ .f32 := constant S_ .f32 0x7F800000#32
  let main_v29 : FVec F S1x4096x256 .f32 := broadcastInDim S1x4096x256 ![] bcast_S_S1x4096x256 main_cst_12
  let main_v30 : IVec S1x4096x256 1 := cmpf .olt main_v28 main_v29
  let main_c_13 : IVec S_ 1 := constantI S_ 1 1#1
  let main_v31 : IVec S_ 1 := (fun x v => Host.reduce IntOp.andi x v reducesTo_S1x4096x256_S_d0_1_2 h_S_) main_v30 main_c_13
  fn_part2 (F := F) main_arg8 main_arg9 main_arg10 main_arg11 main_arg12 main_arg13 main_arg14 main_arg15 main_v3 main_v7 main_v11 main_v15 main_v19 main_v23 main_v27 main_v31

def fn {F : FTy → Type} [FloatOps F] (main_arg0 : FVec F S1024x5632 .f32) (main_arg1 : FVec F S1x4096x1024 .f32) (main_arg2 : FVec F S1x1024 .f32) (main_arg3 : FVec F S1x4096x1024 .f32) (main_arg4 : FVec F S1x4096x1024 .f32) (main_arg5 : FVec F S1x4096x1024 .f32) (main_arg6 : FVec F S1x4096x256 .f32) (main_arg7 : FVec F S1x4096x256 .f32) (main_arg8 : FVec F S1x4096x256 .f32) (main_arg9 : FVec F S1x4096x256 .f32) (main_arg10 : FVec F S1x4096x256 .f32) (main_arg11 : FVec F S1x4096x256 .f32) (main_arg12 : FVec F S1x4096x1024 .f32) (main_arg13 : FVec F S1x4096x1024 .f32) (main_arg14 : FVec F S1x4096x1024 .f32) (main_arg15 : FVec F S1x4096x1024 .f32) (main_arg16 : FVec F S1x4096x1024 .f32) : IVec S_ 1 :=
  let main_v0 : FVec F S1024x5632 .f32 := Host.absf main_arg0
  let main_cst : FVec F S_ .f32 := constant S_ .f32 0x7F800000#32
  let main_v1 : FVec F S1024x5632 .f32 := broadcastInDim S1024x5632 ![] bcast_S_S1024x5632 main_cst
  let main_v2 : IVec S1024x5632 1 := cmpf .olt main_v0 main_v1
  let main_c : IVec S_ 1 := constantI S_ 1 1#1
  let main_v3 : IVec S_ 1 := (fun x v => Host.reduce IntOp.andi x v reducesTo_S1024x5632_S_d0_1 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x4096x1024 .f32 := Host.absf main_arg3
  let main_cst_4 : FVec F S_ .f32 := constant S_ .f32 0x7F800000#32
  let main_v13 : FVec F S1x4096x1024 .f32 := broadcastInDim S1x4096x1024 ![] bcast_S_S1x4096x1024 main_cst_4
  let main_v14 : IVec S1x4096x1024 1 := cmpf .olt main_v12 main_v13
  let main_c_5 : IVec S_ 1 := constantI S_ 1 1#1
  let main_v15 : IVec S_ 1 := (fun x v => Host.reduce IntOp.andi x v reducesTo_S1x4096x1024_S_d0_1_2 h_S_) main_v14 main_c_5
  fn_part1 (F := F) main_arg4 main_arg5 main_arg6 main_arg7 main_arg8 main_arg9 main_arg10 main_arg11 main_arg12 main_arg13 main_arg14 main_arg15 main_v3 main_v7 main_v11 main_v15
-- ==== Pre_finite3.lean ====
abbrev S1x4096x1024 : Shape := ⟨3, ![1, 4096, 1024]⟩
abbrev S_ : Shape := ⟨0, ![]⟩

class Facts : Prop where
  bcast_S_S1x4096x1024 : S_.BroadcastsInDim S1x4096x1024 (![] : Fin 0 → Fin S1x4096x1024.rank)

variable [Facts]

def fn {F : FTy → Type} [FloatOps F] (main_arg0 : FVec F S1x4096x1024 .f32) (main_arg1 : FVec F S1x4096x1024 .f32) (main_arg2 : FVec F S1x4096x1024 .f32) : IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : IVec S1x4096x1024 1 := andi main_v2 main_v5
  let main_v7 : FVec F S1x4096x1024 .f32 := Host.absf main_arg2
  let main_cst_1 : FVec F S_ .f32 := constant S_ .f32 0x7F800000#32
  let main_v8 : FVec F S1x4096x1024 .f32 := broadcastInDim S1x4096x1024 ![] bcast_S_S1x4096x1024 main_cst_1
  let main_v9 : IVec S1x4096x1024 1 := cmpf .olt main_v7 main_v8
  let main_v10 : IVec S1x4096x1024 1 := andi main_v6 main_v9
  main_v10
-- ==== Pre_finite5.lean ====
abbrev S1x4096x1024 : Shape := ⟨3, ![1, 4096, 1024]⟩
abbrev S1x4096x256 : Shape := ⟨3, ![1, 4096, 256]⟩
abbrev S1x4096x16 : Shape := ⟨3, ![1, 4096, 16]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x256 : S_.BroadcastsInDim S1x4096x256 (![] : Fin 0 → Fin S1x4096x256.rank)
  reducesTo_S1x4096x256_S_d0_1_2 : S1x4096x256.ReducesTo [0, 1, 2] S_
  bcast_S_S1x4096x16 : S_.BroadcastsInDim S1x4096x16 (![] : Fin 0 → Fin S1x4096x16.rank)
  reducesTo_S1x4096x16_S_d0_1_2 : S1x4096x16.ReducesTo [0, 1, 2] S_

variable [Facts]

def fn_part1 {F : FTy → Type} [FloatOps F] (main_arg4 : FVec F S1x4096x16 .f32) (main_v3 : IVec S_ 1) (main_v7 : IVec S_ 1) (main_v11 : IVec S_ 1) (main_v15 : IVec S_ 1) : IVec S_ 1 :=
  let main_v16 : FVec F S1x4096x16 .f32 := Host.absf main_arg4
  let main_cst_6 : FVec F S_ .f32 := constant S_ .f32 0x7F800000#32
  let main_v17 : FVec F S1x4096x16 .f32 := broadcastInDim S1x4096x16 ![] bcast_S_S1x4096x16 main_cst_6
  let main_v18 : IVec S1x4096x16 1 := cmpf .olt main_v16 main_v17
  let main_c_7 : IVec S_ 1 := constantI S_ 1 1#1
  let main_v19 : IVec S_ 1 := (fun x v => Host.reduce IntOp.andi x v reducesTo_S1x4096x16_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x4096x1024 .f32) (main_arg1 : FVec F S1x4096x256 .f32) (main_arg2 : FVec F S1x4096x256 .f32) (main_arg3 : FVec F S1x4096x1024 .f32) (main_arg4 : FVec F S1x4096x16 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x256 .f32 := Host.absf main_arg1
  let main_cst_0 : FVec F S_ .f32 := constant S_ .f32 0x7F800000#32
  let main_v5 : FVec F S1x4096x256 .f32 := broadcastInDim S1x4096x256 ![] bcast_S_S1x4096x256 main_cst_0
  let main_v6 : IVec S1x4096x256 1 := cmpf .olt main_v4 main_v5
  let main_c_1 : IVec S_ 1 := constantI S_ 1 1#1
  let main_v7 : IVec S_ 1 := (fun x v => Host.reduce IntOp.andi x v reducesTo_S1x4096x256_S_d0_1_2 h_S_) main_v6 main_c_1
  let main_v8 : FVec F S1x4096x256 .f32 := Host.absf main_arg2
  let main_cst_2 : FVec F S_ .f32 := constant S_ .f32 0x7F800000#32
  let main_v9 : FVec F S1x4096x256 .f32 := broadcastInDim S1x4096x256 ![] bcast_S_S1x4096x256 main_cst_2
  let main_v10 : IVec S1x4096x256 1 := cmpf .olt main_v8 main_v9
  let main_c_3 : IVec S_ 1 := constantI S_ 1 1#1
  let main_v11 : IVec S_ 1 := (fun x v => Host.reduce IntOp.andi x v reducesTo_S1x4096x256_S_d0_1_2 h_S_) main_v10 main_c_3
  let main_v12 : FVec F S1x4096x1024 .f32 := Host.absf main_arg3
  let main_cst_4 : FVec F S_ .f32 := constant S_ .f32 0x7F800000#32
  let main_v13 : FVec F S1x4096x1024 .f32 := broadcastInDim S1x4096x1024 ![] bcast_S_S1x4096x1024 main_cst_4
  let main_v14 : IVec S1x4096x1024 1 := cmpf .olt main_v12 main_v13
  let main_c_5 : IVec S_ 1 := constantI S_ 1 1#1
  let main_v15 : IVec S_ 1 := (fun x v => Host.reduce IntOp.andi x v reducesTo_S1x4096x1024_S_d0_1_2 h_S_) main_v14 main_c_5
  fn_part1 (F := F) main_arg4 main_v3 main_v7 main_v11 main_v15
-- ==== Kernel.lean ====
abbrev S1x4096x1024 : Shape := ⟨3, ![1, 4096, 1024]⟩
abbrev S4096x1024 : Shape := ⟨2, ![4096, 1024]⟩
abbrev S4096x8x128 : Shape := ⟨3, ![4096, 8, 128]⟩
abbrev S8x4096x128 : Shape := ⟨3, ![8, 4096, 128]⟩
abbrev S128 : Shape := ⟨1, ![128]⟩
abbrev S128x1 : Shape := ⟨2, ![128, 1]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S4x4096x128 : Shape := ⟨3, ![4, 4096, 128]⟩
abbrev S256x1024 : Shape := ⟨2, ![256, 1024]⟩
abbrev S8x256x128 : Shape := ⟨3, ![8, 256, 128]⟩
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 43
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x1024, .f32⟩
  | .hbm, ⟨7, _⟩ => ⟨S4096x1024, .f32⟩
  | .hbm, ⟨8, _⟩ => ⟨S128, .i32⟩
  | .hbm, ⟨9, _⟩ => ⟨S128x1, .i32⟩
  | .hbm, ⟨10, _⟩ => ⟨S_, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x1, .i32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S128x1, .i32⟩
  | .hbm, ⟨19, _⟩ => ⟨S128x1, .i32⟩
  | .hbm, ⟨20, _⟩ => ⟨S_, .i32⟩
  | .hbm, ⟨21, _⟩ => ⟨S128x1, .i32⟩
  | .hbm, ⟨22, _⟩ => ⟨S128x1, .i1⟩
  | .hbm, ⟨23, _⟩ => ⟨S128x1, .i1⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x128, .i1⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S128x128, .i1⟩
  | .hbm, ⟨36, _⟩ => ⟨S1x128x128, .i1⟩
  | .hbm, ⟨37, _⟩ => ⟨S1x128x128, .i1⟩
  | .hbm, ⟨38, _⟩ => ⟨S2x128x128, .i1⟩
  | .hbm, ⟨39, _⟩ => ⟨S2x128x128, .bf16⟩
  | .hbm, ⟨40, _⟩ => ⟨S8x4096x128, .f32⟩
  | .hbm, ⟨41, _⟩ => ⟨S4096x1024, .bf16⟩
  | .hbm, ⟨42, _⟩ => ⟨S4x4096x128, .f32⟩
  | .local _ .vmem, ⟨0, _⟩ => ⟨S256x1024, .f32⟩
  | .local _ .vmem, ⟨1, _⟩ => ⟨S256x1024, .f32⟩
  | .local _ .vmem, ⟨2, _⟩ => ⟨S8x256x128, .f32⟩
  | .local _ .vmem, ⟨3, _⟩ => ⟨S8x256x128, .f32⟩
  | .local _ .vmem, ⟨4, _⟩ => ⟨S256x1024, .f32⟩
  | .local _ .vmem, ⟨5, _⟩ => ⟨S256x1024, .f32⟩
  | .local _ .vmem, ⟨6, _⟩ => ⟨S2x128x128, .bf16⟩
  | .local _ .vmem, ⟨7, _⟩ => ⟨S8x256x128, .f32⟩
  | .local _ .vmem, ⟨8, _⟩ => ⟨S8x256x128, .f32⟩
  | .local _ .vmem, ⟨9, _⟩ => ⟨S256x1024, .bf16⟩
  | .local _ .vmem, ⟨10, _⟩ => ⟨S256x1024, .bf16⟩
  | .local _ .vmem, ⟨11, _⟩ => ⟨S4x256x128, .f32⟩
  | .local _ .vmem, ⟨12, _⟩ => ⟨S4x256x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x4096x1024 : Shape := ⟨3, ![1, 4096, 1024]⟩
abbrev S_ : Shape := ⟨0, ![]⟩
abbrev S4096x4x4x64 : Shape := ⟨4, ![4096, 4, 4, 64]⟩
abbrev S4096x4x4 : Shape := ⟨3, ![4096, 4, 4]⟩
abbrev S4x4096x4 : Shape := ⟨3, ![4, 4096, 4]⟩
abbrev S4096x8x128 : Shape := ⟨3, ![4096, 8, 128]⟩
abbrev S8x4096x128 : Shape := ⟨3, ![8, 4096, 128]⟩
abbrev S4096x1024 : Shape := ⟨2, ![4096, 1024]⟩
abbrev S4x4096x128 : Shape := ⟨3, ![4, 4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096x1024, .f32⟩
  | .hbm, ⟨10, _⟩ => ⟨S1x4096x1024, .f32⟩
  | .hbm, ⟨11, _⟩ => ⟨S_, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S4096x4x4x64, .f32⟩
  | .hbm, ⟨25, _⟩ => ⟨S_, .f32⟩
  | .hbm, ⟨26, _⟩ => ⟨S4096x4x4, .f32⟩
  | .hbm, ⟨27, _⟩ => ⟨S4x4096x4, .f32⟩
  | .hbm, ⟨28, _⟩ => ⟨S4x4096x4, .f32⟩
  | .hbm, ⟨29, _⟩ => ⟨S4096x8x128, .f32⟩
  | .hbm, ⟨30, _⟩ => ⟨S8x4096x128, .f32⟩
  | .hbm, ⟨31, _⟩ => ⟨S4096x1024, .f32⟩
  | .hbm, ⟨32, _⟩ => ⟨S4096x1024, .bf16⟩
  | .hbm, ⟨33, _⟩ => ⟨S_, .i32⟩
  | .hbm, ⟨34, _⟩ => ⟨S_, .f32⟩
  | .hbm, ⟨35, _⟩ => ⟨S4x4096x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_call2_v0 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel2.lean ====
abbrev S1x4096x1024 : Shape := ⟨3, ![1, 4096, 1024]⟩
abbrev S1024 : Shape := ⟨1, ![1024]⟩
abbrev S2048x1024 : Shape := ⟨2, ![2048, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S4096x1024 : Shape := ⟨2, ![4096, 1024]⟩
abbrev S1x1024 : Shape := ⟨2, ![1, 1024]⟩
abbrev S8x1024 : Shape := ⟨2, ![8, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 82
  | .vmem => 27
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S1x4096x1024, .f32⟩
  | .hbm, ⟨10, _⟩ => ⟨S1x1x1024, .f32⟩
  | .hbm, ⟨11, _⟩ => ⟨S1x4096x1024, .f32⟩
  | .hbm, ⟨12, _⟩ => ⟨S1x4096x1024, .f32⟩
  | .hbm, ⟨13, _⟩ => ⟨S_, .f32⟩
  | .hbm, ⟨14, _⟩ => ⟨S1x4096, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S1x4096x1, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1x4096x1024, .f32⟩
  | .hbm, ⟨55, _⟩ => ⟨S1x4096x1024, .f32⟩
  | .hbm, ⟨56, _⟩ => ⟨S_, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .bf16⟩
  | .hbm, ⟨65, _⟩ => ⟨S2048x1024, .bf16⟩
  | .hbm, ⟨66, _⟩ => ⟨S4096x1024, .f32⟩
  | .hbm, ⟨67, _⟩ => ⟨S4096x1024, .f32⟩
  | .hbm, ⟨68, _⟩ => ⟨S1x1024, .f32⟩
  | .hbm, ⟨69, _⟩ => ⟨S1x1x1024, .f32⟩
  | .hbm, ⟨70, _⟩ => ⟨S1x4096x1024, .f32⟩
  | .hbm, ⟨71, _⟩ => ⟨S1x4096x1024, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | .hbm, ⟨80, _⟩ => ⟨S2048x1024, .bf16⟩
  | .hbm, ⟨81, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S2048x1024, .bf16⟩
  | .local _ .vmem, ⟨25, _⟩ => ⟨S8x1024, .f32⟩
  | .local _ .vmem, ⟨26, _⟩ => ⟨S2048x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v45_2 : Ref sig .tc := ⟨.hbm, 78, rfl⟩
abbrev main_v45_3 : Ref sig .tc := ⟨.hbm, 79, rfl⟩
abbrev main_v45_4 : Ref sig .tc := ⟨.hbm, 80, rfl⟩
abbrev main_v45_5 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v189 : BitVec 1 := Scalar.cmpi .eq arg0 c15_i32
  let v190 : BitVec 32 := Scalar.extui v189
  let c0_i32_97 : BitVec 32 := 0#32
  let v191 : BitVec 1 := Scalar.cmpi .ne v190 c0_i32_97
  v191

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S1x4096x1024 : Shape := ⟨3, ![1, 4096, 1024]⟩
abbrev S1024 : Shape := ⟨1, ![1024]⟩
abbrev S2048x1024 : Shape := ⟨2, ![2048, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S1x4096x2048 : Shape := ⟨3, ![1, 4096, 2048]⟩
abbrev S1x1024 : Shape := ⟨2, ![1, 1024]⟩
abbrev S4096 : Shape := ⟨1, ![4096]⟩
abbrev S1024x2048 : Shape := ⟨2, ![1024, 2048]⟩
abbrev S5x1024 : Shape := ⟨2, ![5, 1024]⟩
abbrev S4096x1024 : Shape := ⟨2, ![4096, 1024]⟩
abbrev S8x1024 : Shape := ⟨2, ![8, 1024]⟩

abbrev nBuf : Space → Nat
  | .hbm => 309
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1024, .f32⟩
  | 5 => ⟨S1024, .f32⟩
  | 6 => ⟨S1024, .f32⟩
  | 7 => ⟨S2048x1024, .f32⟩
  | 8 => ⟨S1024, .f32⟩
  | 9 => ⟨S1x4096x1024, .f32⟩
  | 10 => ⟨S1x1x1024, .f32⟩
  | 11 => ⟨S1x4096x1024, .f32⟩
  | 12 => ⟨S1x4096x1024, .f32⟩
  | 13 => ⟨S_, .f32⟩
  | 14 => ⟨S1x4096, .f32⟩
  | 15 => ⟨S1x4096x1, .f32⟩
  | 16 => ⟨S_, .f32⟩
  | 17 => ⟨S1x4096x1, .f32⟩
  | 18 => ⟨S1x4096x1, .f32⟩
  | 19 => ⟨S1x4096x1024, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S_, .f32⟩
  | 26 => ⟨S1x4096, .f32⟩
  | 27 => ⟨S1x4096x1, .f32⟩
  | 28 => ⟨S_, .f32⟩
  | 29 => ⟨S1x4096x1, .f32⟩
  | 30 => ⟨S1x4096x1, .f32⟩
  | 31 => ⟨S1x4096x1024, .f32⟩
  | 32 => ⟨S1x4096x1024, .f32⟩
  | 33 => ⟨S_, .f32⟩
  | 34 => ⟨S1x4096x1, .f32⟩
  | 35 => ⟨S1x4096x1, .f32⟩
  | 36 => ⟨S1x4096x1, .f32⟩
  | 37 => ⟨S1x4096x1, .f32⟩
  | 38 => ⟨S_, .f32⟩
  | 39 => ⟨S1x4096x1, .f32⟩
  | 40 => ⟨S1x4096x1, .f32⟩
  | 41 => ⟨S1x4096x1024, .f32⟩
  | 42 => ⟨S1x4096x1024, .f32⟩
  | 43 => ⟨S1x1x1024, .f32⟩
  | 44 => ⟨S1x4096x1024, .f32⟩
  | 45 => ⟨S1x4096x1024, .f32⟩
  | 46 => ⟨S1x1x1024, .f32⟩
  | 47 => ⟨S1x4096x1024, .f32⟩
  | 48 => ⟨S1x4096x1024, .f32⟩
  | 49 => ⟨S1x4096x1024, .f32⟩
  | 50 => ⟨S1x4096x1024, .f32⟩
  | 51 => ⟨S_, .f32⟩
  | 52 => ⟨S1x4096x1024, .f32⟩
  | 53 => ⟨S1x4096x1024, .f32⟩
  | 54 => ⟨S_, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S_, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x2048, .f32⟩
  | 77 => ⟨S1x4096x1024, .f32⟩
  | 78 => ⟨S1x4096x1024, .f32⟩
  | 79 => ⟨S1x4096x1024, .f32⟩
  | 80 => ⟨S_, .f32⟩
  | 81 => ⟨S1x4096, .f32⟩
  | 82 => ⟨S1x4096x1, .f32⟩
  | 83 => ⟨S_, .f32⟩
  | 84 => ⟨S1x4096x1, .f32⟩
  | 85 => ⟨S1x4096x1, .f32⟩
  | 86 => ⟨S_, .f32⟩
  | 87 => ⟨S1x4096x1, .f32⟩
  | 88 => ⟨S1x4096x1, .f32⟩
  | 89 => ⟨S1x4096x1, .f32⟩
  | 90 => ⟨S1x4096x1, .f32⟩
  | 91 => ⟨S_, .f32⟩
  | 92 => ⟨S1x4096x1, .f32⟩
  | 93 => ⟨S1x4096x1, .f32⟩
  | 94 => ⟨S1x4096x1024, .f32⟩
  | 95 => ⟨S1x4096x1024, .f32⟩
  | 96 => ⟨S1x1x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S_, .f32⟩
  | 102 => ⟨S1x4096x1024, .f32⟩
  | 103 => ⟨S1x4096x1024, .f32⟩
  | 104 => ⟨S_, .f32⟩
  | 105 => ⟨S1x4096, .f32⟩
  | 106 => ⟨S_, .f32⟩
  | 107 => ⟨S1x4096, .f32⟩
  | 108 => ⟨S1x4096, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x4096, .f32⟩
  | 117 => ⟨S_, .f32⟩
  | 118 => ⟨S1x4096, .f32⟩
  | 119 => ⟨S1x4096, .f32⟩
  | 120 => ⟨S1x4096x1024, .f32⟩
  | 121 => ⟨S1x4096x1024, .f32⟩
  | 122 => ⟨S1x4096x1024, .f32⟩
  | 123 => ⟨S_, .f32⟩
  | 124 => ⟨S1x1024, .f32⟩
  | 125 => ⟨S1x1x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S_, .f32⟩
  | 1 => ⟨S1024, .f32⟩
  | 2 => ⟨S1x4096x1024, .f32⟩
  | 3 => ⟨S_, .f32⟩
  | 4 => ⟨S1x4096, .f32⟩
  | 5 => ⟨S1x4096x1, .f32⟩
  | 6 => ⟨S1x4096x1024, .f32⟩
  | 7 => ⟨S1x4096x1024, .f32⟩
  | 8 => ⟨S1x4096x1, .f32⟩
  | 9 => ⟨S_, .f32⟩
  | 10 => ⟨S1x4096x1, .f32⟩
  | 11 => ⟨S1x4096x1, .f32⟩
  | 12 => ⟨S_, .f32⟩
  | 13 => ⟨S4096, .f32⟩
  | 14 => ⟨S1x4096, .f32⟩
  | 15 => ⟨S1x4096x1024, .f32⟩
  | 16 => ⟨S1x4096x1024, .f32⟩
  | 17 => ⟨S1x4096x1024, .f32⟩
  | 18 => ⟨S1x4096x1024, .f32⟩
  | 19 => ⟨S1x4096x1024, .f32⟩
  | 20 => ⟨S1024x2048, .f32⟩
  | 21 => ⟨S2048x1024, .f32⟩
  | 22 => ⟨S1x4096x2048, .f32⟩
  | 23 => ⟨S1x4096x1024, .f32⟩
  | 24 => ⟨S1x4096x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x4096x1024, .f32⟩
  | 33 => ⟨S1x4096x1024, .f32⟩
  | 34 => ⟨S1x4096x1024, .f32⟩
  | 35 => ⟨S_, .f32⟩
  | 36 => ⟨S1x1024, .f32⟩
  | 37 => ⟨S1x1x1024, .f32⟩
  | 38 => ⟨S_, .f32⟩
  | 39 => ⟨S1024, .f32⟩
  | 40 => ⟨S1x4096x1024, .f32⟩
  | 41 => ⟨S_, .f32⟩
  | 42 => ⟨S1x1024, .f32⟩
  | 43 => ⟨S1x1x1024, .f32⟩
  | 44 => ⟨S1x4096x1024, .f32⟩
  | 45 => ⟨S1x4096x1024, .f32⟩
  | 46 => ⟨S_, .f32⟩
  | 47 => ⟨S1024, .f32⟩
  | 48 => ⟨S1x4096x1024, .f32⟩
  | 49 => ⟨S_, .f32⟩
  | 50 => ⟨S1x4096, .f32⟩
  | 51 => ⟨S1x4096x1, .f32⟩
  | 52 => ⟨S1x4096x1024, .f32⟩
  | 53 => ⟨S1x4096x1024, .f32⟩
  | 54 => ⟨S1x4096x1, .f32⟩
  | 55 => ⟨S1x4096x1024, .f32⟩
  | 56 => ⟨S_, .f32⟩
  | 57 => ⟨S1x4096, .f32⟩
  | 58 => ⟨S1x4096x1, .f32⟩
  | 59 => ⟨S_, .f32⟩
  | 60 => ⟨S1x4096x1, .f32⟩
  | 61 => ⟨S1x4096x1, .f32⟩
  | 62 => ⟨S_, .f32⟩
  | 63 => ⟨S4096, .f32⟩
  | 64 => ⟨S1x4096, .f32⟩
  | 65 => ⟨S1x4096x1024, .f32⟩
  | 66 => ⟨S1x4096x1024, .f32⟩
  | 67 => ⟨S1x4096x1024, .f32⟩
  | 68 => ⟨S_, .f32⟩
  | 69 => ⟨S1x4096, .f32⟩
  | 70 => ⟨S1x4096x1, .f32⟩
  | 71 => ⟨S1x4096x1024, .f32⟩
  | 72 => ⟨S1x4096x1, .f32⟩
  | 73 => ⟨S_, .f32⟩
  | 74 => ⟨S1x4096x1, .f32⟩
  | 75 => ⟨S1x4096x1, .f32⟩
  | 76 => ⟨S_, .f32⟩
  | 77 => ⟨S4096, .f32⟩
  | 78 => ⟨S1x4096, .f32⟩
  | 79 => ⟨S1x4096x1024, .f32⟩
  | 80 => ⟨S1x4096x1024, .f32⟩
  | 81 => ⟨S_, .f32⟩
  | 82 => ⟨S1x1024, .f32⟩
  | 83 => ⟨S1x1x1024, .f32⟩
  | 84 => ⟨S_, .f32⟩
  | 85 => ⟨S1024, .f32⟩
  | 86 => ⟨S1x1x1024, .f32⟩
  | 87 => ⟨S1x4096x1024, .f32⟩
  | 88 => ⟨S1x4096x1024, .f32⟩
  | 89 => ⟨S_, .f32⟩
  | 90 => ⟨S1x4096, .f32⟩
  | 91 => ⟨S1x4096x1, .f32⟩
  | 92 => ⟨S_, .f32⟩
  | 93 => ⟨S1x4096x1, .f32⟩
  | 94 => ⟨S1x4096x1, .f32⟩
  | 95 => ⟨S1x4096x1024, .f32⟩
  | 96 => ⟨S1x4096x1024, .f32⟩
  | 97 => ⟨S1x4096x1024, .f32⟩
  | 98 => ⟨S_, .f32⟩
  | 99 => ⟨S1x4096, .f32⟩
  | 100 => ⟨S1x4096x1, .f32⟩
  | 101 => ⟨S_, .f32⟩
  | 102 => ⟨S1x4096x1, .f32⟩
  | 103 => ⟨S1x4096x1, .f32⟩
  | 104 => ⟨S1x4096x1024, .f32⟩
  | 105 => ⟨S1x4096x1024, .f32⟩
  | 106 => ⟨S_, .f32⟩
  | 107 => ⟨S1x4096x1, .f32⟩
  | 108 => ⟨S1x4096x1, .f32⟩
  | 109 => ⟨S1x4096x1, .f32⟩
  | 110 => ⟨S1x4096x1024, .f32⟩
  | 111 => ⟨S1x4096x1024, .f32⟩
  | 112 => ⟨S1x1x1024, .f32⟩
  | 113 => ⟨S1x4096x1024, .f32⟩
  | 114 => ⟨S1x4096x1024, .f32⟩
  | 115 => ⟨S1x1x1024, .f32⟩
  | 116 => ⟨S1x4096x1024, .f32⟩
  | 117 => ⟨S1x4096x1024, .f32⟩
  | 118 => ⟨S1x4096x1024, .f32⟩
  | 119 => ⟨S1x4096x1024, .f32⟩
  | 120 => ⟨S_, .f32⟩
  | 121 => ⟨S1x4096x1024, .f32⟩
  | 122 => ⟨S1x4096x1024, .f32⟩
  | 123 => ⟨S_, .f32⟩
  | 124 => ⟨S1x4096x1024, .f32⟩
  | 125 => ⟨S1x4096x1024, .f32⟩
  | 126 => ⟨S1x4096x1024, .f32⟩
  | 127 => ⟨S1x4096x1024, .f32⟩
  | _ => ⟨S1x4096x1024, .f32⟩

abbrev hbmTy0_2 (i : Nat) : BufTy := match i % 128 with
  | 0 => ⟨S1x4096x1024, .f32⟩
  | 1 => ⟨S_, .f32⟩
  | 2 => ⟨S1x4096x1024, .f32⟩
  | 3 => ⟨S1x4096x1024, .f32⟩
  | 4 => ⟨S_, .f32⟩
  | 5 => ⟨S1x4096x1024, .f32⟩
  | 6 => ⟨S1x4096x1024, .f32⟩
  | 7 => ⟨S1x4096x1024, .f32⟩
  | 8 => ⟨S1x4096x1024, .f32⟩
  | 9 => ⟨S1x4096x2048, .f32⟩
  | 10 => ⟨S1x4096x1024, .f32⟩
  | 11 => ⟨S1x4096x1024, .f32⟩
  | 12 => ⟨S1x4096x1024, .f32⟩
  | 13 => ⟨S_, .f32⟩
  | 14 => ⟨S1x4096, .f32⟩
  | 15 => ⟨S1x4096x1, .f32⟩
  | 16 => ⟨S_, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1, .f32⟩
  | 23 => ⟨S1x4096x1024, .f32⟩
  | 24 => ⟨S1x4096x1024, .f32⟩
  | 25 => ⟨S1x1x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S_, .f32⟩
  | 34 => ⟨S1024, .f32⟩
  | 35 => ⟨S_, .f32⟩
  | 36 => ⟨S1024, .f32⟩
  | 37 => ⟨S1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S5x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .bf16⟩
  | 49 => ⟨S2048x1024, .bf16⟩
  | 50 => ⟨S_, .i32⟩
  | 51 => ⟨S_, .f32⟩
  | 52 => ⟨S8x1024, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v32_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v32_1 : Ref sig .tc := ⟨.hbm, 60, rfl⟩
abbrev main_v32_0 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v33_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v33_1 : Ref sig .tc := ⟨.hbm, 73, rfl⟩
abbrev main_v33_0 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_6 : Ref sig .tc := ⟨.hbm, 80, rfl⟩
abbrev main_v39 : Ref sig .tc := ⟨.hbm, 81, rfl⟩
abbrev main_v40 : Ref sig .tc := ⟨.hbm, 82, rfl⟩
abbrev main_cst_7 : Ref sig .tc := ⟨.hbm, 83, rfl⟩
abbrev main_v41 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_9 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_cst_12 : Ref sig .tc := ⟨.hbm, 106, rfl⟩
abbrev main_v59 : Ref sig .tc := ⟨.hbm, 107, rfl⟩
abbrev main_v60 : Ref sig .tc := ⟨.hbm, 108, rfl⟩
abbrev main_cst_13 : Ref sig .tc := ⟨.hbm, 109, rfl⟩
abbrev main_v61 : Ref sig .tc := ⟨.hbm, 110, rfl⟩
abbrev main_cst_14 : Ref sig .tc := ⟨.hbm, 111, rfl⟩
abbrev main_v62 : Ref sig .tc := ⟨.hbm, 112, rfl⟩
abbrev main_cst_15 : Ref sig .tc := ⟨.hbm, 113, rfl⟩
abbrev main_cst_16 : Ref sig .tc := ⟨.hbm, 114, rfl⟩
abbrev main_v63 : Ref sig .tc := ⟨.hbm, 115, rfl⟩
abbrev main_v64 : Ref sig .tc := ⟨.hbm, 116, rfl⟩
abbrev main_cst_17 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_18 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_19 : Ref sig .tc := ⟨.hbm, 128, rfl⟩
abbrev main_v74 : Ref sig .tc := ⟨.hbm, 129, rfl⟩
abbrev main_v75 : Ref sig .tc := ⟨.hbm, 130, rfl⟩
abbrev main_cst_20 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_21 : Ref sig .tc := ⟨.hbm, 137, rfl⟩
abbrev main_v81 : Ref sig .tc := ⟨.hbm, 138, rfl⟩
abbrev main_v82 : Ref sig .tc := ⟨.hbm, 139, rfl⟩
abbrev main_cst_22 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v97 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_v98 : Ref sig .tc := ⟨.hbm, 162, rfl⟩
abbrev main_cst_23 : Ref sig .tc := ⟨.hbm, 163, rfl⟩
abbrev main_v99 : Ref sig .tc := ⟨.hbm, 164, rfl⟩
abbrev main_v100 : Ref sig .tc := ⟨.hbm, 165, rfl⟩
abbrev main_cst_24 : Ref sig .tc := ⟨.hbm, 166, rfl⟩
abbrev main_v101 : Ref sig .tc := ⟨.hbm, 167, rfl⟩
abbrev main_v102 : Ref sig .tc := ⟨.hbm, 168, rfl⟩
abbrev main_cst_25 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_26 : Ref sig .tc := ⟨.hbm, 174, rfl⟩
abbrev main_v107 : Ref sig .tc := ⟨.hbm, 175, rfl⟩
abbrev main_v108 : Ref sig .tc := ⟨.hbm, 176, rfl⟩
abbrev main_cst_27 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_28 : Ref sig .tc := ⟨.hbm, 184, rfl⟩
abbrev main_v115 : Ref sig .tc := ⟨.hbm, 185, rfl⟩
abbrev main_v116 : Ref sig .tc := ⟨.hbm, 186, rfl⟩
abbrev main_cst_29 : Ref sig .tc := ⟨.hbm, 187, rfl⟩
abbrev main_v117 : Ref sig .tc := ⟨.hbm, 188, rfl⟩
abbrev main_v118 : Ref sig .tc := ⟨.hbm, 189, rfl⟩
abbrev main_cst_30 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_31 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_32 : Ref sig .tc := ⟨.hbm, 201, rfl⟩
abbrev main_v128 : Ref sig .tc := ⟨.hbm, 202, rfl⟩
abbrev main_v129 : Ref sig .tc := ⟨.hbm, 203, rfl⟩
abbrev main_cst_33 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_cst_34 : Ref sig .tc := ⟨.hbm, 209, rfl⟩
abbrev main_v134 : Ref sig .tc := ⟨.hbm, 210, rfl⟩
abbrev main_v135 : Ref sig .tc := ⟨.hbm, 211, rfl⟩
abbrev main_cst_35 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_cst_36 : Ref sig .tc := ⟨.hbm, 217, rfl⟩
abbrev main_v140 : Ref sig .tc := ⟨.hbm, 218, rfl⟩
abbrev main_v141 : Ref sig .tc := ⟨.hbm, 219, rfl⟩
abbrev main_cst_37 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_cst_38 : Ref sig .tc := ⟨.hbm, 226, rfl⟩
abbrev main_v147 : Ref sig .tc := ⟨.hbm, 227, rfl⟩
abbrev main_v148 : Ref sig .tc := ⟨.hbm, 228, rfl⟩
abbrev main_cst_39 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_40 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_call4_v0 : Ref sig .tc := ⟨.hbm, 246, rfl⟩
abbrev main_call4_v1 : Ref sig .tc := ⟨.hbm, 247, rfl⟩
abbrev main_call4_cst : Ref sig .tc := ⟨.hbm, 248, rfl⟩
abbrev main_call4_v2 : Ref sig .tc := ⟨.hbm, 249, rfl⟩
abbrev main_call4_v3 : Ref sig .tc := ⟨.hbm, 250, rfl⟩
abbrev main_call4_cst_0 : Ref sig .tc := ⟨.hbm, 251, rfl⟩
abbrev main_call4_v4 : Ref sig .tc := ⟨.hbm, 252, rfl⟩
abbrev main_call4_v5 : Ref sig .tc := ⟨.hbm, 253, rfl⟩
abbrev main_v164 : Ref sig .tc := ⟨.hbm, 254, rfl⟩
abbrev main_call5_v0 : Ref sig .tc := ⟨.hbm, 255, rfl⟩
abbrev main_call5_v1 : Ref sig .tc := ⟨.hbm, 256, rfl⟩
abbrev main_call5_cst : Ref sig .tc := ⟨.hbm, 257, rfl⟩
abbrev main_call5_v2 : Ref sig .tc := ⟨.hbm, 258, rfl⟩
abbrev main_call5_v3 : Ref sig .tc := ⟨.hbm, 259, rfl⟩
abbrev main_call5_cst_0 : Ref sig .tc := ⟨.hbm, 260, rfl⟩
abbrev main_call5_v4 : Ref sig .tc := ⟨.hbm, 261, rfl⟩
abbrev main_call5_v5 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_41 : Ref sig .tc := ⟨.hbm, 269, rfl⟩
abbrev main_v171 : Ref sig .tc := ⟨.hbm, 270, rfl⟩
abbrev main_v172 : Ref sig .tc := ⟨.hbm, 271, rfl⟩
abbrev main_cst_42 : Ref sig .tc := ⟨.hbm, 272, rfl⟩
abbrev main_v173 : Ref sig .tc := ⟨.hbm, 273, rfl⟩
abbrev main_v174 : Ref sig .tc := ⟨.hbm, 274, rfl⟩
abbrev main_cst_43 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_cst_44 : Ref sig .tc := ⟨.hbm, 286, rfl⟩
abbrev main_v185 : Ref sig .tc := ⟨.hbm, 287, rfl⟩
abbrev main_v186 : Ref sig .tc := ⟨.hbm, 288, rfl⟩
abbrev main_cst_45 : Ref sig .tc := ⟨.hbm, 289, rfl⟩
abbrev main_v187 : Ref sig .tc := ⟨.hbm, 290, rfl⟩
abbrev main_cst_46 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_c : Ref sig .tc := ⟨.hbm, 306, rfl⟩
abbrev main_call6_v0 : Ref sig .tc := ⟨.hbm, 307, rfl⟩
abbrev main_v202 : Ref sig .tc := ⟨.hbm, 308, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x4096x256 : Shape := ⟨3, ![1, 4096, 256]⟩
abbrev S1x4096x16 : Shape := ⟨3, ![1, 4096, 16]⟩
abbrev S16 : Shape := ⟨1, ![16]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S16x128x256 : Shape := ⟨3, ![16, 128, 256]⟩
abbrev S2x128x256 : Shape := ⟨3, ![2, 128, 256]⟩
abbrev S2x1x128x256 : Shape := ⟨4, ![2, 1, 128, 256]⟩
abbrev S1x16x128x256 : Shape := ⟨4, ![1, 16, 128, 256]⟩
abbrev S2x16x128x256 : Shape := ⟨4, ![2, 16, 128, 256]⟩
abbrev S2x4x512x256 : Shape := ⟨4, ![2, 4, 512, 256]⟩
abbrev S1x4096x512 : Shape := ⟨3, ![1, 4096, 512]⟩
abbrev S32x128x8x64 : Shape := ⟨4, ![32, 128, 8, 64]⟩
abbrev S1x128x8x64 : Shape := ⟨4, ![1, 128, 8, 64]⟩
abbrev S31x128x8x64 : Shape := ⟨4, ![31, 128, 8, 64]⟩
abbrev S32x256x8x64 : Shape := ⟨4, ![32, 256, 8, 64]⟩
abbrev S1x4x512x256 : Shape := ⟨4, ![1, 4, 512, 256]⟩
abbrev S31x4x512x256 : Shape := ⟨4, ![31, 4, 512, 256]⟩
abbrev S32x4x512x256 : Shape := ⟨4, ![32, 4, 512, 256]⟩
abbrev S32x128x4x4x64 : Shape := ⟨5, ![32, 128, 4, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x4x4x128 : Shape := ⟨4, ![32, 4, 4, 128]⟩
abbrev S32x4x4x128x64 : Shape := ⟨5, ![32, 4, 4, 128, 64]⟩
abbrev S32x128x4x4 : Shape := ⟨4, ![32, 128, 4, 4]⟩
abbrev S64x4x4x128 : Shape := ⟨4, ![64, 4, 4, 128]⟩
abbrev S4x64x128x4 : Shape := ⟨4, ![4, 64, 128, 4]⟩
abbrev S4x64x128x116 : Shape := ⟨4, ![4, 64, 128, 116]⟩
abbrev S4x64x128x128 : Shape := ⟨4, ![4, 64, 128, 128]⟩
abbrev S4x8192x128 : Shape := ⟨3, ![4, 8192, 128]⟩
abbrev S4096x8x128 : Shape := ⟨3, ![4096, 8, 128]⟩
abbrev S8x4096x128 : Shape := ⟨3, ![8, 4096, 128]⟩
abbrev S4096x2x128 : Shape := ⟨3, ![4096, 2, 128]⟩
abbrev S2x4096x128 : Shape := ⟨3, ![2, 4096, 128]⟩
abbrev S4x4096x128 : Shape := ⟨3, ![4, 4096, 128]⟩
abbrev S2x2048x128 : Shape := ⟨3, ![2, 2048, 128]⟩
abbrev S1x2048x128 : Shape := ⟨3, ![1, 2048, 128]⟩
abbrev S1x4096x128 : Shape := ⟨3, ![1, 4096, 128]⟩
abbrev S2x1x512x256 : Shape := ⟨4, ![2, 1, 512, 256]⟩
abbrev S4096x128 : Shape := ⟨2, ![4096, 128]⟩
abbrev S256x128 : Shape := ⟨2, ![256, 128]⟩
abbrev S128x128 : Shape := ⟨2, ![128, 128]⟩
abbrev S1x128x128 : Shape := ⟨3, ![1, 128, 128]⟩
abbrev S512x128 : Shape := ⟨2, ![512, 128]⟩
abbrev S512x256 : Shape := ⟨2, ![512, 256]⟩
abbrev S256x256 : Shape := ⟨2, ![256, 256]⟩
abbrev S1x1x512x256 : Shape := ⟨4, ![1, 1, 512, 256]⟩

abbrev nBuf : Space → Nat
  | .hbm => 127
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x256, .f32⟩
  | .hbm, ⟨3, _⟩ => ⟨S1x4096x1024, .f32⟩
  | .hbm, ⟨4, _⟩ => ⟨S1x4096x16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S128, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S128x256, .i1⟩
  | .hbm, ⟨36, _⟩ => ⟨S16x1x1, .f32⟩
  | .hbm, ⟨37, _⟩ => ⟨S16x1x1, .f32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S128x256, .f32⟩
  | .hbm, ⟨42, _⟩ => ⟨S1x128x256, .f32⟩
  | .hbm, ⟨43, _⟩ => ⟨S16x128x256, .f32⟩
  | .hbm, ⟨44, _⟩ => ⟨S16x128x256, .f32⟩
  | .hbm, ⟨45, _⟩ => ⟨S16x128x256, .f32⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S128x256, .i1⟩
  | .hbm, ⟨50, _⟩ => ⟨S_, .i1⟩
  | .hbm, ⟨51, _⟩ => ⟨S128x256, .i1⟩
  | .hbm, ⟨52, _⟩ => ⟨S1x128x256, .i1⟩
  | .hbm, ⟨53, _⟩ => ⟨S1x128x256, .i1⟩
  | .hbm, ⟨54, _⟩ => ⟨S2x128x256, .i1⟩
  | .hbm, ⟨55, _⟩ => ⟨S1x128x256, .i1⟩
  | .hbm, ⟨56, _⟩ => ⟨S2x128x256, .i1⟩
  | .hbm, ⟨57, _⟩ => ⟨S2x128x256, .i1⟩
  | .hbm, ⟨58, _⟩ => ⟨S2x1x128x256, .i1⟩
  | .hbm, ⟨59, _⟩ => ⟨S1x16x128x256, .f32⟩
  | .hbm, ⟨60, _⟩ => ⟨S_, .f32⟩
  | .hbm, ⟨61, _⟩ => ⟨S_, .f32⟩
  | .hbm, ⟨62, _⟩ => ⟨S2x16x128x256, .i1⟩
  | .hbm, ⟨63, _⟩ => ⟨S2x16x128x256, .f32⟩
  | .hbm, ⟨64, _⟩ => ⟨S2x16x128x256, .f32⟩
  | .hbm, ⟨65, _⟩ => ⟨S2x16x128x256, .f32⟩
  | .hbm, ⟨66, _⟩ => ⟨S2x4x512x256, .f32⟩
  | .hbm, ⟨67, _⟩ => ⟨S1x4096x512, .f32⟩
  | .hbm, ⟨68, _⟩ => ⟨S32x128x8x64, .f32⟩
  | .hbm, ⟨69, _⟩ => ⟨S_, .f32⟩
  | .hbm, ⟨70, _⟩ => ⟨S1x128x8x64, .f32⟩
  | .hbm, ⟨71, _⟩ => ⟨S31x128x8x64, .f32⟩
  | .hbm, ⟨72, _⟩ => ⟨S32x128x8x64, .f32⟩
  | .hbm, ⟨73, _⟩ => ⟨S32x256x8x64, .f32⟩
  | .hbm, ⟨74, _⟩ => ⟨S1x4x512x256, .f32⟩
  | .hbm, ⟨75, _⟩ => ⟨S1x4x512x256, .f32⟩
  | .hbm, ⟨76, _⟩ => ⟨S31x4x512x256, .f32⟩
  | .hbm, ⟨77, _⟩ => ⟨S32x4x512x256, .f32⟩
  | .hbm, ⟨78, _⟩ => ⟨S32x128x4x4x64, .f32⟩
  | .hbm, ⟨79, _⟩ => ⟨S32x256x4x64, .f32⟩
  | .hbm, ⟨80, _⟩ => ⟨S32x4x256x128x4, .f32⟩
  | .hbm, ⟨81, _⟩ => ⟨S32x4x4x128x256, .f32⟩
  | .hbm, ⟨82, _⟩ => ⟨S32x4x4x128x256, .f32⟩
  | .hbm, ⟨83, _⟩ => ⟨S32x4x4x128x256, .f32⟩
  | .hbm, ⟨84, _⟩ => ⟨S_, .f32⟩
  | .hbm, ⟨85, _⟩ => ⟨S32x4x4x128, .f32⟩
  | .hbm, ⟨86, _⟩ => ⟨S32x4x4x128x256, .f32⟩
  | .hbm, ⟨87, _⟩ => ⟨S32x4x4x128x256, .f32⟩
  | .hbm, ⟨88, _⟩ => ⟨S32x4x4x128x256, .f32⟩
  | .hbm, ⟨89, _⟩ => ⟨S_, .f32⟩
  | .hbm, ⟨90, _⟩ => ⟨S32x4x4x128, .f32⟩
  | .hbm, ⟨91, _⟩ => ⟨S32x256x4x64, .f32⟩
  | .hbm, ⟨92, _⟩ => ⟨S32x4x4x128x64, .f32⟩
  | .hbm, ⟨93, _⟩ => ⟨S32x4x4x128x64, .f32⟩
  | .hbm, ⟨94, _⟩ => ⟨S32x4x4x128x64, .f32⟩
  | .hbm, ⟨95, _⟩ => ⟨S32x128x4x4x64, .f32⟩
  | .hbm, ⟨96, _⟩ => ⟨S32x4x4x128, .f32⟩
  | .hbm, ⟨97, _⟩ => ⟨S32x128x4x4, .f32⟩
  | .hbm, ⟨98, _⟩ => ⟨S32x4x4x128, .f32⟩
  | .hbm, ⟨99, _⟩ => ⟨S32x4x4x128, .f32⟩
  | .hbm, ⟨100, _⟩ => ⟨S32x4x4x128, .f32⟩
  | .hbm, ⟨101, _⟩ => ⟨S32x4x4x128, .f32⟩
  | .hbm, ⟨102, _⟩ => ⟨S64x4x4x128, .f32⟩
  | .hbm, ⟨103, _⟩ => ⟨S4x64x128x4, .f32⟩
  | .hbm, ⟨104, _⟩ => ⟨S4x64x128x4, .f32⟩
  | .hbm, ⟨105, _⟩ => ⟨S4x64x128x4, .bf16⟩
  | .hbm, ⟨106, _⟩ => ⟨S4x64x128x4, .f32⟩
  | .hbm, ⟨107, _⟩ => ⟨S4x64x128x4, .f32⟩
  | .hbm, ⟨108, _⟩ => ⟨S4x64x128x4, .bf16⟩
  | .hbm, ⟨109, _⟩ => ⟨S4x64x128x4, .f32⟩
  | .hbm, ⟨110, _⟩ => ⟨S4x64x128x4, .f32⟩
  | .hbm, ⟨111, _⟩ => ⟨S_, .f32⟩
  | .hbm, ⟨112, _⟩ => ⟨S4x64x128x116, .f32⟩
  | .hbm, ⟨113, _⟩ => ⟨S4x64x128x128, .f32⟩
  | .hbm, ⟨114, _⟩ => ⟨S4x8192x128, .f32⟩
  | .hbm, ⟨115, _⟩ => ⟨S4096x8x128, .f32⟩
  | .hbm, ⟨116, _⟩ => ⟨S8x4096x128, .f32⟩
  | .hbm, ⟨117, _⟩ => ⟨S4096x2x128, .f32⟩
  | .hbm, ⟨118, _⟩ => ⟨S2x4096x128, .f32⟩
  | .hbm, ⟨119, _⟩ => ⟨S4096x2x128, .f32⟩
  | .hbm, ⟨120, _⟩ => ⟨S2x4096x128, .f32⟩
  | .hbm, ⟨121, _⟩ => ⟨S4096x8x128, .f32⟩
  | .hbm, ⟨122, _⟩ => ⟨S8x4096x128, .f32⟩
  | .hbm, ⟨123, _⟩ => ⟨S4x4096x128, .f32⟩
  | .hbm, ⟨124, _⟩ => ⟨S4x4096x128, .f32⟩
  | .hbm, ⟨125, _⟩ => ⟨S8x4096x128, .f32⟩
  | .hbm, ⟨126, _⟩ => ⟨S4x4096x128, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S2x1x512x256, .f32⟩
  | .local _ .vmem, ⟨13, _⟩ => ⟨S2x1x512x256, .f32⟩
  | .local _ .vmem, ⟨14, _⟩ => ⟨S2x2048x128, .f32⟩
  | .local _ .vmem, ⟨15, _⟩ => ⟨S2x2048x128, .f32⟩
  | .local _ .vmem, ⟨16, _⟩ => ⟨S1x4096x128, .f32⟩
  | .local _ .vmem, ⟨17, _⟩ => ⟨S1x4096x128, .f32⟩
  | .local _ .vmem, ⟨18, _⟩ => ⟨S4096x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101_0 : Ref sig .tc := ⟨.hbm, 125, rfl⟩
abbrev main_v101_1 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_6 : BitVec 32 := 0#32
  let c16_i32 : BitVec 32 := 16#32
  let v20 : BitVec 32 := Scalar.addi c0_i32_6 c16_i32
  let c1_i32_7 : BitVec 32 := 1#32
  ⟨c0_i32_6, v20, c1_i32_7⟩
def k0_mult1 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  v29
def k0_mult2 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let c128_i32_14 : BitVec 32 := 128#32
  let v30 : BitVec 32 := Scalar.subi v29 c128_i32_14
  let v31 : BitVec 32 := Scalar.maxsi v30 v27
  v31
def k0_mult3 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let c2048_i32 : BitVec 32 := 2048#32
  let v34 : BitVec 32 := Scalar.muli arg1 c2048_i32
  let v35 : BitVec 32 := Scalar.subi v29 v34
  v35
def k0_off1 (i : grid0.Coords) (k0_t1 : Fin k0_t1_loop.trips) : Fin 3 → Nat :=
  let c0 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let c2048_i32 : BitVec 32 := 2048#32
  let v34 : BitVec 32 := Scalar.muli arg1 c2048_i32
  let v35 : BitVec 32 := Scalar.subi v29 v34
  let v36 : BitVec 32 := v35
  let v40 : Index := Scalar.indexCast v36
  let c0_15 : Index := 0#32
  ![0, v40.toNat, 0]
def k0_off2 (i : grid0.Coords) (k0_t1 : Fin k0_t1_loop.trips) : Fin 3 → Nat :=
  let c1 : Index := 1#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let c2048_i32 : BitVec 32 := 2048#32
  let v34 : BitVec 32 := Scalar.muli arg1 c2048_i32
  let v35 : BitVec 32 := Scalar.subi v29 v34
  let v36 : BitVec 32 := v35
  let v43 : Index := Scalar.indexCast v36
  let c0_16 : Index := 0#32
  ![1, v43.toNat, 0]
def k0_off3 (i : grid0.Coords) (k0_t1 : Fin k0_t1_loop.trips) : Fin 3 → Nat :=
  let c0_29 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let c128_i32_14 : BitVec 32 := 128#32
  let v30 : BitVec 32 := Scalar.subi v29 c128_i32_14
  let v31 : BitVec 32 := Scalar.maxsi v30 v27
  let v33 : BitVec 32 := v31
  let v75 : Index := Scalar.indexCast v33
  let c0_30 : Index := 0#32
  ![0, v75.toNat, 0]
def k0_off4 (i : grid0.Coords) (k0_t1 : Fin k0_t1_loop.trips) : Fin 3 → Nat :=
  let c0_31 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let v32 : BitVec 32 := v29
  let v78 : Index := Scalar.indexCast v32
  let c0_32 : Index := 0#32
  ![0, v78.toNat, 0]
def k0_off5 (i : grid0.Coords) (k0_t1 : Fin k0_t1_loop.trips) : Fin 3 → Nat :=
  let c0_41 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c128_i32 : BitVec 32 := 128#32
  let v28 : BitVec 32 := Scalar.muli v26 c128_i32
  let c0_i32_13 : BitVec 32 := 0#32
  let v27 : BitVec 32 := Scalar.andi v25 c0_i32_13
  let v29 : BitVec 32 := Scalar.addi v28 v27
  let c2048_i32 : BitVec 32 := 2048#32
  let v34 : BitVec 32 := Scalar.muli arg1 c2048_i32
  let v35 : BitVec 32 := Scalar.subi v29 v34
  let v36 : BitVec 32 := v35
  let v105 : Index := Scalar.indexCast v36
  let c0_42 : Index := 0#32
  ![0, v105.toNat, 0]
def k0_off6 (i : grid0.Coords) (k0_t1 : Fin k0_t1_loop.trips) : Fin 4 → Nat :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c1_i32_53 : BitVec 32 := 1#32
  let v136 : BitVec 32 := Scalar.minsi v26 c1_i32_53
  let v137 : Index := Scalar.indexCast v136
  let c0_54 : Index := 0#32
  let c0_55 : Index := 0#32
  let c0_56 : Index := 0#32
  ![v137.toNat, 0, 0, 0]
def k0_mult4 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c128_i32_82 : BitVec 32 := 128#32
  let v204 : BitVec 32 := Scalar.muli v25 c128_i32_82
  v204
def k0_off7 (i : grid0.Coords) (k0_t1 : Fin k0_t1_loop.trips) : Fin 2 → Nat :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c128_i32_82 : BitVec 32 := 128#32
  let v204 : BitVec 32 := Scalar.muli v25 c128_i32_82
  let v205 : BitVec 32 := v204
  let v206 : Index := Scalar.indexCast v205
  let c0_83 : Index := 0#32
  ![v206.toNat, 0]
def k0_mult5 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c128_i32_84 : BitVec 32 := 128#32
  let v210 : BitVec 32 := Scalar.muli v25 c128_i32_84
  v210
def k0_mult6 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c1_i32_86 : BitVec 32 := 1#32
  let v216 : BitVec 1 := Scalar.cmpi .sge v26 c1_i32_86
  let c1_i32_87 : BitVec 32 := 1#32
  let v217 : BitVec 32 := Scalar.subi v25 c1_i32_87
  let v218 : BitVec 32 := Scalar.select v216 v217 v25
  let c128_i32_88 : BitVec 32 := 128#32
  let v219 : BitVec 32 := Scalar.muli v218 c128_i32_88
  v219
def k0_off8 (i : grid0.Coords) (k0_t1 : Fin k0_t1_loop.trips) : Fin 2 → Nat :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c1_i32_86 : BitVec 32 := 1#32
  let v216 : BitVec 1 := Scalar.cmpi .sge v26 c1_i32_86
  let c1_i32_87 : BitVec 32 := 1#32
  let v217 : BitVec 32 := Scalar.subi v25 c1_i32_87
  let v218 : BitVec 32 := Scalar.select v216 v217 v25
  let c128_i32_88 : BitVec 32 := 128#32
  let v219 : BitVec 32 := Scalar.muli v218 c128_i32_88
  let v220 : BitVec 32 := v219
  let v221 : Index := Scalar.indexCast v220
  let c0_89 : Index := 0#32
  ![v221.toNat, 0]
def k0_mult7 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c0_i32_12 : BitVec 32 := 0#32
  let v26 : BitVec 32 := Scalar.shrui v25 c0_i32_12
  let c1_i32_86 : BitVec 32 := 1#32
  let v216 : BitVec 1 := Scalar.cmpi .sge v26 c1_i32_86
  let c1_i32_87 : BitVec 32 := 1#32
  let v217 : BitVec 32 := Scalar.subi v25 c1_i32_87
  let v218 : BitVec 32 := Scalar.select v216 v217 v25
  let c128_i32_90 : BitVec 32 := 128#32
  let v225 : BitVec 32 := Scalar.muli v218 c128_i32_90
  v225
def k0_cond2 (i : grid0.Coords) : BitVec 1 :=
  let arg1 : BitVec 32 := BitVec.ofNat 32 (i 1).val
  let c1_i32_9 : BitVec 32 := 1#32
  let v21 : BitVec 1 := Scalar.cmpi .eq arg1 c1_i32_9
  let v22 : BitVec 32 := Scalar.extui v21
  let c0_i32_10 : BitVec 32 := 0#32
  let v23 : BitVec 1 := Scalar.cmpi .ne v22 c0_i32_10
  v23

@[reducible] def k0_t2_loop : Scf.Loop 32 :=
  let c0_i32_11 : BitVec 32 := 0#32
  let c32_i32 : BitVec 32 := 32#32
  let v24 : BitVec 32 := Scalar.addi c0_i32_11 c32_i32
  let c1_i32_12 : BitVec 32 := 1#32
  ⟨c0_i32_11, v24, c1_i32_12⟩
def k0_mult8 (k0_t2 : Fin k0_t2_loop.trips) : BitVec 32 :=
  let c0_i32_11 : BitVec 32 := 0#32
  let c1_i32_12 : BitVec 32 := 1#32
  let arg12 : BitVec 32 := Scf.iv c0_i32_11 c1_i32_12 k0_t2
  let c128_i32_16 : BitVec 32 := 128#32
  let v29 : BitVec 32 := Scalar.muli arg12 c128_i32_16
  v29
def k0_off9 (k0_t2 : Fin k0_t2_loop.trips) : Fin 2 → Nat :=
  let c0_i32_11 : BitVec 32 := 0#32
  let c1_i32_12 : BitVec 32 := 1#32
  let arg12 : BitVec 32 := Scf.iv c0_i32_11 c1_i32_12 k0_t2
  let c128_i32_16 : BitVec 32 := 128#32
  let v29 : BitVec 32 := Scalar.muli arg12 c128_i32_16
  let v30 : BitVec 32 := v29
  let v31 : Index := Scalar.indexCast v30
  let c0 : Index := 0#32
  ![v31.toNat, 0]
def k0_mult9 (k0_t2 : Fin k0_t2_loop.trips) : BitVec 32 :=
  let c0_i32_11 : BitVec 32 := 0#32
  let c1_i32_12 : BitVec 32 := 1#32
  let arg12 : BitVec 32 := Scf.iv c0_i32_11 c1_i32_12 k0_t2
  let c0_i32_14 : BitVec 32 := 0#32
  let v25 : BitVec 32 := Scalar.shrui arg12 c0_i32_14
  let c128_i32 : BitVec 32 := 128#32
  let v27 : BitVec 32 := Scalar.muli v25 c128_i32
  let c0_i32_15 : BitVec 32 := 0#32
  let v26 : BitVec 32 := Scalar.andi arg12 c0_i32_15
  let v28 : BitVec 32 := Scalar.addi v27 v26
  v28
def k0_off10 (k0_t2 : Fin k0_t2_loop.trips) : Fin 3 → Nat :=
  let c0_17 : Index := 0#32
  let c0_i32_11 : BitVec 32 := 0#32
  let c1_i32_12 : BitVec 32 := 1#32
  let arg12 : BitVec 32 := Scf.iv c0_i32_11 c1_i32_12 k0_t2
  let c0_i32_14 : BitVec 32 := 0#32
  let v25 : BitVec 32 := Scalar.shrui arg12 c0_i32_14
  let c128_i32 : BitVec 32 := 128#32
  let v27 : BitVec 32 := Scalar.muli v25 c128_i32
  let c0_i32_15 : BitVec 32 := 0#32
  let v26 : BitVec 32 := Scalar.andi arg12 c0_i32_15
  let v28 : BitVec 32 := Scalar.addi v27 v26
  let v33 : BitVec 32 := v28
  let v34 : Index := Scalar.indexCast v33
  let c0_18 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S1x4096x1024 : Shape := ⟨3, ![1, 4096, 1024]⟩
abbrev S1x4096x256 : Shape := ⟨3, ![1, 4096, 256]⟩
abbrev S1x4096x16 : Shape := ⟨3, ![1, 4096, 16]⟩
abbrev S16 : Shape := ⟨1, ![16]⟩
abbrev S_ : Shape := ⟨0, ![]⟩
abbrev S4x4 : Shape := ⟨2, ![4, 4]⟩
abbrev S1x4096x4x4x64 : Shape := ⟨5, ![1, 4096, 4, 4, 64]⟩
abbrev S1x4096x4x64 : Shape := ⟨4, ![1, 4096, 4, 64]⟩
abbrev S1x4096x1x4x4x64 : Shape := ⟨6, ![1, 4096, 1, 4, 4, 64]⟩
abbrev S1x1x4096x4x4x64 : Shape := ⟨6, ![1, 1, 4096, 4, 4, 64]⟩
abbrev S1x1x32x128x4x4x64 : Shape := ⟨7, ![1, 1, 32, 128, 4, 4, 64]⟩
abbrev S1x4096x1x4x64 : Shape := ⟨5, ![1, 4096, 1, 4, 64]⟩
abbrev S1x1x4096x4x64 : Shape := ⟨5, ![1, 1, 4096, 4, 64]⟩
abbrev S1x1x32x128x4x64 : Shape := ⟨6, ![1, 1, 32, 128, 4, 64]⟩
abbrev S1x1x1x128x4x64 : Shape := ⟨6, ![1, 1, 1, 128, 4, 64]⟩
abbrev S1x1x31x128x4x64 : Shape := ⟨6, ![1, 1, 31, 128, 4, 64]⟩
abbrev S1x1x32x256x4x64 : Shape := ⟨6, ![1, 1, 32, 256, 4, 64]⟩
abbrev S1x1x32x4x256x128x4 : Shape := ⟨7, ![1, 1, 32, 4, 256, 128, 4]⟩
abbrev S1x1x32x4x4x128x256 : Shape := ⟨7, ![1, 1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S32x1x1x128x256 : Shape := ⟨5, ![32, 1, 1, 128, 256]⟩
abbrev S1x1x1x4x4x128x256 : Shape := ⟨7, ![1, 1, 1, 4, 4, 128, 256]⟩
abbrev S1x1x32x4x4x128 : Shape := ⟨6, ![1, 1, 32, 4, 4, 128]⟩
abbrev S1x1x32x4x4x128x1 : Shape := ⟨7, ![1, 1, 32, 4, 4, 128, 1]⟩
abbrev S1x1x32x4x64x4x128 : Shape := ⟨7, ![1, 1, 32, 4, 64, 4, 128]⟩
abbrev S1x1x32x128x4x4 : Shape := ⟨6, ![1, 1, 32, 128, 4, 4]⟩
abbrev S1x1x32x128x4x4x1 : Shape := ⟨7, ![1, 1, 32, 128, 4, 4, 1]⟩
abbrev S1x1x4096x4x4 : Shape := ⟨5, ![1, 1, 4096, 4, 4]⟩
abbrev S1x4096x1x4x4 : Shape := ⟨5, ![1, 4096, 1, 4, 4]⟩
abbrev S1x4096x4x4 : Shape := ⟨4, ![1, 4096, 4, 4]⟩
abbrev S32x128x4x4 : Shape := ⟨4, ![32, 128, 4, 4]⟩
abbrev S1x1x32x4x64x256 : Shape := ⟨6, ![1, 1, 32, 4, 64, 256]⟩
abbrev S32x4x4x128 : Shape := ⟨4, ![32, 4, 4, 128]⟩
abbrev S1x1x32x4x128x4x64 : Shape := ⟨7, ![1, 1, 32, 4, 128, 4, 64]⟩
abbrev S1x1x32x4x256x64 : Shape := ⟨6, ![1, 1, 32, 4, 256, 64]⟩
abbrev S4096x1024 : Shape := ⟨2, ![4096, 1024]⟩
abbrev S4096x16x64 : Shape := ⟨3, ![4096, 16, 64]⟩
abbrev S4096x8x2x64 : Shape := ⟨4, ![4096, 8, 2, 64]⟩
abbrev S8x4096x2x64 : Shape := ⟨4, ![8, 4096, 2, 64]⟩
abbrev S8x4096x128 : Shape := ⟨3, ![8, 4096, 128]⟩
abbrev S4096x256 : Shape := ⟨2, ![4096, 256]⟩
abbrev S4096x4x64 : Shape := ⟨3, ![4096, 4, 64]⟩
abbrev S4x4096x64 : Shape := ⟨3, ![4, 4096, 64]⟩
abbrev S4x4096x1x64 : Shape := ⟨4, ![4, 4096, 1, 64]⟩
abbrev S4x4096x2x64 : Shape := ⟨4, ![4, 4096, 2, 64]⟩
abbrev S4x4096x128 : Shape := ⟨3, ![4, 4096, 128]⟩

abbrev nBuf : Space → Nat
  | .hbm => 257
  | .vmem => 0
  | .smem => 0
  | _ => 0

abbrev hbmTy0_0 (i : Nat) : BufTy := match i % 128 with
  | 0 => ⟨S1x4096x1024, .f32⟩
  | 1 => ⟨S1x4096x256, .f32⟩
  | 2 => ⟨S1x4096x256, .f32⟩
  | 3 => ⟨S1x4096x1024, .f32⟩
  | 4 => ⟨S1x4096x16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S4x4, .f32⟩
  | 20 => ⟨S1x4096x4x4x64, .f32⟩
  | 21 => ⟨S1x4096x4x64, .f32⟩
  | 22 => ⟨S1x4096x4x64, .f32⟩
  | 23 => ⟨S1x4096x1x4x4x64, .f32⟩
  | 24 => ⟨S1x1x4096x4x4x64, .f32⟩
  | 25 => ⟨S_, .i32⟩
  | 26 => ⟨S_, .f32⟩
  | 27 => ⟨S1x1x4096x4x4x64, .f32⟩
  | 28 => ⟨S_, .f32⟩
  | 29 => ⟨S1x1x32x128x4x4x64, .f32⟩
  | 30 => ⟨S1x4096x1x4x64, .f32⟩
  | 31 => ⟨S1x1x4096x4x64, .f32⟩
  | 32 => ⟨S_, .i32⟩
  | 33 => ⟨S_, .f32⟩
  | 34 => ⟨S1x1x4096x4x64, .f32⟩
  | 35 => ⟨S_, .f32⟩
  | 36 => ⟨S1x1x32x128x4x64, .f32⟩
  | 37 => ⟨S1x1x1x128x4x64, .f32⟩
  | 38 => ⟨S_, .f32⟩
  | 39 => ⟨S1x1x1x128x4x64, .f32⟩
  | 40 => ⟨S1x1x31x128x4x64, .f32⟩
  | 41 => ⟨S1x1x32x128x4x64, .f32⟩
  | 42 => ⟨S_, .f32⟩
  | 43 => ⟨S1x1x1x128x4x64, .f32⟩
  | 44 => ⟨S1x1x32x256x4x64, .f32⟩
  | 45 => ⟨S1x4096x1x4x64, .f32⟩
  | 46 => ⟨S1x1x4096x4x64, .f32⟩
  | 47 => ⟨S_, .i32⟩
  | 48 => ⟨S_, .f32⟩
  | 49 => ⟨S1x1x4096x4x64, .f32⟩
  | 50 => ⟨S_, .f32⟩
  | 51 => ⟨S1x1x32x128x4x64, .f32⟩
  | 52 => ⟨S1x1x1x128x4x64, .f32⟩
  | 53 => ⟨S_, .f32⟩
  | 54 => ⟨S1x1x1x128x4x64, .f32⟩
  | 55 => ⟨S1x1x31x128x4x64, .f32⟩
  | 56 => ⟨S1x1x32x128x4x64, .f32⟩
  | 57 => ⟨S_, .f32⟩
  | 58 => ⟨S1x1x1x128x4x64, .f32⟩
  | 59 => ⟨S1x1x32x256x4x64, .f32⟩
  | 60 => ⟨S1x1x32x4x256x128x4, .f32⟩
  | 61 => ⟨S1x1x32x4x4x128x256, .f32⟩
  | 62 => ⟨S128, .i32⟩
  | 63 => ⟨S128x1, .i32⟩
  | 64 => ⟨S256, .i32⟩
  | 65 => ⟨S1x256, .i32⟩
  | 66 => ⟨S_, .i32⟩
  | 67 => ⟨S128x1, .i32⟩
  | 68 => ⟨S128x1, .i32⟩
  | 69 => ⟨S128x256, .i32⟩
  | 70 => ⟨S128x256, .i32⟩
  | 71 => ⟨S128x256, .i32⟩
  | 72 => ⟨S32, .i32⟩
  | 73 => ⟨S32x1x1, .i32⟩
  | 74 => ⟨S_, .i32⟩
  | 75 => ⟨S32x1x1, .i32⟩
  | 76 => ⟨S32x1x1, .i32⟩
  | 77 => ⟨S_, .i32⟩
  | 78 => ⟨S32x1x1, .i32⟩
  | 79 => ⟨S32x1x1, .i32⟩
  | 80 => ⟨S1x1x256, .i32⟩
  | 81 => ⟨S32x1x256, .i32⟩
  | 82 => ⟨S32x1x256, .i32⟩
  | 83 => ⟨S32x1x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i1⟩
  | 90 => ⟨S128x256, .i1⟩
  | 91 => ⟨S_, .i32⟩
  | 92 => ⟨S32x1x256, .i32⟩
  | 93 => ⟨S32x1x256, .i1⟩
  | 94 => ⟨S1x128x256, .i1⟩
  | 95 => ⟨S32x128x256, .i1⟩
  | 96 => ⟨S32x128x256, .i1⟩
  | 97 => ⟨S32x128x256, .i1⟩
  | 98 => ⟨S4x4x1x1, .f32⟩
  | 99 => ⟨S4x4x1x1, .f32⟩
  | 100 => ⟨S_, .i32⟩
  | 101 => ⟨S128x256, .i32⟩
  | 102 => ⟨S128x256, .i32⟩
  | 103 => ⟨S128x256, .f32⟩
  | 104 => ⟨S1x1x128x256, .f32⟩
  | 105 => ⟨S4x4x128x256, .f32⟩
  | 106 => ⟨S4x4x128x256, .f32⟩
  | 107 => ⟨S4x4x128x256, .f32⟩
  | 108 => ⟨S32x1x1x128x256, .i1⟩
  | 109 => ⟨S1x1x1x4x4x128x256, .f32⟩
  | 110 => ⟨S1x1x32x4x4x128x256, .f32⟩
  | 111 => ⟨S1x1x32x4x4x128x256, .f32⟩
  | 112 => ⟨S_, .f32⟩
  | 113 => ⟨S_, .f32⟩
  | 114 => ⟨S1x1x32x4x4x128x256, .i1⟩
  | 115 => ⟨S1x1x32x4x4x128x256, .f32⟩
  | 116 => ⟨S1x1x32x4x4x128x256, .f32⟩
  | 117 => ⟨S_, .f32⟩
  | 118 => ⟨S1x1x32x4x4x128x256, .f32⟩
  | 119 => ⟨S_, .f32⟩
  | 120 => ⟨S1x1x32x4x4x128, .f32⟩
  | 121 => ⟨S1x1x32x4x4x128x1, .f32⟩
  | 122 => ⟨S1x1x32x4x4x128x256, .f32⟩
  | 123 => ⟨S1x1x32x4x4x128x256, .i1⟩
  | 124 => ⟨S1x1x32x4x4x128x256, .f32⟩
  | 125 => ⟨S_, .f32⟩
  | 126 => ⟨S1x1x32x4x4x128, .f32⟩
  | 127 => ⟨S1x1x32x4x4x128x1, .f32⟩
  | _ => ⟨S1x4096x1024, .f32⟩

abbrev hbmTy0_1 (i : Nat) : BufTy := match i % 128 with
  | 0 => ⟨S1x1x32x4x4x128x256, .f32⟩
  | 1 => ⟨S1x1x32x4x4x128x256, .f32⟩
  | 2 => ⟨S1x1x32x4x4x128x256, .f32⟩
  | 3 => ⟨S_, .f32⟩
  | 4 => ⟨S1x1x32x4x4x128, .f32⟩
  | 5 => ⟨S1x1x32x4x64x4x128, .f32⟩
  | 6 => ⟨S1x1x32x128x4x4x64, .f32⟩
  | 7 => ⟨S1x1x32x128x4x4, .f32⟩
  | 8 => ⟨S1x1x32x128x4x4x1, .f32⟩
  | 9 => ⟨S1x1x32x128x4x4x64, .f32⟩
  | 10 => ⟨S1x1x32x128x4x4x64, .f32⟩
  | 11 => ⟨S1x1x32x128x4x4x1, .f32⟩
  | 12 => ⟨S_, .f32⟩
  | 13 => ⟨S1x1x32x128x4x4x1, .f32⟩
  | 14 => ⟨S1x1x32x128x4x4x1, .f32⟩
  | 15 => ⟨S1x1x32x4x4x128, .f32⟩
  | 16 => ⟨S1x1x32x128x4x4, .f32⟩
  | 17 => ⟨S1x1x32x128x4x4, .f32⟩
  | 18 => ⟨S1x1x32x128x4x4, .f32⟩
  | 19 => ⟨S1x1x4096x4x4x64, .f32⟩
  | 20 => ⟨S1x4096x1x4x4x64, .f32⟩
  | 21 => ⟨S1x4096x4x4x64, .f32⟩
  | 22 => ⟨S1x1x4096x4x4, .f32⟩
  | 23 => ⟨S1x4096x1x4x4, .f32⟩
  | 24 => ⟨S1x4096x4x4, .f32⟩
  | 25 => ⟨S1x4096x1024, .f32⟩
  | 26 => ⟨S1x4096x16, .f32⟩
  | 27 => ⟨S1x4096x4x4, .f32⟩
  | 28 => ⟨S1x4096x4x4x64, .f32⟩
  | 29 => ⟨S1x4096x1x4x4, .f32⟩
  | 30 => ⟨S1x1x4096x4x4, .f32⟩
  | 31 => ⟨S1x1x32x128x4x4, .f32⟩
  | 32 => ⟨S1x4096x1x4x4x64, .f32⟩
  | 33 => ⟨S1x1x4096x4x4x64, .f32⟩
  | 34 => ⟨S1x1x32x128x4x4x64, .f32⟩
  | 35 => ⟨S1x1x32x128x4x4, .f32⟩
  | 36 => ⟨S1x1x32x4x4x128, .f32⟩
  | 37 => ⟨S1x1x32x4x4x128x1, .f32⟩
  | 38 => ⟨S1x1x32x128x4x4x64, .f32⟩
  | 39 => ⟨S1x1x32x128x4x4x64, .f32⟩
  | 40 => ⟨S1x1x32x128x4x4x64, .f32⟩
  | 41 => ⟨S_, .f32⟩
  | 42 => ⟨S1x1x32x128x4x4, .f32⟩
  | 43 => ⟨S1x1x32x128x4x4x1, .f32⟩
  | 44 => ⟨S1x1x32x128x4x4x1, .f32⟩
  | 45 => ⟨S1x1x32x128x4x4x64, .f32⟩
  | 46 => ⟨S1x1x32x128x4x4x64, .f32⟩
  | 47 => ⟨S_, .f32⟩
  | 48 => ⟨S32x128x4x4, .f32⟩
  | 49 => ⟨S1x1x32x128x4x4, .f32⟩
  | 50 => ⟨S1x1x32x128x4x4, .f32⟩
  | 51 => ⟨S1x1x32x4x4x128, .f32⟩
  | 52 => ⟨S1x1x32x4x64x4x128, .f32⟩
  | 53 => ⟨S1x1x32x4x4x128x256, .f32⟩
  | 54 => ⟨S1x1x32x4x64x256, .f32⟩
  | 55 => ⟨S1x1x32x256x4x64, .f32⟩
  | 56 => ⟨S1x1x32x4x4x128x256, .f32⟩
  | 57 => ⟨S1x1x32x4x4x128x256, .f32⟩
  | 58 => ⟨S1x1x32x4x4x128x256, .f32⟩
  | 59 => ⟨S1x1x32x4x4x128x256, .f32⟩
  | 60 => ⟨S_, .f32⟩
  | 61 => ⟨S1x1x32x4x4x128, .f32⟩
  | 62 => ⟨S1x1x32x4x4x128x1, .f32⟩
  | 63 => ⟨S1x1x32x4x4x128x1, .f32⟩
  | 64 => ⟨S_, .f32⟩
  | 65 => ⟨S32x4x4x128, .f32⟩
  | 66 => ⟨S1x1x32x4x4x128, .f32⟩
  | 67 => ⟨S1x1x32x4x4x128, .f32⟩
  | 68 => ⟨S1x1x32x4x4x128x256, .f32⟩
  | 69 => ⟨S1x1x32x4x4x128x256, .f32⟩
  | 70 => ⟨S1x1x32x4x4x128x256, .f32⟩
  | 71 => ⟨S_, .f32⟩
  | 72 => ⟨S1x1x32x4x4x128x256, .f32⟩
  | 73 => ⟨S1x1x32x4x4x128x256, .f32⟩
  | 74 => ⟨S1x1x32x4x256x128x4, .f32⟩
  | 75 => ⟨S1x1x32x4x128x4x64, .f32⟩
  | 76 => ⟨S1x1x32x128x4x4x64, .f32⟩
  | 77 => ⟨S1x1x32x4x256x64, .f32⟩
  | 78 => ⟨S1x1x32x256x4x64, .f32⟩
  | 79 => ⟨S1x1x32x128x4x64, .f32⟩
  | 80 => ⟨S1x1x32x128x4x64, .f32⟩
  | 81 => ⟨S1x1x1x128x4x64, .f32⟩
  | 82 => ⟨S1x1x31x128x4x64, .f32⟩
  | 83 => ⟨S_, .f32⟩
  | 84 => ⟨S1x1x32x128x4x64, .f32⟩
  | 85 => ⟨S1x1x32x128x4x64, .f32⟩
  | 86 => ⟨S1x1x4096x4x64, .f32⟩
  | 87 => ⟨S_, .f32⟩
  | 88 => ⟨S1x1x4096x4x64, .f32⟩
  | 89 => ⟨S1x1x4096x4x64, .f32⟩
  | 90 => ⟨S1x4096x1x4x64, .f32⟩
  | 91 => ⟨S1x4096x4x64, .f32⟩
  | 92 => ⟨S1x1x32x128x4x64, .f32⟩
  | 93 => ⟨S1x1x32x128x4x64, .f32⟩
  | 94 => ⟨S1x1x1x128x4x64, .f32⟩
  | 95 => ⟨S1x1x31x128x4x64, .f32⟩
  | 96 => ⟨S_, .f32⟩
  | 97 => ⟨S1x1x32x128x4x64, .f32⟩
  | 98 => ⟨S1x1x32x128x4x64, .f32⟩
  | 99 => ⟨S1x1x4096x4x64, .f32⟩
  | 100 => ⟨S_, .f32⟩
  | 101 => ⟨S1x1x4096x4x64, .f32⟩
  | 102 => ⟨S1x1x4096x4x64, .f32⟩
  | 103 => ⟨S1x4096x1x4x64, .f32⟩
  | 104 => ⟨S1x4096x4x64, .f32⟩
  | 105 => ⟨S1x1x4096x4x4x64, .f32⟩
  | 106 => ⟨S_, .f32⟩
  | 107 => ⟨S1x1x4096x4x4x64, .f32⟩
  | 108 => ⟨S1x1x4096x4x4x64, .f32⟩
  | 109 => ⟨S1x4096x1x4x4x64, .f32⟩
  | 110 => ⟨S1x4096x4x4x64, .f32⟩
  | 111 => ⟨S1x4096x256, .f32⟩
  | 112 => ⟨S1x4096x256, .f32⟩
  | 113 => ⟨S1x4096x1024, .f32⟩
  | 114 => ⟨S4096x1024, .f32⟩
  | 115 => ⟨S4096x16x64, .f32⟩
  | 116 => ⟨S4096x8x2x64, .f32⟩
  | 117 => ⟨S8x4096x2x64, .f32⟩
  | 118 => ⟨S8x4096x128, .f32⟩
  | 119 => ⟨S4096x256, .f32⟩
  | 120 => ⟨S4096x4x64, .f32⟩
  | 121 => ⟨S4x4096x64, .f32⟩
  | 122 => ⟨S4096x256, .f32⟩
  | 123 => ⟨S4096x4x64, .f32⟩
  | 124 => ⟨S4x4096x64, .f32⟩
  | 125 => ⟨S4x4096x1x64, .f32⟩
  | 126 => ⟨S4x4096x1x64, .f32⟩
  | 127 => ⟨S4x4096x2x64, .f32⟩
  | _ => ⟨S1x4096x1024, .f32⟩

abbrev hbmTy0_2 (i : Nat) : BufTy := match i % 128 with
  | 0 => ⟨S4x4096x128, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call1_v0 : Ref sig .tc := ⟨.hbm, 33, rfl⟩
abbrev main_v20_0 : Ref sig .tc := ⟨.hbm, 34, rfl⟩
abbrev main_v20_1 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call2_v0 : Ref sig .tc := ⟨.hbm, 48, rfl⟩
abbrev main_v30_0 : Ref sig .tc := ⟨.hbm, 49, rfl⟩
abbrev main_v30_1 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_call3_v0 : Ref sig .tc := ⟨.hbm, 113, rfl⟩
abbrev main_v83_1 : Ref sig .tc := ⟨.hbm, 114, rfl⟩
abbrev main_call3_v2 : Ref sig .tc := ⟨.hbm, 115, rfl⟩
abbrev main_v83_0 : Ref sig .tc := ⟨.hbm, 116, rfl⟩
abbrev main_call3_cst : Ref sig .tc := ⟨.hbm, 117, rfl⟩
abbrev main_v83_2 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_21 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_22 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_23 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_24 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_call4_cst : Ref sig .tc := ⟨.hbm, 199, rfl⟩
abbrev main_call4_v0 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_25 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_call5_cst : Ref sig .tc := ⟨.hbm, 215, rfl⟩
abbrev main_call5_v0 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_26 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_call6_cst : Ref sig .tc := ⟨.hbm, 228, rfl⟩
abbrev main_call6_v0 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_call7_cst : Ref sig .tc := ⟨.hbm, 234, rfl⟩
abbrev main_call7_v0 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x4096x256 : Shape := ⟨3, ![1, 4096, 256]⟩
abbrev S1x4096x16 : Shape := ⟨3, ![1, 4096, 16]⟩
abbrev S16 : Shape := ⟨1, ![16]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S16x128x256 : Shape := ⟨3, ![16, 128, 256]⟩
abbrev S2x128x256 : Shape := ⟨3, ![2, 128, 256]⟩
abbrev S2x1x128x256 : Shape := ⟨4, ![2, 1, 128, 256]⟩
abbrev S1x16x128x256 : Shape := ⟨4, ![1, 16, 128, 256]⟩
abbrev S2x16x128x256 : Shape := ⟨4, ![2, 16, 128, 256]⟩
abbrev S2x4x512x256 : Shape := ⟨4, ![2, 4, 512, 256]⟩
abbrev S1x4096x512 : Shape := ⟨3, ![1, 4096, 512]⟩
abbrev S8x128x4x8x64 : Shape := ⟨5, ![8, 128, 4, 8, 64]⟩
abbrev S1x128x4x8x64 : Shape := ⟨5, ![1, 128, 4, 8, 64]⟩
abbrev S7x128x4x8x64 : Shape := ⟨5, ![7, 128, 4, 8, 64]⟩
abbrev S8x256x4x8x64 : Shape := ⟨5, ![8, 256, 4, 8, 64]⟩
abbrev S1x4x512x256 : Shape := ⟨4, ![1, 4, 512, 256]⟩
abbrev S7x4x512x256 : Shape := ⟨4, ![7, 4, 512, 256]⟩
abbrev S8x4x512x256 : Shape := ⟨4, ![8, 4, 512, 256]⟩
abbrev S8x4x4x128x256 : Shape := ⟨5, ![8, 4, 4, 128, 256]⟩
abbrev S8x128x4x4x4x64 : Shape := ⟨6, ![8, 128, 4, 4, 4, 64]⟩
abbrev S8x256x4x4x64 : Shape := ⟨5, ![8, 256, 4, 4, 64]⟩
abbrev S8x4x4x256x128x4 : Shape := ⟨6, ![8, 4, 4, 256, 128, 4]⟩
abbrev S8x4x4x4x128x256 : Shape := ⟨6, ![8, 4, 4, 4, 128, 256]⟩
abbrev S8x4x4x4x128 : Shape := ⟨5, ![8, 4, 4, 4, 128]⟩
abbrev S8x4x4x4x128x64 : Shape := ⟨6, ![8, 4, 4, 4, 128, 64]⟩
abbrev S8x128x4x4x4 : Shape := ⟨5, ![8, 128, 4, 4, 4]⟩
abbrev S16x4x4x4x128 : Shape := ⟨5, ![16, 4, 4, 4, 128]⟩
abbrev S4x16x128x4x4 : Shape := ⟨5, ![4, 16, 128, 4, 4]⟩
abbrev S4x16x128x4x116 : Shape := ⟨5, ![4, 16, 128, 4, 116]⟩
abbrev S4x16x128x4x128 : Shape := ⟨5, ![4, 16, 128, 4, 128]⟩
abbrev S4x8192x128 : Shape := ⟨3, ![4, 8192, 128]⟩
abbrev S4096x8x128 : Shape := ⟨3, ![4096, 8, 128]⟩
abbrev S8x4096x128 : Shape := ⟨3, ![8, 4096, 128]⟩
abbrev S4096x2x128 : Shape := ⟨3, ![4096, 2, 128]⟩
abbrev S2x4096x128 : Shape := ⟨3, ![2, 4096, 128]⟩
abbrev S4x4096x128 : Shape := ⟨3, ![4, 4096, 128]⟩
abbrev S2x2048x128 : Shape := ⟨3, ![2, 2048, 128]⟩
abbrev S1x2048x128 : Shape := ⟨3, ![1, 2048, 128]⟩
abbrev S1x4096x128 : Shape := ⟨3, ![1, 4096, 128]⟩
abbrev S2x1x512x256 : Shape := ⟨4, ![2, 1, 512, 256]⟩
abbrev S4096x128 : Shape := ⟨2, ![4096, 128]⟩
abbrev S256x128 : Shape := ⟨2, ![256, 128]⟩
abbrev S128x128 : Shape := ⟨2, ![128, 128]⟩
abbrev S1x128x128 : Shape := ⟨3, ![1, 128, 128]⟩
abbrev S512x128 : Shape := ⟨2, ![512, 128]⟩
abbrev S512x256 : Shape := ⟨2, ![512, 256]⟩
abbrev S256x256 : Shape := ⟨2, ![256, 256]⟩
abbrev S1x1x512x256 : Shape := ⟨4, ![1, 1, 512, 256]⟩

abbrev nBuf : Space → Nat
  | .hbm => 128
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x256, .f32⟩
  | .hbm, ⟨3, _⟩ => ⟨S1x4096x1024, .f32⟩
  | .hbm, ⟨4, _⟩ => ⟨S1x4096x16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S128, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S128x256, .i1⟩
  | .hbm, ⟨36, _⟩ => ⟨S16x1x1, .f32⟩
  | .hbm, ⟨37, _⟩ => ⟨S16x1x1, .f32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S128x256, .f32⟩
  | .hbm, ⟨42, _⟩ => ⟨S1x128x256, .f32⟩
  | .hbm, ⟨43, _⟩ => ⟨S16x128x256, .f32⟩
  | .hbm, ⟨44, _⟩ => ⟨S16x128x256, .f32⟩
  | .hbm, ⟨45, _⟩ => ⟨S16x128x256, .f32⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S128x256, .i1⟩
  | .hbm, ⟨50, _⟩ => ⟨S_, .i1⟩
  | .hbm, ⟨51, _⟩ => ⟨S128x256, .i1⟩
  | .hbm, ⟨52, _⟩ => ⟨S1x128x256, .i1⟩
  | .hbm, ⟨53, _⟩ => ⟨S1x128x256, .i1⟩
  | .hbm, ⟨54, _⟩ => ⟨S2x128x256, .i1⟩
  | .hbm, ⟨55, _⟩ => ⟨S1x128x256, .i1⟩
  | .hbm, ⟨56, _⟩ => ⟨S2x128x256, .i1⟩
  | .hbm, ⟨57, _⟩ => ⟨S2x128x256, .i1⟩
  | .hbm, ⟨58, _⟩ => ⟨S2x1x128x256, .i1⟩
  | .hbm, ⟨59, _⟩ => ⟨S1x16x128x256, .f32⟩
  | .hbm, ⟨60, _⟩ => ⟨S_, .f32⟩
  | .hbm, ⟨61, _⟩ => ⟨S_, .f32⟩
  | .hbm, ⟨62, _⟩ => ⟨S2x16x128x256, .i1⟩
  | .hbm, ⟨63, _⟩ => ⟨S2x16x128x256, .f32⟩
  | .hbm, ⟨64, _⟩ => ⟨S2x16x128x256, .f32⟩
  | .hbm, ⟨65, _⟩ => ⟨S2x16x128x256, .f32⟩
  | .hbm, ⟨66, _⟩ => ⟨S2x4x512x256, .f32⟩
  | .hbm, ⟨67, _⟩ => ⟨S1x4096x512, .f32⟩
  | .hbm, ⟨68, _⟩ => ⟨S8x128x4x8x64, .f32⟩
  | .hbm, ⟨69, _⟩ => ⟨S_, .f32⟩
  | .hbm, ⟨70, _⟩ => ⟨S1x128x4x8x64, .f32⟩
  | .hbm, ⟨71, _⟩ => ⟨S7x128x4x8x64, .f32⟩
  | .hbm, ⟨72, _⟩ => ⟨S8x128x4x8x64, .f32⟩
  | .hbm, ⟨73, _⟩ => ⟨S8x256x4x8x64, .f32⟩
  | .hbm, ⟨74, _⟩ => ⟨S1x4x512x256, .f32⟩
  | .hbm, ⟨75, _⟩ => ⟨S1x4x512x256, .f32⟩
  | .hbm, ⟨76, _⟩ => ⟨S7x4x512x256, .f32⟩
  | .hbm, ⟨77, _⟩ => ⟨S8x4x512x256, .f32⟩
  | .hbm, ⟨78, _⟩ => ⟨S8x4x4x128x256, .f32⟩
  | .hbm, ⟨79, _⟩ => ⟨S8x128x4x4x4x64, .f32⟩
  | .hbm, ⟨80, _⟩ => ⟨S8x256x4x4x64, .f32⟩
  | .hbm, ⟨81, _⟩ => ⟨S8x4x4x256x128x4, .f32⟩
  | .hbm, ⟨82, _⟩ => ⟨S8x4x4x4x128x256, .f32⟩
  | .hbm, ⟨83, _⟩ => ⟨S8x4x4x4x128x256, .f32⟩
  | .hbm, ⟨84, _⟩ => ⟨S8x4x4x4x128x256, .f32⟩
  | .hbm, ⟨85, _⟩ => ⟨S_, .f32⟩
  | .hbm, ⟨86, _⟩ => ⟨S8x4x4x4x128, .f32⟩
  | .hbm, ⟨87, _⟩ => ⟨S8x4x4x4x128x256, .f32⟩
  | .hbm, ⟨88, _⟩ => ⟨S8x4x4x4x128x256, .f32⟩
  | .hbm, ⟨89, _⟩ => ⟨S8x4x4x4x128x256, .f32⟩
  | .hbm, ⟨90, _⟩ => ⟨S_, .f32⟩
  | .hbm, ⟨91, _⟩ => ⟨S8x4x4x4x128, .f32⟩
  | .hbm, ⟨92, _⟩ => ⟨S8x256x4x4x64, .f32⟩
  | .hbm, ⟨93, _⟩ => ⟨S8x4x4x4x128x64, .f32⟩
  | .hbm, ⟨94, _⟩ => ⟨S8x4x4x4x128x64, .f32⟩
  | .hbm, ⟨95, _⟩ => ⟨S8x4x4x4x128x64, .f32⟩
  | .hbm, ⟨96, _⟩ => ⟨S8x128x4x4x4x64, .f32⟩
  | .hbm, ⟨97, _⟩ => ⟨S8x4x4x4x128, .f32⟩
  | .hbm, ⟨98, _⟩ => ⟨S8x128x4x4x4, .f32⟩
  | .hbm, ⟨99, _⟩ => ⟨S8x4x4x4x128, .f32⟩
  | .hbm, ⟨100, _⟩ => ⟨S8x4x4x4x128, .f32⟩
  | .hbm, ⟨101, _⟩ => ⟨S8x4x4x4x128, .f32⟩
  | .hbm, ⟨102, _⟩ => ⟨S8x4x4x4x128, .f32⟩
  | .hbm, ⟨103, _⟩ => ⟨S16x4x4x4x128, .f32⟩
  | .hbm, ⟨104, _⟩ => ⟨S4x16x128x4x4, .f32⟩
  | .hbm, ⟨105, _⟩ => ⟨S4x16x128x4x4, .f32⟩
  | .hbm, ⟨106, _⟩ => ⟨S4x16x128x4x4, .bf16⟩
  | .hbm, ⟨107, _⟩ => ⟨S4x16x128x4x4, .f32⟩
  | .hbm, ⟨108, _⟩ => ⟨S4x16x128x4x4, .f32⟩
  | .hbm, ⟨109, _⟩ => ⟨S4x16x128x4x4, .bf16⟩
  | .hbm, ⟨110, _⟩ => ⟨S4x16x128x4x4, .f32⟩
  | .hbm, ⟨111, _⟩ => ⟨S4x16x128x4x4, .f32⟩
  | .hbm, ⟨112, _⟩ => ⟨S_, .f32⟩
  | .hbm, ⟨113, _⟩ => ⟨S4x16x128x4x116, .f32⟩
  | .hbm, ⟨114, _⟩ => ⟨S4x16x128x4x128, .f32⟩
  | .hbm, ⟨115, _⟩ => ⟨S4x8192x128, .f32⟩
  | .hbm, ⟨116, _⟩ => ⟨S4096x8x128, .f32⟩
  | .hbm, ⟨117, _⟩ => ⟨S8x4096x128, .f32⟩
  | .hbm, ⟨118, _⟩ => ⟨S4096x2x128, .f32⟩
  | .hbm, ⟨119, _⟩ => ⟨S2x4096x128, .f32⟩
  | .hbm, ⟨120, _⟩ => ⟨S4096x2x128, .f32⟩
  | .hbm, ⟨121, _⟩ => ⟨S2x4096x128, .f32⟩
  | .hbm, ⟨122, _⟩ => ⟨S4096x8x128, .f32⟩
  | .hbm, ⟨123, _⟩ => ⟨S8x4096x128, .f32⟩
  | .hbm, ⟨124, _⟩ => ⟨S4x4096x128, .f32⟩
  | .hbm, ⟨125, _⟩ => ⟨S4x4096x128, .f32⟩
  | .hbm, ⟨126, _⟩ => ⟨S8x4096x128, .f32⟩
  | .hbm, ⟨127, _⟩ => ⟨S4x4096x128, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S2x1x512x256, .f32⟩
  | .local _ .vmem, ⟨13, _⟩ => ⟨S2x1x512x256, .f32⟩
  | .local _ .vmem, ⟨14, _⟩ => ⟨S2x2048x128, .f32⟩
  | .local _ .vmem, ⟨15, _⟩ => ⟨S2x2048x128, .f32⟩
  | .local _ .vmem, ⟨16, _⟩ => ⟨S1x4096x128, .f32⟩
  | .local _ .vmem, ⟨17, _⟩ => ⟨S1x4096x128, .f32⟩
  | .local _ .vmem, ⟨18, _⟩ => ⟨S4096x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_12 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102_0 : Ref sig .tc := ⟨.hbm, 126, rfl⟩
abbrev main_v102_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_6 : BitVec 32 := 0#32
  let c16_i32 : BitVec 32 := 16#32
  let v20 : BitVec 32 := Scalar.addi c0_i32_6 c16_i32
  let c1_i32_7 : BitVec 32 := 1#32
  ⟨c0_i32_6, v20, c1_i32_7⟩
def k0_off1 (i : grid0.Coords) (k0_t1 : Fin k0_t1_loop.trips) : Fin 3 → Nat :=
  let c0 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c512_i32 : BitVec 32 := 512#32
  let v28 : BitVec 32 := Scalar.muli v26 c512_i32
  let c3_i32 : BitVec 32 := 3#32
  let v27 : BitVec 32 := Scalar.andi v25 c3_i32
  let v29 : BitVec 32 := Scalar.addi v28 v27
  let c2048_i32 : BitVec 32 := 2048#32
  let v32 : BitVec 32 := Scalar.muli arg1 c2048_i32
  let v33 : BitVec 32 := Scalar.subi v29 v32
  let v37 : Index := Scalar.indexCast v33
  let c0_14 : Index := 0#32
  ![0, v37.toNat, 0]
def k0_off2 (i : grid0.Coords) (k0_t1 : Fin k0_t1_loop.trips) : Fin 3 → Nat :=
  let c1 : Index := 1#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c512_i32 : BitVec 32 := 512#32
  let v28 : BitVec 32 := Scalar.muli v26 c512_i32
  let c3_i32 : BitVec 32 := 3#32
  let v27 : BitVec 32 := Scalar.andi v25 c3_i32
  let v29 : BitVec 32 := Scalar.addi v28 v27
  let c2048_i32 : BitVec 32 := 2048#32
  let v32 : BitVec 32 := Scalar.muli arg1 c2048_i32
  let v33 : BitVec 32 := Scalar.subi v29 v32
  let v40 : Index := Scalar.indexCast v33
  let c0_15 : Index := 0#32
  ![1, v40.toNat, 0]
def k0_off3 (i : grid0.Coords) (k0_t1 : Fin k0_t1_loop.trips) : Fin 3 → Nat :=
  let c0_28 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c512_i32 : BitVec 32 := 512#32
  let v28 : BitVec 32 := Scalar.muli v26 c512_i32
  let c3_i32 : BitVec 32 := 3#32
  let v27 : BitVec 32 := Scalar.andi v25 c3_i32
  let v29 : BitVec 32 := Scalar.addi v28 v27
  let c512_i32_13 : BitVec 32 := 512#32
  let v30 : BitVec 32 := Scalar.subi v29 c512_i32_13
  let v31 : BitVec 32 := Scalar.maxsi v30 v27
  let v72 : Index := Scalar.indexCast v31
  let c0_29 : Index := 0#32
  ![0, v72.toNat, 0]
def k0_off4 (i : grid0.Coords) (k0_t1 : Fin k0_t1_loop.trips) : Fin 3 → Nat :=
  let c0_30 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c512_i32 : BitVec 32 := 512#32
  let v28 : BitVec 32 := Scalar.muli v26 c512_i32
  let c3_i32 : BitVec 32 := 3#32
  let v27 : BitVec 32 := Scalar.andi v25 c3_i32
  let v29 : BitVec 32 := Scalar.addi v28 v27
  let v75 : Index := Scalar.indexCast v29
  let c0_31 : Index := 0#32
  ![0, v75.toNat, 0]
def k0_off5 (i : grid0.Coords) (k0_t1 : Fin k0_t1_loop.trips) : Fin 3 → Nat :=
  let c0_40 : Index := 0#32
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c512_i32 : BitVec 32 := 512#32
  let v28 : BitVec 32 := Scalar.muli v26 c512_i32
  let c3_i32 : BitVec 32 := 3#32
  let v27 : BitVec 32 := Scalar.andi v25 c3_i32
  let v29 : BitVec 32 := Scalar.addi v28 v27
  let c2048_i32 : BitVec 32 := 2048#32
  let v32 : BitVec 32 := Scalar.muli arg1 c2048_i32
  let v33 : BitVec 32 := Scalar.subi v29 v32
  let v102 : Index := Scalar.indexCast v33
  let c0_41 : Index := 0#32
  ![0, v102.toNat, 0]
def k0_off6 (i : grid0.Coords) (k0_t1 : Fin k0_t1_loop.trips) : Fin 4 → Nat :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c1_i32_53 : BitVec 32 := 1#32
  let v133 : BitVec 32 := Scalar.minsi v26 c1_i32_53
  let v134 : Index := Scalar.indexCast v133
  let c0_54 : Index := 0#32
  let c0_55 : Index := 0#32
  let c0_56 : Index := 0#32
  ![v134.toNat, 0, 0, 0]
def k0_mult1 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c128_i32 : BitVec 32 := 128#32
  let v201 : BitVec 32 := Scalar.muli v25 c128_i32
  v201
def k0_off7 (i : grid0.Coords) (k0_t1 : Fin k0_t1_loop.trips) : Fin 2 → Nat :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c128_i32 : BitVec 32 := 128#32
  let v201 : BitVec 32 := Scalar.muli v25 c128_i32
  let v202 : BitVec 32 := v201
  let v203 : Index := Scalar.indexCast v202
  let c0_82 : Index := 0#32
  ![v203.toNat, 0]
def k0_mult2 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c128_i32_83 : BitVec 32 := 128#32
  let v207 : BitVec 32 := Scalar.muli v25 c128_i32_83
  v207
def k0_mult3 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c1_i32_85 : BitVec 32 := 1#32
  let v213 : BitVec 1 := Scalar.cmpi .sge v26 c1_i32_85
  let c4_i32 : BitVec 32 := 4#32
  let v214 : BitVec 32 := Scalar.subi v25 c4_i32
  let v215 : BitVec 32 := Scalar.select v213 v214 v25
  let c128_i32_86 : BitVec 32 := 128#32
  let v216 : BitVec 32 := Scalar.muli v215 c128_i32_86
  v216
def k0_off8 (i : grid0.Coords) (k0_t1 : Fin k0_t1_loop.trips) : Fin 2 → Nat :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c1_i32_85 : BitVec 32 := 1#32
  let v213 : BitVec 1 := Scalar.cmpi .sge v26 c1_i32_85
  let c4_i32 : BitVec 32 := 4#32
  let v214 : BitVec 32 := Scalar.subi v25 c4_i32
  let v215 : BitVec 32 := Scalar.select v213 v214 v25
  let c128_i32_86 : BitVec 32 := 128#32
  let v216 : BitVec 32 := Scalar.muli v215 c128_i32_86
  let v217 : BitVec 32 := v216
  let v218 : Index := Scalar.indexCast v217
  let c0_87 : Index := 0#32
  ![v218.toNat, 0]
def k0_mult4 (i : grid0.Coords) (k0_t1 : Fin k0_t1_loop.trips) : BitVec 32 :=
  let arg1 : BitVec 32 := BitVec.ofNat 32 (i 1).val
  let c16_i32_11 : BitVec 32 := 16#32
  let v24 : BitVec 32 := Scalar.muli arg1 c16_i32_11
  let c0_i32_6 : BitVec 32 := 0#32
  let c1_i32_7 : BitVec 32 := 1#32
  let arg12 : BitVec 32 := Scf.iv c0_i32_6 c1_i32_7 k0_t1
  let v25 : BitVec 32 := Scalar.addi v24 arg12
  let c2_i32_12 : BitVec 32 := 2#32
  let v26 : BitVec 32 := Scalar.shrui v25 c2_i32_12
  let c1_i32_85 : BitVec 32 := 1#32
  let v213 : BitVec 1 := Scalar.cmpi .sge v26 c1_i32_85
  let c4_i32 : BitVec 32 := 4#32
  let v214 : BitVec 32 := Scalar.subi v25 c4_i32
  let v215 : BitVec 32 := Scalar.select v213 v214 v25
  let c128_i32_88 : BitVec 32 := 128#32
  let v222 : BitVec 32 := Scalar.muli v215 c128_i32_88
  v222
def k0_cond2 (i : grid0.Coords) : BitVec 1 :=
  let arg1 : BitVec 32 := BitVec.ofNat 32 (i 1).val
  let c1_i32_9 : BitVec 32 := 1#32
  let v21 : BitVec 1 := Scalar.cmpi .eq arg1 c1_i32_9
  let v22 : BitVec 32 := Scalar.extui v21
  let c0_i32_10 : BitVec 32 := 0#32
  let v23 : BitVec 1 := Scalar.cmpi .ne v22 c0_i32_10
  v23

@[reducible] def k0_t2_loop : Scf.Loop 32 :=
  let c0_i32_11 : BitVec 32 := 0#32
  let c32_i32 : BitVec 32 := 32#32
  let v24 : BitVec 32 := Scalar.addi c0_i32_11 c32_i32
  let c1_i32_12 : BitVec 32 := 1#32
  ⟨c0_i32_11, v24, c1_i32_12⟩
def k0_mult5 (k0_t2 : Fin k0_t2_loop.trips) : BitVec 32 :=
  let c0_i32_11 : BitVec 32 := 0#32
  let c1_i32_12 : BitVec 32 := 1#32
  let arg12 : BitVec 32 := Scf.iv c0_i32_11 c1_i32_12 k0_t2
  let c128_i32 : BitVec 32 := 128#32
  let v29 : BitVec 32 := Scalar.muli arg12 c128_i32
  v29
def k0_off9 (k0_t2 : Fin k0_t2_loop.trips) : Fin 2 → Nat :=
  let c0_i32_11 : BitVec 32 := 0#32
  let c1_i32_12 : BitVec 32 := 1#32
  let arg12 : BitVec 32 := Scf.iv c0_i32_11 c1_i32_12 k0_t2
  let c128_i32 : BitVec 32 := 128#32
  let v29 : BitVec 32 := Scalar.muli arg12 c128_i32
  let v30 : BitVec 32 := v29
  let v31 : Index := Scalar.indexCast v30
  let c0 : Index := 0#32
  ![v31.toNat, 0]
def k0_off10 (k0_t2 : Fin k0_t2_loop.trips) : Fin 3 → Nat :=
  let c0_15 : Index := 0#32
  let c0_i32_11 : BitVec 32 := 0#32
  let c1_i32_12 : BitVec 32 := 1#32
  let arg12 : BitVec 32 := Scf.iv c0_i32_11 c1_i32_12 k0_t2
  let c2_i32_14 : BitVec 32 := 2#32
  let v25 : BitVec 32 := Scalar.shrui arg12 c2_i32_14
  let c512_i32 : BitVec 32 := 512#32
  let v27 : BitVec 32 := Scalar.muli v25 c512_i32
  let c3_i32 : BitVec 32 := 3#32
  let v26 : BitVec 32 := Scalar.andi arg12 c3_i32
  let v28 : BitVec 32 := Scalar.addi v27 v26
  let v33 : Index := Scalar.indexCast v28
  let c0_16 : Index := 0#32
  ![0, v33.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S1x4096x1024 : Shape := ⟨3, ![1, 4096, 1024]⟩
abbrev S1x4096x256 : Shape := ⟨3, ![1, 4096, 256]⟩
abbrev S1x4096x16 : Shape := ⟨3, ![1, 4096, 16]⟩
abbrev S16 : Shape := ⟨1, ![16]⟩
abbrev S_ : Shape := ⟨0, ![]⟩
abbrev S4x4 : Shape := ⟨2, ![4, 4]⟩
abbrev S1x4096x4x4x64 : Shape := ⟨5, ![1, 4096, 4, 4, 64]⟩
abbrev S1x4096x4x64 : Shape := ⟨4, ![1, 4096, 4, 64]⟩
abbrev S1x1024x4x4x4x64 : Shape := ⟨6, ![1, 1024, 4, 4, 4, 64]⟩
abbrev S1x4x1024x4x4x64 : Shape := ⟨6, ![1, 4, 1024, 4, 4, 64]⟩
abbrev S1x4x8x128x4x4x64 : Shape := ⟨7, ![1, 4, 8, 128, 4, 4, 64]⟩
abbrev S1x1024x4x4x64 : Shape := ⟨5, ![1, 1024, 4, 4, 64]⟩
abbrev S1x4x1024x4x64 : Shape := ⟨5, ![1, 4, 1024, 4, 64]⟩
abbrev S1x4x8x128x4x64 : Shape := ⟨6, ![1, 4, 8, 128, 4, 64]⟩
abbrev S1x4x1x128x4x64 : Shape := ⟨6, ![1, 4, 1, 128, 4, 64]⟩
abbrev S1x4x7x128x4x64 : Shape := ⟨6, ![1, 4, 7, 128, 4, 64]⟩
abbrev S1x4x8x256x4x64 : Shape := ⟨6, ![1, 4, 8, 256, 4, 64]⟩
abbrev S1x4x8x4x256x128x4 : Shape := ⟨7, ![1, 4, 8, 4, 256, 128, 4]⟩
abbrev S1x4x8x4x4x128x256 : Shape := ⟨7, ![1, 4, 8, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S8x1x1x128x256 : Shape := ⟨5, ![8, 1, 1, 128, 256]⟩
abbrev S1x1x1x4x4x128x256 : Shape := ⟨7, ![1, 1, 1, 4, 4, 128, 256]⟩
abbrev S1x4x8x4x4x128 : Shape := ⟨6, ![1, 4, 8, 4, 4, 128]⟩
abbrev S1x4x8x4x4x128x1 : Shape := ⟨7, ![1, 4, 8, 4, 4, 128, 1]⟩
abbrev S1x4x8x4x64x4x128 : Shape := ⟨7, ![1, 4, 8, 4, 64, 4, 128]⟩
abbrev S1x4x8x128x4x4 : Shape := ⟨6, ![1, 4, 8, 128, 4, 4]⟩
abbrev S1x4x8x128x4x4x1 : Shape := ⟨7, ![1, 4, 8, 128, 4, 4, 1]⟩
abbrev S1x4x1024x4x4 : Shape := ⟨5, ![1, 4, 1024, 4, 4]⟩
abbrev S1x1024x4x4x4 : Shape := ⟨5, ![1, 1024, 4, 4, 4]⟩
abbrev S1x4096x4x4 : Shape := ⟨4, ![1, 4096, 4, 4]⟩
abbrev S4x8x128x4x4 : Shape := ⟨5, ![4, 8, 128, 4, 4]⟩
abbrev S1x4x8x4x64x256 : Shape := ⟨6, ![1, 4, 8, 4, 64, 256]⟩
abbrev S4x8x4x4x128 : Shape := ⟨5, ![4, 8, 4, 4, 128]⟩
abbrev S1x4x8x4x128x4x64 : Shape := ⟨7, ![1, 4, 8, 4, 128, 4, 64]⟩
abbrev S1x4x8x4x256x64 : Shape := ⟨6, ![1, 4, 8, 4, 256, 64]⟩
abbrev S4096x1024 : Shape := ⟨2, ![4096, 1024]⟩
abbrev S4096x16x64 : Shape := ⟨3, ![4096, 16, 64]⟩
abbrev S4096x8x2x64 : Shape := ⟨4, ![4096, 8, 2, 64]⟩
abbrev S8x4096x2x64 : Shape := ⟨4, ![8, 4096, 2, 64]⟩
abbrev S8x4096x128 : Shape := ⟨3, ![8, 4096, 128]⟩
abbrev S4096x256 : Shape := ⟨2, ![4096, 256]⟩
abbrev S4096x4x64 : Shape := ⟨3, ![4096, 4, 64]⟩
abbrev S4x4096x64 : Shape := ⟨3, ![4, 4096, 64]⟩
abbrev S4x4096x1x64 : Shape := ⟨4, ![4, 4096, 1, 64]⟩
abbrev S4x4096x2x64 : Shape := ⟨4, ![4, 4096, 2, 64]⟩
abbrev S4x4096x128 : Shape := ⟨3, ![4, 4096, 128]⟩

abbrev nBuf : Space → Nat
  | .hbm => 257
  | .vmem => 0
  | .smem => 0
  | _ => 0

abbrev hbmTy0_0 (i : Nat) : BufTy := match i % 128 with
  | 0 => ⟨S1x4096x1024, .f32⟩
  | 1 => ⟨S1x4096x256, .f32⟩
  | 2 => ⟨S1x4096x256, .f32⟩
  | 3 => ⟨S1x4096x1024, .f32⟩
  | 4 => ⟨S1x4096x16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S4x4, .f32⟩
  | 20 => ⟨S1x4096x4x4x64, .f32⟩
  | 21 => ⟨S1x4096x4x64, .f32⟩
  | 22 => ⟨S1x4096x4x64, .f32⟩
  | 23 => ⟨S1x1024x4x4x4x64, .f32⟩
  | 24 => ⟨S1x4x1024x4x4x64, .f32⟩
  | 25 => ⟨S_, .i32⟩
  | 26 => ⟨S_, .f32⟩
  | 27 => ⟨S1x4x1024x4x4x64, .f32⟩
  | 28 => ⟨S_, .f32⟩
  | 29 => ⟨S1x4x8x128x4x4x64, .f32⟩
  | 30 => ⟨S1x1024x4x4x64, .f32⟩
  | 31 => ⟨S1x4x1024x4x64, .f32⟩
  | 32 => ⟨S_, .i32⟩
  | 33 => ⟨S_, .f32⟩
  | 34 => ⟨S1x4x1024x4x64, .f32⟩
  | 35 => ⟨S_, .f32⟩
  | 36 => ⟨S1x4x8x128x4x64, .f32⟩
  | 37 => ⟨S1x4x1x128x4x64, .f32⟩
  | 38 => ⟨S_, .f32⟩
  | 39 => ⟨S1x4x1x128x4x64, .f32⟩
  | 40 => ⟨S1x4x7x128x4x64, .f32⟩
  | 41 => ⟨S1x4x8x128x4x64, .f32⟩
  | 42 => ⟨S_, .f32⟩
  | 43 => ⟨S1x4x1x128x4x64, .f32⟩
  | 44 => ⟨S1x4x8x256x4x64, .f32⟩
  | 45 => ⟨S1x1024x4x4x64, .f32⟩
  | 46 => ⟨S1x4x1024x4x64, .f32⟩
  | 47 => ⟨S_, .i32⟩
  | 48 => ⟨S_, .f32⟩
  | 49 => ⟨S1x4x1024x4x64, .f32⟩
  | 50 => ⟨S_, .f32⟩
  | 51 => ⟨S1x4x8x128x4x64, .f32⟩
  | 52 => ⟨S1x4x1x128x4x64, .f32⟩
  | 53 => ⟨S_, .f32⟩
  | 54 => ⟨S1x4x1x128x4x64, .f32⟩
  | 55 => ⟨S1x4x7x128x4x64, .f32⟩
  | 56 => ⟨S1x4x8x128x4x64, .f32⟩
  | 57 => ⟨S_, .f32⟩
  | 58 => ⟨S1x4x1x128x4x64, .f32⟩
  | 59 => ⟨S1x4x8x256x4x64, .f32⟩
  | 60 => ⟨S1x4x8x4x256x128x4, .f32⟩
  | 61 => ⟨S1x4x8x4x4x128x256, .f32⟩
  | 62 => ⟨S128, .i32⟩
  | 63 => ⟨S128x1, .i32⟩
  | 64 => ⟨S256, .i32⟩
  | 65 => ⟨S1x256, .i32⟩
  | 66 => ⟨S_, .i32⟩
  | 67 => ⟨S128x1, .i32⟩
  | 68 => ⟨S128x1, .i32⟩
  | 69 => ⟨S128x256, .i32⟩
  | 70 => ⟨S128x256, .i32⟩
  | 71 => ⟨S128x256, .i32⟩
  | 72 => ⟨S8, .i32⟩
  | 73 => ⟨S8x1x1, .i32⟩
  | 74 => ⟨S_, .i32⟩
  | 75 => ⟨S8x1x1, .i32⟩
  | 76 => ⟨S8x1x1, .i32⟩
  | 77 => ⟨S_, .i32⟩
  | 78 => ⟨S8x1x1, .i32⟩
  | 79 => ⟨S8x1x1, .i32⟩
  | 80 => ⟨S1x1x256, .i32⟩
  | 81 => ⟨S8x1x256, .i32⟩
  | 82 => ⟨S8x1x256, .i32⟩
  | 83 => ⟨S8x1x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i1⟩
  | 90 => ⟨S128x256, .i1⟩
  | 91 => ⟨S_, .i32⟩
  | 92 => ⟨S8x1x256, .i32⟩
  | 93 => ⟨S8x1x256, .i1⟩
  | 94 => ⟨S1x128x256, .i1⟩
  | 95 => ⟨S8x128x256, .i1⟩
  | 96 => ⟨S8x128x256, .i1⟩
  | 97 => ⟨S8x128x256, .i1⟩
  | 98 => ⟨S4x4x1x1, .f32⟩
  | 99 => ⟨S4x4x1x1, .f32⟩
  | 100 => ⟨S_, .i32⟩
  | 101 => ⟨S128x256, .i32⟩
  | 102 => ⟨S128x256, .i32⟩
  | 103 => ⟨S128x256, .f32⟩
  | 104 => ⟨S1x1x128x256, .f32⟩
  | 105 => ⟨S4x4x128x256, .f32⟩
  | 106 => ⟨S4x4x128x256, .f32⟩
  | 107 => ⟨S4x4x128x256, .f32⟩
  | 108 => ⟨S8x1x1x128x256, .i1⟩
  | 109 => ⟨S1x1x1x4x4x128x256, .f32⟩
  | 110 => ⟨S1x4x8x4x4x128x256, .f32⟩
  | 111 => ⟨S1x4x8x4x4x128x256, .f32⟩
  | 112 => ⟨S_, .f32⟩
  | 113 => ⟨S_, .f32⟩
  | 114 => ⟨S1x4x8x4x4x128x256, .i1⟩
  | 115 => ⟨S1x4x8x4x4x128x256, .f32⟩
  | 116 => ⟨S1x4x8x4x4x128x256, .f32⟩
  | 117 => ⟨S_, .f32⟩
  | 118 => ⟨S1x4x8x4x4x128x256, .f32⟩
  | 119 => ⟨S_, .f32⟩
  | 120 => ⟨S1x4x8x4x4x128, .f32⟩
  | 121 => ⟨S1x4x8x4x4x128x1, .f32⟩
  | 122 => ⟨S1x4x8x4x4x128x256, .f32⟩
  | 123 => ⟨S1x4x8x4x4x128x256, .i1⟩
  | 124 => ⟨S1x4x8x4x4x128x256, .f32⟩
  | 125 => ⟨S_, .f32⟩
  | 126 => ⟨S1x4x8x4x4x128, .f32⟩
  | 127 => ⟨S1x4x8x4x4x128x1, .f32⟩
  | _ => ⟨S1x4096x1024, .f32⟩

abbrev hbmTy0_1 (i : Nat) : BufTy := match i % 128 with
  | 0 => ⟨S1x4x8x4x4x128x256, .f32⟩
  | 1 => ⟨S1x4x8x4x4x128x256, .f32⟩
  | 2 => ⟨S1x4x8x4x4x128x256, .f32⟩
  | 3 => ⟨S_, .f32⟩
  | 4 => ⟨S1x4x8x4x4x128, .f32⟩
  | 5 => ⟨S1x4x8x4x64x4x128, .f32⟩
  | 6 => ⟨S1x4x8x128x4x4x64, .f32⟩
  | 7 => ⟨S1x4x8x128x4x4, .f32⟩
  | 8 => ⟨S1x4x8x128x4x4x1, .f32⟩
  | 9 => ⟨S1x4x8x128x4x4x64, .f32⟩
  | 10 => ⟨S1x4x8x128x4x4x64, .f32⟩
  | 11 => ⟨S1x4x8x128x4x4x1, .f32⟩
  | 12 => ⟨S_, .f32⟩
  | 13 => ⟨S1x4x8x128x4x4x1, .f32⟩
  | 14 => ⟨S1x4x8x128x4x4x1, .f32⟩
  | 15 => ⟨S1x4x8x4x4x128, .f32⟩
  | 16 => ⟨S1x4x8x128x4x4, .f32⟩
  | 17 => ⟨S1x4x8x128x4x4, .f32⟩
  | 18 => ⟨S1x4x8x128x4x4, .f32⟩
  | 19 => ⟨S1x4x1024x4x4x64, .f32⟩
  | 20 => ⟨S1x1024x4x4x4x64, .f32⟩
  | 21 => ⟨S1x4096x4x4x64, .f32⟩
  | 22 => ⟨S1x4x1024x4x4, .f32⟩
  | 23 => ⟨S1x1024x4x4x4, .f32⟩
  | 24 => ⟨S1x4096x4x4, .f32⟩
  | 25 => ⟨S1x4096x1024, .f32⟩
  | 26 => ⟨S1x4096x16, .f32⟩
  | 27 => ⟨S1x4096x4x4, .f32⟩
  | 28 => ⟨S1x4096x4x4x64, .f32⟩
  | 29 => ⟨S1x1024x4x4x4, .f32⟩
  | 30 => ⟨S1x4x1024x4x4, .f32⟩
  | 31 => ⟨S1x4x8x128x4x4, .f32⟩
  | 32 => ⟨S1x1024x4x4x4x64, .f32⟩
  | 33 => ⟨S1x4x1024x4x4x64, .f32⟩
  | 34 => ⟨S1x4x8x128x4x4x64, .f32⟩
  | 35 => ⟨S1x4x8x128x4x4, .f32⟩
  | 36 => ⟨S1x4x8x4x4x128, .f32⟩
  | 37 => ⟨S1x4x8x4x4x128x1, .f32⟩
  | 38 => ⟨S1x4x8x128x4x4x64, .f32⟩
  | 39 => ⟨S1x4x8x128x4x4x64, .f32⟩
  | 40 => ⟨S1x4x8x128x4x4x64, .f32⟩
  | 41 => ⟨S_, .f32⟩
  | 42 => ⟨S1x4x8x128x4x4, .f32⟩
  | 43 => ⟨S1x4x8x128x4x4x1, .f32⟩
  | 44 => ⟨S1x4x8x128x4x4x1, .f32⟩
  | 45 => ⟨S1x4x8x128x4x4x64, .f32⟩
  | 46 => ⟨S1x4x8x128x4x4x64, .f32⟩
  | 47 => ⟨S_, .f32⟩
  | 48 => ⟨S4x8x128x4x4, .f32⟩
  | 49 => ⟨S1x4x8x128x4x4, .f32⟩
  | 50 => ⟨S1x4x8x128x4x4, .f32⟩
  | 51 => ⟨S1x4x8x4x4x128, .f32⟩
  | 52 => ⟨S1x4x8x4x64x4x128, .f32⟩
  | 53 => ⟨S1x4x8x4x4x128x256, .f32⟩
  | 54 => ⟨S1x4x8x4x64x256, .f32⟩
  | 55 => ⟨S1x4x8x256x4x64, .f32⟩
  | 56 => ⟨S1x4x8x4x4x128x256, .f32⟩
  | 57 => ⟨S1x4x8x4x4x128x256, .f32⟩
  | 58 => ⟨S1x4x8x4x4x128x256, .f32⟩
  | 59 => ⟨S1x4x8x4x4x128x256, .f32⟩
  | 60 => ⟨S_, .f32⟩
  | 61 => ⟨S1x4x8x4x4x128, .f32⟩
  | 62 => ⟨S1x4x8x4x4x128x1, .f32⟩
  | 63 => ⟨S1x4x8x4x4x128x1, .f32⟩
  | 64 => ⟨S_, .f32⟩
  | 65 => ⟨S4x8x4x4x128, .f32⟩
  | 66 => ⟨S1x4x8x4x4x128, .f32⟩
  | 67 => ⟨S1x4x8x4x4x128, .f32⟩
  | 68 => ⟨S1x4x8x4x4x128x256, .f32⟩
  | 69 => ⟨S1x4x8x4x4x128x256, .f32⟩
  | 70 => ⟨S1x4x8x4x4x128x256, .f32⟩
  | 71 => ⟨S_, .f32⟩
  | 72 => ⟨S1x4x8x4x4x128x256, .f32⟩
  | 73 => ⟨S1x4x8x4x4x128x256, .f32⟩
  | 74 => ⟨S1x4x8x4x256x128x4, .f32⟩
  | 75 => ⟨S1x4x8x4x128x4x64, .f32⟩
  | 76 => ⟨S1x4x8x128x4x4x64, .f32⟩
  | 77 => ⟨S1x4x8x4x256x64, .f32⟩
  | 78 => ⟨S1x4x8x256x4x64, .f32⟩
  | 79 => ⟨S1x4x8x128x4x64, .f32⟩
  | 80 => ⟨S1x4x8x128x4x64, .f32⟩
  | 81 => ⟨S1x4x1x128x4x64, .f32⟩
  | 82 => ⟨S1x4x7x128x4x64, .f32⟩
  | 83 => ⟨S_, .f32⟩
  | 84 => ⟨S1x4x8x128x4x64, .f32⟩
  | 85 => ⟨S1x4x8x128x4x64, .f32⟩
  | 86 => ⟨S1x4x1024x4x64, .f32⟩
  | 87 => ⟨S_, .f32⟩
  | 88 => ⟨S1x4x1024x4x64, .f32⟩
  | 89 => ⟨S1x4x1024x4x64, .f32⟩
  | 90 => ⟨S1x1024x4x4x64, .f32⟩
  | 91 => ⟨S1x4096x4x64, .f32⟩
  | 92 => ⟨S1x4x8x128x4x64, .f32⟩
  | 93 => ⟨S1x4x8x128x4x64, .f32⟩
  | 94 => ⟨S1x4x1x128x4x64, .f32⟩
  | 95 => ⟨S1x4x7x128x4x64, .f32⟩
  | 96 => ⟨S_, .f32⟩
  | 97 => ⟨S1x4x8x128x4x64, .f32⟩
  | 98 => ⟨S1x4x8x128x4x64, .f32⟩
  | 99 => ⟨S1x4x1024x4x64, .f32⟩
  | 100 => ⟨S_, .f32⟩
  | 101 => ⟨S1x4x1024x4x64, .f32⟩
  | 102 => ⟨S1x4x1024x4x64, .f32⟩
  | 103 => ⟨S1x1024x4x4x64, .f32⟩
  | 104 => ⟨S1x4096x4x64, .f32⟩
  | 105 => ⟨S1x4x1024x4x4x64, .f32⟩
  | 106 => ⟨S_, .f32⟩
  | 107 => ⟨S1x4x1024x4x4x64, .f32⟩
  | 108 => ⟨S1x4x1024x4x4x64, .f32⟩
  | 109 => ⟨S1x1024x4x4x4x64, .f32⟩
  | 110 => ⟨S1x4096x4x4x64, .f32⟩
  | 111 => ⟨S1x4096x256, .f32⟩
  | 112 => ⟨S1x4096x256, .f32⟩
  | 113 => ⟨S1x4096x1024, .f32⟩
  | 114 => ⟨S4096x1024, .f32⟩
  | 115 => ⟨S4096x16x64, .f32⟩
  | 116 => ⟨S4096x8x2x64, .f32⟩
  | 117 => ⟨S8x4096x2x64, .f32⟩
  | 118 => ⟨S8x4096x128, .f32⟩
  | 119 => ⟨S4096x256, .f32⟩
  | 120 => ⟨S4096x4x64, .f32⟩
  | 121 => ⟨S4x4096x64, .f32⟩
  | 122 => ⟨S4096x256, .f32⟩
  | 123 => ⟨S4096x4x64, .f32⟩
  | 124 => ⟨S4x4096x64, .f32⟩
  | 125 => ⟨S4x4096x1x64, .f32⟩
  | 126 => ⟨S4x4096x1x64, .f32⟩
  | 127 => ⟨S4x4096x2x64, .f32⟩
  | _ => ⟨S1x4096x1024, .f32⟩

abbrev hbmTy0_2 (i : Nat) : BufTy := match i % 128 with
  | 0 => ⟨S4x4096x128, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call1_v0 : Ref sig .tc := ⟨.hbm, 33, rfl⟩
abbrev main_v20_0 : Ref sig .tc := ⟨.hbm, 34, rfl⟩
abbrev main_v20_1 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call2_v0 : Ref sig .tc := ⟨.hbm, 48, rfl⟩
abbrev main_v30_0 : Ref sig .tc := ⟨.hbm, 49, rfl⟩
abbrev main_v30_1 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_call3_v0 : Ref sig .tc := ⟨.hbm, 113, rfl⟩
abbrev main_v83_1 : Ref sig .tc := ⟨.hbm, 114, rfl⟩
abbrev main_call3_v2 : Ref sig .tc := ⟨.hbm, 115, rfl⟩
abbrev main_v83_0 : Ref sig .tc := ⟨.hbm, 116, rfl⟩
abbrev main_call3_cst : Ref sig .tc := ⟨.hbm, 117, rfl⟩
abbrev main_v83_2 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_21 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_22 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_23 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_24 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_call4_cst : Ref sig .tc := ⟨.hbm, 199, rfl⟩
abbrev main_call4_v0 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_25 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_call5_cst : Ref sig .tc := ⟨.hbm, 215, rfl⟩
abbrev main_call5_v0 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_26 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_call6_cst : Ref sig .tc := ⟨.hbm, 228, rfl⟩
abbrev main_call6_v0 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_call7_cst : Ref sig .tc := ⟨.hbm, 234, rfl⟩
abbrev main_call7_v0 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩

abbrev nD : Nat := 1
abbrev τ : Topo := Topo.v7x

variable {F : FTy → Type} [FloatOps F]
-- ==== Kernel5.lean ====
abbrev S1024x5632 : Shape := ⟨2, ![1024, 5632]⟩
abbrev S1x4096x1024 : Shape := ⟨3, ![1, 4096, 1024]⟩
abbrev S1x1024 : Shape := ⟨2, ![1, 1024]⟩
abbrev S1x4096x256 : Shape := ⟨3, ![1, 4096, 256]⟩
abbrev S4096x8x128 : Shape := ⟨3, ![4096, 8, 128]⟩
abbrev S8x4096x128 : Shape := ⟨3, ![8, 4096, 128]⟩
abbrev S4096x4x64 : Shape := ⟨3, ![4096, 4, 64]⟩
abbrev S4x4096x64 : Shape := ⟨3, ![4, 4096, 64]⟩
abbrev S4x4096x128 : Shape := ⟨3, ![4, 4096, 128]⟩
abbrev S4096x1024 : Shape := ⟨2, ![4096, 1024]⟩
abbrev S8x1024 : Shape := ⟨2, ![8, 1024]⟩
abbrev S8x256x128 : Shape := ⟨3, ![8, 256, 128]⟩
abbrev S4x256x128 : Shape := ⟨3, ![4, 256, 128]⟩
abbrev S256x1024 : Shape := ⟨2, ![256, 1024]⟩
abbrev S256x5632 : Shape := ⟨2, ![256, 5632]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 51
  | .vmem => 30
  | .smem => 0
  | _ => 0

abbrev bufTy : (tb : Table) → Fin (tcTables nBuf tb) → BufTy
  | .hbm, ⟨0, _⟩ => ⟨S1024x5632, .f32⟩
  | .hbm, ⟨1, _⟩ => ⟨S1x4096x1024, .f32⟩
  | .hbm, ⟨2, _⟩ => ⟨S1x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S1x4096x256, .f32⟩
  | .hbm, ⟨7, _⟩ => ⟨S1x4096x256, .f32⟩
  | .hbm, ⟨8, _⟩ => ⟨S1x4096x256, .f32⟩
  | .hbm, ⟨9, _⟩ => ⟨S1x4096x256, .f32⟩
  | .hbm, ⟨10, _⟩ => ⟨S1x4096x256, .f32⟩
  | .hbm, ⟨11, _⟩ => ⟨S1x4096x256, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S4096x8x128, .f32⟩
  | .hbm, ⟨18, _⟩ => ⟨S8x4096x128, .f32⟩
  | .hbm, ⟨19, _⟩ => ⟨S4096x8x128, .f32⟩
  | .hbm, ⟨20, _⟩ => ⟨S8x4096x128, .f32⟩
  | .hbm, ⟨21, _⟩ => ⟨S4096x8x128, .f32⟩
  | .hbm, ⟨22, _⟩ => ⟨S8x4096x128, .f32⟩
  | .hbm, ⟨23, _⟩ => ⟨S4096x4x64, .f32⟩
  | .hbm, ⟨24, _⟩ => ⟨S4x4096x64, .f32⟩
  | .hbm, ⟨25, _⟩ => ⟨S4096x4x64, .f32⟩
  | .hbm, ⟨26, _⟩ => ⟨S4x4096x64, .f32⟩
  | .hbm, ⟨27, _⟩ => ⟨S4x4096x128, .f32⟩
  | .hbm, ⟨28, _⟩ => ⟨S4096x4x64, .f32⟩
  | .hbm, ⟨29, _⟩ => ⟨S4x4096x64, .f32⟩
  | .hbm, ⟨30, _⟩ => ⟨S4096x4x64, .f32⟩
  | .hbm, ⟨31, _⟩ => ⟨S4x4096x64, .f32⟩
  | .hbm, ⟨32, _⟩ => ⟨S4x4096x128, .f32⟩
  | .hbm, ⟨33, _⟩ => ⟨S4096x4x64, .f32⟩
  | .hbm, ⟨34, _⟩ => ⟨S4x4096x64, .f32⟩
  | .hbm, ⟨35, _⟩ => ⟨S4096x4x64, .f32⟩
  | .hbm, ⟨36, _⟩ => ⟨S4x4096x64, .f32⟩
  | .hbm, ⟨37, _⟩ => ⟨S4x4096x128, .f32⟩
  | .hbm, ⟨38, _⟩ => ⟨S4096x1024, .f32⟩
  | .hbm, ⟨39, _⟩ => ⟨S4096x1024, .bf16⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S4096x1024, .bf16⟩
  | .hbm, ⟨46, _⟩ => ⟨S1024x5632, .bf16⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S8x1024, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S4x256x128, .f32⟩
  | .local _ .vmem, ⟨7, _⟩ => ⟨S4x256x128, .f32⟩
  | .local _ .vmem, ⟨8, _⟩ => ⟨S4x256x128, .f32⟩
  | .local _ .vmem, ⟨9, _⟩ => ⟨S4x256x128, .f32⟩
  | .local _ .vmem, ⟨10, _⟩ => ⟨S4x256x128, .f32⟩
  | .local _ .vmem, ⟨11, _⟩ => ⟨S4x256x128, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x5632, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S8x1024, .f32⟩
  | .local _ .vmem, ⟨29, _⟩ => ⟨S256x5632, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S1024x5632 : Shape := ⟨2, ![1024, 5632]⟩
abbrev S1x4096x1024 : Shape := ⟨3, ![1, 4096, 1024]⟩
abbrev S1x1024 : Shape := ⟨2, ![1, 1024]⟩
abbrev S1x4096x256 : Shape := ⟨3, ![1, 4096, 256]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S4096 : Shape := ⟨1, ![4096]⟩
abbrev S4096x1024 : Shape := ⟨2, ![4096, 1024]⟩
abbrev S7x1024 : Shape := ⟨2, ![7, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1x4096x1024, .f32⟩
  | .hbm, ⟨2, _⟩ => ⟨S1x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S1x4096x256, .f32⟩
  | .hbm, ⟨7, _⟩ => ⟨S1x4096x256, .f32⟩
  | .hbm, ⟨8, _⟩ => ⟨S1x4096x256, .f32⟩
  | .hbm, ⟨9, _⟩ => ⟨S1x4096x256, .f32⟩
  | .hbm, ⟨10, _⟩ => ⟨S1x4096x256, .f32⟩
  | .hbm, ⟨11, _⟩ => ⟨S1x4096x256, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1024, .f32⟩
  | .hbm, ⟨18, _⟩ => ⟨S1x4096x1024, .f32⟩
  | .hbm, ⟨19, _⟩ => ⟨S_, .f32⟩
  | .hbm, ⟨20, _⟩ => ⟨S1x4096, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S1x4096x1, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S1x4096x5632, .f32⟩
  | .hbm, ⟨39, _⟩ => ⟨S1x4096x1024, .f32⟩
  | .hbm, ⟨40, _⟩ => ⟨S1x4096x256, .f32⟩
  | .hbm, ⟨41, _⟩ => ⟨S1x4096x256, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x256, .f32⟩
  | .hbm, ⟨52, _⟩ => ⟨S1x4096x256, .f32⟩
  | .hbm, ⟨53, _⟩ => ⟨S1x4096x256, .f32⟩
  | .hbm, ⟨54, _⟩ => ⟨S1x4096x256, .f32⟩
  | .hbm, ⟨55, _⟩ => ⟨S_, .f32⟩
  | .hbm, ⟨56, _⟩ => ⟨S1x4096x1024, .f32⟩
  | .hbm, ⟨57, _⟩ => ⟨S1x4096x1024, .f32⟩
  | .hbm, ⟨58, _⟩ => ⟨S1x4096x5632, .f32⟩
  | .hbm, ⟨59, _⟩ => ⟨S1x4096x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1, .f32⟩
  | .hbm, ⟨76, _⟩ => ⟨S_, .f32⟩
  | .hbm, ⟨77, _⟩ => ⟨S1x4096x1, .f32⟩
  | .hbm, ⟨78, _⟩ => ⟨S1x4096x1, .f32⟩
  | .hbm, ⟨79, _⟩ => ⟨S_, .f32⟩
  | .hbm, ⟨80, _⟩ => ⟨S4096, .f32⟩
  | .hbm, ⟨81, _⟩ => ⟨S1x4096, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S1x1024, .f32⟩
  | .hbm, ⟨88, _⟩ => ⟨S4096x1024, .f32⟩
  | .hbm, ⟨89, _⟩ => ⟨S_, .f32⟩
  | .hbm, ⟨90, _⟩ => ⟨S7x1024, .f32⟩
  | .hbm, ⟨91, _⟩ => ⟨S8x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Kernel6.lean ====
abbrev S1x4096x1024 : Shape := ⟨3, ![1, 4096, 1024]⟩
abbrev S1x1024 : Shape := ⟨2, ![1, 1024]⟩
abbrev S1024x5632 : Shape := ⟨2, ![1024, 5632]⟩
abbrev S4096x1024 : Shape := ⟨2, ![4096, 1024]⟩
abbrev S8x4096x128 : Shape := ⟨3, ![8, 4096, 128]⟩
abbrev S2x4096x128 : Shape := ⟨3, ![2, 4096, 128]⟩
abbrev S512x1024 : Shape := ⟨2, ![512, 1024]⟩
abbrev S8x512x128 : Shape := ⟨3, ![8, 512, 128]⟩
abbrev S2x512x128 : Shape := ⟨3, ![2, 512, 128]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 13
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S1024x5632, .bf16⟩
  | .hbm, ⟨5, _⟩ => ⟨S4096x1024, .bf16⟩
  | .hbm, ⟨6, _⟩ => ⟨S8x4096x128, .f32⟩
  | .hbm, ⟨7, _⟩ => ⟨S2x4096x128, .f32⟩
  | .hbm, ⟨8, _⟩ => ⟨S2x4096x128, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1024, .bf16⟩
  | .local _ .vmem, ⟨5, _⟩ => ⟨S512x1024, .bf16⟩
  | .local _ .vmem, ⟨6, _⟩ => ⟨S8x512x128, .f32⟩
  | .local _ .vmem, ⟨7, _⟩ => ⟨S8x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S1x4096x1024 : Shape := ⟨3, ![1, 4096, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S1x4096x256 : Shape := ⟨3, ![1, 4096, 256]⟩
abbrev S4096x1024 : Shape := ⟨2, ![4096, 1024]⟩
abbrev S4096x8x128 : Shape := ⟨3, ![4096, 8, 128]⟩
abbrev S8x4096x128 : Shape := ⟨3, ![8, 4096, 128]⟩
abbrev S4096x2x128 : Shape := ⟨3, ![4096, 2, 128]⟩
abbrev S2x4096x128 : Shape := ⟨3, ![2, 4096, 128]⟩

abbrev nBuf : Space → Nat
  | .hbm => 43
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x5632, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x5632, .f32⟩
  | .hbm, ⟨21, _⟩ => ⟨S1x4096x1024, .f32⟩
  | .hbm, ⟨22, _⟩ => ⟨S1x4096x256, .f32⟩
  | .hbm, ⟨23, _⟩ => ⟨S1x4096x256, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S4096x1024, .f32⟩
  | .hbm, ⟨32, _⟩ => ⟨S4096x1024, .bf16⟩
  | .hbm, ⟨33, _⟩ => ⟨S4096x8x128, .f32⟩
  | .hbm, ⟨34, _⟩ => ⟨S8x4096x128, .f32⟩
  | .hbm, ⟨35, _⟩ => ⟨S4096x2x128, .f32⟩
  | .hbm, ⟨36, _⟩ => ⟨S2x4096x128, .f32⟩
  | .hbm, ⟨37, _⟩ => ⟨S4096x2x128, .f32⟩
  | .hbm, ⟨38, _⟩ => ⟨S2x4096x128, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Proof.Common.Finite.lean ====
/- Facts about finite extended reals that the value proofs share: the constants the programs write, the precondition
   `|x| < ∞` read as "x is a real number", and the two spellings of the logistic function. -/
module

public import Idealize.ShloMosaic.PureOps
public import Idealize.ShloMosaic.PureOps.Ideal
public import Idealize.ShloMosaic.PureOps.Ideal.Laws

@[expose] public section
noncomputable section

namespace Cert.Common

open Idealize.ShloMosaic

/-- The word of one half. -/
theorem ofBits_half : Ideal.ofBits FTy.f32 1056964608#32 = ((1 / 2 : ℝ) : EReal) := by
  simp [Ideal.ofBits, Ideal.ieee, -EReal.coe_mul]; norm_num

/-- The word of one. -/
theorem ofBits_one : Ideal.ofBits FTy.f32 1065353216#32 = ((1 : ℝ) : EReal) := by
  simp [Ideal.ofBits, Ideal.ieee, -EReal.coe_mul]; norm_num

/-- The word of positive infinity. -/
theorem ofBits_inf : Ideal.ofBits FTy.f32 2139095040#32 = ⊤ := by
  simp [Ideal.ofBits, Ideal.ieee]

/-- An extended real whose absolute value compares below infinity is a real number. -/
theorem real_of_abs_lt (x : EReal) (h : Ideal.cmp .olt (max x (-x)) (Ideal.ofBits FTy.f32 2139095040#32) = 1#1) :
    x = ((x.toReal : ℝ) : EReal) := by
  rw [ofBits_inf] at h
  induction x with
  | bot => simp [Ideal.cmp] at h
  | top => simp [Ideal.cmp] at h
  | coe r => rfl

/-- The logistic function of a real number. -/
def sg (a : ℝ) : ℝ := 1 / (1 + Real.exp (-a))

/-- Half the hyperbolic tangent of half the argument, plus one half, is the logistic function. -/
theorem half_tanh (a : ℝ) : 1 / 2 * Real.tanh (1 / 2 * a) + 1 / 2 = sg a := by
  unfold sg
  rw [Real.tanh_eq_sinh_div_cosh, Real.sinh_eq, Real.cosh_eq]
  have h : Real.exp (-a) = Real.exp (-(1 / 2 * a)) * Real.exp (-(1 / 2 * a)) := by rw [← Real.exp_add]; congr 1; ring
  have h1 : Real.exp (1 / 2 * a) * Real.exp (-(1 / 2 * a)) = 1 := by rw [← Real.exp_add]; simp
  have p := Real.exp_pos (1 / 2 * a)
  have q := Real.exp_pos (-(1 / 2 * a))
  rw [h]
  generalize Real.exp (1 / 2 * a) = u at *
  generalize Real.exp (-(1 / 2 * a)) = v at *
  field_simp
  linear_combination (2 * v) * h1

/-- The kernel's spelling at a real argument. -/
theorem sg_tanh (a : ℝ) : ((1 / 2 : ℝ) : EReal) * Ideal.tanh (((1 / 2 : ℝ) : EReal) * (a : EReal)) + ((1 / 2 : ℝ) : EReal) = ((sg a : ℝ) : EReal) := by
  rw [← half_tanh, ← EReal.coe_mul, Ideal.tanh_coe, ← EReal.coe_mul, ← EReal.coe_add]

/-- The reference's spelling at a real argument. -/
theorem sg_exp (a : ℝ) : Ideal.div 1 (1 + Ideal.exp (-(a : EReal))) = ((sg a : ℝ) : EReal) := by
  have h : (0 : ℝ) < 1 + Real.exp (-a) := by positivity
  rw [← EReal.coe_neg, Ideal.exp_coe, ← EReal.coe_one, ← EReal.coe_add, Ideal.div_coe h.ne', ← EReal.coe_mul]
  unfold sg; congr 1; ring

/-- A finite sum of real numbers is a real number. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Common
end
-- ==== Proof.Gate.Lanes.lean ====
/- Words, selects and sums over lanes that the gate's gradient computes with, read as ordinary numbers. -/
module

public import proofs.«01_k».proof.Proof.Gen.KernelIdeal
public import proofs.«01_k».proof.Proof.Common.Finite
public import Idealize.ShloMosaic.Lib.Pointwise

@[expose] public section
set_option maxRecDepth 16384
noncomputable section

namespace Cert.KernelIdeal.GateV
open Cert.KernelIdeal Idealize.ShloMosaic Idealize.ShloMosaic.TcCoe Idealize.SL.Sem Cert.Common

/-- The comparison the host makes for selector `w` at input lane `r`: is the lane's head number, `r / 64` rounded down, `w`? -/
def headTest (r : ℕ) (w : BitVec 32) : BitVec 1 :=
  IntOp.cmpi CmpIPredicate.eq
    (Scalar.select
      (IntOp.andi
        (IntOp.cmpi CmpIPredicate.ne
          (if BitVec.ofNat 32 r = 0 then 0 else if (BitVec.ofNat 32 r).msb = true then -1 else 1 : BitVec 32)
          (if id (constantI S_ 32 64#32) (ix0 : S_.Idx) = 0 then 0
          else if BitVec.msb (id (constantI S_ 32 64#32) (ix0 : S_.Idx)) = true then -1 else 1 : BitVec 32))
        (IntOp.cmpi CmpIPredicate.ne (IntOp.remsi ArithUnit.host (BitVec.ofNat 32 r) (id (constantI S_ 32 64#32) (ix0 : S_.Idx))) 0#32))
      (IntOp.subi (IntOp.divsi ArithUnit.host (BitVec.ofNat 32 r) (id (constantI S_ 32 64#32) (ix0 : S_.Idx))) 1#32)
      (IntOp.divsi ArithUnit.host (BitVec.ofNat 32 r) (id (constantI S_ 32 64#32) (ix0 : S_.Idx))))
    w

theorem divsi_64 (x : BitVec 32) : IntOp.divsi ArithUnit.host x 64#32 = x.sdiv 64#32 := by
  unfold IntOp.divsi
  rw [if_neg]
  unfold IntOp.SDivCorner
  simp

theorem remsi_64 (x : BitVec 32) : IntOp.remsi ArithUnit.host x 64#32 = x.srem 64#32 := by
  unfold IntOp.remsi
  rw [if_neg]
  unfold IntOp.SDivCorner
  simp

theorem headTest_eq : ∀ (r : Fin 128) (h : Fin 2), headTest r.val (BitVec.ofNat 32 h.val) = if r.val / 64 = h.val then 1#1 else 0#1 := by
  unfold headTest
  simp only [show id (constantI S_ 32 64#32) (ix0 : S_.Idx) = 64#32 from rfl, divsi_64, remsi_64]
  decide +kernel

theorem uitofp_ite (p : Prop) [Decidable p] :
    FloatOps.uitofp (F := Ideal) FTy.bf16 (if p then 1#1 else 0#1) = (((if p then 1 else 0 : ℝ)) : EReal) := by
  show ((((if p then 1#1 else 0#1 : BitVec 1).toNat : ℝ)) : EReal) = _
  split <;> simp

theorem lt_word : ∀ (x : Fin 128) (n : Fin 128), (IntOp.cmpi CmpIPredicate.slt (BitVec.ofNat 32 x.val) (BitVec.ofNat 32 n.val) = 1#1) ↔ x.val < n.val := by
  decide +kernel

theorem and_word : ∀ (x : Fin 128) (n : Fin 4), (IntOp.cmpi CmpIPredicate.eq (IntOp.andi (BitVec.ofNat 32 x.val) 3#32) (BitVec.ofNat 32 n.val) = 1#1) ↔ x.val % 4 = n.val := by
  decide +kernel

/-- The lanes of a tile of head sums: lane `h < 4` is minus head `h`'s sum, every other lane zero. -/
theorem lanes (x : Fin 128) (f : Fin 4 → ℝ) :
    (if IntOp.cmpi CmpIPredicate.slt (BitVec.ofNat 32 x.val) 4#32 = 1#1 then
        0 -
          if IntOp.cmpi CmpIPredicate.eq (IntOp.andi (BitVec.ofNat 32 x.val) 3#32) 3#32 = 1#1 then f 3
          else if IntOp.cmpi CmpIPredicate.eq (IntOp.andi (BitVec.ofNat 32 x.val) 3#32) 2#32 = 1#1 then f 2
          else if IntOp.cmpi CmpIPredicate.eq (IntOp.andi (BitVec.ofNat 32 x.val) 3#32) 1#32 = 1#1 then f 1
          else f 0
      else
        if IntOp.cmpi CmpIPredicate.slt (BitVec.ofNat 32 x.val) 8#32 = 1#1 then 0
        else if IntOp.cmpi CmpIPredicate.slt (BitVec.ofNat 32 x.val) 12#32 = 1#1 then 0 else 0 : ℝ)
      = if h : x.val < 4 then - f ⟨x.val, h⟩ else 0 := by
  have a3 := and_word x 3
  have a2 := and_word x 2
  have a1 := and_word x 1
  have b := lt_word x 4
  change _ ↔ _ < 4 at b
  change _ ↔ _ = 3 at a3
  change _ ↔ _ = 2 at a2
  change _ ↔ _ = 1 at a1
  simp only [show BitVec.ofNat 32 (3 : Fin 4).val = 3#32 from rfl] at a3
  simp only [show BitVec.ofNat 32 (2 : Fin 4).val = 2#32 from rfl] at a2
  simp only [show BitVec.ofNat 32 (1 : Fin 4).val = 1#32 from rfl] at a1
  simp only [show BitVec.ofNat 32 (4 : Fin 128).val = 4#32 from rfl] at b
  simp only [a1, a2, a3, b]
  obtain ⟨x, hx⟩ := x
  by_cases h : x < 4
  · simp only [h, if_true, dif_pos]
    interval_cases x <;> simp
  · simp [h]

/-- A sum over a slab's 128 lanes weighed by the selector of head `h` is the sum over that head's 64 lanes. -/
theorem sum_head (p : Fin 128 → ℝ) (h : Fin 2) :
    (∑ i : Fin 128, p i * if i.val / 64 = h.val then 1 else 0) = ∑ l : Fin 64, p ⟨h.val * 64 + l.val, by omega⟩ := by
  refine (Fin.sum_univ_add (a := 64) (b := 64) (fun i : Fin (64 + 64) => p i * if i.val / 64 = h.val then 1 else 0)).trans ?_
  have e0 : ∀ l : Fin 64, (Fin.castAdd 64 l).val / 64 = 0 := fun l => by simp only [Fin.val_castAdd]; omega
  have e1 : ∀ l : Fin 64, (Fin.natAdd 64 l).val / 64 = 1 := fun l => by simp only [Fin.val_natAdd]; omega
  simp only [e0, e1]
  fin_cases h
  · simp; rfl
  · simp; rfl

theorem select_coe (b : BitVec 1) (x y : ℝ) : Scalar.select b (x : EReal) (y : EReal) = (((if b = 1#1 then x else y : ℝ)) : EReal) := by
  unfold Scalar.select
  by_cases h : b = 1#1 <;> simp [h]

end Cert.KernelIdeal.GateV
end
-- ==== Proof.Gate.Blocks.lean ====
/- What the gate's gradient finds in its input blocks: rows of the three argument arrays and the two head selectors. -/
module

public import proofs.«01_k».proof.Proof.Gate.Lanes
public import proofs.«01_k».proof.Proof.Gen.KernelIdeal.Value
public import Idealize.ShloMosaic.Lib.Pipeline.ValueKit
public import Idealize.ShloMosaic.Lib.Pointwise
public import Idealize.ShloMosaic.Lib.StableHlo.ReadAt

@[expose] public section
set_option maxRecDepth 16384
noncomputable section

namespace Cert.KernelIdeal.GateV
open Cert.KernelIdeal Cert.KernelIdeal.Gen Idealize.ShloMosaic Idealize.ShloMosaic.TcCoe Idealize.SL.Sem Cert.Common
open Idealize.ShloMosaic.Pipeline (Dat)

variable (m : (ℓ : Loc nD τ sig) → Buf (Elt Ideal) ℓ)

theorem idx : ∀ t, win0_0.index t = ![(grid0.coords t 0).val, 0] ∧ win0_1.index t = ![0, (grid0.coords t 0).val, 0]
    ∧ win0_2.index t = ![(grid0.coords t 0).val, 0] ∧ win0_3.index t = ![0, 0, 0] ∧ win0_4.index t = ![0, (grid0.coords t 0).val, 0]
    ∧ win0_5.index t = ![(grid0.coords t 0).val, 0] ∧ win0_6.index t = ![0, (grid0.coords t 0).val, 0]  := by decide +kernel

/-- The row of the whole array that a row of grid point `t`'s block is. -/
def row (t : Fin cfg0.N) (r : Fin 256) : Fin 4096 :=
  ⟨(grid0.coords t 0).val * 256 + r.val, by have h : (grid0.coords t 0).val < 16 := (grid0.coords t 0).isLt; omega⟩

abbrev A0 (c : Dev nD) : S1x4096x1024.Idx → EReal := m ((c : Thread nD τ).loc main_arg0)
abbrev A1 (c : Dev nD) : S1x4096x1024.Idx → EReal := m ((c : Thread nD τ).loc main_arg1)
abbrev A2 (c : Dev nD) : S1x4096x1024.Idx → EReal := m ((c : Thread nD τ).loc main_arg2)

theorem v3 (c : Dev nD) (r : Fin 4096) (l : Fin 1024) :
    (V m c main_v3 : S4096x1024.Idx → EReal) (ix2 r l) = A2 m c (ix3 0 r l) := by
  unfold V
  after_reads_at

theorem v2 (c : Dev nD) (s : Fin 8) (r : Fin 4096) (l : Fin 128) :
    (V m c main_v2 : S8x4096x128.Idx → EReal) (ix3 s r l) = A0 m c (ix3 0 r ⟨s.val * 128 + l.val, by omega⟩) := by
  unfold V
  after_reads_at

theorem v17 (c : Dev nD) (s : Fin 2) (r : Fin 128) (l : Fin 128) :
    (V m c main_v17 : S2x128x128.Idx → EReal) (ix3 s r l) = (((if r.val / 64 = s.val then 1 else 0 : ℝ)) : EReal) := by
  unfold V
  after_reads_at
  split
  · have hs : s = 0 := by omega
    subst hs
    after_reads_at
    exact (congrArg (FloatOps.uitofp (F := Ideal) FTy.bf16) (headTest_eq r 0)).trans (uitofp_ite _)
  · have hs : s = 1 := by omega
    subst hs
    after_reads_at
    exact (congrArg (FloatOps.uitofp (F := Ideal) FTy.bf16) (headTest_eq r 1)).trans (uitofp_ite _)

theorem v4 (c : Dev nD) (r : Fin 4096) (l : Fin 1024) :
    (V m c main_v4 : S4096x1024.Idx → EReal) (ix2 r l) = A1 m c (ix3 0 r l) := by
  unfold V
  after_reads_at

theorem i0 (c : Dev nD) (t : Fin cfg0.N) (r : Fin 256) (l : Fin 1024) :
    (iblk m c 0 t : Vec Ideal S256x1024 .f32) (ix2 r l) = A2 m c (ix3 0 (row t r) l) := by
  rw [← v3]
  unfold row
  blk_ext [iblk, idx t]

theorem i1 (c : Dev nD) (t : Fin cfg0.N) (s : Fin 8) (r : Fin 256) (l : Fin 128) :
    (iblk m c 1 t : Vec Ideal S8x256x128 .f32) (ix3 s r l) = A0 m c (ix3 0 (row t r) ⟨s.val * 128 + l.val, by omega⟩) := by
  rw [← v2]
  unfold row
  blk_ext [iblk, idx t]

theorem i2 (c : Dev nD) (t : Fin cfg0.N) (r : Fin 256) (l : Fin 1024) :
    (iblk m c 2 t : Vec Ideal S256x1024 .f32) (ix2 r l) = A1 m c (ix3 0 (row t r) l) := by
  rw [← v4]
  unfold row
  blk_ext [iblk, idx t]

theorem i3 (c : Dev nD) (t : Fin cfg0.N) (s : Fin 2) (r : Fin 128) (l : Fin 128) :
    (iblk m c 3 t : Vec Ideal S2x128x128 .bf16) (ix3 s r l) = (((if r.val / 64 = s.val then 1 else 0 : ℝ)) : EReal) := by
  rw [← v17 m c s r l]
  blk_ext [iblk, idx t]

end Cert.KernelIdeal.GateV
end
-- ==== Proof.Gate.Arrays.lean ====
/- The three result arrays of the gate's gradient, at real arguments, index by index. -/
module

public import proofs.«01_k».proof.Proof.Gate.Blocks

@[expose] public section
set_option maxRecDepth 16384
noncomputable section

namespace Cert.KernelIdeal.GateV
open Cert.KernelIdeal Cert.KernelIdeal.Gen Idealize.ShloMosaic Idealize.ShloMosaic.TcCoe Idealize.SL.Sem Cert.Common
open Idealize.ShloMosaic.Pipeline (Dat)

variable (m : (ℓ : Loc nD τ sig) → Buf (Elt Ideal) ℓ)
variable (o g d : Fin 4096 → Fin 1024 → ℝ)

/-- The attention's cotangent: the cotangent of the gated output through the gate. -/
def doR (r : Fin 4096) (l : Fin 1024) : ℝ := d r l * (g r l * sg (g r l))

/-- The column of the whole array that lane `l` of slab `s` is. -/
def lane (s : Fin 8) (l : Fin 128) : Fin 1024 := ⟨s.val * 128 + l.val, by omega⟩

def G4 : S8x4096x128.Idx → EReal := fun j => ((doR g d (j 1) (lane (j 0) (j 2)) : ℝ) : EReal)

/-- The gate's cotangent. -/
def dgR (r : Fin 4096) (l : Fin 1024) : ℝ := d r l * o r l * (sg (g r l) * (1 + g r l * (1 - sg (g r l))))

def G5 : S4096x1024.Idx → EReal := fun j => ((dgR o g d (j 0) (j 1) : ℝ) : EReal)

/-- The sum, over the 64 lanes of head `4 j + h`, of the cotangent of the attention's output times that output. -/
def deltaR (r : Fin 4096) (j : Fin 4) (h : Fin 4) : ℝ :=
  ∑ l : Fin 64, doR g d r ⟨(j.val * 4 + h.val) * 64 + l.val, by omega⟩ * o r ⟨(j.val * 4 + h.val) * 64 + l.val, by omega⟩

def G6 : S4x4096x128.Idx → EReal := fun j =>
  (((if h : (j 2).val < 4 then - deltaR o g d (j 1) (j 0) ⟨(j 2).val, h⟩ else 0 : ℝ)) : EReal)

variable (c : Dev nD) (ho : ∀ r l, A0 m c (ix3 0 r l) = ((o r l : ℝ) : EReal)) (hg : ∀ r l, A1 m c (ix3 0 r l) = ((g r l : ℝ) : EReal))
  (hd : ∀ r l, A2 m c (ix3 0 r l) = ((d r l : ℝ) : EReal))

include hg hd

/-- What a grid point leaves in its block of the attention's cotangent. -/
theorem out4 (t : Fin cfg0.N) (j0 : Fin 8) (j1 : Fin 256) (j2 : Fin 128) :
    (out0_4 (iblk m c 0 t) (iblk m c 1 t) (iblk m c 2 t) (iblk m c 3 t) : Vec Ideal S8x256x128 .f32) (ix3 j0 j1 j2)
      = ((doR g d (row t j1) (lane j0 j2) : ℝ) : EReal) := by
  unfold_out out0_4
  canon_tiles x h
  all_goals
    idx_vars x
    obtain rfl : x0 = 0 := Subsingleton.elim _ _
    change j0.val = _ at h0
    change j2.val = _ at h2
    obtain rfl : j1 = x1 := Fin.ext h1
    unfold_payloads
    pointwise
    simp only [i0, i1, i2, hg, hd, ofBits_half, sg_tanh]
    simp only [← EReal.coe_mul]
    unfold doR lane
    simp only [h0, h2, Fin.val_zero, Nat.add_zero, Nat.reduceMul, Nat.zero_mul, Nat.zero_add]

theorem f4 : (dats m 0 c).arrAt 4 cfg0.N = G4 g d := by
  refine (dats m 0 c).arrAt_eq_of_covers 4 _ (by decide +kernel) fun t hf y => ?_
  have e1 : (((cfg0.win 4).blk t).view.emb y) 1 = row t (y 1) := by
    apply Fin.ext; blk_simp [idx t]; simp only [row]
  have e0 : (((cfg0.win 4).blk t).view.emb y) 0 = y 0 := by
    apply Fin.ext; blk_simp [idx t]
  have e2 : (((cfg0.win 4).blk t).view.emb y) 2 = y 2 := by
    apply Fin.ext; blk_simp [idx t]
  unfold G4
  simp only [e0, e1, e2]
  blk_simp
  rw [after0_4]
  exact (congrArg _ (ix3_eta (y : _)).symm).trans (out4 m g d c hg hd t (y 0) (y 1) (y 2))

include ho

/-- What a grid point leaves in its block of the gate's cotangent. -/
theorem out5 (t : Fin cfg0.N) (j0 : Fin 256) (j1 : Fin 1024) :
    (out0_5 (iblk m c 0 t) (iblk m c 1 t) (iblk m c 2 t) (iblk m c 3 t) : Vec Ideal S256x1024 .bf16) (ix2 j0 j1)
      = ((dgR o g d (row t j0) j1 : ℝ) : EReal) := by
  unfold_out out0_5
  canon_tiles x h
  all_goals
    idx_vars x
    obtain rfl : j0 = x0 := Fin.ext h0
    obtain ⟨j1, hj⟩ := j1
    obtain rfl : j1 = _ := h1
    unfold_payloads
    pointwise
    simp only [i0, i1, i2, ho, hg, hd, ofBits_half, sg_tanh]
    simp only [← EReal.coe_mul, ← EReal.coe_add, ← EReal.coe_sub, ← EReal.coe_one]
    unfold dgR
    simp only [Fin.coe_ofNat_eq_mod, Nat.reduceMod, Nat.reduceMul, Nat.zero_mul, Nat.zero_add]

theorem f5 : (dats m 0 c).arrAt 5 cfg0.N = G5 o g d := by
  refine (dats m 0 c).arrAt_eq_of_covers 5 _ (by decide +kernel) fun t hf y => ?_
  have e0 : (((cfg0.win 5).blk t).view.emb y) 0 = row t (y 0) := by
    apply Fin.ext; blk_simp [idx t]; simp only [row]
  have e1 : (((cfg0.win 5).blk t).view.emb y) 1 = y 1 := by
    apply Fin.ext; blk_simp [idx t]
  unfold G5
  simp only [e0, e1]
  blk_simp
  rw [after0_5]
  exact (congrArg _ (ix2_eta (y : _)).symm).trans (out5 m o g d c ho hg hd t (y 0) (y 1))

set_option maxHeartbeats 1000000 in
/-- What a grid point leaves in its block of the head sums. -/
theorem out6 (t : Fin cfg0.N) (j0 : Fin 4) (j1 : Fin 256) (j2 : Fin 128) :
    (out0_6 (iblk m c 0 t) (iblk m c 1 t) (iblk m c 2 t) (iblk m c 3 t) : Vec Ideal S4x256x128 .f32) (ix3 j0 j1 j2)
      = (((if h : j2.val < 4 then - deltaR o g d (row t j1) j0 ⟨j2.val, h⟩ else 0 : ℝ)) : EReal) := by
  unfold_out out0_6
  canon_tiles x h
  all_goals
    idx_vars x
    obtain rfl : x0 = 0 := Subsingleton.elim _ _
    change j0.val = _ at h0
    obtain rfl : j1 = x1 := Fin.ext h1
    obtain rfl : j2 = x2 := Fin.ext h2
    unfold_payloads
    pointwise
    simp only [i0, i1, i2, i3, ho, hg, hd, ofBits_half, sg_tanh]
    simp only [← EReal.coe_mul, ← EReal.coe_add, ← EReal.coe_sub, ← EReal.coe_zero, ← coe_sum, select_coe,
      sub_self, zero_mul, Finset.sum_const_zero, add_zero, sum_head]
    refine congrArg _ (Eq.trans ?_ (lanes j2 (deltaR o g d (row t j1) j0)))
    unfold deltaR doR
    simp only [h0, Fin.coe_ofNat_eq_mod, Nat.reduceMod, Nat.reduceMul, Nat.zero_mul, Nat.zero_add, Nat.add_zero, Nat.reduceAdd, ← Nat.add_assoc, Nat.one_mul]

theorem f6 : (dats m 0 c).arrAt 6 cfg0.N = G6 o g d := by
  refine (dats m 0 c).arrAt_eq_of_covers 6 _ (by decide +kernel) fun t hf y => ?_
  have e1 : (((cfg0.win 6).blk t).view.emb y) 1 = row t (y 1) := by
    apply Fin.ext; blk_simp [idx t]; simp only [row]
  have e0 : (((cfg0.win 6).blk t).view.emb y) 0 = y 0 := by
    apply Fin.ext; blk_simp [idx t]
  have e2 : (((cfg0.win 6).blk t).view.emb y) 2 = y 2 := by
    apply Fin.ext; blk_simp [idx t]
  unfold G6
  simp only [e0, e1, e2]
  blk_simp
  rw [after0_6]
  exact (congrArg _ (ix3_eta (y : _)).symm).trans (out6 m o g d c ho hg hd t (y 0) (y 1) (y 2))

end Cert.KernelIdeal.GateV
end
-- ==== Proof.Gate.Reference.lean ====
/- What the derivative of the gate, `o · silu(gate)`, is at an index: the three arrays the reference returns are the
   functions `doR`, `dgR` and `deltaR` of the real arguments. -/
module

public import proofs.«01_k».proof.Proof.Gen.ReferenceIdeal.Read
public import proofs.«01_k».proof.Proof.Gate.Arrays

@[expose] public section

set_option maxRecDepth 16384
noncomputable section

namespace Cert.ReferenceIdeal.GateR

open Cert.ReferenceIdeal Cert.ReferenceIdeal.Read Cert.Common Idealize.ShloMosaic Idealize.ShloMosaic.StableHlo
open Cert.KernelIdeal.GateV (doR dgR deltaR G4 G5 G6 lane)

variable (o g d : Fin 4096 → Fin 1024 → ℝ)
variable (a0 a1 a2 : S1x4096x1024.Idx → EReal)
variable (ho : ∀ r l, a0 (ix3 0 r l) = ((o r l : ℝ) : EReal)) (hg : ∀ r l, a1 (ix3 0 r l) = ((g r l : ℝ) : EReal))
  (hd : ∀ r l, a2 (ix3 0 r l) = ((d r l : ℝ) : EReal))

include hg hd

theorem r4 : val_main_v11 (F := Ideal) a1 a2 = G4 g d := by
  rw [← val_main_v11_eq]
  funext j
  idx_vars j
  pointwise
  simp only [hg, hd, sg_exp]
  simp only [← EReal.coe_mul]
  rfl

include ho
theorem r5 : val_main_v13 (F := Ideal) a0 a1 a2 = G5 o g d := by
  rw [← val_main_v13_eq]
  funext j
  idx_vars j
  pointwise
  simp only [ho, hg, hd, sg_exp]
  simp only [← EReal.coe_mul, ← EReal.coe_add, ← EReal.coe_sub, ← EReal.coe_one]
  refine congrArg _ ?_
  change _ = dgR o g d j0 j1
  unfold dgR
  ring

theorem r6 : val_main_v14 (F := Ideal) a0 a1 a2 = G6 o g d := by
  rw [← val_main_v14_eq]
  funext j
  idx_vars j
  pointwise
  simp only [ho, hg, hd, sg_exp]
  simp only [← EReal.coe_mul, ← coe_sum, ← EReal.coe_neg]
  change _ = (((if h : j2.val < 4 then - deltaR o g d j1 j0 ⟨j2.val, h⟩ else 0 : ℝ)) : EReal)
  split
  · refine congrArg _ ?_
    unfold deltaR doR
    simp only [Nat.add_mul, Nat.mul_assoc, Nat.reduceMul]
  · show (((0#32 : BitVec 32).toInt : ℝ) : EReal) = ((0 : ℝ) : EReal)
    simp
end Cert.ReferenceIdeal.GateR
end
-- ==== Proof.Gate.Claims.lean ====
/- The five claims about the attention gate's gradient: the frames, and the kernel's three arrays equal to the
   derivative's. -/
module

public import proofs.«01_k».proof.Defs
public import proofs.«01_k».proof.Proof.Gen.Kernel.Frame
public import proofs.«01_k».proof.Proof.Gen.KernelIdeal.Value
public import proofs.«01_k».proof.Proof.Gen.Pre_finite3
public import proofs.«01_k».proof.Proof.Gate.Reference
public import Idealize.ShloMosaic.Adequacy
public import Idealize.ShloMosaic.Init

@[expose] public section

noncomputable section

namespace Cert.Proof.Gate

open Idealize.ShloMosaic Idealize.ShloMosaic.TcCoe Idealize.SL.Sem Cert.Common
open Cert.KernelIdeal.GateV (G4 G5 G6)

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) := fun m ρ _ => Cert.KernelIdeal.Gen.frame m ρ
theorem frame_ideal_pre : Cert.quiescent_KernelIdeal_pre_finite3 (hKernelIdeal := Cert.KernelIdeal.Gen.facts)
    (hPre_finite3 := Cert.Pre_finite3.Gen.facts) := fun m ρ _ => Cert.KernelIdeal.Gen.frame m ρ
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_reference_pre : Cert.quiescent_ReferenceIdeal_pre_finite3 (hReferenceIdeal := Cert.ReferenceIdeal.Gen.facts)
    (hPre_finite3 := Cert.Pre_finite3.Gen.facts) := fun m ρ _ => frame_reference m ρ trivial

section
attribute [local instance] Cert.Pre_finite3.Gen.facts

/-- The precondition says that every entry of the three arguments is a real number. -/
theorem real_args (a0 a1 a2 : Cert.Pre_finite3.S1x4096x1024.Idx → EReal)
    (h : Cert.Pre_finite3.fn (F := Ideal) a0 a1 a2 = fun _ => 1#1) (i) :
    a0 i = ((a0 i).toReal : EReal) ∧ a1 i = ((a1 i).toReal : EReal) ∧ a2 i = ((a2 i).toReal : EReal) := by
  have h := congrFun h i
  simp only [Cert.Pre_finite3.fn, andi_apply, IntOp.andi_eq_one] at h
  exact ⟨real_of_abs_lt _ h.1.1, real_of_abs_lt _ h.1.2, real_of_abs_lt _ h.2⟩
end

theorem algebraic : Cert.algebraic_KernelIdeal_ReferenceIdeal_pre_finite3 (hKernelIdeal := Cert.KernelIdeal.Gen.facts)
    (hReferenceIdeal := Cert.ReferenceIdeal.Gen.facts) (hPre_finite3 := Cert.Pre_finite3.Gen.facts) := by
  intro m g m' g' hp hm
  have hr := fun c => real_args _ _ _ (hp c)
  let o := fun c r l => (Cert.KernelIdeal.GateV.A0 m c (ix3 0 r l)).toReal
  let g := fun c r l => (Cert.KernelIdeal.GateV.A1 m c (ix3 0 r l)).toReal
  let d := fun c r l => (Cert.KernelIdeal.GateV.A2 m c (ix3 0 r l)).toReal
  have ho : ∀ c r l, Cert.KernelIdeal.GateV.A0 m c (ix3 0 r l) = ((o c r l : ℝ) : EReal) := fun c r l => (hr c _).1
  have hg : ∀ c r l, Cert.KernelIdeal.GateV.A1 m c (ix3 0 r l) = ((g c r l : ℝ) : EReal) := fun c r l => (hr c _).2.1
  have hd : ∀ c r l, Cert.KernelIdeal.GateV.A2 m c (ix3 0 r l) = ((d c r l : ℝ) : EReal) := fun c r l => (hr c _).2.2
  refine ⟨fun c => G4 (g c) (d c), fun c => G5 (o c) (g c) (d c), fun c => G6 (o c) (g c) (d c), ?_, ?_⟩
  · refine (θ_run Cert.KernelIdeal.defs _ _).mono (fun r h c => ?_) (Cert.KernelIdeal.Value.run_blocks (F := Ideal) m _)
    obtain ⟨h4, h5, h6, hk⟩ := h c
    exact ⟨h4.trans (Cert.KernelIdeal.GateV.f4 m _ _ c (hg c) (hd c)), h5.trans (Cert.KernelIdeal.GateV.f5 m _ _ _ c (ho c) (hg c) (hd c)),
      h6.trans (Cert.KernelIdeal.GateV.f6 m _ _ _ c (ho c) (hg c) (hd c)), hk⟩
  · refine (θ_run Cert.ReferenceIdeal.defs _ _).mono (fun r h c => ?_) (Cert.ReferenceIdeal.Value.run (F := Ideal) m' _)
    obtain ⟨h4, h5, h6, hk⟩ := h c
    obtain ⟨e0, e1, e2⟩ := hm c
    refine ⟨h4.trans ?_, h5.trans ?_, h6.trans ?_, hk⟩
    · rw [e1, e2]
      exact (Cert.ReferenceIdeal.GateR.r4 _ _ _ _ (hg c) (hd c))
    · rw [e0, e1, e2]
      exact (Cert.ReferenceIdeal.GateR.r5 _ _ _ _ _ _ (ho c) (hg c) (hd c))
    · rw [e0, e1, e2]
      exact (Cert.ReferenceIdeal.GateR.r6 _ _ _ _ _ _ (ho c) (hg c) (hd c))

end Cert.Proof.Gate
end
-- ==== Proof.Common.Precondition.lean ====
/- The preconditions `all(|x| < ∞)`, read as "every entry is a real number". -/
module

public import proofs.«01_k».proof.Proof.Common.Finite
public import Idealize.ShloMosaic.Lib.ReduceAll

@[expose] public section
noncomputable section

namespace Cert.Common

open Idealize.ShloMosaic

/-- An array every entry of which is a real number. -/
def Real {s : Shape} (x : s.Idx → EReal) : Prop := ∀ i, x i = ((x i).toReal : EReal)

theorem real_of_all {s t u z : Shape} [Subsingleton t.Idx] {axes : List (Fin s.rank)} (x : s.Idx → EReal) (hr : s.ReducesTo axes t) (hu : 0 < u.numel)
    (v : u.Idx → BitVec 1) {dims} (hb : z.BroadcastsInDim s dims) (j : t.Idx)
    (h : Host.reduce IntOp.andi (cmpf (F := Ideal) (φ := .f32) .olt (Host.absf (F := Ideal) (φ := .f32) x)
      (broadcastInDim s dims hb (constant (F := Ideal) z .f32 0x7F800000#32))) v hr hu j = 1#1) : Real x := fun i =>
  real_of_abs_lt _ (Host.reduce_andi_all _ _ _ _ j h i)

end Cert.Common
end
-- ==== Proof.Outproj.Spec.lean ====
/- The output projection, its loss and their gradient over the real numbers: one row of the step at a time, then the sums
   over rows. The kernel's blocks and the reference's arrays are both shown to hold these numbers. -/
module

public import proofs.«01_k».proof.Proof.Common.Finite

@[expose] public section
noncomputable section

namespace Cert.Outproj

open Idealize.ShloMosaic Cert.Common

/-- The constant added under the root of the final norm. -/
def eps6 : ℝ := 8796093 / 2 ^ 43
/-- The constant added under the root of the layer norm. -/
def eps5 : ℝ := 10995116 / 2 ^ 40

theorem ofBits_eps6 : Ideal.ofBits FTy.f32 897988541#32 = ((eps6 : ℝ) : EReal) := by
  unfold eps6; simp [Ideal.ofBits, Ideal.ieee, -EReal.coe_mul]; norm_num
theorem ofBits_eps5 : Ideal.ofBits FTy.f32 925353388#32 = ((eps5 : ℝ) : EReal) := by
  unfold eps5; simp [Ideal.ofBits, Ideal.ieee, -EReal.coe_mul]; norm_num
theorem ofBits_1024 : Ideal.ofBits FTy.f32 1149239296#32 = ((1024 : ℝ) : EReal) := by
  simp [Ideal.ofBits, Ideal.ieee, -EReal.coe_mul]; norm_num
theorem ofBits_inv1024 : Ideal.ofBits FTy.f32 981467136#32 = ((1 / 1024 : ℝ) : EReal) := by
  simp [Ideal.ofBits, Ideal.ieee, -EReal.coe_mul]; norm_num
theorem ofBits_inv2048 : Ideal.ofBits FTy.f32 973078528#32 = ((1 / 2048 : ℝ) : EReal) := by
  simp [Ideal.ofBits, Ideal.ieee, -EReal.coe_mul]; norm_num
theorem ofBits_zero : Ideal.ofBits FTy.f32 0#32 = ((0 : ℝ) : EReal) := by
  simp [Ideal.ofBits, Ideal.ieee]
theorem ofBits_two : Ideal.ofBits FTy.f32 1073741824#32 = ((2 : ℝ) : EReal) := by
  simp [Ideal.ofBits, Ideal.ieee, -EReal.coe_mul]; norm_num
theorem ofBits_neg_half : Ideal.ofBits FTy.f32 3204448256#32 = ((-(1 / 2) : ℝ) : EReal) := by
  simp [Ideal.ofBits, Ideal.ieee, -EReal.coe_mul]; norm_num

/-- The part's arrays: the step's input, attention's half of the projection's input, the convolution's output, its bias and gate,
    the target, the two norms' vectors and the projection. -/
structure Data where
  x : Fin 4096 → Fin 1024 → ℝ
  ya : Fin 4096 → Fin 1024 → ℝ
  pre : Fin 4096 → Fin 1024 → ℝ
  cb : Fin 1024 → ℝ
  gt : Fin 4096 → Fin 1024 → ℝ
  tg : Fin 4096 → Fin 1024 → ℝ
  lg : Fin 1024 → ℝ
  lb : Fin 1024 → ℝ
  gf : Fin 1024 → ℝ
  w : Fin 2048 → Fin 1024 → ℝ

/-- A row of the projection's upper half. -/
def lo (l : Fin 1024) : Fin 2048 := ⟨l.val, by omega⟩
/-- A row of the projection's lower half. -/
def hi (l : Fin 1024) : Fin 2048 := ⟨1024 + l.val, by omega⟩

/-- The mean of a row. -/
def mean (f : Fin 1024 → ℝ) : ℝ := (∑ k, f k) / 1024
/-- The reciprocal root of a row's mean square, a constant added under the root. -/
def rinv (e : ℝ) (f : Fin 1024 → ℝ) : ℝ := (Real.sqrt (mean (fun k => f k * f k) + e))⁻¹

namespace Data
variable (D : Data) (i : Fin 4096)

/-- The convolution with its bias. -/
def u (k : Fin 1024) : ℝ := D.pre i k + D.cb k
def uc (k : Fin 1024) : ℝ := D.u i k - mean (D.u i)
def rstd : ℝ := rinv eps5 (D.uc i)
def z (k : Fin 1024) : ℝ := D.uc i k * D.rstd i
def nrm (k : Fin 1024) : ℝ := D.z i k * D.lg k + D.lb k
/-- The convolution's half of the projection's input. -/
def yc (k : Fin 1024) : ℝ := D.nrm i k * sg (D.nrm i k) * (D.gt i k * sg (D.gt i k))
def x2 (k : Fin 1024) : ℝ := D.x i k + ∑ l, D.ya i l * D.w (lo l) k + ∑ l, D.yc i l * D.w (hi l) k
def r : ℝ := rinv eps6 (D.x2 i)
def xn (k : Fin 1024) : ℝ := D.x2 i k * D.r i
def err (k : Fin 1024) : ℝ := D.xn i k * D.gf k - D.tg i k
def dout (k : Fin 1024) : ℝ := D.err i k * (1 / 1024)
def dxn (k : Fin 1024) : ℝ := D.dout i k * D.gf k
def dx2 (k : Fin 1024) : ℝ := D.r i * (D.dxn i k - D.xn i k * mean (fun k => D.dxn i k * D.xn i k))
def dya (l : Fin 1024) : ℝ := ∑ k, D.dx2 i k * D.w (lo l) k
def dyc (l : Fin 1024) : ℝ := ∑ k, D.dx2 i k * D.w (hi l) k
def dgate (k : Fin 1024) : ℝ :=
  D.dyc i k * (D.nrm i k * sg (D.nrm i k)) * (sg (D.gt i k) * (1 + D.gt i k * (1 - sg (D.gt i k))))
def dn (k : Fin 1024) : ℝ :=
  D.dyc i k * (D.gt i k * sg (D.gt i k)) * (sg (D.nrm i k) * (1 + D.nrm i k * (1 - sg (D.nrm i k))))
def dz (k : Fin 1024) : ℝ := D.dn i k * D.lg k
def du (k : Fin 1024) : ℝ :=
  D.rstd i * (D.dz i k - mean (D.dz i) - D.z i k * mean (fun k => D.dz i k * D.z i k))

/-- The projection's input: attention's half, then the convolution's. -/
def y (a : Fin 2048) : ℝ := if h : a.val < 1024 then D.ya i ⟨a.val, h⟩ else D.yc i ⟨a.val - 1024, by omega⟩

/-- What a row adds to the vectors' gradients and to the loss. -/
def st (j : Fin 8) (k : Fin 1024) : ℝ :=
  match j with
  | 0 => D.dout i k * D.xn i k
  | 1 => D.err i k * D.err i k * (1 / 2048)
  | 2 => D.dn i k * D.z i k
  | 3 => D.dn i k
  | 4 => D.du i k
  | _ => 0

end Data

theorem rinv_pos_arg (e : ℝ) (he : 0 < e) (f : Fin 1024 → ℝ) : 0 < mean (fun k => f k * f k) + e := by
  unfold mean
  have : 0 ≤ ∑ k, f k * f k := Finset.sum_nonneg fun k _ => mul_self_nonneg _
  positivity

theorem eps5_pos : 0 < eps5 := by unfold eps5; positivity
theorem eps6_pos : 0 < eps6 := by unfold eps6; positivity

/-- A mean as the programs write it. -/
theorem div_1024 (a : ℝ) : Ideal.div (a : EReal) ((1024 : ℝ) : EReal) = ((a / 1024 : ℝ) : EReal) := by
  rw [Ideal.div_coe (by norm_num), ← EReal.coe_mul, mul_one_div]

/-- A reciprocal root as the programs write it. -/
theorem rsqrt_row (e : ℝ) (he : 0 < e) (f : Fin 1024 → ℝ) :
    Ideal.rsqrt ((mean (fun k => f k * f k) + e : ℝ) : EReal) = ((rinv e f : ℝ) : EReal) := by
  have h := rinv_pos_arg e he f
  rw [Ideal.rsqrt_coe, if_neg h.le.not_gt, if_neg h.ne']; rfl

end Cert.Outproj
end
-- ==== Proof.Outproj.Terms.lean ====
/- What each value of the projection's kernel body is, over the reals: a block of rows in, the same rows of the
   specification out. -/
module

public import proofs.«01_k».proof.Proof.Outproj.Spec
public import proofs.«01_k».proof.Proof.Gen.Kernel2Ideal.Value
public import Idealize.ShloMosaic.Lib.Pipeline.ValueKit
public import Idealize.ShloMosaic.Lib.Pointwise
public import Idealize.ShloMosaic.Lib.StableHlo.ReadAt

@[expose] public section
set_option maxRecDepth 16384
noncomputable section

namespace Cert.Kernel2Ideal.OutV
open Cert.Kernel2Ideal Cert.Kernel2Ideal.Gen Idealize.ShloMosaic Idealize.ShloMosaic.TcCoe Idealize.SL.Sem Cert.Common
open Cert.Outproj

variable (D : Data) (ρ : Fin 256 → Fin 4096)

/-- A block holding the rows `ρ` of a real array. -/
def Rows (f : Fin 4096 → Fin 1024 → ℝ) (v : S256x1024.Idx → EReal) : Prop :=
  ∀ (r : Fin 256) (k : Fin 1024), v (ix2 r k) = ((f (ρ r) k : ℝ) : EReal)
/-- A column holding one real number of each of the rows `ρ`. -/
def Col (f : Fin 4096 → ℝ) (v : S256x1.Idx → EReal) : Prop :=
  ∀ (r : Fin 256) (k : Fin 1), v (ix2 r k) = ((f (ρ r) : ℝ) : EReal)
/-- A row holding a real vector. -/
def Lanes (f : Fin 1024 → ℝ) (v : S1x1024.Idx → EReal) : Prop :=
  ∀ (r : Fin 1) (k : Fin 1024), v (ix2 r k) = ((f k : ℝ) : EReal)
/-- Half of the projection. -/
def Half (f : Fin 1024 → Fin 2048) (v : S1024x1024.Idx → EReal) : Prop :=
  ∀ (r : Fin 1024) (k : Fin 1024), v (ix2 r k) = ((D.w (f r) k : ℝ) : EReal)

variable {ya yc x tg u gt : S256x1024.Idx → EReal} {wl wh : S1024x1024.Idx → EReal} {gf lg lb : S1x1024.Idx → EReal}

theorem x2_rows (hya : Rows ρ D.ya ya) (hyc : Rows ρ D.yc yc) (hx : Rows ρ D.x x) (hl : Half D lo wl) (hh : Half D hi wh) :
    Rows ρ D.x2 (k0_pay7 (F := Ideal) ya yc x wl wh) := by
  intro r k
  unfold k0_pay7 k0_pay5 k0_pay6
  pointwise
  simp only [hya r, hyc r, hx r, hl _, hh _, ofBits_zero]
  simp only [← EReal.coe_mul, ← coe_sum, ← EReal.coe_add]
  rfl

theorem r_col (hya : Rows ρ D.ya ya) (hyc : Rows ρ D.yc yc) (hx : Rows ρ D.x x) (hl : Half D lo wl) (hh : Half D hi wh) :
    Col ρ D.r (k0_pay8 (F := Ideal) ya yc x wl wh) := by
  intro r k
  have h := x2_rows D ρ hya hyc hx hl hh
  unfold k0_pay8
  generalize k0_pay7 (F := Ideal) ya yc x wl wh = v at h
  pointwise
  simp only [h r, ofBits_zero, ofBits_1024, ofBits_eps6]
  simp only [← EReal.coe_mul, ← coe_sum, ← EReal.coe_add, div_1024]
  exact rsqrt_row _ eps6_pos _

theorem xn_rows (hya : Rows ρ D.ya ya) (hyc : Rows ρ D.yc yc) (hx : Rows ρ D.x x) (hl : Half D lo wl) (hh : Half D hi wh) :
    Rows ρ D.xn (k0_pay9 (F := Ideal) ya yc x wl wh) := by
  intro r k
  have h := x2_rows D ρ hya hyc hx hl hh
  have h' := r_col D ρ hya hyc hx hl hh
  unfold k0_pay9
  generalize k0_pay7 (F := Ideal) ya yc x wl wh = v at h
  generalize k0_pay8 (F := Ideal) ya yc x wl wh = v' at h'
  pointwise
  simp only [h r, h' r, ← EReal.coe_mul]
  rfl

theorem err_rows (hya : Rows ρ D.ya ya) (hyc : Rows ρ D.yc yc) (hx : Rows ρ D.x x) (hl : Half D lo wl) (hh : Half D hi wh)
    (hg : Lanes D.gf gf) (ht : Rows ρ D.tg tg) : Rows ρ D.err (k0_pay10 (F := Ideal) ya yc x wl wh gf tg) := by
  intro r k
  have h := xn_rows D ρ hya hyc hx hl hh
  unfold k0_pay10
  generalize k0_pay9 (F := Ideal) ya yc x wl wh = v at h
  pointwise
  simp only [h r, hg _, ht r]
  simp only [← EReal.coe_mul, ← EReal.coe_sub]
  rfl

theorem dout_rows (hya : Rows ρ D.ya ya) (hyc : Rows ρ D.yc yc) (hx : Rows ρ D.x x) (hl : Half D lo wl) (hh : Half D hi wh)
    (hg : Lanes D.gf gf) (ht : Rows ρ D.tg tg) : Rows ρ D.dout (k0_pay11 (F := Ideal) ya yc x wl wh gf tg) := by
  intro r k
  have h := err_rows D ρ hya hyc hx hl hh hg ht
  unfold k0_pay11
  generalize k0_pay10 (F := Ideal) ya yc x wl wh gf tg = v at h
  pointwise
  simp only [h r, ofBits_inv1024, ← EReal.coe_mul]
  rfl

variable {rc rs : S256x1.Idx → EReal} {xn er dout dyc uc rsb z dn dx2 : S256x1024.Idx → EReal} {row : S1x1024.Idx → EReal}

theorem dx2_rows (hr : Col ρ D.r rc) (hx : Rows ρ D.xn xn) (hd : Rows ρ D.dout dout) (hg : Lanes D.gf gf) :
    Rows ρ D.dx2 (k0_pay12 (F := Ideal) rc xn dout gf) := by
  intro r k
  unfold k0_pay12
  pointwise
  simp only [hr r, hx r, hd r, hg _, ofBits_zero, ofBits_1024]
  simp only [← EReal.coe_mul, ← coe_sum, ← EReal.coe_add, div_1024, ← EReal.coe_sub]
  rfl

theorem dx2_rows' (hr : Col ρ D.r rc) (hx : Rows ρ D.xn xn) (hd : Rows ρ D.dout dout) (hg : Lanes D.gf gf) :
    Rows ρ D.dx2 (k0_pay13 (F := Ideal) rc xn dout gf) := by
  intro r k
  have h := dx2_rows D ρ hr hx hd hg
  unfold k0_pay13
  generalize k0_pay12 (F := Ideal) rc xn dout gf = v at h
  pointwise
  exact h r k

theorem dya_rows (hr : Col ρ D.r rc) (hx : Rows ρ D.xn xn) (hd : Rows ρ D.dout dout) (hg : Lanes D.gf gf) (hl : Half D lo wl) :
    Rows ρ D.dya (k0_pay14 (F := Ideal) rc xn dout gf wl) := by
  intro r k
  have h := dx2_rows' D ρ hr hx hd hg
  unfold k0_pay14
  generalize k0_pay13 (F := Ideal) rc xn dout gf = v at h
  pointwise
  simp only [h r, hl _, ofBits_zero]
  simp only [← EReal.coe_mul, ← coe_sum, ← EReal.coe_add]
  rfl

theorem dyc_rows (hr : Col ρ D.r rc) (hx : Rows ρ D.xn xn) (hd : Rows ρ D.dout dout) (hg : Lanes D.gf gf) (hh : Half D hi wh) :
    Rows ρ D.dyc (k0_pay15 (F := Ideal) rc xn dout gf wh) := by
  intro r k
  have h := dx2_rows' D ρ hr hx hd hg
  unfold k0_pay15
  generalize k0_pay13 (F := Ideal) rc xn dout gf = v at h
  pointwise
  simp only [h r, hh _, ofBits_zero]
  simp only [← EReal.coe_mul, ← coe_sum, ← EReal.coe_add]
  rfl

/-- What a block adds to a row of the projection's gradient, attention's half. -/
theorem dwl_rows (hr : Col ρ D.r rc) (hx : Rows ρ D.xn xn) (hd : Rows ρ D.dout dout) (hg : Lanes D.gf gf) (hya : Rows ρ D.ya ya)
    (acc : S1024x1024.Idx → EReal) (a : Fin 1024) (k : Fin 1024) :
    (k0_pay16 (F := Ideal) ya rc xn dout gf acc : S1024x1024.Idx → EReal) (ix2 a k)
      = acc (ix2 a k) + ((∑ r, D.ya (ρ r) a * D.dx2 (ρ r) k : ℝ) : EReal) := by
  have h := dx2_rows' D ρ hr hx hd hg
  unfold k0_pay16
  generalize k0_pay13 (F := Ideal) rc xn dout gf = v at h
  pointwise
  simp only [h _, hya _, ofBits_zero]
  simp only [← EReal.coe_mul, ← coe_sum]

/-- The same for the convolution's half. -/
theorem dwh_rows (hr : Col ρ D.r rc) (hx : Rows ρ D.xn xn) (hd : Rows ρ D.dout dout) (hg : Lanes D.gf gf) (hyc : Rows ρ D.yc yc)
    (acc : S1024x1024.Idx → EReal) (a : Fin 1024) (k : Fin 1024) :
    (k0_pay18 (F := Ideal) (k0_pay17 (F := Ideal) yc rc xn dout gf acc) : S1024x1024.Idx → EReal) (ix2 a k)
      = acc (ix2 a k) + ((∑ r, D.yc (ρ r) a * D.dx2 (ρ r) k : ℝ) : EReal) := by
  have h := dx2_rows' D ρ hr hx hd hg
  unfold k0_pay18 k0_pay17
  generalize k0_pay13 (F := Ideal) rc xn dout gf = v at h
  pointwise
  simp only [h _, hyc _, ofBits_zero]
  simp only [← EReal.coe_mul, ← coe_sum]

theorem st0_row (hx : Rows ρ D.xn xn) (hd : Rows ρ D.dout dout) (r : Fin 1) (k : Fin 1024) :
    (k0_pay19 (F := Ideal) xn dout row : S1x1024.Idx → EReal) (ix2 r k) = row (ix2 r k) + ((∑ r, D.st (ρ r) 0 k : ℝ) : EReal) := by
  unfold k0_pay19
  pointwise
  simp only [hd _, hx _, ofBits_zero]
  simp only [← EReal.coe_mul, ← coe_sum]
  rfl

theorem st1_row (he : Rows ρ D.err er) (r : Fin 1) (k : Fin 1024) :
    (k0_pay20 (F := Ideal) er row : S1x1024.Idx → EReal) (ix2 r k) = row (ix2 r k) + ((∑ r, D.st (ρ r) 1 k : ℝ) : EReal) := by
  unfold k0_pay20
  pointwise
  simp only [he _, ofBits_zero, ofBits_inv2048]
  simp only [← EReal.coe_mul, ← coe_sum]
  rw [Finset.sum_mul]
  rfl

theorem uc_rows (hu : Rows ρ D.u u) : Rows ρ D.uc (k0_pay22 (F := Ideal) u) := by
  intro r k
  unfold k0_pay22
  pointwise
  simp only [hu r, ofBits_zero, ofBits_1024]
  simp only [← coe_sum, div_1024, ← EReal.coe_sub]
  rfl

theorem rstd_col (hu : Rows ρ D.u u) : Col ρ D.rstd (k0_pay23 (F := Ideal) u) := by
  intro r k
  have h := uc_rows D ρ hu
  unfold k0_pay23
  generalize k0_pay22 (F := Ideal) u = v at h
  pointwise
  simp only [h r, ofBits_zero, ofBits_1024, ofBits_eps5]
  simp only [← EReal.coe_mul, ← coe_sum, ← EReal.coe_add, div_1024]
  exact rsqrt_row _ eps5_pos _

theorem rstd_rows (hu : Rows ρ D.u u) : Rows ρ (fun i _ => D.rstd i) (k0_pay24 (F := Ideal) u) := by
  intro r k
  have h := rstd_col D ρ hu
  unfold k0_pay24
  generalize k0_pay23 (F := Ideal) u = v at h
  pointwise
  exact h r _

theorem z_rows (hc : Rows ρ D.uc uc) (hs : Rows ρ (fun i _ => D.rstd i) rsb) : Rows ρ D.z (k0_pay25 (F := Ideal) uc rsb) := by
  intro r k
  unfold k0_pay25
  pointwise
  simp only [hc r, hs r, ← EReal.coe_mul]
  rfl

theorem nrm_rows (hc : Rows ρ D.uc uc) (hs : Rows ρ (fun i _ => D.rstd i) rsb) (hg : Lanes D.lg lg) (hb : Lanes D.lb lb) :
    Rows ρ D.nrm (k0_pay26 (F := Ideal) uc rsb lg lb) := by
  intro r k
  have h := z_rows D ρ hc hs
  unfold k0_pay26
  generalize k0_pay25 (F := Ideal) uc rsb = v at h
  pointwise
  simp only [h r, hg _, hb _, ← EReal.coe_mul, ← EReal.coe_add]
  rfl

theorem sn_rows (hc : Rows ρ D.uc uc) (hs : Rows ρ (fun i _ => D.rstd i) rsb) (hg : Lanes D.lg lg) (hb : Lanes D.lb lb) :
    Rows ρ (fun i k => sg (D.nrm i k)) (k0_pay27 (F := Ideal) uc rsb lg lb) := by
  intro r k
  have h := nrm_rows D ρ hc hs hg hb
  unfold k0_pay27
  generalize k0_pay26 (F := Ideal) uc rsb lg lb = v at h
  pointwise
  simp only [h r, ofBits_half, sg_tanh]

theorem sgt_rows (hgt : Rows ρ D.gt gt) : Rows ρ (fun i k => sg (D.gt i k)) (k0_pay28 (F := Ideal) gt) := by
  intro r k
  unfold k0_pay28
  pointwise
  simp only [hgt r, ofBits_half, sg_tanh]

theorem dgate_rows (hd : Rows ρ D.dyc dyc) (hgt : Rows ρ D.gt gt) (hc : Rows ρ D.uc uc) (hs : Rows ρ (fun i _ => D.rstd i) rsb)
    (hg : Lanes D.lg lg) (hb : Lanes D.lb lb) : Rows ρ D.dgate (k0_pay29 (F := Ideal) dyc gt uc rsb lg lb) := by
  intro r k
  have h := nrm_rows D ρ hc hs hg hb
  have h' := sn_rows D ρ hc hs hg hb
  have h'' := sgt_rows D ρ hgt
  unfold k0_pay29
  generalize k0_pay26 (F := Ideal) uc rsb lg lb = v at h
  generalize k0_pay27 (F := Ideal) uc rsb lg lb = v' at h'
  generalize k0_pay28 (F := Ideal) gt = v'' at h''
  pointwise
  simp only [h r, h' r, h'' r, hd r, hgt r, ofBits_one]
  simp only [← EReal.coe_mul, ← EReal.coe_add, ← EReal.coe_sub]
  rfl

theorem dn_rows (hd : Rows ρ D.dyc dyc) (hgt : Rows ρ D.gt gt) (hc : Rows ρ D.uc uc) (hs : Rows ρ (fun i _ => D.rstd i) rsb)
    (hg : Lanes D.lg lg) (hb : Lanes D.lb lb) : Rows ρ D.dn (k0_pay30 (F := Ideal) dyc gt uc rsb lg lb) := by
  intro r k
  have h := nrm_rows D ρ hc hs hg hb
  have h' := sn_rows D ρ hc hs hg hb
  have h'' := sgt_rows D ρ hgt
  unfold k0_pay30
  generalize k0_pay26 (F := Ideal) uc rsb lg lb = v at h
  generalize k0_pay27 (F := Ideal) uc rsb lg lb = v' at h'
  generalize k0_pay28 (F := Ideal) gt = v'' at h''
  pointwise
  simp only [h r, h' r, h'' r, hd r, hgt r, ofBits_one]
  simp only [← EReal.coe_mul, ← EReal.coe_add, ← EReal.coe_sub]
  rfl

theorem du_rows (hs : Col ρ D.rstd rs) (hz : Rows ρ D.z z) (hn : Rows ρ D.dn dn) (hg : Lanes D.lg lg) :
    Rows ρ D.du (k0_pay31 (F := Ideal) rs z dn lg) := by
  intro r k
  unfold k0_pay31
  pointwise
  simp only [hs r, hz r, hn r, hg _, ofBits_zero, ofBits_1024]
  simp only [← EReal.coe_mul, ← coe_sum, ← EReal.coe_add, div_1024, ← EReal.coe_sub]
  rfl

theorem st2_row (hz : Rows ρ D.z z) (hn : Rows ρ D.dn dn) (r : Fin 1) (k : Fin 1024) :
    (k0_pay32 (F := Ideal) z dn row : S1x1024.Idx → EReal) (ix2 r k) = row (ix2 r k) + ((∑ r, D.st (ρ r) 2 k : ℝ) : EReal) := by
  unfold k0_pay32
  pointwise
  simp only [hz _, hn _, ofBits_zero]
  simp only [← EReal.coe_mul, ← coe_sum]
  rfl

theorem st3_row (hn : Rows ρ D.dn dn) (r : Fin 1) (k : Fin 1024) :
    (k0_pay33 (F := Ideal) dn row : S1x1024.Idx → EReal) (ix2 r k) = row (ix2 r k) + ((∑ r, D.st (ρ r) 3 k : ℝ) : EReal) := by
  unfold k0_pay33
  pointwise
  simp only [hn _, ofBits_zero]
  simp only [← coe_sum]
  rfl

theorem st4_row {du : S256x1024.Idx → EReal} (hu : Rows ρ D.du du) (r : Fin 1) (k : Fin 1024) :
    (k0_pay1 (F := Ideal) du (k0_pay34 (F := Ideal) row) : S1x1024.Idx → EReal) (ix2 r k)
      = row (ix2 r k) + ((∑ r, D.st (ρ r) 4 k : ℝ) : EReal) := by
  unfold k0_pay1 k0_pay34
  pointwise
  simp only [hu _, ofBits_zero]
  simp only [← coe_sum]
  rfl

end Cert.Kernel2Ideal.OutV
end
-- ==== Proof.Outproj.Blocks.lean ====
/- What the projection's kernel finds in its input blocks: rows of the argument arrays, and of the convolution's output
   that the host computes from them. -/
module

public import proofs.«01_k».proof.Proof.Outproj.Terms

@[expose] public section
set_option maxRecDepth 16384
noncomputable section

namespace Cert.Kernel2Ideal.OutV
open Cert.Kernel2Ideal Cert.Kernel2Ideal.Gen Idealize.ShloMosaic Idealize.ShloMosaic.TcCoe Idealize.SL.Sem Cert.Common
open Cert.Outproj

variable (m : (ℓ : Loc nD τ sig) → Buf (Elt Ideal) ℓ)

theorem idx : ∀ t, win0_0.index t = ![(grid0.coords t 0).val, 0] ∧ win0_1.index t = ![(grid0.coords t 0).val, 0]
    ∧ win0_2.index t = ![0, 0] ∧ win0_3.index t = ![(grid0.coords t 0).val, 0] ∧ win0_4.index t = ![(grid0.coords t 0).val, 0]
    ∧ win0_5.index t = ![0, 0] ∧ win0_6.index t = ![(grid0.coords t 0).val, 0] ∧ win0_7.index t = ![(grid0.coords t 0).val, 0]
    ∧ win0_8.index t = ![0, 0] ∧ win0_9.index t = ![0, 0] ∧ win0_10.index t = ![(grid0.coords t 0).val, 0]
    ∧ win0_11.index t = ![(grid0.coords t 0).val, 0] ∧ win0_12.index t = ![(grid0.coords t 0).val, 0]
    ∧ win0_13.index t = ![(grid0.coords t 0).val, 0] := by decide +kernel

/-- The row of the whole array that a row of grid point `t`'s block is. -/
def row (t : Fin cfg0.N) (r : Fin 256) : Fin 4096 :=
  ⟨(grid0.coords t 0).val * 256 + r.val, by have h : (grid0.coords t 0).val < 16 := (grid0.coords t 0).isLt; omega⟩

/-- The kernel's arguments hold the real arrays `D`. -/
structure Holds (D : Data) (c : Dev nD) : Prop where
  x : ∀ i k, (m ((c : Thread nD τ).loc main_arg0) : S1x4096x1024.Idx → EReal) (ix3 0 i k) = ((D.x i k : ℝ) : EReal)
  ya : ∀ i k, (m ((c : Thread nD τ).loc main_arg1) : S1x4096x1024.Idx → EReal) (ix3 0 i k) = ((D.ya i k : ℝ) : EReal)
  pre : ∀ i k, (m ((c : Thread nD τ).loc main_arg2) : S1x4096x1024.Idx → EReal) (ix3 0 i k) = ((D.pre i k : ℝ) : EReal)
  gt : ∀ i k, (m ((c : Thread nD τ).loc main_arg3) : S1x4096x1024.Idx → EReal) (ix3 0 i k) = ((D.gt i k : ℝ) : EReal)
  cb : ∀ k, (m ((c : Thread nD τ).loc main_arg4) : S1024.Idx → EReal) (ix1 k) = ((D.cb k : ℝ) : EReal)
  lg : ∀ k, (m ((c : Thread nD τ).loc main_arg5) : S1024.Idx → EReal) (ix1 k) = ((D.lg k : ℝ) : EReal)
  lb : ∀ k, (m ((c : Thread nD τ).loc main_arg6) : S1024.Idx → EReal) (ix1 k) = ((D.lb k : ℝ) : EReal)
  w : ∀ a k, (m ((c : Thread nD τ).loc main_arg7) : S2048x1024.Idx → EReal) (ix2 a k) = ((D.w a k : ℝ) : EReal)
  gf : ∀ k, (m ((c : Thread nD τ).loc main_arg8) : S1024.Idx → EReal) (ix1 k) = ((D.gf k : ℝ) : EReal)
  tg : ∀ i k, (m ((c : Thread nD τ).loc main_arg9) : S1x4096x1024.Idx → EReal) (ix3 0 i k) = ((D.tg i k : ℝ) : EReal)

variable {D : Data} {c : Dev nD}

theorem v31 (h : Holds m D c) (i : Fin 4096) (k : Fin 1024) :
    (V m c main_v31 : S4096x1024.Idx → EReal) (ix2 i k) = ((D.ya i k : ℝ) : EReal) := by
  unfold V; after_reads_at; exact h.ya i k

theorem v34 (h : Holds m D c) (a : Fin 2048) (k : Fin 1024) :
    (V m c main_v34 : S2048x1024.Idx → EReal) (ix2 a k) = ((D.w a k : ℝ) : EReal) := by
  unfold V; after_reads_at; exact h.w a k

theorem v35 (h : Holds m D c) (i : Fin 4096) (k : Fin 1024) :
    (V m c main_v35 : S4096x1024.Idx → EReal) (ix2 i k) = ((D.x i k : ℝ) : EReal) := by
  unfold V; after_reads_at; exact h.x i k

theorem v36 (h : Holds m D c) (i : Fin 4096) (k : Fin 1024) :
    (V m c main_v36 : S4096x1024.Idx → EReal) (ix2 i k) = ((D.tg i k : ℝ) : EReal) := by
  unfold V; after_reads_at; exact h.tg i k

theorem v42 (h : Holds m D c) (i : Fin 4096) (k : Fin 1024) :
    (V m c main_v42 : S4096x1024.Idx → EReal) (ix2 i k) = ((D.gt i k : ℝ) : EReal) := by
  unfold V; after_reads_at; exact h.gt i k

theorem v37 (h : Holds m D c) (r : Fin 1) (k : Fin 1024) :
    (V m c main_v37 : S1x1024.Idx → EReal) (ix2 r k) = ((D.gf k : ℝ) : EReal) := by
  unfold V; after_reads_at; exact h.gf k

theorem v43 (h : Holds m D c) (r : Fin 1) (k : Fin 1024) :
    (V m c main_v43 : S1x1024.Idx → EReal) (ix2 r k) = ((D.lg k : ℝ) : EReal) := by
  unfold V; after_reads_at; exact h.lg k

theorem v44 (h : Holds m D c) (r : Fin 1) (k : Fin 1024) :
    (V m c main_v44 : S1x1024.Idx → EReal) (ix2 r k) = ((D.lb k : ℝ) : EReal) := by
  unfold V; after_reads_at; exact h.lb k

theorem v41 (h : Holds m D c) (i : Fin 4096) (k : Fin 1024) :
    (V m c main_v41 : S4096x1024.Idx → EReal) (ix2 i k) = ((D.u i k : ℝ) : EReal) := by
  unfold V; after_reads_at;
  refine (congrArg₂ _ (h.pre i k) (h.cb k)).trans ?_
  exact (EReal.coe_add _ _).symm

theorem v33 (h : Holds m D c) (i : Fin 4096) (k : Fin 1024) :
    (V m c main_v33 : S4096x1024.Idx → EReal) (ix2 i k) = ((D.yc i k : ℝ) : EReal) := by
  have h2 : ∀ i k, m (c, Proc.tc.devRef main_arg2) (ix3 0 i k) = ((D.pre i k : ℝ) : EReal) := h.pre
  have h3 : ∀ i k, m (c, Proc.tc.devRef main_arg3) (ix3 0 i k) = ((D.gt i k : ℝ) : EReal) := h.gt
  have h4 : ∀ k, m (c, Proc.tc.devRef main_arg4) (ix1 k) = ((D.cb k : ℝ) : EReal) := h.cb
  have h5 : ∀ k, m (c, Proc.tc.devRef main_arg5) (ix1 k) = ((D.lg k : ℝ) : EReal) := h.lg
  have h6 : ∀ k, m (c, Proc.tc.devRef main_arg6) (ix1 k) = ((D.lb k : ℝ) : EReal) := h.lb
  have hs : Ideal.rsqrt (((∑ x, (D.pre i x + D.cb x - (∑ x, (D.pre i x + D.cb x)) / 1024)
      * (D.pre i x + D.cb x - (∑ x, (D.pre i x + D.cb x)) / 1024)) / 1024 + eps5 : ℝ) : EReal) = ((D.rstd i : ℝ) : EReal) :=
    rsqrt_row _ eps5_pos _
  unfold V
  after_reads_at
  simp only [h2 i, h3 i, h4, h5, h6, ofBits_1024, ofBits_eps5]
  simp only [← EReal.coe_mul, ← coe_sum, ← EReal.coe_add, div_1024, ← EReal.coe_sub, hs, sg_exp]
  rfl

theorem i0 (h : Holds m D c) (t : Fin cfg0.N) : Rows (row t) D.ya (iblk m c 0 t : Vec Ideal S256x1024 .bf16) := by
  intro r k; rw [← v31 m h]; unfold row; blk_ext [iblk, idx t]
theorem i1 (h : Holds m D c) (t : Fin cfg0.N) : Rows (row t) D.yc (iblk m c 1 t : Vec Ideal S256x1024 .bf16) := by
  intro r k; rw [← v33 m h]; unfold row; blk_ext [iblk, idx t]
theorem i2 (h : Holds m D c) (t : Fin cfg0.N) (a : Fin 2048) (k : Fin 1024) :
    (iblk m c 2 t : Vec Ideal S2048x1024 .bf16) (ix2 a k) = ((D.w a k : ℝ) : EReal) := by
  rw [← v34 m h]; blk_ext [iblk, idx t]
theorem i3 (h : Holds m D c) (t : Fin cfg0.N) : Rows (row t) D.x (iblk m c 3 t : Vec Ideal S256x1024 .f32) := by
  intro r k; rw [← v35 m h]; unfold row; blk_ext [iblk, idx t]
theorem i4 (h : Holds m D c) (t : Fin cfg0.N) : Rows (row t) D.tg (iblk m c 4 t : Vec Ideal S256x1024 .f32) := by
  intro r k; rw [← v36 m h]; unfold row; blk_ext [iblk, idx t]
theorem i5 (h : Holds m D c) (t : Fin cfg0.N) : Lanes D.gf (iblk m c 5 t : Vec Ideal S1x1024 .f32) := by
  intro r k; rw [← v37 m h r]; blk_ext [iblk, idx t]
theorem i6 (h : Holds m D c) (t : Fin cfg0.N) : Rows (row t) D.u (iblk m c 6 t : Vec Ideal S256x1024 .f32) := by
  intro r k; rw [← v41 m h]; unfold row; blk_ext [iblk, idx t]
theorem i7 (h : Holds m D c) (t : Fin cfg0.N) : Rows (row t) D.gt (iblk m c 7 t : Vec Ideal S256x1024 .f32) := by
  intro r k; rw [← v42 m h]; unfold row; blk_ext [iblk, idx t]
theorem i8 (h : Holds m D c) (t : Fin cfg0.N) : Lanes D.lg (iblk m c 8 t : Vec Ideal S1x1024 .f32) := by
  intro r k; rw [← v43 m h r]; blk_ext [iblk, idx t]
theorem i9 (h : Holds m D c) (t : Fin cfg0.N) : Lanes D.lb (iblk m c 9 t : Vec Ideal S1x1024 .f32) := by
  intro r k; rw [← v44 m h r]; blk_ext [iblk, idx t]

end Cert.Kernel2Ideal.OutV
end
-- ==== Proof.Outproj.Bands.lean ====
/- Bands of rows written one after another into the projection kernel's two accumulators, read back at an index. -/
module

public import proofs.«01_k».proof.Proof.Outproj.Blocks
public import Idealize.ShloMosaic.Lib.WritesUnit

@[expose] public section
set_option maxRecDepth 16384
noncomputable section

namespace Cert.Kernel2Ideal.OutV
open Cert.Kernel2Ideal Cert.Kernel2Ideal.Gen Idealize.ShloMosaic Idealize.ShloMosaic.TcCoe Idealize.SL.Sem Cert.Common
open Cert.Outproj

section
variable {e : EltTy}

/-- One row of an accumulator of eight rows, written last. -/
theorem row_hit {j : ℕ} {inb : ∀ a, (![j, 0] : Fin 2 → ℕ) a + (![1, 1024] : Fin 2 → ℕ) a ≤ S8x1024.size a}
    (w : S1x1024.Idx → Elt Ideal e) (L : List (View.Piece (Elt Ideal) S8x1024 e)) (r : Fin 8) (k : Fin 1024) (h : r.val = j) :
    View.canon ((⟨Rect.unit ![j, 0] ![1, 1024] inb, w⟩ : View.Piece (Elt Ideal) S8x1024 e) :: L) (ix2 r k) = w (ix2 0 k) := by
  have hy : (Rect.unit (s := S8x1024) ![j, 0] ![1, 1024] inb).emb (ix2 0 k : S1x1024.Idx) = ix2 r k := by
    funext a
    apply Fin.ext
    match a with
    | 0 => show j + 1 * 0 = r.val; omega
    | 1 => show 0 + 1 * k.val = k.val; omega
  rw [← hy, View.canon_cons_emb]

theorem row_miss {j : ℕ} {inb : ∀ a, (![j, 0] : Fin 2 → ℕ) a + (![1, 1024] : Fin 2 → ℕ) a ≤ S8x1024.size a}
    (w : S1x1024.Idx → Elt Ideal e) (L : List (View.Piece (Elt Ideal) S8x1024 e)) (r : Fin 8) (k : Fin 1024) (h : r.val ≠ j) :
    View.canon ((⟨Rect.unit ![j, 0] ![1, 1024] inb, w⟩ : View.Piece (Elt Ideal) S8x1024 e) :: L) (ix2 r k)
      = View.canon L (ix2 r k) := by
  refine View.canon_cons_of_not_mem _ L fun hm => h ?_
  rw [Rect.mem_set_unit] at hm
  have := hm 0
  change j ≤ r.val ∧ r.val < j + 1 at this
  omega

/-- A row read back out of what such writes left. -/
theorem row_back {j : ℕ} {inb : ∀ a, (![j, 0] : Fin 2 → ℕ) a + (![1, 1024] : Fin 2 → ℕ) a ≤ S8x1024.size a} {κ : Kind} {sp : Space}
    (v : View sig κ sp S8x1024 e) (L : List (View.Piece (Elt Ideal) S8x1024 e)) (r : Fin 8) (k : Fin 1024) (h : r.val = j) :
    v.readCov L (Rect.unit (s := S8x1024) ![j, 0] ![1, 1024] inb).toLoadRect (ix2 0 k) = View.canon L (ix2 r k) := by
  rw [View.readCov_eq_canon']
  refine congrArg (View.canon L) (funext fun a => Fin.ext ?_)
  match a with
  | 0 => show j + 1 * 0 = r.val; omega
  | 1 => show 0 + 1 * k.val = k.val; omega

theorem row_ld {j : ℕ} {inb : ∀ a, (![j, 0] : Fin 2 → ℕ) a + (![1, 1024] : Fin 2 → ℕ) a ≤ S8x1024.size a}
    (X : S8x1024.Idx → Elt Ideal e) (r : Fin 8) (k : Fin 1024) (h : r.val = j) :
    (View.ld X (Rect.unit ![j, 0] ![1, 1024] inb) : S1x1024.Idx → Elt Ideal e) (ix2 0 k) = X (ix2 r k) := by
  refine congrArg X (funext fun a => Fin.ext ?_)
  match a with
  | 0 => show j + 1 * 0 = r.val; omega
  | 1 => show 0 + 1 * k.val = k.val; omega

/-- The same over earlier contents `f`. -/
theorem over_hit {j : ℕ} {inb : ∀ a, (![j, 0] : Fin 2 → ℕ) a + (![1, 1024] : Fin 2 → ℕ) a ≤ S8x1024.size a} {κ : Kind} {sp : Space}
    (v : View sig κ sp S8x1024 e) (f : v.ty.Contents (Elt Ideal))
    (w : S1x1024.Idx → Elt Ideal e) (L : List (View.Piece (Elt Ideal) S8x1024 e)) (r : Fin 8) (k : Fin 1024) (h : r.val = j) :
    v.read (Elt Ideal) (v.writes (Elt Ideal) f ((⟨Rect.unit ![j, 0] ![1, 1024] inb, w⟩ : View.Piece (Elt Ideal) S8x1024 e) :: L)) (ix2 r k)
      = w (ix2 0 k) :=
  View.read_writes_cons_rows_of_mem v f inb w L (ix2 r k) (ix2 0 k : S1x1024.Idx) rfl (by show r.val = j + 0; omega) rfl

theorem over_miss {j : ℕ} {inb : ∀ a, (![j, 0] : Fin 2 → ℕ) a + (![1, 1024] : Fin 2 → ℕ) a ≤ S8x1024.size a} {κ : Kind} {sp : Space}
    (v : View sig κ sp S8x1024 e) (f : v.ty.Contents (Elt Ideal))
    (w : S1x1024.Idx → Elt Ideal e) (L : List (View.Piece (Elt Ideal) S8x1024 e)) (r : Fin 8) (k : Fin 1024) (h : r.val ≠ j) :
    v.read (Elt Ideal) (v.writes (Elt Ideal) f ((⟨Rect.unit ![j, 0] ![1, 1024] inb, w⟩ : View.Piece (Elt Ideal) S8x1024 e) :: L)) (ix2 r k)
      = v.read (Elt Ideal) (v.writes (Elt Ideal) f L) (ix2 r k) :=
  View.read_writes_cons_rows_of_not_mem v f inb w L (ix2 r k) rfl rfl (by show r.val < j ∨ j + 1 ≤ r.val; omega)

/-- Half of the accumulator of 2048 rows, written last. -/
theorem half_hit {j : ℕ} {inb : ∀ a, (![j, 0] : Fin 2 → ℕ) a + (![1024, 1024] : Fin 2 → ℕ) a ≤ S2048x1024.size a}
    (w : S1024x1024.Idx → Elt Ideal e) (L : List (View.Piece (Elt Ideal) S2048x1024 e)) (a : Fin 2048) (b : Fin 1024) (k : Fin 1024)
    (h : a.val = j + b.val) :
    View.canon ((⟨Rect.unit ![j, 0] ![1024, 1024] inb, w⟩ : View.Piece (Elt Ideal) S2048x1024 e) :: L) (ix2 a k) = w (ix2 b k) := by
  have hy : (Rect.unit (s := S2048x1024) ![j, 0] ![1024, 1024] inb).emb (ix2 b k : S1024x1024.Idx) = ix2 a k := by
    funext x
    apply Fin.ext
    match x with
    | 0 => show j + 1 * b.val = a.val; omega
    | 1 => show 0 + 1 * k.val = k.val; omega
  rw [← hy, View.canon_cons_emb]

theorem half_miss {j : ℕ} {inb : ∀ a, (![j, 0] : Fin 2 → ℕ) a + (![1024, 1024] : Fin 2 → ℕ) a ≤ S2048x1024.size a}
    (w : S1024x1024.Idx → Elt Ideal e) (L : List (View.Piece (Elt Ideal) S2048x1024 e)) (a : Fin 2048) (k : Fin 1024)
    (h : a.val < j ∨ j + 1024 ≤ a.val) :
    View.canon ((⟨Rect.unit ![j, 0] ![1024, 1024] inb, w⟩ : View.Piece (Elt Ideal) S2048x1024 e) :: L) (ix2 a k)
      = View.canon L (ix2 a k) := by
  refine View.canon_cons_of_not_mem _ L fun hm => ?_
  rw [Rect.mem_set_unit] at hm
  have := hm 0
  change j ≤ a.val ∧ a.val < j + 1024 at this
  omega

theorem half_back {j : ℕ} {inb : ∀ a, (![j, 0] : Fin 2 → ℕ) a + (![1024, 1024] : Fin 2 → ℕ) a ≤ S2048x1024.size a} {κ : Kind} {sp : Space}
    (v : View sig κ sp S2048x1024 e) (L : List (View.Piece (Elt Ideal) S2048x1024 e)) (a : Fin 2048) (b : Fin 1024) (k : Fin 1024)
    (h : a.val = j + b.val) :
    v.readCov L (Rect.unit (s := S2048x1024) ![j, 0] ![1024, 1024] inb).toLoadRect (ix2 b k) = View.canon L (ix2 a k) := by
  rw [View.readCov_eq_canon']
  refine congrArg (View.canon L) (funext fun x => Fin.ext ?_)
  match x with
  | 0 => show j + 1 * b.val = a.val; omega
  | 1 => show 0 + 1 * k.val = k.val; omega

theorem half_ld {j : ℕ} {inb : ∀ a, (![j, 0] : Fin 2 → ℕ) a + (![1024, 1024] : Fin 2 → ℕ) a ≤ S2048x1024.size a}
    (X : S2048x1024.Idx → Elt Ideal e) (a : Fin 2048) (b : Fin 1024) (k : Fin 1024) (h : a.val = j + b.val) :
    (View.ld X (Rect.unit ![j, 0] ![1024, 1024] inb) : S1024x1024.Idx → Elt Ideal e) (ix2 b k) = X (ix2 a k) := by
  refine congrArg X (funext fun x => Fin.ext ?_)
  match x with
  | 0 => show j + 1 * b.val = a.val; omega
  | 1 => show 0 + 1 * k.val = k.val; omega

/-- The whole accumulator read back. -/
theorem whole_back {inb : ∀ a, (![0, 0] : Fin 2 → ℕ) a + (![2048, 1024] : Fin 2 → ℕ) a ≤ S2048x1024.size a} {κ : Kind} {sp : Space}
    (v : View sig κ sp S2048x1024 e) (L : List (View.Piece (Elt Ideal) S2048x1024 e)) (a : Fin 2048) (k : Fin 1024) :
    v.readCov L (Rect.unit (s := S2048x1024) ![0, 0] ![2048, 1024] inb).toLoadRect (ix2 a k) = View.canon L (ix2 a k) := by
  rw [View.readCov_eq_canon']
  refine congrArg (View.canon L) (funext fun x => Fin.ext ?_)
  match x with
  | 0 => show 0 + 1 * a.val = a.val; omega
  | 1 => show 0 + 1 * k.val = k.val; omega
end

variable (m : (ℓ : Loc nD τ sig) → Buf (Elt Ideal) ℓ)
variable {D : Data} {c : Dev nD}

theorem wl (h : Holds m D c) (t : Fin cfg0.N) :
    Half D lo (View.ld (iblk m c 2 t) (Rect.unit ![0, 0] ![1024, 1024] inb_S2048x1024_S1024x1024_0_0)) := fun r k =>
  (half_ld (iblk m c 2 t : Vec Ideal S2048x1024 .bf16) (lo r) r k (by show r.val = 0 + r.val; omega)).trans (i2 m h t _ k)

theorem wh (h : Holds m D c) (t : Fin cfg0.N) :
    Half D hi (View.ld (iblk m c 2 t) (Rect.unit ![1024, 0] ![1024, 1024] inb_S2048x1024_S1024x1024_1024_0)) := fun r k =>
  (half_ld (iblk m c 2 t : Vec Ideal S2048x1024 .bf16) (hi r) r k rfl).trans (i2 m h t _ k)

end Cert.Kernel2Ideal.OutV
end
-- ==== Proof.Outproj.Cases.lean ====
/- What the projection's kernel leaves at a grid point: its block's rows in the first four outputs, the sums over the rows so
   far in the two accumulators. -/
module

public import proofs.«01_k».proof.Proof.Outproj.Bands

@[expose] public section
set_option maxRecDepth 16384
noncomputable section

namespace Cert.Kernel2Ideal.OutV
open Cert.Kernel2Ideal Cert.Kernel2Ideal.Gen Idealize.ShloMosaic Idealize.ShloMosaic.TcCoe Idealize.SL.Sem Cert.Common
open Cert.Outproj

section
variable (D : Data) {ρ : Fin 256 → Fin 4096} {f : Fin 4096 → Fin 1024 → ℝ}

theorem rows5 {v : S256x1024.Idx → EReal} (h : Rows ρ f v) : Rows ρ f (k0_pay5 (F := Ideal) v) := by
  intro r k; unfold k0_pay5; pointwise; exact h r k
theorem rows6 {v : S256x1024.Idx → EReal} (h : Rows ρ f v) : Rows ρ f (k0_pay6 (F := Ideal) v) := by
  intro r k; unfold k0_pay6; pointwise; exact h r k
theorem rows21 {v : S256x1024.Idx → EReal} (h : Rows ρ f v) : Rows ρ f (k0_pay21 (F := Ideal) v) := by
  intro r k; unfold k0_pay21; pointwise; exact h r k
end

variable (m : (ℓ : Loc nD τ sig) → Buf (Elt Ideal) ℓ)
variable {D : Data} {c : Dev nD}

/-- The upper and the lower half of the projection's block. -/
abbrev WL (c : Dev nD) (t : Fin cfg0.N) := View.ld (iblk m c 2 t) (Rect.unit ![0, 0] ![1024, 1024] inb_S2048x1024_S1024x1024_0_0)
abbrev WH (c : Dev nD) (t : Fin cfg0.N) := View.ld (iblk m c 2 t) (Rect.unit ![1024, 0] ![1024, 1024] inb_S2048x1024_S1024x1024_1024_0)

theorem p_r (h : Holds m D c) (t : Fin cfg0.N) :
    Col (row t) D.r (k0_pay8 (F := Ideal) (iblk m c 0 t) (iblk m c 1 t) (iblk m c 3 t) (WL m c t) (WH m c t)) :=
  r_col D (row t) (i0 m h t) (i1 m h t) (i3 m h t) (wl m h t) (wh m h t)
theorem p_xn (h : Holds m D c) (t : Fin cfg0.N) :
    Rows (row t) D.xn (k0_pay9 (F := Ideal) (iblk m c 0 t) (iblk m c 1 t) (iblk m c 3 t) (WL m c t) (WH m c t)) :=
  xn_rows D (row t) (i0 m h t) (i1 m h t) (i3 m h t) (wl m h t) (wh m h t)
theorem p_err (h : Holds m D c) (t : Fin cfg0.N) :
    Rows (row t) D.err (k0_pay10 (F := Ideal) (iblk m c 0 t) (iblk m c 1 t) (iblk m c 3 t) (WL m c t) (WH m c t) (iblk m c 5 t) (iblk m c 4 t)) :=
  err_rows D (row t) (i0 m h t) (i1 m h t) (i3 m h t) (wl m h t) (wh m h t) (i5 m h t) (i4 m h t)
theorem p_dout (h : Holds m D c) (t : Fin cfg0.N) :
    Rows (row t) D.dout (k0_pay11 (F := Ideal) (iblk m c 0 t) (iblk m c 1 t) (iblk m c 3 t) (WL m c t) (WH m c t) (iblk m c 5 t) (iblk m c 4 t)) :=
  dout_rows D (row t) (i0 m h t) (i1 m h t) (i3 m h t) (wl m h t) (wh m h t) (i5 m h t) (i4 m h t)
theorem p_uc (h : Holds m D c) (t : Fin cfg0.N) : Rows (row t) D.uc (k0_pay22 (F := Ideal) (iblk m c 6 t)) :=
  uc_rows D (row t) (i6 m h t)
theorem p_rs (h : Holds m D c) (t : Fin cfg0.N) : Rows (row t) (fun i _ => D.rstd i) (k0_pay24 (F := Ideal) (iblk m c 6 t)) :=
  rstd_rows D (row t) (i6 m h t)
theorem p_z (h : Holds m D c) (t : Fin cfg0.N) :
    Rows (row t) D.z (k0_pay25 (F := Ideal) (k0_pay22 (F := Ideal) (iblk m c 6 t)) (k0_pay24 (F := Ideal) (iblk m c 6 t))) :=
  z_rows D (row t) (p_uc m h t) (p_rs m h t)

/-- The gradient of the convolution's half, as the kernel forms it at a point. -/
abbrev DYC (c : Dev nD) (t : Fin cfg0.N) :=
  k0_pay15 (F := Ideal) (k0_pay8 (F := Ideal) (iblk m c 0 t) (iblk m c 1 t) (iblk m c 3 t) (WL m c t) (WH m c t))
    (k0_pay9 (F := Ideal) (iblk m c 0 t) (iblk m c 1 t) (iblk m c 3 t) (WL m c t) (WH m c t))
    (k0_pay11 (F := Ideal) (iblk m c 0 t) (iblk m c 1 t) (iblk m c 3 t) (WL m c t) (WH m c t) (iblk m c 5 t) (iblk m c 4 t))
    (iblk m c 5 t) (WH m c t)

theorem p_dyc (h : Holds m D c) (t : Fin cfg0.N) : Rows (row t) D.dyc (DYC m c t) :=
  dyc_rows D (row t) (p_r m h t) (p_xn m h t) (p_dout m h t) (i5 m h t) (wh m h t)

theorem p_dn (h : Holds m D c) (t : Fin cfg0.N) :
    Rows (row t) D.dn (k0_pay30 (F := Ideal) (DYC m c t) (k0_pay21 (F := Ideal) (iblk m c 7 t)) (k0_pay22 (F := Ideal) (iblk m c 6 t))
      (k0_pay24 (F := Ideal) (iblk m c 6 t)) (iblk m c 8 t) (iblk m c 9 t)) :=
  dn_rows D (row t) (p_dyc m h t) (rows21 (i7 m h t)) (p_uc m h t) (p_rs m h t) (i8 m h t) (i9 m h t)

theorem p_du (h : Holds m D c) (t : Fin cfg0.N) :
    Rows (row t) D.du (k0_pay31 (F := Ideal) (k0_pay23 (F := Ideal) (iblk m c 6 t))
      (k0_pay25 (F := Ideal) (k0_pay22 (F := Ideal) (iblk m c 6 t)) (k0_pay24 (F := Ideal) (iblk m c 6 t)))
      (k0_pay30 (F := Ideal) (DYC m c t) (k0_pay21 (F := Ideal) (iblk m c 7 t)) (k0_pay22 (F := Ideal) (iblk m c 6 t))
        (k0_pay24 (F := Ideal) (iblk m c 6 t)) (iblk m c 8 t) (iblk m c 9 t)) (iblk m c 8 t)) :=
  du_rows D (row t) (rstd_col D (row t) (i6 m h t)) (p_z m h t) (p_dn m h t) (i8 m h t)

/-- The four outputs that hold a block's rows, at every point. -/
theorem rows_out (h : Holds m D c) (t : Fin cfg0.N) :
    Rows (row t) D.dx2 (outsAt0 m c t.val t.isLt).1 ∧ Rows (row t) D.dya (outsAt0 m c t.val t.isLt).2.1
      ∧ Rows (row t) D.du (outsAt0 m c t.val t.isLt).2.2.1 ∧ Rows (row t) D.dgate (outsAt0 m c t.val t.isLt).2.2.2.1 := by
  have g1 := dx2_rows D (row t) (p_r m h t) (p_xn m h t) (p_dout m h t) (i5 m h t)
  have g2 := dya_rows D (row t) (p_r m h t) (p_xn m h t) (p_dout m h t) (i5 m h t) (wl m h t)
  have g4 := dgate_rows D (row t) (p_dyc m h t) (rows21 (i7 m h t)) (p_uc m h t) (p_rs m h t) (i8 m h t) (i9 m h t)
  have g3 := p_du m h t
  by_cases h0 : t.val % 16 = 0
  · rw [outsAt0_A m c t h0 (by omega)]
    exact ⟨fun r k => by frame_out; exact g1 r k, fun r k => by frame_out; exact g2 r k, fun r k => by frame_out; exact g3 r k,
      fun r k => by frame_out; exact g4 r k⟩
  by_cases h1 : t.val % 16 = 15
  · rw [outsAt0_C m c t h0 h1]
    exact ⟨fun r k => by frame_out; exact g1 r k, fun r k => by frame_out; exact g2 r k, fun r k => by frame_out; exact g3 r k,
      fun r k => by frame_out; exact g4 r k⟩
  · rw [outsAt0_B m c t h0 h1]
    exact ⟨fun r k => by frame_out; exact g1 r k, fun r k => by frame_out; exact g2 r k, fun r k => by frame_out; exact g3 r k,
      fun r k => by frame_out; exact g4 r k⟩

/-- What a point adds to the projection's gradient. -/
def addW (D : Data) (t : Fin cfg0.N) (a : Fin 2048) (k : Fin 1024) : ℝ := ∑ r, D.y (row t r) a * D.dx2 (row t r) k

theorem addW_lo (t : Fin cfg0.N) (a : Fin 2048) (k : Fin 1024) (ha : a.val < 1024) :
    addW D t a k = ∑ r, D.ya (row t r) ⟨a.val, ha⟩ * D.dx2 (row t r) k := by
  unfold addW Data.y; simp only [ha, dif_pos]
theorem addW_hi (t : Fin cfg0.N) (a : Fin 2048) (k : Fin 1024) (ha : ¬a.val < 1024) :
    addW D t a k = ∑ r, D.yc (row t r) ⟨a.val - 1024, by omega⟩ * D.dx2 (row t r) k := by
  unfold addW Data.y; simp only [ha, dif_neg, not_false_iff]

theorem whole_hit {inb : ∀ a, (![0, 0] : Fin 2 → ℕ) a + (![2048, 1024] : Fin 2 → ℕ) a ≤ S2048x1024.size a} {e : EltTy}
    (w : S2048x1024.Idx → Elt Ideal e) (a : Fin 2048) (k : Fin 1024) :
    View.canon [(⟨Rect.unit ![0, 0] ![2048, 1024] inb, w⟩ : View.Piece (Elt Ideal) S2048x1024 e)] (ix2 a k) = w (ix2 a k) := by
  have hy : (Rect.unit (s := S2048x1024) ![0, 0] ![2048, 1024] inb).emb (ix2 a k : S2048x1024.Idx) = ix2 a k := by
    funext x
    apply Fin.ext
    match x with
    | 0 => show 0 + 1 * a.val = a.val; omega
    | 1 => show 0 + 1 * k.val = k.val; omega
  exact (congrArg _ hy.symm).trans (View.canon_cons_emb (Rect.unit (s := S2048x1024) ![0, 0] ![2048, 1024] inb) w [] (ix2 a k : S2048x1024.Idx))

theorem whole_hit8 {inb : ∀ a, (![0, 0] : Fin 2 → ℕ) a + (![8, 1024] : Fin 2 → ℕ) a ≤ S8x1024.size a} {e : EltTy}
    (w : S8x1024.Idx → Elt Ideal e) (a : Fin 8) (k : Fin 1024) :
    View.canon [(⟨Rect.unit ![0, 0] ![8, 1024] inb, w⟩ : View.Piece (Elt Ideal) S8x1024 e)] (ix2 a k) = w (ix2 a k) := by
  have hy : (Rect.unit (s := S8x1024) ![0, 0] ![8, 1024] inb).emb (ix2 a k : S8x1024.Idx) = ix2 a k := by
    funext x
    apply Fin.ext
    match x with
    | 0 => show 0 + 1 * a.val = a.val; omega
    | 1 => show 0 + 1 * k.val = k.val; omega
  exact (congrArg _ hy.symm).trans (View.canon_cons_emb (Rect.unit (s := S8x1024) ![0, 0] ![8, 1024] inb) w [] (ix2 a k : S8x1024.Idx))

/-- The accumulators cleared at the first point. -/
theorem zeroW_add (a : Fin 2048) (k : Fin 1024) (b : ℝ) :
    (View.canon [(⟨Rect.unit ![0, 0] ![2048, 1024] inb_S2048x1024_S2048x1024_0_0, k0_pay3 (F := Ideal)⟩ : View.Piece (Elt Ideal) S2048x1024 .f32)]
      (ix2 a k) : EReal) + (b : EReal) = (b : EReal) := by
  rw [whole_hit]
  unfold k0_pay3
  pointwise

theorem zeroS (a : Fin 8) (k : Fin 1024) :
    (View.canon [(⟨Rect.unit ![0, 0] ![8, 1024] inb_S8x1024_S8x1024_0_0, k0_pay4 (F := Ideal)⟩ : View.Piece (Elt Ideal) S8x1024 .f32)]
      (ix2 a k) : EReal) = ((0 : ℝ) : EReal) := by
  rw [whole_hit8]
  unfold k0_pay4
  pointwise
  rfl

theorem acc_A (h : Holds m D c) (t : Fin cfg0.N) (h0 : t.val % 16 = 0) (a : Fin 2048) (k : Fin 1024) :
    ((outsAt0 m c t.val t.isLt).2.2.2.2.2.2 : S2048x1024.Idx → EReal) (ix2 a k) = ((addW D t a k : ℝ) : EReal) := by
  rw [outsAt0_A m c t h0 (by omega)]
  frame_out
  by_cases ha : a.val < 1024
  · rw [half_miss _ _ _ _ (Or.inl ha), half_hit _ _ a ⟨a.val, ha⟩ k (by simp)]
    refine (dwl_rows D (row t) (p_r m h t) (p_xn m h t) (p_dout m h t) (i5 m h t) (rows5 (i0 m h t)) _ _ _).trans ?_
    rw [half_back _ _ a ⟨a.val, ha⟩ k (by simp), ← addW_lo t a k ha]
    exact zeroW_add _ _ _
  · rw [half_hit _ _ a ⟨a.val - 1024, by omega⟩ k (by simp; omega)]
    refine (dwh_rows D (row t) (p_r m h t) (p_xn m h t) (p_dout m h t) (i5 m h t) (rows6 (i1 m h t)) _ _ _).trans ?_
    rw [half_back _ _ a ⟨a.val - 1024, by omega⟩ k (by simp; omega),
     half_miss _ _ _ _ (Or.inr (by omega)), ← addW_hi t a k ha]
    exact zeroW_add _ _ _

theorem acc_BC (h : Holds m D c) (t : Fin cfg0.N) (h0 : ¬t.val % 16 = 0) (a : Fin 2048) (k : Fin 1024) :
    ((outsAt0 m c t.val t.isLt).2.2.2.2.2.2 : S2048x1024.Idx → EReal) (ix2 a k)
      = ((outsAt0 m c (t.val - 1) (by omega)).2.2.2.2.2.2 : S2048x1024.Idx → EReal) (ix2 a k) + ((addW D t a k : ℝ) : EReal) := by
  have key : ∀ X : S2048x1024.Idx → EReal, ∀ Y : S2048x1024.Idx → EReal, (Y = X) →
      View.canon [(⟨Rect.unit ![1024, 0] ![1024, 1024] inb_S2048x1024_S1024x1024_1024_0, k0_pay18 (F := Ideal) (k0_pay17 (F := Ideal)
          (k0_pay6 (F := Ideal) (iblk m c 1 t)) (k0_pay8 (F := Ideal) (iblk m c 0 t) (iblk m c 1 t) (iblk m c 3 t) (WL m c t) (WH m c t))
          (k0_pay9 (F := Ideal) (iblk m c 0 t) (iblk m c 1 t) (iblk m c 3 t) (WL m c t) (WH m c t))
          (k0_pay11 (F := Ideal) (iblk m c 0 t) (iblk m c 1 t) (iblk m c 3 t) (WL m c t) (WH m c t) (iblk m c 5 t) (iblk m c 4 t))
          (iblk m c 5 t) (View.ld Y (Rect.unit (s := S2048x1024) ![1024, 0] ![1024, 1024] inb_S2048x1024_S1024x1024_1024_0)))⟩ : View.Piece (Elt Ideal) S2048x1024 .f32),
        ⟨Rect.unit ![0, 0] ![1024, 1024] inb_S2048x1024_S1024x1024_0_0, k0_pay16 (F := Ideal)
          (k0_pay5 (F := Ideal) (iblk m c 0 t)) (k0_pay8 (F := Ideal) (iblk m c 0 t) (iblk m c 1 t) (iblk m c 3 t) (WL m c t) (WH m c t))
          (k0_pay9 (F := Ideal) (iblk m c 0 t) (iblk m c 1 t) (iblk m c 3 t) (WL m c t) (WH m c t))
          (k0_pay11 (F := Ideal) (iblk m c 0 t) (iblk m c 1 t) (iblk m c 3 t) (WL m c t) (WH m c t) (iblk m c 5 t) (iblk m c 4 t))
          (iblk m c 5 t) (View.ld Y (Rect.unit (s := S2048x1024) ![0, 0] ![1024, 1024] inb_S2048x1024_S1024x1024_0_0))⟩] (ix2 a k)
        = X (ix2 a k) + ((addW D t a k : ℝ) : EReal) := by
    intro X Y hY
    subst hY
    by_cases ha : a.val < 1024
    · rw [half_miss _ _ _ _ (Or.inl ha), half_hit _ _ a ⟨a.val, ha⟩ k (by simp)]
      refine (dwl_rows D (row t) (p_r m h t) (p_xn m h t) (p_dout m h t) (i5 m h t) (rows5 (i0 m h t)) _ _ _).trans ?_
      rw [half_ld _ a ⟨a.val, ha⟩ k (by simp), ← addW_lo t a k ha]
    · rw [half_hit _ _ a ⟨a.val - 1024, by omega⟩ k (by simp; omega)]
      refine (dwh_rows D (row t) (p_r m h t) (p_xn m h t) (p_dout m h t) (i5 m h t) (rows6 (i1 m h t)) _ _ _).trans ?_
      rw [half_ld _ a ⟨a.val - 1024, by omega⟩ k (by simp; omega), ← addW_hi t a k ha]
  by_cases h1 : t.val % 16 = 15
  · rw [outsAt0_C m c t h0 h1]
    frame_out
    exact key _ _ (Memref.IsWhole.read_unread _ _)
  · rw [outsAt0_B m c t h0 h1]
    frame_out
    exact key _ _ (Memref.IsWhole.read_unread _ _)

/-- At the last point the projection's gradient is written out. -/
theorem w_C (t : Fin cfg0.N) (h1 : t.val % 16 = 15) (a : Fin 2048) (k : Fin 1024) :
    ((outsAt0 m c t.val t.isLt).2.2.2.2.1 : S2048x1024.Idx → EReal) (ix2 a k)
      = ((outsAt0 m c t.val t.isLt).2.2.2.2.2.2 : S2048x1024.Idx → EReal) (ix2 a k) := by
  rw [outsAt0_C m c t (by omega) h1]
  frame_out
  unfold k0_pay2
  pointwise
  rw [whole_back]

/-- What a point adds to the vectors' gradients and to the loss. -/
def addS (D : Data) (t : Fin cfg0.N) (a : Fin 8) (k : Fin 1024) : ℝ := ∑ r, D.st (row t r) a k

theorem st_A (h : Holds m D c) (t : Fin cfg0.N) (h0 : t.val % 16 = 0) (a : Fin 8) (k : Fin 1024) :
    ((outsAt0 m c t.val t.isLt).2.2.2.2.2.1 : S8x1024.Idx → EReal) (ix2 a k) = ((addS D t a k : ℝ) : EReal) := by
  rw [outsAt0_A m c t h0 (by omega)]
  frame_out
  have z : ∀ b : ℝ, ((0 : ℝ) : EReal) + (b : EReal) = (b : EReal) := fun b => by rw [← EReal.coe_add, zero_add]
  have z5 : ∀ j : Fin 8, 5 ≤ j.val → ((0 : ℝ) : EReal) = ((addS D t j k : ℝ) : EReal) := fun j hj => by
    have : ∀ i, D.st i j k = 0 := fun i => by unfold Data.st; split <;> simp_all
    unfold addS; simp [this]
  match a with
  | 0 =>
    rw [row_miss _ _ _ _ (by decide), row_miss _ _ _ _ (by decide), row_miss _ _ _ _ (by decide), row_miss _ _ _ _ (by decide), row_hit (j := 0) _ _ 0 k rfl]
    refine (st0_row D (row t) (p_xn m h t) (p_dout m h t) _ _).trans ?_
    rw [row_back (j := 0) _ _ 0 k rfl, zeroS, z]; rfl
  | 1 =>
    rw [row_miss _ _ _ _ (by decide), row_miss _ _ _ _ (by decide), row_miss _ _ _ _ (by decide), row_hit (j := 1) _ _ 1 k rfl]
    refine (st1_row D (row t) (p_err m h t) _ _).trans ?_
    rw [row_back (j := 1) _ _ 1 k rfl, row_miss _ _ _ _ (by decide), zeroS, z]; rfl
  | 2 =>
    rw [row_miss _ _ _ _ (by decide), row_miss _ _ _ _ (by decide), row_hit (j := 2) _ _ 2 k rfl]
    refine (st2_row D (row t) (p_z m h t) (p_dn m h t) _ _).trans ?_
    rw [row_back (j := 2) _ _ 2 k rfl, row_miss _ _ _ _ (by decide), row_miss _ _ _ _ (by decide), zeroS, z]; rfl
  | 3 =>
    rw [row_miss _ _ _ _ (by decide), row_hit (j := 3) _ _ 3 k rfl]
    refine (st3_row D (row t) (p_dn m h t) _ _).trans ?_
    rw [row_back (j := 3) _ _ 3 k rfl, row_miss _ _ _ _ (by decide), row_miss _ _ _ _ (by decide), row_miss _ _ _ _ (by decide), zeroS, z]; rfl
  | 4 =>
    rw [row_hit (j := 4) _ _ 4 k rfl]
    refine (st4_row D (row t) (p_du m h t) _ _).trans ?_
    rw [row_back (j := 4) _ _ 4 k rfl, row_miss _ _ _ _ (by decide), row_miss _ _ _ _ (by decide), row_miss _ _ _ _ (by decide), row_miss _ _ _ _ (by decide), zeroS, z]; rfl
  | 5 | 6 | 7 =>
    rw [row_miss _ _ _ _ (by decide), row_miss _ _ _ _ (by decide), row_miss _ _ _ _ (by decide), row_miss _ _ _ _ (by decide), row_miss _ _ _ _ (by decide), zeroS]
    exact z5 _ (by decide)

theorem st_BC (h : Holds m D c) (t : Fin cfg0.N) (h0 : ¬t.val % 16 = 0) (a : Fin 8) (k : Fin 1024) :
    ((outsAt0 m c t.val t.isLt).2.2.2.2.2.1 : S8x1024.Idx → EReal) (ix2 a k)
      = ((outsAt0 m c (t.val - 1) (by omega)).2.2.2.2.2.1 : S8x1024.Idx → EReal) (ix2 a k) + ((addS D t a k : ℝ) : EReal) := by
  have z5 : ∀ j : Fin 8, 5 ≤ j.val → ∀ b : EReal, b = b + ((addS D t j k : ℝ) : EReal) := fun j hj b => by
    have : ∀ i, D.st i j k = 0 := fun i => by unfold Data.st; split <;> simp_all
    unfold addS; simp [this]
  by_cases h1 : t.val % 16 = 15
  on_goal 1 => rw [outsAt0_C m c t h0 h1]
  on_goal 2 => rw [outsAt0_B m c t h0 h1]
  all_goals
    frame_out
    match a with
    | 0 =>
      rw [over_miss _ _ _ _ _ _ (by decide), over_miss _ _ _ _ _ _ (by decide), over_miss _ _ _ _ _ _ (by decide), over_miss _ _ _ _ _ _ (by decide),
        over_hit (j := 0) _ _ _ _ 0 k rfl]
      refine (st0_row D (row t) (p_xn m h t) (p_dout m h t) _ _).trans ?_
      rw [row_ld (j := 0) _ 0 k rfl]; rfl
    | 1 =>
      rw [over_miss _ _ _ _ _ _ (by decide), over_miss _ _ _ _ _ _ (by decide), over_miss _ _ _ _ _ _ (by decide),
        over_hit (j := 1) _ _ _ _ 1 k rfl]
      refine (st1_row D (row t) (p_err m h t) _ _).trans ?_
      rw [row_ld (j := 1) _ 1 k rfl]; rfl
    | 2 =>
      rw [over_miss _ _ _ _ _ _ (by decide), over_miss _ _ _ _ _ _ (by decide),
        over_hit (j := 2) _ _ _ _ 2 k rfl]
      refine (st2_row D (row t) (p_z m h t) (p_dn m h t) _ _).trans ?_
      rw [row_ld (j := 2) _ 2 k rfl]; rfl
    | 3 =>
      rw [over_miss _ _ _ _ _ _ (by decide),
        over_hit (j := 3) _ _ _ _ 3 k rfl]
      refine (st3_row D (row t) (p_dn m h t) _ _).trans ?_
      rw [row_ld (j := 3) _ 3 k rfl]; rfl
    | 4 =>
      rw [over_hit (j := 4) _ _ _ _ 4 k rfl]
      refine (st4_row D (row t) (p_du m h t) _ _).trans ?_
      rw [row_ld (j := 4) _ 4 k rfl]; rfl
    | 5 | 6 | 7 =>
      rw [over_miss _ _ _ _ _ _ (by decide), over_miss _ _ _ _ _ _ (by decide), over_miss _ _ _ _ _ _ (by decide), over_miss _ _ _ _ _ _ (by decide),
        over_miss _ _ _ _ _ _ (by decide)]
      exact (congrFun (Memref.IsWhole.read_unread _ _) _).trans (z5 _ (by decide) _)

end Cert.Kernel2Ideal.OutV
end
-- ==== Proof.Outproj.Arrays.lean ====
/- The six arrays the projection's kernel leaves: four hold every row, two the sums over all rows. -/
module

public import proofs.«01_k».proof.Proof.Outproj.Cases

@[expose] public section
set_option maxRecDepth 16384
noncomputable section

namespace Cert.Kernel2Ideal.OutV
open Cert.Kernel2Ideal Cert.Kernel2Ideal.Gen Idealize.ShloMosaic Idealize.ShloMosaic.TcCoe Idealize.SL.Sem Cert.Common
open Cert.Outproj
open Idealize.ShloMosaic.Pipeline (Dat)

variable (m : (ℓ : Loc nD τ sig) → Buf (Elt Ideal) ℓ)
variable (D : Data) {c : Dev nD}

/-- An array whose rows are the numbers `f`. -/
def RowsOf (f : Fin 4096 → Fin 1024 → ℝ) : S4096x1024.Idx → EReal := fun j => ((f (j 0) (j 1) : ℝ) : EReal)
def WOf : S2048x1024.Idx → EReal := fun j => ((∑ i, D.y i (j 0) * D.dx2 i (j 1) : ℝ) : EReal)
def StOf : S8x1024.Idx → EReal := fun j => ((∑ i, D.st i (j 0) (j 1) : ℝ) : EReal)

variable {D}

theorem f10 (h : Holds m D c) : (dats m 0 c).arrAt 10 cfg0.N = RowsOf D.dx2 := by
  refine (dats m 0 c).arrAt_eq_of_covers 10 _ (by decide +kernel) fun t hf y => ?_
  have e0 : (((cfg0.win 10).blk t).view.emb y) 0 = row t (y 0) := by
    apply Fin.ext; blk_simp [idx t]; simp only [row]
  have e1 : (((cfg0.win 10).blk t).view.emb y) 1 = y 1 := by
    apply Fin.ext; blk_simp [idx t]
  unfold RowsOf
  simp only [e0, e1]
  blk_simp
  rw [after0_10]
  exact (congrArg _ (ix2_eta (y : _)).symm).trans ((rows_out m h t).1 (y 0) (y 1))

theorem f11 (h : Holds m D c) : (dats m 0 c).arrAt 11 cfg0.N = RowsOf D.dya := by
  refine (dats m 0 c).arrAt_eq_of_covers 11 _ (by decide +kernel) fun t hf y => ?_
  have e0 : (((cfg0.win 11).blk t).view.emb y) 0 = row t (y 0) := by
    apply Fin.ext; blk_simp [idx t]; simp only [row]
  have e1 : (((cfg0.win 11).blk t).view.emb y) 1 = y 1 := by
    apply Fin.ext; blk_simp [idx t]
  unfold RowsOf
  simp only [e0, e1]
  blk_simp
  rw [after0_11]
  exact (congrArg _ (ix2_eta (y : _)).symm).trans ((rows_out m h t).2.1 (y 0) (y 1))

theorem f12 (h : Holds m D c) : (dats m 0 c).arrAt 12 cfg0.N = RowsOf D.du := by
  refine (dats m 0 c).arrAt_eq_of_covers 12 _ (by decide +kernel) fun t hf y => ?_
  have e0 : (((cfg0.win 12).blk t).view.emb y) 0 = row t (y 0) := by
    apply Fin.ext; blk_simp [idx t]; simp only [row]
  have e1 : (((cfg0.win 12).blk t).view.emb y) 1 = y 1 := by
    apply Fin.ext; blk_simp [idx t]
  unfold RowsOf
  simp only [e0, e1]
  blk_simp
  rw [after0_12]
  exact (congrArg _ (ix2_eta (y : _)).symm).trans ((rows_out m h t).2.2.1 (y 0) (y 1))

theorem f13 (h : Holds m D c) : (dats m 0 c).arrAt 13 cfg0.N = RowsOf D.dgate := by
  refine (dats m 0 c).arrAt_eq_of_covers 13 _ (by decide +kernel) fun t hf y => ?_
  have e0 : (((cfg0.win 13).blk t).view.emb y) 0 = row t (y 0) := by
    apply Fin.ext; blk_simp [idx t]; simp only [row]
  have e1 : (((cfg0.win 13).blk t).view.emb y) 1 = y 1 := by
    apply Fin.ext; blk_simp [idx t]
  unfold RowsOf
  simp only [e0, e1]
  blk_simp
  rw [after0_13]
  exact (congrArg _ (ix2_eta (y : _)).symm).trans ((rows_out m h t).2.2.2 (y 0) (y 1))

theorem coord0 : ∀ t : Fin cfg0.N, (grid0.coords t 0).val = t.val := by decide +kernel

theorem idx' : ∀ t, win0_14.index t = ![0, 0] ∧ win0_15.index t = ![0, 0] := by decide +kernel

/-- The sixteen points' rows are all the rows. -/
theorem sum_points (f : Fin 4096 → ℝ) :
    ∑ s ∈ Finset.range 16, (if hs : s < cfg0.N then ∑ r, f (row ⟨s, hs⟩ r) else 0) = ∑ i, f i := by
  rw [Finset.sum_range, ← Fin.sum_mul_add_fin (L := 4096) 16 256 f]
  refine Finset.sum_congr rfl fun s _ => ?_
  rw [dif_pos (lt_of_lt_of_eq s.isLt N_0.symm)]
  refine Finset.sum_congr rfl fun r _ => congrArg f (Fin.ext ?_)
  exact congrArg (· * 256 + r.val) (coord0 _)

theorem acc_upto (h : Holds m D c) (a : Fin 2048) (k : Fin 1024) : ∀ n (hn : n < cfg0.N),
    ((outsAt0 m c n hn).2.2.2.2.2.2 : S2048x1024.Idx → EReal) (ix2 a k)
      = ((∑ s ∈ Finset.range (n + 1), (if hs : s < cfg0.N then addW D ⟨s, hs⟩ a k else 0) : ℝ) : EReal)
  | 0, hn => by rw [acc_A m h ⟨0, hn⟩ rfl]; simp [hn]
  | n + 1, hn => by
    have hN : cfg0.N = 16 := N_0
    rw [Finset.sum_range_succ, dif_pos hn, EReal.coe_add, ← acc_upto h a k n (by omega)]
    exact acc_BC m h ⟨n + 1, hn⟩ (by show ¬(n + 1) % 16 = 0; omega) a k

theorem st_upto (h : Holds m D c) (a : Fin 8) (k : Fin 1024) : ∀ n (hn : n < cfg0.N),
    ((outsAt0 m c n hn).2.2.2.2.2.1 : S8x1024.Idx → EReal) (ix2 a k)
      = ((∑ s ∈ Finset.range (n + 1), (if hs : s < cfg0.N then addS D ⟨s, hs⟩ a k else 0) : ℝ) : EReal)
  | 0, hn => by rw [st_A m h ⟨0, hn⟩ rfl]; simp [hn]
  | n + 1, hn => by
    have hN : cfg0.N = 16 := N_0
    rw [Finset.sum_range_succ, dif_pos hn, EReal.coe_add, ← st_upto h a k n (by omega)]
    exact st_BC m h ⟨n + 1, hn⟩ (by show ¬(n + 1) % 16 = 0; omega) a k

theorem last14 (h : Holds m D c) (t : Fin cfg0.N) (ht : t.val = 15) (a : Fin 2048) (k : Fin 1024) :
    ((outsAt0 m c t.val t.isLt).2.2.2.2.1 : S2048x1024.Idx → EReal) (ix2 a k) = WOf D (ix2 a k) := by
  refine (w_C m t (by omega) a k).trans ?_
  rw [acc_upto m h, ht]
  exact congrArg _ (sum_points fun i => D.y i a * D.dx2 i k)

theorem f14 (h : Holds m D c) : (dats m 0 c).arrAt 14 cfg0.N = WOf D := by
  refine (dats m 0 c).arrAt_eq_of_covers 14 _ (by decide +kernel) fun t hf y => ?_
  have ht : t.val = 15 := (by decide +kernel : ∀ t : Fin cfg0.N, (cfg0.win 14).flush t = true → t.val = 15) t hf
  have e0 : (((cfg0.win 14).blk t).view.emb y) 0 = y 0 := by
    apply Fin.ext; blk_simp [idx' t]
  have e1 : (((cfg0.win 14).blk t).view.emb y) 1 = y 1 := by
    apply Fin.ext; blk_simp [idx' t]
  unfold WOf
  simp only [e0, e1]
  blk_simp
  rw [after0_14]
  exact (congrArg _ (ix2_eta (y : _)).symm).trans (last14 m h t ht (y 0) (y 1))

theorem last15 (h : Holds m D c) (t : Fin cfg0.N) (ht : t.val = 15) (a : Fin 8) (k : Fin 1024) :
    ((outsAt0 m c t.val t.isLt).2.2.2.2.2.1 : S8x1024.Idx → EReal) (ix2 a k) = StOf D (ix2 a k) := by
  rw [st_upto m h, ht]
  exact congrArg _ (sum_points fun i => D.st i a k)

theorem f15 (h : Holds m D c) : (dats m 0 c).arrAt 15 cfg0.N = StOf D := by
  refine (dats m 0 c).arrAt_eq_of_covers 15 _ (by decide +kernel) fun t hf y => ?_
  have ht : t.val = 15 := (by decide +kernel : ∀ t : Fin cfg0.N, (cfg0.win 15).flush t = true → t.val = 15) t hf
  have e0 : (((cfg0.win 15).blk t).view.emb y) 0 = y 0 := by
    apply Fin.ext; blk_simp [idx' t]
  have e1 : (((cfg0.win 15).blk t).view.emb y) 1 = y 1 := by
    apply Fin.ext; blk_simp [idx' t]
  unfold StOf
  simp only [e0, e1]
  blk_simp
  rw [after0_15]
  exact (congrArg _ (ix2_eta (y : _)).symm).trans (last15 m h t ht (y 0) (y 1))

end Cert.Kernel2Ideal.OutV
end
-- ==== Proof.Outproj.Reference.lean ====
/- What the derivative of the projection and its loss is at an index: the reference's arrays hold the same numbers. -/
module

public import proofs.«01_k».proof.Proof.Gen.Reference2Ideal.Run
public import proofs.«01_k».proof.Proof.Outproj.Spec
public import Idealize.ShloMosaic.Lib.Pipeline.ValueKit
public import Idealize.ShloMosaic.Lib.Pointwise

@[expose] public section
set_option maxRecDepth 16384
noncomputable section

namespace Cert.Reference2Ideal.OutR

open Cert.Reference2Ideal Cert.Reference2Ideal.Gen Cert.Reference2Ideal.Value Cert.Common Cert.Outproj
open Idealize.ShloMosaic Idealize.ShloMosaic.TcCoe Idealize.SL.Sem Idealize.ShloMosaic.StableHlo

/-- The reference's arguments hold the real arrays `D`. -/
structure Holds (D : Data) (V0 : Valuation τ sig (Elt Ideal)) : Prop where
  x : ∀ i k, (V0 (Proc.devRef .tc main_arg0) : S1x4096x1024.Idx → EReal) (ix3 0 i k) = ((D.x i k : ℝ) : EReal)
  ya : ∀ i k, (V0 (Proc.devRef .tc main_arg1) : S1x4096x1024.Idx → EReal) (ix3 0 i k) = ((D.ya i k : ℝ) : EReal)
  pre : ∀ i k, (V0 (Proc.devRef .tc main_arg2) : S1x4096x1024.Idx → EReal) (ix3 0 i k) = ((D.pre i k : ℝ) : EReal)
  gt : ∀ i k, (V0 (Proc.devRef .tc main_arg3) : S1x4096x1024.Idx → EReal) (ix3 0 i k) = ((D.gt i k : ℝ) : EReal)
  cb : ∀ k, (V0 (Proc.devRef .tc main_arg4) : S1024.Idx → EReal) (ix1 k) = ((D.cb k : ℝ) : EReal)
  lg : ∀ k, (V0 (Proc.devRef .tc main_arg5) : S1024.Idx → EReal) (ix1 k) = ((D.lg k : ℝ) : EReal)
  lb : ∀ k, (V0 (Proc.devRef .tc main_arg6) : S1024.Idx → EReal) (ix1 k) = ((D.lb k : ℝ) : EReal)
  w : ∀ a k, (V0 (Proc.devRef .tc main_arg7) : S2048x1024.Idx → EReal) (ix2 a k) = ((D.w a k : ℝ) : EReal)
  gf : ∀ k, (V0 (Proc.devRef .tc main_arg8) : S1024.Idx → EReal) (ix1 k) = ((D.gf k : ℝ) : EReal)
  tg : ∀ i k, (V0 (Proc.devRef .tc main_arg9) : S1x4096x1024.Idx → EReal) (ix3 0 i k) = ((D.tg i k : ℝ) : EReal)

variable {D : Data} {V0 : Valuation τ sig (Elt Ideal)}

/-- An array of the reference holds the numbers `f`, row by row. -/
def At (f : Fin 4096 → Fin 1024 → ℝ) (v : S1x4096x1024.Idx → EReal) : Prop := ∀ i k, v (ix3 0 i k) = ((f i k : ℝ) : EReal)
/-- The same for one number a row. -/
def At1 (f : Fin 4096 → ℝ) (v : S1x4096x1.Idx → EReal) : Prop := ∀ i, v (ix3 0 i 0) = ((f i : ℝ) : EReal)

/-- A sum over the first two axes, the first of size one, is the sum over the rows. -/
theorem sum_rows {R : ℕ} (hr : (⟨3, ![1, R, 1024]⟩ : Shape).ReducesTo [0, 1] S1024) (x : (⟨3, ![1, R, 1024]⟩ : Shape).Idx → EReal)
    (init : EReal) (k : Fin 1024) : Ideal.hostReduceAdd hr x init (ix1 k) = init + ∑ i : Fin R, x (ix3 0 i k) := by
  unfold Ideal.hostReduceAdd
  have hd : ∀ i, ((hr.drop i) 0).val = (i 2).val := fun i => rfl
  refine congrArg (init + ·) (Finset.sum_nbij' (fun i => (i 1 : Fin R)) (fun i => ix3 0 i k) ?_ ?_ ?_ ?_ ?_)
  · exact fun i _ => Finset.mem_univ _
  · refine fun i _ => Finset.mem_filter.2 ⟨Finset.mem_univ _, funext fun a => Fin.ext ?_⟩
    obtain rfl : a = 0 := Subsingleton.elim _ _
    rfl
  · intro i hi
    have h2 := congrArg Fin.val (congrFun (Finset.mem_filter.1 hi).2 0)
    rw [hd] at h2
    funext a
    apply Fin.ext
    match a with
    | 0 => have : (i 0).val < 1 := (i 0).isLt; show 0 = (i 0).val; omega
    | 1 => rfl
    | 2 => exact h2.symm
  · exact fun i _ => rfl
  · intro i hi
    have h2 := congrArg Fin.val (congrFun (Finset.mem_filter.1 hi).2 0)
    rw [hd] at h2
    refine congrArg x (funext fun a => Fin.ext ?_)
    match a with
    | 0 => have : (i 0).val < 1 := (i 0).isLt; show (i 0).val = 0; omega
    | 1 => rfl
    | 2 => exact h2

/-- A sum over two axes of size one. -/
theorem sum_unit (hr : S1x4096x1.ReducesTo [0, 2] S4096) (x : S1x4096x1.Idx → EReal)
    (init : EReal) (i : Fin 4096) : Ideal.hostReduceAdd hr x init (ix1 i) = init + x (ix3 0 i 0) := by
  unfold Ideal.hostReduceAdd
  have hd : ∀ i, ((hr.drop i) 0).val = (i 1).val := fun i => rfl
  refine congrArg (init + ·) (Finset.sum_eq_single_of_mem (ix3 0 i 0) ?_ ?_)
  · refine Finset.mem_filter.2 ⟨Finset.mem_univ _, funext fun a => Fin.ext ?_⟩
    obtain rfl : a = 0 := Subsingleton.elim _ _
    rfl
  · intro j hj hne
    refine absurd (funext fun a => Fin.ext ?_) hne
    have h1 := congrArg Fin.val (congrFun (Finset.mem_filter.1 hj).2 0)
    rw [hd] at h1
    match a with
    | 0 => have : (j 0).val < 1 := (j 0).isLt; show (j 0).val = 0; omega
    | 1 => exact h1
    | 2 => have : (j 2).val < 1 := (j 2).isLt; show (j 2).val = 0; omega

theorem v2 (h : Holds D V0) : At D.u (res_main_v2 V0) := by
  intro i k
  unfold res_main_v2
  pointwise
  simp only [h.pre, h.cb, ← EReal.coe_add]
  rfl

theorem v6 (h : Holds D V0) : At1 (fun i => mean (D.u i)) (res_main_v6 V0) := by
  intro i
  have h2 := v2 h
  unfold res_main_v6
  generalize res_main_v2 V0 = v at h2
  pointwise
  simp only [h2 i, ofBits_zero, ofBits_1024]
  simp only [← coe_sum, ← EReal.coe_add, div_1024]
  rfl

theorem v8 (h : Holds D V0) : At D.uc (res_main_v8 V0) := by
  intro i k
  have h2 := v2 h
  have h6 := v6 h
  unfold res_main_v8
  generalize res_main_v2 V0 = v at h2
  generalize res_main_v6 V0 = v' at h6
  pointwise
  simp only [h2 i, h6 i, ← EReal.coe_sub]
  rfl

theorem v17 (h : Holds D V0) : At D.uc (res_main_v17 V0) := v8 h

theorem v19 (h : Holds D V0) : At1 (fun i => mean (fun k => D.uc i k * D.uc i k) + eps5) (res_main_v19 V0) := by
  intro i
  have h8 := v8 h
  unfold res_main_v19
  generalize res_main_v8 V0 = v at h8
  pointwise
  simp only [h8 i, ofBits_zero, ofBits_1024, ofBits_eps5]
  simp only [← EReal.coe_mul, ← coe_sum, ← EReal.coe_add, div_1024]
  rfl

theorem v20 (h : Holds D V0) : At1 D.rstd (res_main_v20 V0) := by
  intro i
  have h19 := v19 h
  unfold res_main_v20
  generalize res_main_v19 V0 = v at h19
  pointwise
  rw [h19 i]
  exact rsqrt_row _ eps5_pos _

theorem v25 (h : Holds D V0) : At D.z (res_main_v25 V0) := by
  intro i k
  have h17 := v17 h
  have h20 := v20 h
  unfold res_main_v25
  generalize res_main_v17 V0 = v at h17
  generalize res_main_v20 V0 = v' at h20
  pointwise
  simp only [h17 i, h20 i, ← EReal.coe_mul]
  rfl

theorem v31 (h : Holds D V0) : At D.nrm (res_main_v31 V0) := by
  intro i k
  have h25 := v25 h
  unfold res_main_v31 res_main_v26
  generalize res_main_v25 V0 = v at h25
  pointwise
  simp only [h25 i, h.lg, h.lb, ← EReal.coe_mul, ← EReal.coe_add]
  rfl

theorem v32_2 (h : Holds D V0) : At (fun i k => sg (D.nrm i k)) (res_main_v32_2 V0) := by
  intro i k
  have h31 := v31 h
  unfold res_main_v32_2
  generalize res_main_v31 V0 = v at h31
  pointwise
  simp only [h31 i, sg_exp]

theorem v32_0 (h : Holds D V0) : At (fun i k => D.nrm i k * sg (D.nrm i k)) (res_main_v32_0 V0) := by
  intro i k
  have h31 := v31 h
  have h32 := v32_2 h
  unfold res_main_v32_0
  generalize res_main_v31 V0 = v at h31
  generalize res_main_v32_2 V0 = v' at h32
  pointwise
  simp only [h31 i, h32 i, ← EReal.coe_mul]

theorem v33_2 (h : Holds D V0) : At (fun i k => sg (D.gt i k)) (res_main_v33_2 V0) := by
  intro i k
  unfold res_main_v33_2
  pointwise
  simp only [h.gt, sg_exp]

theorem v33_0 (h : Holds D V0) : At (fun i k => D.gt i k * sg (D.gt i k)) (res_main_v33_0 V0) := by
  intro i k
  have h33 := v33_2 h
  unfold res_main_v33_0
  generalize res_main_v33_2 V0 = v' at h33
  pointwise
  simp only [h.gt, h33 i, ← EReal.coe_mul]

/-- The projection's input, both halves joined. -/
theorem v35 (h : Holds D V0) (i : Fin 4096) (a : Fin 2048) :
    (res_main_v35 V0 : S1x4096x2048.Idx → EReal) (ix3 0 i a) = ((D.y i a : ℝ) : EReal) := by
  have h32 := v32_0 h
  have h33 := v33_0 h
  unfold res_main_v35
  generalize res_main_v32_0 V0 = v at h32
  generalize res_main_v33_0 V0 = v' at h33
  pointwise
  simp only [h.ya, h32 i, h33 i, ← EReal.coe_mul]
  unfold Data.y
  split <;> rfl

theorem sum_y (i : Fin 4096) (k : Fin 1024) :
    ∑ a, D.y i a * D.w a k = ∑ l, D.ya i l * D.w (lo l) k + ∑ l, D.yc i l * D.w (hi l) k := by
  rw [show (∑ a : Fin 2048, D.y i a * D.w a k) = ∑ a : Fin (1024 + 1024), D.y i a * D.w a k from rfl, Fin.sum_univ_add]
  refine congrArg₂ (· + ·) (Finset.sum_congr rfl fun l _ => ?_) (Finset.sum_congr rfl fun l _ => ?_)
  · unfold Data.y; rw [dif_pos (by simp)]; rfl
  · unfold Data.y; rw [dif_neg (by simp)]
    refine congrArg₂ (· * ·) (congrArg _ (Fin.ext ?_)) rfl
    show 1024 + l.val - 1024 = l.val
    omega

theorem v37 (h : Holds D V0) : At D.x2 (res_main_v37 V0) := by
  intro i k
  have h35 := v35 h
  unfold res_main_v37
  generalize res_main_v35 V0 = v at h35
  pointwise
  simp only [h.x, h35 i, h.w, ← EReal.coe_mul, ← coe_sum, ← EReal.coe_add]
  rw [sum_y, ← add_assoc]; rfl

/-- The mean square of a row of the projection's output, its constant added. -/
def ms (D : Data) (i : Fin 4096) : ℝ := mean (fun k => D.x2 i k * D.x2 i k) + eps6
/-- The variance of a row of the convolution, its constant added. -/
def vs (D : Data) (i : Fin 4096) : ℝ := mean (fun k => D.uc i k * D.uc i k) + eps5

theorem v44 (h : Holds D V0) : At1 (ms D) (res_main_v44 V0) := by
  intro i
  have h37 := v37 h
  unfold res_main_v44
  generalize res_main_v37 V0 = v at h37
  pointwise
  simp only [h37 i, ofBits_zero, ofBits_1024, ofBits_eps6]
  simp only [← EReal.coe_mul, ← coe_sum, ← EReal.coe_add, div_1024]
  rfl

theorem v45 (h : Holds D V0) : At1 D.r (res_main_v45 V0) := by
  intro i
  have h44 := v44 h
  unfold res_main_v45
  generalize res_main_v44 V0 = v at h44
  pointwise
  rw [h44 i]
  exact rsqrt_row _ eps6_pos _

theorem v50 (h : Holds D V0) : At D.xn (res_main_v50 V0) := by
  intro i k
  have h37 := v37 h
  have h45 := v45 h
  unfold res_main_v50
  generalize res_main_v37 V0 = v at h37
  generalize res_main_v45 V0 = v' at h45
  pointwise
  simp only [h37 i, h45 i, ← EReal.coe_mul]
  rfl

theorem v54 (h : Holds D V0) : At D.err (res_main_v54 V0) := by
  intro i k
  have h50 := v50 h
  unfold res_main_v54 res_main_v51
  generalize res_main_v50 V0 = v at h50
  pointwise
  simp only [h50 i, h.gf, h.tg, ← EReal.coe_mul, ← EReal.coe_sub]
  rfl

theorem v68 (h : Holds D V0) : At D.dout (res_main_v68 V0) := by
  intro i k
  have h54 := v54 h
  unfold res_main_v68
  generalize res_main_v54 V0 = v at h54
  pointwise
  simp only [h54 i, ofBits_half, ofBits_two, ofBits_1024, ofBits_one]
  simp only [← EReal.coe_one, ← EReal.coe_mul, div_1024]
  refine congrArg _ ?_
  unfold Data.dout
  ring

theorem v73 (h : Holds D V0) : At D.dxn (res_main_v73 V0) := by
  intro i k
  have h68 := v68 h
  unfold res_main_v73 res_main_v51
  generalize res_main_v68 V0 = v at h68
  pointwise
  simp only [h68 i, h.gf, ← EReal.coe_mul]
  rfl

theorem ms_pos (i : Fin 4096) : 0 < ms D i := rinv_pos_arg _ eps6_pos _
theorem vs_pos (i : Fin 4096) : 0 < vs D i := rinv_pos_arg _ eps5_pos _
theorem r_sq (i : Fin 4096) : 1 / ms D i = D.r i * D.r i := by
  have h := ms_pos (D := D) i
  show _ = (Real.sqrt (ms D i))⁻¹ * (Real.sqrt (ms D i))⁻¹
  rw [← mul_inv, Real.mul_self_sqrt h.le, one_div]
theorem rstd_sq (i : Fin 4096) : 1 / vs D i = D.rstd i * D.rstd i := by
  have h := vs_pos (D := D) i
  show _ = (Real.sqrt (vs D i))⁻¹ * (Real.sqrt (vs D i))⁻¹
  rw [← mul_inv, Real.mul_self_sqrt h.le, one_div]

theorem v85 (h : Holds D V0) :
    At (fun i _ => (∑ k, D.x2 i k * D.dxn i k) * (-(1 / 2) * (D.r i * (D.r i * D.r i))) / 1024) (res_main_v85 V0) := by
  intro i k
  have h37 := v37 h
  have h73 := v73 h
  have h45 := v45 h
  have h44 := v44 h
  unfold res_main_v85
  generalize res_main_v37 V0 = v at h37
  generalize res_main_v73 V0 = v1 at h73
  generalize res_main_v45 V0 = v2 at h45
  generalize res_main_v44 V0 = v3 at h44
  pointwise
  rw [sum_unit]
  pointwise
  simp only [h37 i, h73 i, h45 i, h44 i, ofBits_zero, ofBits_neg_half, ofBits_1024, Ideal.div_coe (ms_pos (D := D) i).ne']
  simp only [← EReal.coe_mul, ← coe_sum, ← EReal.coe_add, div_1024, r_sq]

theorem v89 (h : Holds D V0) : At D.dx2 (res_main_v89 V0) := by
  intro i k
  have h37 := v37 h
  have h73 := v73 h
  have h45 := v45 h
  have h85 := v85 h
  unfold res_main_v89
  generalize res_main_v37 V0 = v at h37
  generalize res_main_v73 V0 = v1 at h73
  generalize res_main_v45 V0 = v2 at h45
  generalize res_main_v85 V0 = v3 at h85
  pointwise
  simp only [h37 i, h73 i, h45 i, h85 i]
  simp only [← EReal.coe_mul, ← EReal.coe_add]
  refine congrArg _ ?_
  have e : (∑ k, D.dxn i k * D.xn i k) = D.r i * ∑ k, D.x2 i k * D.dxn i k := by
    rw [Finset.mul_sum]
    refine Finset.sum_congr rfl fun k _ => ?_
    unfold Data.xn; ring
  unfold Data.dx2 mean
  rw [e]
  unfold Data.xn
  ring

theorem v92 (h : Holds D V0) (i : Fin 4096) (a : Fin 2048) :
    (res_main_v92 V0 : S1x4096x2048.Idx → EReal) (ix3 0 i a) = ((∑ k, D.dx2 i k * D.w a k : ℝ) : EReal) := by
  have h89 := v89 h
  unfold res_main_v92
  generalize res_main_v89 V0 = v at h89
  pointwise
  simp only [h89 i, h.w, ← EReal.coe_mul, ← coe_sum]

theorem v94 (h : Holds D V0) : At D.dyc (res_main_v94 V0) := by
  intro i k
  have h92 := v92 h
  unfold res_main_v94
  generalize res_main_v92 V0 = v at h92
  pointwise
  exact h92 i _

theorem v95 (h : Holds D V0) : At (fun i k => D.nrm i k * sg (D.nrm i k) * D.dyc i k) (res_main_v95 V0) := by
  intro i k
  have h32 := v32_0 h
  have h94 := v94 h
  unfold res_main_v95
  generalize res_main_v32_0 V0 = v at h32
  generalize res_main_v94 V0 = v' at h94
  pointwise
  simp only [h32 i, h94 i, ← EReal.coe_mul]

theorem v96 (h : Holds D V0) : At (fun i k => D.dyc i k * (D.gt i k * sg (D.gt i k))) (res_main_v96 V0) := by
  intro i k
  have h33 := v33_0 h
  have h94 := v94 h
  unfold res_main_v96
  generalize res_main_v33_0 V0 = v at h33
  generalize res_main_v94 V0 = v' at h94
  pointwise
  simp only [h33 i, h94 i, ← EReal.coe_mul]

theorem v98 (h : Holds D V0) : At D.dn (res_main_v98 V0) := by
  intro i k
  have h31 := v31 h
  have h32 := v32_2 h
  have h96 := v96 h
  unfold res_main_v98
  generalize res_main_v31 V0 = v at h31
  generalize res_main_v32_2 V0 = v1 at h32
  generalize res_main_v96 V0 = v2 at h96
  pointwise
  simp only [h31 i, h32 i, h96 i, ofBits_one]
  simp only [← EReal.coe_one, ← EReal.coe_mul, ← EReal.coe_sub, ← EReal.coe_add]
  refine congrArg _ ?_
  unfold Data.dn
  ring

theorem v106 (h : Holds D V0) : At D.dz (res_main_v106 V0) := by
  intro i k
  have h98 := v98 h
  unfold res_main_v106 res_main_v26
  generalize res_main_v98 V0 = v at h98
  pointwise
  simp only [h98 i, h.lg, ← EReal.coe_mul]
  rfl

theorem v112 (h : Holds D V0) : At (fun i k => D.dz i k * D.rstd i) (res_main_v112 V0) := by
  intro i k
  have h106 := v106 h
  have h20 := v20 h
  unfold res_main_v112
  generalize res_main_v106 V0 = v at h106
  generalize res_main_v20 V0 = v' at h20
  pointwise
  simp only [h106 i, h20 i, ← EReal.coe_mul]

theorem v122 (h : Holds D V0) :
    At (fun i k => (∑ k, D.uc i k * D.dz i k) * (-(1 / 2) * (D.rstd i * (D.rstd i * D.rstd i))) / 1024 * (2 * D.uc i k))
      (res_main_v122 V0) := by
  intro i k
  have h17 := v17 h
  have h8 := v8 h
  have h106 := v106 h
  have h20 := v20 h
  have h19 := v19 h
  unfold res_main_v122
  generalize res_main_v17 V0 = v at h17
  generalize res_main_v8 V0 = v4 at h8
  generalize res_main_v106 V0 = v1 at h106
  generalize res_main_v20 V0 = v2 at h20
  generalize res_main_v19 V0 = v3 at h19
  change At1 (vs D) v3 at h19
  pointwise
  rw [sum_unit]
  pointwise
  simp only [h17 i, h8 i, h106 i, h20 i, h19 i, ofBits_zero, ofBits_neg_half, ofBits_1024, ofBits_two, Ideal.div_coe (vs_pos (D := D) i).ne']
  simp only [← EReal.coe_mul, ← coe_sum, ← EReal.coe_add, div_1024, rstd_sq]

theorem sum_uc (i : Fin 4096) : ∑ k, D.uc i k = 0 := by
  unfold Data.uc mean
  rw [Finset.sum_sub_distrib, Finset.sum_const, Finset.card_univ, Fintype.card_fin, nsmul_eq_mul]
  push_cast
  ring

theorem v133 (h : Holds D V0) : At D.du (res_main_v133 V0) := by
  intro i k
  have h112 := v112 h
  have h122 := v122 h
  unfold res_main_v133
  generalize res_main_v112 V0 = v at h112
  generalize res_main_v122 V0 = v1 at h122
  pointwise
  rw [sum_unit]
  pointwise
  simp only [h112 i, h122 i, ofBits_zero, ofBits_1024]
  simp only [← EReal.coe_neg, ← coe_sum, ← EReal.coe_add, div_1024]
  refine congrArg _ ?_
  have e : (∑ k, D.dz i k * D.z i k) = D.rstd i * ∑ k, D.uc i k * D.dz i k := by
    rw [Finset.mul_sum]
    refine Finset.sum_congr rfl fun k _ => ?_
    unfold Data.z; ring
  unfold Data.du mean
  rw [e]
  simp only [Finset.sum_neg_distrib, ← Finset.mul_sum, ← Finset.sum_mul, sum_uc]
  unfold Data.z
  ring

theorem again2 : res_main_v139 V0 = res_main_v2 V0 := rfl
theorem again31 : res_main_v163 V0 = res_main_v31 V0 := rfl
theorem again37 : res_main_v169 V0 = res_main_v37 V0 := rfl
theorem again54 : res_main_v183 V0 = res_main_v54 V0 := rfl

end Cert.Reference2Ideal.OutR
end
-- ==== Proof.Outproj.Results.lean ====
/- The six arrays the reference returns. -/
module

public import proofs.«01_k».proof.Proof.Gen.Reference2Ideal.Read
public import proofs.«01_k».proof.Proof.Outproj.Reference

@[expose] public section
set_option maxRecDepth 16384
noncomputable section

namespace Cert.Reference2Ideal.OutR

open Cert.Reference2Ideal Cert.Reference2Ideal.Gen Cert.Reference2Ideal.Value Cert.Common Cert.Outproj Cert.Reference2Ideal.Read
open Idealize.ShloMosaic Idealize.ShloMosaic.TcCoe Idealize.SL.Sem Idealize.ShloMosaic.StableHlo

variable {D : Data} {V0 : Valuation τ sig (Elt Ideal)}

theorem o1 (h : Holds D V0) (i : Fin 4096) (k : Fin 1024) :
    val_main_v196 (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (ix2 i k) = ((D.dx2 i k : ℝ) : EReal) := by
  rw [← val_main_v196_eq]
  have h' := v89 h
  generalize res_main_v89 V0 = v at h'
  pointwise
  exact h' i k

theorem o2 (h : Holds D V0) (i : Fin 4096) (k : Fin 1024) :
    val_main_v197 (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (ix2 i k) = ((D.dya i k : ℝ) : EReal) := by
  rw [← val_main_v197_eq]
  have h' := v92 h
  generalize res_main_v92 V0 = v at h'
  pointwise
  exact h' i _

theorem o3 (h : Holds D V0) (i : Fin 4096) (k : Fin 1024) :
    val_main_v198 (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (ix2 i k) = ((D.du i k : ℝ) : EReal) := by
  rw [← val_main_v198_eq]
  have h' := v133 h
  generalize res_main_v133 V0 = v at h'
  pointwise
  exact h' i k

theorem o4 (h : Holds D V0) (i : Fin 4096) (k : Fin 1024) :
    val_main_v200 (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (ix2 i k) = ((D.dgate i k : ℝ) : EReal) := by
  rw [← val_main_v200_eq]
  have h95 := v95 h
  have h33 := v33_2 h
  generalize res_main_v95 V0 = v at h95
  generalize res_main_v33_2 V0 = v' at h33
  pointwise
  simp only [h95 i, h33 i, h.gt, ofBits_one]
  simp only [← EReal.coe_one, ← EReal.coe_mul, ← EReal.coe_sub, ← EReal.coe_add]
  refine congrArg _ ?_
  unfold Data.dgate
  ring

theorem o5 (h : Holds D V0) (a : Fin 2048) (k : Fin 1024) :
    val_main_v201 (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (ix2 a k) = ((∑ i, D.y i a * D.dx2 i k : ℝ) : EReal) := by
  rw [← val_main_v201_eq]
  have h89 := v89 h
  have h35 := v35 h
  generalize res_main_v89 V0 = v at h89
  generalize res_main_v35 V0 = v' at h35
  pointwise
  rw [Fin.sum_univ_one]
  simp only [h89 _, h35 _, ← EReal.coe_mul, ← coe_sum]
  exact congrArg _ (Finset.sum_congr rfl fun i _ => mul_comm _ _)

theorem o6 (h : Holds D V0) (j : Fin 8) (k : Fin 1024) :
    val_main_v202 (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (ix2 j k) = ((∑ i, D.st i j k : ℝ) : EReal) := by
  rw [← val_main_v202_eq]
  have h50 := v50 h
  have h68 := v68 h
  have h54 := v54 h
  rw [again54]
  have h25 := v25 h
  have h98 := v98 h
  have h133 := v133 h
  generalize res_main_v50 V0 = v1 at h50
  generalize res_main_v68 V0 = v2 at h68
  generalize res_main_v54 V0 = v3 at h54
  generalize res_main_v25 V0 = v4 at h25
  generalize res_main_v98 V0 = v5 at h98
  generalize res_main_v133 V0 = v6 at h133
  pointwise
  match j with
  | 0 =>
    rw [dif_pos (by decide), dif_pos (by decide)]
    refine (sum_rows (R := 1) _ _ _ _).trans ?_
    rw [Fin.sum_univ_one]
    pointwise
    simp only [h50 _, h68 _, ofBits_zero, ← EReal.coe_mul, ← coe_sum]
    exact congrArg _ (Finset.sum_congr rfl fun i _ => mul_comm _ _)
  | 1 =>
    rw [dif_pos (by decide), dif_neg (by decide), dif_pos (by decide)]
    refine (congrArg _ (sum_rows (R := 4096) _ _ _ _)).trans ?_
    pointwise
    simp only [h54 _, ofBits_half, ofBits_1024, ← EReal.coe_mul, div_1024, ← coe_sum]
    refine congrArg _ ?_
    rw [Finset.mul_sum]
    refine Finset.sum_congr rfl fun i _ => ?_
    show _ = D.err i k * D.err i k * (1 / 2048)
    ring
  | 2 =>
    rw [dif_pos (by decide), dif_neg (by decide), dif_neg (by decide), dif_pos (by decide)]
    refine (sum_rows (R := 1) _ _ _ _).trans ?_
    rw [Fin.sum_univ_one]
    pointwise
    simp only [h25 _, h98 _, ofBits_zero, ← EReal.coe_mul, ← coe_sum]
    exact congrArg _ (Finset.sum_congr rfl fun i _ => mul_comm _ _)
  | 3 =>
    rw [dif_pos (by decide), dif_neg (by decide), dif_neg (by decide), dif_neg (by decide), dif_pos (by decide)]
    refine (sum_rows (R := 1) _ _ _ _).trans ?_
    rw [Fin.sum_univ_one]
    pointwise
    simp only [h98 _, ofBits_zero, ← EReal.coe_mul, ← coe_sum]
    rfl
  | 4 =>
    rw [dif_pos (by decide), dif_neg (by decide), dif_neg (by decide), dif_neg (by decide), dif_neg (by decide)]
    refine (sum_rows (R := 1) _ _ _ _).trans ?_
    rw [Fin.sum_univ_one]
    pointwise
    simp only [h133 _, ofBits_zero, ← EReal.coe_mul, ← coe_sum]
    rfl
  | 5 | 6 | 7 =>
    rw [dif_neg (by decide)]
    show (((0#32 : BitVec 32).toInt : ℝ) : EReal) = _
    refine congrArg _ ?_
    unfold Data.st
    simp

end Cert.Reference2Ideal.OutR
end
-- ==== Proof.Outproj.Claims.lean ====
/- The five claims about the output projection and its loss: the frames, and the kernel's six arrays equal to the
   derivative's. -/
module

public import proofs.«01_k».proof.Defs
public import proofs.«01_k».proof.Proof.Gen.Kernel2.Frame
public import proofs.«01_k».proof.Proof.Gen.Pre_finite10
public import proofs.«01_k».proof.Proof.Common.Precondition
public import proofs.«01_k».proof.Proof.Outproj.Arrays
public import proofs.«01_k».proof.Proof.Outproj.Results
public import Idealize.ShloMosaic.Adequacy
public import Idealize.ShloMosaic.Init

@[expose] public section

noncomputable section

namespace Cert.Proof.Outproj

open Idealize.ShloMosaic Idealize.ShloMosaic.TcCoe Idealize.ShloMosaic.StableHlo Idealize.SL.Sem Cert.Common Cert.Outproj
open Cert.Kernel2Ideal.OutV (RowsOf WOf StOf f10 f11 f12 f13 f14 f15)
open Cert.Reference2Ideal.Read
open Cert.Reference2Ideal.OutR (o1 o2 o3 o4 o5 o6)

theorem frame_kernel : Cert.quiescent_Kernel2 (hKernel2 := Cert.Kernel2.Gen.facts) := fun m ρ _ => Cert.Kernel2.Gen.frame m ρ
theorem frame_ideal : Cert.quiescent_Kernel2Ideal (hKernel2Ideal := Cert.Kernel2Ideal.Gen.facts) := fun m ρ _ => Cert.Kernel2Ideal.Gen.frame m ρ
theorem frame_ideal_pre : Cert.quiescent_Kernel2Ideal_pre_finite10 (hKernel2Ideal := Cert.Kernel2Ideal.Gen.facts)
    (hPre_finite10 := Cert.Pre_finite10.Gen.facts) := fun m ρ _ => Cert.Kernel2Ideal.Gen.frame m ρ
theorem frame_reference : Cert.quiescent_Reference2Ideal (hReference2Ideal := Cert.Reference2Ideal.Gen.facts) := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)
theorem frame_reference_pre : Cert.quiescent_Reference2Ideal_pre_finite10 (hReference2Ideal := Cert.Reference2Ideal.Gen.facts)
    (hPre_finite10 := Cert.Pre_finite10.Gen.facts) := fun m ρ _ => frame_reference m ρ trivial

section
attribute [local instance] Cert.Pre_finite10.Gen.facts
open Cert.Pre_finite10

/-- The precondition says that every entry of the ten arguments is a real number. -/
theorem real_args (a0 a1 a2 a3 : S1x4096x1024.Idx → EReal) (a4 a5 a6 : S1024.Idx → EReal) (a7 : S2048x1024.Idx → EReal)
    (a8 : S1024.Idx → EReal) (a9 : S1x4096x1024.Idx → EReal)
    (h : Cert.Pre_finite10.fn (F := Ideal) a0 a1 a2 a3 a4 a5 a6 a7 a8 a9 = fun _ => 1#1) :
    Real a0 ∧ Real a1 ∧ Real a2 ∧ Real a3 ∧ Real a4 ∧ Real a5 ∧ Real a6 ∧ Real a7 ∧ Real a8 ∧ Real a9 := by
  have h := congrFun h (fun a => a.elim0)
  simp only [fn, fn_part1, fn_part2, andi_apply, IntOp.andi_eq_one] at h
  obtain ⟨⟨⟨⟨⟨⟨⟨⟨⟨h0, h1⟩, h2⟩, h3⟩, h4⟩, h5⟩, h6⟩, h7⟩, h8⟩, h9⟩ := h
  haveI : Subsingleton S_.Idx := ⟨fun x y => funext fun a => a.elim0⟩
  exact ⟨real_of_all a0 _ _ _ _ _ h0, real_of_all a1 _ _ _ _ _ h1, real_of_all a2 _ _ _ _ _ h2, real_of_all a3 _ _ _ _ _ h3,
    real_of_all a4 _ _ _ _ _ h4, real_of_all a5 _ _ _ _ _ h5, real_of_all a6 _ _ _ _ _ h6, real_of_all a7 _ _ _ _ _ h7,
    real_of_all a8 _ _ _ _ _ h8, real_of_all a9 _ _ _ _ _ h9⟩
end

/-- Two matrices with the same entries are one. -/
theorem eq_of_ix2 {a b : ℕ} {x y : (⟨2, ![a, b]⟩ : Shape).Idx → EReal} (h : ∀ i k, x (ix2 i k) = y (ix2 i k)) : x = y :=
  funext fun j => by rw [← ix2_eta j]; exact h _ _

/-- The numbers in the kernel's arguments on a device. -/
def dataOf (m : (ℓ : Loc Cert.Kernel2Ideal.nD Cert.Kernel2Ideal.τ Cert.Kernel2Ideal.sig) → Buf (Elt Ideal) ℓ) (c : Dev Cert.Kernel2Ideal.nD) : Data where
  x i k := ((m ((c : Thread Cert.Kernel2Ideal.nD Cert.Kernel2Ideal.τ).loc Cert.Kernel2Ideal.main_arg0) : Cert.Kernel2Ideal.S1x4096x1024.Idx → EReal) (ix3 0 i k)).toReal
  ya i k := ((m ((c : Thread Cert.Kernel2Ideal.nD Cert.Kernel2Ideal.τ).loc Cert.Kernel2Ideal.main_arg1) : Cert.Kernel2Ideal.S1x4096x1024.Idx → EReal) (ix3 0 i k)).toReal
  pre i k := ((m ((c : Thread Cert.Kernel2Ideal.nD Cert.Kernel2Ideal.τ).loc Cert.Kernel2Ideal.main_arg2) : Cert.Kernel2Ideal.S1x4096x1024.Idx → EReal) (ix3 0 i k)).toReal
  cb k := ((m ((c : Thread Cert.Kernel2Ideal.nD Cert.Kernel2Ideal.τ).loc Cert.Kernel2Ideal.main_arg4) : Cert.Kernel2Ideal.S1024.Idx → EReal) (ix1 k)).toReal
  gt i k := ((m ((c : Thread Cert.Kernel2Ideal.nD Cert.Kernel2Ideal.τ).loc Cert.Kernel2Ideal.main_arg3) : Cert.Kernel2Ideal.S1x4096x1024.Idx → EReal) (ix3 0 i k)).toReal
  tg i k := ((m ((c : Thread Cert.Kernel2Ideal.nD Cert.Kernel2Ideal.τ).loc Cert.Kernel2Ideal.main_arg9) : Cert.Kernel2Ideal.S1x4096x1024.Idx → EReal) (ix3 0 i k)).toReal
  lg k := ((m ((c : Thread Cert.Kernel2Ideal.nD Cert.Kernel2Ideal.τ).loc Cert.Kernel2Ideal.main_arg5) : Cert.Kernel2Ideal.S1024.Idx → EReal) (ix1 k)).toReal
  lb k := ((m ((c : Thread Cert.Kernel2Ideal.nD Cert.Kernel2Ideal.τ).loc Cert.Kernel2Ideal.main_arg6) : Cert.Kernel2Ideal.S1024.Idx → EReal) (ix1 k)).toReal
  gf k := ((m ((c : Thread Cert.Kernel2Ideal.nD Cert.Kernel2Ideal.τ).loc Cert.Kernel2Ideal.main_arg8) : Cert.Kernel2Ideal.S1024.Idx → EReal) (ix1 k)).toReal
  w i k := ((m ((c : Thread Cert.Kernel2Ideal.nD Cert.Kernel2Ideal.τ).loc Cert.Kernel2Ideal.main_arg7) : Cert.Kernel2Ideal.S2048x1024.Idx → EReal) (ix2 i k)).toReal

theorem algebraic : Cert.algebraic_Kernel2Ideal_Reference2Ideal_pre_finite10 (hKernel2Ideal := Cert.Kernel2Ideal.Gen.facts)
    (hReference2Ideal := Cert.Reference2Ideal.Gen.facts) (hPre_finite10 := Cert.Pre_finite10.Gen.facts) := by
  intro m g m' g' hp hm
  have hk : ∀ c, Cert.Kernel2Ideal.OutV.Holds m (dataOf m c) c := fun c => by
    obtain ⟨h0, h1, h2, h3, h4, h5, h6, h7, h8, h9⟩ := real_args _ _ _ _ _ _ _ _ _ _ (hp c)
    exact ⟨fun _ _ => h0 _, fun _ _ => h1 _, fun _ _ => h2 _, fun _ _ => h3 _, fun _ => h4 _, fun _ => h5 _, fun _ => h6 _, fun _ _ => h7 _,
      fun _ => h8 _, fun _ _ => h9 _⟩
  have hr : ∀ c, Cert.Reference2Ideal.OutR.Holds (dataOf m c) (launchContents m' c) := fun c => by
    obtain ⟨e0, e1, e2, e3, e4, e5, e6, e7, e8, e9⟩ := hm c
    obtain ⟨h0, h1, h2, h3, h4, h5, h6, h7, h8, h9⟩ := hk c
    exact ⟨fun i k => (congrFun e0 _).trans (h0 i k), fun i k => (congrFun e1 _).trans (h1 i k), fun i k => (congrFun e2 _).trans (h2 i k),
      fun i k => (congrFun e3 _).trans (h3 i k), fun k => (congrFun e4 _).trans (h4 k), fun k => (congrFun e5 _).trans (h5 k),
      fun k => (congrFun e6 _).trans (h6 k), fun i k => (congrFun e7 _).trans (h7 i k), fun k => (congrFun e8 _).trans (h8 k),
      fun i k => (congrFun e9 _).trans (h9 i k)⟩
  refine ⟨fun c => RowsOf (dataOf m c).dx2, fun c => RowsOf (dataOf m c).dya, fun c => RowsOf (dataOf m c).du, fun c => RowsOf (dataOf m c).dgate,
    fun c => WOf (dataOf m c), fun c => StOf (dataOf m c), ?_, ?_⟩
  · refine (θ_run Cert.Kernel2Ideal.defs _ _).mono (fun r h c => ?_) (Cert.Kernel2Ideal.Value.run_blocks (F := Ideal) m _)
    obtain ⟨h1, h2, h3, h4, h5, h6, ha⟩ := h c
    exact ⟨h1.trans (f10 m (hk c)), h2.trans (f11 m (hk c)), h3.trans (f12 m (hk c)), h4.trans (f13 m (hk c)), h5.trans (f14 m (hk c)),
      h6.trans (f15 m (hk c)), ha⟩
  · refine (θ_run Cert.Reference2Ideal.defs _ _).mono (fun r h c => ?_) (Cert.Reference2Ideal.Value.run (F := Ideal) m' _)
    obtain ⟨h1, h2, h3, h4, h5, h6, ha⟩ := h c
    refine ⟨(h1.trans (val_main_v196_eq _)).trans (eq_of_ix2 fun i k => o1 (hr c) i k),
      (h2.trans (val_main_v197_eq _)).trans (eq_of_ix2 fun i k => o2 (hr c) i k),
      (h3.trans (val_main_v198_eq _)).trans (eq_of_ix2 fun i k => o3 (hr c) i k),
      (h4.trans (val_main_v200_eq _)).trans (eq_of_ix2 fun i k => o4 (hr c) i k),
      (h5.trans (val_main_v201_eq _)).trans (eq_of_ix2 fun i k => o5 (hr c) i k),
      (h6.trans (val_main_v202_eq _)).trans (eq_of_ix2 fun i k => o6 (hr c) i k), ha⟩

end Cert.Proof.Outproj
end
-- ==== Proof.Attn.Trip.lean ====
/- One block of 128 queries of the attention's backward kernel (the body of its loop over a chunk's blocks): which rows it
   reads, what it stores, and the loop as the sequence of these. -/
module

public import proofs.«01_k».proof.Proof.Gen.Kernel3Ideal.Frame
public import proofs.«01_k».proof.Proof.Gen.Kernel3Ideal.Skeleton
public import Idealize.ShloMosaic.Lib.Exec
public import Idealize.ShloMosaic.Lib.WritesUnit

@[expose] public section
set_option maxRecDepth 16384
noncomputable section

namespace Cert.Kernel3Ideal.Attn
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Where a block lies -/

/-- The query block's rows in a chunk, in the first and in the second slab of heads. -/
theorem k0_off1_eq : ∀ (i : grid0.Coords) (k : Fin k0_t1_loop.trips), k0_off1 i k = ![0, 128 * k.val, 0] := by decide +kernel
theorem k0_off2_eq : ∀ (i : grid0.Coords) (k : Fin k0_t1_loop.trips), k0_off2 i k = ![1, 128 * k.val, 0] := by decide +kernel
/-- The keys' rows: of the block before (the block itself where there is none), and of the block. -/
theorem k0_off3_eq : ∀ (i : grid0.Coords) (k : Fin k0_t1_loop.trips),
    k0_off3 i k = ![0, 2048 * (i 1).val + 128 * k.val - 128, 0] := by decide +kernel
theorem k0_off4_eq : ∀ (i : grid0.Coords) (k : Fin k0_t1_loop.trips),
    k0_off4 i k = ![0, 2048 * (i 1).val + 128 * k.val, 0] := by decide +kernel
theorem k0_off5_eq : ∀ (i : grid0.Coords) (k : Fin k0_t1_loop.trips), k0_off5 i k = ![0, 128 * k.val, 0] := by decide +kernel
/-- The bias: that of the first block, or that of the others. -/
theorem k0_off6_eq : ∀ (i : grid0.Coords) (k : Fin k0_t1_loop.trips),
    k0_off6 i k = ![min (16 * (i 1).val + k.val) 1, 0, 0, 0] := by decide +kernel
theorem k0_off8_eq : ∀ (i : grid0.Coords) (k : Fin k0_t1_loop.trips),
    k0_off8 i k = ![2048 * (i 1).val + 128 * k.val - 128, 0] := by decide +kernel
theorem k0_off10_eq : ∀ k : Fin k0_t2_loop.trips, k0_off10 k = ![0, 128 * k.val, 0] := by decide +kernel

instance (i : grid0.Coords) (k : Fin k0_t1_loop.trips) : ClosedOff (k0_off1 i k) := ⟨_, k0_off1_eq i k⟩
instance (i : grid0.Coords) (k : Fin k0_t1_loop.trips) : ClosedOff (k0_off2 i k) := ⟨_, k0_off2_eq i k⟩

abbrev R1 (i : grid0.Coords) (k : Fin k0_t1_loop.trips) := Rect.unit (s := S2x2048x128) (k0_off1 i k) S1x128x128.size (k0_off1_inb i k)
abbrev R2 (i : grid0.Coords) (k : Fin k0_t1_loop.trips) := Rect.unit (s := S2x2048x128) (k0_off2 i k) S1x128x128.size (k0_off2_inb i k)
abbrev R3 (i : grid0.Coords) (k : Fin k0_t1_loop.trips) := Rect.unit (s := S1x4096x128) (k0_off3 i k) S1x128x128.size (k0_off3_inb i k)
abbrev R4 (i : grid0.Coords) (k : Fin k0_t1_loop.trips) := Rect.unit (s := S1x4096x128) (k0_off4 i k) S1x128x128.size (k0_off4_inb i k)
abbrev R5 (i : grid0.Coords) (k : Fin k0_t1_loop.trips) := Rect.unit (s := S1x2048x128) (k0_off5 i k) S1x128x128.size (k0_off5_inb i k)
abbrev R6 (i : grid0.Coords) (k : Fin k0_t1_loop.trips) := Rect.unit (s := S2x1x512x256) (k0_off6 i k) S1x1x512x256.size (k0_off6_inb i k)
abbrev R7 (i : grid0.Coords) (k : Fin k0_t1_loop.trips) := Rect.unit (s := S4096x128) (k0_off7 i k) S128x128.size (k0_off7_inb i k)
abbrev R8 (i : grid0.Coords) (k : Fin k0_t1_loop.trips) := Rect.unit (s := S4096x128) (k0_off8 i k) S128x128.size (k0_off8_inb i k)

/-! ## What a block computes -/

/-- What the body finds in its inputs: the queries and their cotangents, the two tables of row numbers, keys, values, bias. -/
structure Ins (F : FTy → Type) where
  q : Vec F S2x2048x128 .f32
  d : Vec F S2x2048x128 .f32
  l : Vec F S1x2048x128 .f32
  e : Vec F S1x2048x128 .f32
  k : Vec F S1x4096x128 .f32
  v : Vec F S1x4096x128 .f32
  b : Vec F S2x1x512x256 .f32

section
variable (x : Ins F) (o : BitVec 1) (i : grid0.Coords) (k : Fin k0_t1_loop.trips)

/-- The block's queries and cotangents, its four heads one below the other; the keys and values its rows see. -/
def Q : FVec F S512x128 .bf16 := k0_pay4 (View.ld x.q (R1 i k)) (View.ld x.q (R2 i k))
def D : FVec F S512x128 .bf16 := k0_pay7 k0_pay5 (k0_pay6 (View.ld x.d (R1 i k))) (View.ld x.d (R2 i k))
def K : FVec F S256x128 .bf16 := k0_pay8 o (View.ld x.k (R3 i k)) (View.ld x.k (R4 i k))
def W : FVec F S256x128 .bf16 := k0_pay9 o (View.ld x.v (R3 i k)) (View.ld x.v (R4 i k))
/-- The weights, the values' gradient, the scores' gradient. -/
def P : FVec F S512x256 .f32 := k0_pay10 k0_pay1 (Q x i k) (K x o i k) (View.ld x.l (R5 i k)) (View.ld x.b (R6 i k))
def G : FVec F S256x128 .f32 := k0_pay11 k0_pay1 (Q x i k) (D x i k) (K x o i k) (View.ld x.l (R5 i k)) (View.ld x.b (R6 i k))
def T : FVec F S512x256 .bf16 := k0_pay12 k0_pay1 (D x i k) (W x o i k) (P x o i k) (View.ld x.e (R5 i k))
/-- The queries' gradient, slab by slab. -/
def dq1 : FVec F S1x128x128 .f32 := k0_pay17 (k0_pay15 k0_pay1 (D x i k) (K x o i k) (W x o i k) (P x o i k) (View.ld x.e (R5 i k)))
def dq2 : FVec F S1x128x128 .f32 := k0_pay18 (k0_pay16 k0_pay1 (D x i k) (K x o i k) (W x o i k) (P x o i k) (View.ld x.e (R5 i k)))
/-- The sums for keys and values with the block's contribution, for the block's rows and for the rows of the block before. -/
def own (a : Vec F S128x128 .f32) : FVec F S128x128 .f32 := k0_pay20 (Q x i k) (G x o i k) (T x o i k) a
def before (a : Vec F S128x128 .f32) : FVec F S128x128 .f32 := k0_pay21 (Q x i k) (G x o i k) (T x o i k) a

/-- The pieces a block stores of the queries' gradient. -/
def pieces : List (View.Piece (Elt F) S2x2048x128 .f32) := [⟨R2 i k, dq2 x o i k⟩, ⟨R1 i k, dq1 x o i k⟩]
end

/-- What a block leaves in the memref of the sums. -/
def step (x : Ins F) (o : BitVec 1) (i : grid0.Coords) (k : Fin k0_t1_loop.trips) (w : View sig .tc .vmem S4096x128 .f32)
    (f : BufTy.Contents (Elt F) w.ty) : BufTy.Contents (Elt F) w.ty :=
  w.writes (Elt F) (w.writes (Elt F) f [⟨R7 i k, own x o i k (View.ld (w.read (Elt F) f) (R7 i k))⟩])
    [⟨R8 i k, before x o i k (View.ld (w.read (Elt F) (w.writes (Elt F) f [⟨R7 i k, own x o i k (View.ld (w.read (Elt F) f) (R7 i k))⟩])) (R8 i k))⟩]

section
variable (𝒱 : Variants) (c : Dev nD) (bd : Option 𝒱.V) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (arg1 : BitVec 32) (v10 : BitVec 1)

/-- The inputs at given contents. -/
abbrev Reads (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8))

variable (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty)

/-- The inputs' values, read through their memrefs. -/
abbrev insOf : Ins F := ⟨arg2.view.read (Elt F) X2, arg3.view.read (Elt F) X3, arg4.view.read (Elt F) X4, arg5.view.read (Elt F) X5,
  arg6.view.read (Elt F) X6, arg7.view.read (Elt F) X7, arg8.view.read (Elt F) X8⟩

set_option maxHeartbeats 4000000 in
/-- One block: from any contents of the two memrefs it stores into. -/
theorem trip (k : Fin k0_t1_loop.trips) (E : Set ℕ) (f9 : BufTy.Contents (Elt F) arg9.view.ty) (f11 : BufTy.Contents (Elt F) arg11.view.ty) :
    iprop(Reads (F := F) c arg2 arg3 arg4 arg5 arg6 arg7 arg8 X2 X3 X4 X5 X6 X7 X8
        ∗ (arg9.view.loc (c : Thread nD τ) ↦[arg9.view.set]{fullShare} f9) ∗ (arg11.view.loc (c : Thread nD τ) ↦[arg11.view.set]{fullShare} f11))
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg1 v10 k PUnit.unit)
          (fun _ => iprop(Reads (F := F) c arg2 arg3 arg4 arg5 arg6 arg7 arg8 X2 X3 X4 X5 X6 X7 X8
            ∗ (arg9.view.loc (c : Thread nD τ) ↦[arg9.view.set]{fullShare} arg9.view.writes (Elt F) f9 (pieces (insOf (F := F) arg2 arg3 arg4 arg5 arg6 arg7 arg8 X2 X3 X4 X5 X6 X7 X8) v10 i k))
            ∗ (arg11.view.loc (c : Thread nD τ) ↦[arg11.view.set]{fullShare} step (insOf (F := F) arg2 arg3 arg4 arg5 arg6 arg7 arg8 X2 X3 X4 X5 X6 X7 X8) v10 i k arg11.view f11))) := by
  have hk : k.val < 16 := Nat.lt_of_lt_of_le k.isLt k0_t1_abs.2.1
  unfold k0_t1_body
  iintro ⟨⟨H2, H3, H4, H5, H6, H7, H8⟩, H9, H11⟩
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.bind_assoc, bind_assoc, pure_bind, Prog.lift, Prog.bind_op, Prog.bind_ret]
  sl_steps
  isplitl [H2 H3 H4 H5 H6 H7 H8]
  · unfold Reads
    iframe
  isplitl [H9]
  · iexact H9
  · iexact H11
end

end Cert.Kernel3Ideal.Attn
end
-- ==== Proof.Attn.Body.lean ====
/- The blocks of a chunk one after the other, and the copy of the sums into the result after the last chunk. -/
module

public import proofs.«01_k».proof.Proof.Attn.Trip
public import Idealize.ShloMosaic.Lib.Pointwise

@[expose] public section
set_option maxRecDepth 16384
set_option warn.classDefReducibility false
noncomputable section

namespace Cert.Kernel3Ideal.Attn
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The blocks one after the other -/

section
variable (x : Ins F) (o : BitVec 1) (i : grid0.Coords)

/-- What the first `n` blocks leave in the memref of the queries' gradient, and in that of the sums. -/
def dqs (w : View sig .tc .vmem S2x2048x128 .f32) (f : BufTy.Contents (Elt F) w.ty) : ℕ → BufTy.Contents (Elt F) w.ty
  | 0 => f
  | n + 1 => if h : n < k0_t1_loop.trips then w.writes (Elt F) (dqs w f n) (pieces x o i ⟨n, h⟩) else dqs w f n

def sums (w : View sig .tc .vmem S4096x128 .f32) (f : BufTy.Contents (Elt F) w.ty) : ℕ → BufTy.Contents (Elt F) w.ty
  | 0 => f
  | n + 1 => if h : n < k0_t1_loop.trips then step x o i ⟨n, h⟩ w (sums w f n) else sums w f n

theorem dqs_succ (w : View sig .tc .vmem S2x2048x128 .f32) (f : BufTy.Contents (Elt F) w.ty) (k : Fin k0_t1_loop.trips) :
    dqs x o i w f (k.val + 1) = w.writes (Elt F) (dqs x o i w f k.val) (pieces x o i k) := by
  rw [dqs, dif_pos k.isLt]

theorem sums_succ (w : View sig .tc .vmem S4096x128 .f32) (f : BufTy.Contents (Elt F) w.ty) (k : Fin k0_t1_loop.trips) :
    sums x o i w f (k.val + 1) = step x o i k w (sums x o i w f k.val) := by
  rw [sums, dif_pos k.isLt]
end

/-- The loop over the blocks: the inputs stay, the two memrefs hold what the blocks before left. -/
@[sl_loop] def loop1 (𝒱 : Variants) (c : Dev nD) (bd : Option 𝒱.V) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (arg1 : BitVec 32) (v10 : BitVec 1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (G9 : BufTy.Contents (Elt F) arg9.view.ty) (G11 : BufTy.Contents (Elt F) arg11.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg1 v10) where
  inv k _ := iprop(Reads (F := F) c arg2 arg3 arg4 arg5 arg6 arg7 arg8 X2 X3 X4 X5 X6 X7 X8
    ∗ (∃ f, (arg9.view.loc (c : Thread nD τ) ↦[arg9.view.set]{fullShare} f) ∗ ⌜f = dqs (insOf (F := F) arg2 arg3 arg4 arg5 arg6 arg7 arg8 X2 X3 X4 X5 X6 X7 X8) v10 i arg9.view G9 k⌝)
    ∗ (∃ f, (arg11.view.loc (c : Thread nD τ) ↦[arg11.view.set]{fullShare} f) ∗ ⌜f = sums (insOf (F := F) arg2 arg3 arg4 arg5 arg6 arg7 arg8 X2 X3 X4 X5 X6 X7 X8) v10 i arg11.view G11 k⌝))
  step k acc := by
    iintro ⟨HR, ⟨%f9, H9, %h9⟩, ⟨%f11, H11, %h11⟩⟩
    iapply (wp_wand_r Idealize.ShloMosaic.frame (wpE (defs₀ (F := F)) 𝒱 (c : Thread nD τ) bd) E)
    isplitl [HR H9 H11]
    · iapply (trip 𝒱 c bd i arg2 harg2 arg3 harg3 arg4 harg4 arg5 harg5 arg6 harg6 arg7 harg7 arg8 harg8 arg9 harg9 arg10 harg10 arg11 harg11 arg1 v10 X2 X3 X4 X5 X6 X7 X8 k E f9 f11)
      isplitl [HR]; · iexact HR
      isplitl [H9]; · iexact H9
      iexact H11
    · iintro %_ ⟨HR, H9, H11⟩
      isplitl [HR]; · iexact HR
      isplitl [H9]
      · iexists _; isplitl [H9]; · iexact H9
        ipureintro; rw [h9, ← dqs_succ]
      · iexists _; isplitl [H11]; · iexact H11
        ipureintro; rw [h11, ← sums_succ]

/-! ## The sums into the result -/

/-- What the first `n` copies leave in the memref of the result. -/
def outs (i : grid0.Coords) (h2 : k0_cond2 i = 1#1) (a : Vec F S4096x128 .f32) (w : View sig .tc .vmem S1x4096x128 .f32)
    (f : BufTy.Contents (Elt F) w.ty) : ℕ → BufTy.Contents (Elt F) w.ty
  | 0 => f
  | n + 1 => if h : n < k0_t2_loop.trips then
      w.writes (Elt F) (outs i h2 a w f n) [⟨Rect.unit (s := S1x4096x128) (k0_off10 ⟨n, h⟩) S1x128x128.size (k0_off10_inb i ⟨n, h⟩ h2),
        k0_pay3 (View.ld a (Rect.unit (s := S4096x128) (k0_off9 ⟨n, h⟩) S128x128.size (k0_off9_inb i ⟨n, h⟩ h2)))⟩] else outs i h2 a w f n

theorem outs_succ (i : grid0.Coords) (h2 : k0_cond2 i = 1#1) (a : Vec F S4096x128 .f32) (w : View sig .tc .vmem S1x4096x128 .f32)
    (f : BufTy.Contents (Elt F) w.ty) (k : Fin k0_t2_loop.trips) :
    outs i h2 a w f (k.val + 1) = w.writes (Elt F) (outs i h2 a w f k.val)
      [⟨Rect.unit (s := S1x4096x128) (k0_off10 k) S1x128x128.size (k0_off10_inb i k h2),
        k0_pay3 (View.ld a (Rect.unit (s := S4096x128) (k0_off9 k) S128x128.size (k0_off9_inb i k h2)))⟩] := by
  rw [outs, dif_pos k.isLt]

@[sl_loop] def loop2 (𝒱 : Variants) (c : Dev nD) (bd : Option 𝒱.V) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (h2 : k0_cond2 i = 1#1)
    (X11 : BufTy.Contents (Elt F) arg11.view.ty) (G10 : BufTy.Contents (Elt F) arg10.view.ty) :
    Idealize.ShloMosaic.LoopInv (M := 𝕄) Idealize.ShloMosaic.frame (wpE (defs₀ (F := F)) 𝒱 (c : Thread nD τ) bd) E
      k0_t2_loop.lb k0_t2_loop.ub k0_t2_loop.st (k0_t2_ok i h2) () (k0_t2_body (F := F) i arg2 harg2 arg3 harg3 arg4 harg4 arg5 harg5 arg6 harg6 arg7 harg7 arg8 harg8 arg9 harg9 arg10 harg10 arg11 harg11 h2) where
  inv k _ := iprop((arg11.view.loc (c : Thread nD τ) ↦[arg11.view.set]{fullShare} X11)
    ∗ (∃ f, (arg10.view.loc (c : Thread nD τ) ↦[arg10.view.set]{fullShare} f) ∗ ⌜f = outs i h2 (arg11.view.read (Elt F) X11) arg10.view G10 k⌝))
  step k acc := by
    iintro ⟨H11, ⟨%f10, H10, %h10⟩⟩
    unfold k0_t2_body
    simp only [Prog.bind_assoc, bind_assoc, pure_bind, Prog.lift, Prog.bind_op, Prog.bind_ret]
    sl_steps
    isplitl [H11]; · iexact H11
    iexists _; isplitl [H10]; · iexact H10
    ipureintro; rw [h10, outs_succ]; rfl

/-! ## As vectors -/

/-- The rows from `o` on replaced by a block. -/
def put (o : ℕ) (v : Vec F S128x128 .f32) (a : Vec F S4096x128 .f32) : Vec F S4096x128 .f32 := fun y =>
  if h : ∀ b, (![o, 0] : Fin 2 → ℕ) b ≤ (y b).val ∧ (y b).val < (![o, 0] : Fin 2 → ℕ) b + S128x128.size b then
    v (Rect.unitLocal (s := S4096x128) (off := ![o, 0]) (size := S128x128.size) y h) else a y

theorem read_put (w : View sig .tc .vmem S4096x128 .f32) (f : BufTy.Contents (Elt F) w.ty) (off : Fin 2 → ℕ) (o : ℕ) (h : off = ![o, 0])
    (inb : ∀ b, off b + S128x128.size b ≤ S4096x128.size b) (v : Vec F S128x128 .f32) :
    w.read (Elt F) (w.writes (Elt F) f [⟨Rect.unit (s := S4096x128) off S128x128.size inb, v⟩]) = put o v (w.read (Elt F) f) :=
  funext fun y => View.read_writes_cons_unit w f inb v [] y h

section
variable (x : Ins F) (o : BitVec 1) (i : grid0.Coords)

/-- The sums after a block, after the first `n` blocks. -/
def stepV (k : Fin k0_t1_loop.trips) (a : Vec F S4096x128 .f32) : Vec F S4096x128 .f32 :=
  let b := put (2048 * (i 1).val + 128 * k.val) (own x o i k (View.ld a (R7 i k))) a
  put (2048 * (i 1).val + 128 * k.val - 128) (before x o i k (View.ld b (R8 i k))) b

def sumsV (a : Vec F S4096x128 .f32) : ℕ → Vec F S4096x128 .f32
  | 0 => a
  | n + 1 => if h : n < k0_t1_loop.trips then stepV x o i ⟨n, h⟩ (sumsV a n) else sumsV a n

theorem read_sums (w : View sig .tc .vmem S4096x128 .f32) (f : BufTy.Contents (Elt F) w.ty) (n : ℕ) :
    w.read (Elt F) (sums x o i w f n) = sumsV x o i (w.read (Elt F) f) n := by
  induction n with
  | zero => rfl
  | succ n ih =>
    rw [sums, sumsV]
    split
    · rename_i h
      rw [← ih]
      unfold step stepV
      rw [read_put w _ _ _ (k0_off8_eq i ⟨n, h⟩), read_put w _ _ _ (k0_off7_eq i ⟨n, h⟩)]
    · exact ih

theorem trips1 : k0_t1_loop.trips = 16 := by decide +kernel
theorem trips2 : k0_t2_loop.trips = 32 := by decide +kernel

/-- The block a row of the chunk lies in, and the row's place in the block. -/
def blk (r : Fin 2048) : Fin k0_t1_loop.trips := ⟨r.val / 128, by rw [trips1]; omega⟩
def cell (r : ℕ) (l : Fin 128) : S1x128x128.Idx := ix3 (n0 := 1) (n1 := 128) (n2 := 128) 0 ⟨r % 128, by omega⟩ l

/-- The queries' gradient of a chunk. -/
def dqV : Vec F S2x2048x128 .f32 := fun y =>
  if (y 0).val = 0 then dq1 x o i (blk (y 1)) (cell (y 1).val (y 2)) else dq2 x o i (blk (y 1)) (cell (y 1).val (y 2))

theorem read_dqs (w : View sig .tc .vmem S2x2048x128 .f32) (f : BufTy.Contents (Elt F) w.ty) :
    w.read (Elt F) (dqs x o i w f k0_t1_loop.trips) = dqV x o i := by
  have key : ∀ n, n ≤ 16 → ∀ y : S2x2048x128.Idx, (y 1).val < 128 * n → w.read (Elt F) (dqs x o i w f n) y = dqV x o i y := by
    intro n
    induction n with
    | zero => intro _ y h; omega
    | succ n ih =>
      intro hn y h
      have hlt : n < k0_t1_loop.trips := by rw [trips1]; omega
      have h0 : (y 0).val < 2 := (y 0).isLt
      rw [dqs, dif_pos hlt]
      unfold pieces
      by_cases hy : (y 1).val < 128 * n
      · rw [View.read_writes_cons_unit_of_not_mem w _ _ _ _ y (k0_off2_eq i ⟨n, hlt⟩) 1 (.inl hy),
          View.read_writes_cons_unit_of_not_mem w _ _ _ _ y (k0_off1_eq i ⟨n, hlt⟩) 1 (.inl hy)]
        exact ih (by omega) y hy
      · have hb : blk (y 1) = ⟨n, hlt⟩ := Fin.ext (show (y 1).val / 128 = n by omega)
        have e1 : (y 1).val = 128 * n + (y 1).val % 128 := by omega
        have e2 : (y 2).val = 0 + (y 2).val := by omega
        by_cases hz : (y 0).val = 0
        · rw [View.read_writes_cons_unit_of_not_mem w _ _ _ _ y (k0_off2_eq i ⟨n, hlt⟩) 0 (.inl (by rw [hz]; exact Nat.one_pos))]
          refine (View.read_writes_cons_unit_of_mem w (dqs x o i w f n) (k0_off1_inb i ⟨n, hlt⟩) (dq1 x o i ⟨n, hlt⟩) [] y (cell (y 1).val (y 2))
            (k0_off1_eq i ⟨n, hlt⟩) ?_).trans ?_
          · intro a; fin_cases a
            · exact hz
            · exact e1
            · exact e2
          · unfold dqV; rw [if_pos hz, hb]
        · refine (View.read_writes_cons_unit_of_mem w (dqs x o i w f n) (k0_off2_inb i ⟨n, hlt⟩) (dq2 x o i ⟨n, hlt⟩) [⟨R1 i ⟨n, hlt⟩, dq1 x o i ⟨n, hlt⟩⟩]
            y (cell (y 1).val (y 2)) (k0_off2_eq i ⟨n, hlt⟩) ?_).trans ?_
          · intro a; fin_cases a
            · show (y 0).val = 1 + 0; omega
            · exact e1
            · exact e2
          · unfold dqV; rw [if_neg hz, hb]
  exact funext fun y => key _ (le_of_eq trips1) y (by rw [trips1]; exact (y 1).isLt)

end

/-- The sums as the result holds them. -/
def flat (a : Vec F S4096x128 .f32) : Vec F S1x4096x128 .f32 := fun y => a (ix2 (n0 := 4096) (n1 := 128) (y 1) (y 2))

theorem read_outs (i : grid0.Coords) (h2 : k0_cond2 i = 1#1) (a : Vec F S4096x128 .f32) (w : View sig .tc .vmem S1x4096x128 .f32)
    (f : BufTy.Contents (Elt F) w.ty) :
    w.read (Elt F) (outs i h2 a w f k0_t2_loop.trips) = flat a := by
  have key : ∀ n, n ≤ 32 → ∀ y : S1x4096x128.Idx, (y 1).val < 128 * n → w.read (Elt F) (outs i h2 a w f n) y = flat a y := by
    intro n
    induction n with
    | zero => intro _ y h; omega
    | succ n ih =>
      intro hn y h
      have hlt : n < k0_t2_loop.trips := by rw [trips2]; omega
      have h0 : (y 0).val = 0 := by have : (y 0).val < 1 := (y 0).isLt; omega
      rw [outs, dif_pos hlt]
      by_cases hy : (y 1).val < 128 * n
      · rw [View.read_writes_cons_unit_of_not_mem w _ _ _ _ y (k0_off10_eq ⟨n, hlt⟩) 1 (.inl hy)]
        exact ih (by omega) y hy
      · have e1 : (y 1).val = 128 * n + (y 1).val % 128 := by omega
        have e2 : (y 2).val = 0 + (y 2).val := by omega
        refine (View.read_writes_cons_unit_of_mem w (outs i h2 a w f n) (k0_off10_inb i ⟨n, hlt⟩ h2) (k0_pay3 (View.ld a (Rect.unit (s := S4096x128) (k0_off9 ⟨n, hlt⟩) S128x128.size (k0_off9_inb i ⟨n, hlt⟩ h2)))) []
          y (cell (y 1).val (y 2)) (k0_off10_eq ⟨n, hlt⟩) ?_).trans ?_
        · intro b; fin_cases b
          · exact h0
          · exact e1
          · exact e2
        · unfold k0_pay3 cell flat
          pointwise
          refine congrArg a (funext fun b => Fin.ext ?_)
          fin_cases b
          · show k0_off9 ⟨n, hlt⟩ 0 + (y 1).val % 128 = (y 1).val
            rw [k0_off9_eq]; show 128 * n + _ = _; omega
          · show k0_off9 ⟨n, hlt⟩ 1 + (y 2).val = (y 2).val
            rw [k0_off9_eq]; show 0 + _ = _; omega
  exact funext fun y => key _ (le_of_eq trips2) y (by rw [trips2]; exact (y 1).isLt)

end Cert.Kernel3Ideal.Attn
end
-- ==== Proof.Attn.Runs.lean ====
/- The whole body at a point: what it leaves in its outputs and in the sums it carries from chunk to chunk. -/
module

public import proofs.«01_k».proof.Proof.Attn.Body
public import Idealize.ShloMosaic.Lib.Claim

@[expose] public section
set_option maxRecDepth 16384
set_option warn.classDefReducibility false
noncomputable section

namespace Cert.Kernel3Ideal.Attn
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether the point's head of keys is the odd one of its two: what the body computes of the grid coordinate. -/
def odd (i : grid0.Coords) : BitVec 1 :=
  let v1 : BitVec 32 := Scalar.select (Scalar.cmpi .eq 2#32 0#32) 1#32 2#32
  let v2 : BitVec 32 := Scalar.remsi (BitVec.ofNat 32 (i 0).val) v1
  Scalar.cmpi .eq (Scalar.select (Scalar.andi (Scalar.xori (Scalar.cmpi .slt v2 0#32) (Scalar.cmpi .slt v1 0#32)) (Scalar.cmpi .ne v2 0#32))
    (Scalar.addi v2 v1) v2) 1#32

/-- The body's first condition: a head's first chunk. -/
abbrev cond1 (i : grid0.Coords) : Prop := (Scalar.cmpi .ne (Scalar.extui (Scalar.cmpi .eq (BitVec.ofNat 32 (i 1).val) 0#32)) 0#32) = 1#1

theorem read_zero (w : View sig .tc .vmem S4096x128 .f32) (f : BufTy.Contents (Elt F) w.ty) (v : Vec F S4096x128 .f32) :
    w.read (Elt F) (w.writes (Elt F) f [⟨Rect.unit (s := S4096x128) ![0, 0] S4096x128.size inb_S4096x128_S4096x128_0_0, v⟩]) = v :=
  funext fun y => View.read_writes_cons_unit_of_mem w f _ v [] y y rfl fun a => by fin_cases a <;> exact (Nat.zero_add _).symm

set_option maxHeartbeats 4000000 in
/-- A head's first chunk: the sums start from zero, the result's memref is left as it was. -/
theorem runA (c : Dev nD) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (hc0 : cond1 i) (hc1 : ¬ k0_cond2 i = 1#1) (x0 : Vec F S2x2048x128 .f32) (x1 : Vec F S2x2048x128 .f32) (x2 : Vec F S1x2048x128 .f32) (x3 : Vec F S1x2048x128 .f32) (x4 : Vec F S1x4096x128 .f32) (x5 : Vec F S1x4096x128 .f32) (x6 : Vec F S2x1x512x256 .f32) (d10 : Vec F S1x4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare d10 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (dqV (⟨x0, x1, x2, x3, x4, x5, x6⟩ : Ins F) (odd i) i) ∗ owns (c : Thread nD τ) arg10 fullShare d10 ∗ owns (c : Thread nD τ) arg11 fullShare (sumsV (⟨x0, x1, x2, x3, x4, x5, x6⟩ : Ins F) (odd i) i k0_pay2 k0_t1_loop.trips)) -∗ K ⟨⟩))
      ⊢ wp frame (wpE (defs₀ (F := F)) Variants.none (c : Thread nD τ) none) E (cc0_attn_bwd_d1 i arg2 harg2 arg3 harg3 arg4 harg4 arg5 harg5 arg6 harg6 arg7 harg7 arg8 harg8 arg9 harg9 arg10 harg10 arg11 harg11) K := by
  simp only [cc0_attn_bwd_d1_eq_skeleton]; unfold cc0_attn_bwd_d1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%d11, %f11, -, H11⟩, Hk⟩
  subst hf0 hf1 hf2 hf3 hf4 hf5 hf6
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H9]
  · iexists _; isplitr
    swap; · iexact H9
    ipureintro; exact read_dqs _ _ _ _ _
  isplitl [H10]
  · iexists _; isplitr
    swap; · iexact H10
    ipureintro; exact hf10
  · iexists _; isplitr
    swap; · iexact H11
    ipureintro
    refine (read_sums _ _ _ _ _ _).trans ?_
    exact congrArg (fun a => sumsV _ (odd i) i a k0_t1_loop.trips) (read_zero arg11.view _ _)

set_option maxHeartbeats 4000000 in
/-- A head's last chunk: the sums go on from those of the chunk before, and are copied into the result. -/
theorem runB (c : Dev nD) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (hc0 : ¬ cond1 i) (hc1 : k0_cond2 i = 1#1) (x0 : Vec F S2x2048x128 .f32) (x1 : Vec F S2x2048x128 .f32) (x2 : Vec F S1x2048x128 .f32) (x3 : Vec F S1x2048x128 .f32) (x4 : Vec F S1x4096x128 .f32) (x5 : Vec F S1x4096x128 .f32) (x6 : Vec F S2x1x512x256 .f32) (xs : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (dqV (⟨x0, x1, x2, x3, x4, x5, x6⟩ : Ins F) (odd i) i) ∗ owns (c : Thread nD τ) arg10 fullShare (flat (sumsV (⟨x0, x1, x2, x3, x4, x5, x6⟩ : Ins F) (odd i) i xs k0_t1_loop.trips)) ∗ owns (c : Thread nD τ) arg11 fullShare (sumsV (⟨x0, x1, x2, x3, x4, x5, x6⟩ : Ins F) (odd i) i xs k0_t1_loop.trips)) -∗ K ⟨⟩))
      ⊢ wp frame (wpE (defs₀ (F := F)) Variants.none (c : Thread nD τ) none) E (cc0_attn_bwd_d1 i arg2 harg2 arg3 harg3 arg4 harg4 arg5 harg5 arg6 harg6 arg7 harg7 arg8 harg8 arg9 harg9 arg10 harg10 arg11 harg11) K := by
  simp only [cc0_attn_bwd_d1_eq_skeleton]; unfold cc0_attn_bwd_d1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  subst hf11 hf0 hf1 hf2 hf3 hf4 hf5 hf6
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H9]
  · iexists _; isplitr
    swap; · iexact H9
    ipureintro; exact read_dqs _ _ _ _ _
  isplitl [H10]
  · iexists _; isplitr
    swap; · iexact H10
    ipureintro
    exact (read_outs _ _ _ _ _).trans (congrArg flat (read_sums _ _ _ _ _ _))
  · iexists _; isplitr
    swap; · iexact H11
    ipureintro; exact read_sums _ _ _ _ _ _

end Cert.Kernel3Ideal.Attn
end
-- ==== Proof.Attn.Frame.lean ====
/- The frame of the attention's backward kernel: the body at every point, the run, the arguments unchanged. -/
module

public import proofs.«01_k».proof.Proof.Attn.Runs
public import Idealize.ShloMosaic.Lib.Claim

@[expose] public section
set_option maxRecDepth 16384
set_option warn.classDefReducibility false
noncomputable section

namespace Cert.Kernel3Ideal.Attn
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: the even ones are a head's first chunk, the odd ones its last -/

theorem hcond1 (t : Fin cfg0.N) : cond1 (grid0.coords t) ↔ t.val % 2 = 0 := by
  have ht : t.val < 8 := Nat.lt_of_lt_of_eq t.isLt N_0
  have e1 : (grid0.coords t 1).val = t.val / 1 % 2 := Pipeline.Grid.coords_val t 1 (by decide) rfl
  simp only [cond1, e1]
  word_cmp

theorem hcond2 (t : Fin cfg0.N) : k0_cond2 (grid0.coords t) = 1#1 ↔ t.val % 2 = 1 := by
  have ht : t.val < 8 := Nat.lt_of_lt_of_eq t.isLt N_0
  have e1 : (grid0.coords t 1).val = t.val / 1 % 2 := Pipeline.Grid.coords_val t 1 (by decide) rfl
  simp only [k0_cond2, e1]
  word_cmp

theorem idle8 : ∀ t : Fin cfg0.N, ¬ k0_cond2 (grid0.coords t) = 1#1 → cfg0.idle 8 (grid0.coords t) = true := by decide +kernel
theorem live8 : ∀ t : Fin cfg0.N, k0_cond2 (grid0.coords t) = 1#1 → cfg0.idle 8 (grid0.coords t) = false := by decide +kernel
theorem stay8 : ∀ t : Fin cfg0.N, ¬ k0_cond2 (grid0.coords t) = 1#1 → (cfg0.win 8).flush t = false := by decide +kernel

/-- The windows' memrefs at a point, and the memref of the sums. -/
abbrev ms0 (t : Fin cfg0.N) : Memref sig .tc .vmem S2x2048x128 .f32 := win0_0.stage (cfg0.slots t 0)
abbrev ms1 (t : Fin cfg0.N) : Memref sig .tc .vmem S2x2048x128 .f32 := win0_1.stage (cfg0.slots t 1)
abbrev ms2 (t : Fin cfg0.N) : Memref sig .tc .vmem S1x2048x128 .f32 := win0_2.stage (cfg0.slots t 2)
abbrev ms3 (t : Fin cfg0.N) : Memref sig .tc .vmem S1x2048x128 .f32 := win0_3.stage (cfg0.slots t 3)
abbrev ms4 (t : Fin cfg0.N) : Memref sig .tc .vmem S1x4096x128 .f32 := win0_4.stage (cfg0.slots t 4)
abbrev ms5 (t : Fin cfg0.N) : Memref sig .tc .vmem S1x4096x128 .f32 := win0_5.stage (cfg0.slots t 5)
abbrev ms6 (t : Fin cfg0.N) : Memref sig .tc .vmem S2x1x512x256 .f32 := win0_6.stage (cfg0.slots t 6)
abbrev ms7 (t : Fin cfg0.N) : Memref sig .tc .vmem S2x2048x128 .f32 := win0_7.stage (cfg0.slots t 7)
abbrev ms8 (t : Fin cfg0.N) : Memref sig .tc .vmem S1x4096x128 .f32 := win0_8.stage (cfg0.slots t 8)
abbrev accM : Memref sig .tc .vmem S4096x128 .f32 := Memref.whole cc0_scratch0

theorem PhiA_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

/-! ## What the points leave -/

/-- The inputs' blocks at a point. -/
def insAt (c : Dev nD) (t : Fin cfg0.N) : Ins F :=
  ⟨iblk m c 0 t, iblk m c 1 t, iblk m c 2 t, iblk m c 3 t, iblk m c 4 t, iblk m c 5 t, iblk m c 6 t⟩

/-- A point's sums, from those it starts with. -/
def accStep (c : Dev nD) (t : Fin cfg0.N) (a : Vec F S4096x128 .f32) : Vec F S4096x128 .f32 :=
  sumsV (insAt m c t) (odd (grid0.coords t)) (grid0.coords t) a k0_t1_loop.trips

/-- The sums after each point: a head's first chunk starts from zero, the other goes on. -/
def accAt (c : Dev nD) : (n : ℕ) → n < cfg0.N → Vec F S4096x128 .f32
  | 0, h => accStep m c ⟨0, h⟩ k0_pay2
  | n + 1, h => if (n + 1) % 2 = 0 then accStep m c ⟨n + 1, h⟩ k0_pay2 else accStep m c ⟨n + 1, h⟩ (accAt c n (Nat.lt_of_succ_lt h))

theorem accAt_even (c : Dev nD) (t : Fin cfg0.N) (h : t.val % 2 = 0) : accAt m c t.val t.isLt = accStep m c t k0_pay2 := by
  obtain ⟨n, hn⟩ := t
  cases n with
  | zero => rfl
  | succ n => exact if_pos h

theorem accAt_odd (c : Dev nD) (t : Fin cfg0.N) (h : t.val % 2 = 1) :
    accAt m c t.val t.isLt = accStep m c t (accAt m c (t.val - 1) (Nat.lt_of_le_of_lt (Nat.sub_le _ _) t.isLt)) := by
  obtain ⟨n, hn⟩ := t
  cases n with
  | zero => exact absurd h (by simp)
  | succ n => exact if_neg (by dsimp only at h; omega)

/-- The invariant before a point: before the first what the launch hands over, afterwards the sums of the point before. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-- At any point the invariant holds the memref of the sums at something. -/
theorem PhiS_any (c : Dev nD) (n : ℕ) (h : n ≤ cfg0.N) : PhiS m c n h ⊢ Pipeline.ΦA spec0 c := by
  by_cases hz : n = 0
  · subst hz; exact Idealize.SL.BI.Entails.refl _
  · rw [PhiS_pos m c n h hz, PhiA_eq]
    iintro ⟨HS0, Hg⟩
    isplitl [HS0]
    · iexists _; iexact HS0
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqV (insAt m c t) (odd (grid0.coords t)) (grid0.coords t)
    | ⟨8, _⟩ => flat (accAt m c t.val t.isLt)
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = dqV (insAt m c t) (odd (grid0.coords t)) (grid0.coords t) := by dsimp only [dats]
theorem after8 (c : Dev nD) (t : Fin cfg0.N) : (dats m 0 c).after 8 t = flat (accAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- An input's memref, and that of the queries' gradient, is handed back at what `after` says. -/
theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4, leaves5, leaves6, leaves7, after0, after1, after2, after3, after4, after5, after6, after7]
  have hN : t.val < 8 := lt_of_lt_of_eq t.isLt (show cfg0.N = 8 from N_0)
  by_cases h0 : t.val % 2 = 0
  · have hc1 := (hcond1 t).mpr h0
    have hc2 : ¬ k0_cond2 (grid0.coords t) = 1#1 := fun h => by have := (hcond2 t).mp h; omega
    rw [Dat.leavesExact_idle (dats m 0 c) 8 t (idle8 t hc2) (stay8 t hc2), accAt_even m c t h0]
    refine (sep_mono (PhiS_any m c _ _) .rfl).trans ?_
    rw [PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c Set.univ (grid0.coords t) _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h1 : t.val % 2 = 1 := by omega
    have hc1 : ¬ cond1 (grid0.coords t) := fun h => h0 ((hcond1 t).mp h)
    have hc2 := (hcond2 t).mpr h1
    rw [show (dats m 0 c).leavesExact 8 t = owns (c : Thread nD τ) (ms8 t) fullShare ((dats m 0 c).after 8 t) from by
      unfold Dat.leavesExact; rw [live8 t hc2], after8, accAt_odd m c t h1, PhiS_pos m c _ _ (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c Set.univ (grid0.coords t) _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run and the frame -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => PhiS_any m c cfg0.N (Nat.le_refl _))

/-- Every execution terminates, the arrays ending at what the points wrote back. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

/-- The run with its two arrays named. -/
theorem run : θ_run defs (onTc (τ := τ) (main (F := F))) ⟨m, fun _ => 0, ρ⟩ (fun r => ∀ c : Dev nD,
      r.2.mem ((c.tc : Thread nD τ).loc main_v101_0) = (dats m 0 c).arrAt 7 cfg0.N
      ∧ r.2.mem ((c.tc : Thread nD τ).loc main_v101_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 7, (h.1 c).1 8, h.2 c⟩) (θ_run_and (run_main m ρ) (frame_of m ρ (dats m) (A_eq m) (run_main m ρ)))

end Cert.Kernel3Ideal.Attn
end
-- ==== Proof.Attn.Spec.lean ====
/- Attention over a sliding window, block by block, and its gradients, over the real numbers: what both programs are shown to
   compute. -/
module

public import proofs.«01_k».proof.Proof.Common.Finite

@[expose] public section
noncomputable section

namespace Cert.Attn

/-! ## One block of 128 queries of four heads, and the 256 keys it may look at -/

/-- The queries and the cotangents of the outputs (head, row, column), the keys and the values they share, the distance penalty,
    the cotangent of the row log-sum; which keys a row sees. -/
structure Blk where
  Q : Fin 4 → Fin 128 → Fin 64 → ℝ
  G : Fin 4 → Fin 128 → Fin 64 → ℝ
  K : Fin 256 → Fin 64 → ℝ
  V : Fin 256 → Fin 64 → ℝ
  bias : Fin 4 → Fin 128 → Fin 256 → ℝ
  E : Fin 4 → Fin 128 → ℝ
  ok : Fin 128 → Fin 256 → Prop

namespace Blk
open Classical in
section
variable (B : Blk) (n : Fin 4) (r : Fin 128) (x : Fin 256) (c : Fin 64)

/-- Scores, their exponentials and the row's sum; weights and the log-sum. -/
def sc : ℝ := (∑ c, B.Q n r c * B.K x c) + B.bias n r x
def w : ℝ := if B.ok r x then Real.exp (B.sc n r x) else 0
def Z : ℝ := ∑ x, B.w n r x
def p : ℝ := B.w n r x / B.Z n r
def L : ℝ := Real.log (B.Z n r)
/-- The output, the row's `Σ output · cotangent` less the cotangent of the log-sum, and the scores' gradient. -/
def o : ℝ := ∑ x, B.p n r x * B.V x c
def δ : ℝ := (∑ c, B.o n r c * B.G n r c) - B.E n r
def dp : ℝ := ∑ c, B.G n r c * B.V x c
def ds : ℝ := B.p n r x * (B.dp n r x - B.δ n r)
/-- The gradients of the queries, of the keys and of the values. -/
def dq : ℝ := ∑ x, B.ds n r x * B.K x c
def dk : ℝ := ∑ n, ∑ r, B.ds n r x * B.Q n r c
def dv : ℝ := ∑ n, ∑ r, B.p n r x * B.G n r c

theorem w_nonneg : 0 ≤ B.w n r x := by unfold w; split <;> positivity
theorem p_of_not (h : ¬ B.ok r x) : B.p n r x = 0 := by unfold p w; rw [if_neg h, zero_div]
theorem Z_pos (h : ∃ x, B.ok r x) : 0 < B.Z n r := by
  obtain ⟨x, hx⟩ := h
  refine Finset.sum_pos' (fun x _ => B.w_nonneg n r x) ⟨x, Finset.mem_univ x, ?_⟩
  unfold w; rw [if_pos hx]; positivity

/-- The weights from the saved log-sum. -/
theorem exp_sub_L (h : B.ok r x) : Real.exp (B.sc n r x - B.L n r) = B.p n r x := by
  unfold p L
  rw [Real.exp_sub, Real.exp_log (B.Z_pos n r ⟨x, h⟩)]
  unfold w; rw [if_pos h]

end

/-! ### Keys no row sees do not matter -/

open Classical in
/-- The block with keys and values zero where `seen` says no. -/
def mask (seen : Fin 256 → Prop) (B : Blk) : Blk :=
  { B with K := fun x c => if seen x then B.K x c else 0, V := fun x c => if seen x then B.V x c else 0 }

section
variable (B : Blk) (seen : Fin 256 → Prop) (h : ∀ r x, B.ok r x → seen x)
include h

theorem mask_w : (B.mask seen).w = B.w := by
  funext n r x
  unfold w
  by_cases hx : B.ok r x
  · rw [if_pos hx, if_pos (show (B.mask seen).ok r x from hx)]
    unfold sc mask
    simp only [if_pos (h r x hx)]
  · rw [if_neg hx, if_neg (show ¬ (B.mask seen).ok r x from hx)]

theorem mask_p : (B.mask seen).p = B.p := by
  funext n r x; unfold p Z; rw [mask_w B seen h]
theorem mask_L : (B.mask seen).L = B.L := by
  funext n r; unfold L Z; rw [mask_w B seen h]

theorem mask_o : (B.mask seen).o = B.o := by
  funext n r c
  unfold o
  refine Finset.sum_congr rfl fun x _ => ?_
  rw [mask_p B seen h]
  by_cases hx : B.ok r x
  · unfold mask; simp only [if_pos (h r x hx)]
  · rw [B.p_of_not n r x hx, zero_mul, zero_mul]

theorem mask_δ : (B.mask seen).δ = B.δ := by
  funext n r; unfold δ; rw [mask_o B seen h]; rfl

theorem mask_ds : (B.mask seen).ds = B.ds := by
  funext n r x
  unfold ds
  rw [mask_p B seen h, mask_δ B seen h]
  by_cases hx : B.ok r x
  · unfold dp mask; simp only [if_pos (h r x hx)]
  · rw [B.p_of_not n r x hx, zero_mul, zero_mul]

theorem mask_dq : (B.mask seen).dq = B.dq := by
  funext n r c
  unfold dq
  refine Finset.sum_congr rfl fun x _ => ?_
  rw [mask_ds B seen h]
  by_cases hx : B.ok r x
  · unfold mask; simp only [if_pos (h r x hx)]
  · unfold ds; rw [B.p_of_not n r x hx, zero_mul, zero_mul, zero_mul]

theorem mask_dk : (B.mask seen).dk = B.dk := by
  funext x c; unfold dk; rw [mask_ds B seen h]; rfl
theorem mask_dv : (B.mask seen).dv = B.dv := by
  funext x c; unfold dv; rw [mask_p B seen h]; rfl
end
end Blk

/-! ## The whole sequence -/

/-- Queries, keys, values and the cotangents of outputs and log-sums, over the reals. -/
structure Data where
  q : Fin 4096 → Fin 1024 → ℝ
  k : Fin 4096 → Fin 256 → ℝ
  v : Fin 4096 → Fin 256 → ℝ
  g : Fin 4096 → Fin 1024 → ℝ
  e : Fin 4096 → Fin 16 → ℝ

/-- Row `r` of block `b`; column `c` of head `n` of group `j`; of group `j`; head `n` of group `j`. -/
def pos (b : Fin 32) (r : Fin 128) : Fin 4096 := ⟨128 * b.val + r.val, by omega⟩
def colQ (j n : Fin 4) (c : Fin 64) : Fin 1024 := ⟨256 * j.val + 64 * n.val + c.val, by omega⟩
def colK (j : Fin 4) (c : Fin 64) : Fin 256 := ⟨64 * j.val + c.val, by omega⟩
def colE (j n : Fin 4) : Fin 16 := ⟨4 * j.val + n.val, by omega⟩

/-- The distance penalty's slope of a head. -/
def slope (h : Fin 16) : ℝ := Real.exp ((11629080 / 2 ^ 24) * ((-8 * ((h.val : ℝ) + 1)) * (1 / 16)))

/-- Does the sequence have the key `x` of block `b`'s 256 (the block before, then the block itself)? Does row `r` see it? -/
def seen (b : Fin 32) (x : Fin 256) : Prop := 128 ≤ 128 * b.val + x.val
def ok (b : Fin 32) (r : Fin 128) (x : Fin 256) : Prop := (r.val ≤ x.val ∧ x.val ≤ 128 + r.val) ∧ 128 ≤ 128 * b.val + x.val

instance (b : Fin 32) (x : Fin 256) : Decidable (seen b x) := by unfold seen; infer_instance
instance (b : Fin 32) (r : Fin 128) (x : Fin 256) : Decidable (ok b r x) := by unfold ok; infer_instance

/-- The key's row, the block itself taken where there is no block before. -/
def posK (b : Fin 32) (x : Fin 256) : Fin 4096 :=
  if h : x.val < 128 then ⟨128 * b.val - 128 + x.val, by omega⟩ else ⟨128 * b.val + (x.val - 128), by omega⟩

namespace Data
variable (D : Data) (b : Fin 32) (j : Fin 4)

def blk : Blk where
  Q n r c := D.q (pos b r) (colQ j n c)
  G n r c := D.g (pos b r) (colQ j n c)
  K x c := D.k (posK b x) (colK j c)
  V x c := D.v (posK b x) (colK j c)
  bias n r x := -slope (colE j n) * ((128 + r.val - x.val : ℤ) : ℝ)
  E n r := D.e (pos b r) (colE j n)
  ok := ok b

/-- The block as the mathematics has it: zeros before the sequence. -/
def blk0 : Blk := (D.blk b j).mask (seen b)

theorem ok_seen (r : Fin 128) (x : Fin 256) (h : (D.blk b j).ok r x) : seen b x := h.2
theorem ok_some (r : Fin 128) : ∃ x, (D.blk b j).ok r x :=
  ⟨⟨128 + r.val, by omega⟩, ⟨by show r.val ≤ 128 + r.val; omega, le_refl _⟩, by show 128 ≤ 128 * b.val + (128 + r.val); omega⟩

/-- The gradient of the queries. -/
def dq (y : Fin 4096) (n : Fin 4) (c : Fin 64) : ℝ := (D.blk ⟨y.val / 128, by omega⟩ j).dq n ⟨y.val % 128, by omega⟩ c
/-- The gradients of keys and values: from the key's own block, and from the block after it. -/
def both (f : Blk → Fin 256 → Fin 64 → ℝ) (y : Fin 4096) (c : Fin 64) : ℝ :=
  f (D.blk ⟨y.val / 128, by omega⟩ j) ⟨128 + y.val % 128, by omega⟩ c
    + if h : y.val / 128 + 1 < 32 then f (D.blk ⟨y.val / 128 + 1, h⟩ j) ⟨y.val % 128, by omega⟩ c else 0
end Data
end Cert.Attn
end
-- ==== Proof.Attn.Terms.lean ====
/- What each value of a block of the attention's backward kernel is, over the reals. -/
module

public import proofs.«01_k».proof.Proof.Attn.Body
public import proofs.«01_k».proof.Proof.Attn.Spec
public import Idealize.ShloMosaic.Lib.Pipeline.ValueKit
public import Idealize.ShloMosaic.Lib.Pointwise

@[expose] public section
set_option maxRecDepth 16384
noncomputable section

namespace Cert.Kernel3Ideal.Attn
open Cert.Kernel3Ideal Cert.Kernel3Ideal.Gen Idealize.ShloMosaic Idealize.ShloMosaic.TcCoe Idealize.SL.Sem Cert.Common
open Cert.Attn

/-! ## How a block's rows and lanes are arranged -/

/-- Row `r` of head `n`, the four heads one below the other; column `c` of the first or second half of the lanes. -/
def at4 (n : Fin 4) (r : Fin 128) : Fin 512 := ⟨128 * n.val + r.val, by omega⟩
def lane (h : Fin 2) (c : Fin 64) : Fin 128 := ⟨64 * h.val + c.val, by omega⟩

theorem sum_lane {M : Type} [AddCommMonoid M] (f : Fin 128 → M) : ∑ l, f l = ∑ h, ∑ c, f (lane h c) := by
  rw [← Finset.sum_product', ← (finProdFinEquiv (m := 2) (n := 64)).sum_comp f]
  exact Finset.sum_congr rfl fun p _ => congrArg f (Fin.ext (by show p.2.val + 64 * p.1.val = 64 * p.1.val + p.2.val; omega))
theorem sum_at4 {M : Type} [AddCommMonoid M] (f : Fin 512 → M) : ∑ l, f l = ∑ n, ∑ r, f (at4 n r) := by
  rw [← Finset.sum_product', ← (finProdFinEquiv (m := 4) (n := 128)).sum_comp f]
  exact Finset.sum_congr rfl fun p _ => congrArg f (Fin.ext (by show p.2.val + 128 * p.1.val = 128 * p.1.val + p.2.val; omega))

theorem four (n : Fin 4) : n = 0 ∨ n = 1 ∨ n = 2 ∨ n = 3 := by revert n; decide
theorem two (n : Fin 2) : n = 0 ∨ n = 1 := by revert n; decide

theorem other : ∀ h o : Fin 2, h ≠ o → 1 - h = o := by decide

theorem at4_0 (r : Fin 128) : (at4 0 r).val = r.val := by show 128 * 0 + r.val = r.val; omega
theorem at4_1 (r : Fin 128) : (at4 1 r).val = 128 + r.val := rfl
theorem at4_2 (r : Fin 128) : (at4 2 r).val = 256 + r.val := rfl
theorem at4_3 (r : Fin 128) : (at4 3 r).val = 384 + r.val := rfl

/-- Four blocks of rows one below the other, read at a head's row. -/
theorem pile {α : Type} (f0 f1 f2 f3 : Fin 128 → α) (n : Fin 4) (r : Fin 128) :
    (if h : (at4 n r).val < 128 then f0 ⟨(at4 n r).val, h⟩ else if h : (at4 n r).val - 128 < 128 then f1 ⟨(at4 n r).val - 128, h⟩
      else if h : (at4 n r).val - 128 - 128 < 128 then f2 ⟨(at4 n r).val - 128 - 128, h⟩
        else f3 ⟨(at4 n r).val - 128 - 128 - 128, by omega⟩) = (![f0, f1, f2, f3] : Fin 4 → Fin 128 → α) n r := by
  have hr := r.isLt
  obtain rfl | rfl | rfl | rfl := four n
  · rw [dif_pos (show (at4 0 r).val < 128 by rw [at4_0]; omega)]
    exact congrArg f0 (Fin.ext (at4_0 r))
  · rw [dif_neg (show ¬ (at4 1 r).val < 128 by rw [at4_1]; omega), dif_pos (show (at4 1 r).val - 128 < 128 by rw [at4_1]; omega)]
    exact congrArg f1 (Fin.ext (by show (at4 1 r).val - 128 = r.val; rw [at4_1]; omega))
  · rw [dif_neg (show ¬ (at4 2 r).val < 128 by rw [at4_2]; omega), dif_neg (show ¬ (at4 2 r).val - 128 < 128 by rw [at4_2]; omega),
      dif_pos (show (at4 2 r).val - 128 - 128 < 128 by rw [at4_2]; omega)]
    exact congrArg f2 (Fin.ext (by show (at4 2 r).val - 128 - 128 = r.val; rw [at4_2]; omega))
  · rw [dif_neg (show ¬ (at4 3 r).val < 128 by rw [at4_3]; omega), dif_neg (show ¬ (at4 3 r).val - 128 < 128 by rw [at4_3]; omega),
      dif_neg (show ¬ (at4 3 r).val - 128 - 128 < 128 by rw [at4_3]; omega)]
    exact congrArg f3 (Fin.ext (by show (at4 3 r).val - 128 - 128 - 128 = r.val; rw [at4_3]; omega))

/-! ## Words -/

theorem lt_64 (h : Fin 2) (c : Fin 64) : (IntOp.cmpi CmpIPredicate.slt (BitVec.ofNat 32 (lane h c).val) 64#32 = 1#1) ↔ h = 0 := by
  revert h c; decide +kernel
theorem select_lane {α : Type} (h : Fin 2) (c : Fin 64) (a b : α) :
    Scalar.select (IntOp.cmpi CmpIPredicate.slt (BitVec.ofNat 32 (lane h c).val) 64#32) a b = if h = 0 then a else b := by
  unfold Scalar.select
  by_cases hh : h = 0
  · rw [if_pos hh]; exact if_pos ((lt_64 h c).2 hh)
  · rw [if_neg hh]; exact if_neg fun q => hh ((lt_64 h c).1 q)
theorem lt_64_xor (o h : Fin 2) (c : Fin 64) :
    (IntOp.xori (IntOp.cmpi CmpIPredicate.slt (BitVec.ofNat 32 (lane h c).val) 64#32) (BitVec.ofNat 1 o.val) = 1#1) ↔ h = o := by
  revert o h c; decide +kernel
theorem head_lane (n : Fin 4) (l : Fin 128) : (IntOp.cmpi CmpIPredicate.eq
    (Scalar.select (IntOp.cmpi CmpIPredicate.slt (BitVec.ofNat 32 l.val) 12#32) (IntOp.andi (BitVec.ofNat 32 l.val) 3#32) 4294967295#32)
      (BitVec.ofNat 32 n.val) = 1#1) ↔ l.val < 12 ∧ l.val % 4 = n.val := by
  revert n l; decide +kernel
theorem one_lane (l : Fin 128) : FloatOps.sitofp (F := Ideal) FTy.f32 (BitVec.setWidth 32 (IntOp.cmpi CmpIPredicate.slt (BitVec.ofNat 32 l.val) 12#32))
    = ((if l.val < 12 then 1 else 0 : ℝ) : EReal) := by
  have h : (BitVec.setWidth 32 (IntOp.cmpi CmpIPredicate.slt (BitVec.ofNat 32 l.val) 12#32)).toInt = if l.val < 12 then 1 else 0 := by
    revert l; decide +kernel
  show ((((BitVec.setWidth 32 (IntOp.cmpi CmpIPredicate.slt (BitVec.ofNat 32 l.val) 12#32)).toInt : ℝ)) : EReal) = _
  rw [h]; split <;> simp

theorem turned (h : Fin 2) (c : Fin 64) (hb : ((lane h c).val + 128 - 64) % 128 < 128) :
    (⟨((lane h c).val + 128 - 64) % 128, hb⟩ : Fin 128) = lane (1 - h) c := by
  refine Fin.ext ?_
  show (64 * h.val + c.val + 128 - 64) % 128 = 64 * (1 - h).val + c.val
  obtain rfl | rfl := two h
  · show (64 * 0 + c.val + 128 - 64) % 128 = 64 * 1 + c.val; omega
  · show (64 * 1 + c.val + 128 - 64) % 128 = 64 * 0 + c.val; omega

/-! ## Blocks of real numbers -/

/-- A slab of two heads; four heads one below the other, each on its half of the lanes; keys on both halves; keys on one half. -/
def Slab (f : Fin 4 → Fin 128 → Fin 64 → ℝ) (s : Fin 2) (v : S1x128x128.Idx → EReal) : Prop :=
  ∀ (r : Fin 128) (h : Fin 2) (c : Fin 64), v (ix3 0 r (lane h c)) = ((f ⟨2 * s.val + h.val, by omega⟩ r c : ℝ) : EReal)
def Stack (f : Fin 4 → Fin 128 → Fin 64 → ℝ) (v : S512x128.Idx → EReal) : Prop :=
  ∀ (n : Fin 4) (r : Fin 128) (h : Fin 2) (c : Fin 64), v (ix2 (at4 n r) (lane h c)) = ((if h.val = n.val % 2 then f n r c else 0 : ℝ) : EReal)
def Dup (f : Fin 256 → Fin 64 → ℝ) (v : S256x128.Idx → EReal) : Prop :=
  ∀ (x : Fin 256) (h : Fin 2) (c : Fin 64), v (ix2 x (lane h c)) = ((f x c : ℝ) : EReal)
def Half (f : Fin 128 → Fin 64 → ℝ) (o : Fin 2) (v : S1x128x128.Idx → EReal) : Prop :=
  ∀ (t : Fin 128) (c : Fin 64), v (ix3 0 t (lane o c)) = ((f t c : ℝ) : EReal)
/-- A table of one number for each row and head, as the kernel is handed it: its negative on the head's lane. -/
def Table (e : Fin 4 → Fin 128 → ℝ) (v : S1x128x128.Idx → EReal) : Prop :=
  ∀ (r : Fin 128) (l : Fin 128), v (ix3 0 r l) = ((if h : l.val < 4 then -e ⟨l.val, h⟩ r else 0 : ℝ) : EReal)
/-- One real number for each head, row and key. -/
def Mat (f : Fin 4 → Fin 128 → Fin 256 → ℝ) (v : S512x256.Idx → EReal) : Prop :=
  ∀ (n : Fin 4) (r : Fin 128) (x : Fin 256), v (ix2 (at4 n r) x) = ((f n r x : ℝ) : EReal)

section
variable {f g : Fin 4 → Fin 128 → Fin 64 → ℝ} {k : Fin 256 → Fin 64 → ℝ} {e : Fin 4 → Fin 128 → ℝ} {p : Fin 4 → Fin 128 → Fin 256 → ℝ}

theorem stack_select (f : Fin 4 → Fin 128 → Fin 64 → ℝ) {A B : S1x128x128.Idx → EReal} (hA : Slab f 0 A) (hB : Slab f 1 B)
    (n : Fin 4) (r : Fin 128) (h : Fin 2) (c : Fin 64) :
    (![fun r => Scalar.select (IntOp.cmpi CmpIPredicate.slt (BitVec.ofNat 32 (lane h c).val) 64#32) (A (ix3 0 r (lane h c))) 0,
       fun r => Scalar.select (IntOp.cmpi CmpIPredicate.slt (BitVec.ofNat 32 (lane h c).val) 64#32) 0 (A (ix3 0 r (lane h c))),
       fun r => Scalar.select (IntOp.cmpi CmpIPredicate.slt (BitVec.ofNat 32 (lane h c).val) 64#32) (B (ix3 0 r (lane h c))) 0,
       fun r => Scalar.select (IntOp.cmpi CmpIPredicate.slt (BitVec.ofNat 32 (lane h c).val) 64#32) 0 (B (ix3 0 r (lane h c)))] : Fin 4 → Fin 128 → EReal) n r
      = ((if h.val = n.val % 2 then f n r c else 0 : ℝ) : EReal) := by
  obtain rfl | rfl | rfl | rfl := four n <;> obtain rfl | rfl := two h <;> simp [Scalar.select, lt_64, hA r _ c, hB r _ c]

theorem stack_pay4 {A B : S1x128x128.Idx → EReal} (hA : Slab f 0 A) (hB : Slab f 1 B) : Stack f (k0_pay4 (F := Ideal) A B) := by
  intro n r h c
  unfold k0_pay4
  pointwise
  exact (pile _ _ _ _ n r).trans (stack_select f hA hB n r h c)

theorem stack_pay7 {A B : S1x128x128.Idx → EReal} (hA : Slab f 0 A) (hB : Slab f 1 B) :
    Stack f (k0_pay7 (F := Ideal) k0_pay5 (k0_pay6 (F := Ideal) A) B) := by
  intro n r h c
  unfold k0_pay7 k0_pay5 k0_pay6
  pointwise
  exact (pile _ _ _ _ n r).trans (stack_select f hA hB n r h c)

theorem dup_pay8 (o : Fin 2) {A B : S1x128x128.Idx → EReal} (hA : Half (fun t => k ⟨t.val, by omega⟩) o A)
    (hB : Half (fun t => k ⟨128 + t.val, by omega⟩) o B) : Dup k (k0_pay8 (F := Ideal) (BitVec.ofNat 1 o.val) A B) := by
  intro x h c
  unfold k0_pay8
  pointwise
  have e : ∀ l : Fin 128, l = lane o c → (if hx : x.val < 128 then A (ix3 0 ⟨x.val, hx⟩ l) else B (ix3 0 ⟨x.val - 128, by omega⟩ l)) = ((k x c : ℝ) : EReal) := by
    rintro l rfl
    split
    · exact hA _ c
    · rw [hB _ c]; exact congrArg (fun y => ((k y c : ℝ) : EReal)) (Fin.ext (by show 128 + (x.val - 128) = x.val; omega))
  unfold Scalar.select
  split
  · rename_i hc
    exact e _ (by rw [(lt_64_xor o h c).1 hc])
  · rename_i hc
    have : h ≠ o := fun hh => hc ((lt_64_xor o h c).2 hh)
    exact e _ ((turned h c (Nat.mod_lt _ (by omega))).trans (congrArg (lane · c) (other h o this)))

theorem dup_pay9 (o : Fin 2) {A B : S1x128x128.Idx → EReal} (hA : Half (fun t => k ⟨t.val, by omega⟩) o A)
    (hB : Half (fun t => k ⟨128 + t.val, by omega⟩) o B) : Dup k (k0_pay9 (F := Ideal) (BitVec.ofNat 1 o.val) A B) :=
  dup_pay8 o hA hB

/-! ## Products over lanes and over rows -/

theorem stack_dup {A : S512x128.Idx → EReal} {B : S256x128.Idx → EReal} (hA : Stack f A) (hB : Dup k B) (n : Fin 4) (r : Fin 128) (x : Fin 256) :
    (∑ l, A (ix2 (at4 n r) l) * B (ix2 x l)) = ((∑ c, f n r c * k x c : ℝ) : EReal) := by
  rw [sum_lane]
  simp only [hA n r, hB x, ← EReal.coe_mul, ← coe_sum, ite_mul, zero_mul]
  rw [Fin.sum_univ_two]
  obtain rfl | rfl | rfl | rfl := four n <;> simp

theorem table_select {T : S1x128x128.Idx → EReal} (hT : Table e T) (n : Fin 4) (r l : Fin 128) :
    (![fun r => Scalar.select (IntOp.cmpi CmpIPredicate.eq (Scalar.select (IntOp.cmpi CmpIPredicate.slt (BitVec.ofNat 32 l.val) 12#32) (IntOp.andi (BitVec.ofNat 32 l.val) 3#32) 4294967295#32) 0#32) (T (ix3 0 r l)) 0,
       fun r => Scalar.select (IntOp.cmpi CmpIPredicate.eq (Scalar.select (IntOp.cmpi CmpIPredicate.slt (BitVec.ofNat 32 l.val) 12#32) (IntOp.andi (BitVec.ofNat 32 l.val) 3#32) 4294967295#32) 1#32) (T (ix3 0 r l)) 0,
       fun r => Scalar.select (IntOp.cmpi CmpIPredicate.eq (Scalar.select (IntOp.cmpi CmpIPredicate.slt (BitVec.ofNat 32 l.val) 12#32) (IntOp.andi (BitVec.ofNat 32 l.val) 3#32) 4294967295#32) 2#32) (T (ix3 0 r l)) 0,
       fun r => Scalar.select (IntOp.cmpi CmpIPredicate.eq (Scalar.select (IntOp.cmpi CmpIPredicate.slt (BitVec.ofNat 32 l.val) 12#32) (IntOp.andi (BitVec.ofNat 32 l.val) 3#32) 4294967295#32) 3#32) (T (ix3 0 r l)) 0] : Fin 4 → Fin 128 → EReal) n r
      = ((if l = ⟨n.val, by omega⟩ then -e n r else 0 : ℝ) : EReal) := by
  have h : Scalar.select (IntOp.cmpi CmpIPredicate.eq (Scalar.select (IntOp.cmpi CmpIPredicate.slt (BitVec.ofNat 32 l.val) 12#32) (IntOp.andi (BitVec.ofNat 32 l.val) 3#32) 4294967295#32) (BitVec.ofNat 32 n.val)) (T (ix3 0 r l)) 0
      = ((if l = ⟨n.val, by omega⟩ then -e n r else 0 : ℝ) : EReal) := by
    rw [hT r l]
    show (if _ = 1#1 then _ else _) = _
    by_cases hl : l.val < 4
    · by_cases hn : l = ⟨n.val, by omega⟩
      · have hn' : l.val = n.val := congrArg Fin.val hn
        rw [if_pos ((head_lane n l).2 ⟨by omega, by omega⟩), dif_pos hl, if_pos hn]
        exact congrArg (fun a => ((-e a r : ℝ) : EReal)) (Fin.ext hn')
      · have hn' : l.val ≠ n.val := fun h => hn (Fin.ext h)
        rw [if_neg (fun h => by have := (head_lane n l).1 h; omega), if_neg hn]; rfl
    · rw [dif_neg hl, if_neg (show ¬ l = ⟨n.val, by omega⟩ from fun h => hl (by rw [h]; exact n.isLt))]
      split <;> rfl
  obtain rfl | rfl | rfl | rfl := four n <;> exact h

/-- The lanes with the head's number times the lanes of ones: minus the number. -/
theorem table_one {g : Fin 128 → EReal} (n : Fin 4) (r : Fin 128) (e : Fin 4 → Fin 128 → ℝ)
    (hg : ∀ l, g l = ((if l = ⟨n.val, by omega⟩ then -e n r else 0 : ℝ) : EReal)) :
    (∑ l : Fin 128, g l * FloatOps.sitofp (F := Ideal) FTy.f32 (BitVec.setWidth 32 (IntOp.cmpi CmpIPredicate.slt (BitVec.ofNat 32 l.val) 12#32)))
      = ((-e n r : ℝ) : EReal) := by
  simp only [hg, one_lane, ← EReal.coe_mul, ← coe_sum, ite_mul, zero_mul]
  rw [Finset.sum_ite_eq' Finset.univ (⟨n.val, by omega⟩ : Fin 128)]
  rw [if_pos (Finset.mem_univ _), if_pos (show n.val < 12 by omega), mul_one]

theorem pay10_eq {A : S512x128.Idx → EReal} {B : S256x128.Idx → EReal} {T : S1x128x128.Idx → EReal} (b : S1x1x512x256.Idx → EReal)
    (hA : Stack f A) (hB : Dup k B) (hT : Table e T) (n : Fin 4) (r : Fin 128) (x : Fin 256) :
    (k0_pay10 (F := Ideal) k0_pay1 A B T b : S512x256.Idx → EReal) (ix2 (at4 n r) x)
      = Ideal.exp (((((∑ c, f n r c * k x c) - e n r : ℝ)) : EReal) + b (ix4 0 0 (at4 n r) x)) := by
  unfold k0_pay10 k0_pay1
  pointwise
  refine congrArg (fun a => Ideal.exp (a + b (ix4 0 0 (at4 n r) x))) ?_
  rw [sub_eq_add_neg, EReal.coe_add]
  exact congrArg₂ (· + ·) (stack_dup hA hB n r x) (table_one n r e fun l => (pile _ _ _ _ n r).trans (table_select hT n r l))

theorem mat_pay12 {A : S512x128.Idx → EReal} {B : S256x128.Idx → EReal} {P : S512x256.Idx → EReal} {T : S1x128x128.Idx → EReal}
    (hA : Stack f A) (hB : Dup k B) (hP : Mat p P) (hT : Table e T) :
    Mat (fun n r x => p n r x * ((∑ c, f n r c * k x c) - e n r)) (k0_pay12 (F := Ideal) k0_pay1 A B P T) := by
  intro n r x
  unfold k0_pay12 k0_pay1
  pointwise
  rw [EReal.coe_mul, hP n r x]
  refine congrArg (((p n r x : ℝ) : EReal) * ·) ?_
  rw [sub_eq_add_neg, EReal.coe_add]
  exact congrArg₂ (· + ·) (stack_dup hA hB n r x) (table_one n r e fun l => (pile _ _ _ _ n r).trans (table_select hT n r l))

/-- Rows against stacked rows: every head's sum on its half of the lanes. -/
def Halves (p : Fin 4 → Fin 128 → Fin 256 → ℝ) (g : Fin 4 → Fin 128 → Fin 64 → ℝ) (v : S256x128.Idx → EReal) : Prop :=
  ∀ (x : Fin 256) (h : Fin 2) (c : Fin 64), v (ix2 x (lane h c)) = ((∑ n, ∑ r, p n r x * (if h.val = n.val % 2 then g n r c else 0) : ℝ) : EReal)

theorem mat_stack {P : S512x256.Idx → EReal} {A : S512x128.Idx → EReal} (hP : Mat p P) (hA : Stack g A) (x : Fin 256) (h : Fin 2) (c : Fin 64) :
    (∑ a, P (ix2 a x) * A (ix2 a (lane h c))) = ((∑ n, ∑ r, p n r x * (if h.val = n.val % 2 then g n r c else 0) : ℝ) : EReal) := by
  rw [sum_at4]
  simp only [hP _ _ x, hA _ _ h c, ← EReal.coe_mul, ← coe_sum]

theorem halves_pay11 {A D : S512x128.Idx → EReal} {B : S256x128.Idx → EReal} {T : S1x128x128.Idx → EReal} {b : S1x1x512x256.Idx → EReal}
    (hP : Mat p (k0_pay10 (F := Ideal) k0_pay1 A B T b)) (hD : Stack g D) :
    Halves p g (k0_pay11 (F := Ideal) k0_pay1 A D B T b) := by
  intro x h c
  unfold k0_pay11
  generalize k0_pay10 (F := Ideal) k0_pay1 A B T b = P at hP
  pointwise
  exact mat_stack hP hD x h c

/-- The two halves of the lanes together are all the heads. -/
theorem halves_add (p : Fin 4 → Fin 128 → Fin 256 → ℝ) (g : Fin 4 → Fin 128 → Fin 64 → ℝ) (x : Fin 256) (h : Fin 2) (c : Fin 64) :
    (∑ n, ∑ r, p n r x * (if h.val = n.val % 2 then g n r c else 0)) + (∑ n, ∑ r, p n r x * (if (1 - h).val = n.val % 2 then g n r c else 0))
      = ∑ n, ∑ r, p n r x * g n r c := by
  rw [← Finset.sum_add_distrib]
  refine Finset.sum_congr rfl fun n _ => ?_
  rw [← Finset.sum_add_distrib]
  refine Finset.sum_congr rfl fun r _ => ?_
  obtain rfl | rfl | rfl | rfl := four n <;> obtain rfl | rfl := two h <;> simp

theorem pay19_eq {t : Fin 4 → Fin 128 → Fin 256 → ℝ} {A : S512x128.Idx → EReal} {G : S256x128.Idx → EReal} {T : S512x256.Idx → EReal}
    (hA : Stack f A) (hG : Halves p g G) (hT : Mat t T) (x : Fin 256) (h : Fin 2) (c : Fin 64) :
    (k0_pay19 (F := Ideal) A G T : S256x128.Idx → EReal) (ix2 x (lane h c))
      = ((if h = 0 then ∑ n, ∑ r, t n r x * f n r c else ∑ n, ∑ r, p n r x * g n r c : ℝ) : EReal) := by
  unfold k0_pay19
  pointwise
  have e1 := fun hb => congrArg (fun l => G (ix2 x l)) (turned h c hb)
  have e2 := fun hb => congrArg (fun l => ∑ a, T (ix2 a x) * A (ix2 a l)) (turned h c hb)
  refine (congrArg₂ (Scalar.select _) (congrArg₂ (· + ·) (mat_stack hT hA x h c) ((e2 _).trans (mat_stack hT hA x (1 - h) c)))
    (congrArg₂ (· + ·) (hG x h c) ((e1 _).trans (hG x (1 - h) c)))).trans ?_
  simp only [← EReal.coe_add, halves_add]
  rw [select_lane]
  split <;> rfl

section
variable {t : Fin 4 → Fin 128 → Fin 256 → ℝ} {A : S512x128.Idx → EReal} {B C : S256x128.Idx → EReal} {P : S512x256.Idx → EReal} {T : S1x128x128.Idx → EReal}

theorem pay13_eq (hT : Mat t (k0_pay12 (F := Ideal) k0_pay1 A C P T)) (hB : Dup k B) (n : Fin 4) (r : Fin 128) (h : Fin 2) (c : Fin 64) :
    (k0_pay13 (F := Ideal) k0_pay1 A B C P T : S512x128.Idx → EReal) (ix2 (at4 n r) (lane h c)) = ((∑ x, t n r x * k x c : ℝ) : EReal) := by
  unfold k0_pay13
  generalize k0_pay12 (F := Ideal) k0_pay1 A C P T = U at hT
  pointwise
  simp only [hT n r, hB _ h c, ← EReal.coe_mul, ← coe_sum]

theorem slab_pay17 (hT : Mat t (k0_pay12 (F := Ideal) k0_pay1 A C P T)) (hB : Dup k B) :
    Slab (fun n r c => ∑ x, t n r x * k x c) 0 (k0_pay17 (F := Ideal) (k0_pay15 (F := Ideal) k0_pay1 A B C P T)) := by
  intro r h c
  have e := pay13_eq hT hB
  unfold k0_pay17 k0_pay15 k0_pay14
  generalize k0_pay13 (F := Ideal) k0_pay1 A B C P T = U at e
  pointwise
  rw [select_lane]
  obtain rfl | rfl := two h
  · exact (congrArg U (congrArg (ix2 · (lane 0 c)) (Fin.ext (at4_0 r).symm))).trans (e 0 r 0 c)
  · exact e 1 r 1 c

theorem slab_pay18 (hT : Mat t (k0_pay12 (F := Ideal) k0_pay1 A C P T)) (hB : Dup k B) :
    Slab (fun n r c => ∑ x, t n r x * k x c) 1 (k0_pay18 (F := Ideal) (k0_pay16 (F := Ideal) k0_pay1 A B C P T)) := by
  intro r h c
  have e := pay13_eq hT hB
  unfold k0_pay18 k0_pay16 k0_pay14
  generalize k0_pay13 (F := Ideal) k0_pay1 A B C P T = U at e
  pointwise
  rw [select_lane]
  obtain rfl | rfl := two h
  · exact e 2 r 0 c
  · exact e 3 r 1 c
end
end
end Cert.Kernel3Ideal.Attn
end
-- ==== Proof.Attn.Blocks.lean ====
/- One block of the attention's backward kernel: from blocks of real numbers to their gradients; and what the grid's points hand
   each block. -/
module

public import proofs.«01_k».proof.Proof.Attn.Terms
public import proofs.«01_k».proof.Proof.Attn.Runs

@[expose] public section
set_option maxRecDepth 16384
noncomputable section

namespace Cert.Kernel3Ideal.Attn
open Cert.Kernel3Ideal Cert.Kernel3Ideal.Gen Idealize.ShloMosaic Idealize.ShloMosaic.TcCoe Idealize.SL.Sem Cert.Common
open Cert.Attn

/-- The inputs as block `k` of the grid's point reads them are the real block `B`. -/
structure Sees (B : Blk) (x : Ins Ideal) (o : Fin 2) (i : grid0.Coords) (k : Fin k0_t1_loop.trips) : Prop where
  q1 : Slab B.Q 0 (View.ld x.q (R1 i k))
  q2 : Slab B.Q 1 (View.ld x.q (R2 i k))
  d1 : Slab B.G 0 (View.ld x.d (R1 i k))
  d2 : Slab B.G 1 (View.ld x.d (R2 i k))
  k1 : Half (fun t => B.K ⟨t.val, by omega⟩) o (View.ld x.k (R3 i k))
  k2 : Half (fun t => B.K ⟨128 + t.val, by omega⟩) o (View.ld x.k (R4 i k))
  v1 : Half (fun t => B.V ⟨t.val, by omega⟩) o (View.ld x.v (R3 i k))
  v2 : Half (fun t => B.V ⟨128 + t.val, by omega⟩) o (View.ld x.v (R4 i k))
  l : Table B.L (View.ld x.l (R5 i k))
  e : Table B.δ (View.ld x.e (R5 i k))
  b : ∀ n r y, (B.ok r y → View.ld x.b (R6 i k) (ix4 0 0 (at4 n r) y) = ((B.bias n r y : ℝ) : EReal))
    ∧ (¬ B.ok r y → View.ld x.b (R6 i k) (ix4 0 0 (at4 n r) y) = ⊥)

section
variable {B : Blk} {x : Ins Ideal} {o : Fin 2} {i : grid0.Coords} {k : Fin k0_t1_loop.trips} (H : Sees B x o i k)
include H

theorem stack_Q : Stack B.Q (Q x i k) := stack_pay4 H.q1 H.q2
theorem stack_D : Stack B.G (D x i k) := stack_pay7 H.d1 H.d2
theorem dup_K : Dup B.K (K x (BitVec.ofNat 1 o.val) i k) := dup_pay8 o H.k1 H.k2
theorem dup_W : Dup B.V (W x (BitVec.ofNat 1 o.val) i k) := dup_pay9 o H.v1 H.v2

theorem mat_P : Mat B.p (P x (BitVec.ofNat 1 o.val) i k) := by
  intro n r y
  refine (pay10_eq _ (stack_Q H) (dup_K H) H.l n r y).trans ?_
  by_cases h : B.ok r y
  · rw [(H.b n r y).1 h, ← EReal.coe_add, Ideal.exp_coe, ← B.exp_sub_L n r y h]
    congr 2; unfold Blk.sc; ring
  · rw [(H.b n r y).2 h, EReal.add_bot, B.p_of_not n r y h]
    exact Ideal.exp_bot

theorem halves_G : Halves B.p B.G (G x (BitVec.ofNat 1 o.val) i k) := halves_pay11 (mat_P H) (stack_D H)

theorem mat_T : Mat B.ds (T x (BitVec.ofNat 1 o.val) i k) := mat_pay12 (stack_D H) (dup_W H) (mat_P H) H.e

theorem slab_dq1 : Slab B.dq 0 (dq1 x (BitVec.ofNat 1 o.val) i k) := slab_pay17 (mat_T H) (dup_K H)
theorem slab_dq2 : Slab B.dq 1 (dq2 x (BitVec.ofNat 1 o.val) i k) := slab_pay18 (mat_T H) (dup_K H)

/-- What a block adds to the sums: the keys' gradient on the first half of the lanes, the values' on the second. -/
theorem own_eq (a : S128x128.Idx → EReal) (t : Fin 128) (h : Fin 2) (c : Fin 64) :
    (own x (BitVec.ofNat 1 o.val) i k a : S128x128.Idx → EReal) (ix2 t (lane h c))
      = a (ix2 t (lane h c)) + ((if h = 0 then B.dk ⟨128 + t.val, by omega⟩ c else B.dv ⟨128 + t.val, by omega⟩ c : ℝ) : EReal) := by
  have e := pay19_eq (stack_Q H) (halves_G H) (mat_T H)
  unfold own k0_pay20
  generalize k0_pay19 (F := Ideal) _ _ _ = U at e
  pointwise
  exact congrArg (a (ix2 t (lane h c)) + ·) (e ⟨128 + t.val, by omega⟩ h c)

theorem before_eq (a : S128x128.Idx → EReal) (t : Fin 128) (h : Fin 2) (c : Fin 64) :
    (before x (BitVec.ofNat 1 o.val) i k a : S128x128.Idx → EReal) (ix2 t (lane h c))
      = a (ix2 t (lane h c)) + ((if h = 0 then B.dk ⟨t.val, by omega⟩ c else B.dv ⟨t.val, by omega⟩ c : ℝ) : EReal) := by
  have e := pay19_eq (stack_Q H) (halves_G H) (mat_T H)
  unfold before k0_pay21
  generalize k0_pay19 (F := Ideal) _ _ _ = U at e
  pointwise
  exact congrArg (a (ix2 t (lane h c)) + ·) (e ⟨t.val, by omega⟩ h c)
end

/-! ## A point of the grid -/

/-- The group of heads and the half of the lanes of a point; a block of it. -/
def jj (i : grid0.Coords) : Fin 4 := ⟨(i 0).val, (i 0).isLt⟩
def half (i : grid0.Coords) : Fin 2 := ⟨(i 0).val % 2, Nat.mod_lt _ (by decide)⟩
theorem k_lt (k : Fin k0_t1_loop.trips) : k.val < 16 := Nat.lt_of_lt_of_eq k.isLt trips1
def bb (i : grid0.Coords) (k : Fin k0_t1_loop.trips) : Fin 32 :=
  ⟨16 * (i 1).val + k.val, by have := k_lt k; have : (i 1).val < 2 := (i 1).isLt; omega⟩

theorem odd_eq : ∀ i : grid0.Coords, odd i = BitVec.ofNat 1 (half i).val := by decide +kernel

/-- A chunk's row, and the block it lies in. -/
def posC (i : grid0.Coords) (r : Fin 2048) : Fin 4096 := ⟨2048 * (i 1).val + r.val, by have : (i 1).val < 2 := (i 1).isLt; omega⟩
def blkC (i : grid0.Coords) (r : Fin 2048) : Fin 32 := bb i (blk r)
def rowC (r : Fin 2048) : Fin 128 := ⟨r.val % 128, by omega⟩

/-- The windows at a point hold the data `D`: queries and cotangents slab by slab, the two tables, keys and values, and the bias. -/
structure Holds (D : Data) (i : grid0.Coords) (x : Ins Ideal) : Prop where
  q : ∀ (s : Fin 2) (r : Fin 2048) (h : Fin 2) (c : Fin 64), x.q (ix3 s r (lane h c)) = ((D.q (posC i r) (colQ (jj i) ⟨2 * s.val + h.val, by omega⟩ c) : ℝ) : EReal)
  d : ∀ (s : Fin 2) (r : Fin 2048) (h : Fin 2) (c : Fin 64), x.d (ix3 s r (lane h c)) = ((D.g (posC i r) (colQ (jj i) ⟨2 * s.val + h.val, by omega⟩ c) : ℝ) : EReal)
  l : ∀ (r : Fin 2048) (l : Fin 128), x.l (ix3 0 r l) = ((if h : l.val < 4 then -(D.blk (blkC i r) (jj i)).L ⟨l.val, h⟩ (rowC r) else 0 : ℝ) : EReal)
  e : ∀ (r : Fin 2048) (l : Fin 128), x.e (ix3 0 r l) = ((if h : l.val < 4 then -(D.blk (blkC i r) (jj i)).δ ⟨l.val, h⟩ (rowC r) else 0 : ℝ) : EReal)
  k : ∀ (y : Fin 4096) (c : Fin 64), x.k (ix3 0 y (lane (half i) c)) = ((D.k y (colK (jj i) c) : ℝ) : EReal)
  v : ∀ (y : Fin 4096) (c : Fin 64), x.v (ix3 0 y (lane (half i) c)) = ((D.v y (colK (jj i) c) : ℝ) : EReal)
  b : ∀ (b : Fin 32) (s : Fin 2) (_ : s.val = min b.val 1) (n : Fin 4) (r : Fin 128) (y : Fin 256),
    (ok b r y → x.b (ix4 s 0 (at4 n r) y) = (((D.blk b (jj i)).bias n r y : ℝ) : EReal)) ∧ (¬ ok b r y → x.b (ix4 s 0 (at4 n r) y) = ⊥)

section
variable {D : Data} {i : grid0.Coords} {x : Ins Ideal} (H : Holds D i x) (k : Fin k0_t1_loop.trips)

theorem ld_R1 (X : Vec Ideal S2x2048x128 .f32) (r l : Fin 128) (hk : k.val < 16) :
    View.ld X (R1 i k) (ix3 0 r l) = X (ix3 0 (⟨128 * k.val + r.val, by omega⟩ : Fin 2048) l) := by
  refine congrArg X (funext fun b => Fin.ext ?_)
  fin_cases b
  · show k0_off1 i k 0 + 0 = 0; rw [k0_off1_eq]; rfl
  · show k0_off1 i k 1 + 1 * r.val = 128 * k.val + r.val; rw [k0_off1_eq]; show 128 * k.val + 1 * r.val = _; omega
  · show k0_off1 i k 2 + 1 * l.val = l.val; rw [k0_off1_eq]; show 0 + _ = _; omega
theorem ld_R2 (X : Vec Ideal S2x2048x128 .f32) (r l : Fin 128) (hk : k.val < 16) :
    View.ld X (R2 i k) (ix3 0 r l) = X (ix3 1 (⟨128 * k.val + r.val, by omega⟩ : Fin 2048) l) := by
  refine congrArg X (funext fun b => Fin.ext ?_)
  fin_cases b
  · show k0_off2 i k 0 + 0 = 1; rw [k0_off2_eq]; rfl
  · show k0_off2 i k 1 + 1 * r.val = 128 * k.val + r.val; rw [k0_off2_eq]; show 128 * k.val + 1 * r.val = _; omega
  · show k0_off2 i k 2 + 1 * l.val = l.val; rw [k0_off2_eq]; show 0 + _ = _; omega
theorem ld_R5 (X : Vec Ideal S1x2048x128 .f32) (r l : Fin 128) (hk : k.val < 16) :
    View.ld X (R5 i k) (ix3 0 r l) = X (ix3 0 (⟨128 * k.val + r.val, by omega⟩ : Fin 2048) l) := by
  refine congrArg X (funext fun b => Fin.ext ?_)
  fin_cases b
  · show k0_off5 i k 0 + 0 = 0; rw [k0_off5_eq]; rfl
  · show k0_off5 i k 1 + 1 * r.val = 128 * k.val + r.val; rw [k0_off5_eq]; show 128 * k.val + 1 * r.val = _; omega
  · show k0_off5 i k 2 + 1 * l.val = l.val; rw [k0_off5_eq]; show 0 + _ = _; omega
theorem ld_R3 (X : Vec Ideal S1x4096x128 .f32) (r l : Fin 128) :
    View.ld X (R3 i k) (ix3 0 r l) = X (ix3 0 (posK (bb i k) ⟨r.val, by omega⟩) l) := by
  refine congrArg X (funext fun b => Fin.ext ?_)
  fin_cases b
  · show k0_off3 i k 0 + 0 = 0; rw [k0_off3_eq]; rfl
  · show k0_off3 i k 1 + 1 * r.val = (posK (bb i k) ⟨r.val, by omega⟩).val
    rw [k0_off3_eq]; unfold posK; rw [dif_pos (show r.val < 128 from r.isLt)]
    show 2048 * (i 1).val + 128 * k.val - 128 + 1 * r.val = 128 * (16 * (i 1).val + k.val) - 128 + r.val
    omega
  · show k0_off3 i k 2 + 1 * l.val = l.val; rw [k0_off3_eq]; show 0 + _ = _; omega
theorem ld_R4 (X : Vec Ideal S1x4096x128 .f32) (r l : Fin 128) :
    View.ld X (R4 i k) (ix3 0 r l) = X (ix3 0 (posK (bb i k) ⟨128 + r.val, by omega⟩) l) := by
  refine congrArg X (funext fun b => Fin.ext ?_)
  fin_cases b
  · show k0_off4 i k 0 + 0 = 0; rw [k0_off4_eq]; rfl
  · show k0_off4 i k 1 + 1 * r.val = (posK (bb i k) ⟨128 + r.val, by omega⟩).val
    rw [k0_off4_eq]; unfold posK; rw [dif_neg (show ¬ 128 + r.val < 128 by omega)]
    show 2048 * (i 1).val + 128 * k.val + 1 * r.val = 128 * (16 * (i 1).val + k.val) + (128 + r.val - 128)
    omega
  · show k0_off4 i k 2 + 1 * l.val = l.val; rw [k0_off4_eq]; show 0 + _ = _; omega
theorem ld_R6 (X : Vec Ideal S2x1x512x256 .f32) (r : Fin 512) (l : Fin 256) :
    View.ld X (R6 i k) (ix4 0 0 r l) = X (ix4 (⟨min (bb i k).val 1, by omega⟩ : Fin 2) 0 r l) := by
  refine congrArg X (funext fun b => Fin.ext ?_)
  fin_cases b
  · show k0_off6 i k 0 + 0 = min (16 * (i 1).val + k.val) 1; rw [k0_off6_eq]; rfl
  · show k0_off6 i k 1 + 0 = 0; rw [k0_off6_eq]; rfl
  · show k0_off6 i k 2 + 1 * r.val = r.val; rw [k0_off6_eq]; show 0 + _ = _; omega
  · show k0_off6 i k 3 + 1 * l.val = l.val; rw [k0_off6_eq]; show 0 + _ = _; omega

include H in
theorem sees : Sees (D.blk (bb i k) (jj i)) x (half i) i k := by
  have hk : k.val < 16 := k_lt k
  have ep : ∀ r : Fin 128, posC i (⟨128 * k.val + r.val, by omega⟩ : Fin 2048) = pos (bb i k) r := fun r => Fin.ext (by
    show 2048 * (i 1).val + (128 * k.val + r.val) = 128 * (16 * (i 1).val + k.val) + r.val; omega)
  have eb : ∀ r : Fin 128, blkC i (⟨128 * k.val + r.val, by omega⟩ : Fin 2048) = bb i k := fun r => Fin.ext (by
    show 16 * (i 1).val + (128 * k.val + r.val) / 128 = 16 * (i 1).val + k.val; omega)
  have er : ∀ r : Fin 128, rowC (⟨128 * k.val + r.val, by omega⟩ : Fin 2048) = r := fun r => Fin.ext (by
    show (128 * k.val + r.val) % 128 = r.val; omega)
  constructor
  · intro r h c; rw [ld_R1 k _ _ _ hk, H.q, ep]; rfl
  · intro r h c; rw [ld_R2 k _ _ _ hk, H.q, ep]; rfl
  · intro r h c; rw [ld_R1 k _ _ _ hk, H.d, ep]; rfl
  · intro r h c; rw [ld_R2 k _ _ _ hk, H.d, ep]; rfl
  · intro t c; rw [ld_R3 k, H.k]; rfl
  · intro t c; rw [ld_R4 k, H.k]; rfl
  · intro t c; rw [ld_R3 k, H.v]; rfl
  · intro t c; rw [ld_R4 k, H.v]; rfl
  · intro r l; rw [ld_R5 k _ _ _ hk, H.l, eb, er]
  · intro r l; rw [ld_R5 k _ _ _ hk, H.e, eb, er]
  · intro n r y; rw [ld_R6 k]; exact H.b (bb i k) _ rfl n r y

/-! ## The chunk's results -/

include H in
/-- The queries' gradient of a chunk. -/
theorem dqV_eq (s : Fin 2) (r : Fin 2048) (h : Fin 2) (c : Fin 64) :
    (dqV x (odd i) i : S2x2048x128.Idx → EReal) (ix3 s r (lane h c))
      = (((D.blk (blkC i r) (jj i)).dq ⟨2 * s.val + h.val, by omega⟩ (rowC r) c : ℝ) : EReal) := by
  unfold dqV
  rw [odd_eq]
  obtain rfl | rfl := two s
  · exact slab_dq1 (sees H (blk r)) (rowC r) h c
  · exact slab_dq2 (sees H (blk r)) (rowC r) h c

/-- What the keys' gradient (first half of the lanes) or the values' (second half) is for a block. -/
def side (h : Fin 2) (B : Blk) : Fin 256 → Fin 64 → ℝ := if h = 0 then B.dk else B.dv

/-- What block `β` adds to a row of the sums. -/
def part (D : Data) (j : Fin 4) (β : ℕ) (y : Fin 4096) (h : Fin 2) (c : Fin 64) : ℝ :=
  (if y.val / 128 = β then side h (D.blk ⟨y.val / 128, by omega⟩ j) ⟨128 + y.val % 128, by omega⟩ c else 0)
    + (if y.val / 128 + 1 = β then (if hb : y.val / 128 + 1 < 32 then side h (D.blk ⟨y.val / 128 + 1, hb⟩ j) ⟨y.val % 128, by omega⟩ c else 0) else 0)

end
end Cert.Kernel3Ideal.Attn
end
-- ==== Proof.Attn.Sums.lean ====
/- The sums for keys and values: what each block adds, and what the two chunks of a group of heads leave. -/
module

public import proofs.«01_k».proof.Proof.Attn.Blocks

@[expose] public section
set_option maxRecDepth 16384
noncomputable section

namespace Cert.Kernel3Ideal.Attn
open Cert.Kernel3Ideal Cert.Kernel3Ideal.Gen Idealize.ShloMosaic Idealize.ShloMosaic.TcCoe Idealize.SL.Sem Cert.Common
open Cert.Attn

theorem put_in (o : ℕ) (v : Vec Ideal S128x128 .f32) (a : Vec Ideal S4096x128 .f32) (y : Fin 4096) (l : Fin 128) (h1 : o ≤ y.val) (h2 : y.val < o + 128) :
    put o v a (ix2 y l) = v (ix2 (⟨y.val - o, by omega⟩ : Fin 128) l) := by
  have h : ∀ b, (![o, 0] : Fin 2 → ℕ) b ≤ ((ix2 y l : S4096x128.Idx) b).val ∧ ((ix2 y l : S4096x128.Idx) b).val < (![o, 0] : Fin 2 → ℕ) b + S128x128.size b := by
    intro b; fin_cases b
    · exact ⟨h1, h2⟩
    · exact ⟨Nat.zero_le _, by show l.val < 0 + 128; omega⟩
  unfold put
  rw [dif_pos h]
  refine congrArg v (funext fun b => Fin.ext ?_)
  fin_cases b <;> rfl

theorem put_out (o : ℕ) (v : Vec Ideal S128x128 .f32) (a : Vec Ideal S4096x128 .f32) (y : Fin 4096) (l : Fin 128) (h1 : ¬ (o ≤ y.val ∧ y.val < o + 128)) :
    put o v a (ix2 y l) = a (ix2 y l) := by
  unfold put
  rw [dif_neg fun h => h1 (h 0)]

section
variable {D : Data} {i : grid0.Coords} {x : Ins Ideal} (H : Holds D i x) (k : Fin k0_t1_loop.trips)

theorem base_le : 2048 * (i 1).val + 128 * k.val + 128 ≤ 4096 := by
  have := k_lt k; have : (i 1).val < 2 := (i 1).isLt; omega

theorem ld_R7 (X : Vec Ideal S4096x128 .f32) (t l : Fin 128) :
    View.ld X (R7 i k) (ix2 t l) = X (ix2 (⟨2048 * (i 1).val + 128 * k.val + t.val, by have := base_le (i := i) k; omega⟩ : Fin 4096) l) := by
  refine congrArg X (funext fun b => Fin.ext ?_)
  fin_cases b
  · show k0_off7 i k 0 + 1 * t.val = 2048 * (i 1).val + 128 * k.val + t.val; rw [k0_off7_eq]; show 2048 * (i 1).val + 128 * k.val + 1 * t.val = _; omega
  · show k0_off7 i k 1 + 1 * l.val = l.val; rw [k0_off7_eq]; show 0 + _ = _; omega
theorem ld_R8 (X : Vec Ideal S4096x128 .f32) (t l : Fin 128) :
    View.ld X (R8 i k) (ix2 t l) = X (ix2 (⟨2048 * (i 1).val + 128 * k.val - 128 + t.val, by have := base_le (i := i) k; omega⟩ : Fin 4096) l) := by
  refine congrArg X (funext fun b => Fin.ext ?_)
  fin_cases b
  · show k0_off8 i k 0 + 1 * t.val = 2048 * (i 1).val + 128 * k.val - 128 + t.val; rw [k0_off8_eq]; show 2048 * (i 1).val + 128 * k.val - 128 + 1 * t.val = _; omega
  · show k0_off8 i k 1 + 1 * l.val = l.val; rw [k0_off8_eq]; show 0 + _ = _; omega

theorem side_eq (h : Fin 2) (B : Blk) (y : Fin 256) (c : Fin 64) : (if h = 0 then B.dk y c else B.dv y c) = side h B y c := by
  unfold side; split <;> rfl

/-- Nothing is added for keys no row of a block sees. -/
theorem side_unseen (D : Data) (j : Fin 4) (h : Fin 2) (b : Fin 32) (y : Fin 256) (c : Fin 64) (hy : ¬ seen b y) : side h (D.blk b j) y c = 0 := by
  have hp : ∀ n r, (D.blk b j).p n r y = 0 := fun n r => Blk.p_of_not _ n r y fun q => hy (D.ok_seen b j r y q)
  unfold side
  split
  · unfold Blk.dk Blk.ds; simp only [hp, zero_mul, Finset.sum_const_zero]
  · unfold Blk.dv; simp only [hp, zero_mul, Finset.sum_const_zero]

/-- Sums that are real numbers. -/
def Real3 (s : Fin 4096 → Fin 2 → Fin 64 → ℝ) (a : S4096x128.Idx → EReal) : Prop :=
  ∀ (y : Fin 4096) (h : Fin 2) (c : Fin 64), a (ix2 y (lane h c)) = ((s y h c : ℝ) : EReal)

include H in
theorem stepV_eq {a : Vec Ideal S4096x128 .f32} {s : Fin 4096 → Fin 2 → Fin 64 → ℝ} (ha : Real3 s a) :
    Real3 (fun y h c => s y h c + part D (jj i) (16 * (i 1).val + k.val) y h c) (stepV x (odd i) i k a) := by
  have hS := sees H k
  have hb : Real3 (fun y h c => s y h c + (if y.val / 128 = 16 * (i 1).val + k.val then side h (D.blk ⟨y.val / 128, by omega⟩ (jj i)) ⟨128 + y.val % 128, by omega⟩ c else 0))
      (put (2048 * (i 1).val + 128 * k.val) (own x (odd i) i k (View.ld a (R7 i k))) a) := by
    intro y h c
    beta_reduce
    by_cases hy : 2048 * (i 1).val + 128 * k.val ≤ y.val ∧ y.val < 2048 * (i 1).val + 128 * k.val + 128
    · have hd : y.val / 128 = 16 * (i 1).val + k.val := by omega
      rw [put_in _ _ _ y _ hy.1 hy.2, odd_eq]
      refine (own_eq hS _ _ h c).trans ?_
      rw [ld_R7, side_eq, if_pos hd, EReal.coe_add]
      refine congrArg₂ (· + ·) ((congrArg a (congrArg (ix2 · (lane h c)) (Fin.ext ?_))).trans (ha y h c)) (congrArg _ ?_)
      · show 2048 * (i 1).val + 128 * k.val + (y.val - _) = y.val; omega
      · have e1 : bb i k = ⟨y.val / 128, by omega⟩ := Fin.ext hd.symm
        rw [e1]
        exact congrArg (fun q => side h (D.blk ⟨y.val / 128, by omega⟩ (jj i)) q c) (Fin.ext (by show 128 + (y.val - _) = 128 + y.val % 128; omega))
    · rw [put_out _ _ _ y _ hy, if_neg (by omega), add_zero]
      exact ha y h c
  intro y h c
  beta_reduce
  unfold stepV
  dsimp only
  generalize put (2048 * (i 1).val + 128 * k.val) (own x (odd i) i k (View.ld a (R7 i k))) a = b at hb
  unfold part
  rw [← add_assoc]
  by_cases hy : 2048 * (i 1).val + 128 * k.val - 128 ≤ y.val ∧ y.val < 2048 * (i 1).val + 128 * k.val - 128 + 128
  · rw [put_in _ _ _ y _ hy.1 hy.2, odd_eq]
    refine (before_eq hS _ _ h c).trans ?_
    rw [ld_R8, side_eq, EReal.coe_add]
    refine congrArg₂ (· + ·) ((congrArg b (congrArg (ix2 · (lane h c)) (Fin.ext ?_))).trans (hb y h c)) (congrArg _ ?_)
    · show 2048 * (i 1).val + 128 * k.val - 128 + (y.val - _) = y.val; omega
    · by_cases hz : 16 * (i 1).val + k.val = 0
      · rw [if_neg (by omega)]
        exact side_unseen D (jj i) h (bb i k) _ c (by
          show ¬ 128 ≤ 128 * (16 * (i 1).val + k.val) + (y.val - _); omega)
      · have hd : y.val / 128 + 1 = 16 * (i 1).val + k.val := by omega
        have hlt : y.val / 128 + 1 < 32 := by rw [hd]; exact (bb i k).isLt
        rw [if_pos hd, dif_pos hlt]
        have e1 : bb i k = ⟨y.val / 128 + 1, hlt⟩ := Fin.ext hd.symm
        rw [e1]
        exact congrArg (fun q => side h (D.blk ⟨y.val / 128 + 1, hlt⟩ (jj i)) q c) (Fin.ext (by show y.val - _ = y.val % 128; omega))
  · rw [put_out _ _ _ y _ hy, if_neg (c := y.val / 128 + 1 = 16 * (i 1).val + k.val) (by omega), add_zero]
    exact hb y h c

include H in
theorem sumsV_eq {a : Vec Ideal S4096x128 .f32} {s : Fin 4096 → Fin 2 → Fin 64 → ℝ} (ha : Real3 s a) (n : ℕ) (hn : n ≤ 16) :
    Real3 (fun y h c => s y h c + ∑ k ∈ Finset.range n, part D (jj i) (16 * (i 1).val + k) y h c) (sumsV x (odd i) i a n) := by
  induction n with
  | zero => intro y h c; beta_reduce; rw [Finset.sum_range_zero, add_zero]; exact ha y h c
  | succ n ih =>
    intro y h c
    beta_reduce
    have hlt : n < k0_t1_loop.trips := by rw [trips1]; omega
    rw [sumsV, dif_pos hlt, Finset.sum_range_succ, ← add_assoc]
    exact stepV_eq H ⟨n, hlt⟩ (ih (by omega)) y h c
end

/-- All the blocks together. -/
theorem sum_part (D : Data) (j : Fin 4) (y : Fin 4096) (h : Fin 2) (c : Fin 64) :
    (∑ k ∈ Finset.range 16, part D j (16 * 0 + k) y h c) + (∑ k ∈ Finset.range 16, part D j (16 * 1 + k) y h c) = D.both j (side h) y c := by
  have e : (∑ k ∈ Finset.range 16, part D j (16 * 0 + k) y h c) + (∑ k ∈ Finset.range 16, part D j (16 * 1 + k) y h c) = ∑ k ∈ Finset.range 32, part D j k y h c := by
    rw [show (32 : ℕ) = 16 + 16 from rfl, Finset.sum_range_add]
    simp only [Nat.mul_zero, Nat.zero_add, Nat.mul_one]
  have hy := y.isLt
  rw [e]
  unfold part Data.both
  rw [Finset.sum_add_distrib, Finset.sum_ite_eq, Finset.sum_ite_eq, if_pos (Finset.mem_range.2 (by omega))]
  congr 1
  by_cases hb : y.val / 128 + 1 < 32
  · rw [if_pos (Finset.mem_range.2 hb)]
  · rw [if_neg (fun q => hb (Finset.mem_range.1 q)), dif_neg hb]
end Cert.Kernel3Ideal.Attn
end
-- ==== Proof.Attn.Soft.lean ====
/- A row of scores at the ideal floats: its greatest entry is a real number, and with it the exponentials, their sum and its
   logarithm are those of the real numbers. The distance penalty's words. -/
module

public import proofs.«01_k».proof.Proof.Attn.Spec

@[expose] public section
set_option maxRecDepth 16384
noncomputable section

namespace Cert.Attn
open Idealize.ShloMosaic Cert.Common

/-- The greatest of some entries, each a real number or −∞, not all −∞. -/
theorem fold_real {ι : Type} (s : Finset ι) (f : ι → EReal) (hf : ∀ i ∈ s, f i ≠ ⊤) (h : ∃ i ∈ s, f i ≠ ⊥) :
    ∃ M : ℝ, s.fold max ⊥ f = (M : EReal) ∧ ∃ i ∈ s, f i = (M : EReal) := by
  obtain ⟨k, hk, h0⟩ := h
  obtain ⟨i, hi, he⟩ := Finset.exists_mem_eq_sup s ⟨k, hk⟩ f
  have hb : f i ≠ ⊥ := fun hb => h0 (le_bot_iff.mp (hb ▸ he ▸ Finset.le_sup hk))
  refine ⟨(f i).toReal, ?_, i, hi, (EReal.coe_toReal (hf i hi) hb).symm⟩
  rw [EReal.coe_toReal (hf i hi) hb]
  exact he

namespace Blk
variable (B : Blk) (n : Fin 4) (r : Fin 128)

/-- A row's scores as the programs hold them: −∞ where the row does not see the key. -/
def Row (f : Fin 256 → EReal) : Prop := ∀ x, (B.ok r x → f x = (B.sc n r x : EReal)) ∧ (¬ B.ok r x → f x = ⊥)

variable {B n r} {f : Fin 256 → EReal}

theorem Row.exp_eq (h : B.Row n r f) (M : ℝ) (x : Fin 256) :
    Ideal.exp (f x - (M : EReal)) = ((B.w n r x * Real.exp (-M) : ℝ) : EReal) := by
  unfold w
  by_cases hx : B.ok r x
  · rw [(h x).1 hx, if_pos hx, ← EReal.coe_sub, Ideal.exp_coe, sub_eq_add_neg, Real.exp_add]
  · rw [(h x).2 hx, if_neg hx, zero_mul, EReal.bot_sub]; rfl

theorem Row.sum_eq (h : B.Row n r f) (M : ℝ) :
    ∑ x, Ideal.exp (f x - (M : EReal)) = ((B.Z n r * Real.exp (-M) : ℝ) : EReal) := by
  simp only [h.exp_eq M]
  rw [← coe_sum, ← Finset.sum_mul]; rfl

theorem Row.ne_top (h : B.Row n r f) (x : Fin 256) : f x ≠ ⊤ := by
  by_cases hx : B.ok r x
  · rw [(h x).1 hx]; exact EReal.coe_ne_top _
  · rw [(h x).2 hx]; exact bot_ne_top

/-- The greatest entry of the row, folded over any set that is the row. -/
theorem Row.max {ι : Type} (h : B.Row n r f) (hk : ∃ x, B.ok r x) (s : Finset ι) (e : Fin 256 → ι) (he : ∀ i, i ∈ s ↔ ∃ x, i = e x)
    (g : ι → EReal) (hg : ∀ x, g (e x) = f x) : ∃ M : ℝ, s.fold max ⊥ g = (M : EReal) ∧ ∃ x, f x = (M : EReal) := by
  obtain ⟨M, h1, i, hi, h2⟩ := fold_real s g
    (fun i hi => by obtain ⟨x, rfl⟩ := (he i).mp hi; rw [hg]; exact h.ne_top x)
    (by obtain ⟨x, hx⟩ := hk
        exact ⟨e x, (he _).mpr ⟨x, rfl⟩, by rw [hg, (h x).1 hx]; exact EReal.coe_ne_bot _⟩)
  obtain ⟨x, rfl⟩ := (he i).mp hi
  exact ⟨M, h1, x, by rw [← hg, h2]⟩

theorem Z_exp_pos (hk : ∃ x, B.ok r x) (M : ℝ) : 0 < B.Z n r * Real.exp (-M) := mul_pos (B.Z_pos n r hk) (Real.exp_pos _)

/-- The log-sum from the greatest entry. -/
theorem log_eq (hk : ∃ x, B.ok r x) (M : ℝ) :
    (M : EReal) + Ideal.log ((B.Z n r * Real.exp (-M) : ℝ) : EReal) = ((B.L n r : ℝ) : EReal) := by
  rw [Ideal.log_coe, if_neg (not_le.mpr (Z_exp_pos hk M)), ← EReal.coe_add,
    Real.log_mul (ne_of_gt (B.Z_pos n r hk)) (ne_of_gt (Real.exp_pos _)), Real.log_exp]
  unfold L
  congr 1; ring

/-- An output from the exponentials. -/
theorem out_eq (hk : ∃ x, B.ok r x) (M : ℝ) (c : Fin 64) :
    Ideal.div (((∑ x, (B.w n r x * Real.exp (-M)) * B.V x c : ℝ)) : EReal) ((B.Z n r * Real.exp (-M) : ℝ) : EReal)
      = ((B.o n r c : ℝ) : EReal) := by
  have hz := B.Z_pos n r hk
  have he := Real.exp_pos (-M)
  rw [Ideal.div_coe (ne_of_gt (Z_exp_pos hk M)), ← EReal.coe_mul]
  unfold o p
  rw [Finset.sum_mul]
  congr 1
  refine Finset.sum_congr rfl fun x _ => ?_
  field_simp
end Blk

/-! ## The distance penalty -/

theorem one_bit : ∀ b : BitVec 1, b ≠ 1#1 → b = 0#1 := by decide
theorem and_one : ∀ a b : BitVec 1, IntOp.andi a b = 1#1 ↔ a = 1#1 ∧ b = 1#1 := by decide

theorem dist_toInt : ∀ (r : Fin 128) (x : Fin 256),
    (IntOp.subi (IntOp.addi 128#32 (BitVec.ofNat 32 r.val)) (BitVec.ofNat 32 x.val)).toInt = 128 + (r.val : ℤ) - x.val := by
  decide +kernel
theorem dist_near : ∀ (r : Fin 128) (x : Fin 256),
    (IntOp.andi (IntOp.cmpi .sge (IntOp.subi (IntOp.addi 128#32 (BitVec.ofNat 32 r.val)) (BitVec.ofNat 32 x.val)) 0#32)
      (IntOp.cmpi .sle (IntOp.subi (IntOp.addi 128#32 (BitVec.ofNat 32 r.val)) (BitVec.ofNat 32 x.val)) 128#32) = 1#1)
      ↔ (r.val ≤ x.val ∧ x.val ≤ 128 + r.val) := by
  decide +kernel
theorem muli_one (w : BitVec 32) : IntOp.muli w 1#32 = w := by
  show w * 1#32 = w
  exact BitVec.mul_one w

theorem slope_eq (h : Fin 16) :
    Ideal.exp (Ideal.ofBits FTy.f32 1060205080#32 * Ideal.div
      (Ideal.ofBits FTy.f32 3238002688#32 * ((((h.val : ℝ)) : EReal) + 1)) (Ideal.ofBits FTy.f32 1098907648#32)) = ((slope h : ℝ) : EReal) := by
  have a : Ideal.ofBits FTy.f32 1060205080#32 = ((11629080 / 2 ^ 24 : ℝ) : EReal) := by
    simp [Ideal.ofBits, Ideal.ieee, -EReal.coe_mul]; norm_num
  have b : Ideal.ofBits FTy.f32 3238002688#32 = ((-8 : ℝ) : EReal) := by
    simp [Ideal.ofBits, Ideal.ieee, -EReal.coe_mul]; norm_num
  have d : Ideal.ofBits FTy.f32 1098907648#32 = ((16 : ℝ) : EReal) := by
    simp [Ideal.ofBits, Ideal.ieee, -EReal.coe_mul]; norm_num
  rw [a, b, d, ← EReal.coe_one, ← EReal.coe_add, ← EReal.coe_mul, Ideal.div_coe (by norm_num), ← EReal.coe_mul, ← EReal.coe_mul, Ideal.exp_coe]
  rfl
theorem head_toInt : ∀ h : Fin 16, (BitVec.ofNat 32 h.val).toInt = h.val := by decide
theorem ofBits_bot : Ideal.ofBits FTy.f32 4286578688#32 = ⊥ := by
  simp [Ideal.ofBits, Ideal.ieee]
/-- The bias at a key: the penalty where the row sees it, −∞ elsewhere. -/
theorem bias_word (r : Fin 128) (x : Fin 256) (h : Fin 16) (w : BitVec 1) (t : EReal) (a b : Nat) (ht : t = ⊥) (ha : a = r.val) (hb : b = h.val) :
    Scalar.select (IntOp.andi (IntOp.andi
        (IntOp.cmpi .sge (IntOp.subi (IntOp.addi 128#32 (BitVec.ofNat 32 a)) (BitVec.ofNat 32 x.val)) 0#32)
        (IntOp.cmpi .sle (IntOp.subi (IntOp.addi 128#32 (BitVec.ofNat 32 a)) (BitVec.ofNat 32 x.val)) 128#32)) w)
      (-Ideal.exp (Ideal.ofBits FTy.f32 1060205080#32 * Ideal.div
          (Ideal.ofBits FTy.f32 3238002688#32 * (FloatOps.sitofp (F := Ideal) FTy.f32 (BitVec.ofNat 32 b) + 1))
          (Ideal.ofBits FTy.f32 1098907648#32))
        * FloatOps.sitofp (F := Ideal) FTy.f32
          (IntOp.muli (IntOp.subi (IntOp.addi 128#32 (BitVec.ofNat 32 a)) (BitVec.ofNat 32 x.val)) 1#32)) t
      = if (r.val ≤ x.val ∧ x.val ≤ 128 + r.val) ∧ w = 1#1 then ((-slope h * ((128 + (r.val : ℤ) - x.val : ℤ) : ℝ) : ℝ) : EReal) else ⊥ := by
  subst ha hb
  have hs : ∀ w : BitVec 32, (FloatOps.sitofp (F := Ideal) FTy.f32 w) = ((w.toInt : ℝ) : EReal) := fun _ => rfl
  rw [muli_one, hs, hs, dist_toInt, head_toInt, Int.cast_natCast, slope_eq, ← EReal.coe_neg, ← EReal.coe_mul, ht]
  by_cases hw : (r.val ≤ x.val ∧ x.val ≤ 128 + r.val) ∧ w = 1#1
  · rw [if_pos hw, (and_one _ _).mpr ⟨(dist_near r x).mpr hw.1, hw.2⟩]; rfl
  · rw [if_neg hw, one_bit _ (fun he => hw ⟨(dist_near r x).mp ((and_one _ _).mp he).1, ((and_one _ _).mp he).2⟩)]; rfl
theorem first_half : ∀ x : Fin 256, IntOp.cmpi .sge (BitVec.ofNat 32 x.val) 128#32 = 1#1 ↔ 128 ≤ x.val := by decide +kernel
end Cert.Attn
end
-- ==== Proof.Attn.Keys.lean ====
/- The 256 keys of a block in terms of the sequence's rows. -/
module

public import proofs.«01_k».proof.Proof.Attn.Spec

@[expose] public section
noncomputable section

namespace Cert.Attn

/-- What a block's 256 keys hold, from the rows of the array: the block before's, then the block's. -/
theorem keys (f : Fin 4096 → ℝ) (b : Fin 32) (x : Fin 256) (t : EReal) {inst : Decidable (seen b x)}
    (h0 : x.val < 128 → b.val < 1 → t = 0)
    (h1 : (h : x.val < 128) → (hb : ¬ b.val < 1) → t = f ⟨(b.val - 1) * 128 + x.val, by omega⟩)
    (h2 : (h : ¬ x.val < 128) → t = f ⟨b.val * 128 + (x.val - 128), by omega⟩) :
    t = ((if seen b x then f (posK b x) else 0 : ℝ) : EReal) := by
  by_cases hx : x.val < 128
  · by_cases hb : b.val < 1
    · rw [h0 hx hb, if_neg (by unfold seen; omega)]; rfl
    · rw [h1 hx hb, if_pos (by unfold seen; omega)]; unfold posK; rw [dif_pos hx]
      congr 3; omega
  · rw [h2 hx, if_pos (by unfold seen; omega)]; unfold posK; rw [dif_neg hx]
    congr 3; omega

end Cert.Attn
end
-- ==== Proof.Attn.Host.lean ====
/- What the host prepares for the attention's gradient call: the bias, keys and values with the block before, the score
   rows' log-sums, and the sums the cotangents take off. -/
module

public import proofs.«01_k».proof.Proof.Attn.Sums
public import proofs.«01_k».proof.Proof.Attn.Soft
public import proofs.«01_k».proof.Proof.Attn.Keys
public import Idealize.ShloMosaic.Lib.StableHlo.ReadAt

@[expose] public section
set_option maxRecDepth 16384
noncomputable section

namespace Cert.Kernel3Ideal.Attn
open Cert.Kernel3Ideal Cert.Kernel3Ideal.Gen Idealize.ShloMosaic Idealize.ShloMosaic.TcCoe Idealize.SL.Sem Cert.Common
open Cert.Attn

variable (m : (ℓ : Loc nD τ sig) → Buf (Elt Ideal) ℓ)

/-- The kernel's arguments hold the real arrays `D`. -/
structure Args (D : Data) (c : Dev nD) : Prop where
  q : ∀ i k, (m ((c : Thread nD τ).loc main_arg0) : S1x4096x1024.Idx → EReal) (ix3 0 i k) = ((D.q i k : ℝ) : EReal)
  k : ∀ i k, (m ((c : Thread nD τ).loc main_arg1) : S1x4096x256.Idx → EReal) (ix3 0 i k) = ((D.k i k : ℝ) : EReal)
  v : ∀ i k, (m ((c : Thread nD τ).loc main_arg2) : S1x4096x256.Idx → EReal) (ix3 0 i k) = ((D.v i k : ℝ) : EReal)
  g : ∀ i k, (m ((c : Thread nD τ).loc main_arg3) : S1x4096x1024.Idx → EReal) (ix3 0 i k) = ((D.g i k : ℝ) : EReal)
  e : ∀ i k, (m ((c : Thread nD τ).loc main_arg4) : S1x4096x16.Idx → EReal) (ix3 0 i k) = ((D.e i k : ℝ) : EReal)

variable {D : Data} {c : Dev nD}

theorem at4_val (n : Fin 4) (r : Fin 128) : (at4 n r).val = 128 * n.val + r.val := rfl
theorem at4_mod (n : Fin 4) (r : Fin 128) : (at4 n r).val % 128 = r.val := by rw [at4_val]; omega
theorem at4_div (n : Fin 4) (r : Fin 128) : (at4 n r).val / 128 = n.val := by rw [at4_val]; omega

/-- Which of the two bias tables a block takes. -/
def tbl (b : Fin 32) : Fin 2 := ⟨min b.val 1, by omega⟩

theorem v46 (b : Fin 32) (j n : Fin 4) (r : Fin 128) (x : Fin 256) :
    (V m c main_v46 : S2x4x512x256.Idx → EReal) (ix4 (tbl b) j (at4 n r) x)
      = if ok b r x then (((D.blk b j).bias n r x : ℝ) : EReal) else ⊥ := by
  unfold V; after_reads_at
  refine (bias_word r x (colE j n) _ _ _ _ ofBits_bot (at4_mod n r) (by rw [at4_div]; unfold colE; simp only; omega)).trans ?_
  refine if_congr (and_congr Iff.rfl ?_) rfl rfl
  by_cases hb : b.val = 0
  · have h0 : (tbl b).val < 1 := by unfold tbl; simp only; omega
    rw [dif_pos h0]
    after_reads_at
    rw [first_half]; omega
  · have h0 : ¬ (tbl b).val < 1 := by unfold tbl; simp only; omega
    rw [dif_neg h0]
    after_reads_at
    exact iff_of_true trivial (by omega)

/-- Keys (first four) and values (last four) of a block and the block before, zeros before the first. -/
theorem arg_k (h : Args m D c) (i : Fin 4096) (k : Fin 256) (j : Fin 4) (y : Fin 64) (hk : k.val = 64 * j.val + y.val) :
    (m ((c : Thread nD τ).loc main_arg1) : S1x4096x256.Idx → EReal) (ix3 0 i k) = ((D.k i (colK j y) : ℝ) : EReal) := by
  obtain rfl : k = colK j y := Fin.ext hk
  exact h.k i _
theorem v52k (h : Args m D c) (b : Fin 32) (x : Fin 256) (j : Fin 4) (y : Fin 64) :
    (V m c main_v52 : S32x256x8x64.Idx → EReal) (ix4 b x ⟨j.val, by omega⟩ y) = (((D.blk0 b j).K x y : ℝ) : EReal) := by
  have hj : j.val * 64 + y.val < 256 := by omega
  refine keys (fun i => D.k i (colK j y)) b x _ (fun hx hb => ?_) (fun hx hb => ?_) (fun hx => ?_)
  · unfold V; after_reads_at
    rw [dif_pos hx, dif_pos hb]; after_reads_at
  · unfold V; after_reads_at
    rw [dif_pos hx, dif_neg hb]; after_reads_at
    rw [dif_pos hj]; after_reads_at
    exact arg_k m h _ _ j y (by simp only; omega)
  · unfold V; after_reads_at
    rw [dif_neg hx, dif_pos hj]; after_reads_at
    exact arg_k m h _ _ j y (by simp only; omega)

theorem arg_v (h : Args m D c) (i : Fin 4096) (k : Fin 256) (j : Fin 4) (y : Fin 64) (hk : k.val = 64 * j.val + y.val) :
    (m ((c : Thread nD τ).loc main_arg2) : S1x4096x256.Idx → EReal) (ix3 0 i k) = ((D.v i (colK j y) : ℝ) : EReal) := by
  obtain rfl : k = colK j y := Fin.ext hk
  exact h.v i _
theorem v52v (h : Args m D c) (b : Fin 32) (x : Fin 256) (j : Fin 4) (y : Fin 64) :
    (V m c main_v52 : S32x256x8x64.Idx → EReal) (ix4 b x ⟨4 + j.val, by omega⟩ y) = (((D.blk0 b j).V x y : ℝ) : EReal) := by
  have hj : ¬ (4 + j.val) * 64 + y.val < 256 := by omega
  refine keys (fun i => D.v i (colK j y)) b x _ (fun hx hb => ?_) (fun hx hb => ?_) (fun hx => ?_)
  · unfold V; after_reads_at
    rw [dif_pos hx, dif_pos hb]; after_reads_at
  · unfold V; after_reads_at
    rw [dif_pos hx, dif_neg hb]; after_reads_at
    rw [dif_neg hj]; after_reads_at
    exact arg_v m h _ _ j y (by simp only; omega)
  · unfold V; after_reads_at
    rw [dif_neg hx, dif_neg hj]; after_reads_at
    exact arg_v m h _ _ j y (by simp only; omega)

/-! ## Scores, their greatest, the exponentials -/

theorem v61 (b : Fin 32) (j n : Fin 4) (r : Fin 128) (x : Fin 256) :
    (V m c main_v61 : S32x4x4x128x256.Idx → EReal) (ix5 b j n r x) = if ok b r x then (((D.blk b j).bias n r x : ℝ) : EReal) else ⊥ := by
  unfold V; after_reads_at
  split
  · next hb =>
    after_reads_at
    refine (bias_word r x (colE j n) _ _ _ _ ofBits_bot (by omega) (by unfold colE; simp only; omega)).trans ?_
    refine if_congr (and_congr Iff.rfl ?_) rfl rfl
    rw [dif_pos hb]; after_reads_at
    rw [first_half]; omega
  · next hb =>
    after_reads_at
    refine (bias_word r x (colE j n) _ _ _ _ ofBits_bot (by omega) (by unfold colE; simp only; omega)).trans ?_
    refine if_congr (and_congr Iff.rfl ?_) rfl rfl
    after_reads_at
    exact iff_of_true trivial (by omega)

theorem arg_q (h : Args m D c) (i i' : Fin 4096) (k : Fin 1024) (j n : Fin 4) (y : Fin 64) (hi : i.val = i'.val)
    (hk : k.val = 256 * j.val + 64 * n.val + y.val) :
    (m ((c : Thread nD τ).loc main_arg0) : S1x4096x1024.Idx → EReal) (ix3 0 i k) = ((D.q i' (colQ j n y) : ℝ) : EReal) := by
  obtain rfl : k = colQ j n y := Fin.ext hk
  obtain rfl := Fin.ext hi
  exact h.q i _
theorem arg_g (h : Args m D c) (i i' : Fin 4096) (k : Fin 1024) (j n : Fin 4) (y : Fin 64) (hi : i.val = i'.val)
    (hk : k.val = 256 * j.val + 64 * n.val + y.val) :
    (m ((c : Thread nD τ).loc main_arg3) : S1x4096x1024.Idx → EReal) (ix3 0 i k) = ((D.g i' (colQ j n y) : ℝ) : EReal) := by
  obtain rfl : k = colQ j n y := Fin.ext hk
  obtain rfl := Fin.ext hi
  exact h.g i _
theorem arg_e (h : Args m D c) (i i' : Fin 4096) (k : Fin 16) (j n : Fin 4) (hi : i.val = i'.val) (hk : k.val = 4 * j.val + n.val) :
    (m ((c : Thread nD τ).loc main_arg4) : S1x4096x16.Idx → EReal) (ix3 0 i k) = ((D.e i' (colE j n) : ℝ) : EReal) := by
  obtain rfl : k = colE j n := Fin.ext hk
  obtain rfl := Fin.ext hi
  exact h.e i _

theorem v57 (h : Args m D c) (b : Fin 32) (j n : Fin 4) (r : Fin 128) (y : Fin 64) :
    (V m c main_v57 : S32x128x4x4x64.Idx → EReal) (ix5 b r j n y) = ((D.q (pos b r) (colQ j n y) : ℝ) : EReal) := by
  unfold V; after_reads_at
  exact arg_q m h _ _ _ _ _ _ (by unfold pos; simp only; omega) (by simp only; omega)
theorem v72 (h : Args m D c) (b : Fin 32) (j n : Fin 4) (r : Fin 128) (y : Fin 64) :
    (V m c main_v72 : S32x128x4x4x64.Idx → EReal) (ix5 b r j n y) = ((D.g (pos b r) (colQ j n y) : ℝ) : EReal) := by
  unfold V; after_reads_at
  exact arg_g m h _ _ _ _ _ _ (by unfold pos; simp only; omega) (by simp only; omega)
theorem v75 (h : Args m D c) (b : Fin 32) (j n : Fin 4) (r : Fin 128) :
    (V m c main_v75 : S32x4x4x128.Idx → EReal) (ix4 b j n r) = ((D.e (pos b r) (colE j n) : ℝ) : EReal) := by
  unfold V; after_reads_at
  exact arg_e m h _ _ _ _ _ (by unfold pos; simp only; omega) (by simp only; omega)
theorem v58 (h : Args m D c) (b : Fin 32) (x : Fin 256) (j : Fin 4) (y : Fin 64) :
    (V m c main_v58 : S32x256x4x64.Idx → EReal) (ix4 b x j y) = (((D.blk0 b j).K x y : ℝ) : EReal) := by
  have e : (V m c main_v58 : S32x256x4x64.Idx → EReal) = extractStridedSlice S32x256x4x64 ![0, 0, 0, 0] (V m c main_v52 : S32x256x8x64.Idx → EReal)
      slices_S32x256x8x64_S32x256x4x64_0_0_0_0 := by unfold V; after_reads_simp
  rw [e]; pointwise; exact v52k m h b x j y
theorem v68 (h : Args m D c) (b : Fin 32) (x : Fin 256) (j : Fin 4) (y : Fin 64) :
    (V m c main_v68 : S32x256x4x64.Idx → EReal) (ix4 b x j y) = (((D.blk0 b j).V x y : ℝ) : EReal) := by
  have e : (V m c main_v68 : S32x256x4x64.Idx → EReal) = extractStridedSlice S32x256x4x64 ![0, 0, 4, 0] (V m c main_v52 : S32x256x8x64.Idx → EReal)
      slices_S32x256x8x64_S32x256x4x64_0_0_4_0 := by unfold V; after_reads_simp
  rw [e]; pointwise; exact v52v m h b x j y

theorem v59 : (V m c main_v59 : S32x4x256x128x4.Idx → EReal) = Host.dotGeneral (F := Ideal) (φ₁ := .f32) (φ₂ := .f32)
    dot_S32x256x4x64_S32x128x4x4x64_S32x4x256x128x4_3_4_1_13_02_02 none (V m c main_v58) (V m c main_v57) := by
  unfold V; after_reads_simp
theorem v62 : (V m c main_v62 : S32x4x4x128x256.Idx → EReal) = addf (F := Ideal) (φ := .f32) (transpose S32x4x4x128x256 [0, 1, 4, 3, 2]
    (V m c main_v59 : S32x4x256x128x4.Idx → EReal) transposes_S32x4x256x128x4_S32x4x4x128x256_0_1_4_3_2) (V m c main_v61) := by
  unfold V; after_reads_simp

theorem v59_eq (h : Args m D c) (b : Fin 32) (j n : Fin 4) (r : Fin 128) (x : Fin 256) :
    (V m c main_v59 : S32x4x256x128x4.Idx → EReal) (ix5 b j x r n)
      = ((∑ y, (D.blk0 b j).Q n r y * (D.blk0 b j).K x y : ℝ) : EReal) := by
  rw [v59]; pointwise
  simp only [v58 m h, v57 m h, ← EReal.coe_mul, ← coe_sum]
  exact congrArg _ (Finset.sum_congr rfl fun y _ => mul_comm _ _)

theorem scores (h : Args m D c) (b : Fin 32) (j n : Fin 4) (r : Fin 128) :
    (D.blk0 b j).Row n r (fun x => (V m c main_v62 : S32x4x4x128x256.Idx → EReal) (ix5 b j n r x)) := by
  intro x
  have e : (V m c main_v62 : S32x4x4x128x256.Idx → EReal) (ix5 b j n r x) = ((∑ y, (D.blk0 b j).Q n r y * (D.blk0 b j).K x y : ℝ) : EReal)
      + if ok b r x then (((D.blk b j).bias n r x : ℝ) : EReal) else ⊥ := by
    rw [v62]; pointwise; rw [v59_eq m h, v61 (D := D)]
  refine ⟨fun hx => e.trans ?_, fun hx => e.trans ?_⟩
  · rw [if_pos (show ok b r x from hx), ← EReal.coe_add]; rfl
  · rw [if_neg (show ¬ ok b r x from hx), EReal.add_bot]

theorem v63 : (V m c main_v63 : S32x4x4x128.Idx → EReal)
    = Host.reduce (FloatOps.maximumf (F := Ideal) (φ := .f32)) (V m c main_v62 : S32x4x4x128x256.Idx → EReal) (constant S_ .f32 0xFF800000#32) reducesTo_S32x4x4x128x256_S32x4x4x128_d4 h_S_ := by
  unfold V; after_reads_simp
theorem v66 : (V m c main_v66 : S32x4x4x128x256.Idx → EReal) = Host.exp (F := Ideal) (φ := .f32) (subf (F := Ideal) (φ := .f32) (V m c main_v62)
    (broadcastInDim S32x4x4x128x256 ![0, 1, 2, 3] bcast_S32x4x4x128_S32x4x4x128x256_0_1_2_3 (V m c main_v63 : S32x4x4x128.Idx → EReal))) := by
  unfold V; after_reads_simp
theorem v67 : (V m c main_v67 : S32x4x4x128.Idx → EReal) = Host.reduceAdd (F := Ideal) (φ := .f32) (V m c main_v66) (constant S_ .f32 0x00000000#32)
    reducesTo_S32x4x4x128x256_S32x4x4x128_d4 h_S_ := by
  unfold V; after_reads_simp

theorem row_set (b : Fin 32) (j n : Fin 4) (r : Fin 128) (i : S32x4x4x128x256.Idx) :
    i ∈ ({i | reducesTo_S32x4x4x128x256_S32x4x4x128_d4.drop i = ix4 b j n r} : Finset S32x4x4x128x256.Idx) ↔ ∃ x, i = ix5 b j n r x := by
  rw [Finset.mem_filter]
  constructor
  · rintro ⟨-, h⟩
    refine ⟨i 4, (eq_ix5 i).trans ?_⟩
    have e : ∀ k, (reducesTo_S32x4x4x128x256_S32x4x4x128_d4.drop i k).val = (ix4 b j n r k).val := fun k => by rw [h]
    have e0 : i 0 = b := Fin.ext (e 0)
    have e1 : i 1 = j := Fin.ext (e 1)
    have e2 : i 2 = n := Fin.ext (e 2)
    have e3 : i 3 = r := Fin.ext (e 3)
    rw [e0, e1, e2, e3]
  · rintro ⟨x, rfl⟩
    refine ⟨Finset.mem_univ _, ?_⟩
    exact eq_ix4 _

/-- A row's greatest score, its exponentials, their sum. -/
theorem stats (h : Args m D c) (b : Fin 32) (j n : Fin 4) (r : Fin 128) : ∃ M : ℝ,
    (V m c main_v63 : S32x4x4x128.Idx → EReal) (ix4 b j n r) = (M : EReal)
    ∧ (∀ x, (V m c main_v66 : S32x4x4x128x256.Idx → EReal) (ix5 b j n r x) = (((D.blk0 b j).w n r x * Real.exp (-M) : ℝ) : EReal))
    ∧ (V m c main_v67 : S32x4x4x128.Idx → EReal) (ix4 b j n r) = (((D.blk0 b j).Z n r * Real.exp (-M) : ℝ) : EReal) := by
  have hr := scores m h b j n r
  obtain ⟨M, hM, -⟩ := hr.max (D.ok_some b j r) _ _ (row_set b j n r) (V m c main_v62) (fun _ => rfl)
  have h63 : (V m c main_v63 : S32x4x4x128.Idx → EReal) (ix4 b j n r) = (M : EReal) := by
    rw [v63]; pointwise; rw [ofBits_bot]; exact hM
  have h66 : ∀ x, (V m c main_v66 : S32x4x4x128x256.Idx → EReal) (ix5 b j n r x) = (((D.blk0 b j).w n r x * Real.exp (-M) : ℝ) : EReal) := by
    intro x
    rw [v66]; pointwise; rw [h63]; exact hr.exp_eq M x
  refine ⟨M, h63, h66, ?_⟩
  rw [v67]; pointwise
  simp only [h66]
  rw [← coe_sum, ← Finset.sum_mul]; rfl

theorem add_log (X Y : S32x4x4x128.Idx → EReal) (i : S32x4x4x128.Idx) {a b : EReal} (ha : X i = a) (hb : Y i = b) :
    addf (F := Ideal) (φ := .f32) X (Host.log (F := Ideal) (φ := .f32) Y) i = a + Ideal.log b := by
  subst ha hb; rfl
theorem v77 : (V m c main_v77 : S32x4x4x128.Idx → EReal) = Host.log (F := Ideal) (φ := .f32) (V m c main_v67) := by
  unfold V; after_reads_simp
theorem v78_sum : (V m c main_v78 : S32x4x4x128.Idx → EReal) = addf (F := Ideal) (φ := .f32) (V m c main_v63) (V m c main_v77) := by
  unfold V; after_reads_simp
theorem v78 (i : S32x4x4x128.Idx) {a b : EReal} (ha : (V m c main_v63 : S32x4x4x128.Idx → EReal) i = a)
    (hb : (V m c main_v67 : S32x4x4x128.Idx → EReal) i = b) : (V m c main_v78 : S32x4x4x128.Idx → EReal) i = a + Ideal.log b := by
  rw [v78_sum, v77]
  exact add_log _ _ i ha hb
theorem v69 : (V m c main_v69 : S32x4x4x128x64.Idx → EReal) = Host.dotGeneral (F := Ideal) (φ₁ := .f32) (φ₂ := .f32)
    dot_S32x4x4x128x256_S32x256x4x64_S32x4x4x128x64_4_1_23_3_01_02 none (V m c main_v66) (V m c main_v68) := by
  unfold V; after_reads_simp
theorem v71 : (V m c main_v71 : S32x4x4x128x64.Idx → EReal) = Host.divf (F := Ideal) (φ := .f32) (V m c main_v69)
    (broadcastInDim S32x4x4x128x64 ![0, 1, 2, 3] bcast_S32x4x4x128_S32x4x4x128x64_0_1_2_3 (V m c main_v67 : S32x4x4x128.Idx → EReal)) := by
  unfold V; after_reads_simp
theorem v73 : (V m c main_v73 : S32x4x4x128.Idx → EReal) = Host.dotGeneral (F := Ideal) (φ₁ := .f32) (φ₂ := .f32)
    dot_S32x4x4x128x64_S32x128x4x4x64_S32x4x4x128_4_4_n_n_0123_0231 none (V m c main_v71) (V m c main_v72) := by
  unfold V; after_reads_simp
theorem v76 (i : S32x4x4x128.Idx) {a b : EReal} (ha : (V m c main_v73 : S32x4x4x128.Idx → EReal) i = a)
    (hb : (V m c main_v75 : S32x4x4x128.Idx → EReal) i = b) : (V m c main_v76 : S32x4x4x128.Idx → EReal) i = a - b := by
  have e : (V m c main_v76 : S32x4x4x128.Idx → EReal) = subf (F := Ideal) (φ := .f32) (V m c main_v73) (V m c main_v75) := by
    unfold V; after_reads_simp
  rw [e, ← ha, ← hb]; rfl

theorem v78_eq (h : Args m D c) (b : Fin 32) (j n : Fin 4) (r : Fin 128) :
    (V m c main_v78 : S32x4x4x128.Idx → EReal) (ix4 b j n r) = (((D.blk b j).L n r : ℝ) : EReal) := by
  obtain ⟨M, h63, -, h67⟩ := stats m h b j n r
  rw [v78 m _ h63 h67, Blk.log_eq (B := D.blk0 b j) (D.ok_some b j r) M]
  exact congrArg (fun f : Fin 4 → Fin 128 → ℝ => ((f n r : ℝ) : EReal)) (Blk.mask_L (D.blk b j) _ (D.ok_seen b j))

theorem v71_eq (h : Args m D c) (b : Fin 32) (j n : Fin 4) (r : Fin 128) (y : Fin 64) :
    (V m c main_v71 : S32x4x4x128x64.Idx → EReal) (ix5 b j n r y) = (((D.blk0 b j).o n r y : ℝ) : EReal) := by
  obtain ⟨M, -, h66, h67⟩ := stats m h b j n r
  have e : (V m c main_v69 : S32x4x4x128x64.Idx → EReal) (ix5 b j n r y)
      = ((∑ x, (D.blk0 b j).w n r x * Real.exp (-M) * (D.blk0 b j).V x y : ℝ) : EReal) := by
    rw [v69]; pointwise
    simp only [h66, v68 m h, ← EReal.coe_mul, ← coe_sum]
  rw [v71]; pointwise
  rw [e, h67]
  exact Blk.out_eq (B := D.blk0 b j) (D.ok_some b j r) M y
theorem v76_eq (h : Args m D c) (b : Fin 32) (j n : Fin 4) (r : Fin 128) :
    (V m c main_v76 : S32x4x4x128.Idx → EReal) (ix4 b j n r) = (((D.blk b j).δ n r : ℝ) : EReal) := by
  have e : (V m c main_v73 : S32x4x4x128.Idx → EReal) (ix4 b j n r)
      = ((∑ y, (D.blk0 b j).o n r y * (D.blk0 b j).G n r y : ℝ) : EReal) := by
    rw [v73]; pointwise
    simp only [v71_eq m h, v72 m h, ← EReal.coe_mul, ← coe_sum]
    rfl
  rw [v76 m _ e (v75 m h b j n r), ← EReal.coe_sub]
  exact congrArg (fun f : Fin 4 → Fin 128 → ℝ => ((f n r : ℝ) : EReal)) (Blk.mask_δ (D.blk b j) _ (D.ok_seen b j))

/-! ## The table of negated log-sums and of the sums the cotangents take off -/

theorem u78 : StableHlo.upto (List.flatten [hostOps0 (F := Ideal), hostOps0_1, hostOps0_2]) (fun b => m (c, b)) 97 (Proc.devRef .tc main_v78) = V m c main_v78 := by
  unfold V; after_reads_simp
theorem u76 : StableHlo.upto (List.flatten [hostOps0 (F := Ideal), hostOps0_1, hostOps0_2]) (fun b => m (c, b)) 97 (Proc.devRef .tc main_v76) = V m c main_v76 := by
  unfold V; after_reads_simp

/-- The table's entry: half 0 the log-sums, half 1 the sums. -/
def entry (D : Data) (s : Fin 64) (j n : Fin 4) (r : Fin 128) : ℝ :=
  if h : s.val < 32 then -(D.blk ⟨s.val, h⟩ j).L n r else -(D.blk ⟨s.val - 32, by omega⟩ j).δ n r

theorem v81_eq (h : Args m D c) (s : Fin 64) (j n : Fin 4) (r : Fin 128) :
    (V m c main_v81 : S4x64x128x4.Idx → EReal) (ix4 j s r n) = ((entry D s j n r : ℝ) : EReal) := by
  unfold V; after_reads_at
  unfold entry
  split
  · next hs =>
    rw [u78]
    exact (congrArg (fun e : EReal => -e) (v78_eq m h ⟨s.val, hs⟩ j n r)).trans (EReal.coe_neg _).symm
  · next hs =>
    rw [u76]
    exact (congrArg (fun e : EReal => -e) (v76_eq m h ⟨s.val - 32, by omega⟩ j n r)).trans (EReal.coe_neg _).symm

theorem u83 (i : S4x64x128x4.Idx) : (StableHlo.upto (List.flatten [hostOps0 (F := Ideal), hostOps0_1, hostOps0_2]) (fun b => m (c, b)) 108
    (Proc.devRef .tc main_v83) : S4x64x128x4.Idx → EReal) i = (V m c main_v81 : S4x64x128x4.Idx → EReal) i := by
  unfold V; after_reads_simp; rfl
theorem u86 (i : S4x64x128x4.Idx) {a : EReal} (ha : (V m c main_v81 : S4x64x128x4.Idx → EReal) i = a) :
    (StableHlo.upto (List.flatten [hostOps0 (F := Ideal), hostOps0_1, hostOps0_2]) (fun b => m (c, b)) 108
      (Proc.devRef .tc main_v86) : S4x64x128x4.Idx → EReal) i = a - a := by
  rw [← ha]; unfold V; after_reads_simp; rfl
theorem u87 (i : S4x64x128x4.Idx) {a : EReal} (ha : (V m c main_v81 : S4x64x128x4.Idx → EReal) i = a) :
    (StableHlo.upto (List.flatten [hostOps0 (F := Ideal), hostOps0_1, hostOps0_2]) (fun b => m (c, b)) 108
      (Proc.devRef .tc main_v87) : S4x64x128x4.Idx → EReal) i = (a - a) - (a - a) := by
  rw [← ha]; unfold V; after_reads_simp; rfl

theorem v90 (h : Args m D c) (j : Fin 4) (y : Fin 8192) (l : Fin 128) : (V m c main_v90 : S4x8192x128.Idx → EReal) (ix3 j y l)
    = ((if hl : l.val < 4 then entry D ⟨y.val / 128, by omega⟩ j ⟨l.val, hl⟩ ⟨y.val % 128, by omega⟩ else 0 : ℝ) : EReal) := by
  unfold V; after_reads_at
  split
  · exact (u83 m _).trans (v81_eq m h _ j _ _)
  · split
    · rw [u86 m _ (v81_eq m h _ j _ _), ← EReal.coe_sub, sub_self]
    · split
      · rw [u87 m _ (v81_eq m h _ j _ _), ← EReal.coe_sub, sub_self, ← EReal.coe_sub, sub_self]
      · after_reads_at; rfl

theorem entry_lo (D : Data) (y : Fin 4096) (j n : Fin 4) : entry D ⟨y.val / 128, by omega⟩ j n ⟨y.val % 128, by omega⟩
    = -(D.blk ⟨y.val / 128, by omega⟩ j).L n ⟨y.val % 128, by omega⟩ := by
  unfold entry; rw [dif_pos (by simp only; omega)]
theorem entry_hi (D : Data) (y : Fin 4096) (j n : Fin 4) : entry D ⟨(4096 + y.val) / 128, by omega⟩ j n ⟨(4096 + y.val) % 128, by omega⟩
    = -(D.blk ⟨y.val / 128, by omega⟩ j).δ n ⟨y.val % 128, by omega⟩ := by
  unfold entry; rw [dif_neg (by simp only; omega)]
  have e : (⟨(4096 + y.val) / 128 - 32, by omega⟩ : Fin 32) = ⟨y.val / 128, by omega⟩ := Fin.ext (by simp only; omega)
  have e' : (⟨(4096 + y.val) % 128, by omega⟩ : Fin 128) = ⟨y.val % 128, by omega⟩ := Fin.ext (by simp only; omega)
  rw [e']; exact congrArg (fun b => -(D.blk b j).δ n _) e

theorem v99 (h : Args m D c) (j : Fin 4) (y : Fin 4096) (l : Fin 128) : (V m c main_v99 : S4x4096x128.Idx → EReal) (ix3 j y l)
    = ((if hl : l.val < 4 then -(D.blk ⟨y.val / 128, by omega⟩ j).L ⟨l.val, hl⟩ ⟨y.val % 128, by omega⟩ else 0 : ℝ) : EReal) := by
  have e : (V m c main_v99 : S4x4096x128.Idx → EReal) = extractStridedSlice S4x4096x128 ![0, 0, 0] (V m c main_v90 : S4x8192x128.Idx → EReal)
      slices_S4x8192x128_S4x4096x128_0_0_0 := by unfold V; after_reads_simp
  rw [e]; pointwise
  refine (v90 m h _ _ _).trans (congrArg _ ?_)
  split
  · exact entry_lo D y j _
  · rfl
theorem v100 (h : Args m D c) (j : Fin 4) (y : Fin 4096) (l : Fin 128) : (V m c main_v100 : S4x4096x128.Idx → EReal) (ix3 j y l)
    = ((if hl : l.val < 4 then -(D.blk ⟨y.val / 128, by omega⟩ j).δ ⟨l.val, hl⟩ ⟨y.val % 128, by omega⟩ else 0 : ℝ) : EReal) := by
  have e : (V m c main_v100 : S4x4096x128.Idx → EReal) = extractStridedSlice S4x4096x128 ![0, 4096, 0] (V m c main_v90 : S4x8192x128.Idx → EReal)
      slices_S4x8192x128_S4x4096x128_0_4096_0 := by unfold V; after_reads_simp
  rw [e]; pointwise
  refine (v90 m h _ _ _).trans (congrArg _ ?_)
  split
  · exact entry_hi D y j _
  · rfl

/-! ## The arguments in slabs of 128 lanes -/

theorem v92 (h : Args m D c) (j n : Fin 4) (s : Fin 2) (hh : Fin 2) (hn : n.val = 2 * s.val + hh.val) (y : Fin 4096) (k : Fin 64) :
    (V m c main_v92 : S8x4096x128.Idx → EReal) (ix3 ⟨2 * j.val + s.val, by omega⟩ y (lane hh k)) = ((D.q y (colQ j n k) : ℝ) : EReal) := by
  unfold V; after_reads_at
  exact arg_q m h _ _ _ _ _ _ rfl (by unfold lane; simp only; omega)
theorem v98 (h : Args m D c) (j n : Fin 4) (s : Fin 2) (hh : Fin 2) (hn : n.val = 2 * s.val + hh.val) (y : Fin 4096) (k : Fin 64) :
    (V m c main_v98 : S8x4096x128.Idx → EReal) (ix3 ⟨2 * j.val + s.val, by omega⟩ y (lane hh k)) = ((D.g y (colQ j n k) : ℝ) : EReal) := by
  unfold V; after_reads_at
  exact arg_g m h _ _ _ _ _ _ rfl (by unfold lane; simp only; omega)
theorem v94 (h : Args m D c) (j : Fin 4) (y : Fin 4096) (k : Fin 64) :
    (V m c main_v94 : S2x4096x128.Idx → EReal) (ix3 ⟨j.val / 2, by omega⟩ y (lane ⟨j.val % 2, by omega⟩ k)) = ((D.k y (colK j k) : ℝ) : EReal) := by
  unfold V; after_reads_at
  exact arg_k m h _ _ j k (by unfold lane; simp only; omega)
theorem v96 (h : Args m D c) (j : Fin 4) (y : Fin 4096) (k : Fin 64) :
    (V m c main_v96 : S2x4096x128.Idx → EReal) (ix3 ⟨j.val / 2, by omega⟩ y (lane ⟨j.val % 2, by omega⟩ k)) = ((D.v y (colK j k) : ℝ) : EReal) := by
  unfold V; after_reads_at
  exact arg_v m h _ _ j k (by unfold lane; simp only; omega)

end Cert.Kernel3Ideal.Attn
end
-- ==== Proof.Attn.Inputs.lean ====
/- What the attention's gradient kernel finds in its input blocks. -/
module

public import proofs.«01_k».proof.Proof.Attn.Host
public import proofs.«01_k».proof.Proof.Attn.Frame

@[expose] public section
set_option maxRecDepth 16384
noncomputable section

namespace Cert.Kernel3Ideal.Attn
open Cert.Kernel3Ideal Cert.Kernel3Ideal.Gen Idealize.ShloMosaic Idealize.ShloMosaic.TcCoe Idealize.SL.Sem Cert.Common
open Cert.Attn

variable (m : (ℓ : Loc nD τ sig) → Buf (Elt Ideal) ℓ) {D : Data} {c : Dev nD}

/-- Which block of its array each window shows at a point. -/
theorem idx : ∀ t, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val / 2, 0, 0] ∧ win0_5.index t = ![(grid0.coords t 0).val / 2, 0, 0]
    ∧ win0_6.index t = ![0, (grid0.coords t 0).val, 0, 0] ∧ win0_7.index t = ![(grid0.coords t 0).val, (grid0.coords t 1).val, 0]
    ∧ win0_8.index t = ![(grid0.coords t 0).val, 0, 0] := by decide +kernel

theorem coord : ∀ t : Fin cfg0.N, (grid0.coords t 0).val = t.val / 2 ∧ (grid0.coords t 1).val = t.val % 2 := by decide +kernel

/-! ## The blocks -/

theorem i0 (h : Args m D c) (t : Fin cfg0.N) (s : Fin 2) (r : Fin 2048) (hh : Fin 2) (k : Fin 64) :
    (iblk m c 0 t : Vec Ideal S2x2048x128 .f32) (ix3 s r (lane hh k))
      = ((D.q (posC (grid0.coords t) r) (colQ (jj (grid0.coords t)) ⟨2 * s.val + hh.val, by omega⟩ k) : ℝ) : EReal) := by
  rw [← v92 m h (jj (grid0.coords t)) _ s hh rfl]; unfold posC jj; blk_ext [iblk, idx t]
theorem i1 (h : Args m D c) (t : Fin cfg0.N) (s : Fin 2) (r : Fin 2048) (hh : Fin 2) (k : Fin 64) :
    (iblk m c 1 t : Vec Ideal S2x2048x128 .f32) (ix3 s r (lane hh k))
      = ((D.g (posC (grid0.coords t) r) (colQ (jj (grid0.coords t)) ⟨2 * s.val + hh.val, by omega⟩ k) : ℝ) : EReal) := by
  rw [← v98 m h (jj (grid0.coords t)) _ s hh rfl]; unfold posC jj; blk_ext [iblk, idx t]

theorem blk_row (t : Fin cfg0.N) (r : Fin 2048) :
    (⟨(posC (grid0.coords t) r).val / 128, by omega⟩ : Fin 32) = blkC (grid0.coords t) r := by
  apply Fin.ext; show (2048 * (grid0.coords t 1).val + r.val) / 128 = 16 * (grid0.coords t 1).val + r.val / 128; omega
theorem row_row (t : Fin cfg0.N) (r : Fin 2048) :
    (⟨(posC (grid0.coords t) r).val % 128, by omega⟩ : Fin 128) = rowC r := by
  apply Fin.ext; show (2048 * (grid0.coords t 1).val + r.val) % 128 = r.val % 128; omega

theorem read2 (A : S4x4096x128.Idx → EReal) (t : Fin cfg0.N) (r : Fin 2048) (l : Fin 128) :
    (((cfg0.win 2).blk t).view.read (Elt Ideal) A : Vec Ideal S1x2048x128 .f32) (ix3 0 r l) = A (ix3 (jj (grid0.coords t)) (posC (grid0.coords t) r) l) := by
  unfold posC jj; blk_ext [idx t]
theorem read3 (A : S4x4096x128.Idx → EReal) (t : Fin cfg0.N) (r : Fin 2048) (l : Fin 128) :
    (((cfg0.win 3).blk t).view.read (Elt Ideal) A : Vec Ideal S1x2048x128 .f32) (ix3 0 r l) = A (ix3 (jj (grid0.coords t)) (posC (grid0.coords t) r) l) := by
  unfold posC jj; blk_ext [idx t]
theorem read6 (A : S2x4x512x256.Idx → EReal) (t : Fin cfg0.N) (s : Fin 2) (r : Fin 512) (y : Fin 256) :
    (((cfg0.win 6).blk t).view.read (Elt Ideal) A : Vec Ideal S2x1x512x256 .f32) (ix4 s 0 r y) = A (ix4 s (jj (grid0.coords t)) r y) := by
  unfold jj; blk_ext [idx t]

theorem i2 (h : Args m D c) (t : Fin cfg0.N) (r : Fin 2048) (l : Fin 128) : (iblk m c 2 t : Vec Ideal S1x2048x128 .f32) (ix3 0 r l)
    = ((if hl : l.val < 4 then -(D.blk (blkC (grid0.coords t) r) (jj (grid0.coords t))).L ⟨l.val, hl⟩ (rowC r) else 0 : ℝ) : EReal) := by
  rw [← blk_row, ← row_row t]
  exact (read2 (V m c main_v99) t r l).trans (v99 m h _ _ l)
theorem i3 (h : Args m D c) (t : Fin cfg0.N) (r : Fin 2048) (l : Fin 128) : (iblk m c 3 t : Vec Ideal S1x2048x128 .f32) (ix3 0 r l)
    = ((if hl : l.val < 4 then -(D.blk (blkC (grid0.coords t) r) (jj (grid0.coords t))).δ ⟨l.val, hl⟩ (rowC r) else 0 : ℝ) : EReal) := by
  rw [← blk_row, ← row_row t]
  exact (read3 (V m c main_v100) t r l).trans (v100 m h _ _ l)
theorem i4 (h : Args m D c) (t : Fin cfg0.N) (y : Fin 4096) (k : Fin 64) :
    (iblk m c 4 t : Vec Ideal S1x4096x128 .f32) (ix3 0 y (lane (half (grid0.coords t)) k)) = ((D.k y (colK (jj (grid0.coords t)) k) : ℝ) : EReal) := by
  rw [← v94 m h]; unfold jj half; blk_ext [iblk, idx t]
theorem i5 (h : Args m D c) (t : Fin cfg0.N) (y : Fin 4096) (k : Fin 64) :
    (iblk m c 5 t : Vec Ideal S1x4096x128 .f32) (ix3 0 y (lane (half (grid0.coords t)) k)) = ((D.v y (colK (jj (grid0.coords t)) k) : ℝ) : EReal) := by
  rw [← v96 m h]; unfold jj half; blk_ext [iblk, idx t]
theorem i6 (t : Fin cfg0.N) (b : Fin 32) (s : Fin 2) (hs : s.val = min b.val 1) (n : Fin 4) (r : Fin 128) (y : Fin 256) :
    (iblk m c 6 t : Vec Ideal S2x1x512x256 .f32) (ix4 s 0 (at4 n r) y)
      = if ok b r y then (((D.blk b (jj (grid0.coords t))).bias n r y : ℝ) : EReal) else ⊥ := by
  obtain rfl : s = tbl b := Fin.ext hs
  exact (read6 (V m c main_v46) t (tbl b) (at4 n r) y).trans (v46 m b _ n r y)

/-- The seven blocks of a grid point, one after the other. -/
theorem holds_of {i : grid0.Coords} (q d : Vec Ideal S2x2048x128 .f32) (l e : Vec Ideal S1x2048x128 .f32)
    (k v : Vec Ideal S1x4096x128 .f32) (b : Vec Ideal S2x1x512x256 .f32)
    (hq : ∀ (s : Fin 2) (r : Fin 2048) (h : Fin 2) (c : Fin 64), q (ix3 s r (lane h c)) = ((D.q (posC i r) (colQ (jj i) ⟨2 * s.val + h.val, by omega⟩ c) : ℝ) : EReal))
    (hd : ∀ (s : Fin 2) (r : Fin 2048) (h : Fin 2) (c : Fin 64), d (ix3 s r (lane h c)) = ((D.g (posC i r) (colQ (jj i) ⟨2 * s.val + h.val, by omega⟩ c) : ℝ) : EReal))
    (hl : ∀ (r : Fin 2048) (y : Fin 128), l (ix3 0 r y) = ((if h : y.val < 4 then -(D.blk (blkC i r) (jj i)).L ⟨y.val, h⟩ (rowC r) else 0 : ℝ) : EReal))
    (he : ∀ (r : Fin 2048) (y : Fin 128), e (ix3 0 r y) = ((if h : y.val < 4 then -(D.blk (blkC i r) (jj i)).δ ⟨y.val, h⟩ (rowC r) else 0 : ℝ) : EReal))
    (hk : ∀ (y : Fin 4096) (c : Fin 64), k (ix3 0 y (lane (half i) c)) = ((D.k y (colK (jj i) c) : ℝ) : EReal))
    (hv : ∀ (y : Fin 4096) (c : Fin 64), v (ix3 0 y (lane (half i) c)) = ((D.v y (colK (jj i) c) : ℝ) : EReal))
    (hb : ∀ (a : Fin 32) (s : Fin 2) (_ : s.val = min a.val 1) (n : Fin 4) (r : Fin 128) (y : Fin 256),
      b (ix4 s 0 (at4 n r) y) = if ok a r y then (((D.blk a (jj i)).bias n r y : ℝ) : EReal) else ⊥) :
    Holds D i (⟨q, d, l, e, k, v, b⟩ : Ins Ideal) :=
  ⟨hq, hd, hl, he, hk, hv, fun a s hs n r y => ⟨fun ho => (hb a s hs n r y).trans (if_pos ho), fun ho => (hb a s hs n r y).trans (if_neg ho)⟩⟩

theorem holds (h : Args m D c) (t : Fin cfg0.N) : Holds D (grid0.coords t) (insAt m c t) := by
  unfold insAt
  exact holds_of (iblk m c 0 t) (iblk m c 1 t) (iblk m c 2 t) (iblk m c 3 t) (iblk m c 4 t) (iblk m c 5 t) (iblk m c 6 t)
    (i0 m h t) (i1 m h t) (i2 m h t) (i3 m h t) (i4 m h t) (i5 m h t) (i6 m t)

end Cert.Kernel3Ideal.Attn
end
-- ==== Proof.Attn.Arrays.lean ====
/- What the attention's gradient kernel leaves in its two arrays: the gradient of the queries, and those of keys and values. -/
module

public import proofs.«01_k».proof.Proof.Attn.Inputs

@[expose] public section
set_option maxRecDepth 16384
noncomputable section

namespace Cert.Kernel3Ideal.Attn
open Cert.Kernel3Ideal Cert.Kernel3Ideal.Gen Idealize.ShloMosaic Idealize.ShloMosaic.TcCoe Idealize.SL.Sem Cert.Common
open Cert.Attn

variable (m : (ℓ : Loc nD τ sig) → Buf (Elt Ideal) ℓ) {D : Data} {c : Dev nD}

/-! ## The arrays -/

def hi (l : Fin 128) : Fin 2 := ⟨l.val / 64, by omega⟩
def lo (l : Fin 128) : Fin 64 := ⟨l.val % 64, by omega⟩
theorem lane_hi_lo (l : Fin 128) : lane (hi l) (lo l) = l := Fin.ext (by unfold lane hi lo; simp only; omega)

/-- The gradient of the queries at slab `a` (two heads of one key head), row `r`, lane `l`. -/
def dqAt (D : Data) (a : Fin 8) (r : Fin 4096) (l : Fin 128) : ℝ :=
  D.dq ⟨a.val / 2, by omega⟩ r ⟨2 * (a.val % 2) + (hi l).val, by have := (hi l).isLt; omega⟩ (lo l)
def DqOf (D : Data) : S8x4096x128.Idx → EReal := fun u => ((dqAt D (u 0) (u 1) (u 2) : ℝ) : EReal)
def DkvOf (D : Data) : S4x4096x128.Idx → EReal := fun u => ((D.both (u 0) (side (hi (u 2))) (u 1) (lo (u 2)) : ℝ) : EReal)

theorem dq_pos (t : Fin cfg0.N) (r : Fin 2048) (n : Fin 4) (k : Fin 64) :
    D.dq (jj (grid0.coords t)) (posC (grid0.coords t) r) n k = (D.blk (blkC (grid0.coords t) r) (jj (grid0.coords t))).dq n (rowC r) k := by
  unfold Data.dq; rw [blk_row, row_row]

def slab (t : Fin cfg0.N) (a : Fin 2) : Fin 8 := ⟨2 * (jj (grid0.coords t)).val + a.val, by have := (jj (grid0.coords t)).isLt; omega⟩

theorem dqAt_slab (t : Fin cfg0.N) (a : Fin 2) (r : Fin 2048) (l : Fin 128) : dqAt D (slab t a) (posC (grid0.coords t) r) l
    = (D.blk (blkC (grid0.coords t) r) (jj (grid0.coords t))).dq ⟨2 * a.val + (hi l).val, by have := (hi l).isLt; omega⟩ (rowC r) (lo l) := by
  have e1 : (⟨(slab t a).val / 2, by omega⟩ : Fin 4) = jj (grid0.coords t) := Fin.ext (by show (2 * (jj (grid0.coords t)).val + a.val) / 2 = _; omega)
  have e2 : (slab t a).val % 2 = a.val := by show (2 * (jj (grid0.coords t)).val + a.val) % 2 = _; omega
  unfold dqAt
  simp only [e1, e2]
  exact dq_pos t r _ _

theorem out7 (h : Args m D c) (t : Fin cfg0.N) (a : Fin 2) (r : Fin 2048) (l : Fin 128) :
    (dqV (insAt m c t) (odd (grid0.coords t)) (grid0.coords t) : S2x2048x128.Idx → EReal) (ix3 a r l)
      = ((dqAt D (slab t a) (posC (grid0.coords t) r) l : ℝ) : EReal) := by
  rw [dqAt_slab]
  refine Eq.trans (congrArg _ ?_) (dqV_eq (holds m h t) a r (hi l) (lo l))
  rw [lane_hi_lo]

theorem f7 (h : Args m D c) : (dats m 0 c).arrAt 7 cfg0.N = DqOf D := by
  refine (dats m 0 c).arrAt_eq_of_covers 7 _ (by decide +kernel) fun t hf y => ?_
  have e0 : (((cfg0.win 7).blk t).view.emb y) 0 = slab t (y 0) := by
    apply Fin.ext; blk_simp [idx t]; simp only [slab, jj]; omega
  have e1 : (((cfg0.win 7).blk t).view.emb y) 1 = posC (grid0.coords t) (y 1) := by
    apply Fin.ext; blk_simp [idx t]; simp only [posC]; omega
  have e2 : (((cfg0.win 7).blk t).view.emb y) 2 = y 2 := by
    apply Fin.ext; blk_simp [idx t]
  unfold DqOf
  simp only [e0, e1, e2]
  blk_simp
  rw [after7]
  exact (congrArg _ (ix3_eta (y : _)).symm).trans (out7 m h t (y 0) (y 1) (y 2))

theorem acc_even (h : Args m D c) (t : Fin cfg0.N) (ht : t.val % 2 = 0) :
    Real3 (fun y hh k => ∑ n ∈ Finset.range 16, part D (jj (grid0.coords t)) (16 * 0 + n) y hh k) (accAt m c t.val t.isLt) := by
  have hz : Real3 (fun _ _ _ => 0) (k0_pay2 (F := Ideal)) := by
    intro y hh k; unfold k0_pay2; pointwise; rfl
  rw [accAt_even m c t ht]
  unfold accStep
  rw [trips1]
  intro y hh k
  refine (sumsV_eq (holds m h t) hz 16 (le_refl _) y hh k).trans (congrArg _ ?_)
  beta_reduce
  rw [zero_add, (coord t).2, ht]

theorem acc_odd (h : Args m D c) (t : Fin cfg0.N) (ht : t.val % 2 = 1) :
    Real3 (fun y hh k => D.both (jj (grid0.coords t)) (side hh) y k) (accAt m c t.val t.isLt) := by
  have hp : t.val - 1 < cfg0.N := Nat.lt_of_le_of_lt (Nat.sub_le _ _) t.isLt
  have hj : jj (grid0.coords ⟨t.val - 1, hp⟩) = jj (grid0.coords t) := Fin.ext (by
    show (grid0.coords ⟨t.val - 1, hp⟩ 0).val = (grid0.coords t 0).val
    rw [(coord _).1, (coord _).1]; simp only; omega)
  have he := acc_even m h ⟨t.val - 1, hp⟩ (by simp only; omega)
  rw [hj] at he
  rw [accAt_odd m c t ht]
  unfold accStep
  rw [trips1]
  intro y hh k
  refine (sumsV_eq (holds m h t) he 16 (le_refl _) y hh k).trans (congrArg _ ?_)
  beta_reduce
  rw [(coord t).2, ht]
  exact sum_part D _ y hh k

theorem f8 (h : Args m D c) : (dats m 0 c).arrAt 8 cfg0.N = DkvOf D := by
  refine (dats m 0 c).arrAt_eq_of_covers 8 _ (by decide +kernel) fun t hf y => ?_
  have ht : t.val % 2 = 1 := (flush0_8 t).mp hf
  have e0 : (((cfg0.win 8).blk t).view.emb y) 0 = jj (grid0.coords t) := by
    apply Fin.ext; blk_simp [idx t]; unfold jj; simp only
  have e1 : (((cfg0.win 8).blk t).view.emb y) 1 = y 1 := by
    apply Fin.ext; blk_simp [idx t]
  have e2 : (((cfg0.win 8).blk t).view.emb y) 2 = y 2 := by
    apply Fin.ext; blk_simp [idx t]
  unfold DkvOf
  simp only [e0, e1, e2]
  blk_simp
  rw [after8]
  exact (congrArg (accAt m c t.val t.isLt) (congrArg _ (lane_hi_lo (y 2)).symm)).trans (acc_odd m h t ht (y 1) (hi (y 2)) (lo (y 2)))
end Cert.Kernel3Ideal.Attn
end
-- ==== Proof.Attn.Reference.lean ====
/- What the derivative of the attention holds at an index: the reference's intermediate arrays, block by block. -/
module

public import proofs.«01_k».proof.Proof.Gen.Reference3Ideal.Run
public import proofs.«01_k».proof.Proof.Attn.Soft
public import proofs.«01_k».proof.Proof.Attn.Keys
public import Idealize.ShloMosaic.Lib.Pipeline.ValueKit
public import Idealize.ShloMosaic.Lib.Pointwise
public import Idealize.ShloMosaic.Lib.Tactic.CleanTypes

@[expose] public section
set_option maxRecDepth 16384
noncomputable section

namespace Cert.Reference3Ideal.Attn

open Cert.Reference3Ideal Cert.Reference3Ideal.Gen Cert.Reference3Ideal.Value Cert.Common Cert.Attn
open Idealize.ShloMosaic Idealize.ShloMosaic.TcCoe Idealize.SL.Sem Idealize.ShloMosaic.StableHlo

/-- The reference's arguments hold the real arrays `D`. -/
structure Holds (D : Data) (V0 : Valuation τ sig (Elt Ideal)) : Prop where
  q : ∀ i k, (V0 (Proc.devRef .tc main_arg0) : S1x4096x1024.Idx → EReal) (ix3 0 i k) = ((D.q i k : ℝ) : EReal)
  k : ∀ i k, (V0 (Proc.devRef .tc main_arg1) : S1x4096x256.Idx → EReal) (ix3 0 i k) = ((D.k i k : ℝ) : EReal)
  v : ∀ i k, (V0 (Proc.devRef .tc main_arg2) : S1x4096x256.Idx → EReal) (ix3 0 i k) = ((D.v i k : ℝ) : EReal)
  g : ∀ i k, (V0 (Proc.devRef .tc main_arg3) : S1x4096x1024.Idx → EReal) (ix3 0 i k) = ((D.g i k : ℝ) : EReal)
  e : ∀ i k, (V0 (Proc.devRef .tc main_arg4) : S1x4096x16.Idx → EReal) (ix3 0 i k) = ((D.e i k : ℝ) : EReal)

variable {D : Data} {V0 : Valuation τ sig (Elt Ideal)}

theorem at_q (h : Holds D V0) (i i' : Fin 4096) (k : Fin 1024) (j n : Fin 4) (y : Fin 64) (hi : i.val = i'.val) (hk : k.val = 256 * j.val + 64 * n.val + y.val) :
    (V0 (Proc.devRef .tc main_arg0) : S1x4096x1024.Idx → EReal) (ix3 0 i k) = ((D.q i' (colQ j n y) : ℝ) : EReal) := by
  obtain rfl : k = colQ j n y := Fin.ext hk
  obtain rfl := Fin.ext hi
  exact h.q _ _
theorem at_g (h : Holds D V0) (i i' : Fin 4096) (k : Fin 1024) (j n : Fin 4) (y : Fin 64) (hi : i.val = i'.val) (hk : k.val = 256 * j.val + 64 * n.val + y.val) :
    (V0 (Proc.devRef .tc main_arg3) : S1x4096x1024.Idx → EReal) (ix3 0 i k) = ((D.g i' (colQ j n y) : ℝ) : EReal) := by
  obtain rfl : k = colQ j n y := Fin.ext hk
  obtain rfl := Fin.ext hi
  exact h.g _ _
theorem at_e (h : Holds D V0) (i i' : Fin 4096) (k : Fin 16) (j n : Fin 4) (hi : i.val = i'.val) (hk : k.val = 4 * j.val + n.val) :
    (V0 (Proc.devRef .tc main_arg4) : S1x4096x16.Idx → EReal) (ix3 0 i k) = ((D.e i' (colE j n) : ℝ) : EReal) := by
  obtain rfl : k = colE j n := Fin.ext hk
  obtain rfl := Fin.ext hi
  exact h.e _ _
theorem at_k (h : Holds D V0) (i : Fin 4096) (k : Fin 256) (j : Fin 4) (y : Fin 64) (hk : k.val = 64 * j.val + y.val) :
    (V0 (Proc.devRef .tc main_arg1) : S1x4096x256.Idx → EReal) (ix3 0 i k) = ((D.k i (colK j y) : ℝ) : EReal) := by
  obtain rfl : k = colK j y := Fin.ext hk
  exact h.k _ _
theorem at_v (h : Holds D V0) (i : Fin 4096) (k : Fin 256) (j : Fin 4) (y : Fin 64) (hk : k.val = 64 * j.val + y.val) :
    (V0 (Proc.devRef .tc main_arg2) : S1x4096x256.Idx → EReal) (ix3 0 i k) = ((D.v i (colK j y) : ℝ) : EReal) := by
  obtain rfl : k = colK j y := Fin.ext hk
  exact h.v _ _

theorem v17 (h : Holds D V0) (b : Fin 32) (r : Fin 128) (j n : Fin 4) (y : Fin 64) :
    (res_main_v17 V0 : S1x1x32x128x4x4x64.Idx → EReal) (ix7 0 0 b r j n y) = (((D.blk0 b j).Q n r y : ℝ) : EReal) := by
  unfold res_main_v17
  pointwise
  rw [dif_pos (by omega : b.val * 128 + r.val < 4096)]
  exact at_q h _ _ _ _ _ _ (by unfold pos; simp only; omega) (by simp only; omega)
theorem v123 (h : Holds D V0) (b : Fin 32) (r : Fin 128) (j n : Fin 4) (y : Fin 64) :
    (res_main_v123 V0 : S1x1x32x128x4x4x64.Idx → EReal) (ix7 0 0 b r j n y) = (((D.blk0 b j).G n r y : ℝ) : EReal) := by
  unfold res_main_v123
  pointwise
  exact at_g h _ _ _ _ _ _ (by unfold pos; simp only; omega) (by simp only; omega)
theorem v120 (h : Holds D V0) (b : Fin 32) (r : Fin 128) (j n : Fin 4) :
    (res_main_v120 V0 : S1x1x32x128x4x4.Idx → EReal) (ix6 0 0 b r j n) = (((D.blk0 b j).E n r : ℝ) : EReal) := by
  unfold res_main_v120
  pointwise
  exact at_e h _ _ _ _ _ (by unfold pos; simp only; omega) (by simp only; omega)
theorem v21 (h : Holds D V0) (b : Fin 32) (r : Fin 128) (j : Fin 4) (y : Fin 64) :
    (res_main_v21 V0 : S1x1x32x128x4x64.Idx → EReal) (ix6 0 0 b r j y) = ((D.k ⟨b.val * 128 + r.val, by omega⟩ (colK j y) : ℝ) : EReal) := by
  unfold res_main_v21
  pointwise
  rw [dif_pos (by omega : b.val * 128 + r.val < 4096)]
  exact at_k h _ _ _ _ (by simp only; omega)
theorem v31 (h : Holds D V0) (b : Fin 32) (r : Fin 128) (j : Fin 4) (y : Fin 64) :
    (res_main_v31 V0 : S1x1x32x128x4x64.Idx → EReal) (ix6 0 0 b r j y) = ((D.v ⟨b.val * 128 + r.val, by omega⟩ (colK j y) : ℝ) : EReal) := by
  unfold res_main_v31
  pointwise
  rw [dif_pos (by omega : b.val * 128 + r.val < 4096)]
  exact at_v h _ _ _ _ (by simp only; omega)

theorem v27 (h : Holds D V0) (b : Fin 32) (x : Fin 256) (j : Fin 4) (y : Fin 64) :
    (res_main_v27 V0 : S1x1x32x256x4x64.Idx → EReal) (ix6 0 0 b x j y) = (((D.blk0 b j).K x y : ℝ) : EReal) := by
  have h21 := v21 h
  unfold res_main_v27
  generalize res_main_v21 V0 = w at h21
  refine keys (fun i => D.k i (colK j y)) b x _ (fun hx hb => ?_) (fun hx hb => ?_) (fun hx => ?_)
  · pointwise; rw [dif_pos hx, dif_pos hb]
  · pointwise; rw [dif_pos hx, dif_neg hb]; exact h21 ⟨b.val - 1, by omega⟩ ⟨x.val, hx⟩ j y
  · pointwise; rw [dif_neg hx]; exact h21 b ⟨x.val - 128, by omega⟩ j y
theorem v37 (h : Holds D V0) (b : Fin 32) (x : Fin 256) (j : Fin 4) (y : Fin 64) :
    (res_main_v37 V0 : S1x1x32x256x4x64.Idx → EReal) (ix6 0 0 b x j y) = (((D.blk0 b j).V x y : ℝ) : EReal) := by
  have h31 := v31 h
  unfold res_main_v37
  generalize res_main_v31 V0 = w at h31
  refine keys (fun i => D.v i (colK j y)) b x _ (fun hx hb => ?_) (fun hx hb => ?_) (fun hx => ?_)
  · pointwise; rw [dif_pos hx, dif_pos hb]
  · pointwise; rw [dif_pos hx, dif_neg hb]; exact h31 ⟨b.val - 1, by omega⟩ ⟨x.val, hx⟩ j y
  · pointwise; rw [dif_neg hx]; exact h31 b ⟨x.val - 128, by omega⟩ j y

theorem v48 (r : Fin 128) (x : Fin 256) : (res_main_v48 V0 : S128x256.Idx → BitVec 32) (ix2 r x)
    = IntOp.subi (IntOp.addi 128#32 (BitVec.ofNat 32 r.val)) (BitVec.ofNat 32 x.val) := by
  unfold res_main_v48 res_main_v43
  pointwise

theorem before_start : ∀ (b : Fin 32) (x : Fin 256),
    IntOp.cmpi .sge (IntOp.addi (IntOp.muli (IntOp.subi (BitVec.ofNat 32 b.val) 1#32) 128#32) (BitVec.ofNat 32 x.val)) 0#32 = 1#1
      ↔ 128 ≤ 128 * b.val + x.val := by decide +kernel

theorem v83_1 (b : Fin 32) (j n : Fin 4) (r : Fin 128) (x : Fin 256) :
    (res_main_v83_1 V0 : S1x1x32x4x4x128x256.Idx → BitVec 1) (ix7 0 0 b j n r x) = 1#1 ↔ ok b r x := by
  have h48 := v48 (V0 := V0)
  unfold res_main_v83_1 res_main_v43
  generalize res_main_v48 V0 = w at h48
  pointwise
  rw [h48, and_one, dist_near, before_start]
  rfl

/-- The penalty the bias adds at a key. -/
theorem penalty (r : Fin 128) (x : Fin 256) (h : Fin 16) (b : Nat) (hb : b = h.val) :
    -Ideal.exp (Ideal.ofBits FTy.f32 1060205080#32 * Ideal.div
          (Ideal.ofBits FTy.f32 3238002688#32 * (FloatOps.sitofp (F := Ideal) FTy.f32 (BitVec.ofNat 32 b) + 1))
          (Ideal.ofBits FTy.f32 1098907648#32))
        * FloatOps.sitofp (F := Ideal) FTy.f32
          (IntOp.muli (IntOp.subi (IntOp.addi 128#32 (BitVec.ofNat 32 r.val)) (BitVec.ofNat 32 x.val)) 1#32)
      = ((-slope h * ((128 + (r.val : ℤ) - x.val : ℤ) : ℝ) : ℝ) : EReal) := by
  subst hb
  have hs : ∀ w : BitVec 32, (FloatOps.sitofp (F := Ideal) FTy.f32 w) = ((w.toInt : ℝ) : EReal) := fun _ => rfl
  rw [muli_one, hs, hs, dist_toInt, head_toInt, Int.cast_natCast, slope_eq, ← EReal.coe_neg, ← EReal.coe_mul]

theorem scores (h : Holds D V0) (b : Fin 32) (j n : Fin 4) (r : Fin 128) :
    (D.blk0 b j).Row n r (fun x => (res_main_v83_0 V0 : S1x1x32x4x4x128x256.Idx → EReal) (ix7 0 0 b j n r x)) := by
  intro x
  have h27 := v27 h
  have h17 := v17 h
  have h48 := v48 (V0 := V0)
  have h83 := v83_1 (V0 := V0) b j n r x
  unfold res_main_v83_0
  generalize res_main_v83_1 V0 = w1 at h83 ⊢
  generalize res_main_v48 V0 = w at h48 ⊢
  generalize res_main_v27 V0 = wk at h27 ⊢
  generalize res_main_v17 V0 = wq at h17 ⊢
  pointwise
  simp only [h27, h17, h48]
  rw [penalty r x (colE j n) _ (by unfold colE; simp only; omega)]
  refine ⟨fun hx => ?_, fun hx => ?_⟩
  · rw [h83.mpr hx]
    simp only [← EReal.coe_mul, ← coe_sum, mul_comm ((D.blk0 b j).K x _)]
    exact (EReal.coe_add _ _).symm
  · rw [one_bit _ (fun he => hx (h83.mp he))]
    exact ofBits_bot

/-- The entries that a reduction over the last axis brings together. -/
theorem row_mem {p q s t u : ℕ} (hr : (⟨7, ![1, 1, p, q, s, t, u]⟩ : Shape).ReducesTo [6] ⟨6, ![1, 1, p, q, s, t]⟩)
    (a : Fin p) (b : Fin q) (c : Fin s) (d : Fin t) (i : (⟨7, ![1, 1, p, q, s, t, u]⟩ : Shape).Idx) :
    i ∈ ({i | hr.drop i = ix6 0 0 a b c d} : Finset (⟨7, ![1, 1, p, q, s, t, u]⟩ : Shape).Idx) ↔ ∃ x, i = ix7 0 0 a b c d x := by
  rw [Finset.mem_filter]
  constructor
  · rintro ⟨-, h⟩
    refine ⟨i 6, (eq_ix7 i).trans ?_⟩
    have e : ∀ k, (hr.drop i k).val = (ix6 0 0 a b c d k : Fin _).val := fun k => by rw [h]
    have e0 : i 0 = (0 : Fin 1) := Fin.ext (e 0)
    have e1 : i 1 = (0 : Fin 1) := Fin.ext (e 1)
    have e2 : i 2 = a := Fin.ext (e 2)
    have e3 : i 3 = b := Fin.ext (e 3)
    have e4 : i 4 = c := Fin.ext (e 4)
    have e5 : i 5 = d := Fin.ext (e 5)
    rw [e0, e1, e2, e3, e4, e5]
  · rintro ⟨x, rfl⟩
    exact ⟨Finset.mem_univ _, eq_ix6 _⟩

theorem row_set (b : Fin 32) (j n : Fin 4) (r : Fin 128) (i : S1x1x32x4x4x128x256.Idx) :
    i ∈ ({i | reducesTo_S1x1x32x4x4x128x256_S1x1x32x4x4x128_d6.drop i = ix6 0 0 b j n r} : Finset S1x1x32x4x4x128x256.Idx)
      ↔ ∃ x, i = ix7 0 0 b j n r x := row_mem _ b j n r i

/-- A sum over the last axis. -/
theorem sum_last {p q s t u : ℕ} (hr : (⟨7, ![1, 1, p, q, s, t, u]⟩ : Shape).ReducesTo [6] ⟨6, ![1, 1, p, q, s, t]⟩)
    (x : (⟨7, ![1, 1, p, q, s, t, u]⟩ : Shape).Idx → EReal) (init : EReal) (a : Fin p) (b : Fin q) (c : Fin s) (d : Fin t) :
    Ideal.hostReduceAdd hr x init (ix6 0 0 a b c d) = init + ∑ y, x (ix7 0 0 a b c d y) := by
  unfold Ideal.hostReduceAdd
  refine congrArg (init + ·) (Finset.sum_nbij' (fun i => (i 6 : Fin u)) (fun y => ix7 0 0 a b c d y) ?_ ?_ ?_ ?_ ?_)
  · exact fun i _ => Finset.mem_univ _
  · exact fun y _ => (row_mem hr a b c d _).2 ⟨y, rfl⟩
  · intro i hi
    obtain ⟨y, rfl⟩ := (row_mem hr a b c d i).1 hi
    rfl
  · exact fun y _ => rfl
  · intro i hi
    obtain ⟨y, rfl⟩ := (row_mem hr a b c d i).1 hi
    rfl

/-- The greatest score of a row, which some key attains. -/
theorem greatest (h : Holds D V0) (b : Fin 32) (j n : Fin 4) (r : Fin 128) : ∃ M : ℝ,
    (res_main_v84 V0 : S1x1x32x4x4x128.Idx → EReal) (ix6 0 0 b j n r) = (M : EReal)
      ∧ ∃ x, (res_main_v83_0 V0 : S1x1x32x4x4x128x256.Idx → EReal) (ix7 0 0 b j n r x) = (M : EReal) := by
  have hr := scores h b j n r
  obtain ⟨M, hM, hx⟩ := hr.max (D.ok_some b j r) _ _ (row_set b j n r) (res_main_v83_0 V0) (fun _ => rfl)
  refine ⟨M, ?_, hx⟩
  unfold res_main_v84
  generalize res_main_v83_0 V0 = w at hM ⊢
  pointwise
  rw [ofBits_bot]; exact hM

theorem v93 (h : Holds D V0) (b : Fin 32) (j n : Fin 4) (r : Fin 128) (M : ℝ)
    (hM : (res_main_v84 V0 : S1x1x32x4x4x128.Idx → EReal) (ix6 0 0 b j n r) = (M : EReal)) (x : Fin 256) :
    (res_main_v93 V0 : S1x1x32x4x4x128x256.Idx → EReal) (ix7 0 0 b j n r x) = (((D.blk0 b j).w n r x * Real.exp (-M) : ℝ) : EReal) := by
  have hr := scores h b j n r
  unfold res_main_v93 res_main_v90
  generalize res_main_v83_0 V0 = w at hr ⊢
  generalize res_main_v84 V0 = w' at hM ⊢
  pointwise
  rw [hM]
  exact hr.exp_eq M x

theorem tie_word (b : Bool) : FloatOps.uitofp (F := Ideal) FTy.f32 (BitVec.ofBool b) = ((if b then 1 else 0 : ℝ) : EReal) := by
  cases b
  · show (((0 : ℕ) : ℝ) : EReal) = _; simp
  · show (((1 : ℕ) : ℝ) : EReal) = _; simp

/-- What the softmax of a row is made of: `M` its greatest score. -/
structure Soft (D : Data) (V0 : Valuation τ sig (Elt Ideal)) (M : Fin 32 → Fin 4 → Fin 4 → Fin 128 → ℝ) : Prop where
  top : ∀ b j n r, ∃ x, (res_main_v88 V0 : S1x1x32x4x4x128x256.Idx → EReal) (ix7 0 0 b j n r x) = ((1 : ℝ) : EReal)
  tie : ∀ b j n r x, (res_main_v88 V0 : S1x1x32x4x4x128x256.Idx → EReal) (ix7 0 0 b j n r x) = ((1 : ℝ) : EReal) ∨ (res_main_v88 V0 : S1x1x32x4x4x128x256.Idx → EReal) (ix7 0 0 b j n r x) = ((0 : ℝ) : EReal)
  ex : ∀ b j n r x, (res_main_v93 V0 : S1x1x32x4x4x128x256.Idx → EReal) (ix7 0 0 b j n r x) = (((D.blk0 b j).w n r x * Real.exp (-M b j n r) : ℝ) : EReal)
  sum : ∀ b r j n, (res_main_v97 V0 : S1x1x32x128x4x4.Idx → EReal) (ix6 0 0 b r j n) = (((D.blk0 b j).Z n r * Real.exp (-M b j n r) : ℝ) : EReal)
  num : ∀ b r j n y, (res_main_v96 V0 : S1x1x32x128x4x4x64.Idx → EReal) (ix7 0 0 b r j n y)
    = ((∑ x, (D.blk0 b j).w n r x * Real.exp (-M b j n r) * (D.blk0 b j).V x y : ℝ) : EReal)

theorem soft (h : Holds D V0) : ∃ M, Soft D V0 M := by
  choose M hM hx using greatest h
  have h93 := fun b j n r => v93 h b j n r (M b j n r) (hM b j n r)
  have h37 := v37 h
  refine ⟨M, ?_, ?_, h93, ?_, ?_⟩
  · intro b j n r
    obtain ⟨x, e⟩ := hx b j n r
    refine ⟨x, ?_⟩
    have hM := hM b j n r
    unfold res_main_v88
    generalize res_main_v83_0 V0 = w at e ⊢
    generalize res_main_v84 V0 = w' at hM ⊢
    pointwise
    rw [e, hM, tie_word, decide_eq_true rfl, if_pos rfl]
  · intro b j n r x
    unfold res_main_v88
    generalize res_main_v83_0 V0 = w
    generalize res_main_v84 V0 = w'
    pointwise
    rw [tie_word]
    split
    · exact Or.inl rfl
    · exact Or.inr rfl
  · intro b r j n
    unfold res_main_v97
    generalize res_main_v93 V0 = w at h93
    clean_types
    pointwise
    rw [sum_last, zero_add]
    simp only [h93]
    rw [← coe_sum, ← Finset.sum_mul]; rfl
  · intro b r j n y
    unfold res_main_v96
    generalize res_main_v93 V0 = w at h93
    generalize res_main_v37 V0 = w' at h37
    pointwise
    simp only [h93, h37, ← EReal.coe_mul, ← coe_sum]
    exact congrArg _ (Finset.sum_congr rfl fun x _ => mul_comm _ _)

/-! ## The gradient of a row's scores -/

/-- A sum over three axes of size one. -/
theorem sum_unit {p q s t : ℕ} (hr : (⟨7, ![1, 1, p, q, s, t, 1]⟩ : Shape).ReducesTo [0, 1, 6] ⟨4, ![p, q, s, t]⟩)
    (x : (⟨7, ![1, 1, p, q, s, t, 1]⟩ : Shape).Idx → EReal) (init : EReal) (a : Fin p) (b : Fin q) (c : Fin s) (d : Fin t) :
    Ideal.hostReduceAdd hr x init (ix4 a b c d) = init + x (ix7 0 0 a b c d 0) := by
  unfold Ideal.hostReduceAdd
  have hd : ∀ i, ((hr.drop i) 0).val = (i 2).val ∧ ((hr.drop i) 1).val = (i 3).val ∧ ((hr.drop i) 2).val = (i 4).val ∧ ((hr.drop i) 3).val = (i 5).val :=
    fun i => ⟨rfl, rfl, rfl, rfl⟩
  refine congrArg (init + ·) (Finset.sum_eq_single_of_mem (ix7 0 0 a b c d 0) ?_ ?_)
  · exact Finset.mem_filter.2 ⟨Finset.mem_univ _, eq_ix4 _⟩
  · intro j hj hne
    refine absurd (funext fun k => Fin.ext ?_) hne
    have h1 := fun k => congrArg Fin.val (congrFun (Finset.mem_filter.1 hj).2 k)
    obtain ⟨e0, e1, e2, e3⟩ := hd j
    match k with
    | 0 => have : (j 0).val < 1 := (j 0).isLt; show (j 0).val = 0; omega
    | 1 => have : (j 1).val < 1 := (j 1).isLt; show (j 1).val = 0; omega
    | 2 => exact e0.symm.trans (h1 0)
    | 3 => exact e1.symm.trans (h1 1)
    | 4 => exact e2.symm.trans (h1 2)
    | 5 => exact e3.symm.trans (h1 3)
    | 6 => have : (j 6).val < 1 := (j 6).isLt; show (j 6).val = 0; omega

variable {M : Fin 32 → Fin 4 → Fin 4 → Fin 128 → ℝ}

theorem v98 (hs : Soft D V0 M) (b : Fin 32) (r : Fin 128) (j n : Fin 4) :
    (res_main_v98 V0 : S1x1x32x128x4x4x1.Idx → EReal) (ix7 0 0 b r j n 0) = (((D.blk0 b j).Z n r * Real.exp (-M b j n r) : ℝ) : EReal) := by
  have h97 := hs.sum
  unfold res_main_v98
  generalize res_main_v97 V0 = w at h97
  pointwise
  exact h97 b r j n

theorem v139 (h : Holds D V0) (hs : Soft D V0 M) (b : Fin 32) (j : Fin 4) (y : Fin 64) (n : Fin 4) (r : Fin 128) :
    (res_main_v139 V0 : S1x1x32x4x64x4x128.Idx → EReal) (ix7 0 0 b j y n r)
      = (((D.blk0 b j).G n r y * (1 / ((D.blk0 b j).Z n r * Real.exp (-M b j n r))) : ℝ) : EReal) := by
  have h98 := v98 hs
  have h123 := v123 h
  have hz := Blk.Z_exp_pos (B := D.blk0 b j) (n := n) (D.ok_some b j r) (M b j n r)
  unfold res_main_v139
  generalize res_main_v98 V0 = w at h98
  generalize res_main_v123 V0 = w' at h123
  pointwise
  rw [h98, h123, Ideal.div_coe hz.ne', ← EReal.coe_mul]

theorem v142 (h : Holds D V0) (hs : Soft D V0 M) (b : Fin 32) (x : Fin 256) (j : Fin 4) (y : Fin 64) :
    (res_main_v142 V0 : S1x1x32x256x4x64.Idx → EReal) (ix6 0 0 b x j y) = (((D.blk0 b j).dv x y : ℝ) : EReal) := by
  have h139 := v139 h hs
  have h93 := hs.ex
  unfold res_main_v142
  generalize res_main_v139 V0 = w at h139
  generalize res_main_v93 V0 = w' at h93
  pointwise
  simp only [h139, h93, ← EReal.coe_mul, ← coe_sum]
  refine congrArg _ (Finset.sum_congr rfl fun n _ => Finset.sum_congr rfl fun r _ => ?_)
  have hz := ((D.blk0 b j).Z_pos n r (D.ok_some b j r)).ne'
  have he := (Real.exp_pos (-M b j n r)).ne'
  unfold Blk.p
  field_simp

/-- The scores' gradient as the derivative spells it. -/
theorem ds_spelt (B : Blk) (n : Fin 4) (r : Fin 128) (x : Fin 256) (M : ℝ) (hk : ∃ x, B.ok r x) :
    ((∑ c, B.G n r c * (1 / (B.Z n r * Real.exp (-M))) * B.V x c)
        + (B.E n r * (1 / (B.Z n r * Real.exp (-M)))
          + -∑ c, B.G n r c * (1 / (B.Z n r * Real.exp (-M) * (B.Z n r * Real.exp (-M)))) * ∑ x, B.w n r x * Real.exp (-M) * B.V x c))
      * (B.w n r x * Real.exp (-M)) = B.ds n r x := by
  have hz := (B.Z_pos n r hk).ne'
  have he := (Real.exp_pos (-M)).ne'
  have e1 : (∑ c, B.G n r c * (1 / (B.Z n r * Real.exp (-M))) * B.V x c) = (1 / (B.Z n r * Real.exp (-M))) * B.dp n r x := by
    unfold Blk.dp; rw [Finset.mul_sum]; exact Finset.sum_congr rfl fun c _ => by ring
  have e2 : (∑ c, B.G n r c * (1 / (B.Z n r * Real.exp (-M) * (B.Z n r * Real.exp (-M)))) * ∑ x, B.w n r x * Real.exp (-M) * B.V x c)
      = (1 / (B.Z n r * Real.exp (-M))) * ∑ c, B.o n r c * B.G n r c := by
    rw [Finset.mul_sum]
    refine Finset.sum_congr rfl fun c _ => ?_
    have e3 : (∑ x, B.w n r x * Real.exp (-M) * B.V x c) = B.Z n r * Real.exp (-M) * B.o n r c := by
      unfold Blk.o Blk.p; rw [Finset.mul_sum]
      exact Finset.sum_congr rfl fun x _ => by field_simp
    rw [e3]; field_simp
  rw [e1, e2]
  unfold Blk.ds Blk.δ Blk.p
  field_simp
  ring

theorem v145 (h : Holds D V0) (hs : Soft D V0 M) (b : Fin 32) (j n : Fin 4) (r : Fin 128) (x : Fin 256) :
    (res_main_v145 V0 : S1x1x32x4x4x128x256.Idx → EReal) (ix7 0 0 b j n r x) = (((D.blk0 b j).ds n r x : ℝ) : EReal) := by
  have h139 := v139 h hs
  have h93 := hs.ex
  have h97 := hs.sum
  have h96 := hs.num
  have h98 := v98 hs
  have h37 := v37 h
  have h120 := v120 h
  have h123 := v123 h
  have hz := Blk.Z_exp_pos (B := D.blk0 b j) (n := n) (D.ok_some b j r) (M b j n r)
  have e := ds_spelt (D.blk0 b j) n r x (M b j n r) (D.ok_some b j r)
  unfold res_main_v145
  generalize res_main_v139 V0 = w139 at h139
  generalize res_main_v93 V0 = w93 at h93
  generalize res_main_v37 V0 = w37 at h37
  generalize res_main_v98 V0 = w98 at h98
  generalize res_main_v97 V0 = w97 at h97
  generalize res_main_v96 V0 = w96 at h96
  generalize res_main_v120 V0 = w120 at h120
  generalize res_main_v123 V0 = w123 at h123
  clean_types
  pointwise
  rw [sum_unit]
  pointwise
  rw [sum_last]
  pointwise
  simp only [h139, h37, h120, h97, h123, h98, h96, h93, ofBits_one, Ideal.div_coe hz.ne', ← EReal.coe_mul, Ideal.div_coe (mul_pos hz hz).ne', ← coe_sum,
    one_mul]
  rw [← EReal.coe_neg, ← EReal.coe_add, ← EReal.coe_add, ← EReal.coe_mul]
  exact congrArg _ e

/-- The scores' gradient adds up to the cotangent of the log-sum along a row. -/
theorem ds_sum (B : Blk) (n : Fin 4) (r : Fin 128) (hk : ∃ x, B.ok r x) : ∑ x, B.ds n r x = B.E n r := by
  have hp : ∑ x, B.p n r x = 1 := by
    unfold Blk.p; rw [← Finset.sum_div]; exact div_self (B.Z_pos n r hk).ne'
  have e : ∑ x, B.p n r x * B.dp n r x = ∑ c, B.o n r c * B.G n r c := by
    unfold Blk.dp Blk.o
    simp only [Finset.mul_sum, Finset.sum_mul]
    rw [Finset.sum_comm]
    exact Finset.sum_congr rfl fun c _ => Finset.sum_congr rfl fun x _ => by ring
  unfold Blk.ds
  simp only [mul_sub, Finset.sum_sub_distrib, ← Finset.sum_mul, hp, e]
  unfold Blk.δ
  ring

/-- The number of greatest entries of a row is not zero. -/
theorem count {f : Fin 256 → EReal} (htop : ∃ x, f x = ((1 : ℝ) : EReal)) (htie : ∀ x, f x = ((1 : ℝ) : EReal) ∨ f x = ((0 : ℝ) : EReal)) :
    ∃ c : ℝ, ∑ x, f x = (c : EReal) ∧ c ≠ 0 := by
  have h : ∀ x, ∃ t : ℝ, f x = (t : EReal) ∧ 0 ≤ t := fun x => (htie x).elim (fun e => ⟨1, e, zero_le_one⟩) fun e => ⟨0, e, le_refl _⟩
  choose t ht h0 using h
  obtain ⟨x, hx⟩ := htop
  refine ⟨∑ x, t x, by rw [coe_sum]; exact Finset.sum_congr rfl fun x _ => ht x, (Finset.sum_pos' (fun x _ => h0 x) ⟨x, Finset.mem_univ x, ?_⟩).ne'⟩
  have : t x = 1 := EReal.coe_eq_coe_iff.1 ((ht x).symm.trans hx)
  rw [this]; exact one_pos

theorem v157 (h : Holds D V0) (hs : Soft D V0 M) (b : Fin 32) (j : Fin 4) (x : Fin 256) (r : Fin 128) (n : Fin 4) :
    (res_main_v157 V0 : S1x1x32x4x256x128x4.Idx → EReal) (ix7 0 0 b j x r n) = (((D.blk0 b j).ds n r x : ℝ) : EReal) := by
  have h145 := v145 h hs
  have h120 := v120 h
  have hb := v83_1 (V0 := V0) b j n r x
  have htop := hs.top b j n r
  have htie := hs.tie b j n r
  have e := ds_sum (D.blk0 b j) n r (D.ok_some b j r)
  unfold res_main_v157
  generalize res_main_v145 V0 = w145 at h145
  generalize res_main_v120 V0 = w120 at h120
  generalize res_main_v88 V0 = w88 at htop htie
  generalize res_main_v83_1 V0 = w83 at hb
  clean_types
  pointwise
  rw [sum_unit, sum_last]
  pointwise
  rw [sum_last]
  pointwise
  simp only [h145, h120]
  obtain ⟨c, hc, hc0⟩ := count htop htie
  rw [hc]
  simp only [← EReal.coe_neg]
  rw [← coe_sum, ← EReal.coe_add, Finset.sum_neg_distrib, e, add_neg_cancel, Ideal.div_coe hc0, ← EReal.coe_mul, zero_mul, EReal.coe_zero, zero_mul,
    add_zero]
  show (if _ then _ else _) = _
  by_cases hx : ok b r x
  · exact if_pos (hb.2 hx)
  · refine (if_neg fun k => hx (hb.1 k)).trans ?_
    have : (D.blk0 b j).ds n r x = 0 := by
      unfold Blk.ds
      rw [(D.blk0 b j).p_of_not n r x hx, zero_mul]
    rw [this]
    rfl

theorem v161 (h : Holds D V0) (hs : Soft D V0 M) (b : Fin 32) (x : Fin 256) (j : Fin 4) (y : Fin 64) :
    (res_main_v161 V0 : S1x1x32x256x4x64.Idx → EReal) (ix6 0 0 b x j y) = (((D.blk0 b j).dk x y : ℝ) : EReal) := by
  have h157 := v157 h hs
  have h17 := v17 h
  unfold res_main_v161
  generalize res_main_v157 V0 = w157 at h157
  generalize res_main_v17 V0 = w17 at h17
  pointwise
  simp only [h157, h17, ← EReal.coe_mul, ← coe_sum]
  exact congrArg _ Finset.sum_comm

end Cert.Reference3Ideal.Attn
end
-- ==== Proof.Attn.Results.lean ====
/- The derivative's two results: the gradients of the queries, and those of the keys and the values side by side. -/
module

public import proofs.«01_k».proof.Proof.Attn.Reference
public import proofs.«01_k».proof.Proof.Attn.Arrays

@[expose] public section
set_option maxRecDepth 16384
noncomputable section

namespace Cert.Reference3Ideal.Attn

open Cert.Reference3Ideal Cert.Reference3Ideal.Gen Cert.Reference3Ideal.Value Cert.Common Cert.Attn
open Idealize.ShloMosaic Idealize.ShloMosaic.TcCoe Idealize.SL.Sem Idealize.ShloMosaic.StableHlo

variable {D : Data} {V0 : Valuation τ sig (Elt Ideal)}

open Cert.Kernel3Ideal.Attn (DqOf DkvOf dqAt hi lo side)

theorem endQ (a : Fin 8) (i : Fin 4096) (l : Fin 128) (p q s) (n : Fin 4) (hn : n.val = a.val % 2 * 2 + l.val / 64) (c : Fin 64)
    (hc : c.val = l.val % 64) :
    (∑ x, (((D.blk0 ⟨i.val / 128, p⟩ ⟨a.val / 2, q⟩).ds n ⟨i.val % 128, s⟩ x : ℝ) : EReal) * (((D.blk0 ⟨i.val / 128, p⟩ ⟨a.val / 2, q⟩).K x c : ℝ) : EReal))
      = DqOf D (ix3 a i l) := by
  simp only [← EReal.coe_mul, ← coe_sum]
  have en : n = ⟨2 * (a.val % 2) + l.val / 64, by omega⟩ := Fin.ext (by rw [hn]; simp only; omega)
  have ec : c = lo l := Fin.ext hc
  rw [en, ec]
  exact congrArg _ (congrFun (congrFun (congrFun (Blk.mask_dq (D.blk ⟨i.val / 128, by omega⟩ ⟨a.val / 2, by omega⟩) _ (D.ok_seen _ _)) _) _) _)

theorem end_next (f : Blk → Fin 256 → Fin 64 → ℝ) (hf : ∀ b j, f (D.blk0 b j) = f (D.blk b j)) (a : Fin 4) (i : Fin 4096) (c : Fin 64) (p q r s)
    (h : i.val / 128 < 31) :
    ((f (D.blk0 ⟨i.val / 128, p⟩ a) ⟨128 + i.val % 128, q⟩ c : ℝ) : EReal) + ((f (D.blk0 ⟨1 + i.val / 128, r⟩ a) ⟨i.val % 128, s⟩ c : ℝ) : EReal)
      = ((D.both a f i c : ℝ) : EReal) := by
  rw [hf, hf, ← EReal.coe_add]
  refine congrArg _ ?_
  unfold Data.both
  rw [dif_pos (show i.val / 128 + 1 < 32 by omega)]
  have e : ∀ t, (⟨1 + i.val / 128, r⟩ : Fin 32) = ⟨i.val / 128 + 1, t⟩ := fun t => Fin.ext (Nat.add_comm _ _)
  rw [e (by omega)]

theorem end_last (f : Blk → Fin 256 → Fin 64 → ℝ) (hf : ∀ b j, f (D.blk0 b j) = f (D.blk b j)) (a : Fin 4) (i : Fin 4096) (c : Fin 64) (p q)
    (h : ¬ i.val / 128 < 31) :
    ((f (D.blk0 ⟨i.val / 128, p⟩ a) ⟨128 + i.val % 128, q⟩ c : ℝ) : EReal) + 0 = ((D.both a f i c : ℝ) : EReal) := by
  rw [hf, add_zero]
  refine congrArg _ ?_
  unfold Data.both
  rw [dif_neg (show ¬ i.val / 128 + 1 < 32 by omega), add_zero]

theorem dk0 (b : Fin 32) (j : Fin 4) : (D.blk0 b j).dk = (D.blk b j).dk := Blk.mask_dk _ _ (D.ok_seen b j)
theorem dv0 (b : Fin 32) (j : Fin 4) : (D.blk0 b j).dv = (D.blk b j).dv := Blk.mask_dv _ _ (D.ok_seen b j)
theorem side_lo (a : Fin 4) (i : Fin 4096) (l : Fin 128) (h : l.val / 64 < 1) (p) :
    ((D.both a Blk.dk i ⟨l.val % 64, p⟩ : ℝ) : EReal) = DkvOf D (ix3 a i l) := by
  have e : side (hi l) = Blk.dk := by
    have : hi l = 0 := Fin.ext (by show l.val / 64 = 0; omega)
    funext B; unfold side; rw [this, if_pos rfl]
  exact congrArg (fun f => ((D.both a f i (lo l) : ℝ) : EReal)) e.symm
theorem side_hi (a : Fin 4) (i : Fin 4096) (l : Fin 128) (h : ¬ l.val / 64 < 1) (p) :
    ((D.both a Blk.dv i ⟨l.val % 64, p⟩ : ℝ) : EReal) = DkvOf D (ix3 a i l) := by
  have e : side (hi l) = Blk.dv := by
    have : hi l ≠ 0 := fun k => h (by have := congrArg Fin.val k; show (hi l).val < 1; rw [this]; decide)
    funext B; unfold side; rw [if_neg this]
  exact congrArg (fun f => ((D.both a f i (lo l) : ℝ) : EReal)) e.symm

set_option maxHeartbeats 2000000 in
theorem results (m : (ℓ : Loc nD τ sig) → Buf (Elt Ideal) ℓ) (ρ : Dev nD → PrngReg) :
    θ_run defs (onTc (τ := τ) (main (F := Ideal))) ⟨m, fun _ => 0, ρ⟩ fun r => ∀ (c : Dev nD) (D : Data), Holds D (launchContents m c) →
      (r.2.mem ((c.tc : Thread nD τ).loc main_v193) : S8x4096x128.Idx → EReal) = DqOf D
      ∧ (r.2.mem ((c.tc : Thread nD τ).loc main_v203) : S4x4096x128.Idx → EReal) = DkvOf D
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c D h => ?_) (run (F := Ideal) m ρ)
  obtain ⟨h1, h2, ha⟩ := hr c
  obtain ⟨M, hs⟩ := soft h
  have h157 := v157 h hs
  have h27 := v27 h
  have h161 := v161 h hs
  have h142 := v142 h hs
  clear hr
  generalize launchContents m c = V0 at *
  refine ⟨h1.trans (funext fun u => ?_), h2.trans (funext fun u => ?_), ha⟩
  · obtain ⟨a, i, l, rfl⟩ : ∃ (a : Fin 8) (i : Fin 4096) (l : Fin 128), u = ix3 a i l := ⟨u 0, u 1, u 2, (ix3_eta u).symm⟩
    generalize res_main_v157 V0 = w157 at h157
    generalize res_main_v27 V0 = w27 at h27
    clear h1 h2 h161 h142
    pointwise
    refine (dif_pos ⟨by omega, by omega, by omega⟩).trans ?_
    exact (Finset.sum_congr rfl fun x _ => congrArg₂ (fun x y : EReal => x * y) (h157 _ _ _ _ _) (h27 _ _ _ _)).trans (endQ a i l _ _ _ _ rfl _ rfl)
  · obtain ⟨a, i, l, rfl⟩ : ∃ (a : Fin 4) (i : Fin 4096) (l : Fin 128), u = ix3 a i l := ⟨u 0, u 1, u 2, (ix3_eta u).symm⟩
    unfold res_main_v172 res_main_v162
    generalize res_main_v161 V0 = w161 at h161
    generalize res_main_v142 V0 = w142 at h142
    clear h1 h2 h157 h27 ha hs h
    pointwise
    by_cases hl : l.val / 64 < 1
    · refine (dif_pos hl).trans ((dif_pos (by omega)).trans ?_)
      refine Eq.trans ?_ (side_lo a i l hl (by omega))
      by_cases hb : i.val / 128 < 31
      · exact (congrArg₂ (fun x y : EReal => x + y) (h161 _ _ _ _) ((dif_pos ⟨hb, by omega, by omega⟩).trans (h161 _ _ _ _))).trans (end_next Blk.dk dk0 a i _ _ _ _ _ hb)
      · exact (congrArg₂ (fun x y : EReal => x + y) (h161 _ _ _ _) (dif_neg fun k => hb k.1)).trans (end_last Blk.dk dk0 a i _ _ _ hb)
    · refine (dif_neg hl).trans ((dif_pos (by omega)).trans ?_)
      refine Eq.trans ?_ (side_hi a i l hl (by omega))
      by_cases hb : i.val / 128 < 31
      · exact (congrArg₂ (fun x y : EReal => x + y) (h142 _ _ _ _) ((dif_pos ⟨hb, by omega, by omega⟩).trans (h142 _ _ _ _))).trans (end_next Blk.dv dv0 a i _ _ _ _ _ hb)
      · exact (congrArg₂ (fun x y : EReal => x + y) (h142 _ _ _ _) (dif_neg fun k => hb k.1)).trans (end_last Blk.dv dv0 a i _ _ _ hb)

end Cert.Reference3Ideal.Attn
end
-- ==== Proof.Attn.Claims.lean ====
/- The five claims about the attention's backward call (the pattern of stride one): the frames, and the kernel's two arrays equal
   to the derivative's. -/
module

public import proofs.«01_k».proof.Defs
public import proofs.«01_k».proof.Proof.Gen.Kernel3
public import proofs.«01_k».proof.Proof.Gen.Pre_finite5
public import proofs.«01_k».proof.Proof.Common.Precondition
public import proofs.«01_k».proof.Proof.Attn.Frame
public import proofs.«01_k».proof.Proof.Attn.Arrays
public import proofs.«01_k».proof.Proof.Attn.Results
public import Idealize.ShloMosaic.Adequacy
public import Idealize.ShloMosaic.Init

@[expose] public section

noncomputable section

namespace Cert.Proof.Attn

open Idealize.ShloMosaic Idealize.ShloMosaic.TcCoe Idealize.ShloMosaic.StableHlo Idealize.SL.Sem Cert.Common Cert.Attn
open Cert.Kernel3Ideal.Attn (DqOf DkvOf f7 f8)

/-- The frame of the idealized program's text, over the words. -/
def Quiet : Prop := ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

/-- The two printed programs are one text. -/
theorem quiet_eq : Quiet = Cert.quiescent_Kernel3 (hKernel3 := Cert.Kernel3.Gen.facts) := by sl_kernel_rfl

theorem frame_kernel : Cert.quiescent_Kernel3 (hKernel3 := Cert.Kernel3.Gen.facts) :=
  quiet_eq.mp fun m ρ _ => Cert.Kernel3Ideal.Attn.frame (F := Bits) m ρ
theorem frame_ideal : Cert.quiescent_Kernel3Ideal (hKernel3Ideal := Cert.Kernel3Ideal.Gen.facts) := fun m ρ _ => Cert.Kernel3Ideal.Attn.frame m ρ
theorem frame_ideal_pre : Cert.quiescent_Kernel3Ideal_pre_finite5 (hKernel3Ideal := Cert.Kernel3Ideal.Gen.facts)
    (hPre_finite5 := Cert.Pre_finite5.Gen.facts) := fun m ρ _ => Cert.Kernel3Ideal.Attn.frame m ρ
theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)
theorem frame_reference_pre : Cert.quiescent_Reference3Ideal_pre_finite5 (hReference3Ideal := Cert.Reference3Ideal.Gen.facts)
    (hPre_finite5 := Cert.Pre_finite5.Gen.facts) := fun m ρ _ => frame_reference m ρ trivial

section
attribute [local instance] Cert.Pre_finite5.Gen.facts
open Cert.Pre_finite5

/-- The precondition says that every entry of the five arguments is a real number. -/
theorem real_args (a0 : S1x4096x1024.Idx → EReal) (a1 a2 : S1x4096x256.Idx → EReal) (a3 : S1x4096x1024.Idx → EReal) (a4 : S1x4096x16.Idx → EReal)
    (h : Cert.Pre_finite5.fn (F := Ideal) a0 a1 a2 a3 a4 = fun _ => 1#1) :
    Real a0 ∧ Real a1 ∧ Real a2 ∧ Real a3 ∧ Real a4 := by
  have h := congrFun h (fun a => a.elim0)
  unfold fn at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton S_.Idx := ⟨fun x y => funext fun a => a.elim0⟩
  exact ⟨real_of_all a0 _ _ _ _ _ h0, real_of_all a1 _ _ _ _ _ h1, real_of_all a2 _ _ _ _ _ h2, real_of_all a3 _ _ _ _ _ h3,
    real_of_all a4 _ _ _ _ _ h4⟩
end

/-- The numbers in the kernel's arguments on a device. -/
def dataOf (m : (ℓ : Loc Cert.Kernel3Ideal.nD Cert.Kernel3Ideal.τ Cert.Kernel3Ideal.sig) → Buf (Elt Ideal) ℓ) (c : Dev Cert.Kernel3Ideal.nD) : Data where
  q i k := ((m ((c : Thread Cert.Kernel3Ideal.nD Cert.Kernel3Ideal.τ).loc Cert.Kernel3Ideal.main_arg0) : Cert.Kernel3Ideal.S1x4096x1024.Idx → EReal) (ix3 0 i k)).toReal
  k i k := ((m ((c : Thread Cert.Kernel3Ideal.nD Cert.Kernel3Ideal.τ).loc Cert.Kernel3Ideal.main_arg1) : Cert.Kernel3Ideal.S1x4096x256.Idx → EReal) (ix3 0 i k)).toReal
  v i k := ((m ((c : Thread Cert.Kernel3Ideal.nD Cert.Kernel3Ideal.τ).loc Cert.Kernel3Ideal.main_arg2) : Cert.Kernel3Ideal.S1x4096x256.Idx → EReal) (ix3 0 i k)).toReal
  g i k := ((m ((c : Thread Cert.Kernel3Ideal.nD Cert.Kernel3Ideal.τ).loc Cert.Kernel3Ideal.main_arg3) : Cert.Kernel3Ideal.S1x4096x1024.Idx → EReal) (ix3 0 i k)).toReal
  e i k := ((m ((c : Thread Cert.Kernel3Ideal.nD Cert.Kernel3Ideal.τ).loc Cert.Kernel3Ideal.main_arg4) : Cert.Kernel3Ideal.S1x4096x16.Idx → EReal) (ix3 0 i k)).toReal

theorem algebraic : Cert.algebraic_Kernel3Ideal_Reference3Ideal_pre_finite5 (hKernel3Ideal := Cert.Kernel3Ideal.Gen.facts)
    (hReference3Ideal := Cert.Reference3Ideal.Gen.facts) (hPre_finite5 := Cert.Pre_finite5.Gen.facts) := by
  intro m g m' g' hp hm
  have hk : ∀ c, Cert.Kernel3Ideal.Attn.Args m (dataOf m c) c := fun c => by
    obtain ⟨h0, h1, h2, h3, h4⟩ := real_args _ _ _ _ _ (hp c)
    exact ⟨fun _ _ => h0 _, fun _ _ => h1 _, fun _ _ => h2 _, fun _ _ => h3 _, fun _ _ => h4 _⟩
  have hr : ∀ c, Cert.Reference3Ideal.Attn.Holds (dataOf m c) (launchContents m' c) := fun c => by
    obtain ⟨e0, e1, e2, e3, e4⟩ := hm c
    obtain ⟨h0, h1, h2, h3, h4⟩ := hk c
    exact ⟨fun i k => (congrFun e0 _).trans (h0 i k), fun i k => (congrFun e1 _).trans (h1 i k), fun i k => (congrFun e2 _).trans (h2 i k),
      fun i k => (congrFun e3 _).trans (h3 i k), fun i k => (congrFun e4 _).trans (h4 i k)⟩
  refine ⟨fun c => DqOf (dataOf m c), fun c => DkvOf (dataOf m c), ?_, ?_⟩
  · refine (θ_run Cert.Kernel3Ideal.defs _ _).mono (fun r h c => ?_) (Cert.Kernel3Ideal.Attn.run (F := Ideal) m _)
    obtain ⟨h1, h2, ha⟩ := h c
    exact ⟨h1.trans (f7 m (hk c)), h2.trans (f8 m (hk c)), ha⟩
  · exact (θ_run Cert.Reference3Ideal.defs _ _).mono (fun r h c => h c _ (hr c)) (Cert.Reference3Ideal.Attn.results m' _)

end Cert.Proof.Attn
end
-- ==== Proof.Attn4.Trip.lean ====
/- One block of 128 queries, four rows apart, of the attention's backward kernel (the body of its loop over a chunk's blocks): which rows it
   reads, what it stores, and the loop as the sequence of these. -/
module

public import proofs.«01_k».proof.Proof.Gen.Kernel4Ideal.Frame
public import proofs.«01_k».proof.Proof.Gen.Kernel4Ideal.Skeleton
public import Idealize.ShloMosaic.Lib.Exec
public import Idealize.ShloMosaic.Lib.WritesUnit

@[expose] public section
set_option maxRecDepth 16384
noncomputable section

namespace Cert.Kernel4Ideal.Attn
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Where a block lies -/

/-- The query block's rows in a chunk, in the first and in the second slab of heads. -/
theorem k0_off1_eq : ∀ (i : grid0.Coords) (k : Fin k0_t1_loop.trips), k0_off1 i k = ![0, 512 * (k.val / 4) + k.val % 4, 0] := by decide +kernel
theorem k0_off2_eq : ∀ (i : grid0.Coords) (k : Fin k0_t1_loop.trips), k0_off2 i k = ![1, 512 * (k.val / 4) + k.val % 4, 0] := by decide +kernel
/-- The keys' rows: of the block before with the same residue (the block itself where there is none), and of the block. -/
theorem k0_off3_eq : ∀ (i : grid0.Coords) (k : Fin k0_t1_loop.trips),
    k0_off3 i k = ![0, 512 * (4 * (i 1).val + k.val / 4) - 512 + k.val % 4, 0] := by decide +kernel
theorem k0_off4_eq : ∀ (i : grid0.Coords) (k : Fin k0_t1_loop.trips),
    k0_off4 i k = ![0, 512 * (4 * (i 1).val + k.val / 4) + k.val % 4, 0] := by decide +kernel
theorem k0_off5_eq : ∀ (i : grid0.Coords) (k : Fin k0_t1_loop.trips), k0_off5 i k = ![0, 512 * (k.val / 4) + k.val % 4, 0] := by decide +kernel
/-- The bias: that of the first block, or that of the others. -/
theorem k0_off6_eq : ∀ (i : grid0.Coords) (k : Fin k0_t1_loop.trips),
    k0_off6 i k = ![min (4 * (i 1).val + k.val / 4) 1, 0, 0, 0] := by decide +kernel
/-- The number of the block before with the same residue, or the block's own where there is none. -/
def prev (i : grid0.Coords) (k : Fin k0_t1_loop.trips) : ℕ :=
  if 16 * (i 1).val + k.val < 4 then 16 * (i 1).val + k.val else 16 * (i 1).val + k.val - 4
theorem k0_off8_eq : ∀ (i : grid0.Coords) (k : Fin k0_t1_loop.trips), k0_off8 i k = ![128 * prev i k, 0] := by decide +kernel
theorem k0_off10_eq : ∀ k : Fin k0_t2_loop.trips, k0_off10 k = ![0, 512 * (k.val / 4) + k.val % 4, 0] := by decide +kernel

instance (i : grid0.Coords) (k : Fin k0_t1_loop.trips) : ClosedOff (k0_off1 i k) := ⟨_, k0_off1_eq i k⟩
instance (i : grid0.Coords) (k : Fin k0_t1_loop.trips) : ClosedOff (k0_off2 i k) := ⟨_, k0_off2_eq i k⟩

abbrev R1 (i : grid0.Coords) (k : Fin k0_t1_loop.trips) : Rect S2x2048x128 := ⟨⟨k0_off1 i k, S1x128x128.size, ![1, 4, 1], k0_off1_inb i k⟩, spos_1_4_1⟩
abbrev R2 (i : grid0.Coords) (k : Fin k0_t1_loop.trips) : Rect S2x2048x128 := ⟨⟨k0_off2 i k, S1x128x128.size, ![1, 4, 1], k0_off2_inb i k⟩, spos_1_4_1⟩
abbrev R3 (i : grid0.Coords) (k : Fin k0_t1_loop.trips) : Rect S1x4096x128 := ⟨⟨k0_off3 i k, S1x128x128.size, ![1, 4, 1], k0_off3_inb i k⟩, spos_1_4_1⟩
abbrev R4 (i : grid0.Coords) (k : Fin k0_t1_loop.trips) : Rect S1x4096x128 := ⟨⟨k0_off4 i k, S1x128x128.size, ![1, 4, 1], k0_off4_inb i k⟩, spos_1_4_1⟩
abbrev R5 (i : grid0.Coords) (k : Fin k0_t1_loop.trips) : Rect S1x2048x128 := ⟨⟨k0_off5 i k, S1x128x128.size, ![1, 4, 1], k0_off5_inb i k⟩, spos_1_4_1⟩
abbrev R6 (i : grid0.Coords) (k : Fin k0_t1_loop.trips) := Rect.unit (s := S2x1x512x256) (k0_off6 i k) S1x1x512x256.size (k0_off6_inb i k)
abbrev R7 (i : grid0.Coords) (k : Fin k0_t1_loop.trips) := Rect.unit (s := S4096x128) (k0_off7 i k) S128x128.size (k0_off7_inb i k)
abbrev R8 (i : grid0.Coords) (k : Fin k0_t1_loop.trips) := Rect.unit (s := S4096x128) (k0_off8 i k) S128x128.size (k0_off8_inb i k)

/-! ## What a block computes -/

/-- What the body finds in its inputs: the queries and their cotangents, the two tables of row numbers, keys, values, bias. -/
structure Ins (F : FTy → Type) where
  q : Vec F S2x2048x128 .f32
  d : Vec F S2x2048x128 .f32
  l : Vec F S1x2048x128 .f32
  e : Vec F S1x2048x128 .f32
  k : Vec F S1x4096x128 .f32
  v : Vec F S1x4096x128 .f32
  b : Vec F S2x1x512x256 .f32

section
variable (x : Ins F) (o : BitVec 1) (i : grid0.Coords) (k : Fin k0_t1_loop.trips)

/-- The lanes' numbers. -/
def lanes : IVec S128x128 32 := iota .tc S128x128 32 [1] iota_S128x128_d1_w32
/-- The block's queries and cotangents, its four heads one below the other; the keys and values its rows see. -/
def Q : FVec F S512x128 .bf16 := k0_pay5 (View.ld x.q (R1 i k)) (View.ld x.q (R2 i k))
def D : FVec F S512x128 .bf16 := k0_pay9 k0_pay6 (k0_pay7 (View.ld x.d (R1 i k))) (k0_pay8 (View.ld x.d (R2 i k))) (Scalar.ofBits .f32 0x00000000#32)
def K : FVec F S256x128 .bf16 := k0_pay10 o (View.ld x.k (R3 i k)) (View.ld x.k (R4 i k))
def W : FVec F S256x128 .bf16 := k0_pay11 o (View.ld x.v (R3 i k)) (View.ld x.v (R4 i k))
/-- The weights, the values' gradient, the scores' gradient. -/
def P : FVec F S512x256 .f32 := k0_pay13 k0_pay1 (Q x i k) (K x o i k) (k0_pay12 (View.ld x.l (R5 i k))) (View.ld x.b (R6 i k))
def G : FVec F S256x128 .f32 := k0_pay14 k0_pay1 (Q x i k) (D x i k) (K x o i k) (k0_pay12 (View.ld x.l (R5 i k))) (View.ld x.b (R6 i k))
def T : FVec F S512x256 .bf16 := k0_pay16 k0_pay1 (D x i k) (W x o i k) (P x o i k) (k0_pay15 (View.ld x.e (R5 i k))) lanes 12#32
/-- The queries' gradient, slab by slab. -/
def dq1 : FVec F S1x128x128 .f32 := k0_pay20 k0_pay1 (D x i k) (K x o i k) (W x o i k) (P x o i k) (k0_pay15 (View.ld x.e (R5 i k))) lanes 12#32
def dq2 : FVec F S1x128x128 .f32 := k0_pay21 (k0_pay19 k0_pay1 (D x i k) (K x o i k) (W x o i k) (P x o i k) (k0_pay15 (View.ld x.e (R5 i k))) lanes 12#32)
/-- The sums for keys and values with the block's contribution, for the block's rows and for the rows of the block before. -/
def own (a : Vec F S128x128 .f32) : FVec F S128x128 .f32 := k0_pay23 (Q x i k) (G x o i k) (T x o i k) a
def before (a : Vec F S128x128 .f32) : FVec F S128x128 .f32 := k0_pay3 (k0_pay24 (Q x i k) (G x o i k) (T x o i k) a)

/-- The pieces a block stores of the queries' gradient. -/
def pieces : List (View.Piece (Elt F) S2x2048x128 .f32) := [⟨R2 i k, dq2 x o i k⟩, ⟨R1 i k, dq1 x o i k⟩]
end

/-- What a block leaves in the memref of the sums. -/
def step (x : Ins F) (o : BitVec 1) (i : grid0.Coords) (k : Fin k0_t1_loop.trips) (w : View sig .tc .vmem S4096x128 .f32)
    (f : BufTy.Contents (Elt F) w.ty) : BufTy.Contents (Elt F) w.ty :=
  w.writes (Elt F) (w.writes (Elt F) f [⟨R7 i k, own x o i k (View.ld (w.read (Elt F) f) (R7 i k))⟩])
    [⟨R8 i k, before x o i k (View.ld (w.read (Elt F) (w.writes (Elt F) f [⟨R7 i k, own x o i k (View.ld (w.read (Elt F) f) (R7 i k))⟩])) (R8 i k))⟩]

section
variable (𝒱 : Variants) (c : Dev nD) (bd : Option 𝒱.V) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (arg1 : BitVec 32) (v10 : BitVec 1)

/-- The inputs at given contents. -/
abbrev Reads (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8))

variable (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty)

/-- The inputs' values, read through their memrefs. -/
abbrev insOf : Ins F := ⟨arg2.view.read (Elt F) X2, arg3.view.read (Elt F) X3, arg4.view.read (Elt F) X4, arg5.view.read (Elt F) X5,
  arg6.view.read (Elt F) X6, arg7.view.read (Elt F) X7, arg8.view.read (Elt F) X8⟩

set_option maxHeartbeats 4000000 in
/-- One block: from any contents of the two memrefs it stores into. -/
theorem trip (k : Fin k0_t1_loop.trips) (E : Set ℕ) (f9 : BufTy.Contents (Elt F) arg9.view.ty) (f11 : BufTy.Contents (Elt F) arg11.view.ty) :
    iprop(Reads (F := F) c arg2 arg3 arg4 arg5 arg6 arg7 arg8 X2 X3 X4 X5 X6 X7 X8
        ∗ (arg9.view.loc (c : Thread nD τ) ↦[arg9.view.set]{fullShare} f9) ∗ (arg11.view.loc (c : Thread nD τ) ↦[arg11.view.set]{fullShare} f11))
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg1 v10 k PUnit.unit)
          (fun _ => iprop(Reads (F := F) c arg2 arg3 arg4 arg5 arg6 arg7 arg8 X2 X3 X4 X5 X6 X7 X8
            ∗ (arg9.view.loc (c : Thread nD τ) ↦[arg9.view.set]{fullShare} arg9.view.writes (Elt F) f9 (pieces (insOf (F := F) arg2 arg3 arg4 arg5 arg6 arg7 arg8 X2 X3 X4 X5 X6 X7 X8) v10 i k))
            ∗ (arg11.view.loc (c : Thread nD τ) ↦[arg11.view.set]{fullShare} step (insOf (F := F) arg2 arg3 arg4 arg5 arg6 arg7 arg8 X2 X3 X4 X5 X6 X7 X8) v10 i k arg11.view f11))) := by
  have hk : k.val < 16 := Nat.lt_of_lt_of_le k.isLt k0_t1_abs.2.1
  unfold k0_t1_body
  iintro ⟨⟨H2, H3, H4, H5, H6, H7, H8⟩, H9, H11⟩
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [Prog.bind_assoc, bind_assoc, pure_bind, Prog.lift, Prog.bind_op, Prog.bind_ret]
  sl_steps
  isplitl [H2 H3 H4 H5 H6 H7 H8]
  · unfold Reads
    iframe
  isplitl [H9]
  · iexact H9
  · iexact H11
end

end Cert.Kernel4Ideal.Attn
end
-- ==== Proof.Attn4.Body.lean ====
/- The blocks of a chunk one after the other, and the copy of the sums into the result after the last chunk. -/
module

public import proofs.«01_k».proof.Proof.Attn4.Trip
public import proofs.«01_k».proof.Proof.Attn.Body
public import Idealize.ShloMosaic.Lib.Pointwise

@[expose] public section
set_option maxRecDepth 16384
set_option warn.classDefReducibility false
noncomputable section

namespace Cert.Kernel4Ideal.Attn
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The blocks one after the other -/

section
variable (x : Ins F) (o : BitVec 1) (i : grid0.Coords)

/-- What the first `n` blocks leave in the memref of the queries' gradient, and in that of the sums. -/
def dqs (w : View sig .tc .vmem S2x2048x128 .f32) (f : BufTy.Contents (Elt F) w.ty) : ℕ → BufTy.Contents (Elt F) w.ty
  | 0 => f
  | n + 1 => if h : n < k0_t1_loop.trips then w.writes (Elt F) (dqs w f n) (pieces x o i ⟨n, h⟩) else dqs w f n

def sums (w : View sig .tc .vmem S4096x128 .f32) (f : BufTy.Contents (Elt F) w.ty) : ℕ → BufTy.Contents (Elt F) w.ty
  | 0 => f
  | n + 1 => if h : n < k0_t1_loop.trips then step x o i ⟨n, h⟩ w (sums w f n) else sums w f n

theorem dqs_succ (w : View sig .tc .vmem S2x2048x128 .f32) (f : BufTy.Contents (Elt F) w.ty) (k : Fin k0_t1_loop.trips) :
    dqs x o i w f (k.val + 1) = w.writes (Elt F) (dqs x o i w f k.val) (pieces x o i k) := by
  rw [dqs, dif_pos k.isLt]

theorem sums_succ (w : View sig .tc .vmem S4096x128 .f32) (f : BufTy.Contents (Elt F) w.ty) (k : Fin k0_t1_loop.trips) :
    sums x o i w f (k.val + 1) = step x o i k w (sums x o i w f k.val) := by
  rw [sums, dif_pos k.isLt]
end

/-- The loop over the blocks: the inputs stay, the two memrefs hold what the blocks before left. -/
@[sl_loop] def loop1 (𝒱 : Variants) (c : Dev nD) (bd : Option 𝒱.V) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (arg1 : BitVec 32) (v10 : BitVec 1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (G9 : BufTy.Contents (Elt F) arg9.view.ty) (G11 : BufTy.Contents (Elt F) arg11.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg1 v10) where
  inv k _ := iprop(Reads (F := F) c arg2 arg3 arg4 arg5 arg6 arg7 arg8 X2 X3 X4 X5 X6 X7 X8
    ∗ (∃ f, (arg9.view.loc (c : Thread nD τ) ↦[arg9.view.set]{fullShare} f) ∗ ⌜f = dqs (insOf (F := F) arg2 arg3 arg4 arg5 arg6 arg7 arg8 X2 X3 X4 X5 X6 X7 X8) v10 i arg9.view G9 k⌝)
    ∗ (∃ f, (arg11.view.loc (c : Thread nD τ) ↦[arg11.view.set]{fullShare} f) ∗ ⌜f = sums (insOf (F := F) arg2 arg3 arg4 arg5 arg6 arg7 arg8 X2 X3 X4 X5 X6 X7 X8) v10 i arg11.view G11 k⌝))
  step k acc := by
    iintro ⟨HR, ⟨%f9, H9, %h9⟩, ⟨%f11, H11, %h11⟩⟩
    iapply (wp_wand_r Idealize.ShloMosaic.frame (wpE (defs₀ (F := F)) 𝒱 (c : Thread nD τ) bd) E)
    isplitl [HR H9 H11]
    · iapply (trip 𝒱 c bd i arg2 harg2 arg3 harg3 arg4 harg4 arg5 harg5 arg6 harg6 arg7 harg7 arg8 harg8 arg9 harg9 arg10 harg10 arg11 harg11 arg1 v10 X2 X3 X4 X5 X6 X7 X8 k E f9 f11)
      isplitl [HR]; · iexact HR
      isplitl [H9]; · iexact H9
      iexact H11
    · iintro %_ ⟨HR, H9, H11⟩
      isplitl [HR]; · iexact HR
      isplitl [H9]
      · iexists _; isplitl [H9]; · iexact H9
        ipureintro; rw [h9, ← dqs_succ]
      · iexists _; isplitl [H11]; · iexact H11
        ipureintro; rw [h11, ← sums_succ]

/-! ## The sums into the result -/

abbrev R10 (i : grid0.Coords) (h2 : k0_cond2 i = 1#1) (k : Fin k0_t2_loop.trips) : Rect S1x4096x128 :=
  ⟨⟨k0_off10 k, S1x128x128.size, ![1, 4, 1], k0_off10_inb i k h2⟩, spos_1_4_1⟩

/-- What the first `n` copies leave in the memref of the result. -/
def outs (i : grid0.Coords) (h2 : k0_cond2 i = 1#1) (a : Vec F S4096x128 .f32) (w : View sig .tc .vmem S1x4096x128 .f32)
    (f : BufTy.Contents (Elt F) w.ty) : ℕ → BufTy.Contents (Elt F) w.ty
  | 0 => f
  | n + 1 => if h : n < k0_t2_loop.trips then
      w.writes (Elt F) (outs i h2 a w f n) [⟨R10 i h2 ⟨n, h⟩,
        k0_pay4 (View.ld a (Rect.unit (s := S4096x128) (k0_off9 ⟨n, h⟩) S128x128.size (k0_off9_inb i ⟨n, h⟩ h2)))⟩] else outs i h2 a w f n

theorem outs_succ (i : grid0.Coords) (h2 : k0_cond2 i = 1#1) (a : Vec F S4096x128 .f32) (w : View sig .tc .vmem S1x4096x128 .f32)
    (f : BufTy.Contents (Elt F) w.ty) (k : Fin k0_t2_loop.trips) :
    outs i h2 a w f (k.val + 1) = w.writes (Elt F) (outs i h2 a w f k.val)
      [⟨R10 i h2 k,
        k0_pay4 (View.ld a (Rect.unit (s := S4096x128) (k0_off9 k) S128x128.size (k0_off9_inb i k h2)))⟩] := by
  rw [outs, dif_pos k.isLt]

@[sl_loop] def loop2 (𝒱 : Variants) (c : Dev nD) (bd : Option 𝒱.V) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (h2 : k0_cond2 i = 1#1)
    (X11 : BufTy.Contents (Elt F) arg11.view.ty) (G10 : BufTy.Contents (Elt F) arg10.view.ty) :
    Idealize.ShloMosaic.LoopInv (M := 𝕄) Idealize.ShloMosaic.frame (wpE (defs₀ (F := F)) 𝒱 (c : Thread nD τ) bd) E
      k0_t2_loop.lb k0_t2_loop.ub k0_t2_loop.st (k0_t2_ok i h2) () (k0_t2_body (F := F) i arg2 harg2 arg3 harg3 arg4 harg4 arg5 harg5 arg6 harg6 arg7 harg7 arg8 harg8 arg9 harg9 arg10 harg10 arg11 harg11 h2) where
  inv k _ := iprop((arg11.view.loc (c : Thread nD τ) ↦[arg11.view.set]{fullShare} X11)
    ∗ (∃ f, (arg10.view.loc (c : Thread nD τ) ↦[arg10.view.set]{fullShare} f) ∗ ⌜f = outs i h2 (arg11.view.read (Elt F) X11) arg10.view G10 k⌝))
  step k acc := by
    iintro ⟨H11, ⟨%f10, H10, %h10⟩⟩
    unfold k0_t2_body
    simp only [Prog.bind_assoc, bind_assoc, pure_bind, Prog.lift, Prog.bind_op, Prog.bind_ret]
    sl_steps
    isplitl [H11]; · iexact H11
    iexists _; isplitl [H10]; · iexact H10
    ipureintro; rw [h10, outs_succ]; rfl

/-! ## As vectors -/

open Cert.Kernel3Ideal.Attn (put)

/-- What the memref holds after a store of rows some distance apart, in the rows stored and in the others. -/
theorem read_rect_of_mem {s : Shape} {Val : EltTy → Type} {e : EltTy} (v : View sig .tc .vmem s e) (f : v.ty.Contents Val) (R : Rect s) (w : R.shape.Idx → Val e)
    (L : List (View.Piece Val s e)) (y : s.Idx) (x : R.shape.Idx) (hx : ∀ a, (y a).val = R.off a + R.stride a * (x a).val) :
    v.read Val (v.writes Val f (⟨R, w⟩ :: L)) y = w x := by
  have e : R.emb x = y := funext fun a => Fin.ext (hx a).symm
  rw [← e]
  exact View.read_writes_cons_emb v f R w L x

theorem read_rect_of_not_mem {s : Shape} {Val : EltTy → Type} {e : EltTy} (v : View sig .tc .vmem s e) (f : v.ty.Contents Val) (R : Rect s) (w : R.shape.Idx → Val e)
    (L : List (View.Piece Val s e)) (y : s.Idx) (hy : ∀ x : R.shape.Idx, ∃ a, (y a).val ≠ R.off a + R.stride a * (x a).val) :
    v.read Val (v.writes Val f (⟨R, w⟩ :: L)) y = v.read Val (v.writes Val f L) y := by
  have h : y ∉ Finset.univ.map R.emb := by
    intro m
    obtain ⟨x, -, e⟩ := Finset.mem_map.1 m
    obtain ⟨a, ha⟩ := hy x
    exact ha (by rw [← e]; rfl)
  rw [View.writes_cons]
  exact View.read_slice_write_of_not_mem _ _ _ _ h

theorem read_put (w : View sig .tc .vmem S4096x128 .f32) (f : BufTy.Contents (Elt F) w.ty) (off : Fin 2 → ℕ) (o : ℕ) (h : off = ![o, 0])
    (inb : ∀ b, off b + S128x128.size b ≤ S4096x128.size b) (v : Vec F S128x128 .f32) :
    w.read (Elt F) (w.writes (Elt F) f [⟨Rect.unit (s := S4096x128) off S128x128.size inb, v⟩]) = put o v (w.read (Elt F) f) :=
  funext fun y => View.read_writes_cons_unit w f inb v [] y h

section
variable (x : Ins F) (o : BitVec 1) (i : grid0.Coords)

/-- The sums after a block, after the first `n` blocks. -/
def stepV (k : Fin k0_t1_loop.trips) (a : Vec F S4096x128 .f32) : Vec F S4096x128 .f32 :=
  let b := put (2048 * (i 1).val + 128 * k.val) (own x o i k (View.ld a (R7 i k))) a
  put (128 * prev i k) (before x o i k (View.ld b (R8 i k))) b

def sumsV (a : Vec F S4096x128 .f32) : ℕ → Vec F S4096x128 .f32
  | 0 => a
  | n + 1 => if h : n < k0_t1_loop.trips then stepV x o i ⟨n, h⟩ (sumsV a n) else sumsV a n

theorem read_sums (w : View sig .tc .vmem S4096x128 .f32) (f : BufTy.Contents (Elt F) w.ty) (n : ℕ) :
    w.read (Elt F) (sums x o i w f n) = sumsV x o i (w.read (Elt F) f) n := by
  induction n with
  | zero => rfl
  | succ n ih =>
    rw [sums, sumsV]
    split
    · rename_i h
      rw [← ih]
      unfold step stepV
      rw [read_put w _ _ _ (k0_off8_eq i ⟨n, h⟩), read_put w _ _ _ (k0_off7_eq i ⟨n, h⟩)]
    · exact ih

theorem trips1 : k0_t1_loop.trips = 16 := by decide +kernel
theorem trips2 : k0_t2_loop.trips = 32 := by decide +kernel

/-- The block a row of the chunk lies in, and the row's place in the block. -/
def blk (r : Fin 2048) : Fin k0_t1_loop.trips := ⟨4 * (r.val / 512) + r.val % 4, by rw [trips1]; omega⟩
def cell (r : ℕ) (l : Fin 128) : S1x128x128.Idx := ix3 (n0 := 1) (n1 := 128) (n2 := 128) 0 ⟨r % 512 / 4, by omega⟩ l

/-- The queries' gradient of a chunk. -/
def dqV : Vec F S2x2048x128 .f32 := fun y =>
  if (y 0).val = 0 then dq1 x o i (blk (y 1)) (cell (y 1).val (y 2)) else dq2 x o i (blk (y 1)) (cell (y 1).val (y 2))

theorem off1_ne (n : Fin k0_t1_loop.trips) (y : S2x2048x128.Idx) (hy : 4 * ((y 1).val / 512) + (y 1).val % 4 ≠ n.val) (x : S1x128x128.Idx) :
    (y 1).val ≠ k0_off1 i n 1 + (![1, 4, 1] : Fin 3 → ℕ) 1 * (x 1).val := by
  have hx : (x 1).val < 128 := (x 1).isLt
  rw [k0_off1_eq]
  show (y 1).val ≠ 512 * (n.val / 4) + n.val % 4 + 4 * (x 1).val
  omega

theorem read_dqs (w : View sig .tc .vmem S2x2048x128 .f32) (f : BufTy.Contents (Elt F) w.ty) :
    w.read (Elt F) (dqs x o i w f k0_t1_loop.trips) = dqV x o i := by
  have key : ∀ n, n ≤ 16 → ∀ y : S2x2048x128.Idx, 4 * ((y 1).val / 512) + (y 1).val % 4 < n → w.read (Elt F) (dqs x o i w f n) y = dqV x o i y := by
    intro n
    induction n with
    | zero => intro _ y h; omega
    | succ n ih =>
      intro hn y h
      have hlt : n < k0_t1_loop.trips := by rw [trips1]; omega
      have h0 : (y 0).val < 2 := (y 0).isLt
      rw [dqs, dif_pos hlt]
      unfold pieces
      by_cases hy : 4 * ((y 1).val / 512) + (y 1).val % 4 < n
      · have hne := off1_ne i ⟨n, hlt⟩ y (by show _ ≠ n; omega)
        rw [read_rect_of_not_mem w _ (R2 i ⟨n, hlt⟩) _ _ y (fun x => ⟨1, by have := hne x; rw [k0_off1_eq] at this; show _ ≠ k0_off2 i ⟨n, hlt⟩ 1 + _; rw [k0_off2_eq]; exact this⟩),
          read_rect_of_not_mem w _ (R1 i ⟨n, hlt⟩) _ _ y (fun x => ⟨1, hne x⟩)]
        exact ih (by omega) y hy
      · have hb : blk (y 1) = ⟨n, hlt⟩ := Fin.ext (show 4 * ((y 1).val / 512) + (y 1).val % 4 = n by omega)
        have e1 : (y 1).val = 512 * (n / 4) + n % 4 + 4 * ((y 1).val % 512 / 4) := by omega
        have e2 : (y 2).val = 0 + 1 * (y 2).val := by omega
        by_cases hz : (y 0).val = 0
        · rw [read_rect_of_not_mem w _ (R2 i ⟨n, hlt⟩) _ _ y (fun x => ⟨0, by
            show (y 0).val ≠ k0_off2 i ⟨n, hlt⟩ 0 + _; rw [k0_off2_eq, hz]; show 0 ≠ 1 + _; omega⟩)]
          refine (read_rect_of_mem w (dqs x o i w f n) (R1 i ⟨n, hlt⟩) (dq1 x o i ⟨n, hlt⟩) [] y (cell (y 1).val (y 2)) ?_).trans ?_
          · intro a
            show _ = k0_off1 i ⟨n, hlt⟩ a + (![1, 4, 1] : Fin 3 → ℕ) a * _
            rw [k0_off1_eq]
            fin_cases a
            · exact hz
            · exact e1
            · exact e2
          · unfold dqV; rw [if_pos hz, hb]
        · refine (read_rect_of_mem w (dqs x o i w f n) (R2 i ⟨n, hlt⟩) (dq2 x o i ⟨n, hlt⟩) [⟨R1 i ⟨n, hlt⟩, dq1 x o i ⟨n, hlt⟩⟩]
            y (cell (y 1).val (y 2)) ?_).trans ?_
          · intro a
            show _ = k0_off2 i ⟨n, hlt⟩ a + (![1, 4, 1] : Fin 3 → ℕ) a * _
            rw [k0_off2_eq]
            fin_cases a
            · show (y 0).val = 1 + 1 * 0; omega
            · exact e1
            · exact e2
          · unfold dqV; rw [if_neg hz, hb]
  exact funext fun y => key _ (le_of_eq trips1) y (by have : (y 1).val < 2048 := (y 1).isLt; rw [trips1]; omega)

end

/-- The sums as the result holds them: block after block of the sums, a block's rows four apart. -/
def flat (a : Vec F S4096x128 .f32) : Vec F S1x4096x128 .f32 := fun y =>
  a (ix2 (n0 := 4096) (n1 := 128) ⟨128 * (4 * ((y 1).val / 512) + (y 1).val % 4) + (y 1).val % 512 / 4, by have : (y 1).val < 4096 := (y 1).isLt; omega⟩ (y 2))

theorem read_outs (i : grid0.Coords) (h2 : k0_cond2 i = 1#1) (a : Vec F S4096x128 .f32) (w : View sig .tc .vmem S1x4096x128 .f32)
    (f : BufTy.Contents (Elt F) w.ty) :
    w.read (Elt F) (outs i h2 a w f k0_t2_loop.trips) = flat a := by
  have key : ∀ n, n ≤ 32 → ∀ y : S1x4096x128.Idx, 4 * ((y 1).val / 512) + (y 1).val % 4 < n → w.read (Elt F) (outs i h2 a w f n) y = flat a y := by
    intro n
    induction n with
    | zero => intro _ y h; omega
    | succ n ih =>
      intro hn y h
      have hlt : n < k0_t2_loop.trips := by rw [trips2]; omega
      have h0 : (y 0).val = 0 := by have : (y 0).val < 1 := (y 0).isLt; omega
      rw [outs, dif_pos hlt]
      by_cases hy : 4 * ((y 1).val / 512) + (y 1).val % 4 < n
      · rw [read_rect_of_not_mem w _ (R10 i h2 ⟨n, hlt⟩) _ _ y (fun x => ⟨1, by
          have hx : (x 1).val < 128 := (x 1).isLt
          show (y 1).val ≠ k0_off10 ⟨n, hlt⟩ 1 + _
          rw [k0_off10_eq]
          show (y 1).val ≠ 512 * (n / 4) + n % 4 + 4 * (x 1).val
          omega⟩)]
        exact ih (by omega) y hy
      · have e1 : (y 1).val = 512 * (n / 4) + n % 4 + 4 * ((y 1).val % 512 / 4) := by omega
        have e2 : (y 2).val = 0 + 1 * (y 2).val := by omega
        refine (read_rect_of_mem w (outs i h2 a w f n) (R10 i h2 ⟨n, hlt⟩) (k0_pay4 (View.ld a (Rect.unit (s := S4096x128) (k0_off9 ⟨n, hlt⟩) S128x128.size (k0_off9_inb i ⟨n, hlt⟩ h2)))) []
          y (cell (y 1).val (y 2)) ?_).trans ?_
        · intro b
          show _ = k0_off10 ⟨n, hlt⟩ b + (![1, 4, 1] : Fin 3 → ℕ) b * _
          rw [k0_off10_eq]
          fin_cases b
          · exact h0
          · exact e1
          · exact e2
        · unfold k0_pay4 cell flat
          pointwise
          refine congrArg a (funext fun b => Fin.ext ?_)
          fin_cases b
          · show k0_off9 ⟨n, hlt⟩ 0 + (y 1).val % 512 / 4 = 128 * (4 * ((y 1).val / 512) + (y 1).val % 4) + (y 1).val % 512 / 4
            rw [k0_off9_eq]; show 128 * n + _ = _; omega
          · show k0_off9 ⟨n, hlt⟩ 1 + (y 2).val = (y 2).val
            rw [k0_off9_eq]; show 0 + _ = _; omega
  exact funext fun y => key _ (le_of_eq trips2) y (by have : (y 1).val < 4096 := (y 1).isLt; rw [trips2]; omega)

end Cert.Kernel4Ideal.Attn
end
-- ==== Proof.Attn4.Runs.lean ====
/- The whole body at a point: what it leaves in its outputs and in the sums it carries from chunk to chunk. -/
module

public import proofs.«01_k».proof.Proof.Attn4.Body
public import Idealize.ShloMosaic.Lib.Claim

@[expose] public section
set_option maxRecDepth 16384
set_option warn.classDefReducibility false
noncomputable section

namespace Cert.Kernel4Ideal.Attn
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether the point's head of keys is the odd one of its two: what the body computes of the grid coordinate. -/
def odd (i : grid0.Coords) : BitVec 1 :=
  let v1 : BitVec 32 := Scalar.select (Scalar.cmpi .eq 2#32 0#32) 1#32 2#32
  let v2 : BitVec 32 := Scalar.remsi (BitVec.ofNat 32 (i 0).val) v1
  Scalar.cmpi .eq (Scalar.select (Scalar.andi (Scalar.xori (Scalar.cmpi .slt v2 0#32) (Scalar.cmpi .slt v1 0#32)) (Scalar.cmpi .ne v2 0#32))
    (Scalar.addi v2 v1) v2) 1#32

/-- The body's first condition: a head's first chunk. -/
abbrev cond1 (i : grid0.Coords) : Prop := (Scalar.cmpi .ne (Scalar.extui (Scalar.cmpi .eq (BitVec.ofNat 32 (i 1).val) 0#32)) 0#32) = 1#1

theorem read_zero (w : View sig .tc .vmem S4096x128 .f32) (f : BufTy.Contents (Elt F) w.ty) (v : Vec F S4096x128 .f32) :
    w.read (Elt F) (w.writes (Elt F) f [⟨Rect.unit (s := S4096x128) ![0, 0] S4096x128.size inb_S4096x128_S4096x128_0_0, v⟩]) = v :=
  funext fun y => View.read_writes_cons_unit_of_mem w f _ v [] y y rfl fun a => by fin_cases a <;> exact (Nat.zero_add _).symm

set_option maxHeartbeats 4000000 in
/-- A head's first chunk: the sums start from zero, the result's memref is left as it was. -/
theorem runA (c : Dev nD) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (hc0 : cond1 i) (hc1 : ¬ k0_cond2 i = 1#1) (x0 : Vec F S2x2048x128 .f32) (x1 : Vec F S2x2048x128 .f32) (x2 : Vec F S1x2048x128 .f32) (x3 : Vec F S1x2048x128 .f32) (x4 : Vec F S1x4096x128 .f32) (x5 : Vec F S1x4096x128 .f32) (x6 : Vec F S2x1x512x256 .f32) (d10 : Vec F S1x4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare d10 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (dqV (⟨x0, x1, x2, x3, x4, x5, x6⟩ : Ins F) (odd i) i) ∗ owns (c : Thread nD τ) arg10 fullShare d10 ∗ owns (c : Thread nD τ) arg11 fullShare (sumsV (⟨x0, x1, x2, x3, x4, x5, x6⟩ : Ins F) (odd i) i k0_pay2 k0_t1_loop.trips)) -∗ K ⟨⟩))
      ⊢ wp frame (wpE (defs₀ (F := F)) Variants.none (c : Thread nD τ) none) E (cc0_attn_bwd_d4 i arg2 harg2 arg3 harg3 arg4 harg4 arg5 harg5 arg6 harg6 arg7 harg7 arg8 harg8 arg9 harg9 arg10 harg10 arg11 harg11) K := by
  simp only [cc0_attn_bwd_d4_eq_skeleton]; unfold cc0_attn_bwd_d4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%d11, %f11, -, H11⟩, Hk⟩
  subst hf0 hf1 hf2 hf3 hf4 hf5 hf6
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H9]
  · iexists _; isplitr
    swap; · iexact H9
    ipureintro; exact read_dqs _ _ _ _ _
  isplitl [H10]
  · iexists _; isplitr
    swap; · iexact H10
    ipureintro; exact hf10
  · iexists _; isplitr
    swap; · iexact H11
    ipureintro
    refine (read_sums _ _ _ _ _ _).trans ?_
    exact congrArg (fun a => sumsV _ (odd i) i a k0_t1_loop.trips) (read_zero arg11.view _ _)

set_option maxHeartbeats 4000000 in
/-- A head's last chunk: the sums go on from those of the chunk before, and are copied into the result. -/
theorem runB (c : Dev nD) (E : Set ℕ) (i : grid0.Coords) (arg2 : Memref sig .tc .vmem S2x2048x128 .f32) (harg2 : arg2.IsWhole) (arg3 : Memref sig .tc .vmem S2x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x1x512x256 .f32) (harg8 : arg8.IsWhole) (arg9 : Memref sig .tc .vmem S2x2048x128 .f32) (harg9 : arg9.IsWhole) (arg10 : Memref sig .tc .vmem S1x4096x128 .f32) (harg10 : arg10.IsWhole) (arg11 : Memref sig .tc .vmem S4096x128 .f32) (harg11 : arg11.IsWhole) (hc0 : ¬ cond1 i) (hc1 : k0_cond2 i = 1#1) (x0 : Vec F S2x2048x128 .f32) (x1 : Vec F S2x2048x128 .f32) (x2 : Vec F S1x2048x128 .f32) (x3 : Vec F S1x2048x128 .f32) (x4 : Vec F S1x4096x128 .f32) (x5 : Vec F S1x4096x128 .f32) (x6 : Vec F S2x1x512x256 .f32) (xs : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (dqV (⟨x0, x1, x2, x3, x4, x5, x6⟩ : Ins F) (odd i) i) ∗ owns (c : Thread nD τ) arg10 fullShare (flat (sumsV (⟨x0, x1, x2, x3, x4, x5, x6⟩ : Ins F) (odd i) i xs k0_t1_loop.trips)) ∗ owns (c : Thread nD τ) arg11 fullShare (sumsV (⟨x0, x1, x2, x3, x4, x5, x6⟩ : Ins F) (odd i) i xs k0_t1_loop.trips)) -∗ K ⟨⟩))
      ⊢ wp frame (wpE (defs₀ (F := F)) Variants.none (c : Thread nD τ) none) E (cc0_attn_bwd_d4 i arg2 harg2 arg3 harg3 arg4 harg4 arg5 harg5 arg6 harg6 arg7 harg7 arg8 harg8 arg9 harg9 arg10 harg10 arg11 harg11) K := by
  simp only [cc0_attn_bwd_d4_eq_skeleton]; unfold cc0_attn_bwd_d4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  subst hf11 hf0 hf1 hf2 hf3 hf4 hf5 hf6
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H9]
  · iexists _; isplitr
    swap; · iexact H9
    ipureintro; exact read_dqs _ _ _ _ _
  isplitl [H10]
  · iexists _; isplitr
    swap; · iexact H10
    ipureintro
    exact (read_outs _ _ _ _ _).trans (congrArg flat (read_sums _ _ _ _ _ _))
  · iexists _; isplitr
    swap; · iexact H11
    ipureintro; exact read_sums _ _ _ _ _ _

end Cert.Kernel4Ideal.Attn
end
-- ==== Proof.Attn4.Frame.lean ====
/- The frame of the attention's backward kernel: the body at every point, the run, the arguments unchanged. -/
module

public import proofs.«01_k».proof.Proof.Attn4.Runs
public import Idealize.ShloMosaic.Lib.Claim

@[expose] public section
set_option maxRecDepth 16384
set_option warn.classDefReducibility false
noncomputable section

namespace Cert.Kernel4Ideal.Attn
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: the even ones are a head's first chunk, the odd ones its last -/

theorem hcond1 (t : Fin cfg0.N) : cond1 (grid0.coords t) ↔ t.val % 2 = 0 := by
  have ht : t.val < 8 := Nat.lt_of_lt_of_eq t.isLt N_0
  have e1 : (grid0.coords t 1).val = t.val / 1 % 2 := Pipeline.Grid.coords_val t 1 (by decide) rfl
  simp only [cond1, e1]
  word_cmp

theorem hcond2 (t : Fin cfg0.N) : k0_cond2 (grid0.coords t) = 1#1 ↔ t.val % 2 = 1 := by
  have ht : t.val < 8 := Nat.lt_of_lt_of_eq t.isLt N_0
  have e1 : (grid0.coords t 1).val = t.val / 1 % 2 := Pipeline.Grid.coords_val t 1 (by decide) rfl
  simp only [k0_cond2, e1]
  word_cmp

theorem idle8 : ∀ t : Fin cfg0.N, ¬ k0_cond2 (grid0.coords t) = 1#1 → cfg0.idle 8 (grid0.coords t) = true := by decide +kernel
theorem live8 : ∀ t : Fin cfg0.N, k0_cond2 (grid0.coords t) = 1#1 → cfg0.idle 8 (grid0.coords t) = false := by decide +kernel
theorem stay8 : ∀ t : Fin cfg0.N, ¬ k0_cond2 (grid0.coords t) = 1#1 → (cfg0.win 8).flush t = false := by decide +kernel

/-- The windows' memrefs at a point, and the memref of the sums. -/
abbrev ms0 (t : Fin cfg0.N) : Memref sig .tc .vmem S2x2048x128 .f32 := win0_0.stage (cfg0.slots t 0)
abbrev ms1 (t : Fin cfg0.N) : Memref sig .tc .vmem S2x2048x128 .f32 := win0_1.stage (cfg0.slots t 1)
abbrev ms2 (t : Fin cfg0.N) : Memref sig .tc .vmem S1x2048x128 .f32 := win0_2.stage (cfg0.slots t 2)
abbrev ms3 (t : Fin cfg0.N) : Memref sig .tc .vmem S1x2048x128 .f32 := win0_3.stage (cfg0.slots t 3)
abbrev ms4 (t : Fin cfg0.N) : Memref sig .tc .vmem S1x4096x128 .f32 := win0_4.stage (cfg0.slots t 4)
abbrev ms5 (t : Fin cfg0.N) : Memref sig .tc .vmem S1x4096x128 .f32 := win0_5.stage (cfg0.slots t 5)
abbrev ms6 (t : Fin cfg0.N) : Memref sig .tc .vmem S2x1x512x256 .f32 := win0_6.stage (cfg0.slots t 6)
abbrev ms7 (t : Fin cfg0.N) : Memref sig .tc .vmem S2x2048x128 .f32 := win0_7.stage (cfg0.slots t 7)
abbrev ms8 (t : Fin cfg0.N) : Memref sig .tc .vmem S1x4096x128 .f32 := win0_8.stage (cfg0.slots t 8)
abbrev accM : Memref sig .tc .vmem S4096x128 .f32 := Memref.whole cc0_scratch0

theorem PhiA_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

/-! ## What the points leave -/

/-- The inputs' blocks at a point. -/
def insAt (c : Dev nD) (t : Fin cfg0.N) : Ins F :=
  ⟨iblk m c 0 t, iblk m c 1 t, iblk m c 2 t, iblk m c 3 t, iblk m c 4 t, iblk m c 5 t, iblk m c 6 t⟩

/-- A point's sums, from those it starts with. -/
def accStep (c : Dev nD) (t : Fin cfg0.N) (a : Vec F S4096x128 .f32) : Vec F S4096x128 .f32 :=
  sumsV (insAt m c t) (odd (grid0.coords t)) (grid0.coords t) a k0_t1_loop.trips

/-- The sums after each point: a head's first chunk starts from zero, the other goes on. -/
def accAt (c : Dev nD) : (n : ℕ) → n < cfg0.N → Vec F S4096x128 .f32
  | 0, h => accStep m c ⟨0, h⟩ k0_pay2
  | n + 1, h => if (n + 1) % 2 = 0 then accStep m c ⟨n + 1, h⟩ k0_pay2 else accStep m c ⟨n + 1, h⟩ (accAt c n (Nat.lt_of_succ_lt h))

theorem accAt_even (c : Dev nD) (t : Fin cfg0.N) (h : t.val % 2 = 0) : accAt m c t.val t.isLt = accStep m c t k0_pay2 := by
  obtain ⟨n, hn⟩ := t
  cases n with
  | zero => rfl
  | succ n => exact if_pos h

theorem accAt_odd (c : Dev nD) (t : Fin cfg0.N) (h : t.val % 2 = 1) :
    accAt m c t.val t.isLt = accStep m c t (accAt m c (t.val - 1) (Nat.lt_of_le_of_lt (Nat.sub_le _ _) t.isLt)) := by
  obtain ⟨n, hn⟩ := t
  cases n with
  | zero => exact absurd h (by simp)
  | succ n => exact if_neg (by dsimp only at h; omega)

/-- The invariant before a point: before the first what the launch hands over, afterwards the sums of the point before. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-- At any point the invariant holds the memref of the sums at something. -/
theorem PhiS_any (c : Dev nD) (n : ℕ) (h : n ≤ cfg0.N) : PhiS m c n h ⊢ Pipeline.ΦA spec0 c := by
  by_cases hz : n = 0
  · subst hz; exact Idealize.SL.BI.Entails.refl _
  · rw [PhiS_pos m c n h hz, PhiA_eq]
    iintro ⟨HS0, Hg⟩
    isplitl [HS0]
    · iexists _; iexact HS0
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqV (insAt m c t) (odd (grid0.coords t)) (grid0.coords t)
    | ⟨8, _⟩ => flat (accAt m c t.val t.isLt)
    | ⟨_ + 9, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = dqV (insAt m c t) (odd (grid0.coords t)) (grid0.coords t) := by dsimp only [dats]
theorem after8 (c : Dev nD) (t : Fin cfg0.N) : (dats m 0 c).after 8 t = flat (accAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- An input's memref, and that of the queries' gradient, is handed back at what `after` says. -/
theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4, leaves5, leaves6, leaves7, after0, after1, after2, after3, after4, after5, after6, after7]
  have hN : t.val < 8 := lt_of_lt_of_eq t.isLt (show cfg0.N = 8 from N_0)
  by_cases h0 : t.val % 2 = 0
  · have hc1 := (hcond1 t).mpr h0
    have hc2 : ¬ k0_cond2 (grid0.coords t) = 1#1 := fun h => by have := (hcond2 t).mp h; omega
    rw [Dat.leavesExact_idle (dats m 0 c) 8 t (idle8 t hc2) (stay8 t hc2), accAt_even m c t h0]
    refine (sep_mono (PhiS_any m c _ _) .rfl).trans ?_
    rw [PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c Set.univ (grid0.coords t) _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h1 : t.val % 2 = 1 := by omega
    have hc1 : ¬ cond1 (grid0.coords t) := fun h => h0 ((hcond1 t).mp h)
    have hc2 := (hcond2 t).mpr h1
    rw [show (dats m 0 c).leavesExact 8 t = owns (c : Thread nD τ) (ms8 t) fullShare ((dats m 0 c).after 8 t) from by
      unfold Dat.leavesExact; rw [live8 t hc2], after8, accAt_odd m c t h1, PhiS_pos m c _ _ (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c Set.univ (grid0.coords t) _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run and the frame -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => PhiS_any m c cfg0.N (Nat.le_refl _))

/-- Every execution terminates, the arrays ending at what the points wrote back. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

/-- The run with its two arrays named. -/
theorem run : θ_run defs (onTc (τ := τ) (main (F := F))) ⟨m, fun _ => 0, ρ⟩ (fun r => ∀ c : Dev nD,
      r.2.mem ((c.tc : Thread nD τ).loc main_v102_0) = (dats m 0 c).arrAt 7 cfg0.N
      ∧ r.2.mem ((c.tc : Thread nD τ).loc main_v102_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 7, (h.1 c).1 8, h.2 c⟩) (θ_run_and (run_main m ρ) (frame_of m ρ (dats m) (A_eq m) (run_main m ρ)))

end Cert.Kernel4Ideal.Attn
end
-- ==== Proof.Attn4.Spec.lean ====
/- Attention over a sliding window of the rows with the same residue modulo four, block by block, and its gradients, over the real
   numbers. The 32 blocks of 128 queries are numbered so that a block's residue is its number's, and the block before it with the
   same residue is the one four numbers below. -/
module

public import proofs.«01_k».proof.Proof.Attn.Spec

@[expose] public section
noncomputable section

namespace Cert.Attn

/-- Row `r` of block `b`; the number of the block a row lies in, and its place there. -/
def pos4 (b : Fin 32) (r : Fin 128) : Fin 4096 := ⟨512 * (b.val / 4) + b.val % 4 + 4 * r.val, by omega⟩
def blkOf (y : Fin 4096) : Fin 32 := ⟨4 * (y.val / 512) + y.val % 4, by omega⟩
def cellOf (y : Fin 4096) : Fin 128 := ⟨y.val % 512 / 4, by omega⟩

/-- The block's place among those of its residue. -/
def lev (b : Fin 32) : Fin 32 := ⟨b.val / 4, by omega⟩
/-- Block number `b` of the residue `ρ`. -/
def mk4 (b : Fin 8) (ρ : Fin 4) : Fin 32 := ⟨4 * b.val + ρ.val, by omega⟩

/-- The key's row, the block itself taken where there is no block before. -/
def posK4 (b : Fin 32) (x : Fin 256) : Fin 4096 :=
  if h : x.val < 128 then ⟨512 * (b.val / 4) - 512 + b.val % 4 + 4 * x.val, by omega⟩
  else ⟨512 * (b.val / 4) + b.val % 4 + 4 * (x.val - 128), by omega⟩

namespace Data
variable (D : Data) (b : Fin 32) (j : Fin 4)

/-- A block of the queries four rows apart; the penalty is for the distance between the rows. -/
def blk4 : Blk where
  Q n r c := D.q (pos4 b r) (colQ j n c)
  G n r c := D.g (pos4 b r) (colQ j n c)
  K x c := D.k (posK4 b x) (colK j c)
  V x c := D.v (posK4 b x) (colK j c)
  bias n r x := -slope (colE j n) * ((4 * (128 + r.val - x.val) : ℤ) : ℝ)
  E n r := D.e (pos4 b r) (colE j n)
  ok := ok (lev b)

/-- The block as the mathematics has it: zeros before the sequence. -/
def blk04 : Blk := (D.blk4 b j).mask (seen (lev b))

theorem ok_seen4 (r : Fin 128) (x : Fin 256) (h : (D.blk4 b j).ok r x) : seen (lev b) x := h.2
theorem ok_some4 (r : Fin 128) : ∃ x, (D.blk4 b j).ok r x := D.ok_some (lev b) j r

/-- The gradient of the queries. -/
def dq4 (y : Fin 4096) (n : Fin 4) (c : Fin 64) : ℝ := (D.blk4 (blkOf y) j).dq n (cellOf y) c
/-- The gradients of keys and values, from a block's key: from the key's own block, and from the block after it. -/
def both4 (f : Blk → Fin 256 → Fin 64 → ℝ) (b : Fin 32) (t : Fin 128) (c : Fin 64) : ℝ :=
  f (D.blk4 b j) ⟨128 + t.val, by omega⟩ c
    + if h : b.val + 4 < 32 then f (D.blk4 ⟨b.val + 4, h⟩ j) ⟨t.val, by omega⟩ c else 0
end Data
end Cert.Attn
end
-- ==== Proof.Attn4.Blocks.lean ====
/- One block of the attention's backward kernel with rows four apart: from blocks of real numbers to their gradients; and what the grid's points hand
   each block. -/
module

public import proofs.«01_k».proof.Proof.Attn.Arrays
public import proofs.«01_k».proof.Proof.Attn4.Runs
public import proofs.«01_k».proof.Proof.Attn4.Spec

@[expose] public section
set_option maxRecDepth 16384
noncomputable section

namespace Cert.Kernel4Ideal.Attn
open Cert.Kernel4Ideal Cert.Kernel4Ideal.Gen Idealize.ShloMosaic Idealize.ShloMosaic.TcCoe Idealize.SL.Sem Cert.Common
open Cert.Attn
open Cert.Kernel3Ideal.Attn (at4 lane two Slab Stack Dup Half Table Mat Halves stack_pay4 stack_pay7 dup_pay8 dup_pay9 pay10_eq halves_pay11 mat_pay12 pay19_eq slab_pay17 slab_pay18 side)

/-- The inputs as block `k` of the grid's point reads them are the real block `B`. -/
structure Sees (B : Blk) (x : Ins Ideal) (o : Fin 2) (i : grid0.Coords) (k : Fin k0_t1_loop.trips) : Prop where
  q1 : Slab B.Q 0 (View.ld x.q (R1 i k))
  q2 : Slab B.Q 1 (View.ld x.q (R2 i k))
  d1 : Slab B.G 0 (View.ld x.d (R1 i k))
  d2 : Slab B.G 1 (View.ld x.d (R2 i k))
  k1 : Half (fun t => B.K ⟨t.val, by omega⟩) o (View.ld x.k (R3 i k))
  k2 : Half (fun t => B.K ⟨128 + t.val, by omega⟩) o (View.ld x.k (R4 i k))
  v1 : Half (fun t => B.V ⟨t.val, by omega⟩) o (View.ld x.v (R3 i k))
  v2 : Half (fun t => B.V ⟨128 + t.val, by omega⟩) o (View.ld x.v (R4 i k))
  l : Table B.L (View.ld x.l (R5 i k))
  e : Table B.δ (View.ld x.e (R5 i k))
  b : ∀ n r y, (B.ok r y → View.ld x.b (R6 i k) (ix4 0 0 (at4 n r) y) = ((B.bias n r y : ℝ) : EReal))
    ∧ (¬ B.ok r y → View.ld x.b (R6 i k) (ix4 0 0 (at4 n r) y) = ⊥)

section
variable {B : Blk} {x : Ins Ideal} {o : Fin 2} {i : grid0.Coords} {k : Fin k0_t1_loop.trips} (H : Sees B x o i k)
include H

theorem stack_Q : Stack B.Q (Q x i k) := stack_pay4 H.q1 H.q2
theorem stack_D : Stack B.G (D x i k) := stack_pay7 H.d1 H.d2
theorem dup_K : Dup B.K (K x (BitVec.ofNat 1 o.val) i k) := dup_pay8 o H.k1 H.k2
theorem dup_W : Dup B.V (W x (BitVec.ofNat 1 o.val) i k) := dup_pay9 o H.v1 H.v2

theorem mat_P : Mat B.p (P x (BitVec.ofNat 1 o.val) i k) := by
  intro n r y
  refine (pay10_eq _ (stack_Q H) (dup_K H) H.l n r y).trans ?_
  by_cases h : B.ok r y
  · rw [(H.b n r y).1 h, ← EReal.coe_add, Ideal.exp_coe, ← B.exp_sub_L n r y h]
    congr 2; unfold Blk.sc; ring
  · rw [(H.b n r y).2 h, EReal.add_bot, B.p_of_not n r y h]
    exact Ideal.exp_bot

theorem halves_G : Halves B.p B.G (G x (BitVec.ofNat 1 o.val) i k) := halves_pay11 (mat_P H) (stack_D H)

theorem mat_T : Mat B.ds (T x (BitVec.ofNat 1 o.val) i k) := mat_pay12 (stack_D H) (dup_W H) (mat_P H) H.e

theorem slab_dq1 : Slab B.dq 0 (dq1 x (BitVec.ofNat 1 o.val) i k) := slab_pay17 (mat_T H) (dup_K H)
theorem slab_dq2 : Slab B.dq 1 (dq2 x (BitVec.ofNat 1 o.val) i k) := slab_pay18 (mat_T H) (dup_K H)

/-- What a block adds to the sums: the keys' gradient on the first half of the lanes, the values' on the second. -/
theorem own_eq (a : S128x128.Idx → EReal) (t : Fin 128) (h : Fin 2) (c : Fin 64) :
    (own x (BitVec.ofNat 1 o.val) i k a : S128x128.Idx → EReal) (ix2 t (lane h c))
      = a (ix2 t (lane h c)) + ((if h = 0 then B.dk ⟨128 + t.val, by omega⟩ c else B.dv ⟨128 + t.val, by omega⟩ c : ℝ) : EReal) := by
  have e := pay19_eq (stack_Q H) (halves_G H) (mat_T H)
  change ∀ x h c, (k0_pay22 (F := Ideal) (Q _ i k) (G _ _ i k) (T _ _ i k) : S256x128.Idx → EReal) (ix2 x (lane h c)) = _ at e
  unfold own k0_pay23
  generalize k0_pay22 (F := Ideal) _ _ _ = U at e ⊢
  pointwise
  exact congrArg (a (ix2 t (lane h c)) + ·) (e ⟨128 + t.val, by omega⟩ h c)

theorem before_eq (a : S128x128.Idx → EReal) (t : Fin 128) (h : Fin 2) (c : Fin 64) :
    (before x (BitVec.ofNat 1 o.val) i k a : S128x128.Idx → EReal) (ix2 t (lane h c))
      = a (ix2 t (lane h c)) + ((if h = 0 then B.dk ⟨t.val, by omega⟩ c else B.dv ⟨t.val, by omega⟩ c : ℝ) : EReal) := by
  have e := pay19_eq (stack_Q H) (halves_G H) (mat_T H)
  change ∀ x h c, (k0_pay22 (F := Ideal) (Q _ i k) (G _ _ i k) (T _ _ i k) : S256x128.Idx → EReal) (ix2 x (lane h c)) = _ at e
  unfold before k0_pay3 k0_pay24
  generalize k0_pay22 (F := Ideal) _ _ _ = U at e ⊢
  pointwise
  exact congrArg (a (ix2 t (lane h c)) + ·) (e ⟨t.val, by omega⟩ h c)
end

/-! ## A point of the grid -/

/-- The group of heads and the half of the lanes of a point; a block of it. -/
def jj (i : grid0.Coords) : Fin 4 := ⟨(i 0).val, (i 0).isLt⟩
def half (i : grid0.Coords) : Fin 2 := ⟨(i 0).val % 2, Nat.mod_lt _ (by decide)⟩
theorem k_lt (k : Fin k0_t1_loop.trips) : k.val < 16 := Nat.lt_of_lt_of_eq k.isLt trips1
def bb (i : grid0.Coords) (k : Fin k0_t1_loop.trips) : Fin 32 :=
  ⟨16 * (i 1).val + k.val, by have := k_lt k; have : (i 1).val < 2 := (i 1).isLt; omega⟩

theorem odd_eq : ∀ i : grid0.Coords, odd i = BitVec.ofNat 1 (half i).val := by decide +kernel

/-- A chunk's row, and the block it lies in. -/
def posC (i : grid0.Coords) (r : Fin 2048) : Fin 4096 := ⟨2048 * (i 1).val + r.val, by have : (i 1).val < 2 := (i 1).isLt; omega⟩
def blkC (i : grid0.Coords) (r : Fin 2048) : Fin 32 := bb i (blk r)
def rowC (r : Fin 2048) : Fin 128 := ⟨r.val % 512 / 4, by omega⟩

/-- The windows at a point hold the data `D`: queries and cotangents slab by slab, the two tables, keys and values, and the bias. -/
structure Holds (D : Data) (i : grid0.Coords) (x : Ins Ideal) : Prop where
  q : ∀ (s : Fin 2) (r : Fin 2048) (h : Fin 2) (c : Fin 64), x.q (ix3 s r (lane h c)) = ((D.q (posC i r) (colQ (jj i) ⟨2 * s.val + h.val, by omega⟩ c) : ℝ) : EReal)
  d : ∀ (s : Fin 2) (r : Fin 2048) (h : Fin 2) (c : Fin 64), x.d (ix3 s r (lane h c)) = ((D.g (posC i r) (colQ (jj i) ⟨2 * s.val + h.val, by omega⟩ c) : ℝ) : EReal)
  l : ∀ (r : Fin 2048) (l : Fin 128), x.l (ix3 0 r l) = ((if h : l.val < 4 then -(D.blk4 (blkC i r) (jj i)).L ⟨l.val, h⟩ (rowC r) else 0 : ℝ) : EReal)
  e : ∀ (r : Fin 2048) (l : Fin 128), x.e (ix3 0 r l) = ((if h : l.val < 4 then -(D.blk4 (blkC i r) (jj i)).δ ⟨l.val, h⟩ (rowC r) else 0 : ℝ) : EReal)
  k : ∀ (y : Fin 4096) (c : Fin 64), x.k (ix3 0 y (lane (half i) c)) = ((D.k y (colK (jj i) c) : ℝ) : EReal)
  v : ∀ (y : Fin 4096) (c : Fin 64), x.v (ix3 0 y (lane (half i) c)) = ((D.v y (colK (jj i) c) : ℝ) : EReal)
  b : ∀ (b : Fin 32) (s : Fin 2) (_ : s.val = min (lev b).val 1) (n : Fin 4) (r : Fin 128) (y : Fin 256),
    (ok (lev b) r y → x.b (ix4 s 0 (at4 n r) y) = (((D.blk4 b (jj i)).bias n r y : ℝ) : EReal)) ∧ (¬ ok (lev b) r y → x.b (ix4 s 0 (at4 n r) y) = ⊥)

section
variable {D : Data} {i : grid0.Coords} {x : Ins Ideal} (H : Holds D i x) (k : Fin k0_t1_loop.trips)

theorem ld_R1 (X : Vec Ideal S2x2048x128 .f32) (r l : Fin 128) (hk : k.val < 16) :
    View.ld X (R1 i k) (ix3 0 r l) = X (ix3 0 (⟨512 * (k.val / 4) + k.val % 4 + 4 * r.val, by omega⟩ : Fin 2048) l) := by
  refine congrArg X (funext fun b => Fin.ext ?_)
  fin_cases b
  · show k0_off1 i k 0 + 0 = 0; rw [k0_off1_eq]; rfl
  · show k0_off1 i k 1 + 4 * r.val = _; rw [k0_off1_eq]; rfl
  · show k0_off1 i k 2 + 1 * l.val = l.val; rw [k0_off1_eq]; show 0 + _ = _; omega
theorem ld_R2 (X : Vec Ideal S2x2048x128 .f32) (r l : Fin 128) (hk : k.val < 16) :
    View.ld X (R2 i k) (ix3 0 r l) = X (ix3 1 (⟨512 * (k.val / 4) + k.val % 4 + 4 * r.val, by omega⟩ : Fin 2048) l) := by
  refine congrArg X (funext fun b => Fin.ext ?_)
  fin_cases b
  · show k0_off2 i k 0 + 0 = 1; rw [k0_off2_eq]; rfl
  · show k0_off2 i k 1 + 4 * r.val = _; rw [k0_off2_eq]; rfl
  · show k0_off2 i k 2 + 1 * l.val = l.val; rw [k0_off2_eq]; show 0 + _ = _; omega
theorem ld_R5 (X : Vec Ideal S1x2048x128 .f32) (r l : Fin 128) (hk : k.val < 16) :
    View.ld X (R5 i k) (ix3 0 r l) = X (ix3 0 (⟨512 * (k.val / 4) + k.val % 4 + 4 * r.val, by omega⟩ : Fin 2048) l) := by
  refine congrArg X (funext fun b => Fin.ext ?_)
  fin_cases b
  · show k0_off5 i k 0 + 0 = 0; rw [k0_off5_eq]; rfl
  · show k0_off5 i k 1 + 4 * r.val = _; rw [k0_off5_eq]; rfl
  · show k0_off5 i k 2 + 1 * l.val = l.val; rw [k0_off5_eq]; show 0 + _ = _; omega
theorem ld_R3 (X : Vec Ideal S1x4096x128 .f32) (r l : Fin 128) :
    View.ld X (R3 i k) (ix3 0 r l) = X (ix3 0 (posK4 (bb i k) ⟨r.val, by omega⟩) l) := by
  refine congrArg X (funext fun b => Fin.ext ?_)
  fin_cases b
  · show k0_off3 i k 0 + 0 = 0; rw [k0_off3_eq]; rfl
  · show k0_off3 i k 1 + 4 * r.val = (posK4 (bb i k) ⟨r.val, by omega⟩).val
    rw [k0_off3_eq]; unfold posK4; rw [dif_pos (show r.val < 128 from r.isLt)]
    show 512 * (4 * (i 1).val + k.val / 4) - 512 + k.val % 4 + 4 * r.val = 512 * ((16 * (i 1).val + k.val) / 4) - 512 + (16 * (i 1).val + k.val) % 4 + 4 * r.val
    omega
  · show k0_off3 i k 2 + 1 * l.val = l.val; rw [k0_off3_eq]; show 0 + _ = _; omega
theorem ld_R4 (X : Vec Ideal S1x4096x128 .f32) (r l : Fin 128) :
    View.ld X (R4 i k) (ix3 0 r l) = X (ix3 0 (posK4 (bb i k) ⟨128 + r.val, by omega⟩) l) := by
  refine congrArg X (funext fun b => Fin.ext ?_)
  fin_cases b
  · show k0_off4 i k 0 + 0 = 0; rw [k0_off4_eq]; rfl
  · show k0_off4 i k 1 + 4 * r.val = (posK4 (bb i k) ⟨128 + r.val, by omega⟩).val
    rw [k0_off4_eq]; unfold posK4; rw [dif_neg (show ¬ 128 + r.val < 128 by omega)]
    show 512 * (4 * (i 1).val + k.val / 4) + k.val % 4 + 4 * r.val = 512 * ((16 * (i 1).val + k.val) / 4) + (16 * (i 1).val + k.val) % 4 + 4 * (128 + r.val - 128)
    omega
  · show k0_off4 i k 2 + 1 * l.val = l.val; rw [k0_off4_eq]; show 0 + _ = _; omega
theorem ld_R6 (X : Vec Ideal S2x1x512x256 .f32) (r : Fin 512) (l : Fin 256) :
    View.ld X (R6 i k) (ix4 0 0 r l) = X (ix4 (⟨min (lev (bb i k)).val 1, by omega⟩ : Fin 2) 0 r l) := by
  refine congrArg X (funext fun b => Fin.ext ?_)
  fin_cases b
  · show k0_off6 i k 0 + 0 = min ((16 * (i 1).val + k.val) / 4) 1; rw [k0_off6_eq]; show min (4 * (i 1).val + k.val / 4) 1 + 0 = _; omega
  · show k0_off6 i k 1 + 0 = 0; rw [k0_off6_eq]; rfl
  · show k0_off6 i k 2 + 1 * r.val = r.val; rw [k0_off6_eq]; show 0 + _ = _; omega
  · show k0_off6 i k 3 + 1 * l.val = l.val; rw [k0_off6_eq]; show 0 + _ = _; omega

include H in
theorem sees : Sees (D.blk4 (bb i k) (jj i)) x (half i) i k := by
  have hk : k.val < 16 := k_lt k
  have ep : ∀ r : Fin 128, posC i (⟨512 * (k.val / 4) + k.val % 4 + 4 * r.val, by omega⟩ : Fin 2048) = pos4 (bb i k) r := fun r => Fin.ext (by
    show 2048 * (i 1).val + (512 * (k.val / 4) + k.val % 4 + 4 * r.val) = 512 * ((16 * (i 1).val + k.val) / 4) + (16 * (i 1).val + k.val) % 4 + 4 * r.val; omega)
  have eb : ∀ r : Fin 128, blkC i (⟨512 * (k.val / 4) + k.val % 4 + 4 * r.val, by omega⟩ : Fin 2048) = bb i k := fun r => Fin.ext (by
    show 16 * (i 1).val + (4 * ((512 * (k.val / 4) + k.val % 4 + 4 * r.val) / 512) + (512 * (k.val / 4) + k.val % 4 + 4 * r.val) % 4) = 16 * (i 1).val + k.val; omega)
  have er : ∀ r : Fin 128, rowC (⟨512 * (k.val / 4) + k.val % 4 + 4 * r.val, by omega⟩ : Fin 2048) = r := fun r => Fin.ext (by
    show (512 * (k.val / 4) + k.val % 4 + 4 * r.val) % 512 / 4 = r.val; omega)
  constructor
  · intro r h c; rw [ld_R1 k _ _ _ hk, H.q, ep]; rfl
  · intro r h c; rw [ld_R2 k _ _ _ hk, H.q, ep]; rfl
  · intro r h c; rw [ld_R1 k _ _ _ hk, H.d, ep]; rfl
  · intro r h c; rw [ld_R2 k _ _ _ hk, H.d, ep]; rfl
  · intro t c; rw [ld_R3 k, H.k]; rfl
  · intro t c; rw [ld_R4 k, H.k]; rfl
  · intro t c; rw [ld_R3 k, H.v]; rfl
  · intro t c; rw [ld_R4 k, H.v]; rfl
  · intro r l; rw [ld_R5 k _ _ _ hk, H.l, eb, er]
  · intro r l; rw [ld_R5 k _ _ _ hk, H.e, eb, er]
  · intro n r y; rw [ld_R6 k]; exact H.b (bb i k) _ rfl n r y

/-! ## The chunk's results -/

include H in
/-- The queries' gradient of a chunk. -/
theorem dqV_eq (s : Fin 2) (r : Fin 2048) (h : Fin 2) (c : Fin 64) :
    (dqV x (odd i) i : S2x2048x128.Idx → EReal) (ix3 s r (lane h c))
      = (((D.blk4 (blkC i r) (jj i)).dq ⟨2 * s.val + h.val, by omega⟩ (rowC r) c : ℝ) : EReal) := by
  unfold dqV
  rw [odd_eq]
  obtain rfl | rfl := two s
  · exact slab_dq1 (sees H (blk r)) (rowC r) h c
  · exact slab_dq2 (sees H (blk r)) (rowC r) h c

/-- What block `β` adds to a row of the sums, which keep the rows block by block. -/
def part (D : Data) (j : Fin 4) (β : ℕ) (y : Fin 4096) (h : Fin 2) (c : Fin 64) : ℝ :=
  (if y.val / 128 = β then side h (D.blk4 ⟨y.val / 128, by omega⟩ j) ⟨128 + y.val % 128, by omega⟩ c else 0)
    + (if y.val / 128 + 4 = β then (if hb : y.val / 128 + 4 < 32 then side h (D.blk4 ⟨y.val / 128 + 4, hb⟩ j) ⟨y.val % 128, by omega⟩ c else 0) else 0)

end
end Cert.Kernel4Ideal.Attn
end
-- ==== Proof.Attn4.Sums.lean ====
/- The sums for keys and values: what each block adds, and what the two chunks of a group of heads leave. -/
module

public import proofs.«01_k».proof.Proof.Attn4.Blocks

@[expose] public section
set_option maxRecDepth 16384
noncomputable section

namespace Cert.Kernel4Ideal.Attn
open Cert.Kernel4Ideal Cert.Kernel4Ideal.Gen Idealize.ShloMosaic Idealize.ShloMosaic.TcCoe Idealize.SL.Sem Cert.Common
open Cert.Attn
open Cert.Kernel3Ideal.Attn (lane put put_in put_out side side_eq Real3)

section
variable {D : Data} {i : grid0.Coords} {x : Ins Ideal} (H : Holds D i x) (k : Fin k0_t1_loop.trips)

theorem base_le : 2048 * (i 1).val + 128 * k.val + 128 ≤ 4096 := by
  have := k_lt k; have : (i 1).val < 2 := (i 1).isLt; omega

theorem prev_le : 128 * prev i k + 128 ≤ 4096 := by
  have := base_le (i := i) k; unfold prev; split <;> omega

theorem ld_R7 (X : Vec Ideal S4096x128 .f32) (t l : Fin 128) :
    View.ld X (R7 i k) (ix2 t l) = X (ix2 (⟨2048 * (i 1).val + 128 * k.val + t.val, by have := base_le (i := i) k; omega⟩ : Fin 4096) l) := by
  refine congrArg X (funext fun b => Fin.ext ?_)
  fin_cases b
  · show k0_off7 i k 0 + 1 * t.val = 2048 * (i 1).val + 128 * k.val + t.val; rw [k0_off7_eq]; show 2048 * (i 1).val + 128 * k.val + 1 * t.val = _; omega
  · show k0_off7 i k 1 + 1 * l.val = l.val; rw [k0_off7_eq]; show 0 + _ = _; omega
theorem ld_R8 (X : Vec Ideal S4096x128 .f32) (t l : Fin 128) :
    View.ld X (R8 i k) (ix2 t l) = X (ix2 (⟨128 * prev i k + t.val, by have := prev_le (i := i) k; omega⟩ : Fin 4096) l) := by
  refine congrArg X (funext fun b => Fin.ext ?_)
  fin_cases b
  · show k0_off8 i k 0 + 1 * t.val = 128 * prev i k + t.val; rw [k0_off8_eq]; show 128 * prev i k + 1 * t.val = _; omega
  · show k0_off8 i k 1 + 1 * l.val = l.val; rw [k0_off8_eq]; show 0 + _ = _; omega

/-- Nothing is added for keys no row of a block sees. -/
theorem side_unseen (D : Data) (j : Fin 4) (h : Fin 2) (b : Fin 32) (y : Fin 256) (c : Fin 64) (hy : ¬ seen (lev b) y) : side h (D.blk4 b j) y c = 0 := by
  have hp : ∀ n r, (D.blk4 b j).p n r y = 0 := fun n r => Blk.p_of_not _ n r y fun q => hy (D.ok_seen4 b j r y q)
  unfold side
  split
  · unfold Blk.dk Blk.ds; simp only [hp, zero_mul, Finset.sum_const_zero]
  · unfold Blk.dv; simp only [hp, zero_mul, Finset.sum_const_zero]

include H in
theorem stepV_eq {a : Vec Ideal S4096x128 .f32} {s : Fin 4096 → Fin 2 → Fin 64 → ℝ} (ha : Real3 s a) :
    Real3 (fun y h c => s y h c + part D (jj i) (16 * (i 1).val + k.val) y h c) (stepV x (odd i) i k a) := by
  have hS := sees H k
  have hb : Real3 (fun y h c => s y h c + (if y.val / 128 = 16 * (i 1).val + k.val then side h (D.blk4 ⟨y.val / 128, by omega⟩ (jj i)) ⟨128 + y.val % 128, by omega⟩ c else 0))
      (put (2048 * (i 1).val + 128 * k.val) (own x (odd i) i k (View.ld a (R7 i k))) a) := by
    intro y h c
    beta_reduce
    by_cases hy : 2048 * (i 1).val + 128 * k.val ≤ y.val ∧ y.val < 2048 * (i 1).val + 128 * k.val + 128
    · have hd : y.val / 128 = 16 * (i 1).val + k.val := by omega
      rw [put_in _ _ _ y _ hy.1 hy.2, odd_eq]
      refine (own_eq hS _ _ h c).trans ?_
      rw [ld_R7, side_eq, if_pos hd, EReal.coe_add]
      refine congrArg₂ (· + ·) ((congrArg a (congrArg (ix2 · (lane h c)) (Fin.ext ?_))).trans (ha y h c)) (congrArg _ ?_)
      · show 2048 * (i 1).val + 128 * k.val + (y.val - _) = y.val; omega
      · have e1 : bb i k = ⟨y.val / 128, by omega⟩ := Fin.ext hd.symm
        rw [e1]
        exact congrArg (fun q => side h (D.blk4 ⟨y.val / 128, by omega⟩ (jj i)) q c) (Fin.ext (by show 128 + (y.val - _) = 128 + y.val % 128; omega))
    · rw [put_out _ _ _ y _ hy, if_neg (by omega), add_zero]
      exact ha y h c
  intro y h c
  beta_reduce
  unfold stepV
  dsimp only
  generalize put (2048 * (i 1).val + 128 * k.val) (own x (odd i) i k (View.ld a (R7 i k))) a = b at hb
  unfold part
  rw [← add_assoc]
  have hpv : 128 * prev i k = if 16 * (i 1).val + k.val < 4 then 128 * (16 * (i 1).val + k.val) else 128 * (16 * (i 1).val + k.val - 4) := by
    unfold prev; split <;> rfl
  by_cases hy : 128 * prev i k ≤ y.val ∧ y.val < 128 * prev i k + 128
  · rw [put_in _ _ _ y _ hy.1 hy.2, odd_eq]
    refine (before_eq hS _ _ h c).trans ?_
    rw [ld_R8, side_eq, EReal.coe_add]
    refine congrArg₂ (· + ·) ((congrArg b (congrArg (ix2 · (lane h c)) (Fin.ext ?_))).trans (hb y h c)) (congrArg _ ?_)
    · show 128 * prev i k + (y.val - _) = y.val; omega
    · by_cases hz : 16 * (i 1).val + k.val < 4
      · rw [if_neg (by omega)]
        rw [if_pos hz] at hpv
        exact side_unseen D (jj i) h (bb i k) _ c (by
          show ¬ 128 ≤ 128 * ((16 * (i 1).val + k.val) / 4) + (y.val - 128 * prev i k); omega)
      · rw [if_neg hz] at hpv
        have hd : y.val / 128 + 4 = 16 * (i 1).val + k.val := by omega
        have hlt : y.val / 128 + 4 < 32 := by rw [hd]; exact (bb i k).isLt
        rw [if_pos hd, dif_pos hlt]
        have e1 : bb i k = ⟨y.val / 128 + 4, hlt⟩ := Fin.ext hd.symm
        rw [e1]
        exact congrArg (fun q => side h (D.blk4 ⟨y.val / 128 + 4, hlt⟩ (jj i)) q c) (Fin.ext (by show y.val - 128 * prev i k = y.val % 128; omega))
  · rw [put_out _ _ _ y _ hy, if_neg (c := y.val / 128 + 4 = 16 * (i 1).val + k.val) (by split at hpv <;> omega), add_zero]
    exact hb y h c

include H in
theorem sumsV_eq {a : Vec Ideal S4096x128 .f32} {s : Fin 4096 → Fin 2 → Fin 64 → ℝ} (ha : Real3 s a) (n : ℕ) (hn : n ≤ 16) :
    Real3 (fun y h c => s y h c + ∑ k ∈ Finset.range n, part D (jj i) (16 * (i 1).val + k) y h c) (sumsV x (odd i) i a n) := by
  induction n with
  | zero => intro y h c; beta_reduce; rw [Finset.sum_range_zero, add_zero]; exact ha y h c
  | succ n ih =>
    intro y h c
    beta_reduce
    have hlt : n < k0_t1_loop.trips := by rw [trips1]; omega
    rw [sumsV, dif_pos hlt, Finset.sum_range_succ, ← add_assoc]
    exact stepV_eq H ⟨n, hlt⟩ (ih (by omega)) y h c
end

/-- All the blocks together. -/
theorem sum_part (D : Data) (j : Fin 4) (y : Fin 4096) (h : Fin 2) (c : Fin 64) :
    (∑ k ∈ Finset.range 16, part D j (16 * 0 + k) y h c) + (∑ k ∈ Finset.range 16, part D j (16 * 1 + k) y h c) = D.both4 j (side h) ⟨y.val / 128, by omega⟩ ⟨y.val % 128, by omega⟩ c := by
  have e : (∑ k ∈ Finset.range 16, part D j (16 * 0 + k) y h c) + (∑ k ∈ Finset.range 16, part D j (16 * 1 + k) y h c) = ∑ k ∈ Finset.range 32, part D j k y h c := by
    rw [show (32 : ℕ) = 16 + 16 from rfl, Finset.sum_range_add]
    simp only [Nat.mul_zero, Nat.zero_add, Nat.mul_one]
  have hy := y.isLt
  rw [e]
  unfold part Data.both4
  rw [Finset.sum_add_distrib, Finset.sum_ite_eq, Finset.sum_ite_eq, if_pos (Finset.mem_range.2 (by omega))]
  congr 1
  by_cases hb : y.val / 128 + 4 < 32
  · rw [if_pos (Finset.mem_range.2 hb)]
  · rw [if_neg (fun q => hb (Finset.mem_range.1 q)), dif_neg hb]
end Cert.Kernel4Ideal.Attn
end
-- ==== Proof.Attn4.Keys.lean ====
/- The 256 keys of a block of rows four apart in terms of the sequence's rows, and the distance penalty's words. -/
module

public import proofs.«01_k».proof.Proof.Attn.Soft
public import proofs.«01_k».proof.Proof.Attn4.Spec

@[expose] public section
set_option maxRecDepth 16384
noncomputable section

namespace Cert.Attn
open Idealize.ShloMosaic Cert.Common

theorem posK4_before (b : Fin 8) (ρ : Fin 4) (x : Fin 256) (h : x.val < 128) : (posK4 (mk4 b ρ) x).val = 512 * b.val - 512 + ρ.val + 4 * x.val := by
  unfold posK4 mk4; rw [dif_pos h]; simp only; omega
theorem posK4_own (b : Fin 8) (ρ : Fin 4) (x : Fin 256) (h : ¬ x.val < 128) : (posK4 (mk4 b ρ) x).val = 512 * b.val + ρ.val + 4 * (x.val - 128) := by
  unfold posK4 mk4; rw [dif_neg h]; simp only; omega

/-- What a block's 256 keys hold, from the rows of the array: the block before's, then the block's. -/
theorem keys4 (f : Fin 4096 → ℝ) (b : Fin 8) (ρ : Fin 4) (x : Fin 256) (t : EReal) {inst : Decidable (seen (lev (mk4 b ρ)) x)}
    (h0 : x.val < 128 → b.val < 1 → t = 0) (h1 : x.val < 128 → ¬ b.val < 1 → t = f (posK4 (mk4 b ρ) x))
    (h2 : ¬ x.val < 128 → t = f (posK4 (mk4 b ρ) x)) :
    t = ((if seen (lev (mk4 b ρ)) x then f (posK4 (mk4 b ρ) x) else 0 : ℝ) : EReal) := by
  have hl : (lev (mk4 b ρ)).val = b.val := by unfold lev mk4; simp only; omega
  by_cases hx : x.val < 128
  · by_cases hb : b.val < 1
    · rw [h0 hx hb, if_neg (by unfold seen; rw [hl]; omega)]; rfl
    · rw [h1 hx hb, if_pos (by unfold seen; rw [hl]; omega)]
  · rw [h2 hx, if_pos (by unfold seen; rw [hl]; omega)]

theorem dist4_toInt : ∀ (r : Fin 128) (x : Fin 256),
    (IntOp.muli (IntOp.subi (IntOp.addi 128#32 (BitVec.ofNat 32 r.val)) (BitVec.ofNat 32 x.val)) 4#32).toInt = 4 * (128 + (r.val : ℤ) - x.val) := by
  decide +kernel

/-- The bias at a key: the penalty where the row sees it, −∞ elsewhere. -/
theorem bias_word4 (r : Fin 128) (x : Fin 256) (h : Fin 16) (w : BitVec 1) (t : EReal) (a b : Nat) (ht : t = ⊥) (ha : a = r.val) (hb : b = h.val) :
    Scalar.select (IntOp.andi (IntOp.andi
        (IntOp.cmpi .sge (IntOp.subi (IntOp.addi 128#32 (BitVec.ofNat 32 a)) (BitVec.ofNat 32 x.val)) 0#32)
        (IntOp.cmpi .sle (IntOp.subi (IntOp.addi 128#32 (BitVec.ofNat 32 a)) (BitVec.ofNat 32 x.val)) 128#32)) w)
      (-Ideal.exp (Ideal.ofBits FTy.f32 1060205080#32 * Ideal.div
          (Ideal.ofBits FTy.f32 3238002688#32 * (FloatOps.sitofp (F := Ideal) FTy.f32 (BitVec.ofNat 32 b) + 1))
          (Ideal.ofBits FTy.f32 1098907648#32))
        * FloatOps.sitofp (F := Ideal) FTy.f32
          (IntOp.muli (IntOp.subi (IntOp.addi 128#32 (BitVec.ofNat 32 a)) (BitVec.ofNat 32 x.val)) 4#32)) t
      = if (r.val ≤ x.val ∧ x.val ≤ 128 + r.val) ∧ w = 1#1 then ((-slope h * ((4 * (128 + (r.val : ℤ) - x.val) : ℤ) : ℝ) : ℝ) : EReal) else ⊥ := by
  subst ha hb
  have hs : ∀ w : BitVec 32, (FloatOps.sitofp (F := Ideal) FTy.f32 w) = ((w.toInt : ℝ) : EReal) := fun _ => rfl
  rw [hs, hs, dist4_toInt, head_toInt, Int.cast_natCast, slope_eq, ← EReal.coe_neg, ← EReal.coe_mul, ht]
  by_cases hw : (r.val ≤ x.val ∧ x.val ≤ 128 + r.val) ∧ w = 1#1
  · rw [if_pos hw, (and_one _ _).mpr ⟨(dist_near r x).mpr hw.1, hw.2⟩]; rfl
  · rw [if_neg hw, one_bit _ (fun he => hw ⟨(dist_near r x).mp ((and_one _ _).mp he).1, ((and_one _ _).mp he).2⟩)]; rfl
end Cert.Attn
end
-- ==== Proof.Attn4.Reduce.lean ====
/- Sums along axes of arrays of six and seven axes. -/
module

public import proofs.«01_k».proof.Proof.Attn.Soft
public import Idealize.ShloMosaic.Lib.Pipeline.ValueKit
public import Idealize.ShloMosaic.Lib.Pointwise

@[expose] public section
set_option maxRecDepth 16384
noncomputable section

namespace Cert.Attn
open Idealize.ShloMosaic Cert.Common

/-- The entries that a reduction over the last of six axes brings together. -/
theorem row_mem6 {p q s t v u : ℕ} (hr : (⟨6, ![p, q, s, t, v, u]⟩ : Shape).ReducesTo [5] ⟨5, ![p, q, s, t, v]⟩)
    (a : Fin p) (b : Fin q) (c : Fin s) (d : Fin t) (e : Fin v) (i : (⟨6, ![p, q, s, t, v, u]⟩ : Shape).Idx) :
    i ∈ ({i | hr.drop i = ix5 a b c d e} : Finset (⟨6, ![p, q, s, t, v, u]⟩ : Shape).Idx) ↔ ∃ x, i = ix6 a b c d e x := by
  rw [Finset.mem_filter]
  constructor
  · rintro ⟨-, h⟩
    refine ⟨i 5, (eq_ix6 i).trans ?_⟩
    have f : ∀ k, (hr.drop i k).val = (ix5 a b c d e k : Fin _).val := fun k => by rw [h]
    have e0 : i 0 = a := Fin.ext (f 0)
    have e1 : i 1 = b := Fin.ext (f 1)
    have e2 : i 2 = c := Fin.ext (f 2)
    have e3 : i 3 = d := Fin.ext (f 3)
    have e4 : i 4 = e := Fin.ext (f 4)
    rw [e0, e1, e2, e3, e4]
  · rintro ⟨x, rfl⟩
    exact ⟨Finset.mem_univ _, eq_ix5 _⟩

/-- A sum over the last of six axes. -/
theorem sum_last6 {p q s t v u : ℕ} (hr : (⟨6, ![p, q, s, t, v, u]⟩ : Shape).ReducesTo [5] ⟨5, ![p, q, s, t, v]⟩)
    (x : (⟨6, ![p, q, s, t, v, u]⟩ : Shape).Idx → EReal) (init : EReal) (a : Fin p) (b : Fin q) (c : Fin s) (d : Fin t) (e : Fin v) :
    Ideal.hostReduceAdd hr x init (ix5 a b c d e) = init + ∑ y, x (ix6 a b c d e y) := by
  unfold Ideal.hostReduceAdd
  refine congrArg (init + ·) (Finset.sum_nbij' (fun i => (i 5 : Fin u)) (fun y => ix6 a b c d e y) ?_ ?_ ?_ ?_ ?_)
  · exact fun i _ => Finset.mem_univ _
  · exact fun y _ => (row_mem6 hr a b c d e _).2 ⟨y, rfl⟩
  · intro i hi
    obtain ⟨y, rfl⟩ := (row_mem6 hr a b c d e i).1 hi
    rfl
  · exact fun y _ => rfl
  · intro i hi
    obtain ⟨y, rfl⟩ := (row_mem6 hr a b c d e i).1 hi
    rfl

/-- The entries that a reduction over the last of seven axes brings together. -/
theorem row_mem7 {o p q s t u : ℕ} (hr : (⟨7, ![1, o, p, q, s, t, u]⟩ : Shape).ReducesTo [6] ⟨6, ![1, o, p, q, s, t]⟩)
    (ρ : Fin o) (a : Fin p) (b : Fin q) (c : Fin s) (d : Fin t) (i : (⟨7, ![1, o, p, q, s, t, u]⟩ : Shape).Idx) :
    i ∈ ({i | hr.drop i = ix6 0 ρ a b c d} : Finset (⟨7, ![1, o, p, q, s, t, u]⟩ : Shape).Idx) ↔ ∃ x, i = ix7 0 ρ a b c d x := by
  rw [Finset.mem_filter]
  constructor
  · rintro ⟨-, h⟩
    refine ⟨i 6, (eq_ix7 i).trans ?_⟩
    have e : ∀ k, (hr.drop i k).val = (ix6 0 ρ a b c d k : Fin _).val := fun k => by rw [h]
    have e0 : i 0 = (0 : Fin 1) := Fin.ext (e 0)
    have e1 : i 1 = ρ := Fin.ext (e 1)
    have e2 : i 2 = a := Fin.ext (e 2)
    have e3 : i 3 = b := Fin.ext (e 3)
    have e4 : i 4 = c := Fin.ext (e 4)
    have e5 : i 5 = d := Fin.ext (e 5)
    rw [e0, e1, e2, e3, e4, e5]
  · rintro ⟨x, rfl⟩
    exact ⟨Finset.mem_univ _, eq_ix6 _⟩

/-- A sum over the last of seven axes. -/
theorem sum_last7 {o p q s t u : ℕ} (hr : (⟨7, ![1, o, p, q, s, t, u]⟩ : Shape).ReducesTo [6] ⟨6, ![1, o, p, q, s, t]⟩)
    (x : (⟨7, ![1, o, p, q, s, t, u]⟩ : Shape).Idx → EReal) (init : EReal) (ρ : Fin o) (a : Fin p) (b : Fin q) (c : Fin s) (d : Fin t) :
    Ideal.hostReduceAdd hr x init (ix6 0 ρ a b c d) = init + ∑ y, x (ix7 0 ρ a b c d y) := by
  unfold Ideal.hostReduceAdd
  refine congrArg (init + ·) (Finset.sum_nbij' (fun i => (i 6 : Fin u)) (fun y => ix7 0 ρ a b c d y) ?_ ?_ ?_ ?_ ?_)
  · exact fun i _ => Finset.mem_univ _
  · exact fun y _ => (row_mem7 hr ρ a b c d _).2 ⟨y, rfl⟩
  · intro i hi
    obtain ⟨y, rfl⟩ := (row_mem7 hr ρ a b c d i).1 hi
    rfl
  · exact fun y _ => rfl
  · intro i hi
    obtain ⟨y, rfl⟩ := (row_mem7 hr ρ a b c d i).1 hi
    rfl

/-- A sum over two axes of size one, the first and the last. -/
theorem sum_unit7 {o p q s t : ℕ} (hr : (⟨7, ![1, o, p, q, s, t, 1]⟩ : Shape).ReducesTo [0, 6] ⟨5, ![o, p, q, s, t]⟩)
    (x : (⟨7, ![1, o, p, q, s, t, 1]⟩ : Shape).Idx → EReal) (init : EReal) (ρ : Fin o) (a : Fin p) (b : Fin q) (c : Fin s) (d : Fin t) :
    Ideal.hostReduceAdd hr x init (ix5 ρ a b c d) = init + x (ix7 0 ρ a b c d 0) := by
  unfold Ideal.hostReduceAdd
  have hd : ∀ i, ((hr.drop i) 0).val = (i 1).val ∧ ((hr.drop i) 1).val = (i 2).val ∧ ((hr.drop i) 2).val = (i 3).val ∧ ((hr.drop i) 3).val = (i 4).val
      ∧ ((hr.drop i) 4).val = (i 5).val := fun i => ⟨rfl, rfl, rfl, rfl, rfl⟩
  refine congrArg (init + ·) (Finset.sum_eq_single_of_mem (ix7 0 ρ a b c d 0) ?_ ?_)
  · exact Finset.mem_filter.2 ⟨Finset.mem_univ _, eq_ix5 _⟩
  · intro j hj hne
    refine absurd (funext fun k => Fin.ext ?_) hne
    have h1 := fun k => congrArg Fin.val (congrFun (Finset.mem_filter.1 hj).2 k)
    obtain ⟨e0, e1, e2, e3, e4⟩ := hd j
    match k with
    | 0 => have : (j 0).val < 1 := (j 0).isLt; show (j 0).val = 0; omega
    | 1 => exact e0.symm.trans (h1 0)
    | 2 => exact e1.symm.trans (h1 1)
    | 3 => exact e2.symm.trans (h1 2)
    | 4 => exact e3.symm.trans (h1 3)
    | 5 => exact e4.symm.trans (h1 4)
    | 6 => have : (j 6).val < 1 := (j 6).isLt; show (j 6).val = 0; omega
end Cert.Attn
end
-- ==== Proof.Attn4.Host.lean ====
/- What the host prepares for the attention's gradient call: the bias, keys and values with the block before, the score
   rows' log-sums, and the sums the cotangents take off. -/
module

public import proofs.«01_k».proof.Proof.Attn4.Sums
public import proofs.«01_k».proof.Proof.Attn4.Keys
public import proofs.«01_k».proof.Proof.Attn4.Reduce
public import Idealize.ShloMosaic.Lib.StableHlo.ReadAt

@[expose] public section
set_option maxRecDepth 16384
noncomputable section

namespace Cert.Kernel4Ideal.Attn
open Cert.Kernel4Ideal Cert.Kernel4Ideal.Gen Idealize.ShloMosaic Idealize.ShloMosaic.TcCoe Idealize.SL.Sem Cert.Common
open Cert.Attn
open Cert.Kernel3Ideal.Attn (lane at4 at4_mod at4_div tbl add_log)

variable (m : (ℓ : Loc nD τ sig) → Buf (Elt Ideal) ℓ)

/-- The kernel's arguments hold the real arrays `D`. -/
structure Args (D : Data) (c : Dev nD) : Prop where
  q : ∀ i k, (m ((c : Thread nD τ).loc main_arg0) : S1x4096x1024.Idx → EReal) (ix3 0 i k) = ((D.q i k : ℝ) : EReal)
  k : ∀ i k, (m ((c : Thread nD τ).loc main_arg1) : S1x4096x256.Idx → EReal) (ix3 0 i k) = ((D.k i k : ℝ) : EReal)
  v : ∀ i k, (m ((c : Thread nD τ).loc main_arg2) : S1x4096x256.Idx → EReal) (ix3 0 i k) = ((D.v i k : ℝ) : EReal)
  g : ∀ i k, (m ((c : Thread nD τ).loc main_arg3) : S1x4096x1024.Idx → EReal) (ix3 0 i k) = ((D.g i k : ℝ) : EReal)
  e : ∀ i k, (m ((c : Thread nD τ).loc main_arg4) : S1x4096x16.Idx → EReal) (ix3 0 i k) = ((D.e i k : ℝ) : EReal)

variable {D : Data} {c : Dev nD}

theorem v46 (b : Fin 32) (j n : Fin 4) (r : Fin 128) (x : Fin 256) :
    (V m c main_v46 : S2x4x512x256.Idx → EReal) (ix4 (tbl (lev b)) j (at4 n r) x)
      = if ok (lev b) r x then (((D.blk4 b j).bias n r x : ℝ) : EReal) else ⊥ := by
  unfold V; after_reads_at
  refine (bias_word4 r x (colE j n) _ _ _ _ ofBits_bot (at4_mod n r) (by rw [at4_div]; unfold colE; simp only; omega)).trans ?_
  refine if_congr (and_congr Iff.rfl ?_) rfl rfl
  by_cases hb : (lev b).val = 0
  · have h0 : (tbl (lev b)).val < 1 := by unfold tbl; simp only; omega
    rw [dif_pos h0]
    after_reads_at
    rw [first_half]; omega
  · have h0 : ¬ (tbl (lev b)).val < 1 := by unfold tbl; simp only; omega
    rw [dif_neg h0]
    after_reads_at
    exact iff_of_true trivial (by omega)

/-- Keys (first four) and values (last four) of a block and the block before, zeros before the first. -/
theorem arg_k (h : Args m D c) (i i' : Fin 4096) (k : Fin 256) (j : Fin 4) (y : Fin 64) (hi : i.val = i'.val) (hk : k.val = 64 * j.val + y.val) :
    (m ((c : Thread nD τ).loc main_arg1) : S1x4096x256.Idx → EReal) (ix3 0 i k) = ((D.k i' (colK j y) : ℝ) : EReal) := by
  obtain rfl : k = colK j y := Fin.ext hk
  obtain rfl := Fin.ext hi
  exact h.k i _
theorem v52k (h : Args m D c) (b : Fin 8) (ρ : Fin 4) (x : Fin 256) (j : Fin 4) (y : Fin 64) :
    (V m c main_v52 : S8x256x4x8x64.Idx → EReal) (ix5 b x ρ ⟨j.val, by omega⟩ y) = (((D.blk04 (mk4 b ρ) j).K x y : ℝ) : EReal) := by
  have hj : j.val * 64 + y.val < 256 := by omega
  refine keys4 (fun i => D.k i (colK j y)) b ρ x _ (fun hx hb => ?_) (fun hx hb => ?_) (fun hx => ?_)
  · unfold V; after_reads_at
    rw [dif_pos hx, dif_pos hb]; after_reads_at
  · unfold V; after_reads_at
    rw [dif_pos hx, dif_neg hb]; after_reads_at
    rw [dif_pos hj]; after_reads_at
    have e := posK4_before b ρ x hx
    exact arg_k m h _ _ _ j y ((by simp only; omega : _ = _).trans e.symm) (by simp only; omega)
  · unfold V; after_reads_at
    rw [dif_neg hx, dif_pos hj]; after_reads_at
    have e := posK4_own b ρ x hx
    exact arg_k m h _ _ _ j y ((by simp only; omega : _ = _).trans e.symm) (by simp only; omega)

theorem arg_v (h : Args m D c) (i i' : Fin 4096) (k : Fin 256) (j : Fin 4) (y : Fin 64) (hi : i.val = i'.val) (hk : k.val = 64 * j.val + y.val) :
    (m ((c : Thread nD τ).loc main_arg2) : S1x4096x256.Idx → EReal) (ix3 0 i k) = ((D.v i' (colK j y) : ℝ) : EReal) := by
  obtain rfl : k = colK j y := Fin.ext hk
  obtain rfl := Fin.ext hi
  exact h.v i _
theorem v52v (h : Args m D c) (b : Fin 8) (ρ : Fin 4) (x : Fin 256) (j : Fin 4) (y : Fin 64) :
    (V m c main_v52 : S8x256x4x8x64.Idx → EReal) (ix5 b x ρ ⟨4 + j.val, by omega⟩ y) = (((D.blk04 (mk4 b ρ) j).V x y : ℝ) : EReal) := by
  have hj : ¬ (4 + j.val) * 64 + y.val < 256 := by omega
  refine keys4 (fun i => D.v i (colK j y)) b ρ x _ (fun hx hb => ?_) (fun hx hb => ?_) (fun hx => ?_)
  · unfold V; after_reads_at
    rw [dif_pos hx, dif_pos hb]; after_reads_at
  · unfold V; after_reads_at
    rw [dif_pos hx, dif_neg hb]; after_reads_at
    rw [dif_neg hj]; after_reads_at
    have e := posK4_before b ρ x hx
    exact arg_v m h _ _ _ j y ((by simp only; omega : _ = _).trans e.symm) (by simp only; omega)
  · unfold V; after_reads_at
    rw [dif_neg hx, dif_neg hj]; after_reads_at
    have e := posK4_own b ρ x hx
    exact arg_v m h _ _ _ j y ((by simp only; omega : _ = _).trans e.symm) (by simp only; omega)

/-! ## Scores, their greatest, the exponentials -/

theorem v62 (b : Fin 8) (ρ j n : Fin 4) (r : Fin 128) (x : Fin 256) :
    (V m c main_v62 : S8x4x4x4x128x256.Idx → EReal) (ix6 b ρ j n r x) = if ok (lev (mk4 b ρ)) r x then (((D.blk4 (mk4 b ρ) j).bias n r x : ℝ) : EReal) else ⊥ := by
  have hl : (lev (mk4 b ρ)).val = b.val := by unfold lev mk4; simp only; omega
  unfold V; after_reads_at
  split
  · next hb =>
    after_reads_at
    refine (bias_word4 r x (colE j n) _ _ _ _ ofBits_bot (by omega) (by unfold colE; simp only; omega)).trans ?_
    refine if_congr (and_congr Iff.rfl ?_) rfl rfl
    rw [dif_pos hb]; after_reads_at
    rw [first_half]; omega
  · next hb =>
    after_reads_at
    refine (bias_word4 r x (colE j n) _ _ _ _ ofBits_bot (by omega) (by unfold colE; simp only; omega)).trans ?_
    refine if_congr (and_congr Iff.rfl ?_) rfl rfl
    after_reads_at
    exact iff_of_true trivial (by omega)

theorem arg_q (h : Args m D c) (i i' : Fin 4096) (k : Fin 1024) (j n : Fin 4) (y : Fin 64) (hi : i.val = i'.val)
    (hk : k.val = 256 * j.val + 64 * n.val + y.val) :
    (m ((c : Thread nD τ).loc main_arg0) : S1x4096x1024.Idx → EReal) (ix3 0 i k) = ((D.q i' (colQ j n y) : ℝ) : EReal) := by
  obtain rfl : k = colQ j n y := Fin.ext hk
  obtain rfl := Fin.ext hi
  exact h.q i _
theorem arg_g (h : Args m D c) (i i' : Fin 4096) (k : Fin 1024) (j n : Fin 4) (y : Fin 64) (hi : i.val = i'.val)
    (hk : k.val = 256 * j.val + 64 * n.val + y.val) :
    (m ((c : Thread nD τ).loc main_arg3) : S1x4096x1024.Idx → EReal) (ix3 0 i k) = ((D.g i' (colQ j n y) : ℝ) : EReal) := by
  obtain rfl : k = colQ j n y := Fin.ext hk
  obtain rfl := Fin.ext hi
  exact h.g i _
theorem arg_e (h : Args m D c) (i i' : Fin 4096) (k : Fin 16) (j n : Fin 4) (hi : i.val = i'.val) (hk : k.val = 4 * j.val + n.val) :
    (m ((c : Thread nD τ).loc main_arg4) : S1x4096x16.Idx → EReal) (ix3 0 i k) = ((D.e i' (colE j n) : ℝ) : EReal) := by
  obtain rfl : k = colE j n := Fin.ext hk
  obtain rfl := Fin.ext hi
  exact h.e i _

theorem v58 (h : Args m D c) (b : Fin 8) (ρ j n : Fin 4) (r : Fin 128) (y : Fin 64) :
    (V m c main_v58 : S8x128x4x4x4x64.Idx → EReal) (ix6 b r ρ j n y) = ((D.q (pos4 (mk4 b ρ) r) (colQ j n y) : ℝ) : EReal) := by
  unfold V; after_reads_at
  exact arg_q m h _ _ _ _ _ _ (by unfold pos4 mk4; simp only; omega) (by simp only; omega)
theorem v73 (h : Args m D c) (b : Fin 8) (ρ j n : Fin 4) (r : Fin 128) (y : Fin 64) :
    (V m c main_v73 : S8x128x4x4x4x64.Idx → EReal) (ix6 b r ρ j n y) = ((D.g (pos4 (mk4 b ρ) r) (colQ j n y) : ℝ) : EReal) := by
  unfold V; after_reads_at
  exact arg_g m h _ _ _ _ _ _ (by unfold pos4 mk4; simp only; omega) (by simp only; omega)
theorem v76 (h : Args m D c) (b : Fin 8) (ρ j n : Fin 4) (r : Fin 128) :
    (V m c main_v76 : S8x4x4x4x128.Idx → EReal) (ix5 b ρ j n r) = ((D.e (pos4 (mk4 b ρ) r) (colE j n) : ℝ) : EReal) := by
  unfold V; after_reads_at
  exact arg_e m h _ _ _ _ _ (by unfold pos4 mk4; simp only; omega) (by simp only; omega)
theorem v59 (h : Args m D c) (b : Fin 8) (ρ : Fin 4) (x : Fin 256) (j : Fin 4) (y : Fin 64) :
    (V m c main_v59 : S8x256x4x4x64.Idx → EReal) (ix5 b x ρ j y) = (((D.blk04 (mk4 b ρ) j).K x y : ℝ) : EReal) := by
  have e : (V m c main_v59 : S8x256x4x4x64.Idx → EReal) = extractStridedSlice S8x256x4x4x64 ![0, 0, 0, 0, 0] (V m c main_v52 : S8x256x4x8x64.Idx → EReal)
      slices_S8x256x4x8x64_S8x256x4x4x64_0_0_0_0_0 := by unfold V; after_reads_simp
  rw [e]; pointwise; exact v52k m h b ρ x j y
theorem v69 (h : Args m D c) (b : Fin 8) (ρ : Fin 4) (x : Fin 256) (j : Fin 4) (y : Fin 64) :
    (V m c main_v69 : S8x256x4x4x64.Idx → EReal) (ix5 b x ρ j y) = (((D.blk04 (mk4 b ρ) j).V x y : ℝ) : EReal) := by
  have e : (V m c main_v69 : S8x256x4x4x64.Idx → EReal) = extractStridedSlice S8x256x4x4x64 ![0, 0, 0, 4, 0] (V m c main_v52 : S8x256x4x8x64.Idx → EReal)
      slices_S8x256x4x8x64_S8x256x4x4x64_0_0_0_4_0 := by unfold V; after_reads_simp
  rw [e]; pointwise; exact v52v m h b ρ x j y

theorem v60 : (V m c main_v60 : S8x4x4x256x128x4.Idx → EReal) = Host.dotGeneral (F := Ideal) (φ₁ := .f32) (φ₂ := .f32)
    dot_S8x256x4x4x64_S8x128x4x4x4x64_S8x4x4x256x128x4_4_5_1_14_023_023 none (V m c main_v59) (V m c main_v58) := by
  unfold V; after_reads_simp
theorem v63 : (V m c main_v63 : S8x4x4x4x128x256.Idx → EReal) = addf (F := Ideal) (φ := .f32) (transpose S8x4x4x4x128x256 [0, 1, 2, 5, 4, 3]
    (V m c main_v60 : S8x4x4x256x128x4.Idx → EReal) transposes_S8x4x4x256x128x4_S8x4x4x4x128x256_0_1_2_5_4_3) (V m c main_v62) := by
  unfold V; after_reads_simp

theorem v60_eq (h : Args m D c) (b : Fin 8) (ρ j n : Fin 4) (r : Fin 128) (x : Fin 256) :
    (V m c main_v60 : S8x4x4x256x128x4.Idx → EReal) (ix6 b ρ j x r n)
      = ((∑ y, (D.blk04 (mk4 b ρ) j).Q n r y * (D.blk04 (mk4 b ρ) j).K x y : ℝ) : EReal) := by
  rw [v60]; pointwise
  simp only [v59 m h, v58 m h, ← EReal.coe_mul, ← coe_sum]
  exact congrArg _ (Finset.sum_congr rfl fun y _ => mul_comm _ _)

theorem scores (h : Args m D c) (b : Fin 8) (ρ j n : Fin 4) (r : Fin 128) :
    (D.blk04 (mk4 b ρ) j).Row n r (fun x => (V m c main_v63 : S8x4x4x4x128x256.Idx → EReal) (ix6 b ρ j n r x)) := by
  intro x
  have e : (V m c main_v63 : S8x4x4x4x128x256.Idx → EReal) (ix6 b ρ j n r x) = ((∑ y, (D.blk04 (mk4 b ρ) j).Q n r y * (D.blk04 (mk4 b ρ) j).K x y : ℝ) : EReal)
      + if ok (lev (mk4 b ρ)) r x then (((D.blk4 (mk4 b ρ) j).bias n r x : ℝ) : EReal) else ⊥ := by
    rw [v63]; pointwise; rw [v60_eq m h, v62 (D := D)]
  refine ⟨fun hx => e.trans ?_, fun hx => e.trans ?_⟩
  · rw [if_pos (show ok (lev (mk4 b ρ)) r x from hx), ← EReal.coe_add]; rfl
  · rw [if_neg (show ¬ ok (lev (mk4 b ρ)) r x from hx), EReal.add_bot]

theorem v64 : (V m c main_v64 : S8x4x4x4x128.Idx → EReal)
    = Host.reduce (FloatOps.maximumf (F := Ideal) (φ := .f32)) (V m c main_v63 : S8x4x4x4x128x256.Idx → EReal) (constant S_ .f32 0xFF800000#32) reducesTo_S8x4x4x4x128x256_S8x4x4x4x128_d5 h_S_ := by
  unfold V; after_reads_simp
theorem v67 : (V m c main_v67 : S8x4x4x4x128x256.Idx → EReal) = Host.exp (F := Ideal) (φ := .f32) (subf (F := Ideal) (φ := .f32) (V m c main_v63)
    (broadcastInDim S8x4x4x4x128x256 ![0, 1, 2, 3, 4] bcast_S8x4x4x4x128_S8x4x4x4x128x256_0_1_2_3_4 (V m c main_v64 : S8x4x4x4x128.Idx → EReal))) := by
  unfold V; after_reads_simp
theorem v68 : (V m c main_v68 : S8x4x4x4x128.Idx → EReal) = Host.reduceAdd (F := Ideal) (φ := .f32) (V m c main_v67) (constant S_ .f32 0x00000000#32)
    reducesTo_S8x4x4x4x128x256_S8x4x4x4x128_d5 h_S_ := by
  unfold V; after_reads_simp

theorem row_set (b : Fin 8) (ρ j n : Fin 4) (r : Fin 128) (i : S8x4x4x4x128x256.Idx) :
    i ∈ ({i | reducesTo_S8x4x4x4x128x256_S8x4x4x4x128_d5.drop i = ix5 b ρ j n r} : Finset S8x4x4x4x128x256.Idx)
      ↔ ∃ x, i = ix6 b ρ j n r x := row_mem6 _ b ρ j n r i

/-- A row's greatest score, its exponentials, their sum. -/
theorem stats (h : Args m D c) (b : Fin 8) (ρ j n : Fin 4) (r : Fin 128) : ∃ M : ℝ,
    (V m c main_v64 : S8x4x4x4x128.Idx → EReal) (ix5 b ρ j n r) = (M : EReal)
    ∧ (∀ x, (V m c main_v67 : S8x4x4x4x128x256.Idx → EReal) (ix6 b ρ j n r x) = (((D.blk04 (mk4 b ρ) j).w n r x * Real.exp (-M) : ℝ) : EReal))
    ∧ (V m c main_v68 : S8x4x4x4x128.Idx → EReal) (ix5 b ρ j n r) = (((D.blk04 (mk4 b ρ) j).Z n r * Real.exp (-M) : ℝ) : EReal) := by
  have hr := scores m h b ρ j n r
  obtain ⟨M, hM, -⟩ := hr.max (D.ok_some4 (mk4 b ρ) j r) _ _ (row_set b ρ j n r) (V m c main_v63) (fun _ => rfl)
  have h63 : (V m c main_v64 : S8x4x4x4x128.Idx → EReal) (ix5 b ρ j n r) = (M : EReal) := by
    rw [v64]; pointwise; rw [ofBits_bot]; exact hM
  have h66 : ∀ x, (V m c main_v67 : S8x4x4x4x128x256.Idx → EReal) (ix6 b ρ j n r x) = (((D.blk04 (mk4 b ρ) j).w n r x * Real.exp (-M) : ℝ) : EReal) := by
    intro x
    rw [v67]; pointwise; rw [h63]; exact hr.exp_eq M x
  refine ⟨M, h63, h66, ?_⟩
  rw [v68]; pointwise
  rw [sum_last6, zero_add]
  simp only [h66]
  rw [← coe_sum, ← Finset.sum_mul]; rfl

theorem add_log (X Y : S8x4x4x4x128.Idx → EReal) (i : S8x4x4x4x128.Idx) {a b : EReal} (ha : X i = a) (hb : Y i = b) :
    addf (F := Ideal) (φ := .f32) X (Host.log (F := Ideal) (φ := .f32) Y) i = a + Ideal.log b := by
  subst ha hb; rfl
theorem v78 : (V m c main_v78 : S8x4x4x4x128.Idx → EReal) = Host.log (F := Ideal) (φ := .f32) (V m c main_v68) := by
  unfold V; after_reads_simp
theorem v79_sum : (V m c main_v79 : S8x4x4x4x128.Idx → EReal) = addf (F := Ideal) (φ := .f32) (V m c main_v64) (V m c main_v78) := by
  unfold V; after_reads_simp
theorem v79 (i : S8x4x4x4x128.Idx) {a b : EReal} (ha : (V m c main_v64 : S8x4x4x4x128.Idx → EReal) i = a)
    (hb : (V m c main_v68 : S8x4x4x4x128.Idx → EReal) i = b) : (V m c main_v79 : S8x4x4x4x128.Idx → EReal) i = a + Ideal.log b := by
  rw [v79_sum, v78]
  exact add_log _ _ i ha hb
theorem v70 : (V m c main_v70 : S8x4x4x4x128x64.Idx → EReal) = Host.dotGeneral (F := Ideal) (φ₁ := .f32) (φ₂ := .f32)
    dot_S8x4x4x4x128x256_S8x256x4x4x64_S8x4x4x4x128x64_5_1_34_4_012_023 none (V m c main_v67) (V m c main_v69) := by
  unfold V; after_reads_simp
theorem v72 : (V m c main_v72 : S8x4x4x4x128x64.Idx → EReal) = Host.divf (F := Ideal) (φ := .f32) (V m c main_v70)
    (broadcastInDim S8x4x4x4x128x64 ![0, 1, 2, 3, 4] bcast_S8x4x4x4x128_S8x4x4x4x128x64_0_1_2_3_4 (V m c main_v68 : S8x4x4x4x128.Idx → EReal)) := by
  unfold V; after_reads_simp
theorem v74 : (V m c main_v74 : S8x4x4x4x128.Idx → EReal) = Host.dotGeneral (F := Ideal) (φ₁ := .f32) (φ₂ := .f32)
    dot_S8x4x4x4x128x64_S8x128x4x4x4x64_S8x4x4x4x128_5_5_n_n_01234_02341 none (V m c main_v72) (V m c main_v73) := by
  unfold V; after_reads_simp
theorem v77 (i : S8x4x4x4x128.Idx) {a b : EReal} (ha : (V m c main_v74 : S8x4x4x4x128.Idx → EReal) i = a)
    (hb : (V m c main_v76 : S8x4x4x4x128.Idx → EReal) i = b) : (V m c main_v77 : S8x4x4x4x128.Idx → EReal) i = a - b := by
  have e : (V m c main_v77 : S8x4x4x4x128.Idx → EReal) = subf (F := Ideal) (φ := .f32) (V m c main_v74) (V m c main_v76) := by
    unfold V; after_reads_simp
  rw [e, ← ha, ← hb]; rfl

theorem v79_eq (h : Args m D c) (b : Fin 8) (ρ j n : Fin 4) (r : Fin 128) :
    (V m c main_v79 : S8x4x4x4x128.Idx → EReal) (ix5 b ρ j n r) = (((D.blk4 (mk4 b ρ) j).L n r : ℝ) : EReal) := by
  obtain ⟨M, h63, -, h67⟩ := stats m h b ρ j n r
  rw [v79 m _ h63 h67, Blk.log_eq (B := D.blk04 (mk4 b ρ) j) (D.ok_some4 (mk4 b ρ) j r) M]
  exact congrArg (fun f : Fin 4 → Fin 128 → ℝ => ((f n r : ℝ) : EReal)) (Blk.mask_L (D.blk4 (mk4 b ρ) j) _ (D.ok_seen4 (mk4 b ρ) j))

theorem v72_eq (h : Args m D c) (b : Fin 8) (ρ j n : Fin 4) (r : Fin 128) (y : Fin 64) :
    (V m c main_v72 : S8x4x4x4x128x64.Idx → EReal) (ix6 b ρ j n r y) = (((D.blk04 (mk4 b ρ) j).o n r y : ℝ) : EReal) := by
  obtain ⟨M, -, h66, h67⟩ := stats m h b ρ j n r
  have e : (V m c main_v70 : S8x4x4x4x128x64.Idx → EReal) (ix6 b ρ j n r y)
      = ((∑ x, (D.blk04 (mk4 b ρ) j).w n r x * Real.exp (-M) * (D.blk04 (mk4 b ρ) j).V x y : ℝ) : EReal) := by
    rw [v70]; pointwise
    simp only [h66, v69 m h, ← EReal.coe_mul, ← coe_sum]
  rw [v72]; pointwise
  rw [e, h67]
  exact Blk.out_eq (B := D.blk04 (mk4 b ρ) j) (D.ok_some4 (mk4 b ρ) j r) M y
theorem v77_eq (h : Args m D c) (b : Fin 8) (ρ j n : Fin 4) (r : Fin 128) :
    (V m c main_v77 : S8x4x4x4x128.Idx → EReal) (ix5 b ρ j n r) = (((D.blk4 (mk4 b ρ) j).δ n r : ℝ) : EReal) := by
  have e : (V m c main_v74 : S8x4x4x4x128.Idx → EReal) (ix5 b ρ j n r)
      = ((∑ y, (D.blk04 (mk4 b ρ) j).o n r y * (D.blk04 (mk4 b ρ) j).G n r y : ℝ) : EReal) := by
    rw [v74]; pointwise
    simp only [v72_eq m h, v73 m h, ← EReal.coe_mul, ← coe_sum]
    rfl
  rw [v77 m _ e (v76 m h b ρ j n r), ← EReal.coe_sub]
  exact congrArg (fun f : Fin 4 → Fin 128 → ℝ => ((f n r : ℝ) : EReal)) (Blk.mask_δ (D.blk4 (mk4 b ρ) j) _ (D.ok_seen4 (mk4 b ρ) j))

end Cert.Kernel4Ideal.Attn
end
-- ==== Proof.Attn4.Table.lean ====
/- The table of negated log-sums and of the sums the cotangents take off, and the arguments in slabs of 128 lanes. -/
module

public import proofs.«01_k».proof.Proof.Attn4.Host
public import Idealize.ShloMosaic.Lib.StableHlo.ReadAt

@[expose] public section
set_option maxRecDepth 16384
noncomputable section

namespace Cert.Kernel4Ideal.Attn
open Cert.Kernel4Ideal Cert.Kernel4Ideal.Gen Idealize.ShloMosaic Idealize.ShloMosaic.TcCoe Idealize.SL.Sem Cert.Common
open Cert.Attn
open Cert.Kernel3Ideal.Attn (lane at4 at4_mod at4_div tbl add_log)

variable (m : (ℓ : Loc nD τ sig) → Buf (Elt Ideal) ℓ) {D : Data} {c : Dev nD}

theorem u79 : StableHlo.upto (List.flatten [hostOps0 (F := Ideal), hostOps0_1, hostOps0_2]) (fun b => m (c, b)) 98 (Proc.devRef .tc main_v79) = V m c main_v79 := by
  unfold V; after_reads_simp
theorem u77 : StableHlo.upto (List.flatten [hostOps0 (F := Ideal), hostOps0_1, hostOps0_2]) (fun b => m (c, b)) 98 (Proc.devRef .tc main_v77) = V m c main_v77 := by
  unfold V; after_reads_simp

/-- The table's entry: half 0 the log-sums, half 1 the sums. -/
def entry (D : Data) (s : Fin 16) (ρ j n : Fin 4) (r : Fin 128) : ℝ :=
  if h : s.val < 8 then -(D.blk4 (mk4 ⟨s.val, h⟩ ρ) j).L n r else -(D.blk4 (mk4 ⟨s.val - 8, by omega⟩ ρ) j).δ n r

theorem v82_eq (h : Args m D c) (s : Fin 16) (ρ j n : Fin 4) (r : Fin 128) :
    (V m c main_v82 : S4x16x128x4x4.Idx → EReal) (ix5 j s r ρ n) = ((entry D s ρ j n r : ℝ) : EReal) := by
  unfold V; after_reads_at
  unfold entry
  split
  · next hs =>
    rw [u79]
    exact (congrArg (fun e : EReal => -e) (v79_eq m h ⟨s.val, hs⟩ ρ j n r)).trans (EReal.coe_neg _).symm
  · next hs =>
    rw [u77]
    exact (congrArg (fun e : EReal => -e) (v77_eq m h ⟨s.val - 8, by omega⟩ ρ j n r)).trans (EReal.coe_neg _).symm

theorem u84 (i : S4x16x128x4x4.Idx) : (StableHlo.upto (List.flatten [hostOps0 (F := Ideal), hostOps0_1, hostOps0_2]) (fun b => m (c, b)) 109
    (Proc.devRef .tc main_v84) : S4x16x128x4x4.Idx → EReal) i = (V m c main_v82 : S4x16x128x4x4.Idx → EReal) i := by
  unfold V; after_reads_simp; rfl
theorem u87 (i : S4x16x128x4x4.Idx) {a : EReal} (ha : (V m c main_v82 : S4x16x128x4x4.Idx → EReal) i = a) :
    (StableHlo.upto (List.flatten [hostOps0 (F := Ideal), hostOps0_1, hostOps0_2]) (fun b => m (c, b)) 109
      (Proc.devRef .tc main_v87) : S4x16x128x4x4.Idx → EReal) i = a - a := by
  rw [← ha]; unfold V; after_reads_simp; rfl
theorem u88 (i : S4x16x128x4x4.Idx) {a : EReal} (ha : (V m c main_v82 : S4x16x128x4x4.Idx → EReal) i = a) :
    (StableHlo.upto (List.flatten [hostOps0 (F := Ideal), hostOps0_1, hostOps0_2]) (fun b => m (c, b)) 109
      (Proc.devRef .tc main_v88) : S4x16x128x4x4.Idx → EReal) i = (a - a) - (a - a) := by
  rw [← ha]; unfold V; after_reads_simp; rfl

theorem v91 (h : Args m D c) (j : Fin 4) (y : Fin 8192) (l : Fin 128) : (V m c main_v91 : S4x8192x128.Idx → EReal) (ix3 j y l)
    = ((if hl : l.val < 4 then entry D ⟨y.val / 512, by omega⟩ ⟨y.val % 4, by omega⟩ j ⟨l.val, hl⟩ ⟨y.val / 4 % 128, by omega⟩ else 0 : ℝ) : EReal) := by
  unfold V; after_reads_at
  split
  · exact (u84 m _).trans (v82_eq m h _ _ j _ _)
  · split
    · rw [u87 m _ (v82_eq m h _ _ j _ _), ← EReal.coe_sub, sub_self]
    · split
      · rw [u88 m _ (v82_eq m h _ _ j _ _), ← EReal.coe_sub, sub_self, ← EReal.coe_sub, sub_self]
      · after_reads_at; rfl

theorem entry_lo (D : Data) (y : Fin 4096) (j n : Fin 4) : entry D ⟨y.val / 512, by omega⟩ ⟨y.val % 4, by omega⟩ j n ⟨y.val / 4 % 128, by omega⟩
    = -(D.blk4 (blkOf y) j).L n (cellOf y) := by
  have e : (⟨y.val / 4 % 128, by omega⟩ : Fin 128) = cellOf y := Fin.ext (by unfold cellOf; simp only; omega)
  unfold entry; rw [dif_pos (by simp only; omega), e]; rfl
theorem entry_hi (D : Data) (y : Fin 4096) (j n : Fin 4) :
    entry D ⟨(4096 + y.val) / 512, by omega⟩ ⟨(4096 + y.val) % 4, by omega⟩ j n ⟨(4096 + y.val) / 4 % 128, by omega⟩
    = -(D.blk4 (blkOf y) j).δ n (cellOf y) := by
  have e : (⟨(4096 + y.val) / 4 % 128, by omega⟩ : Fin 128) = cellOf y := Fin.ext (by unfold cellOf; simp only; omega)
  unfold entry; rw [dif_neg (by simp only; omega), e]
  exact congrArg (fun b => -(D.blk4 b j).δ n _) (Fin.ext (by unfold mk4 blkOf; simp only; omega))

theorem v100 (h : Args m D c) (j : Fin 4) (y : Fin 4096) (l : Fin 128) : (V m c main_v100 : S4x4096x128.Idx → EReal) (ix3 j y l)
    = ((if hl : l.val < 4 then -(D.blk4 (blkOf y) j).L ⟨l.val, hl⟩ (cellOf y) else 0 : ℝ) : EReal) := by
  have e : (V m c main_v100 : S4x4096x128.Idx → EReal) = extractStridedSlice S4x4096x128 ![0, 0, 0] (V m c main_v91 : S4x8192x128.Idx → EReal)
      slices_S4x8192x128_S4x4096x128_0_0_0 := by unfold V; after_reads_simp
  rw [e]; pointwise
  refine (v91 m h _ _ _).trans (congrArg _ ?_)
  split
  · exact entry_lo D y j _
  · rfl
theorem v101 (h : Args m D c) (j : Fin 4) (y : Fin 4096) (l : Fin 128) : (V m c main_v101 : S4x4096x128.Idx → EReal) (ix3 j y l)
    = ((if hl : l.val < 4 then -(D.blk4 (blkOf y) j).δ ⟨l.val, hl⟩ (cellOf y) else 0 : ℝ) : EReal) := by
  have e : (V m c main_v101 : S4x4096x128.Idx → EReal) = extractStridedSlice S4x4096x128 ![0, 4096, 0] (V m c main_v91 : S4x8192x128.Idx → EReal)
      slices_S4x8192x128_S4x4096x128_0_4096_0 := by unfold V; after_reads_simp
  rw [e]; pointwise
  refine (v91 m h _ _ _).trans (congrArg _ ?_)
  split
  · exact entry_hi D y j _
  · rfl

/-! ## The arguments in slabs of 128 lanes -/

theorem v93 (h : Args m D c) (j n : Fin 4) (s : Fin 2) (hh : Fin 2) (hn : n.val = 2 * s.val + hh.val) (y : Fin 4096) (k : Fin 64) :
    (V m c main_v93 : S8x4096x128.Idx → EReal) (ix3 ⟨2 * j.val + s.val, by omega⟩ y (lane hh k)) = ((D.q y (colQ j n k) : ℝ) : EReal) := by
  unfold V; after_reads_at
  exact arg_q m h _ _ _ _ _ _ rfl (by unfold lane; simp only; omega)
theorem v99 (h : Args m D c) (j n : Fin 4) (s : Fin 2) (hh : Fin 2) (hn : n.val = 2 * s.val + hh.val) (y : Fin 4096) (k : Fin 64) :
    (V m c main_v99 : S8x4096x128.Idx → EReal) (ix3 ⟨2 * j.val + s.val, by omega⟩ y (lane hh k)) = ((D.g y (colQ j n k) : ℝ) : EReal) := by
  unfold V; after_reads_at
  exact arg_g m h _ _ _ _ _ _ rfl (by unfold lane; simp only; omega)
theorem v95 (h : Args m D c) (j : Fin 4) (y : Fin 4096) (k : Fin 64) :
    (V m c main_v95 : S2x4096x128.Idx → EReal) (ix3 ⟨j.val / 2, by omega⟩ y (lane ⟨j.val % 2, by omega⟩ k)) = ((D.k y (colK j k) : ℝ) : EReal) := by
  unfold V; after_reads_at
  exact arg_k m h _ _ _ j k rfl (by unfold lane; simp only; omega)
theorem v97 (h : Args m D c) (j : Fin 4) (y : Fin 4096) (k : Fin 64) :
    (V m c main_v97 : S2x4096x128.Idx → EReal) (ix3 ⟨j.val / 2, by omega⟩ y (lane ⟨j.val % 2, by omega⟩ k)) = ((D.v y (colK j k) : ℝ) : EReal) := by
  unfold V; after_reads_at
  exact arg_v m h _ _ _ j k rfl (by unfold lane; simp only; omega)

end Cert.Kernel4Ideal.Attn
end
-- ==== Proof.Attn4.Inputs.lean ====
/- What the attention's gradient kernel finds in its input blocks. -/
module

public import proofs.«01_k».proof.Proof.Attn4.Table
public import proofs.«01_k».proof.Proof.Attn4.Frame

@[expose] public section
set_option maxRecDepth 16384
noncomputable section

namespace Cert.Kernel4Ideal.Attn
open Cert.Kernel4Ideal Cert.Kernel4Ideal.Gen Idealize.ShloMosaic Idealize.ShloMosaic.TcCoe Idealize.SL.Sem Cert.Common
open Cert.Attn
open Cert.Kernel3Ideal.Attn (lane at4 tbl)

variable (m : (ℓ : Loc nD τ sig) → Buf (Elt Ideal) ℓ) {D : Data} {c : Dev nD}

/-- Which block of its array each window shows at a point. -/
theorem idx : ∀ t, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val / 2, 0, 0] ∧ win0_5.index t = ![(grid0.coords t 0).val / 2, 0, 0]
    ∧ win0_6.index t = ![0, (grid0.coords t 0).val, 0, 0] ∧ win0_7.index t = ![(grid0.coords t 0).val, (grid0.coords t 1).val, 0]
    ∧ win0_8.index t = ![(grid0.coords t 0).val, 0, 0] := by decide +kernel

theorem coord : ∀ t : Fin cfg0.N, (grid0.coords t 0).val = t.val / 2 ∧ (grid0.coords t 1).val = t.val % 2 := by decide +kernel

/-! ## The blocks -/

theorem i0 (h : Args m D c) (t : Fin cfg0.N) (s : Fin 2) (r : Fin 2048) (hh : Fin 2) (k : Fin 64) :
    (iblk m c 0 t : Vec Ideal S2x2048x128 .f32) (ix3 s r (lane hh k))
      = ((D.q (posC (grid0.coords t) r) (colQ (jj (grid0.coords t)) ⟨2 * s.val + hh.val, by omega⟩ k) : ℝ) : EReal) := by
  rw [← v93 m h (jj (grid0.coords t)) _ s hh rfl]; unfold posC jj; blk_ext [iblk, idx t]
theorem i1 (h : Args m D c) (t : Fin cfg0.N) (s : Fin 2) (r : Fin 2048) (hh : Fin 2) (k : Fin 64) :
    (iblk m c 1 t : Vec Ideal S2x2048x128 .f32) (ix3 s r (lane hh k))
      = ((D.g (posC (grid0.coords t) r) (colQ (jj (grid0.coords t)) ⟨2 * s.val + hh.val, by omega⟩ k) : ℝ) : EReal) := by
  rw [← v99 m h (jj (grid0.coords t)) _ s hh rfl]; unfold posC jj; blk_ext [iblk, idx t]

theorem blk_row (t : Fin cfg0.N) (r : Fin 2048) : blkOf (posC (grid0.coords t) r) = blkC (grid0.coords t) r := by
  have h1 : (grid0.coords t 1).val < 2 := (grid0.coords t 1).isLt
  apply Fin.ext; unfold blkOf posC blkC bb blk; simp only; omega
theorem row_row (t : Fin cfg0.N) (r : Fin 2048) : cellOf (posC (grid0.coords t) r) = rowC r := by
  apply Fin.ext; unfold cellOf posC rowC; simp only; omega

theorem read2 (A : S4x4096x128.Idx → EReal) (t : Fin cfg0.N) (r : Fin 2048) (l : Fin 128) :
    (((cfg0.win 2).blk t).view.read (Elt Ideal) A : Vec Ideal S1x2048x128 .f32) (ix3 0 r l) = A (ix3 (jj (grid0.coords t)) (posC (grid0.coords t) r) l) := by
  unfold posC jj; blk_ext [idx t]
theorem read3 (A : S4x4096x128.Idx → EReal) (t : Fin cfg0.N) (r : Fin 2048) (l : Fin 128) :
    (((cfg0.win 3).blk t).view.read (Elt Ideal) A : Vec Ideal S1x2048x128 .f32) (ix3 0 r l) = A (ix3 (jj (grid0.coords t)) (posC (grid0.coords t) r) l) := by
  unfold posC jj; blk_ext [idx t]
theorem read6 (A : S2x4x512x256.Idx → EReal) (t : Fin cfg0.N) (s : Fin 2) (r : Fin 512) (y : Fin 256) :
    (((cfg0.win 6).blk t).view.read (Elt Ideal) A : Vec Ideal S2x1x512x256 .f32) (ix4 s 0 r y) = A (ix4 s (jj (grid0.coords t)) r y) := by
  unfold jj; blk_ext [idx t]

theorem i2 (h : Args m D c) (t : Fin cfg0.N) (r : Fin 2048) (l : Fin 128) : (iblk m c 2 t : Vec Ideal S1x2048x128 .f32) (ix3 0 r l)
    = ((if hl : l.val < 4 then -(D.blk4 (blkC (grid0.coords t) r) (jj (grid0.coords t))).L ⟨l.val, hl⟩ (rowC r) else 0 : ℝ) : EReal) := by
  rw [← blk_row, ← row_row t]
  exact (read2 (V m c main_v100) t r l).trans (v100 m h _ _ l)
theorem i3 (h : Args m D c) (t : Fin cfg0.N) (r : Fin 2048) (l : Fin 128) : (iblk m c 3 t : Vec Ideal S1x2048x128 .f32) (ix3 0 r l)
    = ((if hl : l.val < 4 then -(D.blk4 (blkC (grid0.coords t) r) (jj (grid0.coords t))).δ ⟨l.val, hl⟩ (rowC r) else 0 : ℝ) : EReal) := by
  rw [← blk_row, ← row_row t]
  exact (read3 (V m c main_v101) t r l).trans (v101 m h _ _ l)
theorem i4 (h : Args m D c) (t : Fin cfg0.N) (y : Fin 4096) (k : Fin 64) :
    (iblk m c 4 t : Vec Ideal S1x4096x128 .f32) (ix3 0 y (lane (half (grid0.coords t)) k)) = ((D.k y (colK (jj (grid0.coords t)) k) : ℝ) : EReal) := by
  rw [← v95 m h]; unfold jj half; blk_ext [iblk, idx t]
theorem i5 (h : Args m D c) (t : Fin cfg0.N) (y : Fin 4096) (k : Fin 64) :
    (iblk m c 5 t : Vec Ideal S1x4096x128 .f32) (ix3 0 y (lane (half (grid0.coords t)) k)) = ((D.v y (colK (jj (grid0.coords t)) k) : ℝ) : EReal) := by
  rw [← v97 m h]; unfold jj half; blk_ext [iblk, idx t]
theorem i6 (t : Fin cfg0.N) (b : Fin 32) (s : Fin 2) (hs : s.val = min (lev b).val 1) (n : Fin 4) (r : Fin 128) (y : Fin 256) :
    (iblk m c 6 t : Vec Ideal S2x1x512x256 .f32) (ix4 s 0 (at4 n r) y)
      = if ok (lev b) r y then (((D.blk4 b (jj (grid0.coords t))).bias n r y : ℝ) : EReal) else ⊥ := by
  obtain rfl : s = tbl (lev b) := Fin.ext hs
  exact (read6 (V m c main_v46) t (tbl (lev b)) (at4 n r) y).trans (v46 m b _ n r y)

/-- The seven blocks of a grid point, one after the other. -/
theorem holds_of {i : grid0.Coords} (q d : Vec Ideal S2x2048x128 .f32) (l e : Vec Ideal S1x2048x128 .f32)
    (k v : Vec Ideal S1x4096x128 .f32) (b : Vec Ideal S2x1x512x256 .f32)
    (hq : ∀ (s : Fin 2) (r : Fin 2048) (h : Fin 2) (c : Fin 64), q (ix3 s r (lane h c)) = ((D.q (posC i r) (colQ (jj i) ⟨2 * s.val + h.val, by omega⟩ c) : ℝ) : EReal))
    (hd : ∀ (s : Fin 2) (r : Fin 2048) (h : Fin 2) (c : Fin 64), d (ix3 s r (lane h c)) = ((D.g (posC i r) (colQ (jj i) ⟨2 * s.val + h.val, by omega⟩ c) : ℝ) : EReal))
    (hl : ∀ (r : Fin 2048) (y : Fin 128), l (ix3 0 r y) = ((if h : y.val < 4 then -(D.blk4 (blkC i r) (jj i)).L ⟨y.val, h⟩ (rowC r) else 0 : ℝ) : EReal))
    (he : ∀ (r : Fin 2048) (y : Fin 128), e (ix3 0 r y) = ((if h : y.val < 4 then -(D.blk4 (blkC i r) (jj i)).δ ⟨y.val, h⟩ (rowC r) else 0 : ℝ) : EReal))
    (hk : ∀ (y : Fin 4096) (c : Fin 64), k (ix3 0 y (lane (half i) c)) = ((D.k y (colK (jj i) c) : ℝ) : EReal))
    (hv : ∀ (y : Fin 4096) (c : Fin 64), v (ix3 0 y (lane (half i) c)) = ((D.v y (colK (jj i) c) : ℝ) : EReal))
    (hb : ∀ (a : Fin 32) (s : Fin 2) (_ : s.val = min (lev a).val 1) (n : Fin 4) (r : Fin 128) (y : Fin 256),
      b (ix4 s 0 (at4 n r) y) = if ok (lev a) r y then (((D.blk4 a (jj i)).bias n r y : ℝ) : EReal) else ⊥) :
    Holds D i (⟨q, d, l, e, k, v, b⟩ : Ins Ideal) :=
  ⟨hq, hd, hl, he, hk, hv, fun a s hs n r y => ⟨fun ho => (hb a s hs n r y).trans (if_pos ho), fun ho => (hb a s hs n r y).trans (if_neg ho)⟩⟩

theorem holds (h : Args m D c) (t : Fin cfg0.N) : Holds D (grid0.coords t) (insAt m c t) := by
  unfold insAt
  exact holds_of (iblk m c 0 t) (iblk m c 1 t) (iblk m c 2 t) (iblk m c 3 t) (iblk m c 4 t) (iblk m c 5 t) (iblk m c 6 t)
    (i0 m h t) (i1 m h t) (i2 m h t) (i3 m h t) (i4 m h t) (i5 m h t) (i6 m t)

end Cert.Kernel4Ideal.Attn
end
-- ==== Proof.Attn4.Arrays.lean ====
/- What the attention's gradient kernel leaves in its two arrays: the gradient of the queries, and those of keys and values. -/
module

public import proofs.«01_k».proof.Proof.Attn4.Inputs

@[expose] public section
set_option maxRecDepth 16384
noncomputable section

namespace Cert.Kernel4Ideal.Attn
open Cert.Kernel4Ideal Cert.Kernel4Ideal.Gen Idealize.ShloMosaic Idealize.ShloMosaic.TcCoe Idealize.SL.Sem Cert.Common
open Cert.Attn
open Cert.Kernel3Ideal.Attn (lane at4 tbl hi lo lane_hi_lo side Real3)

variable (m : (ℓ : Loc nD τ sig) → Buf (Elt Ideal) ℓ) {D : Data} {c : Dev nD}

/-! ## The arrays -/

/-- The gradient of the queries at slab `a` (two heads of one key head), row `r`, lane `l`. -/
def dqAt (D : Data) (a : Fin 8) (r : Fin 4096) (l : Fin 128) : ℝ :=
  D.dq4 ⟨a.val / 2, by omega⟩ r ⟨2 * (a.val % 2) + (hi l).val, by have := (hi l).isLt; omega⟩ (lo l)
def DqOf (D : Data) : S8x4096x128.Idx → EReal := fun u => ((dqAt D (u 0) (u 1) (u 2) : ℝ) : EReal)
def DkvOf (D : Data) : S4x4096x128.Idx → EReal := fun u => ((D.both4 (u 0) (side (hi (u 2))) (blkOf (u 1)) (cellOf (u 1)) (lo (u 2)) : ℝ) : EReal)

theorem dq_pos (t : Fin cfg0.N) (r : Fin 2048) (n : Fin 4) (k : Fin 64) :
    D.dq4 (jj (grid0.coords t)) (posC (grid0.coords t) r) n k = (D.blk4 (blkC (grid0.coords t) r) (jj (grid0.coords t))).dq n (rowC r) k := by
  unfold Data.dq4; rw [blk_row, row_row]

def slab (t : Fin cfg0.N) (a : Fin 2) : Fin 8 := ⟨2 * (jj (grid0.coords t)).val + a.val, by have := (jj (grid0.coords t)).isLt; omega⟩

theorem dqAt_slab (t : Fin cfg0.N) (a : Fin 2) (r : Fin 2048) (l : Fin 128) : dqAt D (slab t a) (posC (grid0.coords t) r) l
    = (D.blk4 (blkC (grid0.coords t) r) (jj (grid0.coords t))).dq ⟨2 * a.val + (hi l).val, by have := (hi l).isLt; omega⟩ (rowC r) (lo l) := by
  have e1 : (⟨(slab t a).val / 2, by omega⟩ : Fin 4) = jj (grid0.coords t) := Fin.ext (by show (2 * (jj (grid0.coords t)).val + a.val) / 2 = _; omega)
  have e2 : (slab t a).val % 2 = a.val := by show (2 * (jj (grid0.coords t)).val + a.val) % 2 = _; omega
  unfold dqAt
  simp only [e1, e2]
  exact dq_pos t r _ _

theorem out7 (h : Args m D c) (t : Fin cfg0.N) (a : Fin 2) (r : Fin 2048) (l : Fin 128) :
    (dqV (insAt m c t) (odd (grid0.coords t)) (grid0.coords t) : S2x2048x128.Idx → EReal) (ix3 a r l)
      = ((dqAt D (slab t a) (posC (grid0.coords t) r) l : ℝ) : EReal) := by
  rw [dqAt_slab]
  refine Eq.trans (congrArg _ ?_) (dqV_eq (holds m h t) a r (hi l) (lo l))
  rw [lane_hi_lo]

theorem f7 (h : Args m D c) : (dats m 0 c).arrAt 7 cfg0.N = DqOf D := by
  refine (dats m 0 c).arrAt_eq_of_covers 7 _ (by decide +kernel) fun t hf y => ?_
  have e0 : (((cfg0.win 7).blk t).view.emb y) 0 = slab t (y 0) := by
    apply Fin.ext; blk_simp [idx t]; simp only [slab, jj]; omega
  have e1 : (((cfg0.win 7).blk t).view.emb y) 1 = posC (grid0.coords t) (y 1) := by
    apply Fin.ext; blk_simp [idx t]; simp only [posC]; omega
  have e2 : (((cfg0.win 7).blk t).view.emb y) 2 = y 2 := by
    apply Fin.ext; blk_simp [idx t]
  unfold DqOf
  simp only [e0, e1, e2]
  blk_simp
  rw [after7]
  exact (congrArg _ (ix3_eta (y : _)).symm).trans (out7 m h t (y 0) (y 1) (y 2))

theorem acc_even (h : Args m D c) (t : Fin cfg0.N) (ht : t.val % 2 = 0) :
    Real3 (fun y hh k => ∑ n ∈ Finset.range 16, part D (jj (grid0.coords t)) (16 * 0 + n) y hh k) (accAt m c t.val t.isLt) := by
  have hz : Real3 (fun _ _ _ => 0) (k0_pay2 (F := Ideal)) := by
    intro y hh k; unfold k0_pay2; pointwise; rfl
  rw [accAt_even m c t ht]
  unfold accStep
  rw [trips1]
  intro y hh k
  refine (sumsV_eq (holds m h t) hz 16 (le_refl _) y hh k).trans (congrArg _ ?_)
  beta_reduce
  rw [zero_add, (coord t).2, ht]

theorem acc_odd (h : Args m D c) (t : Fin cfg0.N) (ht : t.val % 2 = 1) :
    Real3 (fun y hh k => D.both4 (jj (grid0.coords t)) (side hh) ⟨y.val / 128, by omega⟩ ⟨y.val % 128, by omega⟩ k) (accAt m c t.val t.isLt) := by
  have hp : t.val - 1 < cfg0.N := Nat.lt_of_le_of_lt (Nat.sub_le _ _) t.isLt
  have hj : jj (grid0.coords ⟨t.val - 1, hp⟩) = jj (grid0.coords t) := Fin.ext (by
    show (grid0.coords ⟨t.val - 1, hp⟩ 0).val = (grid0.coords t 0).val
    rw [(coord _).1, (coord _).1]; simp only; omega)
  have he := acc_even m h ⟨t.val - 1, hp⟩ (by simp only; omega)
  rw [hj] at he
  rw [accAt_odd m c t ht]
  unfold accStep
  rw [trips1]
  intro y hh k
  refine (sumsV_eq (holds m h t) he 16 (le_refl _) y hh k).trans (congrArg _ ?_)
  beta_reduce
  rw [(coord t).2, ht]
  exact sum_part D _ y hh k

/-- The sums written out row by row. -/
theorem flat_at (h : Args m D c) (t : Fin cfg0.N) (ht : t.val % 2 = 1) (y : S1x4096x128.Idx) :
    (flat (accAt m c t.val t.isLt) : S1x4096x128.Idx → EReal) y
      = ((D.both4 (jj (grid0.coords t)) (side (hi (y 2))) (blkOf (y 1)) (cellOf (y 1)) (lo (y 2)) : ℝ) : EReal) := by
  have hb : (blkOf (y 1)).val < 32 := (blkOf (y 1)).isLt
  have hc : (cellOf (y 1)).val < 128 := (cellOf (y 1)).isLt
  have e := acc_odd m h t ht ⟨128 * (blkOf (y 1)).val + (cellOf (y 1)).val, by omega⟩ (hi (y 2)) (lo (y 2))
  refine ((congrArg (accAt m c t.val t.isLt) (congrArg _ (lane_hi_lo (y 2)).symm)).trans e).trans ?_
  have e1 : (⟨(128 * (blkOf (y 1)).val + (cellOf (y 1)).val) / 128, by omega⟩ : Fin 32) = blkOf (y 1) := Fin.ext (by simp only; omega)
  have e2 : (⟨(128 * (blkOf (y 1)).val + (cellOf (y 1)).val) % 128, by omega⟩ : Fin 128) = cellOf (y 1) := Fin.ext (by simp only; omega)
  simp only [e1, e2]

theorem f8 (h : Args m D c) : (dats m 0 c).arrAt 8 cfg0.N = DkvOf D := by
  refine (dats m 0 c).arrAt_eq_of_covers 8 _ (by decide +kernel) fun t hf y => ?_
  have ht : t.val % 2 = 1 := (flush0_8 t).mp hf
  have e0 : (((cfg0.win 8).blk t).view.emb y) 0 = jj (grid0.coords t) := by
    apply Fin.ext; blk_simp [idx t]; unfold jj; simp only
  have e1 : (((cfg0.win 8).blk t).view.emb y) 1 = y 1 := by
    apply Fin.ext; blk_simp [idx t]
  have e2 : (((cfg0.win 8).blk t).view.emb y) 2 = y 2 := by
    apply Fin.ext; blk_simp [idx t]
  unfold DkvOf
  simp only [e0, e1, e2]
  blk_simp
  rw [after8]
  exact flat_at m h t ht y
end Cert.Kernel4Ideal.Attn
end
-- ==== Proof.Attn4.Reference.lean ====
/- What the derivative of the attention holds at an index: the reference's intermediate arrays, block by block. -/
module

public import proofs.«01_k».proof.Proof.Gen.Reference4Ideal.Run
public import proofs.«01_k».proof.Proof.Attn4.Keys
public import proofs.«01_k».proof.Proof.Attn4.Reduce
public import proofs.«01_k».proof.Proof.Attn.Reference
public import Idealize.ShloMosaic.Lib.Pipeline.ValueKit
public import Idealize.ShloMosaic.Lib.Pointwise
public import Idealize.ShloMosaic.Lib.Tactic.CleanTypes

@[expose] public section
set_option maxRecDepth 16384
noncomputable section

namespace Cert.Reference4Ideal.Attn

open Cert.Reference4Ideal Cert.Reference4Ideal.Gen Cert.Reference4Ideal.Value Cert.Common Cert.Attn
open Idealize.ShloMosaic Idealize.ShloMosaic.TcCoe Idealize.SL.Sem Idealize.ShloMosaic.StableHlo
open Cert.Reference3Ideal.Attn (tie_word ds_spelt ds_sum count)

/-- The reference's arguments hold the real arrays `D`. -/
structure Holds (D : Data) (V0 : Valuation τ sig (Elt Ideal)) : Prop where
  q : ∀ i k, (V0 (Proc.devRef .tc main_arg0) : S1x4096x1024.Idx → EReal) (ix3 0 i k) = ((D.q i k : ℝ) : EReal)
  k : ∀ i k, (V0 (Proc.devRef .tc main_arg1) : S1x4096x256.Idx → EReal) (ix3 0 i k) = ((D.k i k : ℝ) : EReal)
  v : ∀ i k, (V0 (Proc.devRef .tc main_arg2) : S1x4096x256.Idx → EReal) (ix3 0 i k) = ((D.v i k : ℝ) : EReal)
  g : ∀ i k, (V0 (Proc.devRef .tc main_arg3) : S1x4096x1024.Idx → EReal) (ix3 0 i k) = ((D.g i k : ℝ) : EReal)
  e : ∀ i k, (V0 (Proc.devRef .tc main_arg4) : S1x4096x16.Idx → EReal) (ix3 0 i k) = ((D.e i k : ℝ) : EReal)

variable {D : Data} {V0 : Valuation τ sig (Elt Ideal)}

theorem at_q (h : Holds D V0) (i i' : Fin 4096) (k : Fin 1024) (j n : Fin 4) (y : Fin 64) (hi : i.val = i'.val) (hk : k.val = 256 * j.val + 64 * n.val + y.val) :
    (V0 (Proc.devRef .tc main_arg0) : S1x4096x1024.Idx → EReal) (ix3 0 i k) = ((D.q i' (colQ j n y) : ℝ) : EReal) := by
  obtain rfl : k = colQ j n y := Fin.ext hk
  obtain rfl := Fin.ext hi
  exact h.q _ _
theorem at_g (h : Holds D V0) (i i' : Fin 4096) (k : Fin 1024) (j n : Fin 4) (y : Fin 64) (hi : i.val = i'.val) (hk : k.val = 256 * j.val + 64 * n.val + y.val) :
    (V0 (Proc.devRef .tc main_arg3) : S1x4096x1024.Idx → EReal) (ix3 0 i k) = ((D.g i' (colQ j n y) : ℝ) : EReal) := by
  obtain rfl : k = colQ j n y := Fin.ext hk
  obtain rfl := Fin.ext hi
  exact h.g _ _
theorem at_e (h : Holds D V0) (i i' : Fin 4096) (k : Fin 16) (j n : Fin 4) (hi : i.val = i'.val) (hk : k.val = 4 * j.val + n.val) :
    (V0 (Proc.devRef .tc main_arg4) : S1x4096x16.Idx → EReal) (ix3 0 i k) = ((D.e i' (colE j n) : ℝ) : EReal) := by
  obtain rfl : k = colE j n := Fin.ext hk
  obtain rfl := Fin.ext hi
  exact h.e _ _
theorem at_k (h : Holds D V0) (i i' : Fin 4096) (k : Fin 256) (j : Fin 4) (y : Fin 64) (hi : i.val = i'.val) (hk : k.val = 64 * j.val + y.val) :
    (V0 (Proc.devRef .tc main_arg1) : S1x4096x256.Idx → EReal) (ix3 0 i k) = ((D.k i' (colK j y) : ℝ) : EReal) := by
  obtain rfl : k = colK j y := Fin.ext hk
  obtain rfl := Fin.ext hi
  exact h.k _ _
theorem at_v (h : Holds D V0) (i i' : Fin 4096) (k : Fin 256) (j : Fin 4) (y : Fin 64) (hi : i.val = i'.val) (hk : k.val = 64 * j.val + y.val) :
    (V0 (Proc.devRef .tc main_arg2) : S1x4096x256.Idx → EReal) (ix3 0 i k) = ((D.v i' (colK j y) : ℝ) : EReal) := by
  obtain rfl : k = colK j y := Fin.ext hk
  obtain rfl := Fin.ext hi
  exact h.v _ _

theorem v17 (h : Holds D V0) (b : Fin 8) (ρ : Fin 4) (r : Fin 128) (j n : Fin 4) (y : Fin 64) :
    (res_main_v17 V0 : S1x4x8x128x4x4x64.Idx → EReal) (ix7 0 ρ b r j n y) = (((D.blk04 (mk4 b ρ) j).Q n r y : ℝ) : EReal) := by
  unfold res_main_v17
  pointwise
  rw [dif_pos (by omega : b.val * 128 + r.val < 1024)]
  exact at_q h _ _ _ _ _ _ (by unfold pos4 mk4; simp only; omega) (by simp only; omega)
theorem v123 (h : Holds D V0) (b : Fin 8) (ρ : Fin 4) (r : Fin 128) (j n : Fin 4) (y : Fin 64) :
    (res_main_v123 V0 : S1x4x8x128x4x4x64.Idx → EReal) (ix7 0 ρ b r j n y) = (((D.blk04 (mk4 b ρ) j).G n r y : ℝ) : EReal) := by
  unfold res_main_v123
  pointwise
  exact at_g h _ _ _ _ _ _ (by unfold pos4 mk4; simp only; omega) (by simp only; omega)
theorem v120 (h : Holds D V0) (b : Fin 8) (ρ : Fin 4) (r : Fin 128) (j n : Fin 4) :
    (res_main_v120 V0 : S1x4x8x128x4x4.Idx → EReal) (ix6 0 ρ b r j n) = (((D.blk04 (mk4 b ρ) j).E n r : ℝ) : EReal) := by
  unfold res_main_v120
  pointwise
  exact at_e h _ _ _ _ _ (by unfold pos4 mk4; simp only; omega) (by simp only; omega)
theorem v21 (h : Holds D V0) (b : Fin 8) (ρ : Fin 4) (r : Fin 128) (j : Fin 4) (y : Fin 64) :
    (res_main_v21 V0 : S1x4x8x128x4x64.Idx → EReal) (ix6 0 ρ b r j y) = ((D.k ⟨512 * b.val + ρ.val + 4 * r.val, by omega⟩ (colK j y) : ℝ) : EReal) := by
  unfold res_main_v21
  pointwise
  rw [dif_pos (by omega : b.val * 128 + r.val < 1024)]
  exact at_k h _ _ _ _ _ (by simp only; omega) (by simp only; omega)
theorem v31 (h : Holds D V0) (b : Fin 8) (ρ : Fin 4) (r : Fin 128) (j : Fin 4) (y : Fin 64) :
    (res_main_v31 V0 : S1x4x8x128x4x64.Idx → EReal) (ix6 0 ρ b r j y) = ((D.v ⟨512 * b.val + ρ.val + 4 * r.val, by omega⟩ (colK j y) : ℝ) : EReal) := by
  unfold res_main_v31
  pointwise
  rw [dif_pos (by omega : b.val * 128 + r.val < 1024)]
  exact at_v h _ _ _ _ _ (by simp only; omega) (by simp only; omega)

theorem v27 (h : Holds D V0) (b : Fin 8) (ρ : Fin 4) (x : Fin 256) (j : Fin 4) (y : Fin 64) :
    (res_main_v27 V0 : S1x4x8x256x4x64.Idx → EReal) (ix6 0 ρ b x j y) = (((D.blk04 (mk4 b ρ) j).K x y : ℝ) : EReal) := by
  have h21 := v21 h
  unfold res_main_v27
  generalize res_main_v21 V0 = w at h21
  refine keys4 (fun i => D.k i (colK j y)) b ρ x _ (fun hx hb => ?_) (fun hx hb => ?_) (fun hx => ?_)
  · pointwise; rw [dif_pos hx, dif_pos hb]
  · pointwise; rw [dif_pos hx, dif_neg hb]; exact ((h21 ⟨b.val - 1, by omega⟩ ρ ⟨x.val, hx⟩ j y).trans (congrArg (fun i => ((D.k i (colK j y) : ℝ) : EReal)) (Fin.ext (by rw [posK4_before b ρ x hx]; simp only; omega))))
  · pointwise; rw [dif_neg hx]; exact ((h21 b ρ ⟨x.val - 128, by omega⟩ j y).trans (congrArg (fun i => ((D.k i (colK j y) : ℝ) : EReal)) (Fin.ext (by rw [posK4_own b ρ x hx]))))
theorem v37 (h : Holds D V0) (b : Fin 8) (ρ : Fin 4) (x : Fin 256) (j : Fin 4) (y : Fin 64) :
    (res_main_v37 V0 : S1x4x8x256x4x64.Idx → EReal) (ix6 0 ρ b x j y) = (((D.blk04 (mk4 b ρ) j).V x y : ℝ) : EReal) := by
  have h31 := v31 h
  unfold res_main_v37
  generalize res_main_v31 V0 = w at h31
  refine keys4 (fun i => D.v i (colK j y)) b ρ x _ (fun hx hb => ?_) (fun hx hb => ?_) (fun hx => ?_)
  · pointwise; rw [dif_pos hx, dif_pos hb]
  · pointwise; rw [dif_pos hx, dif_neg hb]; exact ((h31 ⟨b.val - 1, by omega⟩ ρ ⟨x.val, hx⟩ j y).trans (congrArg (fun i => ((D.v i (colK j y) : ℝ) : EReal)) (Fin.ext (by rw [posK4_before b ρ x hx]; simp only; omega))))
  · pointwise; rw [dif_neg hx]; exact ((h31 b ρ ⟨x.val - 128, by omega⟩ j y).trans (congrArg (fun i => ((D.v i (colK j y) : ℝ) : EReal)) (Fin.ext (by rw [posK4_own b ρ x hx]))))

theorem v48 (r : Fin 128) (x : Fin 256) : (res_main_v48 V0 : S128x256.Idx → BitVec 32) (ix2 r x)
    = IntOp.subi (IntOp.addi 128#32 (BitVec.ofNat 32 r.val)) (BitVec.ofNat 32 x.val) := by
  unfold res_main_v48 res_main_v43
  pointwise

theorem before_start : ∀ (b : Fin 8) (x : Fin 256),
    IntOp.cmpi .sge (IntOp.addi (IntOp.muli (IntOp.subi (BitVec.ofNat 32 b.val) 1#32) 128#32) (BitVec.ofNat 32 x.val)) 0#32 = 1#1
      ↔ 128 ≤ 128 * b.val + x.val := by decide +kernel

theorem v83_1 (b : Fin 8) (ρ : Fin 4) (j n : Fin 4) (r : Fin 128) (x : Fin 256) :
    (res_main_v83_1 V0 : S1x4x8x4x4x128x256.Idx → BitVec 1) (ix7 0 ρ b j n r x) = 1#1 ↔ ok (lev (mk4 b ρ)) r x := by
  have h48 := v48 (V0 := V0)
  unfold res_main_v83_1 res_main_v43
  generalize res_main_v48 V0 = w at h48
  pointwise
  have hl : (lev (mk4 b ρ)).val = b.val := by unfold lev mk4; simp only; omega
  rw [h48, and_one, dist_near, before_start]
  unfold ok
  rw [hl]

/-- The penalty the bias adds at a key. -/
theorem penalty (r : Fin 128) (x : Fin 256) (h : Fin 16) (b : Nat) (hb : b = h.val) :
    -Ideal.exp (Ideal.ofBits FTy.f32 1060205080#32 * Ideal.div
          (Ideal.ofBits FTy.f32 3238002688#32 * (FloatOps.sitofp (F := Ideal) FTy.f32 (BitVec.ofNat 32 b) + 1))
          (Ideal.ofBits FTy.f32 1098907648#32))
        * FloatOps.sitofp (F := Ideal) FTy.f32
          (IntOp.muli (IntOp.subi (IntOp.addi 128#32 (BitVec.ofNat 32 r.val)) (BitVec.ofNat 32 x.val)) 4#32)
      = ((-slope h * ((4 * (128 + (r.val : ℤ) - x.val) : ℤ) : ℝ) : ℝ) : EReal) := by
  subst hb
  have hs : ∀ w : BitVec 32, (FloatOps.sitofp (F := Ideal) FTy.f32 w) = ((w.toInt : ℝ) : EReal) := fun _ => rfl
  rw [hs, hs, dist4_toInt, head_toInt, Int.cast_natCast, slope_eq, ← EReal.coe_neg, ← EReal.coe_mul]

theorem scores (h : Holds D V0) (b : Fin 8) (ρ : Fin 4) (j n : Fin 4) (r : Fin 128) :
    (D.blk04 (mk4 b ρ) j).Row n r (fun x => (res_main_v83_0 V0 : S1x4x8x4x4x128x256.Idx → EReal) (ix7 0 ρ b j n r x)) := by
  intro x
  have h27 := v27 h
  have h17 := v17 h
  have h48 := v48 (V0 := V0)
  have h83 := v83_1 (V0 := V0) b ρ j n r x
  unfold res_main_v83_0
  generalize res_main_v83_1 V0 = w1 at h83 ⊢
  generalize res_main_v48 V0 = w at h48 ⊢
  generalize res_main_v27 V0 = wk at h27 ⊢
  generalize res_main_v17 V0 = wq at h17 ⊢
  pointwise
  simp only [h27, h17, h48]
  rw [penalty r x (colE j n) _ (by unfold colE; simp only; omega)]
  refine ⟨fun hx => ?_, fun hx => ?_⟩
  · rw [h83.mpr hx]
    simp only [← EReal.coe_mul, ← coe_sum, mul_comm ((D.blk04 (mk4 b ρ) j).K x _)]
    exact (EReal.coe_add _ _).symm
  · rw [one_bit _ (fun he => hx (h83.mp he))]
    exact ofBits_bot

theorem row_set (b : Fin 8) (ρ : Fin 4) (j n : Fin 4) (r : Fin 128) (i : S1x4x8x4x4x128x256.Idx) :
    i ∈ ({i | reducesTo_S1x4x8x4x4x128x256_S1x4x8x4x4x128_d6.drop i = ix6 0 ρ b j n r} : Finset S1x4x8x4x4x128x256.Idx)
      ↔ ∃ x, i = ix7 0 ρ b j n r x := row_mem7 _ ρ b j n r i

/-- The greatest score of a row, which some key attains. -/
theorem greatest (h : Holds D V0) (b : Fin 8) (ρ : Fin 4) (j n : Fin 4) (r : Fin 128) : ∃ M : ℝ,
    (res_main_v84 V0 : S1x4x8x4x4x128.Idx → EReal) (ix6 0 ρ b j n r) = (M : EReal)
      ∧ ∃ x, (res_main_v83_0 V0 : S1x4x8x4x4x128x256.Idx → EReal) (ix7 0 ρ b j n r x) = (M : EReal) := by
  have hr := scores h b ρ j n r
  obtain ⟨M, hM, hx⟩ := hr.max (D.ok_some4 (mk4 b ρ) j r) _ _ (row_set b ρ j n r) (res_main_v83_0 V0) (fun _ => rfl)
  refine ⟨M, ?_, hx⟩
  unfold res_main_v84
  generalize res_main_v83_0 V0 = w at hM ⊢
  pointwise
  rw [ofBits_bot]; exact hM

theorem v93 (h : Holds D V0) (b : Fin 8) (ρ : Fin 4) (j n : Fin 4) (r : Fin 128) (M : ℝ)
    (hM : (res_main_v84 V0 : S1x4x8x4x4x128.Idx → EReal) (ix6 0 ρ b j n r) = (M : EReal)) (x : Fin 256) :
    (res_main_v93 V0 : S1x4x8x4x4x128x256.Idx → EReal) (ix7 0 ρ b j n r x) = (((D.blk04 (mk4 b ρ) j).w n r x * Real.exp (-M) : ℝ) : EReal) := by
  have hr := scores h b ρ j n r
  unfold res_main_v93 res_main_v90
  generalize res_main_v83_0 V0 = w at hr ⊢
  generalize res_main_v84 V0 = w' at hM ⊢
  pointwise
  rw [hM]
  exact hr.exp_eq M x

/-- What the softmax of a row is made of: `M` its greatest score. -/
structure Soft (D : Data) (V0 : Valuation τ sig (Elt Ideal)) (M : Fin 8 → Fin 4 → Fin 4 → Fin 4 → Fin 128 → ℝ) : Prop where
  top : ∀ b ρ j n r, ∃ x, (res_main_v88 V0 : S1x4x8x4x4x128x256.Idx → EReal) (ix7 0 ρ b j n r x) = ((1 : ℝ) : EReal)
  tie : ∀ b ρ j n r x, (res_main_v88 V0 : S1x4x8x4x4x128x256.Idx → EReal) (ix7 0 ρ b j n r x) = ((1 : ℝ) : EReal) ∨ (res_main_v88 V0 : S1x4x8x4x4x128x256.Idx → EReal) (ix7 0 ρ b j n r x) = ((0 : ℝ) : EReal)
  ex : ∀ b ρ j n r x, (res_main_v93 V0 : S1x4x8x4x4x128x256.Idx → EReal) (ix7 0 ρ b j n r x) = (((D.blk04 (mk4 b ρ) j).w n r x * Real.exp (-M b ρ j n r) : ℝ) : EReal)
  sum : ∀ b ρ r j n, (res_main_v97 V0 : S1x4x8x128x4x4.Idx → EReal) (ix6 0 ρ b r j n) = (((D.blk04 (mk4 b ρ) j).Z n r * Real.exp (-M b ρ j n r) : ℝ) : EReal)
  num : ∀ b ρ r j n y, (res_main_v96 V0 : S1x4x8x128x4x4x64.Idx → EReal) (ix7 0 ρ b r j n y)
    = ((∑ x, (D.blk04 (mk4 b ρ) j).w n r x * Real.exp (-M b ρ j n r) * (D.blk04 (mk4 b ρ) j).V x y : ℝ) : EReal)

theorem soft (h : Holds D V0) : ∃ M, Soft D V0 M := by
  choose M hM hx using greatest h
  have h93 := fun b ρ j n r => v93 h b ρ j n r (M b ρ j n r) (hM b ρ j n r)
  have h37 := v37 h
  refine ⟨M, ?_, ?_, h93, ?_, ?_⟩
  · intro b ρ j n r
    obtain ⟨x, e⟩ := hx b ρ j n r
    refine ⟨x, ?_⟩
    have hM := hM b ρ j n r
    unfold res_main_v88
    generalize res_main_v83_0 V0 = w at e ⊢
    generalize res_main_v84 V0 = w' at hM ⊢
    pointwise
    rw [e, hM, tie_word, decide_eq_true rfl, if_pos rfl]
  · intro b ρ j n r x
    unfold res_main_v88
    generalize res_main_v83_0 V0 = w
    generalize res_main_v84 V0 = w'
    pointwise
    rw [tie_word]
    split
    · exact Or.inl rfl
    · exact Or.inr rfl
  · intro b ρ r j n
    unfold res_main_v97
    generalize res_main_v93 V0 = w at h93
    clean_types
    pointwise
    rw [sum_last7, zero_add]
    simp only [h93]
    rw [← coe_sum, ← Finset.sum_mul]; rfl
  · intro b ρ r j n y
    unfold res_main_v96
    generalize res_main_v93 V0 = w at h93
    generalize res_main_v37 V0 = w' at h37
    pointwise
    simp only [h93, h37, ← EReal.coe_mul, ← coe_sum]
    exact congrArg _ (Finset.sum_congr rfl fun x _ => mul_comm _ _)

/-! ## The gradient of a row's scores -/

variable {M : Fin 8 → Fin 4 → Fin 4 → Fin 4 → Fin 128 → ℝ}

theorem v98 (hs : Soft D V0 M) (b : Fin 8) (ρ : Fin 4) (r : Fin 128) (j n : Fin 4) :
    (res_main_v98 V0 : S1x4x8x128x4x4x1.Idx → EReal) (ix7 0 ρ b r j n 0) = (((D.blk04 (mk4 b ρ) j).Z n r * Real.exp (-M b ρ j n r) : ℝ) : EReal) := by
  have h97 := hs.sum
  unfold res_main_v98
  generalize res_main_v97 V0 = w at h97
  pointwise
  exact h97 b ρ r j n

theorem v139 (h : Holds D V0) (hs : Soft D V0 M) (b : Fin 8) (ρ : Fin 4) (j : Fin 4) (y : Fin 64) (n : Fin 4) (r : Fin 128) :
    (res_main_v139 V0 : S1x4x8x4x64x4x128.Idx → EReal) (ix7 0 ρ b j y n r)
      = (((D.blk04 (mk4 b ρ) j).G n r y * (1 / ((D.blk04 (mk4 b ρ) j).Z n r * Real.exp (-M b ρ j n r))) : ℝ) : EReal) := by
  have h98 := v98 hs
  have h123 := v123 h
  have hz := Blk.Z_exp_pos (B := D.blk04 (mk4 b ρ) j) (n := n) (D.ok_some4 (mk4 b ρ) j r) (M b ρ j n r)
  unfold res_main_v139
  generalize res_main_v98 V0 = w at h98
  generalize res_main_v123 V0 = w' at h123
  pointwise
  rw [h98, h123, Ideal.div_coe hz.ne', ← EReal.coe_mul]

theorem v142 (h : Holds D V0) (hs : Soft D V0 M) (b : Fin 8) (ρ : Fin 4) (x : Fin 256) (j : Fin 4) (y : Fin 64) :
    (res_main_v142 V0 : S1x4x8x256x4x64.Idx → EReal) (ix6 0 ρ b x j y) = (((D.blk04 (mk4 b ρ) j).dv x y : ℝ) : EReal) := by
  have h139 := v139 h hs
  have h93 := hs.ex
  unfold res_main_v142
  generalize res_main_v139 V0 = w at h139
  generalize res_main_v93 V0 = w' at h93
  pointwise
  simp only [h139, h93, ← EReal.coe_mul, ← coe_sum]
  refine congrArg _ (Finset.sum_congr rfl fun n _ => Finset.sum_congr rfl fun r _ => ?_)
  have hz := ((D.blk04 (mk4 b ρ) j).Z_pos n r (D.ok_some4 (mk4 b ρ) j r)).ne'
  have he := (Real.exp_pos (-M b ρ j n r)).ne'
  unfold Blk.p
  field_simp

theorem v145 (h : Holds D V0) (hs : Soft D V0 M) (b : Fin 8) (ρ : Fin 4) (j n : Fin 4) (r : Fin 128) (x : Fin 256) :
    (res_main_v145 V0 : S1x4x8x4x4x128x256.Idx → EReal) (ix7 0 ρ b j n r x) = (((D.blk04 (mk4 b ρ) j).ds n r x : ℝ) : EReal) := by
  have h139 := v139 h hs
  have h93 := hs.ex
  have h97 := hs.sum
  have h96 := hs.num
  have h98 := v98 hs
  have h37 := v37 h
  have h120 := v120 h
  have h123 := v123 h
  have hz := Blk.Z_exp_pos (B := D.blk04 (mk4 b ρ) j) (n := n) (D.ok_some4 (mk4 b ρ) j r) (M b ρ j n r)
  have e := ds_spelt (D.blk04 (mk4 b ρ) j) n r x (M b ρ j n r) (D.ok_some4 (mk4 b ρ) j r)
  unfold res_main_v145
  generalize res_main_v139 V0 = w139 at h139
  generalize res_main_v93 V0 = w93 at h93
  generalize res_main_v37 V0 = w37 at h37
  generalize res_main_v98 V0 = w98 at h98
  generalize res_main_v97 V0 = w97 at h97
  generalize res_main_v96 V0 = w96 at h96
  generalize res_main_v120 V0 = w120 at h120
  generalize res_main_v123 V0 = w123 at h123
  clean_types
  pointwise
  rw [sum_unit7]
  pointwise
  rw [sum_last7]
  pointwise
  simp only [h139, h37, h120, h97, h123, h98, h96, h93, ofBits_one, Ideal.div_coe hz.ne', ← EReal.coe_mul, Ideal.div_coe (mul_pos hz hz).ne', ← coe_sum,
    one_mul]
  rw [← EReal.coe_neg, ← EReal.coe_add, ← EReal.coe_add, ← EReal.coe_mul]
  exact congrArg _ e

theorem v157 (h : Holds D V0) (hs : Soft D V0 M) (b : Fin 8) (ρ : Fin 4) (j : Fin 4) (x : Fin 256) (r : Fin 128) (n : Fin 4) :
    (res_main_v157 V0 : S1x4x8x4x256x128x4.Idx → EReal) (ix7 0 ρ b j x r n) = (((D.blk04 (mk4 b ρ) j).ds n r x : ℝ) : EReal) := by
  have h145 := v145 h hs
  have h120 := v120 h
  have hb := v83_1 (V0 := V0) b ρ j n r x
  have htop := hs.top b ρ j n r
  have htie := hs.tie b ρ j n r
  have e := ds_sum (D.blk04 (mk4 b ρ) j) n r (D.ok_some4 (mk4 b ρ) j r)
  unfold res_main_v157
  generalize res_main_v145 V0 = w145 at h145
  generalize res_main_v120 V0 = w120 at h120
  generalize res_main_v88 V0 = w88 at htop htie
  generalize res_main_v83_1 V0 = w83 at hb
  clean_types
  pointwise
  rw [sum_unit7, sum_last7]
  pointwise
  rw [sum_last7]
  pointwise
  simp only [h145, h120]
  obtain ⟨c, hc, hc0⟩ := count htop htie
  rw [hc]
  simp only [← EReal.coe_neg]
  rw [← coe_sum, ← EReal.coe_add, Finset.sum_neg_distrib, e, add_neg_cancel, Ideal.div_coe hc0, ← EReal.coe_mul, zero_mul, EReal.coe_zero, zero_mul,
    add_zero]
  show (if _ then _ else _) = _
  by_cases hx : ok (lev (mk4 b ρ)) r x
  · exact if_pos (hb.2 hx)
  · refine (if_neg fun k => hx (hb.1 k)).trans ?_
    have : (D.blk04 (mk4 b ρ) j).ds n r x = 0 := by
      unfold Blk.ds
      rw [(D.blk04 (mk4 b ρ) j).p_of_not n r x hx, zero_mul]
    rw [this]
    rfl

theorem v161 (h : Holds D V0) (hs : Soft D V0 M) (b : Fin 8) (ρ : Fin 4) (x : Fin 256) (j : Fin 4) (y : Fin 64) :
    (res_main_v161 V0 : S1x4x8x256x4x64.Idx → EReal) (ix6 0 ρ b x j y) = (((D.blk04 (mk4 b ρ) j).dk x y : ℝ) : EReal) := by
  have h157 := v157 h hs
  have h17 := v17 h
  unfold res_main_v161
  generalize res_main_v157 V0 = w157 at h157
  generalize res_main_v17 V0 = w17 at h17
  pointwise
  simp only [h157, h17, ← EReal.coe_mul, ← coe_sum]
  exact congrArg _ Finset.sum_comm

end Cert.Reference4Ideal.Attn
end
-- ==== Proof.Attn4.Results.lean ====
/- The derivative's two results: the gradients of the queries, and those of the keys and the values side by side. -/
module

public import proofs.«01_k».proof.Proof.Attn4.Reference
public import proofs.«01_k».proof.Proof.Attn4.Arrays

@[expose] public section
set_option maxRecDepth 16384
noncomputable section

namespace Cert.Reference4Ideal.Attn

open Cert.Reference4Ideal Cert.Reference4Ideal.Gen Cert.Reference4Ideal.Value Cert.Common Cert.Attn
open Idealize.ShloMosaic Idealize.ShloMosaic.TcCoe Idealize.SL.Sem Idealize.ShloMosaic.StableHlo

variable {D : Data} {V0 : Valuation τ sig (Elt Ideal)}

open Cert.Kernel4Ideal.Attn (DqOf DkvOf dqAt)
open Cert.Kernel3Ideal.Attn (hi lo side)

theorem mk_blk (i : Fin 4096) (p q) : mk4 ⟨i.val / 4 / 128, p⟩ ⟨i.val % 4, q⟩ = blkOf i := Fin.ext (by unfold mk4 blkOf; simp only; omega)
theorem cell_eq (i : Fin 4096) (p) : (⟨i.val / 4 % 128, p⟩ : Fin 128) = cellOf i := Fin.ext (by unfold cellOf; simp only; omega)

theorem endQ (a : Fin 8) (i : Fin 4096) (l : Fin 128) (p q s t) (n : Fin 4) (hn : n.val = a.val % 2 * 2 + l.val / 64) (c : Fin 64)
    (hc : c.val = l.val % 64) :
    (∑ x, (((D.blk04 (mk4 ⟨i.val / 4 / 128, p⟩ ⟨i.val % 4, t⟩) ⟨a.val / 2, q⟩).ds n ⟨i.val / 4 % 128, s⟩ x : ℝ) : EReal)
        * (((D.blk04 (mk4 ⟨i.val / 4 / 128, p⟩ ⟨i.val % 4, t⟩) ⟨a.val / 2, q⟩).K x c : ℝ) : EReal))
      = DqOf D (ix3 a i l) := by
  simp only [← EReal.coe_mul, ← coe_sum]
  have en : n = ⟨2 * (a.val % 2) + l.val / 64, by omega⟩ := Fin.ext (by rw [hn]; simp only; omega)
  have ec : c = lo l := Fin.ext hc
  rw [en, ec, mk_blk, cell_eq]
  exact congrArg _ (congrFun (congrFun (congrFun (Blk.mask_dq (D.blk4 (blkOf i) ⟨a.val / 2, by omega⟩) _ (D.ok_seen4 _ _)) _) _) _)

theorem end_next (f : Blk → Fin 256 → Fin 64 → ℝ) (hf : ∀ b j, f (D.blk04 b j) = f (D.blk4 b j)) (a : Fin 4) (i : Fin 4096) (c : Fin 64) (p q r s t)
    (h : i.val / 4 / 128 < 7) :
    ((f (D.blk04 (mk4 ⟨i.val / 4 / 128, p⟩ ⟨i.val % 4, t⟩) a) ⟨128 + i.val / 4 % 128, q⟩ c : ℝ) : EReal)
        + ((f (D.blk04 (mk4 ⟨1 + i.val / 4 / 128, r⟩ ⟨i.val % 4, t⟩) a) ⟨i.val / 4 % 128, s⟩ c : ℝ) : EReal)
      = ((D.both4 a f (blkOf i) (cellOf i) c : ℝ) : EReal) := by
  have hb : (blkOf i).val + 4 < 32 := by unfold blkOf; simp only; omega
  have e1 : mk4 ⟨1 + i.val / 4 / 128, r⟩ ⟨i.val % 4, t⟩ = ⟨(blkOf i).val + 4, hb⟩ := Fin.ext (by unfold mk4 blkOf; simp only; omega)
  have e2 : (⟨128 + i.val / 4 % 128, q⟩ : Fin 256) = ⟨128 + (cellOf i).val, by omega⟩ := Fin.ext (by unfold cellOf; simp only; omega)
  have e3 : (⟨i.val / 4 % 128, s⟩ : Fin 256) = ⟨(cellOf i).val, by omega⟩ := Fin.ext (by unfold cellOf; simp only; omega)
  rw [hf, hf, ← EReal.coe_add, mk_blk, e1, e2, e3]
  refine congrArg _ ?_
  unfold Data.both4
  rw [dif_pos hb]

theorem end_last (f : Blk → Fin 256 → Fin 64 → ℝ) (hf : ∀ b j, f (D.blk04 b j) = f (D.blk4 b j)) (a : Fin 4) (i : Fin 4096) (c : Fin 64) (p q t)
    (h : ¬ i.val / 4 / 128 < 7) :
    ((f (D.blk04 (mk4 ⟨i.val / 4 / 128, p⟩ ⟨i.val % 4, t⟩) a) ⟨128 + i.val / 4 % 128, q⟩ c : ℝ) : EReal) + 0
      = ((D.both4 a f (blkOf i) (cellOf i) c : ℝ) : EReal) := by
  have hb : ¬ (blkOf i).val + 4 < 32 := by unfold blkOf; simp only; omega
  have e2 : (⟨128 + i.val / 4 % 128, q⟩ : Fin 256) = ⟨128 + (cellOf i).val, by omega⟩ := Fin.ext (by unfold cellOf; simp only; omega)
  rw [hf, add_zero, mk_blk, e2]
  refine congrArg _ ?_
  unfold Data.both4
  rw [dif_neg hb, add_zero]

theorem dk0 (b : Fin 32) (j : Fin 4) : (D.blk04 b j).dk = (D.blk4 b j).dk := Blk.mask_dk _ _ (D.ok_seen4 b j)
theorem dv0 (b : Fin 32) (j : Fin 4) : (D.blk04 b j).dv = (D.blk4 b j).dv := Blk.mask_dv _ _ (D.ok_seen4 b j)
theorem side_lo (a : Fin 4) (i : Fin 4096) (l : Fin 128) (h : l.val / 64 < 1) (p) :
    ((D.both4 a Blk.dk (blkOf i) (cellOf i) ⟨l.val % 64, p⟩ : ℝ) : EReal) = DkvOf D (ix3 a i l) := by
  have e : side (hi l) = Blk.dk := by
    have : hi l = 0 := Fin.ext (by show l.val / 64 = 0; omega)
    funext B; unfold side; rw [this, if_pos rfl]
  exact congrArg (fun f => ((D.both4 a f (blkOf i) (cellOf i) (lo l) : ℝ) : EReal)) e.symm
theorem side_hi (a : Fin 4) (i : Fin 4096) (l : Fin 128) (h : ¬ l.val / 64 < 1) (p) :
    ((D.both4 a Blk.dv (blkOf i) (cellOf i) ⟨l.val % 64, p⟩ : ℝ) : EReal) = DkvOf D (ix3 a i l) := by
  have e : side (hi l) = Blk.dv := by
    have : hi l ≠ 0 := fun k => h (by have := congrArg Fin.val k; show (hi l).val < 1; rw [this]; decide)
    funext B; unfold side; rw [if_neg this]
  exact congrArg (fun f => ((D.both4 a f (blkOf i) (cellOf i) (lo l) : ℝ) : EReal)) e.symm

set_option maxHeartbeats 2000000 in
theorem results (m : (ℓ : Loc nD τ sig) → Buf (Elt Ideal) ℓ) (ρ : Dev nD → PrngReg) :
    θ_run defs (onTc (τ := τ) (main (F := Ideal))) ⟨m, fun _ => 0, ρ⟩ fun r => ∀ (c : Dev nD) (D : Data), Holds D (launchContents m c) →
      (r.2.mem ((c.tc : Thread nD τ).loc main_v193) : S8x4096x128.Idx → EReal) = DqOf D
      ∧ (r.2.mem ((c.tc : Thread nD τ).loc main_v203) : S4x4096x128.Idx → EReal) = DkvOf D
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c D h => ?_) (run (F := Ideal) m ρ)
  obtain ⟨h1, h2, ha⟩ := hr c
  obtain ⟨M, hs⟩ := soft h
  have h157 := v157 h hs
  have h27 := v27 h
  have h161 := v161 h hs
  have h142 := v142 h hs
  clear hr
  generalize launchContents m c = V0 at *
  refine ⟨h1.trans (funext fun u => ?_), h2.trans (funext fun u => ?_), ha⟩
  · obtain ⟨a, i, l, rfl⟩ : ∃ (a : Fin 8) (i : Fin 4096) (l : Fin 128), u = ix3 a i l := ⟨u 0, u 1, u 2, (ix3_eta u).symm⟩
    generalize res_main_v157 V0 = w157 at h157
    generalize res_main_v27 V0 = w27 at h27
    clear h1 h2 h161 h142
    pointwise
    refine (dif_pos ⟨by omega, by omega, by omega⟩).trans ?_
    exact (Finset.sum_congr rfl fun x _ => congrArg₂ (fun x y : EReal => x * y) (h157 _ _ _ _ _ _) (h27 _ _ _ _ _)).trans (endQ a i l _ _ _ _ _ rfl _ rfl)
  · obtain ⟨a, i, l, rfl⟩ : ∃ (a : Fin 4) (i : Fin 4096) (l : Fin 128), u = ix3 a i l := ⟨u 0, u 1, u 2, (ix3_eta u).symm⟩
    unfold res_main_v172 res_main_v162
    generalize res_main_v161 V0 = w161 at h161
    generalize res_main_v142 V0 = w142 at h142
    clear h1 h2 h157 h27 ha hs h
    pointwise
    by_cases hl : l.val / 64 < 1
    · refine (dif_pos hl).trans ((dif_pos (by omega)).trans ?_)
      refine Eq.trans ?_ (side_lo a i l hl (by omega))
      by_cases hb : i.val / 4 / 128 < 7
      · exact (congrArg₂ (fun x y : EReal => x + y) (h161 _ _ _ _ _) ((dif_pos ⟨by omega, hb, by omega, by omega⟩).trans (h161 _ _ _ _ _))).trans (end_next Blk.dk dk0 a i _ _ _ _ _ _ hb)
      · exact (congrArg₂ (fun x y : EReal => x + y) (h161 _ _ _ _ _) (dif_neg fun k => hb k.2.1)).trans (end_last Blk.dk dk0 a i _ _ _ _ hb)
    · refine (dif_neg hl).trans ((dif_pos (by omega)).trans ?_)
      refine Eq.trans ?_ (side_hi a i l hl (by omega))
      by_cases hb : i.val / 4 / 128 < 7
      · exact (congrArg₂ (fun x y : EReal => x + y) (h142 _ _ _ _ _) ((dif_pos ⟨by omega, hb, by omega, by omega⟩).trans (h142 _ _ _ _ _))).trans (end_next Blk.dv dv0 a i _ _ _ _ _ _ hb)
      · exact (congrArg₂ (fun x y : EReal => x + y) (h142 _ _ _ _ _) (dif_neg fun k => hb k.2.1)).trans (end_last Blk.dv dv0 a i _ _ _ _ hb)

end Cert.Reference4Ideal.Attn
end
-- ==== Proof.Attn4.Claims.lean ====
/- The five claims about the attention's backward call (the pattern of stride four): the frames, and the kernel's two arrays equal
   to the derivative's. -/
module

public import proofs.«01_k».proof.Defs
public import proofs.«01_k».proof.Proof.Gen.Kernel4
public import proofs.«01_k».proof.Proof.Gen.Pre_finite5
public import proofs.«01_k».proof.Proof.Attn.Claims
public import proofs.«01_k».proof.Proof.Attn4.Frame
public import proofs.«01_k».proof.Proof.Attn4.Arrays
public import proofs.«01_k».proof.Proof.Attn4.Results
public import Idealize.ShloMosaic.Adequacy
public import Idealize.ShloMosaic.Init

@[expose] public section

noncomputable section

namespace Cert.Proof.Attn4

open Idealize.ShloMosaic Idealize.ShloMosaic.TcCoe Idealize.ShloMosaic.StableHlo Idealize.SL.Sem Cert.Common Cert.Attn
open Cert.Kernel4Ideal.Attn (DqOf DkvOf f7 f8)

/-- The frame of the idealized program's text, over the words. -/
def Quiet : Prop := ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

/-- The two printed programs are one text. -/
theorem quiet_eq : Quiet = Cert.quiescent_Kernel4 (hKernel4 := Cert.Kernel4.Gen.facts) := by sl_kernel_rfl

theorem frame_kernel : Cert.quiescent_Kernel4 (hKernel4 := Cert.Kernel4.Gen.facts) :=
  quiet_eq.mp fun m ρ _ => Cert.Kernel4Ideal.Attn.frame (F := Bits) m ρ
theorem frame_ideal : Cert.quiescent_Kernel4Ideal (hKernel4Ideal := Cert.Kernel4Ideal.Gen.facts) := fun m ρ _ => Cert.Kernel4Ideal.Attn.frame m ρ
theorem frame_ideal_pre : Cert.quiescent_Kernel4Ideal_pre_finite5 (hKernel4Ideal := Cert.Kernel4Ideal.Gen.facts)
    (hPre_finite5 := Cert.Pre_finite5.Gen.facts) := fun m ρ _ => Cert.Kernel4Ideal.Attn.frame m ρ
theorem frame_reference : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)
theorem frame_reference_pre : Cert.quiescent_Reference4Ideal_pre_finite5 (hReference4Ideal := Cert.Reference4Ideal.Gen.facts)
    (hPre_finite5 := Cert.Pre_finite5.Gen.facts) := fun m ρ _ => frame_reference m ρ trivial

/-- The numbers in the kernel's arguments on a device. -/
def dataOf (m : (ℓ : Loc Cert.Kernel4Ideal.nD Cert.Kernel4Ideal.τ Cert.Kernel4Ideal.sig) → Buf (Elt Ideal) ℓ) (c : Dev Cert.Kernel4Ideal.nD) : Data where
  q i k := ((m ((c : Thread Cert.Kernel4Ideal.nD Cert.Kernel4Ideal.τ).loc Cert.Kernel4Ideal.main_arg0) : Cert.Kernel4Ideal.S1x4096x1024.Idx → EReal) (ix3 0 i k)).toReal
  k i k := ((m ((c : Thread Cert.Kernel4Ideal.nD Cert.Kernel4Ideal.τ).loc Cert.Kernel4Ideal.main_arg1) : Cert.Kernel4Ideal.S1x4096x256.Idx → EReal) (ix3 0 i k)).toReal
  v i k := ((m ((c : Thread Cert.Kernel4Ideal.nD Cert.Kernel4Ideal.τ).loc Cert.Kernel4Ideal.main_arg2) : Cert.Kernel4Ideal.S1x4096x256.Idx → EReal) (ix3 0 i k)).toReal
  g i k := ((m ((c : Thread Cert.Kernel4Ideal.nD Cert.Kernel4Ideal.τ).loc Cert.Kernel4Ideal.main_arg3) : Cert.Kernel4Ideal.S1x4096x1024.Idx → EReal) (ix3 0 i k)).toReal
  e i k := ((m ((c : Thread Cert.Kernel4Ideal.nD Cert.Kernel4Ideal.τ).loc Cert.Kernel4Ideal.main_arg4) : Cert.Kernel4Ideal.S1x4096x16.Idx → EReal) (ix3 0 i k)).toReal

theorem algebraic : Cert.algebraic_Kernel4Ideal_Reference4Ideal_pre_finite5 (hKernel4Ideal := Cert.Kernel4Ideal.Gen.facts)
    (hReference4Ideal := Cert.Reference4Ideal.Gen.facts) (hPre_finite5 := Cert.Pre_finite5.Gen.facts) := by
  intro m g m' g' hp hm
  have hk : ∀ c, Cert.Kernel4Ideal.Attn.Args m (dataOf m c) c := fun c => by
    obtain ⟨h0, h1, h2, h3, h4⟩ := Cert.Proof.Attn.real_args _ _ _ _ _ (hp c)
    exact ⟨fun _ _ => h0 _, fun _ _ => h1 _, fun _ _ => h2 _, fun _ _ => h3 _, fun _ _ => h4 _⟩
  have hr : ∀ c, Cert.Reference4Ideal.Attn.Holds (dataOf m c) (launchContents m' c) := fun c => by
    obtain ⟨e0, e1, e2, e3, e4⟩ := hm c
    obtain ⟨h0, h1, h2, h3, h4⟩ := hk c
    exact ⟨fun i k => (congrFun e0 _).trans (h0 i k), fun i k => (congrFun e1 _).trans (h1 i k), fun i k => (congrFun e2 _).trans (h2 i k),
      fun i k => (congrFun e3 _).trans (h3 i k), fun i k => (congrFun e4 _).trans (h4 i k)⟩
  refine ⟨fun c => DqOf (dataOf m c), fun c => DkvOf (dataOf m c), ?_, ?_⟩
  · refine (θ_run Cert.Kernel4Ideal.defs _ _).mono (fun r h c => ?_) (Cert.Kernel4Ideal.Attn.run (F := Ideal) m _)
    obtain ⟨h1, h2, ha⟩ := h c
    exact ⟨h1.trans (f7 m (hk c)), h2.trans (f8 m (hk c)), ha⟩
  · exact (θ_run Cert.Reference4Ideal.defs _ _).mono (fun r h c => h c _ (hr c)) (Cert.Reference4Ideal.Attn.results m' _)

end Cert.Proof.Attn4
end
-- ==== Proof.Inproj.Spec.lean ====
/- The gradient of the input projection and of the norm before it over the real numbers: one row of the step at a time, then the
   sum over rows. The kernel's blocks and the reference's arrays are both shown to hold these numbers. -/
module

public import proofs.«01_k».proof.Proof.Outproj.Spec

@[expose] public section
noncomputable section

namespace Cert.Inproj

open Idealize.ShloMosaic Cert.Common Cert.Outproj

theorem ofBits_eighth : Ideal.ofBits FTy.f32 1040187392#32 = ((1 / 8 : ℝ) : EReal) := by
  simp [Ideal.ofBits, Ideal.ieee, -EReal.coe_mul]; norm_num

/-- The part's arrays: the projection, the step's input, the norm's vector, the gradients of the queries, keys and values at the
    three spacings, the gradients of the four other columns, and the gradient that comes around the projection. -/
structure Data where
  w : Fin 1024 → Fin 5632 → ℝ
  x : Fin 4096 → Fin 1024 → ℝ
  g : Fin 1024 → ℝ
  q1 : Fin 4096 → Fin 1024 → ℝ
  q2 : Fin 4096 → Fin 1024 → ℝ
  q3 : Fin 4096 → Fin 1024 → ℝ
  k1 : Fin 4096 → Fin 256 → ℝ
  k2 : Fin 4096 → Fin 256 → ℝ
  k3 : Fin 4096 → Fin 256 → ℝ
  v1 : Fin 4096 → Fin 256 → ℝ
  v2 : Fin 4096 → Fin 256 → ℝ
  v3 : Fin 4096 → Fin 256 → ℝ
  s0 : Fin 4096 → Fin 1024 → ℝ
  s1 : Fin 4096 → Fin 1024 → ℝ
  s2 : Fin 4096 → Fin 1024 → ℝ
  s3 : Fin 4096 → Fin 1024 → ℝ
  dx2 : Fin 4096 → Fin 1024 → EReal

namespace Data
variable (D : Data) (i : Fin 4096)

def q (a : Fin 1024) : ℝ := (D.q1 i a + D.q2 i a + D.q3 i a) * (1 / 8)
def k (a : Fin 256) : ℝ := D.k1 i a + D.k2 i a + D.k3 i a
def v (a : Fin 256) : ℝ := D.v1 i a + D.v2 i a + D.v3 i a

/-- The gradient of the projection's output: queries, keys, values, then the four other columns. -/
def dp (e : Fin 5632) : ℝ :=
  if h : e.val < 1024 then D.q i ⟨e.val, h⟩
  else if h : e.val < 1280 then D.k i ⟨e.val - 1024, by omega⟩
  else if h : e.val < 1536 then D.v i ⟨e.val - 1280, by omega⟩
  else if h : e.val < 2560 then D.s0 i ⟨e.val - 1536, by omega⟩
  else if h : e.val < 3584 then D.s1 i ⟨e.val - 2560, by omega⟩
  else if h : e.val < 4608 then D.s2 i ⟨e.val - 3584, by omega⟩
  else D.s3 i ⟨e.val - 4608, by omega⟩

def dh (a : Fin 1024) : ℝ := ∑ e, D.dp i e * D.w a e
def r : ℝ := rinv eps6 (D.x i)
def xn (a : Fin 1024) : ℝ := D.x i a * D.r i
def dxn (a : Fin 1024) : ℝ := D.dh i a * D.g a
/-- What the projection's path gives to the input's gradient. -/
def gx (a : Fin 1024) : ℝ := D.r i * (D.dxn i a - D.xn i a * mean (fun k => D.dxn i k * D.xn i k))
def dx (a : Fin 1024) : EReal := D.dx2 i a + ((D.gx i a : ℝ) : EReal)
/-- What a row adds to the norm vector's gradient: the first of eight rows. -/
def st (j : Fin 8) (a : Fin 1024) : ℝ := if j = 0 then D.dh i a * D.xn i a else 0

variable {D i} {e : Fin 5632}

theorem dp_q (a : Fin 1024) (h : e.val = a.val) : D.dp i e = D.q i a := by
  have : e.val < 1024 := by omega
  simp only [dp, this, dif_pos]; exact congrArg _ (Fin.ext (by simp only; omega))
theorem dp_k (a : Fin 256) (h : e.val = 1024 + a.val) : D.dp i e = D.k i a := by
  have : ¬e.val < 1024 := by omega
  have h2 : e.val < 1280 := by omega
  simp only [dp, this, h2, dif_pos, dif_neg, not_false_iff]; exact congrArg _ (Fin.ext (by simp only; omega))
theorem dp_v (a : Fin 256) (h : e.val = 1280 + a.val) : D.dp i e = D.v i a := by
  have : ¬e.val < 1024 := by omega
  have h1 : ¬e.val < 1280 := by omega
  have h2 : e.val < 1536 := by omega
  simp only [dp, this, h1, h2, dif_pos, dif_neg, not_false_iff]; exact congrArg _ (Fin.ext (by simp only; omega))
theorem dp_s0 (a : Fin 1024) (h : e.val = 1536 + a.val) : D.dp i e = D.s0 i a := by
  have : ¬e.val < 1024 := by omega
  have h1 : ¬e.val < 1280 := by omega
  have h2 : ¬e.val < 1536 := by omega
  have h3 : e.val < 2560 := by omega
  simp only [dp, this, h1, h2, h3, dif_pos, dif_neg, not_false_iff]; exact congrArg _ (Fin.ext (by simp only; omega))
theorem dp_s1 (a : Fin 1024) (h : e.val = 2560 + a.val) : D.dp i e = D.s1 i a := by
  have : ¬e.val < 1024 := by omega
  have h1 : ¬e.val < 1280 := by omega
  have h2 : ¬e.val < 1536 := by omega
  have h3 : ¬e.val < 2560 := by omega
  have h4 : e.val < 3584 := by omega
  simp only [dp, this, h1, h2, h3, h4, dif_pos, dif_neg, not_false_iff]; exact congrArg _ (Fin.ext (by simp only; omega))
theorem dp_s2 (a : Fin 1024) (h : e.val = 3584 + a.val) : D.dp i e = D.s2 i a := by
  have : ¬e.val < 1024 := by omega
  have h1 : ¬e.val < 1280 := by omega
  have h2 : ¬e.val < 1536 := by omega
  have h3 : ¬e.val < 2560 := by omega
  have h4 : ¬e.val < 3584 := by omega
  have h5 : e.val < 4608 := by omega
  simp only [dp, this, h1, h2, h3, h4, h5, dif_pos, dif_neg, not_false_iff]; exact congrArg _ (Fin.ext (by simp only; omega))
theorem dp_s3 (a : Fin 1024) (h : e.val = 4608 + a.val) : D.dp i e = D.s3 i a := by
  have : ¬e.val < 1024 := by omega
  have h1 : ¬e.val < 1280 := by omega
  have h2 : ¬e.val < 1536 := by omega
  have h3 : ¬e.val < 2560 := by omega
  have h4 : ¬e.val < 3584 := by omega
  have h5 : ¬e.val < 4608 := by omega
  simp only [dp, this, h1, h2, h3, h4, h5, dif_neg, not_false_iff]; exact congrArg _ (Fin.ext (by simp only; omega))

end Data

end Cert.Inproj
end
-- ==== Proof.Inproj.Terms.lean ====
/- What each value of the input projection's kernel body is, over the reals. -/
module

public import proofs.«01_k».proof.Proof.Inproj.Spec
public import proofs.«01_k».proof.Proof.Gen.Kernel5Ideal.Value
public import Idealize.ShloMosaic.Lib.Pipeline.ValueKit
public import Idealize.ShloMosaic.Lib.Pointwise
public import Idealize.ShloMosaic.Lib.StableHlo.ReadAt

@[expose] public section
set_option maxRecDepth 16384
noncomputable section

namespace Cert.Kernel5Ideal.InV
open Cert.Kernel5Ideal Cert.Kernel5Ideal.Gen Idealize.ShloMosaic Idealize.ShloMosaic.TcCoe Idealize.SL.Sem Cert.Common
open Cert.Inproj
open Cert.Outproj (mean eps6 eps6_pos ofBits_eps6 ofBits_1024 ofBits_zero div_1024 rsqrt_row)

/-- A slab of 256 rows and 128 lanes holding real numbers. -/
def Slab (f : Fin 256 → Fin 128 → ℝ) (v : S1x256x128.Idx → EReal) : Prop :=
  ∀ (r : Fin 256) (l : Fin 128), v (ix3 0 r l) = ((f r l : ℝ) : EReal)

theorem lane_lt (l : Fin 128) (h : l.val < 64) : IntOp.cmpi CmpIPredicate.slt (BitVec.ofNat 32 l.val) 64#32 = 1#1 := by
  have : ∀ l : Fin 128, l.val < 64 → IntOp.cmpi CmpIPredicate.slt (BitVec.ofNat 32 l.val) 64#32 = 1#1 := by decide
  exact this l h
theorem lane_ge (l : Fin 128) (h : ¬l.val < 64) : IntOp.cmpi CmpIPredicate.slt (BitVec.ofNat 32 l.val) 64#32 = 0#1 := by
  have : ∀ l : Fin 128, ¬l.val < 64 → IntOp.cmpi CmpIPredicate.slt (BitVec.ofNat 32 l.val) 64#32 = 0#1 := by decide
  exact this l h

section
variable {a1 a2 a3 b1 b2 b3 : S1x256x128.Idx → EReal} {f1 f2 f3 g1 g2 g3 : Fin 256 → Fin 128 → ℝ}

theorem q_pay (h1 : Slab f1 a1) (h2 : Slab f2 a2) (h3 : Slab f3 a3) (r : Fin 256) (l : Fin 128) :
    (k0_pay4 (F := Ideal) a1 a2 a3 : S256x128.Idx → EReal) (ix2 r l) = (((f1 r l + f2 r l + f3 r l) * (1 / 8) : ℝ) : EReal) := by
  unfold k0_pay4
  pointwise
  simp only [h1 r, h2 r, h3 r, ofBits_eighth, ← EReal.coe_mul, ← EReal.coe_add]

/-- A pair of slabs whose lower halves are laid side by side. -/
theorem k_pay (h1 : Slab f1 a1) (h2 : Slab f2 a2) (h3 : Slab f3 a3) (k1 : Slab g1 b1) (k2 : Slab g2 b2) (k3 : Slab g3 b3)
    (r : Fin 256) (l : Fin 128) :
    (k0_pay15 (F := Ideal) (k0_pay14 (F := Ideal) a1 a2 a3) b1 b2 b3 : S256x128.Idx → EReal) (ix2 r l)
      = ((if h : l.val < 64 then f1 r l + f2 r l + f3 r l
          else g1 r ⟨l.val - 64, by omega⟩ + g2 r ⟨l.val - 64, by omega⟩ + g3 r ⟨l.val - 64, by omega⟩ : ℝ) : EReal) := by
  unfold k0_pay15 k0_pay14
  pointwise
  have e : ∀ hl : 64 ≤ l.val, (⟨(l.val + 128 - 64) % 128, by omega⟩ : Fin 128) = ⟨l.val - 64, by omega⟩ :=
    fun hl => Fin.ext (by simp only; omega)
  by_cases h : l.val < 64
  · rw [lane_lt l h, dif_pos h]
    simp only [h1 r, h2 r, h3 r, ← EReal.coe_add]
    rfl
  · rw [lane_ge l h, dif_neg h]
    simp only [e (by omega), k1 r, k2 r, k3 r, ← EReal.coe_add]
    rfl

theorem v_pay (h1 : Slab f1 a1) (h2 : Slab f2 a2) (h3 : Slab f3 a3) (k1 : Slab g1 b1) (k2 : Slab g2 b2) (k3 : Slab g3 b3)
    (r : Fin 256) (l : Fin 128) :
    (k0_pay20 (F := Ideal) (k0_pay19 (F := Ideal) a1 a2 a3 b1 b2 b3) : S256x128.Idx → EReal) (ix2 r l)
      = ((if h : l.val < 64 then f1 r ⟨l.val + 64, by omega⟩ + f2 r ⟨l.val + 64, by omega⟩ + f3 r ⟨l.val + 64, by omega⟩
          else g1 r l + g2 r l + g3 r l : ℝ) : EReal) := by
  unfold k0_pay20 k0_pay19
  pointwise
  have e : ∀ hl : l.val < 64, (⟨(l.val + 128 - 64) % 128, by omega⟩ : Fin 128) = ⟨l.val + 64, by omega⟩ :=
    fun hl => Fin.ext (by simp only; omega)
  by_cases h : l.val < 64
  · rw [lane_lt l h, dif_pos h]
    simp only [e h, h1 r, h2 r, h3 r, ← EReal.coe_add]
    rfl
  · rw [lane_ge l h, dif_neg h]
    simp only [k1 r, k2 r, k3 r, ← EReal.coe_add]
    rfl
end

variable (D : Data) (ρ : Fin 256 → Fin 4096)

/-- A block holding the rows `ρ` of a real array. -/
def Rows (f : Fin 4096 → Fin 1024 → ℝ) (v : S256x1024.Idx → EReal) : Prop :=
  ∀ (r : Fin 256) (k : Fin 1024), v (ix2 r k) = ((f (ρ r) k : ℝ) : EReal)
/-- The projection's gradient block. -/
def Joined (v : S256x5632.Idx → EReal) : Prop :=
  ∀ (r : Fin 256) (e : Fin 5632), v (ix2 r e) = ((D.dp (ρ r) e : ℝ) : EReal)
def Proj (v : S1024x5632.Idx → EReal) : Prop := ∀ (a : Fin 1024) (e : Fin 5632), v (ix2 a e) = ((D.w a e : ℝ) : EReal)
def Lanes (f : Fin 1024 → ℝ) (v : S1x1024.Idx → EReal) : Prop := ∀ (r : Fin 1) (k : Fin 1024), v (ix2 r k) = ((f k : ℝ) : EReal)

variable {dp : S256x5632.Idx → EReal} {w : S1024x5632.Idx → EReal} {x dx2 : S256x1024.Idx → EReal} {g : S1x1024.Idx → EReal}

theorem dh_rows (hd : Joined D ρ dp) (hw : Proj D w) : Rows ρ D.dh (k0_pay60 (F := Ideal) dp w) := by
  intro r k
  unfold k0_pay60
  pointwise
  simp only [hd r, hw _, ofBits_zero]
  simp only [← EReal.coe_mul, ← coe_sum, ← EReal.coe_add]
  rfl

theorem r_col (hx : Rows ρ D.x x) (r : Fin 256) (k : Fin 1) :
    (k0_pay62 (F := Ideal) x : S256x1.Idx → EReal) (ix2 r k) = ((D.r (ρ r) : ℝ) : EReal) := by
  unfold k0_pay62 k0_pay61
  pointwise
  simp only [hx r, ofBits_zero, ofBits_1024, ofBits_eps6]
  simp only [← EReal.coe_mul, ← coe_sum, ← EReal.coe_add, div_1024]
  exact rsqrt_row _ eps6_pos _

theorem xn_rows (hx : Rows ρ D.x x) : Rows ρ D.xn (k0_pay63 (F := Ideal) x) := by
  intro r k
  have h' := r_col D ρ hx
  unfold k0_pay63 k0_pay61
  generalize k0_pay62 (F := Ideal) x = v' at h'
  pointwise
  simp only [hx r, h' r, ← EReal.coe_mul]
  rfl

theorem inner_rows (hd : Joined D ρ dp) (hw : Proj D w) (hx : Rows ρ D.x x) (hg : Lanes D.g g) :
    Rows ρ (fun i a => D.dxn i a - D.xn i a * mean (fun k => D.dxn i k * D.xn i k)) (k0_pay65 (F := Ideal) dp w x g) := by
  intro r k
  have h1 := dh_rows D ρ hd hw
  have h2 := xn_rows D ρ hx
  unfold k0_pay65
  generalize k0_pay60 (F := Ideal) dp w = v at h1
  generalize k0_pay63 (F := Ideal) x = v' at h2
  pointwise
  simp only [h1 r, h2 r, hg _, ofBits_zero, ofBits_1024]
  simp only [← EReal.coe_mul, ← coe_sum, ← EReal.coe_add, div_1024, ← EReal.coe_sub]
  rfl

theorem dx_at (hd : Joined D ρ dp) (hw : Proj D w) (hx : Rows ρ D.x x) (hg : Lanes D.g g) (h2 : ∀ r k, dx2 (ix2 r k) = D.dx2 (ρ r) k)
    (r : Fin 256) (k : Fin 1024) :
    (k0_pay1 (F := Ideal) (k0_pay62 (F := Ideal) x) (k0_pay64 (F := Ideal) dx2) (k0_pay65 (F := Ideal) dp w x g) : S256x1024.Idx → EReal) (ix2 r k)
      = D.dx (ρ r) k := by
  have h3 := r_col D ρ hx
  have h4 := inner_rows D ρ hd hw hx hg
  unfold k0_pay1 k0_pay64
  generalize k0_pay62 (F := Ideal) x = v at h3
  generalize k0_pay65 (F := Ideal) dp w x g = v' at h4
  pointwise
  simp only [h3 r, h4 r, h2, ← EReal.coe_mul]
  rfl

/-- The norm vector's gradient: a block's rows added to what stood there. -/
theorem st_at (hd : Joined D ρ dp) (hw : Proj D w) (hx : Rows ρ D.x x) (s : S1x1024.Idx → EReal) (k : Fin 1024) :
    (k0_pay2 (F := Ideal) (k0_pay60 (F := Ideal) dp w) (k0_pay63 (F := Ideal) x) s : S1x1024.Idx → EReal) (ix2 0 k)
      = s (ix2 0 k) + ((∑ r, D.dh (ρ r) k * D.xn (ρ r) k : ℝ) : EReal) := by
  have h1 := dh_rows D ρ hd hw
  have h2 := xn_rows D ρ hx
  unfold k0_pay2
  generalize k0_pay60 (F := Ideal) dp w = v at h1
  generalize k0_pay63 (F := Ideal) x = v' at h2
  pointwise
  simp only [h1 _ k, h2 _ k, ofBits_zero]
  simp only [← EReal.coe_mul, ← coe_sum, ← EReal.coe_add]

end Cert.Kernel5Ideal.InV
end
-- ==== Proof.Inproj.Blocks.lean ====
/- What the input projection's kernel finds in its input blocks: rows of the argument arrays, the gradients of the queries in
   slabs of 128 columns, those of the keys and values in slabs of 64 columns of each. -/
module

public import proofs.«01_k».proof.Proof.Inproj.Terms

@[expose] public section
set_option maxRecDepth 16384
noncomputable section

namespace Cert.Kernel5Ideal.InV
open Cert.Kernel5Ideal Cert.Kernel5Ideal.Gen Idealize.ShloMosaic Idealize.ShloMosaic.TcCoe Idealize.SL.Sem Cert.Common
open Cert.Inproj

variable (m : (ℓ : Loc nD τ sig) → Buf (Elt Ideal) ℓ)

theorem idx : ∀ t, win0_0.index t = ![0, (grid0.coords t 0).val, 0] ∧ win0_1.index t = ![0, (grid0.coords t 0).val, 0]
    ∧ win0_2.index t = ![0, (grid0.coords t 0).val, 0] ∧ win0_3.index t = ![0, (grid0.coords t 0).val, 0]
    ∧ win0_4.index t = ![0, (grid0.coords t 0).val, 0] ∧ win0_5.index t = ![0, (grid0.coords t 0).val, 0]
    ∧ win0_6.index t = ![(grid0.coords t 0).val, 0] ∧ win0_7.index t = ![(grid0.coords t 0).val, 0]
    ∧ win0_8.index t = ![(grid0.coords t 0).val, 0] ∧ win0_9.index t = ![(grid0.coords t 0).val, 0]
    ∧ win0_10.index t = ![0, 0] ∧ win0_11.index t = ![(grid0.coords t 0).val, 0] ∧ win0_12.index t = ![0, 0]
    ∧ win0_13.index t = ![(grid0.coords t 0).val, 0] ∧ win0_14.index t = ![(grid0.coords t 0).val, 0] := by decide +kernel

/-- The row of the whole array that a row of grid point `t`'s block is. -/
def row (t : Fin cfg0.N) (r : Fin 256) : Fin 4096 :=
  ⟨(grid0.coords t 0).val * 256 + r.val, by have h : (grid0.coords t 0).val < 16 := (grid0.coords t 0).isLt; omega⟩

/-- A three-dimensional argument of one batch holds a real array. -/
def Arr {n : ℕ} (v : (⟨3, ![1, 4096, n]⟩ : Shape).Idx → EReal) (f : Fin 4096 → Fin n → ℝ) : Prop :=
  ∀ i k, v (ix3 0 i k) = ((f i k : ℝ) : EReal)

/-- The kernel's arguments hold the arrays `D`. -/
structure Holds (D : Data) (c : Dev nD) : Prop where
  w : ∀ a e, (m ((c : Thread nD τ).loc main_arg0) : S1024x5632.Idx → EReal) (ix2 a e) = ((D.w a e : ℝ) : EReal)
  x : Arr (m ((c : Thread nD τ).loc main_arg1)) D.x
  g : ∀ k, (m ((c : Thread nD τ).loc main_arg2) : S1x1024.Idx → EReal) (ix2 0 k) = ((D.g k : ℝ) : EReal)
  q1 : Arr (m ((c : Thread nD τ).loc main_arg3)) D.q1
  q2 : Arr (m ((c : Thread nD τ).loc main_arg4)) D.q2
  q3 : Arr (m ((c : Thread nD τ).loc main_arg5)) D.q3
  k1 : Arr (m ((c : Thread nD τ).loc main_arg6)) D.k1
  k2 : Arr (m ((c : Thread nD τ).loc main_arg7)) D.k2
  k3 : Arr (m ((c : Thread nD τ).loc main_arg8)) D.k3
  v1 : Arr (m ((c : Thread nD τ).loc main_arg9)) D.v1
  v2 : Arr (m ((c : Thread nD τ).loc main_arg10)) D.v2
  v3 : Arr (m ((c : Thread nD τ).loc main_arg11)) D.v3
  s0 : Arr (m ((c : Thread nD τ).loc main_arg12)) D.s0
  s1 : Arr (m ((c : Thread nD τ).loc main_arg13)) D.s1
  s2 : Arr (m ((c : Thread nD τ).loc main_arg14)) D.s2
  s3 : Arr (m ((c : Thread nD τ).loc main_arg15)) D.s3
  dx2 : ∀ i k, (m ((c : Thread nD τ).loc main_arg16) : S1x4096x1024.Idx → EReal) (ix3 0 i k) = D.dx2 i k

variable {D : Data} {c : Dev nD}

theorem h1 (h : Holds m D c) (u : Fin 8) (i : Fin 4096) (l : Fin 128) :
    (V m c main_v1 : S8x4096x128.Idx → EReal) (ix3 u i l) = ((D.q1 i ⟨u.val * 128 + l.val, by omega⟩ : ℝ) : EReal) := by
  unfold V; after_reads_at; exact h.q1 i _
theorem h3 (h : Holds m D c) (u : Fin 8) (i : Fin 4096) (l : Fin 128) :
    (V m c main_v3 : S8x4096x128.Idx → EReal) (ix3 u i l) = ((D.q2 i ⟨u.val * 128 + l.val, by omega⟩ : ℝ) : EReal) := by
  unfold V; after_reads_at; exact h.q2 i _
theorem h5 (h : Holds m D c) (u : Fin 8) (i : Fin 4096) (l : Fin 128) :
    (V m c main_v5 : S8x4096x128.Idx → EReal) (ix3 u i l) = ((D.q3 i ⟨u.val * 128 + l.val, by omega⟩ : ℝ) : EReal) := by
  unfold V; after_reads_at; exact h.q3 i _

/-- Keys' columns in the lower lanes, values' in the upper. -/
def kv (f g : Fin 4096 → Fin 256 → ℝ) (u : Fin 4) (i : Fin 4096) (l : Fin 128) : ℝ :=
  if h : l.val < 64 then f i ⟨u.val * 64 + l.val, by omega⟩ else g i ⟨u.val * 64 + (l.val - 64), by omega⟩

theorem kv_ext {x : Prop} [Decidable x] {f : x → EReal} {f' : x → ℝ} {f2 : ¬x → EReal} {g2 : ¬x → ℝ}
    (h1 : ∀ h, f h = ((f' h : ℝ) : EReal)) (h2 : ∀ h, f2 h = ((g2 h : ℝ) : EReal)) :
    (if h : x then f h else f2 h) = ((if h : x then f' h else g2 h : ℝ) : EReal) := by
  by_cases h : x
  · rw [dif_pos h, dif_pos h]; exact h1 h
  · rw [dif_neg h, dif_neg h]; exact h2 h

theorem h10 (h : Holds m D c) (u : Fin 4) (i : Fin 4096) (l : Fin 128) :
    (V m c main_v10 : S4x4096x128.Idx → EReal) (ix3 u i l) = ((kv D.k1 D.v1 u i l : ℝ) : EReal) := by
  unfold V; after_reads_at; exact kv_ext (fun _ => h.k1 i _) (fun _ => h.v1 i _)
theorem h15 (h : Holds m D c) (u : Fin 4) (i : Fin 4096) (l : Fin 128) :
    (V m c main_v15 : S4x4096x128.Idx → EReal) (ix3 u i l) = ((kv D.k2 D.v2 u i l : ℝ) : EReal) := by
  unfold V; after_reads_at; exact kv_ext (fun _ => h.k2 i _) (fun _ => h.v2 i _)
theorem h20 (h : Holds m D c) (u : Fin 4) (i : Fin 4096) (l : Fin 128) :
    (V m c main_v20 : S4x4096x128.Idx → EReal) (ix3 u i l) = ((kv D.k3 D.v3 u i l : ℝ) : EReal) := by
  unfold V; after_reads_at; exact kv_ext (fun _ => h.k3 i _) (fun _ => h.v3 i _)

theorem h22 (h : Holds m D c) (i : Fin 4096) (k : Fin 1024) :
    (V m c main_v22 : S4096x1024.Idx → EReal) (ix2 i k) = ((D.s0 i k : ℝ) : EReal) := by
  unfold V; after_reads_at; exact h.s0 i k
theorem h24 (h : Holds m D c) (i : Fin 4096) (k : Fin 1024) :
    (V m c main_v24 : S4096x1024.Idx → EReal) (ix2 i k) = ((D.s1 i k : ℝ) : EReal) := by
  unfold V; after_reads_at; exact h.s1 i k
theorem h26 (h : Holds m D c) (i : Fin 4096) (k : Fin 1024) :
    (V m c main_v26 : S4096x1024.Idx → EReal) (ix2 i k) = ((D.s2 i k : ℝ) : EReal) := by
  unfold V; after_reads_at; exact h.s2 i k
theorem h28 (h : Holds m D c) (i : Fin 4096) (k : Fin 1024) :
    (V m c main_v28 : S4096x1024.Idx → EReal) (ix2 i k) = ((D.s3 i k : ℝ) : EReal) := by
  unfold V; after_reads_at; exact h.s3 i k
theorem h29 (h : Holds m D c) (a : Fin 1024) (e : Fin 5632) :
    (V m c main_v29 : S1024x5632.Idx → EReal) (ix2 a e) = ((D.w a e : ℝ) : EReal) := by
  unfold V; after_reads_at; exact h.w a e
theorem h30 (h : Holds m D c) (i : Fin 4096) (k : Fin 1024) :
    (V m c main_v30 : S4096x1024.Idx → EReal) (ix2 i k) = ((D.x i k : ℝ) : EReal) := by
  unfold V; after_reads_at; exact h.x i k
theorem h31 (h : Holds m D c) (i : Fin 4096) (k : Fin 1024) :
    (V m c main_v31 : S4096x1024.Idx → EReal) (ix2 i k) = D.dx2 i k := by
  unfold V; after_reads_at; exact h.dx2 i k
theorem hg (h : Holds m D c) (r : Fin 1) (k : Fin 1024) :
    (V m c main_arg2 : S1x1024.Idx → EReal) (ix2 r k) = ((D.g k : ℝ) : EReal) := by
  unfold V; after_reads_at; rw [Subsingleton.elim r 0]; exact h.g k

theorem i6 (h : Holds m D c) (t : Fin cfg0.N) : Rows (row t) D.s0 (iblk m c 6 t : Vec Ideal S256x1024 .bf16) := by
  intro r k; rw [← h22 m h]; unfold row; blk_ext [iblk, idx t]
theorem i7 (h : Holds m D c) (t : Fin cfg0.N) : Rows (row t) D.s1 (iblk m c 7 t : Vec Ideal S256x1024 .bf16) := by
  intro r k; rw [← h24 m h]; unfold row; blk_ext [iblk, idx t]
theorem i8 (h : Holds m D c) (t : Fin cfg0.N) : Rows (row t) D.s2 (iblk m c 8 t : Vec Ideal S256x1024 .bf16) := by
  intro r k; rw [← h26 m h]; unfold row; blk_ext [iblk, idx t]
theorem i9 (h : Holds m D c) (t : Fin cfg0.N) : Rows (row t) D.s3 (iblk m c 9 t : Vec Ideal S256x1024 .bf16) := by
  intro r k; rw [← h28 m h]; unfold row; blk_ext [iblk, idx t]
theorem i10 (h : Holds m D c) (t : Fin cfg0.N) : Proj D (iblk m c 10 t : Vec Ideal S1024x5632 .bf16) := by
  intro a e; rw [← h29 m h]; blk_ext [iblk, idx t]
theorem i11 (h : Holds m D c) (t : Fin cfg0.N) : Rows (row t) D.x (iblk m c 11 t : Vec Ideal S256x1024 .f32) := by
  intro r k; rw [← h30 m h]; unfold row; blk_ext [iblk, idx t]
theorem i12 (h : Holds m D c) (t : Fin cfg0.N) : Lanes D.g (iblk m c 12 t : Vec Ideal S1x1024 .f32) := by
  intro r k; rw [← hg m h r]; blk_ext [iblk, idx t]
theorem i13 (h : Holds m D c) (t : Fin cfg0.N) (r : Fin 256) (k : Fin 1024) :
    (iblk m c 13 t : Vec Ideal S256x1024 .f32) (ix2 r k) = D.dx2 (row t r) k := by
  rw [← h31 m h]; unfold row; blk_ext [iblk, idx t]

/-- One slab of a block. -/
theorem slab_ld {n : ℕ} {X : Vec Ideal (⟨3, ![n, 256, 128]⟩ : Shape) .f32} {f : Fin n → Fin 256 → Fin 128 → ℝ}
    (hX : ∀ u r l, (X (ix3 u r l) : EReal) = ((f u r l : ℝ) : EReal)) (u : Fin n)
    {inb : ∀ a, (![u.val, 0, 0] : Fin 3 → ℕ) a + (![1, 256, 128] : Fin 3 → ℕ) a ≤ (⟨3, ![n, 256, 128]⟩ : Shape).size a} :
    Slab (f u) (View.ld X (Rect.unit (s := ⟨3, ![n, 256, 128]⟩) ![u.val, 0, 0] ![1, 256, 128] inb)) := by
  intro r l
  refine Eq.trans (congrArg X (funext fun a => Fin.ext ?_)) (hX u r l)
  match a with
  | 0 => show u.val + 1 * 0 = u.val; omega
  | 1 => show 0 + 1 * r.val = r.val; omega
  | 2 => show 0 + 1 * l.val = l.val; omega

theorem i0 (h : Holds m D c) (t : Fin cfg0.N) (u : Fin 8) (r : Fin 256) (l : Fin 128) :
    (iblk m c 0 t : Vec Ideal S8x256x128 .f32) (ix3 u r l) = ((D.q1 (row t r) ⟨u.val * 128 + l.val, by omega⟩ : ℝ) : EReal) := by
  rw [← h1 m h]; unfold row; blk_ext [iblk, idx t]
theorem i1 (h : Holds m D c) (t : Fin cfg0.N) (u : Fin 8) (r : Fin 256) (l : Fin 128) :
    (iblk m c 1 t : Vec Ideal S8x256x128 .f32) (ix3 u r l) = ((D.q2 (row t r) ⟨u.val * 128 + l.val, by omega⟩ : ℝ) : EReal) := by
  rw [← h3 m h]; unfold row; blk_ext [iblk, idx t]
theorem i2 (h : Holds m D c) (t : Fin cfg0.N) (u : Fin 8) (r : Fin 256) (l : Fin 128) :
    (iblk m c 2 t : Vec Ideal S8x256x128 .f32) (ix3 u r l) = ((D.q3 (row t r) ⟨u.val * 128 + l.val, by omega⟩ : ℝ) : EReal) := by
  rw [← h5 m h]; unfold row; blk_ext [iblk, idx t]
theorem i3 (h : Holds m D c) (t : Fin cfg0.N) (u : Fin 4) (r : Fin 256) (l : Fin 128) :
    (iblk m c 3 t : Vec Ideal S4x256x128 .f32) (ix3 u r l) = ((kv D.k1 D.v1 u (row t r) l : ℝ) : EReal) := by
  rw [← h10 m h]; unfold row; blk_ext [iblk, idx t]
theorem i4 (h : Holds m D c) (t : Fin cfg0.N) (u : Fin 4) (r : Fin 256) (l : Fin 128) :
    (iblk m c 4 t : Vec Ideal S4x256x128 .f32) (ix3 u r l) = ((kv D.k2 D.v2 u (row t r) l : ℝ) : EReal) := by
  rw [← h15 m h]; unfold row; blk_ext [iblk, idx t]
theorem i5 (h : Holds m D c) (t : Fin cfg0.N) (u : Fin 4) (r : Fin 256) (l : Fin 128) :
    (iblk m c 5 t : Vec Ideal S4x256x128 .f32) (ix3 u r l) = ((kv D.k3 D.v3 u (row t r) l : ℝ) : EReal) := by
  rw [← h20 m h]; unfold row; blk_ext [iblk, idx t]

end Cert.Kernel5Ideal.InV
end
-- ==== Proof.Inproj.Cases.lean ====
/- What the input projection's kernel leaves at a grid point: its block's rows in the first output, the sum over the rows so far
   in the second. -/
module

public import proofs.«01_k».proof.Proof.Inproj.Blocks
public import Idealize.ShloMosaic.Lib.WritesUnit

@[expose] public section
set_option maxRecDepth 16384
noncomputable section

namespace Cert.Kernel5Ideal.InV
open Cert.Kernel5Ideal Cert.Kernel5Ideal.Gen Idealize.ShloMosaic Idealize.ShloMosaic.TcCoe Idealize.SL.Sem Cert.Common
open Cert.Inproj

section
variable (D : Data) (ρ : Fin 256 → Fin 4096)

abbrev Strip := View.Piece (Elt Ideal) S256x5632 .bf16

/-- What the scratch block holds once every strip of it is written. -/
def whole (y : S256x5632.Idx) : Elt Ideal .bf16 := ((D.dp (ρ (y 0)) (y 1) : ℝ) : EReal)

/-- A strip agrees with the projection's gradient. -/
def Fits (p : Strip) : Prop := ∀ x : p.1.shape.Idx, p.2 x = whole D ρ (p.1.emb x)

theorem strip_le {o n : ℕ} (h : o + 128 ≤ n) (a : Fin 2) : (![0, o] : Fin 2 → ℕ) a + (![256, 128] : Fin 2 → ℕ) a ≤ (![256, n] : Fin 2 → ℕ) a := by
  match a with
  | 0 => exact Nat.le_refl 256
  | 1 => exact h
theorem slab_le {u n : ℕ} (h : u + 1 ≤ n) (a : Fin 3) :
    (![u, 0, 0] : Fin 3 → ℕ) a + (![1, 256, 128] : Fin 3 → ℕ) a ≤ (![n, 256, 128] : Fin 3 → ℕ) a := by
  match a with
  | 0 => exact h
  | 1 => exact Nat.le_refl 256
  | 2 => exact Nat.le_refl 128

/-- The strip from lane `o`. -/
abbrev strip (o : ℕ) (h : o + 128 ≤ 5632) (v : Vec Ideal S256x128 .bf16) : Strip :=
  ⟨Rect.unit (s := S256x5632) ![0, o] ![256, 128] (strip_le h), v⟩

theorem fits_strip {o : ℕ} {h : o + 128 ≤ 5632} {v : Vec Ideal S256x128 .bf16}
    (hv : ∀ (r : Fin 256) (l : Fin 128), (v (ix2 r l) : EReal) = ((D.dp (ρ r) ⟨o + l.val, by omega⟩ : ℝ) : EReal)) : Fits D ρ (strip o h v) := by
  intro x
  have hx : x = (ix2 (x 0) (x 1) : S256x128.Idx) := (ix2_eta x).symm
  refine Eq.trans (congrArg v hx) ((hv (x 0) (x 1)).trans ?_)
  have e0 : (Rect.unit (s := S256x5632) ![0, o] ![256, 128] (strip_le h)).emb x 0 = x 0 := Fin.ext (by show 0 + 1 * (x 0).val = (x 0).val; omega)
  have e1 : (Rect.unit (s := S256x5632) ![0, o] ![256, 128] (strip_le h)).emb x 1 = (⟨o + (x 1).val, by have := (x 1).isLt; change (x 1).val < 128 at this; omega⟩ : Fin 5632) :=
    Fin.ext (by show o + 1 * (x 1).val = o + (x 1).val; omega)
  show _ = ((D.dp (ρ _) _ : ℝ) : EReal)
  rw [e0, e1]

/-- Eight strips of a block of 1024 lanes, the last first. -/
def gate (X : Vec Ideal S256x1024 .bf16) (o : ℕ) (h : o + 1024 ≤ 5632) : List Strip :=
  let p := fun (j : ℕ) (hj : j + 128 ≤ 1024) => strip (o + j) (by omega) (k0_pay24 (F := Ideal) (View.ld X (Rect.unit (s := S256x1024) ![0, j] ![256, 128] (strip_le hj))))
  [p 896 (by omega), p 768 (by omega), p 640 (by omega), p 512 (by omega), p 384 (by omega), p 256 (by omega), p 128 (by omega), p 0 (by omega)]

theorem fits_gate {X : Vec Ideal S256x1024 .bf16} {f : Fin 4096 → Fin 1024 → ℝ} (hX : Rows ρ f X) {o : ℕ} {h : o + 1024 ≤ 5632}
    (hd : ∀ (i : Fin 4096) (e : Fin 5632) (a : Fin 1024), e.val = o + a.val → D.dp i e = f i a) : ∀ p ∈ gate X o h, Fits D ρ p := by
  have key : ∀ (j : ℕ) (hj : j + 128 ≤ 1024), Fits D ρ (strip (o + j) (by omega) (k0_pay24 (F := Ideal)
      (View.ld X (Rect.unit (s := S256x1024) ![0, j] ![256, 128] (strip_le hj))))) := by
    intro j hj
    refine fits_strip D ρ fun r l => ?_
    rw [hd _ _ ⟨j + l.val, by omega⟩ (by simp only; omega), ← hX r]
    unfold k0_pay24
    pointwise
  unfold gate
  simp only [List.forall_mem_cons, List.not_mem_nil, false_implies, implies_true]
  exact ⟨key _ (by omega), key _ (by omega), key _ (by omega), key _ (by omega), key _ (by omega), key _ (by omega), key _ (by omega),
    key _ (by omega), trivial⟩

end

variable (m : (ℓ : Loc nD τ sig) → Buf (Elt Ideal) ℓ)
variable {D : Data} {c : Dev nD}

/-- A slab of a block. -/
abbrev slab {n : ℕ} (X : Vec Ideal (⟨3, ![n, 256, 128]⟩ : Shape) .f32) (u : ℕ) (h : u + 1 ≤ n) : Vec Ideal S1x256x128 .f32 :=
  View.ld X (Rect.unit (s := ⟨3, ![n, 256, 128]⟩) ![u, 0, 0] ![1, 256, 128] (slab_le h))

abbrev qStrip (c : Dev nD) (t : Fin cfg0.N) (u : ℕ) (h : u + 1 ≤ 8) : Strip :=
  strip (u * 128) (by omega) (k0_pay4 (F := Ideal) (slab (iblk m c 0 t) u h) (slab (iblk m c 1 t) u h) (slab (iblk m c 2 t) u h))
abbrev kStrip (c : Dev nD) (t : Fin cfg0.N) (s : ℕ) (h : s + 1 ≤ 2) : Strip :=
  strip (1024 + s * 128) (by omega) (k0_pay15 (F := Ideal)
    (k0_pay14 (F := Ideal) (slab (iblk m c 3 t) (2 * s) (by omega)) (slab (iblk m c 4 t) (2 * s) (by omega)) (slab (iblk m c 5 t) (2 * s) (by omega)))
    (slab (iblk m c 3 t) (2 * s + 1) (by omega)) (slab (iblk m c 4 t) (2 * s + 1) (by omega)) (slab (iblk m c 5 t) (2 * s + 1) (by omega)))
abbrev vStrip (c : Dev nD) (t : Fin cfg0.N) (s : ℕ) (h : s + 1 ≤ 2) : Strip :=
  strip (1280 + s * 128) (by omega) (k0_pay20 (F := Ideal) (k0_pay19 (F := Ideal)
    (slab (iblk m c 3 t) (2 * s) (by omega)) (slab (iblk m c 4 t) (2 * s) (by omega)) (slab (iblk m c 5 t) (2 * s) (by omega))
    (slab (iblk m c 3 t) (2 * s + 1) (by omega)) (slab (iblk m c 4 t) (2 * s + 1) (by omega)) (slab (iblk m c 5 t) (2 * s + 1) (by omega))))

/-- Every strip a point writes, the last first. -/
def strips (c : Dev nD) (t : Fin cfg0.N) : List Strip :=
  gate (iblk m c 9 t) 4608 (by omega) ++ (gate (iblk m c 8 t) 3584 (by omega) ++ (gate (iblk m c 7 t) 2560 (by omega) ++ (gate (iblk m c 6 t) 1536 (by omega) ++
    [vStrip m c t 1 (by omega), vStrip m c t 0 (by omega), kStrip m c t 1 (by omega), kStrip m c t 0 (by omega),
      qStrip m c t 7 (by omega), qStrip m c t 6 (by omega), qStrip m c t 5 (by omega), qStrip m c t 4 (by omega),
      qStrip m c t 3 (by omega), qStrip m c t 2 (by omega), qStrip m c t 1 (by omega), qStrip m c t 0 (by omega)])))

theorem kv_lo {f g : Fin 4096 → Fin 256 → ℝ} {u : Fin 4} {i : Fin 4096} {l : Fin 128} (a : Fin 256) (h : l.val < 64)
    (ha : a.val = u.val * 64 + l.val) : kv f g u i l = f i a := by
  unfold kv; rw [dif_pos h]; exact congrArg _ (Fin.ext ha.symm)
theorem kv_hi {f g : Fin 4096 → Fin 256 → ℝ} {u : Fin 4} {i : Fin 4096} {l : Fin 128} (a : Fin 256) (h : ¬l.val < 64)
    (ha : a.val = u.val * 64 + (l.val - 64)) : kv f g u i l = g i a := by
  unfold kv; rw [dif_neg h]; exact congrArg _ (Fin.ext ha.symm)

theorem fits_q (h : Holds m D c) (t : Fin cfg0.N) (u : ℕ) (hu : u + 1 ≤ 8) : Fits D (row t) (qStrip m c t u hu) := by
  refine fits_strip D (row t) fun r l => ?_
  refine (q_pay (slab_ld (i0 m h t) ⟨u, hu⟩) (slab_ld (i1 m h t) ⟨u, hu⟩) (slab_ld (i2 m h t) ⟨u, hu⟩) r l).trans ?_
  rw [Data.dp_q (⟨u * 128 + l.val, by omega⟩ : Fin 1024) rfl]
  rfl

theorem fits_k (h : Holds m D c) (t : Fin cfg0.N) (s : ℕ) (hs : s + 1 ≤ 2) : Fits D (row t) (kStrip m c t s hs) := by
  refine fits_strip D (row t) fun r l => ?_
  have l0 : 2 * s < 4 := by omega
  have l1 : 2 * s + 1 < 4 := by omega
  refine (k_pay (slab_ld (i3 m h t) ⟨2 * s, l0⟩) (slab_ld (i4 m h t) ⟨2 * s, l0⟩) (slab_ld (i5 m h t) ⟨2 * s, l0⟩)
    (slab_ld (i3 m h t) ⟨2 * s + 1, l1⟩) (slab_ld (i4 m h t) ⟨2 * s + 1, l1⟩) (slab_ld (i5 m h t) ⟨2 * s + 1, l1⟩) r l).trans ?_
  refine congrArg _ ?_
  rw [Data.dp_k (⟨s * 128 + l.val, by omega⟩ : Fin 256) (by simp only; omega)]
  unfold Data.k
  by_cases hl : l.val < 64
  · rw [dif_pos hl]
    have ha : s * 128 + l.val = 2 * s * 64 + l.val := by omega
    exact congrArg₂ _ (congrArg₂ _ (kv_lo _ hl ha) (kv_lo _ hl ha)) (kv_lo _ hl ha)
  · rw [dif_neg hl]
    have hl' : l.val - 64 < 64 := by omega
    have ha : s * 128 + l.val = (2 * s + 1) * 64 + (l.val - 64) := by omega
    exact congrArg₂ _ (congrArg₂ _ (kv_lo _ hl' ha) (kv_lo _ hl' ha)) (kv_lo _ hl' ha)

theorem fits_v (h : Holds m D c) (t : Fin cfg0.N) (s : ℕ) (hs : s + 1 ≤ 2) : Fits D (row t) (vStrip m c t s hs) := by
  refine fits_strip D (row t) fun r l => ?_
  have l0 : 2 * s < 4 := by omega
  have l1 : 2 * s + 1 < 4 := by omega
  refine (v_pay (slab_ld (i3 m h t) ⟨2 * s, l0⟩) (slab_ld (i4 m h t) ⟨2 * s, l0⟩) (slab_ld (i5 m h t) ⟨2 * s, l0⟩)
    (slab_ld (i3 m h t) ⟨2 * s + 1, l1⟩) (slab_ld (i4 m h t) ⟨2 * s + 1, l1⟩) (slab_ld (i5 m h t) ⟨2 * s + 1, l1⟩) r l).trans ?_
  refine congrArg _ ?_
  rw [Data.dp_v (⟨s * 128 + l.val, by omega⟩ : Fin 256) (by simp only; omega)]
  unfold Data.v
  by_cases hl : l.val < 64
  · rw [dif_pos hl]
    have hl' : ¬l.val + 64 < 64 := by omega
    have ha : s * 128 + l.val = 2 * s * 64 + (l.val + 64 - 64) := by omega
    exact congrArg₂ _ (congrArg₂ _ (kv_hi _ hl' ha) (kv_hi _ hl' ha)) (kv_hi _ hl' ha)
  · rw [dif_neg hl]
    have ha : s * 128 + l.val = (2 * s + 1) * 64 + (l.val - 64) := by omega
    exact congrArg₂ _ (congrArg₂ _ (kv_hi _ hl ha) (kv_hi _ hl ha)) (kv_hi _ hl ha)

theorem fits (h : Holds m D c) (t : Fin cfg0.N) : ∀ p ∈ strips m c t, Fits D (row t) p := by
  unfold strips
  refine List.forall_mem_append.2 ⟨fits_gate D _ (i9 m h t) fun i e a => Data.dp_s3 a, ?_⟩
  refine List.forall_mem_append.2 ⟨fits_gate D _ (i8 m h t) fun i e a => Data.dp_s2 a, ?_⟩
  refine List.forall_mem_append.2 ⟨fits_gate D _ (i7 m h t) fun i e a => Data.dp_s1 a, ?_⟩
  refine List.forall_mem_append.2 ⟨fits_gate D _ (i6 m h t) fun i e a => Data.dp_s0 a, ?_⟩
  simp only [List.forall_mem_cons, List.not_mem_nil, false_implies, implies_true]
  exact ⟨fits_v m h t _ _, fits_v m h t _ _, fits_k m h t _ _, fits_k m h t _ _, fits_q m h t _ _, fits_q m h t _ _, fits_q m h t _ _, fits_q m h t _ _,
    fits_q m h t _ _, fits_q m h t _ _, fits_q m h t _ _, fits_q m h t _ _, trivial⟩

theorem strips_cover (t : Fin cfg0.N) (y : S256x5632.Idx) : ∃ p ∈ strips m c t, y ∈ p.1.set :=
  View.cover_of_tiledL (strips m c t) ![256, 128] (by sl_kernel_rfl) y

/-- The scratch block read back: the projection's gradient. -/
theorem joined (h : Holds m D c) (t : Fin cfg0.N) {inb : ∀ a, (![0, 0] : Fin 2 → ℕ) a + (![256, 5632] : Fin 2 → ℕ) a ≤ S256x5632.size a}
    {κ : Kind} {sp : Space} (v : View sig κ sp S256x5632 .bf16) :
    Joined D (row t) (v.readCov (strips m c t) (Rect.unit (s := S256x5632) ![0, 0] ![256, 5632] inb).toLoadRect) := by
  intro r e
  rw [View.readCov_eq_canon']
  refine (congrArg (View.canon (strips m c t)) (funext fun a => Fin.ext ?_)).trans
    (View.canon_apply_of_pieces (S := S256x5632) (e := .bf16) (Val := Elt Ideal) (whole D (row t)) (strips m c t)
      (fun p hp => fits m h t p hp) (ix2 r e) (strips_cover m t _))
  match a with
  | 0 => show 0 + 1 * r.val = r.val; omega
  | 1 => show 0 + 1 * e.val = e.val; omega

theorem rows_out (h : Holds m D c) (t : Fin cfg0.N) (r : Fin 256) (k : Fin 1024) :
    (outsAt0 m c t.val t.isLt).1 (ix2 r k) = D.dx (row t r) k := by
  have g := fun r k => dx_at D (row t) (joined m h t (inb := inb_S256x5632_S256x5632_0_0) (View.whole cc0_scratch0)) (i10 m h t) (i11 m h t) (i12 m h t) (i13 m h t) r k
  by_cases h0 : t.val % 16 = 0
  · rw [outsAt0_A m c t h0]
    frame_out
    exact g r k
  · rw [outsAt0_B m c t h0]
    frame_out
    exact g r k

section
variable {e : EltTy} {inb : ∀ a, (![0, 0] : Fin 2 → ℕ) a + (![1, 1024] : Fin 2 → ℕ) a ≤ S8x1024.size a} {κ : Kind} {sp : Space}
variable (v : View sig κ sp S8x1024 e) (w : S1x1024.Idx → Elt Ideal e) (L : List (View.Piece (Elt Ideal) S8x1024 e))

theorem first_emb (k : Fin 1024) : (Rect.unit (s := S8x1024) ![0, 0] ![1, 1024] inb).emb (ix2 0 k : S1x1024.Idx) = ix2 0 k := by
  funext a
  apply Fin.ext
  match a with
  | 0 => rfl
  | 1 => show 0 + 1 * k.val = k.val; omega

/-- The first of the eight rows, written last: read there, and read elsewhere. -/
theorem first_hit (k : Fin 1024) :
    View.canon ((⟨Rect.unit ![0, 0] ![1, 1024] inb, w⟩ : View.Piece (Elt Ideal) S8x1024 e) :: L) (ix2 0 k) = w (ix2 0 k) := by
  rw [← first_emb (inb := inb) k, View.canon_cons_emb]
theorem first_miss (r : Fin 8) (k : Fin 1024) (h : r ≠ 0) :
    View.canon ((⟨Rect.unit ![0, 0] ![1, 1024] inb, w⟩ : View.Piece (Elt Ideal) S8x1024 e) :: L) (ix2 r k) = View.canon L (ix2 r k) := by
  refine View.canon_cons_of_not_mem _ L fun hm => h (Fin.ext ?_)
  rw [Rect.mem_set_unit] at hm
  have := hm 0
  change 0 ≤ r.val ∧ r.val < 0 + 1 at this
  show r.val = 0
  omega
theorem first_back (k : Fin 1024) :
    v.readCov L (Rect.unit (s := S8x1024) ![0, 0] ![1, 1024] inb).toLoadRect (ix2 0 k) = View.canon L (ix2 0 k) := by
  rw [View.readCov_eq_canon']
  exact congrArg (View.canon L) (first_emb (inb := inb) k)
theorem first_over (f : v.ty.Contents (Elt Ideal)) (k : Fin 1024) :
    v.read (Elt Ideal) (v.writes (Elt Ideal) f ((⟨Rect.unit ![0, 0] ![1, 1024] inb, w⟩ : View.Piece (Elt Ideal) S8x1024 e) :: L)) (ix2 0 k)
      = w (ix2 0 k) :=
  View.read_writes_cons_rows_of_mem v f inb w L (ix2 0 k) (ix2 0 k : S1x1024.Idx) rfl rfl rfl
theorem first_under (f : v.ty.Contents (Elt Ideal)) (r : Fin 8) (k : Fin 1024) (h : r ≠ 0) :
    v.read (Elt Ideal) (v.writes (Elt Ideal) f ((⟨Rect.unit ![0, 0] ![1, 1024] inb, w⟩ : View.Piece (Elt Ideal) S8x1024 e) :: L)) (ix2 r k)
      = v.read (Elt Ideal) (v.writes (Elt Ideal) f L) (ix2 r k) :=
  View.read_writes_cons_rows_of_not_mem v f inb w L (ix2 r k) rfl rfl (by
    have : r.val ≠ 0 := fun h' => h (Fin.ext h')
    show r.val < 0 ∨ 0 + 1 ≤ r.val; omega)
end

/-- The sum cleared at the first point. -/
theorem cleared {inb : ∀ a, (![0, 0] : Fin 2 → ℕ) a + (![8, 1024] : Fin 2 → ℕ) a ≤ S8x1024.size a} (a : Fin 8) (k : Fin 1024) :
    (View.canon [(⟨Rect.unit ![0, 0] ![8, 1024] inb, k0_pay3 (F := Ideal)⟩ : View.Piece (Elt Ideal) S8x1024 .f32)] (ix2 a k) : EReal)
      = ((0 : ℝ) : EReal) := by
  have hy : (Rect.unit (s := S8x1024) ![0, 0] ![8, 1024] inb).emb (ix2 a k : S8x1024.Idx) = ix2 a k := by
    funext x
    apply Fin.ext
    match x with
    | 0 => show 0 + 1 * a.val = a.val; omega
    | 1 => show 0 + 1 * k.val = k.val; omega
  refine ((congrArg _ hy.symm).trans (View.canon_cons_emb (Rect.unit (s := S8x1024) ![0, 0] ![8, 1024] inb) _ [] (ix2 a k : S8x1024.Idx))).trans ?_
  unfold k0_pay3
  pointwise
  rfl

theorem st_zero (t : Fin cfg0.N) (k : Fin 1024) : ∑ r, D.st (row t r) 0 k = ∑ r, D.dh (row t r) k * D.xn (row t r) k :=
  Finset.sum_congr rfl fun r _ => if_pos rfl
theorem st_rest (t : Fin cfg0.N) (a : Fin 8) (k : Fin 1024) (ha : a ≠ 0) : ∑ r, D.st (row t r) a k = 0 :=
  Finset.sum_eq_zero fun r _ => if_neg ha

theorem acc_A (h : Holds m D c) (t : Fin cfg0.N) (h0 : t.val % 16 = 0) (a : Fin 8) (k : Fin 1024) :
    ((outsAt0 m c t.val t.isLt).2 : S8x1024.Idx → EReal) (ix2 a k) = ((∑ r, D.st (row t r) a k : ℝ) : EReal) := by
  have g := fun s => st_at D (row t) (joined m h t (inb := inb_S256x5632_S256x5632_0_0) (View.whole cc0_scratch0)) (i10 m h t) (i11 m h t) s k
  rw [outsAt0_A m c t h0]
  frame_out
  by_cases ha : a = 0
  · subst ha
    rw [st_zero]
    refine (first_hit _ _ k).trans ((g _).trans ?_)
    refine (congrArg (· + _) ((first_back _ _ k).trans (cleared 0 k))).trans ?_
    rw [← EReal.coe_add, zero_add]
  · rw [st_rest t a k ha]
    exact (first_miss _ _ a k ha).trans (cleared a k)

theorem acc_B (h : Holds m D c) (t : Fin cfg0.N) (h0 : ¬t.val % 16 = 0) (a : Fin 8) (k : Fin 1024) :
    ((outsAt0 m c t.val t.isLt).2 : S8x1024.Idx → EReal) (ix2 a k)
      = ((outsAt0 m c (t.val - 1) (by omega)).2 : S8x1024.Idx → EReal) (ix2 a k) + ((∑ r, D.st (row t r) a k : ℝ) : EReal) := by
  have g := fun s => st_at D (row t) (joined m h t (inb := inb_S256x5632_S256x5632_0_0) (View.whole cc0_scratch0)) (i10 m h t) (i11 m h t) s k
  rw [outsAt0_B m c t h0]
  frame_out
  by_cases ha : a = 0
  · subst ha
    rw [st_zero]
    refine (first_over _ _ _ _ k).trans ((g _).trans ?_)
    exact congrArg (· + _) (congrArg _ (first_emb k))
  · rw [st_rest t a k ha]
    refine (first_under _ _ _ _ a k ha).trans ?_
    exact (congrFun (Memref.IsWhole.read_unread _ _) _).trans (add_zero _).symm

end Cert.Kernel5Ideal.InV
end
-- ==== Proof.Inproj.Arrays.lean ====
/- The two arrays the kernel leaves: one holds every row, the other the sums over all rows. -/
module

public import proofs.«01_k».proof.Proof.Inproj.Cases

@[expose] public section
set_option maxRecDepth 16384
noncomputable section

namespace Cert.Kernel5Ideal.InV
open Cert.Kernel5Ideal Cert.Kernel5Ideal.Gen Idealize.ShloMosaic Idealize.ShloMosaic.TcCoe Idealize.SL.Sem Cert.Common
open Cert.Inproj
open Idealize.ShloMosaic.Pipeline (Dat)

variable (m : (ℓ : Loc nD τ sig) → Buf (Elt Ideal) ℓ)
variable (D : Data) {c : Dev nD}

def RowsOf : S4096x1024.Idx → EReal := fun j => D.dx (j 0) (j 1)
def StOf : S8x1024.Idx → EReal := fun j => ((∑ i, D.st i (j 0) (j 1) : ℝ) : EReal)

variable {D}

theorem f14 (h : Holds m D c) : (dats m 0 c).arrAt 14 cfg0.N = RowsOf D := by
  refine (dats m 0 c).arrAt_eq_of_covers 14 _ (by decide +kernel) fun t hf y => ?_
  have e0 : (((cfg0.win 14).blk t).view.emb y) 0 = row t (y 0) := by
    apply Fin.ext; blk_simp [idx t]; simp only [row]
  have e1 : (((cfg0.win 14).blk t).view.emb y) 1 = y 1 := by
    apply Fin.ext; blk_simp [idx t]
  unfold RowsOf
  simp only [e0, e1]
  blk_simp
  rw [after0_14]
  exact (congrArg _ (ix2_eta (y : _)).symm).trans (rows_out m h t (y 0) (y 1))

theorem coord0 : ∀ t : Fin cfg0.N, (grid0.coords t 0).val = t.val := by decide +kernel

theorem idx' : ∀ t, win0_15.index t = ![0, 0] := by decide +kernel

/-- The sixteen points' rows are all the rows. -/
theorem sum_points (f : Fin 4096 → ℝ) :
    ∑ s ∈ Finset.range 16, (if hs : s < cfg0.N then ∑ r, f (row ⟨s, hs⟩ r) else 0) = ∑ i, f i := by
  rw [Finset.sum_range, ← Fin.sum_mul_add_fin (L := 4096) 16 256 f]
  refine Finset.sum_congr rfl fun s _ => ?_
  rw [dif_pos (lt_of_lt_of_eq s.isLt N_0.symm)]
  refine Finset.sum_congr rfl fun r _ => congrArg f (Fin.ext ?_)
  exact congrArg (· * 256 + r.val) (coord0 _)

theorem st_upto (h : Holds m D c) (a : Fin 8) (k : Fin 1024) : ∀ n (hn : n < cfg0.N),
    ((outsAt0 m c n hn).2 : S8x1024.Idx → EReal) (ix2 a k)
      = ((∑ s ∈ Finset.range (n + 1), (if hs : s < cfg0.N then ∑ r, D.st (row ⟨s, hs⟩ r) a k else 0) : ℝ) : EReal)
  | 0, hn => by rw [acc_A m h ⟨0, hn⟩ rfl]; simp [hn]
  | n + 1, hn => by
    have hN : cfg0.N = 16 := N_0
    rw [Finset.sum_range_succ, dif_pos hn, EReal.coe_add, ← st_upto h a k n (by omega)]
    exact acc_B m h ⟨n + 1, hn⟩ (by show ¬(n + 1) % 16 = 0; omega) a k

theorem last15 (h : Holds m D c) (t : Fin cfg0.N) (ht : t.val = 15) (a : Fin 8) (k : Fin 1024) :
    ((outsAt0 m c t.val t.isLt).2 : S8x1024.Idx → EReal) (ix2 a k) = StOf D (ix2 a k) := by
  rw [st_upto m h, ht]
  exact congrArg _ (sum_points fun i => D.st i a k)

theorem f15 (h : Holds m D c) : (dats m 0 c).arrAt 15 cfg0.N = StOf D := by
  refine (dats m 0 c).arrAt_eq_of_covers 15 _ (by decide +kernel) fun t hf y => ?_
  have ht : t.val = 15 := (by decide +kernel : ∀ t : Fin cfg0.N, (cfg0.win 15).flush t = true → t.val = 15) t hf
  have e0 : (((cfg0.win 15).blk t).view.emb y) 0 = y 0 := by
    apply Fin.ext; blk_simp [idx' t]
  have e1 : (((cfg0.win 15).blk t).view.emb y) 1 = y 1 := by
    apply Fin.ext; blk_simp [idx' t]
  unfold StOf
  simp only [e0, e1]
  blk_simp
  rw [after0_15]
  exact (congrArg _ (ix2_eta (y : _)).symm).trans (last15 m h t ht (y 0) (y 1))

end Cert.Kernel5Ideal.InV
end
-- ==== Proof.Inproj.Reference.lean ====
/- What the derivative of the input projection and its norm is at an index: the reference's two arrays hold the same numbers as
   the kernel's. -/
module

public import proofs.«01_k».proof.Proof.Gen.Reference5Ideal.Run
public import proofs.«01_k».proof.Proof.Inproj.Spec
public import Idealize.ShloMosaic.Lib.Pipeline.ValueKit
public import Idealize.ShloMosaic.Lib.Pointwise

@[expose] public section
set_option maxRecDepth 16384
noncomputable section

namespace Cert.Reference5Ideal.InR

open Cert.Reference5Ideal Cert.Reference5Ideal.Gen Cert.Reference5Ideal.Value Cert.Common Cert.Inproj
open Cert.Outproj (mean eps6 eps6_pos ofBits_eps6 ofBits_1024 ofBits_zero ofBits_neg_half div_1024 rsqrt_row rinv_pos_arg)
open Idealize.ShloMosaic Idealize.ShloMosaic.TcCoe Idealize.SL.Sem Idealize.ShloMosaic.StableHlo

variable (m : (ℓ : Loc nD τ sig) → Buf (Elt Ideal) ℓ) (c : Dev nD)

/-- A three-dimensional array of one batch holds a real array. -/
def Arr {n : ℕ} (v : (⟨3, ![1, 4096, n]⟩ : Shape).Idx → EReal) (f : Fin 4096 → Fin n → ℝ) : Prop :=
  ∀ i k, v (ix3 0 i k) = ((f i k : ℝ) : EReal)
/-- The same for one number a row. -/
def Arr1 (v : S1x4096x1.Idx → EReal) (f : Fin 4096 → ℝ) : Prop := ∀ i, v (ix3 0 i 0) = ((f i : ℝ) : EReal)

/-- The reference's arguments hold the arrays `D`. -/
structure Holds (D : Data) : Prop where
  w : ∀ a e, (m ((c.tc : Thread nD τ).loc main_arg0) : S1024x5632.Idx → EReal) (ix2 a e) = ((D.w a e : ℝ) : EReal)
  x : Arr (m ((c.tc : Thread nD τ).loc main_arg1)) D.x
  g : ∀ k, (m ((c.tc : Thread nD τ).loc main_arg2) : S1x1024.Idx → EReal) (ix2 0 k) = ((D.g k : ℝ) : EReal)
  q1 : Arr (m ((c.tc : Thread nD τ).loc main_arg3)) D.q1
  q2 : Arr (m ((c.tc : Thread nD τ).loc main_arg4)) D.q2
  q3 : Arr (m ((c.tc : Thread nD τ).loc main_arg5)) D.q3
  k1 : Arr (m ((c.tc : Thread nD τ).loc main_arg6)) D.k1
  k2 : Arr (m ((c.tc : Thread nD τ).loc main_arg7)) D.k2
  k3 : Arr (m ((c.tc : Thread nD τ).loc main_arg8)) D.k3
  v1 : Arr (m ((c.tc : Thread nD τ).loc main_arg9)) D.v1
  v2 : Arr (m ((c.tc : Thread nD τ).loc main_arg10)) D.v2
  v3 : Arr (m ((c.tc : Thread nD τ).loc main_arg11)) D.v3
  s0 : Arr (m ((c.tc : Thread nD τ).loc main_arg12)) D.s0
  s1 : Arr (m ((c.tc : Thread nD τ).loc main_arg13)) D.s1
  s2 : Arr (m ((c.tc : Thread nD τ).loc main_arg14)) D.s2
  s3 : Arr (m ((c.tc : Thread nD τ).loc main_arg15)) D.s3
  dx2 : ∀ i k, (m ((c.tc : Thread nD τ).loc main_arg16) : S1x4096x1024.Idx → EReal) (ix3 0 i k) = D.dx2 i k

/-- The mean square of a row with its constant, and its reciprocal root. -/
def tms : FVec Ideal S1x4096x1 .f32 :=
  addf (Host.divf (broadcastInDim S1x4096x1 ![0, 1] bcast_S1x4096_S1x4096x1_0_1
      (Host.reduceAdd (mulf (m ((c.tc : Thread nD τ).loc main_arg1)) (m ((c.tc : Thread nD τ).loc main_arg1)))
        (constant S_ .f32 0x00000000#32) reducesTo_S1x4096x1024_S1x4096_d2 h_S_))
    (broadcastInDim S1x4096x1 ![] bcast_S_S1x4096x1 (constant S_ .f32 0x44800000#32)))
  (broadcastInDim S1x4096x1 ![] bcast_S_S1x4096x1 (constant S_ .f32 0x358637BD#32))
def tr : FVec Ideal S1x4096x1 .f32 := Host.rsqrt (tms m c)

/-- The gradient of the projection's output. -/
def tdp : FVec Ideal S1x4096x5632 .f32 :=
  concatenate S1x4096x5632 2 [
    ⟨S1x4096x1024, mulf (addf (addf (m ((c.tc : Thread nD τ).loc main_arg3)) (m ((c.tc : Thread nD τ).loc main_arg4)))
      (m ((c.tc : Thread nD τ).loc main_arg5))) (broadcastInDim S1x4096x1024 ![] bcast_S_S1x4096x1024 (constant S_ .f32 0x3E000000#32))⟩,
    ⟨S1x4096x256, addf (addf (m ((c.tc : Thread nD τ).loc main_arg6)) (m ((c.tc : Thread nD τ).loc main_arg7))) (m ((c.tc : Thread nD τ).loc main_arg8))⟩,
    ⟨S1x4096x256, addf (addf (m ((c.tc : Thread nD τ).loc main_arg9)) (m ((c.tc : Thread nD τ).loc main_arg10))) (m ((c.tc : Thread nD τ).loc main_arg11))⟩,
    ⟨S1x4096x1024, m ((c.tc : Thread nD τ).loc main_arg12)⟩, ⟨S1x4096x1024, m ((c.tc : Thread nD τ).loc main_arg13)⟩,
    ⟨S1x4096x1024, m ((c.tc : Thread nD τ).loc main_arg14)⟩, ⟨S1x4096x1024, m ((c.tc : Thread nD τ).loc main_arg15)⟩]
    concatenates_S1x4096x1024_S1x4096x256_S1x4096x256_S1x4096x1024_S1x4096x1024_S1x4096x1024_S1x4096x1024_S1x4096x5632_d2

def tdh : FVec Ideal S1x4096x1024 .f32 :=
  Host.dotGeneral (φ₂ := .f32) dot_S1x4096x5632_S1024x5632_S1x4096x1024_2_1_01_0_n_n none (tdp m c) (m ((c.tc : Thread nD τ).loc main_arg0))
def tdxn : FVec Ideal S1x4096x1024 .f32 :=
  mulf (tdh m c) (broadcastInDim S1x4096x1024 ![0, 1, 2] bcast_S1x1x1024_S1x4096x1024_0_1_2
    (broadcastInDim S1x1x1024 ![2] bcast_S1024_S1x1x1024_2 (shapeCast S1024 (m ((c.tc : Thread nD τ).loc main_arg2)) shapeCasts_S1x1024_S1024)))

/-- What the mean square's gradient gives every entry of a row. -/
def tshare : FVec Ideal S1x4096x1024 .f32 :=
  broadcastInDim S1x4096x1024 ![0, 1] bcast_S1x4096_S1x4096x1024_0_1 (broadcastInDim S1x4096 ![1] bcast_S4096_S1x4096_1
    (Host.reduceAdd (Host.divf (mulf
        (shapeCast S1x4096x1 (Host.reduceAdd (mulf (m ((c.tc : Thread nD τ).loc main_arg1)) (tdxn m c)) (constant S_ .f32 0x00000000#32)
          reducesTo_S1x4096x1024_S1x4096_d2 h_S_) shapeCasts_S1x4096_S1x4096x1)
        (mulf (broadcastInDim S1x4096x1 ![] bcast_S_S1x4096x1 (constant S_ .f32 0xBF000000#32)) (Host.divf (tr m c) (tms m c))))
      (broadcastInDim S1x4096x1 ![] bcast_S_S1x4096x1 (constant S_ .f32 0x44800000#32))) (constant S_ .f32 0x00000000#32) reducesTo_S1x4096x1_S4096_d0_2 h_S_))

def tdx3 : FVec Ideal S1x4096x1024 .f32 :=
  addf (addf (addf (m ((c.tc : Thread nD τ).loc main_arg16))
      (mulf (tdxn m c) (broadcastInDim S1x4096x1024 ![0, 1, 2] bcast_S1x4096x1_S1x4096x1024_0_1_2 (tr m c))))
    (mulf (m ((c.tc : Thread nD τ).loc main_arg1)) (tshare m c))) (mulf (tshare m c) (m ((c.tc : Thread nD τ).loc main_arg1)))
def tdx : FVec Ideal S4096x1024 .f32 := shapeCast S4096x1024 (tdx3 m c) shapeCasts_S1x4096x1024_S4096x1024

/-- The norm vector's gradient and seven rows of zeros. -/
def tst : FVec Ideal S8x1024 .f32 :=
  concatenate S8x1024 0 [⟨S1x1024, broadcastInDim S1x1024 ![1] bcast_S1024_S1x1024_1 (Host.reduceAdd
      (shapeCast S1x1x1024 (Host.reduceAdd (mulf (mulf (m ((c.tc : Thread nD τ).loc main_arg1))
          (broadcastInDim S1x4096x1024 ![0, 1, 2] bcast_S1x4096x1_S1x4096x1024_0_1_2 (tr m c))) (tdh m c))
        (constant S_ .f32 0x00000000#32) reducesTo_S1x4096x1024_S1x1024_d1 h_S_) shapeCasts_S1x1024_S1x1x1024)
      (constant S_ .f32 0x00000000#32) reducesTo_S1x1x1024_S1024_d0_1 h_S_)⟩,
    ⟨S7x1024, broadcastInDim S7x1024 ![] bcast_S_S7x1024 (constant S_ .f32 0x00000000#32)⟩] concatenates_S1x1024_S7x1024_S8x1024_d0

theorem dx_eq : res_main_v60 (F := Ideal) m c = tdx m c := rfl

variable {m c} {D : Data}

theorem hms (h : Holds m c D) : Arr1 (tms m c) (fun i => mean (fun k => D.x i k * D.x i k) + eps6) := by
  intro i
  have hx := h.x
  unfold tms
  generalize (m ((c.tc : Thread nD τ).loc main_arg1)) = x at hx
  pointwise
  simp only [hx i _, ofBits_zero, ofBits_1024, ofBits_eps6]
  simp only [← EReal.coe_mul, ← coe_sum, ← EReal.coe_add, div_1024]
  rfl

theorem hr (h : Holds m c D) : Arr1 (tr m c) D.r := by
  intro i
  have h1 := hms h
  unfold tr
  generalize tms m c = v at h1
  pointwise
  rw [h1 i]
  exact rsqrt_row _ eps6_pos _

theorem hdp (h : Holds m c D) : Arr (tdp m c) D.dp := by
  intro i e
  unfold tdp
  pointwise
  by_cases c0 : e.val < 1024
  · rw [dif_pos c0, h.q1 i, h.q2 i, h.q3 i, ofBits_eighth, Data.dp_q ⟨e.val, c0⟩ rfl, ← EReal.coe_add, ← EReal.coe_add, ← EReal.coe_mul]
    rfl
  rw [dif_neg c0]
  by_cases c1 : e.val - 1024 < 256
  · rw [dif_pos c1, h.k1 i, h.k2 i, h.k3 i, Data.dp_k ⟨e.val - 1024, c1⟩ (by simp only; omega), ← EReal.coe_add, ← EReal.coe_add]
    rfl
  rw [dif_neg c1]
  by_cases c2 : e.val - 1024 - 256 < 256
  · rw [dif_pos c2, h.v1 i, h.v2 i, h.v3 i, Data.dp_v ⟨e.val - 1024 - 256, c2⟩ (by simp only; omega), ← EReal.coe_add, ← EReal.coe_add]
    rfl
  rw [dif_neg c2]
  by_cases c3 : e.val - 1024 - 256 - 256 < 1024
  · rw [dif_pos c3, h.s0 i, Data.dp_s0 ⟨e.val - 1024 - 256 - 256, c3⟩ (by simp only; omega)]
  rw [dif_neg c3]
  by_cases c4 : e.val - 1024 - 256 - 256 - 1024 < 1024
  · rw [dif_pos c4, h.s1 i, Data.dp_s1 ⟨e.val - 1024 - 256 - 256 - 1024, c4⟩ (by simp only; omega)]
  rw [dif_neg c4]
  by_cases c5 : e.val - 1024 - 256 - 256 - 1024 - 1024 < 1024
  · rw [dif_pos c5, h.s2 i, Data.dp_s2 ⟨e.val - 1024 - 256 - 256 - 1024 - 1024, c5⟩ (by simp only; omega)]
  rw [dif_neg c5, h.s3 i, Data.dp_s3 ⟨e.val - 1024 - 256 - 256 - 1024 - 1024 - 1024, by omega⟩ (by simp only; omega)]

theorem hdh (h : Holds m c D) : Arr (tdh m c) D.dh := by
  intro i k
  have h1 := hdp h
  unfold tdh
  generalize tdp m c = v at h1
  pointwise
  simp only [h1 i _, h.w, ← EReal.coe_mul, ← coe_sum]
  rfl

theorem hdxn (h : Holds m c D) : Arr (tdxn m c) D.dxn := by
  intro i k
  have h1 := hdh h
  unfold tdxn
  generalize tdh m c = v at h1
  pointwise
  simp only [h1 i k, h.g, ← EReal.coe_mul]
  rfl

theorem ms_pos (i : Fin 4096) : 0 < mean (fun k => D.x i k * D.x i k) + eps6 := rinv_pos_arg _ eps6_pos _
theorem r_sq (i : Fin 4096) : 1 / (mean (fun k => D.x i k * D.x i k) + eps6) = D.r i * D.r i := by
  have h := ms_pos (D := D) i
  show _ = (Real.sqrt (mean (fun k => D.x i k * D.x i k) + eps6))⁻¹ * (Real.sqrt (mean (fun k => D.x i k * D.x i k) + eps6))⁻¹
  rw [← mul_inv, Real.mul_self_sqrt h.le, one_div]

/-- A sum over two axes of size one. -/
theorem sum_unit (hr : S1x4096x1.ReducesTo [0, 2] S4096) (x : S1x4096x1.Idx → EReal)
    (init : EReal) (i : Fin 4096) : Ideal.hostReduceAdd hr x init (ix1 i) = init + x (ix3 0 i 0) := by
  unfold Ideal.hostReduceAdd
  have hd : ∀ i, ((hr.drop i) 0).val = (i 1).val := fun i => rfl
  refine congrArg (init + ·) (Finset.sum_eq_single_of_mem (ix3 0 i 0) ?_ ?_)
  · refine Finset.mem_filter.2 ⟨Finset.mem_univ _, funext fun a => Fin.ext ?_⟩
    obtain rfl : a = 0 := Subsingleton.elim _ _
    rfl
  · intro j hj hne
    refine absurd (funext fun a => Fin.ext ?_) hne
    have h1 := congrArg Fin.val (congrFun (Finset.mem_filter.1 hj).2 0)
    rw [hd] at h1
    match a with
    | 0 => have : (j 0).val < 1 := (j 0).isLt; show (j 0).val = 0; omega
    | 1 => exact h1
    | 2 => have : (j 2).val < 1 := (j 2).isLt; show (j 2).val = 0; omega

theorem sum_unit' (hr : S1x1x1024.ReducesTo [0, 1] S1024) (x : S1x1x1024.Idx → EReal)
    (init : EReal) (k : Fin 1024) : Ideal.hostReduceAdd hr x init (ix1 k) = init + x (ix3 0 0 k) := by
  unfold Ideal.hostReduceAdd
  have hd : ∀ i, ((hr.drop i) 0).val = (i 2).val := fun i => rfl
  refine congrArg (init + ·) (Finset.sum_eq_single_of_mem (ix3 0 0 k) ?_ ?_)
  · refine Finset.mem_filter.2 ⟨Finset.mem_univ _, funext fun a => Fin.ext ?_⟩
    obtain rfl : a = 0 := Subsingleton.elim _ _
    rfl
  · intro j hj hne
    refine absurd (funext fun a => Fin.ext ?_) hne
    have h1 := congrArg Fin.val (congrFun (Finset.mem_filter.1 hj).2 0)
    rw [hd] at h1
    match a with
    | 0 => have : (j 0).val < 1 := (j 0).isLt; show (j 0).val = 0; omega
    | 1 => have : (j 1).val < 1 := (j 1).isLt; show (j 1).val = 0; omega
    | 2 => exact h1

theorem hshare (h : Holds m c D) : Arr (tshare m c) (fun i _ => (∑ k, D.x i k * D.dxn i k) * (-(1 / 2) * (D.r i * (D.r i * D.r i))) / 1024) := by
  intro i k
  have hx := h.x
  have h1 := hdxn h
  have h2 := hr h
  have h3 := hms h
  unfold tshare
  generalize (m ((c.tc : Thread nD τ).loc main_arg1)) = x at hx
  generalize tdxn m c = v1 at h1
  generalize tr m c = v2 at h2
  generalize tms m c = v3 at h3
  pointwise
  rw [sum_unit]
  pointwise
  simp only [hx i _, h1 i _, h2 i, h3 i, ofBits_zero, ofBits_neg_half, ofBits_1024, Ideal.div_coe (ms_pos (D := D) i).ne']
  simp only [← EReal.coe_mul, ← coe_sum, ← EReal.coe_add, div_1024, r_sq]

theorem hdx3 (h : Holds m c D) (i : Fin 4096) (k : Fin 1024) : (tdx3 m c : S1x4096x1024.Idx → EReal) (ix3 0 i k) = D.dx i k := by
  have hx := h.x
  have h1 := hdxn h
  have h2 := hr h
  have h3 := hshare h
  have h4 := h.dx2
  unfold tdx3
  generalize (m ((c.tc : Thread nD τ).loc main_arg1)) = x at hx
  generalize (m ((c.tc : Thread nD τ).loc main_arg16)) = x2 at h4
  generalize tdxn m c = v1 at h1
  generalize tr m c = v2 at h2
  generalize tshare m c = v3 at h3
  pointwise
  simp only [hx i _, h1 i _, h2 i, h3 i _, h4 i _, ← EReal.coe_mul]
  rw [add_assoc, add_assoc, ← EReal.coe_add, ← EReal.coe_add]
  refine congrArg (fun y : ℝ => D.dx2 i k + (y : EReal)) ?_
  have e : (∑ k, D.dxn i k * D.xn i k) = D.r i * ∑ k, D.x i k * D.dxn i k := by
    rw [Finset.mul_sum]
    refine Finset.sum_congr rfl fun k _ => ?_
    unfold Data.xn; ring
  unfold Data.gx mean
  rw [e]
  unfold Data.xn
  ring

theorem hdx (h : Holds m c D) (i : Fin 4096) (k : Fin 1024) : (tdx m c : S4096x1024.Idx → EReal) (ix2 i k) = D.dx i k := by
  have h1 := hdx3 h
  unfold tdx
  generalize tdx3 m c = v at h1
  pointwise
  exact h1 i k

theorem hst (h : Holds m c D) (j : Fin 8) (k : Fin 1024) : (tst m c : S8x1024.Idx → EReal) (ix2 j k) = ((∑ i, D.st i j k : ℝ) : EReal) := by
  have hx := h.x
  have h1 := hdh h
  have h2 := hr h
  unfold tst
  generalize (m ((c.tc : Thread nD τ).loc main_arg1)) = x at hx
  generalize tdh m c = v1 at h1
  generalize tr m c = v2 at h2
  pointwise
  by_cases hj : j = 0
  · subst hj
    rw [dif_pos (by decide), sum_unit']
    pointwise
    simp only [hx _ k, h1 _ k, h2 _, ofBits_zero, ← EReal.coe_mul, ← coe_sum]
    refine congrArg _ (Finset.sum_congr rfl fun i _ => ?_)
    show D.x i k * D.r i * D.dh i k = if (0 : Fin 8) = 0 then D.dh i k * D.xn i k else 0
    rw [if_pos rfl]
    exact mul_comm _ _
  · have hj' : ¬j.val < 1 := fun h' => hj (Fin.ext (by show j.val = 0; omega))
    have hz : ∑ i, D.st i j k = 0 := Finset.sum_eq_zero fun i _ => if_neg hj
    rw [dif_neg hj', hz]
    rfl

end Cert.Reference5Ideal.InR
end
-- ==== Proof.Inproj.Claims.lean ====
/- The five claims about the derivative of the input projection and its norm: the frames, and the kernel's two arrays equal to the
   derivative's. -/
module

public import proofs.«01_k».proof.Defs
public import proofs.«01_k».proof.Proof.Gen.Kernel5.Frame
public import proofs.«01_k».proof.Proof.Gen.Pre_finite16
public import proofs.«01_k».proof.Proof.Common.Precondition
public import proofs.«01_k».proof.Proof.Inproj.Arrays
public import proofs.«01_k».proof.Proof.Inproj.Reference
public import Idealize.ShloMosaic.Adequacy
public import Idealize.ShloMosaic.Init

@[expose] public section

noncomputable section

namespace Cert.Proof.Inproj

open Idealize.ShloMosaic Idealize.ShloMosaic.TcCoe Idealize.ShloMosaic.StableHlo Idealize.SL.Sem Cert.Common Cert.Inproj
open Cert.Kernel5Ideal.InV (RowsOf StOf f14 f15)
open Cert.Reference5Ideal.InR (hdx hst dx_eq)

theorem frame_kernel : Cert.quiescent_Kernel5 (hKernel5 := Cert.Kernel5.Gen.facts) := fun m ρ _ => Cert.Kernel5.Gen.frame m ρ
theorem frame_ideal : Cert.quiescent_Kernel5Ideal (hKernel5Ideal := Cert.Kernel5Ideal.Gen.facts) := fun m ρ _ => Cert.Kernel5Ideal.Gen.frame m ρ
theorem frame_ideal_pre : Cert.quiescent_Kernel5Ideal_pre_finite16 (hKernel5Ideal := Cert.Kernel5Ideal.Gen.facts)
    (hPre_finite16 := Cert.Pre_finite16.Gen.facts) := fun m ρ _ => Cert.Kernel5Ideal.Gen.frame m ρ
theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)
theorem frame_reference_pre : Cert.quiescent_Reference5Ideal_pre_finite16 (hReference5Ideal := Cert.Reference5Ideal.Gen.facts)
    (hPre_finite16 := Cert.Pre_finite16.Gen.facts) := fun m ρ _ => frame_reference m ρ trivial

section
open Cert.Pre_finite16

/-- The precondition says that every entry of the first sixteen arguments is a real number. -/
theorem real_args (a0 : S1024x5632.Idx → EReal) (a1 : S1x4096x1024.Idx → EReal) (a2 : S1x1024.Idx → EReal) (a3 a4 a5 : S1x4096x1024.Idx → EReal)
    (a6 a7 a8 a9 a10 a11 : S1x4096x256.Idx → EReal) (a12 a13 a14 a15 a16 : S1x4096x1024.Idx → EReal)
    (h : Cert.Pre_finite16.fn (F := Ideal) a0 a1 a2 a3 a4 a5 a6 a7 a8 a9 a10 a11 a12 a13 a14 a15 a16 = fun _ => 1#1) :
    Real a0 ∧ Real a1 ∧ Real a2 ∧ Real a3 ∧ Real a4 ∧ Real a5 ∧ Real a6 ∧ Real a7 ∧ Real a8 ∧ Real a9 ∧ Real a10 ∧ Real a11 ∧ Real a12 ∧ Real a13 ∧ Real a14 ∧ Real a15 := by
  have h := congrFun h (fun a => a.elim0)
  simp only [fn, fn_part1, fn_part2, fn_part3, fn_part4, andi_apply, IntOp.andi_eq_one] at h
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h
  haveI : Subsingleton S_.Idx := ⟨fun x y => funext fun a => a.elim0⟩
  exact ⟨real_of_all a0 _ _ _ _ _ h0, real_of_all a1 _ _ _ _ _ h1, real_of_all a2 _ _ _ _ _ h2, real_of_all a3 _ _ _ _ _ h3,
    real_of_all a4 _ _ _ _ _ h4, real_of_all a5 _ _ _ _ _ h5, real_of_all a6 _ _ _ _ _ h6, real_of_all a7 _ _ _ _ _ h7,
    real_of_all a8 _ _ _ _ _ h8, real_of_all a9 _ _ _ _ _ h9, real_of_all a10 _ _ _ _ _ h10, real_of_all a11 _ _ _ _ _ h11,
    real_of_all a12 _ _ _ _ _ h12, real_of_all a13 _ _ _ _ _ h13, real_of_all a14 _ _ _ _ _ h14, real_of_all a15 _ _ _ _ _ h15⟩
end

/-- Two matrices with the same entries are one. -/
theorem eq_of_ix2 {a b : ℕ} {x y : (⟨2, ![a, b]⟩ : Shape).Idx → EReal} (h : ∀ i k, x (ix2 i k) = y (ix2 i k)) : x = y :=
  funext fun j => by rw [← ix2_eta j]; exact h _ _

section
open Cert.Kernel5Ideal

/-- The numbers in the kernel's arguments on a device. -/
def dataOf (m : (ℓ : Loc nD τ sig) → Buf (Elt Ideal) ℓ) (c : Dev nD) : Data where
  w a e := ((m ((c : Thread nD τ).loc main_arg0) : S1024x5632.Idx → EReal) (ix2 a e)).toReal
  x i k := ((m ((c : Thread nD τ).loc main_arg1) : S1x4096x1024.Idx → EReal) (ix3 0 i k)).toReal
  g k := ((m ((c : Thread nD τ).loc main_arg2) : S1x1024.Idx → EReal) (ix2 0 k)).toReal
  q1 i k := ((m ((c : Thread nD τ).loc main_arg3) : S1x4096x1024.Idx → EReal) (ix3 0 i k)).toReal
  q2 i k := ((m ((c : Thread nD τ).loc main_arg4) : S1x4096x1024.Idx → EReal) (ix3 0 i k)).toReal
  q3 i k := ((m ((c : Thread nD τ).loc main_arg5) : S1x4096x1024.Idx → EReal) (ix3 0 i k)).toReal
  k1 i k := ((m ((c : Thread nD τ).loc main_arg6) : S1x4096x256.Idx → EReal) (ix3 0 i k)).toReal
  k2 i k := ((m ((c : Thread nD τ).loc main_arg7) : S1x4096x256.Idx → EReal) (ix3 0 i k)).toReal
  k3 i k := ((m ((c : Thread nD τ).loc main_arg8) : S1x4096x256.Idx → EReal) (ix3 0 i k)).toReal
  v1 i k := ((m ((c : Thread nD τ).loc main_arg9) : S1x4096x256.Idx → EReal) (ix3 0 i k)).toReal
  v2 i k := ((m ((c : Thread nD τ).loc main_arg10) : S1x4096x256.Idx → EReal) (ix3 0 i k)).toReal
  v3 i k := ((m ((c : Thread nD τ).loc main_arg11) : S1x4096x256.Idx → EReal) (ix3 0 i k)).toReal
  s0 i k := ((m ((c : Thread nD τ).loc main_arg12) : S1x4096x1024.Idx → EReal) (ix3 0 i k)).toReal
  s1 i k := ((m ((c : Thread nD τ).loc main_arg13) : S1x4096x1024.Idx → EReal) (ix3 0 i k)).toReal
  s2 i k := ((m ((c : Thread nD τ).loc main_arg14) : S1x4096x1024.Idx → EReal) (ix3 0 i k)).toReal
  s3 i k := ((m ((c : Thread nD τ).loc main_arg15) : S1x4096x1024.Idx → EReal) (ix3 0 i k)).toReal
  dx2 i k := (m ((c : Thread nD τ).loc main_arg16) : S1x4096x1024.Idx → EReal) (ix3 0 i k)
end

theorem algebraic : Cert.algebraic_Kernel5Ideal_Reference5Ideal_pre_finite16 (hKernel5Ideal := Cert.Kernel5Ideal.Gen.facts)
    (hReference5Ideal := Cert.Reference5Ideal.Gen.facts) (hPre_finite16 := Cert.Pre_finite16.Gen.facts) := by
  intro m g m' g' hp hm
  have hk : ∀ c, Cert.Kernel5Ideal.InV.Holds m (dataOf m c) c := fun c => by
    obtain ⟨h0, h1, h2, h3, h4, h5, h6, h7, h8, h9, h10, h11, h12, h13, h14, h15⟩ := real_args _ _ _ _ _ _ _ _ _ _ _ _ _ _ _ _ _ (hp c)
    exact ⟨fun _ _ => h0 _, fun _ _ => h1 _, fun _ => h2 _, fun _ _ => h3 _, fun _ _ => h4 _, fun _ _ => h5 _, fun _ _ => h6 _,
      fun _ _ => h7 _, fun _ _ => h8 _, fun _ _ => h9 _, fun _ _ => h10 _, fun _ _ => h11 _, fun _ _ => h12 _,
      fun _ _ => h13 _, fun _ _ => h14 _, fun _ _ => h15 _, fun _ _ => rfl⟩
  have hr : ∀ c, Cert.Reference5Ideal.InR.Holds m' c (dataOf m c) := fun c => by
    obtain ⟨e0, e1, e2, e3, e4, e5, e6, e7, e8, e9, e10, e11, e12, e13, e14, e15, e16⟩ := hm c
    obtain ⟨h0, h1, h2, h3, h4, h5, h6, h7, h8, h9, h10, h11, h12, h13, h14, h15, h16⟩ := hk c
    exact ⟨fun i k => (congrFun e0 _).trans (h0 i k), fun i k => (congrFun e1 _).trans (h1 i k),
      fun k => (congrFun e2 _).trans (h2 k), fun i k => (congrFun e3 _).trans (h3 i k),
      fun i k => (congrFun e4 _).trans (h4 i k), fun i k => (congrFun e5 _).trans (h5 i k),
      fun i k => (congrFun e6 _).trans (h6 i k), fun i k => (congrFun e7 _).trans (h7 i k),
      fun i k => (congrFun e8 _).trans (h8 i k), fun i k => (congrFun e9 _).trans (h9 i k),
      fun i k => (congrFun e10 _).trans (h10 i k), fun i k => (congrFun e11 _).trans (h11 i k),
      fun i k => (congrFun e12 _).trans (h12 i k), fun i k => (congrFun e13 _).trans (h13 i k),
      fun i k => (congrFun e14 _).trans (h14 i k), fun i k => (congrFun e15 _).trans (h15 i k),
      fun i k => (congrFun e16 _).trans (h16 i k)⟩
  refine ⟨fun c => RowsOf (dataOf m c), fun c => StOf (dataOf m c), ?_, ?_⟩
  · refine (θ_run Cert.Kernel5Ideal.defs _ _).mono (fun r h c => ?_) (Cert.Kernel5Ideal.Value.run_blocks (F := Ideal) m _)
    obtain ⟨h1, h2, ha⟩ := h c
    exact ⟨h1.trans (f14 m (hk c)), h2.trans (f15 m (hk c)), ha⟩
  · refine (θ_run Cert.Reference5Ideal.defs _ _).mono (fun r h c => ?_) (Cert.Reference5Ideal.Value.run (F := Ideal) m' _)
    obtain ⟨h1, h2, ha⟩ := h c
    exact ⟨(h1.trans (dx_eq m' c)).trans (eq_of_ix2 fun i k => hdx (hr c) i k), h2.trans (eq_of_ix2 fun j k => hst (hr c) j k), ha⟩

end Cert.Proof.Inproj
end
-- ==== Proof.Fwd.Spec.lean ====
/- The first norm and the input projection, over the extended reals: no argument needs to be finite, since the kernel and the
   reference multiply and add the same terms. -/
module

public import proofs.«01_k».proof.Proof.Inproj.Spec

@[expose] public section
noncomputable section

namespace Cert.Fwd
open Idealize.ShloMosaic Cert.Common Cert.Outproj

/-- The part's arrays: the step's input, the norm's vector and the projection. -/
structure Data where
  x : Fin 4096 → Fin 1024 → EReal
  g : Fin 1024 → EReal
  w : Fin 1024 → Fin 5632 → EReal

namespace Data
variable (D : Data)

/-- The reciprocal root of a row's mean square. -/
def r (i : Fin 4096) : EReal :=
  Ideal.rsqrt (Ideal.div (∑ k, D.x i k * D.x i k) ((1024 : ℝ) : EReal) + ((eps6 : ℝ) : EReal))
/-- The norm of the input. -/
def h (i : Fin 4096) (k : Fin 1024) : EReal := D.x i k * D.r i * D.g k
/-- The projection of the norm. -/
def p (i : Fin 4096) (e : Fin 5632) : EReal := ∑ k, D.h i k * D.w k e

theorem p_col {i i' : Fin 4096} (hi : i = i') {e e' : Fin 5632} (he : e.val = e'.val) : D.p i e = D.p i' e' := by
  rw [hi, Fin.ext he]

/-- The eight arrays: the norm, the scaled queries, the keys and the values in slabs of 128 columns, the gate of the attention
    and the three inputs of the convolution. -/
def H : (⟨2, ![4096, 1024]⟩ : Shape).Idx → EReal := fun j => D.h (j 0) (j 1)
def Q : (⟨3, ![8, 4096, 128]⟩ : Shape).Idx → EReal := fun j =>
  D.p (j 1) ⟨(j 0).val * 128 + (j 2).val, by have h0 : (j 0).val < 8 := (j 0).isLt; have h2 : (j 2).val < 128 := (j 2).isLt; omega⟩ * ((1 / 8 : ℝ) : EReal)
def slab (o : ℕ) (ho : o ≤ 5120) : (⟨3, ![2, 4096, 128]⟩ : Shape).Idx → EReal := fun j =>
  D.p (j 1) ⟨o + ((j 0).val * 128 + (j 2).val), by have h0 : (j 0).val < 2 := (j 0).isLt; have h2 : (j 2).val < 128 := (j 2).isLt; omega⟩
def cols (o : ℕ) (ho : o ≤ 4608) : (⟨2, ![4096, 1024]⟩ : Shape).Idx → EReal := fun j =>
  D.p (j 0) ⟨o + (j 1).val, by have h1 : (j 1).val < 1024 := (j 1).isLt; omega⟩

end Data
end Cert.Fwd
end
-- ==== Proof.Fwd.Blocks.lean ====
/- What a grid point of the projection's kernel computes from its blocks of the arguments: rows of the norm and of the projection. -/
module

public import proofs.«01_k».proof.Proof.Fwd.Spec
public import proofs.«01_k».proof.Proof.Gen.Kernel6Ideal.Value
public import Idealize.ShloMosaic.Lib.Pipeline.ValueKit
public import Idealize.ShloMosaic.Lib.Pointwise
public import Idealize.ShloMosaic.Lib.StableHlo.ReadAt

@[expose] public section
set_option maxRecDepth 16384
noncomputable section

namespace Cert.Kernel6Ideal.FwdV
open Cert.Kernel6Ideal Cert.Kernel6Ideal.Gen Idealize.ShloMosaic Idealize.ShloMosaic.TcCoe Idealize.SL.Sem Cert.Common
open Cert.Fwd
open Cert.Outproj (eps6 ofBits_eps6 ofBits_1024 ofBits_zero)
open Cert.Inproj (ofBits_eighth)

variable (m : (ℓ : Loc nD τ sig) → Buf (Elt Ideal) ℓ)

theorem idx : ∀ t, win0_0.index t = ![(grid0.coords t 0).val, 0] ∧ win0_1.index t = ![0, 0] ∧ win0_2.index t = ![0, 0]
    ∧ win0_3.index t = ![(grid0.coords t 0).val, 0] ∧ win0_4.index t = ![0, (grid0.coords t 0).val, 0]
    ∧ win0_5.index t = ![0, (grid0.coords t 0).val, 0] ∧ win0_6.index t = ![0, (grid0.coords t 0).val, 0]
    ∧ win0_7.index t = ![(grid0.coords t 0).val, 0] ∧ win0_8.index t = ![(grid0.coords t 0).val, 0]
    ∧ win0_9.index t = ![(grid0.coords t 0).val, 0] ∧ win0_10.index t = ![(grid0.coords t 0).val, 0] := by decide +kernel

/-- The row of the whole array that a row of grid point `t`'s block is. -/
def row (t : Fin cfg0.N) (r : Fin 512) : Fin 4096 :=
  ⟨(grid0.coords t 0).val * 512 + r.val, by have h : (grid0.coords t 0).val < 8 := (grid0.coords t 0).isLt; omega⟩

/-- The numbers in the kernel's arguments on a device. -/
def dataOf (c : Dev nD) : Data where
  x i k := (m ((c : Thread nD τ).loc main_arg0) : S1x4096x1024.Idx → EReal) (ix3 0 i k)
  g k := (m ((c : Thread nD τ).loc main_arg1) : S1x1024.Idx → EReal) (ix2 0 k)
  w k e := (m ((c : Thread nD τ).loc main_arg2) : S1024x5632.Idx → EReal) (ix2 k e)

variable (c : Dev nD)

theorem v0 (i : Fin 4096) (k : Fin 1024) : (V m c main_v0 : S4096x1024.Idx → EReal) (ix2 i k) = (dataOf m c).x i k := by
  unfold V; after_reads_at; rfl
theorem a1 (k : Fin 1024) : (V m c main_arg1 : S1x1024.Idx → EReal) (ix2 0 k) = (dataOf m c).g k := by
  rw [V_main_arg1]; rfl
theorem v1 (k : Fin 1024) (e : Fin 5632) : (V m c main_v1 : S1024x5632.Idx → EReal) (ix2 k e) = (dataOf m c).w k e := by
  unfold V; after_reads_at; rfl

variable (t : Fin cfg0.N)

theorem i0 (r : Fin 512) (k : Fin 1024) : (iblk m c 0 t : Vec Ideal S512x1024 .f32) (ix2 r k) = (dataOf m c).x (row t r) k := by
  rw [← v0]
  unfold row
  blk_ext [iblk, idx t]
theorem i1 (k : Fin 1024) : (iblk m c 1 t : Vec Ideal S1x1024 .f32) (ix2 0 k) = (dataOf m c).g k := by
  rw [← a1]
  blk_ext [iblk, idx t]
theorem i2 (k : Fin 1024) (e : Fin 5632) : (iblk m c 2 t : Vec Ideal S1024x5632 .bf16) (ix2 k e) = (dataOf m c).w k e := by
  rw [← v1]
  blk_ext [iblk, idx t]

/-- The norm of the block's rows. -/
abbrev nrm : FVec Ideal S512x1024 .bf16 := k0_pay1 (View.ld (iblk m c 0 t) r0_0) (View.ld (iblk m c 1 t) r0_1)

theorem nrm_eq (r : Fin 512) (k : Fin 1024) : nrm m c t (ix2 r k) = (dataOf m c).h (row t r) k := by
  unfold nrm k0_pay1
  pointwise
  simp only [i0, i1, ofBits_zero, ofBits_1024, ofBits_eps6, Fin.zero_add, Nat.zero_add, Fin.eta]
  unfold Data.h Data.r
  simp only [EReal.coe_zero, zero_add, add_zero]

/-- A row of the norm times the matrix's columns from `o`. -/
theorem dot_eq {n o : ℕ} (ho : o + n ≤ 5632) (b : (⟨2, ![1024, n]⟩ : Shape).Idx → EReal)
    (hb : ∀ k e, b (ix2 k e) = (dataOf m c).w k ⟨o + e.val, by omega⟩) (r : Fin 512) (e : Fin n) :
    (∑ k : Fin 1024, nrm m c t (ix2 r k) * b (ix2 k e)) = (dataOf m c).p (row t r) ⟨o + e.val, by omega⟩ :=
  Finset.sum_congr rfl fun k _ => by rw [nrm_eq, hb]

/-- The rectangles of the matrix that the products read. -/
theorem ld_q (k e : Fin 1024) : View.ld (iblk m c 2 t : Vec Ideal S1024x5632 .bf16) r0_2 (ix2 k e) = (dataOf m c).w k ⟨0 + e.val, by omega⟩ := by
  pointwise; simp only [i2]
theorem ld_kv (k : Fin 1024) (e : Fin 512) : View.ld (iblk m c 2 t : Vec Ideal S1024x5632 .bf16) r0_3 (ix2 k e) = (dataOf m c).w k ⟨1024 + e.val, by omega⟩ := by
  pointwise; simp only [i2]
theorem ld_ag (k e : Fin 1024) : View.ld (iblk m c 2 t : Vec Ideal S1024x5632 .bf16) r0_14 (ix2 k e) = (dataOf m c).w k ⟨1536 + e.val, by omega⟩ := by
  pointwise; simp only [i2]
theorem ld_cv (k e : Fin 1024) : View.ld (iblk m c 2 t : Vec Ideal S1024x5632 .bf16) r0_15 (ix2 k e) = (dataOf m c).w k ⟨2560 + e.val, by omega⟩ := by
  pointwise; simp only [i2]
theorem ld_cg (k e : Fin 1024) : View.ld (iblk m c 2 t : Vec Ideal S1024x5632 .bf16) r0_16 (ix2 k e) = (dataOf m c).w k ⟨3584 + e.val, by omega⟩ := by
  pointwise; simp only [i2]
theorem ld_gate (k e : Fin 1024) : View.ld (iblk m c 2 t : Vec Ideal S1024x5632 .bf16) r0_17 (ix2 k e) = (dataOf m c).w k ⟨4608 + e.val, by omega⟩ := by
  pointwise; simp only [i2]

/-- The scaled queries of the block's rows. -/
abbrev qry : FVec Ideal S512x1024 .f32 :=
  k0_pay2 (View.ld (iblk m c 0 t) r0_0) (View.ld (iblk m c 1 t) r0_1) (View.ld (iblk m c 2 t) r0_2)
theorem qry_eq (r : Fin 512) (e : Fin 1024) :
    qry m c t (ix2 r e) = (dataOf m c).p (row t r) ⟨0 + e.val, by omega⟩ * ((1 / 8 : ℝ) : EReal) := by
  have h := dot_eq m c t (o := 0) (by omega) _ (ld_q m c t) r e
  unfold qry k0_pay2
  unfold nrm at h
  generalize k0_pay1 (View.ld (iblk m c 0 t) r0_0) (View.ld (iblk m c 1 t) r0_1) = p at h ⊢
  generalize (View.ld (iblk m c 2 t : Vec Ideal S1024x5632 .bf16) r0_2 : Vec Ideal S1024x1024 .bf16) = b at h ⊢
  rw [← h]
  pointwise
  simp only [ofBits_zero, ofBits_eighth, EReal.coe_zero, zero_add, add_zero]

/-- Their keys and values. -/
abbrev kvs : FVec Ideal S512x512 .f32 :=
  k0_pay3 (View.ld (iblk m c 0 t) r0_0) (View.ld (iblk m c 1 t) r0_1) (View.ld (iblk m c 2 t) r0_3)
theorem kvs_eq (r : Fin 512) (e : Fin 512) : kvs m c t (ix2 r e) = (dataOf m c).p (row t r) ⟨1024 + e.val, by omega⟩ := by
  have h := dot_eq m c t (o := 1024) (by omega) _ (ld_kv m c t) r e
  unfold kvs k0_pay3
  unfold nrm at h
  generalize k0_pay1 (View.ld (iblk m c 0 t) r0_0) (View.ld (iblk m c 1 t) r0_1) = p at h ⊢
  generalize (View.ld (iblk m c 2 t : Vec Ideal S1024x5632 .bf16) r0_3 : Vec Ideal S1024x512 .bf16) = b at h ⊢
  rw [← h]
  pointwise

end Cert.Kernel6Ideal.FwdV
end
-- ==== Proof.Fwd.Arrays.lean ====
/- The eight result arrays of the projection's kernel, index by index. -/
module

public import proofs.«01_k».proof.Proof.Fwd.Blocks

@[expose] public section
set_option maxRecDepth 16384
noncomputable section

namespace Cert.Kernel6Ideal.FwdV
open Cert.Kernel6Ideal Cert.Kernel6Ideal.Gen Idealize.ShloMosaic Idealize.ShloMosaic.TcCoe Idealize.SL.Sem Cert.Common
open Idealize.ShloMosaic.Pipeline (Dat)
open Cert.Fwd

variable (m : (ℓ : Loc nD τ sig) → Buf (Elt Ideal) ℓ) (c : Dev nD) (t : Fin cfg0.N)

theorem out3 (r : Fin 512) (k : Fin 1024) :
    (out0_3 (iblk m c 0 t) (iblk m c 1 t) (iblk m c 2 t) : Vec Ideal S512x1024 .bf16) (ix2 r k) = (dataOf m c).h (row t r) k := by
  have hv := nrm_eq m c t
  unfold nrm at hv
  unfold out0_3
  generalize k0_pay1 (View.ld (iblk m c 0 t) r0_0) (View.ld (iblk m c 1 t) r0_1) = p at hv ⊢
  canon_tiles x h
  all_goals
    idx_vars x
    obtain rfl : r = x0 := Fin.ext h0
    obtain ⟨k, hk⟩ := k
    obtain rfl : k = _ := h1
    pointwise
    rw [hv]

/-- The queries, a slab of 128 columns at a time. -/
theorem out4 (u : Fin 8) (r : Fin 512) (l : Fin 128) :
    (out0_4 (iblk m c 0 t) (iblk m c 1 t) (iblk m c 2 t) : Vec Ideal S8x512x128 .f32) (ix3 u r l)
      = (dataOf m c).p (row t r) ⟨u.val * 128 + l.val, by omega⟩ * ((1 / 8 : ℝ) : EReal) := by
  have hv := qry_eq m c t
  unfold qry at hv
  unfold out0_4 k0_pay23
  unfold k0_pay4 k0_pay5 k0_pay6
  generalize k0_pay2 (View.ld (iblk m c 0 t) r0_0) (View.ld (iblk m c 1 t) r0_1) (View.ld (iblk m c 2 t) r0_2) = v at hv ⊢
  canon_tiles x h
  all_goals
    idx_vars x
    obtain rfl : x0 = 0 := Subsingleton.elim _ _
    change u.val = _ at h0
    change l.val = _ at h2
    obtain rfl : r = x1 := Fin.ext h1
    unfold_payloads
    pointwise
    rw [hv]
    refine congrArg (· * _) (Data.p_col _ rfl ?_)
    simp only [h0, h2, Fin.val_zero] <;> omega

theorem out5 (u : Fin 2) (r : Fin 512) (l : Fin 128) :
    (out0_5 (iblk m c 0 t) (iblk m c 1 t) (iblk m c 2 t) : Vec Ideal S2x512x128 .f32) (ix3 u r l)
      = (dataOf m c).p (row t r) ⟨1024 + (u.val * 128 + l.val), by omega⟩ := by
  have hv := kvs_eq m c t
  unfold kvs at hv
  unfold out0_5 k0_pay24
  generalize k0_pay3 (View.ld (iblk m c 0 t) r0_0) (View.ld (iblk m c 1 t) r0_1) (View.ld (iblk m c 2 t) r0_3) = v at hv ⊢
  canon_tiles x h
  all_goals
    idx_vars x
    obtain rfl : x0 = 0 := Subsingleton.elim _ _
    change u.val = _ at h0
    change l.val = _ at h2
    obtain rfl : r = x1 := Fin.ext h1
    unfold_payloads
    pointwise
    rw [hv]
    refine Data.p_col _ rfl ?_
    simp only [h0, h2, Fin.val_zero] <;> omega

theorem out6 (u : Fin 2) (r : Fin 512) (l : Fin 128) :
    (out0_6 (iblk m c 0 t) (iblk m c 1 t) (iblk m c 2 t) : Vec Ideal S2x512x128 .f32) (ix3 u r l)
      = (dataOf m c).p (row t r) ⟨1280 + (u.val * 128 + l.val), by omega⟩ := by
  have hv := kvs_eq m c t
  unfold kvs at hv
  unfold out0_6 k0_pay24
  generalize k0_pay3 (View.ld (iblk m c 0 t) r0_0) (View.ld (iblk m c 1 t) r0_1) (View.ld (iblk m c 2 t) r0_3) = v at hv ⊢
  canon_tiles x h
  all_goals
    idx_vars x
    obtain rfl : x0 = 0 := Subsingleton.elim _ _
    change u.val = _ at h0
    change l.val = _ at h2
    obtain rfl : r = x1 := Fin.ext h1
    unfold_payloads
    pointwise
    rw [hv]
    refine Data.p_col _ rfl ?_
    simp only [h0, h2, Fin.val_zero] <;> omega

theorem out7 (r : Fin 512) (e : Fin 1024) :
    (out0_7 (iblk m c 0 t) (iblk m c 1 t) (iblk m c 2 t) : Vec Ideal S512x1024 .f32) (ix2 r e)
      = (dataOf m c).p (row t r) ⟨1536 + e.val, by omega⟩ := by
  have hv := dot_eq m c t (o := 1536) (by omega) _ (ld_ag m c t)
  unfold nrm at hv
  unfold out0_7 k0_pay22
  generalize k0_pay1 (View.ld (iblk m c 0 t) r0_0) (View.ld (iblk m c 1 t) r0_1) = p at hv ⊢
  generalize (View.ld (iblk m c 2 t : Vec Ideal S1024x5632 .bf16) r0_14 : Vec Ideal S1024x1024 .bf16) = b at hv ⊢
  canon_tiles x h
  all_goals
    idx_vars x
    obtain rfl : r = x0 := Fin.ext h0
    obtain ⟨e, he⟩ := e
    obtain rfl : e = _ := h1
    unfold_payloads
    pointwise
    refine (hv _ _).trans (Data.p_col _ rfl ?_)
    simp

theorem out8 (r : Fin 512) (e : Fin 1024) :
    (out0_8 (iblk m c 0 t) (iblk m c 1 t) (iblk m c 2 t) : Vec Ideal S512x1024 .f32) (ix2 r e)
      = (dataOf m c).p (row t r) ⟨2560 + e.val, by omega⟩ := by
  have hv := dot_eq m c t (o := 2560) (by omega) _ (ld_cv m c t)
  unfold nrm at hv
  unfold out0_8 k0_pay22
  generalize k0_pay1 (View.ld (iblk m c 0 t) r0_0) (View.ld (iblk m c 1 t) r0_1) = p at hv ⊢
  generalize (View.ld (iblk m c 2 t : Vec Ideal S1024x5632 .bf16) r0_15 : Vec Ideal S1024x1024 .bf16) = b at hv ⊢
  canon_tiles x h
  all_goals
    idx_vars x
    obtain rfl : r = x0 := Fin.ext h0
    obtain ⟨e, he⟩ := e
    obtain rfl : e = _ := h1
    unfold_payloads
    pointwise
    refine (hv _ _).trans (Data.p_col _ rfl ?_)
    simp

theorem out9 (r : Fin 512) (e : Fin 1024) :
    (out0_9 (iblk m c 0 t) (iblk m c 1 t) (iblk m c 2 t) : Vec Ideal S512x1024 .f32) (ix2 r e)
      = (dataOf m c).p (row t r) ⟨3584 + e.val, by omega⟩ := by
  have hv := dot_eq m c t (o := 3584) (by omega) _ (ld_cg m c t)
  unfold nrm at hv
  unfold out0_9 k0_pay22
  generalize k0_pay1 (View.ld (iblk m c 0 t) r0_0) (View.ld (iblk m c 1 t) r0_1) = p at hv ⊢
  generalize (View.ld (iblk m c 2 t : Vec Ideal S1024x5632 .bf16) r0_16 : Vec Ideal S1024x1024 .bf16) = b at hv ⊢
  canon_tiles x h
  all_goals
    idx_vars x
    obtain rfl : r = x0 := Fin.ext h0
    obtain ⟨e, he⟩ := e
    obtain rfl : e = _ := h1
    unfold_payloads
    pointwise
    refine (hv _ _).trans (Data.p_col _ rfl ?_)
    simp

theorem out10 (r : Fin 512) (e : Fin 1024) :
    (out0_10 (iblk m c 0 t) (iblk m c 1 t) (iblk m c 2 t) : Vec Ideal S512x1024 .f32) (ix2 r e)
      = (dataOf m c).p (row t r) ⟨4608 + e.val, by omega⟩ := by
  have hv := dot_eq m c t (o := 4608) (by omega) _ (ld_gate m c t)
  unfold nrm at hv
  unfold out0_10 k0_pay22
  generalize k0_pay1 (View.ld (iblk m c 0 t) r0_0) (View.ld (iblk m c 1 t) r0_1) = p at hv ⊢
  generalize (View.ld (iblk m c 2 t : Vec Ideal S1024x5632 .bf16) r0_17 : Vec Ideal S1024x1024 .bf16) = b at hv ⊢
  canon_tiles x h
  all_goals
    idx_vars x
    obtain rfl : r = x0 := Fin.ext h0
    obtain ⟨e, he⟩ := e
    obtain rfl : e = _ := h1
    unfold_payloads
    pointwise
    refine (hv _ _).trans (Data.p_col _ rfl ?_)
    simp

theorem f3 : (dats m 0 c).arrAt 3 cfg0.N = (dataOf m c).H := by
  refine (dats m 0 c).arrAt_eq_of_covers 3 _ (by decide +kernel) fun t hf y => ?_
  have e0 : (((cfg0.win 3).blk t).view.emb y) 0 = row t (y 0) := by
    apply Fin.ext; blk_simp [idx t]; simp only [row]
  have e1 : (((cfg0.win 3).blk t).view.emb y) 1 = y 1 := by
    apply Fin.ext; blk_simp [idx t]
  unfold Data.H
  simp only [e0, e1]
  blk_simp
  rw [after0_3]
  exact (congrArg _ (ix2_eta (y : _)).symm).trans (out3 m c t (y 0) (y 1))

theorem f4 : (dats m 0 c).arrAt 4 cfg0.N = (dataOf m c).Q := by
  refine (dats m 0 c).arrAt_eq_of_covers 4 _ (by decide +kernel) fun t hf y => ?_
  have e0 : (((cfg0.win 4).blk t).view.emb y) 0 = y 0 := by
    apply Fin.ext; blk_simp [idx t]
  have e1 : (((cfg0.win 4).blk t).view.emb y) 1 = row t (y 1) := by
    apply Fin.ext; blk_simp [idx t]; simp only [row]
  have e2 : (((cfg0.win 4).blk t).view.emb y) 2 = y 2 := by
    apply Fin.ext; blk_simp [idx t]
  unfold Data.Q
  simp only [e0, e1, e2]
  blk_simp
  rw [after0_4]
  exact (congrArg _ (ix3_eta (y : _)).symm).trans (out4 m c t (y 0) (y 1) (y 2))

theorem f5 : (dats m 0 c).arrAt 5 cfg0.N = (dataOf m c).slab 1024 (by decide) := by
  refine (dats m 0 c).arrAt_eq_of_covers 5 _ (by decide +kernel) fun t hf y => ?_
  have e0 : (((cfg0.win 5).blk t).view.emb y) 0 = y 0 := by
    apply Fin.ext; blk_simp [idx t]
  have e1 : (((cfg0.win 5).blk t).view.emb y) 1 = row t (y 1) := by
    apply Fin.ext; blk_simp [idx t]; simp only [row]
  have e2 : (((cfg0.win 5).blk t).view.emb y) 2 = y 2 := by
    apply Fin.ext; blk_simp [idx t]
  unfold Data.slab
  simp only [e0, e1, e2]
  blk_simp
  rw [after0_5]
  exact (congrArg _ (ix3_eta (y : _)).symm).trans (out5 m c t (y 0) (y 1) (y 2))

theorem f6 : (dats m 0 c).arrAt 6 cfg0.N = (dataOf m c).slab 1280 (by decide) := by
  refine (dats m 0 c).arrAt_eq_of_covers 6 _ (by decide +kernel) fun t hf y => ?_
  have e0 : (((cfg0.win 6).blk t).view.emb y) 0 = y 0 := by
    apply Fin.ext; blk_simp [idx t]
  have e1 : (((cfg0.win 6).blk t).view.emb y) 1 = row t (y 1) := by
    apply Fin.ext; blk_simp [idx t]; simp only [row]
  have e2 : (((cfg0.win 6).blk t).view.emb y) 2 = y 2 := by
    apply Fin.ext; blk_simp [idx t]
  unfold Data.slab
  simp only [e0, e1, e2]
  blk_simp
  rw [after0_6]
  exact (congrArg _ (ix3_eta (y : _)).symm).trans (out6 m c t (y 0) (y 1) (y 2))

theorem f7 : (dats m 0 c).arrAt 7 cfg0.N = (dataOf m c).cols 1536 (by decide) := by
  refine (dats m 0 c).arrAt_eq_of_covers 7 _ (by decide +kernel) fun t hf y => ?_
  have e0 : (((cfg0.win 7).blk t).view.emb y) 0 = row t (y 0) := by
    apply Fin.ext; blk_simp [idx t]; simp only [row]
  have e1 : (((cfg0.win 7).blk t).view.emb y) 1 = y 1 := by
    apply Fin.ext; blk_simp [idx t]
  unfold Data.cols
  simp only [e0, e1]
  blk_simp
  rw [after0_7]
  exact (congrArg _ (ix2_eta (y : _)).symm).trans (out7 m c t (y 0) (y 1))

theorem f8 : (dats m 0 c).arrAt 8 cfg0.N = (dataOf m c).cols 2560 (by decide) := by
  refine (dats m 0 c).arrAt_eq_of_covers 8 _ (by decide +kernel) fun t hf y => ?_
  have e0 : (((cfg0.win 8).blk t).view.emb y) 0 = row t (y 0) := by
    apply Fin.ext; blk_simp [idx t]; simp only [row]
  have e1 : (((cfg0.win 8).blk t).view.emb y) 1 = y 1 := by
    apply Fin.ext; blk_simp [idx t]
  unfold Data.cols
  simp only [e0, e1]
  blk_simp
  rw [after0_8]
  exact (congrArg _ (ix2_eta (y : _)).symm).trans (out8 m c t (y 0) (y 1))

theorem f9 : (dats m 0 c).arrAt 9 cfg0.N = (dataOf m c).cols 3584 (by decide) := by
  refine (dats m 0 c).arrAt_eq_of_covers 9 _ (by decide +kernel) fun t hf y => ?_
  have e0 : (((cfg0.win 9).blk t).view.emb y) 0 = row t (y 0) := by
    apply Fin.ext; blk_simp [idx t]; simp only [row]
  have e1 : (((cfg0.win 9).blk t).view.emb y) 1 = y 1 := by
    apply Fin.ext; blk_simp [idx t]
  unfold Data.cols
  simp only [e0, e1]
  blk_simp
  rw [after0_9]
  exact (congrArg _ (ix2_eta (y : _)).symm).trans (out9 m c t (y 0) (y 1))

theorem f10 : (dats m 0 c).arrAt 10 cfg0.N = (dataOf m c).cols 4608 (by decide) := by
  refine (dats m 0 c).arrAt_eq_of_covers 10 _ (by decide +kernel) fun t hf y => ?_
  have e0 : (((cfg0.win 10).blk t).view.emb y) 0 = row t (y 0) := by
    apply Fin.ext; blk_simp [idx t]; simp only [row]
  have e1 : (((cfg0.win 10).blk t).view.emb y) 1 = y 1 := by
    apply Fin.ext; blk_simp [idx t]
  unfold Data.cols
  simp only [e0, e1]
  blk_simp
  rw [after0_10]
  exact (congrArg _ (ix2_eta (y : _)).symm).trans (out10 m c t (y 0) (y 1))

end Cert.Kernel6Ideal.FwdV
end
-- ==== Proof.Fwd.Reference.lean ====
/- What the reference's norm and projection are at an index. -/
module

public import proofs.«01_k».proof.Proof.Gen.Reference6Ideal.Run
public import proofs.«01_k».proof.Proof.Fwd.Spec
public import Idealize.ShloMosaic.Lib.Pipeline.ValueKit
public import Idealize.ShloMosaic.Lib.Pointwise

@[expose] public section
set_option maxRecDepth 16384
noncomputable section

namespace Cert.Reference6Ideal.FwdR

open Cert.Reference6Ideal Cert.Reference6Ideal.Gen Cert.Reference6Ideal.Value Cert.Common Cert.Fwd
open Cert.Outproj (eps6 ofBits_eps6 ofBits_1024 ofBits_zero)
open Cert.Inproj (ofBits_eighth)
open Idealize.ShloMosaic Idealize.ShloMosaic.TcCoe Idealize.SL.Sem Idealize.ShloMosaic.StableHlo

/-- The arrays hold the numbers `D`. -/
structure Holds (x : FVec Ideal S1x4096x1024 .f32) (g : FVec Ideal S1x1024 .f32) (w : FVec Ideal S1024x5632 .f32) (D : Data) : Prop where
  x : ∀ i k, x (ix3 0 i k) = D.x i k
  g : ∀ k, g (ix2 0 k) = D.g k
  w : ∀ k e, w (ix2 k e) = D.w k e

section
variable (x : FVec Ideal S1x4096x1024 .f32) (g : FVec Ideal S1x1024 .f32) (w : FVec Ideal S1024x5632 .f32)

/-- The reciprocal root of the mean square of each row. -/
def tr : FVec Ideal S1x4096x1 .f32 :=
  Host.rsqrt (addf (Host.divf (broadcastInDim S1x4096x1 ![0, 1] bcast_S1x4096_S1x4096x1_0_1
      (Host.reduceAdd (mulf x x) (constant S_ .f32 0x00000000#32) reducesTo_S1x4096x1024_S1x4096_d2 h_S_))
    (broadcastInDim S1x4096x1 ![] bcast_S_S1x4096x1 (constant S_ .f32 0x44800000#32)))
  (broadcastInDim S1x4096x1 ![] bcast_S_S1x4096x1 (constant S_ .f32 0x358637BD#32)))
/-- The norm. -/
def th : FVec Ideal S1x4096x1024 .f32 :=
  mulf (mulf x (broadcastInDim S1x4096x1024 ![0, 1, 2] bcast_S1x4096x1_S1x4096x1024_0_1_2 (tr x)))
    (broadcastInDim S1x4096x1024 ![0, 1, 2] bcast_S1x1x1024_S1x4096x1024_0_1_2
      (broadcastInDim S1x1x1024 ![2] bcast_S1024_S1x1x1024_2 (shapeCast S1024 g shapeCasts_S1x1024_S1024)))
/-- The projection. -/
def tp : FVec Ideal S1x4096x5632 .f32 :=
  Host.dotGeneral (φ₂ := .f32) dot_S1x4096x1024_S1024x5632_S1x4096x5632_2_0_01_1_n_n none (th x g) w
/-- The scaled queries. -/
def tq : FVec Ideal S1x4096x1024 .f32 :=
  mulf (extractStridedSlice S1x4096x1024 ![0, 0, 0] (tp x g w) slices_S1x4096x5632_S1x4096x1024_0_0_0)
    (broadcastInDim S1x4096x1024 ![] bcast_S_S1x4096x1024 (constant S_ .f32 0x3E000000#32))
end

variable {x : FVec Ideal S1x4096x1024 .f32} {g : FVec Ideal S1x1024 .f32} {w : FVec Ideal S1024x5632 .f32} {D : Data}

theorem hr (h : Holds x g w D) (i : Fin 4096) : tr x (ix3 0 i 0) = D.r i := by
  unfold tr
  pointwise
  simp only [h.x, ofBits_zero, ofBits_1024, ofBits_eps6, EReal.coe_zero, zero_add, add_zero]
  rfl

theorem hh (h : Holds x g w D) (i : Fin 4096) (k : Fin 1024) : th x g (ix3 0 i k) = D.h i k := by
  have h1 := hr h
  unfold th
  generalize tr x = v at h1
  pointwise
  rw [h.x, h.g, h1]
  rfl

theorem hp (h : Holds x g w D) (i : Fin 4096) (e : Fin 5632) : tp x g w (ix3 0 i e) = D.p i e := by
  have h1 := hh h
  unfold tp
  generalize th x g = v at h1
  pointwise
  simp only [h1, h.w]
  rfl

theorem hq (h : Holds x g w D) (i : Fin 4096) (e : Fin 1024) :
    tq x g w (ix3 0 i e) = D.p i ⟨e.val, by omega⟩ * ((1 / 8 : ℝ) : EReal) := by
  have h1 := hp h
  unfold tq
  generalize tp x g w = v at h1
  pointwise
  rw [h1, ofBits_eighth]

/-- The eight results. -/
theorem oH (h : Holds x g w D) :
    (truncf .bf16 (shapeCast S4096x1024 (th x g) shapeCasts_S1x4096x1024_S4096x1024) bitsLt_bf16_f32 : FVec Ideal S4096x1024 .bf16) = D.H := by
  have h1 := hh h
  generalize th x g = v at h1
  funext j
  rw [← ix2_eta j]
  pointwise
  exact h1 _ _

theorem oQ (h : Holds x g w D) :
    (transpose S8x4096x128 [1, 0, 2] (shapeCast S4096x8x128 (tq x g w) shapeCasts_S1x4096x1024_S4096x8x128)
      transposes_S4096x8x128_S8x4096x128_1_0_2 : FVec Ideal S8x4096x128 .f32) = D.Q := by
  have h1 := hq h
  generalize tq x g w = v at h1
  funext j
  rw [← ix3_eta j]
  pointwise
  exact h1 _ _

theorem oK (h : Holds x g w D) :
    (transpose S2x4096x128 [1, 0, 2] (shapeCast S4096x2x128
      (extractStridedSlice S1x4096x256 ![0, 0, 1024] (tp x g w) slices_S1x4096x5632_S1x4096x256_0_0_1024) shapeCasts_S1x4096x256_S4096x2x128)
      transposes_S4096x2x128_S2x4096x128_1_0_2 : FVec Ideal S2x4096x128 .f32) = D.slab 1024 (by decide) := by
  have h1 := hp h
  generalize tp x g w = v at h1
  funext j
  rw [← ix3_eta j]
  pointwise
  exact h1 _ _

theorem oV (h : Holds x g w D) :
    (transpose S2x4096x128 [1, 0, 2] (shapeCast S4096x2x128
      (extractStridedSlice S1x4096x256 ![0, 0, 1280] (tp x g w) slices_S1x4096x5632_S1x4096x256_0_0_1280) shapeCasts_S1x4096x256_S4096x2x128)
      transposes_S4096x2x128_S2x4096x128_1_0_2 : FVec Ideal S2x4096x128 .f32) = D.slab 1280 (by decide) := by
  have h1 := hp h
  generalize tp x g w = v at h1
  funext j
  rw [← ix3_eta j]
  pointwise
  exact h1 _ _

/-- 1024 columns of the projection, from column `o`. -/
theorem oC (h : Holds x g w D) (o : ℕ) (ho : o ≤ 4608) (hs) :
    (shapeCast S4096x1024 (extractStridedSlice S1x4096x1024 ![0, 0, o] (tp x g w) hs) shapeCasts_S1x4096x1024_S4096x1024 :
      FVec Ideal S4096x1024 .f32) = D.cols o ho := by
  have h1 := hp h
  generalize tp x g w = v at h1
  funext j
  rw [← ix2_eta j]
  pointwise
  exact h1 _ _

end Cert.Reference6Ideal.FwdR
end
-- ==== Proof.Fwd.Claims.lean ====
/- The claims about the first norm and the input projection: the frames, and the kernel's eight arrays equal to the reference's. -/
module

public import proofs.«01_k».proof.Defs
public import proofs.«01_k».proof.Proof.Gen.Kernel6.Frame
public import proofs.«01_k».proof.Proof.Fwd.Arrays
public import proofs.«01_k».proof.Proof.Fwd.Reference
public import Idealize.ShloMosaic.Adequacy
public import Idealize.ShloMosaic.Init

@[expose] public section

noncomputable section

namespace Cert.Proof.Fwd

open Idealize.ShloMosaic Idealize.ShloMosaic.TcCoe Idealize.ShloMosaic.StableHlo Idealize.SL.Sem Cert.Common Cert.Fwd
open Cert.Kernel6Ideal.FwdV (dataOf f3 f4 f5 f6 f7 f8 f9 f10)
open Cert.Reference6Ideal.FwdR (Holds oH oQ oK oV oC)

theorem frame_kernel : Cert.quiescent_Kernel6 (hKernel6 := Cert.Kernel6.Gen.facts) := fun m ρ _ => Cert.Kernel6.Gen.frame m ρ
theorem frame_ideal : Cert.quiescent_Kernel6Ideal (hKernel6Ideal := Cert.Kernel6Ideal.Gen.facts) := fun m ρ _ => Cert.Kernel6Ideal.Gen.frame m ρ
theorem frame_reference : Cert.quiescent_Reference6Ideal (hReference6Ideal := Cert.Reference6Ideal.Gen.facts) := fun m ρ _ =>
  (θ_run Cert.Reference6Ideal.defs _ _).mono (fun r h => ⟨fun c => (h c).2.2.2.2.2.2.2.2, sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := by
  intro m g m' g' _ hm
  have hr : ∀ c : Dev Cert.Reference6Ideal.nD, Holds (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)) (dataOf m c) := fun c => by
    obtain ⟨e0, e1, e2⟩ := hm c
    exact ⟨fun i k => congrFun e0 _, fun k => congrFun e1 _, fun k e => congrFun e2 _⟩
  refine ⟨fun c => (dataOf m c).H, fun c => (dataOf m c).Q, fun c => (dataOf m c).slab 1024 (by decide), fun c => (dataOf m c).slab 1280 (by decide),
    fun c => (dataOf m c).cols 1536 (by decide), fun c => (dataOf m c).cols 2560 (by decide), fun c => (dataOf m c).cols 3584 (by decide),
    fun c => (dataOf m c).cols 4608 (by decide), ?_, ?_⟩
  · refine (θ_run Cert.Kernel6Ideal.defs _ _).mono (fun r h c => ?_) (Cert.Kernel6Ideal.Value.run_blocks (F := Ideal) m _)
    obtain ⟨h3, h4, h5, h6, h7, h8, h9, h10, ha⟩ := h c
    exact ⟨h3.trans (f3 m c), h4.trans (f4 m c), h5.trans (f5 m c), h6.trans (f6 m c), h7.trans (f7 m c), h8.trans (f8 m c),
      h9.trans (f9 m c), h10.trans (f10 m c), ha⟩
  · refine (θ_run Cert.Reference6Ideal.defs _ _).mono (fun r h c => ?_) (Cert.Reference6Ideal.Value.run (F := Ideal) m' _)
    obtain ⟨h3, h4, h5, h6, h7, h8, h9, h10, ha⟩ := h c
    exact ⟨h3.trans (oH (hr c)), h4.trans (oQ (hr c)), h5.trans (oK (hr c)), h6.trans (oV (hr c)), h7.trans (oC (hr c) 1536 _ _),
      h8.trans (oC (hr c) 2560 _ _), h9.trans (oC (hr c) 3584 _ _), h10.trans (oC (hr c) 4608 _ _), ha⟩

end Cert.Proof.Fwd
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite3
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Pre_finite10
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Pre_finite5
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Loops
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite16
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gate.Claims
public import proofs.«01_k».proof.Proof.Outproj.Claims
public import proofs.«01_k».proof.Proof.Attn.Claims
public import proofs.«01_k».proof.Proof.Attn4.Claims
public import proofs.«01_k».proof.Proof.Inproj.Claims
public import proofs.«01_k».proof.Proof.Fwd.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Pre_finite3.Gen.facts, Cert.Pre_finite10.Gen.facts, Cert.Pre_finite5.Gen.facts, Cert.Pre_finite16.Gen.facts,
    Gate.frame_kernel, Gate.frame_ideal, Gate.frame_ideal_pre, Gate.frame_reference, Gate.frame_reference_pre,
    Outproj.frame_kernel, Outproj.frame_ideal, Outproj.frame_ideal_pre, Outproj.frame_reference, Outproj.frame_reference_pre,
    Attn.frame_kernel, Attn.frame_ideal, Attn.frame_ideal_pre, Attn.frame_reference, Attn.frame_reference_pre,
    Attn4.frame_kernel, Attn4.frame_ideal, Attn4.frame_ideal_pre, Attn4.frame_reference, Attn4.frame_reference_pre,
    Inproj.frame_kernel, Inproj.frame_ideal, Inproj.frame_ideal_pre, Inproj.frame_reference, Inproj.frame_reference_pre,
    Fwd.frame_kernel, Fwd.frame_ideal, Fwd.frame_reference,
    trivial, Gate.algebraic, trivial, Outproj.algebraic, trivial, Attn.algebraic, trivial, Attn4.algebraic, trivial,
    Inproj.algebraic, trivial, Fwd.algebraic⟩

end Cert.Proof

end
